-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Stats (m : (ℓ : Loc Cert.Stats.nD Cert.Stats.τ Cert.Stats.sig) → Buf (Elt Bits) ℓ) : Prop :=
  True

def Pre_StatsIdeal (m : (ℓ : Loc Cert.StatsIdeal.nD Cert.StatsIdeal.τ Cert.StatsIdeal.sig) → Buf (Elt Ideal) ℓ) : Prop :=
  True

def Pre_StatsReferenceIdeal (m : (ℓ : Loc Cert.StatsReferenceIdeal.nD Cert.StatsReferenceIdeal.τ Cert.StatsReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Stats [hStats : Cert.Stats.Facts] : Prop :=
  ∀ (m : (ℓ : Loc Cert.Stats.nD Cert.Stats.τ Cert.Stats.sig) → Buf (Elt Bits) ℓ) (g : Dev Cert.Stats.nD → PrngReg), Pre_Stats m →
    θ_run (Cert.Stats.defs (F := Bits)) (onTc (τ := Cert.Stats.τ) (Cert.Stats.main (F := Bits))) ⟨m, fun _ => 0, g⟩ (fun r => (∀ c : Dev Cert.Stats.nD,
      r.2.mem ((c.tc : Thread Cert.Stats.nD Cert.Stats.τ).loc Cert.Stats.main_arg0) = m ((c.tc : Thread Cert.Stats.nD Cert.Stats.τ).loc Cert.Stats.main_arg0)
      ∧ r.2.mem ((c.tc : Thread Cert.Stats.nD Cert.Stats.τ).loc Cert.Stats.main_arg1) = m ((c.tc : Thread Cert.Stats.nD Cert.Stats.τ).loc Cert.Stats.main_arg1)
      ∧ r.2.mem ((c.tc : Thread Cert.Stats.nD Cert.Stats.τ).loc Cert.Stats.main_arg2) = m ((c.tc : Thread Cert.Stats.nD Cert.Stats.τ).loc Cert.Stats.main_arg2)
      ∧ r.2.mem ((c.tc : Thread Cert.Stats.nD Cert.Stats.τ).loc Cert.Stats.main_arg3) = m ((c.tc : Thread Cert.Stats.nD Cert.Stats.τ).loc Cert.Stats.main_arg3))
      ∧ r.2.sem = fun _ => 0)

def quiescent_StatsIdeal [hStatsIdeal : Cert.StatsIdeal.Facts] : Prop :=
  ∀ (m : (ℓ : Loc Cert.StatsIdeal.nD Cert.StatsIdeal.τ Cert.StatsIdeal.sig) → Buf (Elt Ideal) ℓ) (g : Dev Cert.StatsIdeal.nD → PrngReg), Pre_StatsIdeal m →
    θ_run (Cert.StatsIdeal.defs (F := Ideal)) (onTc (τ := Cert.StatsIdeal.τ) (Cert.StatsIdeal.main (F := Ideal))) ⟨m, fun _ => 0, g⟩ (fun r => (∀ c : Dev Cert.StatsIdeal.nD,
      r.2.mem ((c.tc : Thread Cert.StatsIdeal.nD Cert.StatsIdeal.τ).loc Cert.StatsIdeal.main_arg0) = m ((c.tc : Thread Cert.StatsIdeal.nD Cert.StatsIdeal.τ).loc Cert.StatsIdeal.main_arg0)
      ∧ r.2.mem ((c.tc : Thread Cert.StatsIdeal.nD Cert.StatsIdeal.τ).loc Cert.StatsIdeal.main_arg1) = m ((c.tc : Thread Cert.StatsIdeal.nD Cert.StatsIdeal.τ).loc Cert.StatsIdeal.main_arg1)
      ∧ r.2.mem ((c.tc : Thread Cert.StatsIdeal.nD Cert.StatsIdeal.τ).loc Cert.StatsIdeal.main_arg2) = m ((c.tc : Thread Cert.StatsIdeal.nD Cert.StatsIdeal.τ).loc Cert.StatsIdeal.main_arg2)
      ∧ r.2.mem ((c.tc : Thread Cert.StatsIdeal.nD Cert.StatsIdeal.τ).loc Cert.StatsIdeal.main_arg3) = m ((c.tc : Thread Cert.StatsIdeal.nD Cert.StatsIdeal.τ).loc Cert.StatsIdeal.main_arg3))
      ∧ r.2.sem = fun _ => 0)

def quiescent_StatsReferenceIdeal [hStatsReferenceIdeal : Cert.StatsReferenceIdeal.Facts] : Prop :=
  ∀ (m : (ℓ : Loc Cert.StatsReferenceIdeal.nD Cert.StatsReferenceIdeal.τ Cert.StatsReferenceIdeal.sig) → Buf (Elt Ideal) ℓ) (g : Dev Cert.StatsReferenceIdeal.nD → PrngReg), Pre_StatsReferenceIdeal m →
    θ_run (Cert.StatsReferenceIdeal.defs (F := Ideal)) (onTc (τ := Cert.StatsReferenceIdeal.τ) (Cert.StatsReferenceIdeal.main (F := Ideal))) ⟨m, fun _ => 0, g⟩ (fun r => (∀ c : Dev Cert.StatsReferenceIdeal.nD,
      r.2.mem ((c.tc : Thread Cert.StatsReferenceIdeal.nD Cert.StatsReferenceIdeal.τ).loc Cert.StatsReferenceIdeal.main_arg0) = m ((c.tc : Thread Cert.StatsReferenceIdeal.nD Cert.StatsReferenceIdeal.τ).loc Cert.StatsReferenceIdeal.main_arg0)
      ∧ r.2.mem ((c.tc : Thread Cert.StatsReferenceIdeal.nD Cert.StatsReferenceIdeal.τ).loc Cert.StatsReferenceIdeal.main_arg1) = m ((c.tc : Thread Cert.StatsReferenceIdeal.nD Cert.StatsReferenceIdeal.τ).loc Cert.StatsReferenceIdeal.main_arg1)
      ∧ r.2.mem ((c.tc : Thread Cert.StatsReferenceIdeal.nD Cert.StatsReferenceIdeal.τ).loc Cert.StatsReferenceIdeal.main_arg2) = m ((c.tc : Thread Cert.StatsReferenceIdeal.nD Cert.StatsReferenceIdeal.τ).loc Cert.StatsReferenceIdeal.main_arg2)
      ∧ r.2.mem ((c.tc : Thread Cert.StatsReferenceIdeal.nD Cert.StatsReferenceIdeal.τ).loc Cert.StatsReferenceIdeal.main_arg3) = m ((c.tc : Thread Cert.StatsReferenceIdeal.nD Cert.StatsReferenceIdeal.τ).loc Cert.StatsReferenceIdeal.main_arg3))
      ∧ r.2.sem = fun _ => 0)

def preserves_Kernel_KernelIdeal : Prop :=
  IdealRules.named_const.Statement Cert.KernelIdeal.κ "v_gain" .f32 0x3C83126F#32 ((2 / 125 : ℝ) : EReal)
  ∧ IdealRules.named_const.Statement Cert.KernelIdeal.κ "log_beta1" .f32 0xBDD7C745#32 ((Real.log (7549747 / 8388608) : ℝ) : EReal)
  ∧ IdealRules.named_const.Statement Cert.KernelIdeal.κ "log_beta2" .f32 0xBA8322CA#32 ((Real.log (16760439 / 16777216) : ℝ) : EReal)
  ∧ IdealRules.named_const.Statement Cert.KernelIdeal.κ "k2" .f32 0x3A83126F#32 ((1 / 1000 : ℝ) : EReal)
  ∧ IdealRules.named_const.Statement Cert.KernelIdeal.κ "eps" .f32 0x322BCC77#32 ((1 / 100000000 : ℝ) : EReal)
  ∧ IdealRules.named_const.Statement Cert.KernelIdeal.κ "decay" .f32 0x37FBA882#32 ((3 / 100000 : ℝ) : EReal)
  ∧ IdealRules.bf16_pair.Statement Cert.KernelIdeal.S64x128 Cert.KernelIdeal.S32x128
  ∧ IdealRules.named_const.Statement Cert.KernelIdeal.κ "inv70" .f32 0x3C6A0EA1#32 ((1 / 70 : ℝ) : EReal)
  ∧ IdealRules.bf16_pair.PackStatement Cert.KernelIdeal.S32x128

def algebraic_KernelIdeal_ReferenceIdeal_on_well_scaled [hKernelIdeal : Cert.KernelIdeal.Facts] [hReferenceIdeal : Cert.ReferenceIdeal.Facts] [hOn_well_scaled : Cert.On_well_scaled.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![2, 14336, 4096]⟩ : Shape).Idx, (Cert.On_well_scaled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 i = 1#1 → r.2.mem ((c.tc : Thread Cert.KernelIdeal.nD Cert.KernelIdeal.τ).loc Cert.KernelIdeal.main_v1_0) i = v0 c i)
          ∧ (∀ i : (⟨3, ![2, 14336, 2048]⟩ : Shape).Idx, (Cert.On_well_scaled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 i = 1#1 → r.2.mem ((c.tc : Thread Cert.KernelIdeal.nD Cert.KernelIdeal.τ).loc Cert.KernelIdeal.main_v1_1) i = v1 c i)
          ∧ (∀ i : (⟨3, ![2, 14336, 32]⟩ : Shape).Idx, (Cert.On_well_scaled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 i = 1#1 → r.2.mem ((c.tc : Thread Cert.KernelIdeal.nD Cert.KernelIdeal.τ).loc Cert.KernelIdeal.main_v1_2) i = v2 c i)
          ∧ (∀ i : (⟨3, ![2, 14336, 2048]⟩ : Shape).Idx, (Cert.On_well_scaled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2 i = 1#1 → r.2.mem ((c.tc : Thread Cert.KernelIdeal.nD Cert.KernelIdeal.τ).loc Cert.KernelIdeal.main_v1_3) i = v3 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![2, 14336, 4096]⟩ : Shape).Idx, (Cert.On_well_scaled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 i = 1#1 → r.2.mem ((c.tc : Thread Cert.ReferenceIdeal.nD Cert.ReferenceIdeal.τ).loc Cert.ReferenceIdeal.main_v74) i = v0 c i)
          ∧ (∀ i : (⟨3, ![2, 14336, 2048]⟩ : Shape).Idx, (Cert.On_well_scaled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 i = 1#1 → r.2.mem ((c.tc : Thread Cert.ReferenceIdeal.nD Cert.ReferenceIdeal.τ).loc Cert.ReferenceIdeal.main_v110) i = v1 c i)
          ∧ (∀ i : (⟨3, ![2, 14336, 32]⟩ : Shape).Idx, (Cert.On_well_scaled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 i = 1#1 → r.2.mem ((c.tc : Thread Cert.ReferenceIdeal.nD Cert.ReferenceIdeal.τ).loc Cert.ReferenceIdeal.main_v82) i = v2 c i)
          ∧ (∀ i : (⟨3, ![2, 14336, 2048]⟩ : Shape).Idx, (Cert.On_well_scaled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2 i = 1#1 → r.2.mem ((c.tc : Thread Cert.ReferenceIdeal.nD Cert.ReferenceIdeal.τ).loc Cert.ReferenceIdeal.main_v118) i = v3 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Stats_StatsIdeal : Prop :=
  IdealRules.bf16_pair.Statement Cert.StatsIdeal.S64x128 Cert.StatsIdeal.S32x128
  ∧ IdealRules.named_const.Statement Cert.StatsIdeal.κ "k2" .f32 0x3A83126F#32 ((1 / 1000 : ℝ) : EReal)

def algebraic_StatsIdeal_StatsReferenceIdeal_on_not_negative [hStatsIdeal : Cert.StatsIdeal.Facts] [hStatsReferenceIdeal : Cert.StatsReferenceIdeal.Facts] [hOn_not_negative : Cert.On_not_negative.Facts] : Prop :=
  ∀ (m : (ℓ : Loc Cert.StatsIdeal.nD Cert.StatsIdeal.τ Cert.StatsIdeal.sig) → Buf (Elt Ideal) ℓ) (g : Dev Cert.StatsIdeal.nD → PrngReg)
    (m' : (ℓ : Loc Cert.StatsReferenceIdeal.nD Cert.StatsReferenceIdeal.τ Cert.StatsReferenceIdeal.sig) → Buf (Elt Ideal) ℓ) (g' : Dev Cert.StatsReferenceIdeal.nD → PrngReg), Pre_StatsIdeal m →
    (∀ c : Dev Cert.StatsIdeal.nD,
      m' ((c.tc : Thread Cert.StatsReferenceIdeal.nD Cert.StatsReferenceIdeal.τ).loc Cert.StatsReferenceIdeal.main_arg0) = m ((c.tc : Thread Cert.StatsIdeal.nD Cert.StatsIdeal.τ).loc Cert.StatsIdeal.main_arg0)
      ∧ m' ((c.tc : Thread Cert.StatsReferenceIdeal.nD Cert.StatsReferenceIdeal.τ).loc Cert.StatsReferenceIdeal.main_arg1) = m ((c.tc : Thread Cert.StatsIdeal.nD Cert.StatsIdeal.τ).loc Cert.StatsIdeal.main_arg1)
      ∧ m' ((c.tc : Thread Cert.StatsReferenceIdeal.nD Cert.StatsReferenceIdeal.τ).loc Cert.StatsReferenceIdeal.main_arg2) = m ((c.tc : Thread Cert.StatsIdeal.nD Cert.StatsIdeal.τ).loc Cert.StatsIdeal.main_arg2)
      ∧ m' ((c.tc : Thread Cert.StatsReferenceIdeal.nD Cert.StatsReferenceIdeal.τ).loc Cert.StatsReferenceIdeal.main_arg3) = m ((c.tc : Thread Cert.StatsIdeal.nD Cert.StatsIdeal.τ).loc Cert.StatsIdeal.main_arg3)) →
    ∃ (v0 : (c : Dev Cert.StatsIdeal.nD) → Buf (Elt Ideal) ((c.tc : Thread Cert.StatsIdeal.nD Cert.StatsIdeal.τ).loc Cert.StatsIdeal.main_v0_0)) (v1 : (c : Dev Cert.StatsIdeal.nD) → Buf (Elt Ideal) ((c.tc : Thread Cert.StatsIdeal.nD Cert.StatsIdeal.τ).loc Cert.StatsIdeal.main_v0_1)),
      θ_run (Cert.StatsIdeal.defs (F := Ideal)) (onTc (τ := Cert.StatsIdeal.τ) (Cert.StatsIdeal.main (F := Ideal))) ⟨m, fun _ => 0, g⟩ (fun r => ∀ c : Dev Cert.StatsIdeal.nD,
          (∀ i : (⟨2, ![2, 14336]⟩ : Shape).Idx, (Cert.On_not_negative.fn (F := Ideal) (m ((c.tc : Thread Cert.StatsIdeal.nD Cert.StatsIdeal.τ).loc Cert.StatsIdeal.main_arg0)) (m ((c.tc : Thread Cert.StatsIdeal.nD Cert.StatsIdeal.τ).loc Cert.StatsIdeal.main_arg1)) (m ((c.tc : Thread Cert.StatsIdeal.nD Cert.StatsIdeal.τ).loc Cert.StatsIdeal.main_arg2)) (m ((c.tc : Thread Cert.StatsIdeal.nD Cert.StatsIdeal.τ).loc Cert.StatsIdeal.main_arg3))).1 i = 1#1 → r.2.mem ((c.tc : Thread Cert.StatsIdeal.nD Cert.StatsIdeal.τ).loc Cert.StatsIdeal.main_v0_0) i = v0 c i)
          ∧ (∀ i : (⟨2, ![2, 4096]⟩ : Shape).Idx, (Cert.On_not_negative.fn (F := Ideal) (m ((c.tc : Thread Cert.StatsIdeal.nD Cert.StatsIdeal.τ).loc Cert.StatsIdeal.main_arg0)) (m ((c.tc : Thread Cert.StatsIdeal.nD Cert.StatsIdeal.τ).loc Cert.StatsIdeal.main_arg1)) (m ((c.tc : Thread Cert.StatsIdeal.nD Cert.StatsIdeal.τ).loc Cert.StatsIdeal.main_arg2)) (m ((c.tc : Thread Cert.StatsIdeal.nD Cert.StatsIdeal.τ).loc Cert.StatsIdeal.main_arg3))).2 i = 1#1 → r.2.mem ((c.tc : Thread Cert.StatsIdeal.nD Cert.StatsIdeal.τ).loc Cert.StatsIdeal.main_v0_1) i = v1 c i)
          ∧ r.2.mem ((c.tc : Thread Cert.StatsIdeal.nD Cert.StatsIdeal.τ).loc Cert.StatsIdeal.main_arg0) = m ((c.tc : Thread Cert.StatsIdeal.nD Cert.StatsIdeal.τ).loc Cert.StatsIdeal.main_arg0)
          ∧ r.2.mem ((c.tc : Thread Cert.StatsIdeal.nD Cert.StatsIdeal.τ).loc Cert.StatsIdeal.main_arg1) = m ((c.tc : Thread Cert.StatsIdeal.nD Cert.StatsIdeal.τ).loc Cert.StatsIdeal.main_arg1)
          ∧ r.2.mem ((c.tc : Thread Cert.StatsIdeal.nD Cert.StatsIdeal.τ).loc Cert.StatsIdeal.main_arg2) = m ((c.tc : Thread Cert.StatsIdeal.nD Cert.StatsIdeal.τ).loc Cert.StatsIdeal.main_arg2)
          ∧ r.2.mem ((c.tc : Thread Cert.StatsIdeal.nD Cert.StatsIdeal.τ).loc Cert.StatsIdeal.main_arg3) = m ((c.tc : Thread Cert.StatsIdeal.nD Cert.StatsIdeal.τ).loc Cert.StatsIdeal.main_arg3))
      ∧ θ_run (Cert.StatsReferenceIdeal.defs (F := Ideal)) (onTc (τ := Cert.StatsReferenceIdeal.τ) (Cert.StatsReferenceIdeal.main (F := Ideal))) ⟨m', fun _ => 0, g'⟩ (fun r => ∀ c : Dev Cert.StatsReferenceIdeal.nD,
          (∀ i : (⟨2, ![2, 14336]⟩ : Shape).Idx, (Cert.On_not_negative.fn (F := Ideal) (m ((c.tc : Thread Cert.StatsIdeal.nD Cert.StatsIdeal.τ).loc Cert.StatsIdeal.main_arg0)) (m ((c.tc : Thread Cert.StatsIdeal.nD Cert.StatsIdeal.τ).loc Cert.StatsIdeal.main_arg1)) (m ((c.tc : Thread Cert.StatsIdeal.nD Cert.StatsIdeal.τ).loc Cert.StatsIdeal.main_arg2)) (m ((c.tc : Thread Cert.StatsIdeal.nD Cert.StatsIdeal.τ).loc Cert.StatsIdeal.main_arg3))).1 i = 1#1 → r.2.mem ((c.tc : Thread Cert.StatsReferenceIdeal.nD Cert.StatsReferenceIdeal.τ).loc Cert.StatsReferenceIdeal.main_v26) i = v0 c i)
          ∧ (∀ i : (⟨2, ![2, 4096]⟩ : Shape).Idx, (Cert.On_not_negative.fn (F := Ideal) (m ((c.tc : Thread Cert.StatsIdeal.nD Cert.StatsIdeal.τ).loc Cert.StatsIdeal.main_arg0)) (m ((c.tc : Thread Cert.StatsIdeal.nD Cert.StatsIdeal.τ).loc Cert.StatsIdeal.main_arg1)) (m ((c.tc : Thread Cert.StatsIdeal.nD Cert.StatsIdeal.τ).loc Cert.StatsIdeal.main_arg2)) (m ((c.tc : Thread Cert.StatsIdeal.nD Cert.StatsIdeal.τ).loc Cert.StatsIdeal.main_arg3))).2 i = 1#1 → r.2.mem ((c.tc : Thread Cert.StatsReferenceIdeal.nD Cert.StatsReferenceIdeal.τ).loc Cert.StatsReferenceIdeal.main_v27) i = v1 c i)
          ∧ r.2.mem ((c.tc : Thread Cert.StatsReferenceIdeal.nD Cert.StatsReferenceIdeal.τ).loc Cert.StatsReferenceIdeal.main_arg0) = m' ((c.tc : Thread Cert.StatsReferenceIdeal.nD Cert.StatsReferenceIdeal.τ).loc Cert.StatsReferenceIdeal.main_arg0)
          ∧ r.2.mem ((c.tc : Thread Cert.StatsReferenceIdeal.nD Cert.StatsReferenceIdeal.τ).loc Cert.StatsReferenceIdeal.main_arg1) = m' ((c.tc : Thread Cert.StatsReferenceIdeal.nD Cert.StatsReferenceIdeal.τ).loc Cert.StatsReferenceIdeal.main_arg1)
          ∧ r.2.mem ((c.tc : Thread Cert.StatsReferenceIdeal.nD Cert.StatsReferenceIdeal.τ).loc Cert.StatsReferenceIdeal.main_arg2) = m' ((c.tc : Thread Cert.StatsReferenceIdeal.nD Cert.StatsReferenceIdeal.τ).loc Cert.StatsReferenceIdeal.main_arg2)
          ∧ r.2.mem ((c.tc : Thread Cert.StatsReferenceIdeal.nD Cert.StatsReferenceIdeal.τ).loc Cert.StatsReferenceIdeal.main_arg3) = m' ((c.tc : Thread Cert.StatsReferenceIdeal.nD Cert.StatsReferenceIdeal.τ).loc Cert.StatsReferenceIdeal.main_arg3))

def Claim : Prop :=
  ∃ (hKernel : Cert.Kernel.Facts) (hKernelIdeal : Cert.KernelIdeal.Facts) (hReferenceIdeal : Cert.ReferenceIdeal.Facts) (hStats : Cert.Stats.Facts) (hStatsIdeal : Cert.StatsIdeal.Facts) (hStatsReferenceIdeal : Cert.StatsReferenceIdeal.Facts) (hOn_well_scaled : Cert.On_well_scaled.Facts) (hOn_not_negative : Cert.On_not_negative.Facts),
    quiescent_Kernel (hKernel := hKernel)
    ∧ quiescent_KernelIdeal (hKernelIdeal := hKernelIdeal)
    ∧ quiescent_ReferenceIdeal (hReferenceIdeal := hReferenceIdeal)
    ∧ quiescent_Stats (hStats := hStats)
    ∧ quiescent_StatsIdeal (hStatsIdeal := hStatsIdeal)
    ∧ quiescent_StatsReferenceIdeal (hStatsReferenceIdeal := hStatsReferenceIdeal)
    ∧ preserves_Kernel_KernelIdeal
    ∧ algebraic_KernelIdeal_ReferenceIdeal_on_well_scaled (hKernelIdeal := hKernelIdeal) (hReferenceIdeal := hReferenceIdeal) (hOn_well_scaled := hOn_well_scaled)
    ∧ preserves_Stats_StatsIdeal
    ∧ algebraic_StatsIdeal_StatsReferenceIdeal_on_not_negative (hStatsIdeal := hStatsIdeal) (hStatsReferenceIdeal := hStatsReferenceIdeal) (hOn_not_negative := hOn_not_negative)
-- ==== On_not_negative.lean ====
abbrev S2x14336 : Shape := ⟨2, ![2, 14336]⟩
abbrev S2x4096 : Shape := ⟨2, ![2, 4096]⟩
abbrev S2x14336x4096 : Shape := ⟨3, ![2, 14336, 4096]⟩
abbrev S2x14336x2048 : Shape := ⟨3, ![2, 14336, 2048]⟩
abbrev S_ : Shape := ⟨0, ![]⟩
abbrev S2x14336x1 : Shape := ⟨3, ![2, 14336, 1]⟩
abbrev S2x1x4096 : Shape := ⟨3, ![2, 1, 4096]⟩

class Facts : Prop where
  bitsLt_bf16_f32 : FTy.bits .bf16 < FTy.bits .f32
  natLt_8_32 : 8 < 32
  bcast_S_S2x14336x2048 : S_.BroadcastsInDim S2x14336x2048 (![] : Fin 0 → Fin S2x14336x2048.rank)
  concatenates_S2x14336x2048_S2x14336x2048_S2x14336x4096_d2 : Shape.Concatenates [S2x14336x2048, S2x14336x2048] S2x14336x4096 2
  bcast_S_S2x14336x4096 : S_.BroadcastsInDim S2x14336x4096 (![] : Fin 0 → Fin S2x14336x4096.rank)
  bcast_S2x14336_S2x14336x1_0_1 : S2x14336.BroadcastsInDim S2x14336x1 (![0, 1] : Fin 2 → Fin S2x14336x1.rank)
  bcast_S2x4096_S2x1x4096_0_2 : S2x4096.BroadcastsInDim S2x1x4096 (![0, 2] : Fin 2 → Fin S2x1x4096.rank)
  bcast_S2x14336x1_S2x14336x4096_0_1_2 : S2x14336x1.BroadcastsInDim S2x14336x4096 (![0, 1, 2] : Fin 3 → Fin S2x14336x4096.rank)
  bcast_S2x1x4096_S2x14336x4096_0_1_2 : S2x1x4096.BroadcastsInDim S2x14336x4096 (![0, 1, 2] : Fin 3 → Fin S2x14336x4096.rank)
  reducesTo_S2x14336x4096_S2x14336_d2 : S2x14336x4096.ReducesTo [2] S2x14336
  h_S_ : 0 < S_.numel
  reducesTo_S2x14336x4096_S2x4096_d1 : S2x14336x4096.ReducesTo [1] S2x4096
  bcast_S_S2x14336 : S_.BroadcastsInDim S2x14336 (![] : Fin 0 → Fin S2x14336.rank)
  bcast_S_S2x4096 : S_.BroadcastsInDim S2x4096 (![] : Fin 0 → Fin S2x4096.rank)

variable [Facts]

def fn_part1 {F : FTy → Type} [FloatOps F] (main_v0 : FVec F S2x14336x4096 .f32) (main_v1 : FVec F S_ .f32) (main_v12 : FVec F S2x14336x4096 .f32) (main_v17 : FVec F S2x14336x4096 .f32) : IVec S2x14336 1 × IVec S2x4096 1 :=
  let main_v18 : FVec F S2x14336x4096 .f32 := mulf main_v12 main_v17
  let main_v19 : FVec F S2x14336x4096 .f32 := broadcastInDim S2x14336x4096 ![] bcast_S_S2x14336x4096 main_v1
  let main_v20 : FVec F S2x14336x4096 .f32 := mulf main_v19 main_v18
  let main_cst_4 : FVec F S_ .f32 := constant S_ .f32 0x3F800000#32
  let main_cst_5 : FVec F S_ .f32 := constant S_ .f32 0x447A0000#32
  let main_v21 : FVec F S_ .f32 := Host.divf main_cst_4 main_cst_5
  let main_v22 : FVec F S2x14336x4096 .f32 := broadcastInDim S2x14336x4096 ![] bcast_S_S2x14336x4096 main_v21
  let main_v23 : FVec F S2x14336x4096 .f32 := mulf main_v22 main_v0
  let main_v24 : FVec F S2x14336x4096 .f32 := mulf main_v23 main_v0
  let main_v25 : FVec F S2x14336x4096 .f32 := addf main_v20 main_v24
  let main_cst_6 : FVec F S_ .f32 := constant S_ .f32 0xFF800000#32
  let main_v26 : FVec F S2x14336 .f32 := (fun x v => Host.reduce FloatOps.maximumf x v reducesTo_S2x14336x4096_S2x14336_d2 h_S_) main_v25 main_cst_6
  let main_cst_7 : FVec F S_ .f32 := constant S_ .f32 0xFF800000#32
  let main_v27 : FVec F S2x4096 .f32 := (fun x v => Host.reduce FloatOps.maximumf x v reducesTo_S2x14336x4096_S2x4096_d1 h_S_) main_v25 main_cst_7
  let main_cst_8 : FVec F S_ .f32 := constant S_ .f32 0x00000000#32
  let main_v28 : FVec F S2x14336 .f32 := broadcastInDim S2x14336 ![] bcast_S_S2x14336 main_cst_8
  let main_v29 : IVec S2x14336 1 := cmpf .oge main_v26 main_v28
  let main_cst_9 : FVec F S_ .f32 := constant S_ .f32 0x00000000#32
  let main_v30 : FVec F S2x4096 .f32 := broadcastInDim S2x4096 ![] bcast_S_S2x4096 main_cst_9
  let main_v31 : IVec S2x4096 1 := cmpf .oge main_v27 main_v30
  (main_v29, main_v31)

def fn {F : FTy → Type} [FloatOps F] (main_arg0 : FVec F S2x14336 .f32) (main_arg1 : FVec F S2x4096 .f32) (main_arg2 : FVec F S2x14336x4096 .bf16) (main_arg3 : IVec S2x14336x2048 8) : IVec S2x14336 1 × IVec S2x4096 1 :=
  let main_v0 : FVec F S2x14336x4096 .f32 := (extf .f32 · bitsLt_bf16_f32) main_arg2
  let main_cst : FVec F S_ .f32 := constant S_ .f32 0x4479C000#32
  let main_cst_0 : FVec F S_ .f32 := constant S_ .f32 0x447A0000#32
  let main_v1 : FVec F S_ .f32 := Host.divf main_cst main_cst_0
  let main_v2 : IVec S2x14336x2048 32 := (extui 32 · natLt_8_32) main_arg3
  let main_c : IVec S_ 32 := constantI S_ 32 15#32
  let main_v3 : IVec S2x14336x2048 32 := broadcastInDim S2x14336x2048 ![] bcast_S_S2x14336x2048 main_c
  let main_v4 : IVec S2x14336x2048 32 := andi main_v2 main_v3
  let main_c_1 : IVec S_ 32 := constantI S_ 32 4#32
  let main_v5 : IVec S2x14336x2048 32 := broadcastInDim S2x14336x2048 ![] bcast_S_S2x14336x2048 main_c_1
  let main_v6 : IVec S2x14336x2048 32 := Host.shrsi main_v2 main_v5
  let main_v7 : IVec S2x14336x4096 32 := (fun a b => concatenate S2x14336x4096 2 [⟨S2x14336x2048, a⟩, ⟨S2x14336x2048, b⟩] concatenates_S2x14336x2048_S2x14336x2048_S2x14336x4096_d2) main_v4 main_v6
  let main_v8 : FVec F S2x14336x4096 .f32 := sitofp .f32 main_v7
  let main_cst_2 : FVec F S_ .f32 := constant S_ .f32 0x3F800000#32
  let main_v9 : FVec F S2x14336x4096 .f32 := broadcastInDim S2x14336x4096 ![] bcast_S_S2x14336x4096 main_cst_2
  let main_v10 : FVec F S2x14336x4096 .f32 := addf main_v8 main_v9
  let main_cst_3 : FVec F S_ .f32 := constant S_ .f32 0x3D800000#32
  let main_v11 : FVec F S2x14336x4096 .f32 := broadcastInDim S2x14336x4096 ![] bcast_S_S2x14336x4096 main_cst_3
  let main_v12 : FVec F S2x14336x4096 .f32 := mulf main_v10 main_v11
  let main_v13 : FVec F S2x14336x1 .f32 := broadcastInDim S2x14336x1 ![0, 1] bcast_S2x14336_S2x14336x1_0_1 main_arg0
  let main_v14 : FVec F S2x1x4096 .f32 := broadcastInDim S2x1x4096 ![0, 2] bcast_S2x4096_S2x1x4096_0_2 main_arg1
  let main_v15 : FVec F S2x14336x4096 .f32 := broadcastInDim S2x14336x4096 ![0, 1, 2] bcast_S2x14336x1_S2x14336x4096_0_1_2 main_v13
  let main_v16 : FVec F S2x14336x4096 .f32 := broadcastInDim S2x14336x4096 ![0, 1, 2] bcast_S2x1x4096_S2x14336x4096_0_1_2 main_v14
  let main_v17 : FVec F S2x14336x4096 .f32 := minimumf main_v15 main_v16
  fn_part1 (F := F) main_v0 main_v1 main_v12 main_v17
-- ==== On_well_scaled.lean ====
abbrev S_ : Shape := ⟨0, ![]⟩
abbrev S2x14336 : Shape := ⟨2, ![2, 14336]⟩
abbrev S2x4096 : Shape := ⟨2, ![2, 4096]⟩
abbrev S2x14336x4096 : Shape := ⟨3, ![2, 14336, 4096]⟩
abbrev S2x14336x2048 : Shape := ⟨3, ![2, 14336, 2048]⟩
abbrev S2x14336x32 : Shape := ⟨3, ![2, 14336, 32]⟩
abbrev S2x14336x32x128 : Shape := ⟨4, ![2, 14336, 32, 128]⟩
abbrev S2x14336x32x1 : Shape := ⟨4, ![2, 14336, 32, 1]⟩
abbrev S2x14336x1 : Shape := ⟨3, ![2, 14336, 1]⟩
abbrev S2x1x4096 : Shape := ⟨3, ![2, 1, 4096]⟩
abbrev S2x14336x16 : Shape := ⟨3, ![2, 14336, 16]⟩
abbrev S2x14336x16x1 : Shape := ⟨4, ![2, 14336, 16, 1]⟩
abbrev S2x14336x16x128 : Shape := ⟨4, ![2, 14336, 16, 128]⟩

class Facts : Prop where
  bitsLt_bf16_f32 : FTy.bits .bf16 < FTy.bits .f32
  natLt_8_32 : 8 < 32
  bcast_S_S2x14336x2048 : S_.BroadcastsInDim S2x14336x2048 (![] : Fin 0 → Fin S2x14336x2048.rank)
  concatenates_S2x14336x2048_S2x14336x2048_S2x14336x4096_d2 : Shape.Concatenates [S2x14336x2048, S2x14336x2048] S2x14336x4096 2
  bcast_S_S2x14336x4096 : S_.BroadcastsInDim S2x14336x4096 (![] : Fin 0 → Fin S2x14336x4096.rank)
  natLt_1_32 : 1 < 32
  shapeCasts_S2x14336x4096_S2x14336x32x128 : S2x14336x4096.ShapeCasts S2x14336x32x128
  bcast_S2x14336x32_S2x14336x32x1_0_1_2 : S2x14336x32.BroadcastsInDim S2x14336x32x1 (![0, 1, 2] : Fin 3 → Fin S2x14336x32x1.rank)
  bcast_S2x14336x32x1_S2x14336x32x128_0_1_2_3 : S2x14336x32x1.BroadcastsInDim S2x14336x32x128 (![0, 1, 2, 3] : Fin 4 → Fin S2x14336x32x128.rank)
  shapeCasts_S2x14336x32x128_S2x14336x4096 : S2x14336x32x128.ShapeCasts S2x14336x4096
  bcast_S2x14336_S2x14336x1_0_1 : S2x14336.BroadcastsInDim S2x14336x1 (![0, 1] : Fin 2 → Fin S2x14336x1.rank)
  bcast_S2x4096_S2x1x4096_0_2 : S2x4096.BroadcastsInDim S2x1x4096 (![0, 2] : Fin 2 → Fin S2x1x4096.rank)
  bcast_S2x14336x1_S2x14336x4096_0_1_2 : S2x14336x1.BroadcastsInDim S2x14336x4096 (![0, 1, 2] : Fin 3 → Fin S2x14336x4096.rank)
  bcast_S2x1x4096_S2x14336x4096_0_1_2 : S2x1x4096.BroadcastsInDim S2x14336x4096 (![0, 1, 2] : Fin 3 → Fin S2x14336x4096.rank)
  reducesTo_S2x14336x32x128_S2x14336x32_d3 : S2x14336x32x128.ReducesTo [3] S2x14336x32
  h_S_ : 0 < S_.numel
  bcast_S_S2x14336x32 : S_.BroadcastsInDim S2x14336x32 (![] : Fin 0 → Fin S2x14336x32.rank)
  slices_S2x14336x32_S2x14336x16_0_0_0 : S2x14336x32.Slices ![0, 0, 0] S2x14336x16
  slices_S2x14336x32_S2x14336x16_0_0_16 : S2x14336x32.Slices ![0, 0, 16] S2x14336x16
  bcast_S2x14336x16_S2x14336x16x1_0_1_2 : S2x14336x16.BroadcastsInDim S2x14336x16x1 (![0, 1, 2] : Fin 3 → Fin S2x14336x16x1.rank)
  bcast_S2x14336x16x1_S2x14336x16x128_0_1_2_3 : S2x14336x16x1.BroadcastsInDim S2x14336x16x128 (![0, 1, 2, 3] : Fin 4 → Fin S2x14336x16x128.rank)
  shapeCasts_S2x14336x16x128_S2x14336x2048 : S2x14336x16x128.ShapeCasts S2x14336x2048
  slices_S2x14336x4096_S2x14336x2048_0_0_0 : S2x14336x4096.Slices ![0, 0, 0] S2x14336x2048
  slices_S2x14336x4096_S2x14336x2048_0_0_2048 : S2x14336x4096.Slices ![0, 0, 2048] S2x14336x2048

variable [Facts]

def fn_part3 {F : FTy → Type} [FloatOps F] (main_arg0 : IVec S_ 32) (main_v42 : FVec F S2x14336x4096 .f32) (main_v50 : IVec S2x14336x32 1) (main_v55 : FVec F S2x14336x4096 .f32) (main_v57 : IVec S2x14336x4096 1) : IVec S2x14336x4096 1 × IVec S2x14336x2048 1 × IVec S2x14336x32 1 × IVec S2x14336x2048 1 :=
  let main_cst_12 : FVec F S_ .f32 := constant S_ .f32 0x00800000#32
  let main_v58 : FVec F S2x14336x4096 .f32 := broadcastInDim S2x14336x4096 ![] bcast_S_S2x14336x4096 main_cst_12
  let main_v59 : IVec S2x14336x4096 1 := cmpf .oge main_v55 main_v58
  let main_v60 : IVec S2x14336x4096 1 := ori main_v57 main_v59
  let main_v61 : IVec S2x14336x16 1 := (extractStridedSlice S2x14336x16 ![0, 0, 0] · slices_S2x14336x32_S2x14336x16_0_0_0) main_v50
  let main_v62 : IVec S2x14336x16 1 := (extractStridedSlice S2x14336x16 ![0, 0, 16] · slices_S2x14336x32_S2x14336x16_0_0_16) main_v50
  let main_v63 : IVec S2x14336x16 1 := andi main_v61 main_v62
  let main_v64 : IVec S2x14336x16x1 1 := broadcastInDim S2x14336x16x1 ![0, 1, 2] bcast_S2x14336x16_S2x14336x16x1_0_1_2 main_v63
  let main_v65 : IVec S2x14336x16x128 1 := broadcastInDim S2x14336x16x128 ![0, 1, 2, 3] bcast_S2x14336x16x1_S2x14336x16x128_0_1_2_3 main_v64
  let main_v66 : IVec S2x14336x2048 1 := shapeCast S2x14336x2048 main_v65 shapeCasts_S2x14336x16x128_S2x14336x2048
  let main_c_13 : IVec S_ 32 := constantI S_ 32 1#32
  let main_v67 : IVec S_ 1 := cmpi .sge main_arg0 main_c_13
  let main_cst_14 : FVec F S_ .f32 := constant S_ .f32 0x00000000#32
  let main_v68 : FVec F S2x14336x4096 .f32 := broadcastInDim S2x14336x4096 ![] bcast_S_S2x14336x4096 main_cst_14
  let main_v69 : IVec S2x14336x4096 1 := cmpf .oge main_v42 main_v68
  let main_v70 : IVec S2x14336x4096 1 := broadcastInDim S2x14336x4096 ![] bcast_S_S2x14336x4096 main_v67
  let main_v71 : IVec S2x14336x4096 1 := andi main_v70 main_v69
  let main_c_15 : IVec S_ 1 := constantI S_ 1 1#1
  let main_v72 : IVec S2x14336x32 1 := broadcastInDim S2x14336x32 ![] bcast_S_S2x14336x32 main_c_15
  let main_v73 : IVec S2x14336x2048 1 := (extractStridedSlice S2x14336x2048 ![0, 0, 0] · slices_S2x14336x4096_S2x14336x2048_0_0_0) main_v60
  let main_v74 : IVec S2x14336x2048 1 := (extractStridedSlice S2x14336x2048 ![0, 0, 2048] · slices_S2x14336x4096_S2x14336x2048_0_0_2048) main_v60
  let main_v75 : IVec S2x14336x2048 1 := andi main_v73 main_v74
  (main_v71, main_v66, main_v72, main_v75)

def fn_part2 {F : FTy → Type} [FloatOps F] (main_arg0 : IVec S_ 32) (main_arg3 : FVec F S2x14336 .f32) (main_arg4 : FVec F S2x4096 .f32) (main_v0 : FVec F S2x14336x4096 .f32) (main_v35 : FVec F S2x14336x4096 .f32) (main_v38 : FVec F S2x14336x4096 .f32) : IVec S2x14336x4096 1 × IVec S2x14336x2048 1 × IVec S2x14336x32 1 × IVec S2x14336x2048 1 :=
  let main_cst_7 : FVec F S_ .f32 := constant S_ .f32 0x4479C000#32
  let main_v39 : FVec F S2x14336x4096 .f32 := broadcastInDim S2x14336x4096 ![] bcast_S_S2x14336x4096 main_cst_7
  let main_v40 : FVec F S2x14336x4096 .f32 := mulf main_v39 main_v35
  let main_v41 : FVec F S2x14336x4096 .f32 := mulf main_v0 main_v0
  let main_v42 : FVec F S2x14336x4096 .f32 := addf main_v40 main_v41
  let main_v43 : FVec F S2x14336x32x128 .f32 := shapeCast S2x14336x32x128 main_v38 shapeCasts_S2x14336x4096_S2x14336x32x128
  let main_v44 : FVec F S2x14336x32x128 .f32 := Host.absf main_v43
  let main_cst_8 : FVec F S_ .f32 := constant S_ .f32 0xFF800000#32
  let main_v45 : FVec F S2x14336x32 .f32 := (fun x v => Host.reduce FloatOps.maximumf x v reducesTo_S2x14336x32x128_S2x14336x32_d3 h_S_) main_v44 main_cst_8
  let main_cst_9 : FVec F S_ .f32 := constant S_ .f32 0x00000000#32
  let main_v46 : FVec F S2x14336x32 .f32 := broadcastInDim S2x14336x32 ![] bcast_S_S2x14336x32 main_cst_9
  let main_v47 : IVec S2x14336x32 1 := cmpf .oeq main_v45 main_v46
  let main_cst_10 : FVec F S_ .f32 := constant S_ .f32 0x01E00000#32
  let main_v48 : FVec F S2x14336x32 .f32 := broadcastInDim S2x14336x32 ![] bcast_S_S2x14336x32 main_cst_10
  let main_v49 : IVec S2x14336x32 1 := cmpf .oge main_v45 main_v48
  let main_v50 : IVec S2x14336x32 1 := ori main_v47 main_v49
  let main_v51 : FVec F S2x14336x1 .f32 := broadcastInDim S2x14336x1 ![0, 1] bcast_S2x14336_S2x14336x1_0_1 main_arg3
  let main_v52 : FVec F S2x1x4096 .f32 := broadcastInDim S2x1x4096 ![0, 2] bcast_S2x4096_S2x1x4096_0_2 main_arg4
  let main_v53 : FVec F S2x14336x4096 .f32 := broadcastInDim S2x14336x4096 ![0, 1, 2] bcast_S2x14336x1_S2x14336x4096_0_1_2 main_v51
  let main_v54 : FVec F S2x14336x4096 .f32 := broadcastInDim S2x14336x4096 ![0, 1, 2] bcast_S2x1x4096_S2x14336x4096_0_1_2 main_v52
  let main_v55 : FVec F S2x14336x4096 .f32 := minimumf main_v53 main_v54
  let main_cst_11 : FVec F S_ .f32 := constant S_ .f32 0x00000000#32
  let main_v56 : FVec F S2x14336x4096 .f32 := broadcastInDim S2x14336x4096 ![] bcast_S_S2x14336x4096 main_cst_11
  let main_v57 : IVec S2x14336x4096 1 := cmpf .oeq main_v42 main_v56
  fn_part3 (F := F) main_arg0 main_v42 main_v50 main_v55 main_v57

def fn_part1 {F : FTy → Type} [FloatOps F] (main_arg0 : IVec S_ 32) (main_arg1 : FVec F S2x14336 .f32) (main_arg2 : FVec F S2x4096 .f32) (main_arg3 : FVec F S2x14336 .f32) (main_arg4 : FVec F S2x4096 .f32) (main_v0 : FVec F S2x14336x4096 .f32) (main_v18 : FVec F S2x14336x4096 .f32) (main_v19 : IVec S2x14336x2048 32) : IVec S2x14336x4096 1 × IVec S2x14336x2048 1 × IVec S2x14336x32 1 × IVec S2x14336x2048 1 :=
  let main_c_3 : IVec S_ 32 := constantI S_ 32 15#32
  let main_v20 : IVec S2x14336x2048 32 := broadcastInDim S2x14336x2048 ![] bcast_S_S2x14336x2048 main_c_3
  let main_v21 : IVec S2x14336x2048 32 := andi main_v19 main_v20
  let main_c_4 : IVec S_ 32 := constantI S_ 32 4#32
  let main_v22 : IVec S2x14336x2048 32 := broadcastInDim S2x14336x2048 ![] bcast_S_S2x14336x2048 main_c_4
  let main_v23 : IVec S2x14336x2048 32 := Host.shrsi main_v19 main_v22
  let main_v24 : IVec S2x14336x4096 32 := (fun a b => concatenate S2x14336x4096 2 [⟨S2x14336x2048, a⟩, ⟨S2x14336x2048, b⟩] concatenates_S2x14336x2048_S2x14336x2048_S2x14336x4096_d2) main_v21 main_v23
  let main_v25 : FVec F S2x14336x4096 .f32 := sitofp .f32 main_v24
  let main_cst : FVec F S_ .f32 := constant S_ .f32 0x3F800000#32
  let main_v26 : FVec F S2x14336x4096 .f32 := broadcastInDim S2x14336x4096 ![] bcast_S_S2x14336x4096 main_cst
  let main_v27 : FVec F S2x14336x4096 .f32 := addf main_v25 main_v26
  let main_cst_5 : FVec F S_ .f32 := constant S_ .f32 0x3D800000#32
  let main_v28 : FVec F S2x14336x4096 .f32 := broadcastInDim S2x14336x4096 ![] bcast_S_S2x14336x4096 main_cst_5
  let main_v29 : FVec F S2x14336x4096 .f32 := mulf main_v27 main_v28
  let main_v30 : FVec F S2x14336x1 .f32 := broadcastInDim S2x14336x1 ![0, 1] bcast_S2x14336_S2x14336x1_0_1 main_arg1
  let main_v31 : FVec F S2x1x4096 .f32 := broadcastInDim S2x1x4096 ![0, 2] bcast_S2x4096_S2x1x4096_0_2 main_arg2
  let main_v32 : FVec F S2x14336x4096 .f32 := broadcastInDim S2x14336x4096 ![0, 1, 2] bcast_S2x14336x1_S2x14336x4096_0_1_2 main_v30
  let main_v33 : FVec F S2x14336x4096 .f32 := broadcastInDim S2x14336x4096 ![0, 1, 2] bcast_S2x1x4096_S2x14336x4096_0_1_2 main_v31
  let main_v34 : FVec F S2x14336x4096 .f32 := minimumf main_v32 main_v33
  let main_v35 : FVec F S2x14336x4096 .f32 := mulf main_v29 main_v34
  let main_cst_6 : FVec F S_ .f32 := constant S_ .f32 0x41100000#32
  let main_v36 : FVec F S2x14336x4096 .f32 := broadcastInDim S2x14336x4096 ![] bcast_S_S2x14336x4096 main_cst_6
  let main_v37 : FVec F S2x14336x4096 .f32 := mulf main_v36 main_v18
  let main_v38 : FVec F S2x14336x4096 .f32 := addf main_v37 main_v0
  fn_part2 (F := F) main_arg0 main_arg3 main_arg4 main_v0 main_v35 main_v38

def fn {F : FTy → Type} [FloatOps F] (main_arg0 : IVec S_ 32) (main_arg1 : FVec F S2x14336 .f32) (main_arg2 : FVec F S2x4096 .f32) (main_arg3 : FVec F S2x14336 .f32) (main_arg4 : FVec F S2x4096 .f32) (main_arg5 : FVec F S2x14336x4096 .bf16) (main_arg6 : FVec F S2x14336x4096 .bf16) (main_arg7 : IVec S2x14336x2048 8) (main_arg8 : FVec F S2x14336x32 .f32) (main_arg9 : IVec S2x14336x2048 8) : IVec S2x14336x4096 1 × IVec S2x14336x2048 1 × IVec S2x14336x32 1 × IVec S2x14336x2048 1 :=
  let main_v0 : FVec F S2x14336x4096 .f32 := (extf .f32 · bitsLt_bf16_f32) main_arg6
  let main_v1 : IVec S2x14336x2048 32 := (extui 32 · natLt_8_32) main_arg7
  let main_c : IVec S_ 32 := constantI S_ 32 15#32
  let main_v2 : IVec S2x14336x2048 32 := broadcastInDim S2x14336x2048 ![] bcast_S_S2x14336x2048 main_c
  let main_v3 : IVec S2x14336x2048 32 := andi main_v1 main_v2
  let main_c_0 : IVec S_ 32 := constantI S_ 32 4#32
  let main_v4 : IVec S2x14336x2048 32 := broadcastInDim S2x14336x2048 ![] bcast_S_S2x14336x2048 main_c_0
  let main_v5 : IVec S2x14336x2048 32 := Host.shrsi main_v1 main_v4
  let main_v6 : IVec S2x14336x4096 32 := (fun a b => concatenate S2x14336x4096 2 [⟨S2x14336x2048, a⟩, ⟨S2x14336x2048, b⟩] concatenates_S2x14336x2048_S2x14336x2048_S2x14336x4096_d2) main_v3 main_v5
  let main_c_1 : IVec S_ 32 := constantI S_ 32 8#32
  let main_v7 : IVec S2x14336x4096 32 := broadcastInDim S2x14336x4096 ![] bcast_S_S2x14336x4096 main_c_1
  let main_v8 : IVec S2x14336x4096 1 := cmpi .sge main_v6 main_v7
  let main_v9 : IVec S2x14336x4096 32 := (extui 32 · natLt_1_32) main_v8
  let main_c_2 : IVec S_ 32 := constantI S_ 32 16#32
  let main_v10 : IVec S2x14336x4096 32 := broadcastInDim S2x14336x4096 ![] bcast_S_S2x14336x4096 main_c_2
  let main_v11 : IVec S2x14336x4096 32 := muli main_v10 main_v9
  let main_v12 : IVec S2x14336x4096 32 := subi main_v6 main_v11
  let main_v13 : FVec F S2x14336x4096 .f32 := sitofp .f32 main_v12
  let main_v14 : FVec F S2x14336x32x128 .f32 := shapeCast S2x14336x32x128 main_v13 shapeCasts_S2x14336x4096_S2x14336x32x128
  let main_v15 : FVec F S2x14336x32x1 .f32 := broadcastInDim S2x14336x32x1 ![0, 1, 2] bcast_S2x14336x32_S2x14336x32x1_0_1_2 main_arg8
  let main_v16 : FVec F S2x14336x32x128 .f32 := broadcastInDim S2x14336x32x128 ![0, 1, 2, 3] bcast_S2x14336x32x1_S2x14336x32x128_0_1_2_3 main_v15
  let main_v17 : FVec F S2x14336x32x128 .f32 := mulf main_v14 main_v16
  let main_v18 : FVec F S2x14336x4096 .f32 := shapeCast S2x14336x4096 main_v17 shapeCasts_S2x14336x32x128_S2x14336x4096
  let main_v19 : IVec S2x14336x2048 32 := (extui 32 · natLt_8_32) main_arg9
  fn_part1 (F := F) main_arg0 main_arg1 main_arg2 main_arg3 main_arg4 main_v0 main_v18 main_v19
-- ==== Kernel.lean ====
abbrev S_ : Shape := ⟨0, ![]⟩
abbrev S2x14336 : Shape := ⟨2, ![2, 14336]⟩
abbrev S2x4096 : Shape := ⟨2, ![2, 4096]⟩
abbrev S2x14336x4096 : Shape := ⟨3, ![2, 14336, 4096]⟩
abbrev S2x14336x2048 : Shape := ⟨3, ![2, 14336, 2048]⟩
abbrev S2x14336x32 : Shape := ⟨3, ![2, 14336, 32]⟩
abbrev S1 : Shape := ⟨1, ![1]⟩
abbrev S1x256x4096 : Shape := ⟨3, ![1, 256, 4096]⟩
abbrev S1x256x2048 : Shape := ⟨3, ![1, 256, 2048]⟩
abbrev S1x256x32 : Shape := ⟨3, ![1, 256, 32]⟩
abbrev S8x4096 : Shape := ⟨2, ![8, 4096]⟩
abbrev S256x128 : Shape := ⟨2, ![256, 128]⟩
abbrev S1x4096 : Shape := ⟨2, ![1, 4096]⟩
abbrev S1x256 : Shape := ⟨2, ![1, 256]⟩
abbrev S1x128 : Shape := ⟨2, ![1, 128]⟩
abbrev S128x128 : Shape := ⟨2, ![128, 128]⟩
abbrev S8x128 : Shape := ⟨2, ![8, 128]⟩
abbrev S32x128 : Shape := ⟨2, ![32, 128]⟩
abbrev S4x8x128 : Shape := ⟨3, ![4, 8, 128]⟩
abbrev S1x32x32 : Shape := ⟨3, ![1, 32, 32]⟩
abbrev S32x32 : Shape := ⟨2, ![32, 32]⟩
abbrev S1x32x128 : Shape := ⟨3, ![1, 32, 128]⟩
abbrev S64x128 : Shape := ⟨2, ![64, 128]⟩
abbrev S32x1 : Shape := ⟨2, ![32, 1]⟩
abbrev S1x8x128 : Shape := ⟨3, ![1, 8, 128]⟩
abbrev S32 : Shape := ⟨1, ![32]⟩
abbrev S1x32x1 : Shape := ⟨3, ![1, 32, 1]⟩

abbrev nBuf : Space → Nat
  | .hbm => 15
  | .vmem => 26
  | .smem => 1
  | _ => 0

abbrev bufTy : (tb : Table) → Fin (tcTables nBuf tb) → BufTy
  | .hbm, ⟨0, _⟩ => ⟨S_, .i32⟩
  | .hbm, ⟨1, _⟩ => ⟨S2x14336, .f32⟩
  | .hbm, ⟨2, _⟩ => ⟨S2x4096, .f32⟩
  | .hbm, ⟨3, _⟩ => ⟨S2x14336, .f32⟩
  | .hbm, ⟨4, _⟩ => ⟨S2x4096, .f32⟩
  | .hbm, ⟨5, _⟩ => ⟨S2x14336x4096, .bf16⟩
  | .hbm, ⟨6, _⟩ => ⟨S2x14336x4096, .bf16⟩
  | .hbm, ⟨7, _⟩ => ⟨S2x14336x2048, .i8⟩
  | .hbm, ⟨8, _⟩ => ⟨S2x14336x32, .f32⟩
  | .hbm, ⟨9, _⟩ => ⟨S2x14336x2048, .i8⟩
  | .hbm, ⟨10, _⟩ => ⟨S1, .i32⟩
  | .hbm, ⟨11, _⟩ => ⟨S2x14336x4096, .f32⟩
  | .hbm, ⟨12, _⟩ => ⟨S2x14336x2048, .i8⟩
  | .hbm, ⟨13, _⟩ => ⟨S2x14336x32, .f32⟩
  | .hbm, ⟨14, _⟩ => ⟨S2x14336x2048, .i8⟩
  | .local _ .vmem, ⟨0, _⟩ => ⟨S2x14336, .f32⟩
  | .local _ .vmem, ⟨1, _⟩ => ⟨S2x4096, .f32⟩
  | .local _ .vmem, ⟨2, _⟩ => ⟨S2x14336, .f32⟩
  | .local _ .vmem, ⟨3, _⟩ => ⟨S2x4096, .f32⟩
  | .local _ .vmem, ⟨4, _⟩ => ⟨S1x256x4096, .bf16⟩
  | .local _ .vmem, ⟨5, _⟩ => ⟨S1x256x4096, .bf16⟩
  | .local _ .vmem, ⟨6, _⟩ => ⟨S1x256x4096, .bf16⟩
  | .local _ .vmem, ⟨7, _⟩ => ⟨S1x256x4096, .bf16⟩
  | .local _ .vmem, ⟨8, _⟩ => ⟨S1x256x2048, .i8⟩
  | .local _ .vmem, ⟨9, _⟩ => ⟨S1x256x2048, .i8⟩
  | .local _ .vmem, ⟨10, _⟩ => ⟨S1x256x32, .f32⟩
  | .local _ .vmem, ⟨11, _⟩ => ⟨S1x256x32, .f32⟩
  | .local _ .vmem, ⟨12, _⟩ => ⟨S1x256x2048, .i8⟩
  | .local _ .vmem, ⟨13, _⟩ => ⟨S1x256x2048, .i8⟩
  | .local _ .vmem, ⟨14, _⟩ => ⟨S1x256x4096, .f32⟩
  | .local _ .vmem, ⟨15, _⟩ => ⟨S1x256x4096, .f32⟩
  | .local _ .vmem, ⟨16, _⟩ => ⟨S1x256x2048, .i8⟩
  | .local _ .vmem, ⟨17, _⟩ => ⟨S1x256x2048, .i8⟩
  | .local _ .vmem, ⟨18, _⟩ => ⟨S1x256x32, .f32⟩
  | .local _ .vmem, ⟨19, _⟩ => ⟨S1x256x32, .f32⟩
  | .local _ .vmem, ⟨20, _⟩ => ⟨S1x256x2048, .i8⟩
  | .local _ .vmem, ⟨21, _⟩ => ⟨S1x256x2048, .i8⟩
  | .local _ .vmem, ⟨22, _⟩ => ⟨S8x4096, .f32⟩
  | .local _ .vmem, ⟨23, _⟩ => ⟨S8x4096, .f32⟩
  | .local _ .vmem, ⟨24, _⟩ => ⟨S256x128, .f32⟩
  | .local _ .vmem, ⟨25, _⟩ => ⟨S256x128, .f32⟩
  | .local _ .smem, ⟨0, _⟩ => ⟨S1, .i32⟩
  | _, _ => ⟨S_, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .smem, ⟨0, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1_0 : Ref sig .tc := ⟨.hbm, 11, rfl⟩
abbrev main_v1_1 : Ref sig .tc := ⟨.hbm, 12, rfl⟩
abbrev main_v1_2 : Ref sig .tc := ⟨.hbm, 13, rfl⟩
abbrev main_v1_3 : Ref sig .tc := ⟨.hbm, 14, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [BitOps F]

abbrev grid0 : Pipeline.Grid := ⟨2, ![2, 56], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_off1 (i : grid0.Coords) : Fin 2 → Nat :=
  let arg0 : BitVec 32 := BitVec.ofNat 32 (i 0).val
  let v65 : Index := Scalar.indexCast arg0
  let c0_16 : Index := 0#32
  ![v65.toNat, 0]
def k0_mult1 (i : grid0.Coords) : BitVec 32 :=
  let arg1 : BitVec 32 := BitVec.ofNat 32 (i 1).val
  let c256_i32 : BitVec 32 := 256#32
  let v3 : BitVec 32 := Scalar.muli arg1 c256_i32
  v3
def k0_off2 (i : grid0.Coords) : Fin 2 → Nat :=
  let arg0 : BitVec 32 := BitVec.ofNat 32 (i 0).val
  let v5 : Index := Scalar.indexCast arg0
  let arg1 : BitVec 32 := BitVec.ofNat 32 (i 1).val
  let c256_i32 : BitVec 32 := 256#32
  let v3 : BitVec 32 := Scalar.muli arg1 c256_i32
  let v4 : BitVec 32 := v3
  let v6 : Index := Scalar.indexCast v4
  ![v5.toNat, v6.toNat]
@[reducible] def k0_t1_loop : Scf.Loop 32 :=
  let c0_i32_14 : BitVec 32 := 0#32
  let c8_i32 : BitVec 32 := 8#32
  let v64 : BitVec 32 := Scalar.addi c0_i32_14 c8_i32
  let c1_i32 : BitVec 32 := 1#32
  ⟨c0_i32_14, v64, c1_i32⟩
def k0_mult2 (k0_t1 : Fin k0_t1_loop.trips) : BitVec 32 :=
  let c0_i32_14 : BitVec 32 := 0#32
  let c1_i32 : BitVec 32 := 1#32
  let arg20 : BitVec 32 := Scf.iv c0_i32_14 c1_i32 k0_t1
  let c32_i32 : BitVec 32 := 32#32
  let v65 : BitVec 32 := Scalar.muli arg20 c32_i32
  v65
def k0_off3 (k0_t1 : Fin k0_t1_loop.trips) : Fin 2 → Nat :=
  let c0_i32_14 : BitVec 32 := 0#32
  let c1_i32 : BitVec 32 := 1#32
  let arg20 : BitVec 32 := Scf.iv c0_i32_14 c1_i32 k0_t1
  let c32_i32 : BitVec 32 := 32#32
  let v65 : BitVec 32 := Scalar.muli arg20 c32_i32
  let v66 : BitVec 32 := v65
  let v67 : Index := Scalar.indexCast v66
  let c0_16 : Index := 0#32
  ![v67.toNat, 0]
def k0_off4 (k0_t1 : Fin k0_t1_loop.trips) : Fin 3 → Nat :=
  let c0_18 : Index := 0#32
  let c0_i32_14 : BitVec 32 := 0#32
  let c1_i32 : BitVec 32 := 1#32
  let arg20 : BitVec 32 := Scf.iv c0_i32_14 c1_i32 k0_t1
  let c32_i32 : BitVec 32 := 32#32
  let v65 : BitVec 32 := Scalar.muli arg20 c32_i32
  let v66 : BitVec 32 := v65
  let v73 : Index := Scalar.indexCast v66
  let c0_19 : Index := 0#32
  ![0, v73.toNat, 0]
def k0_off5 (k0_t1 : Fin k0_t1_loop.trips) : Fin 3 → Nat :=
  let c0_21 : Index := 0#32
  let c0_i32_14 : BitVec 32 := 0#32
  let c1_i32 : BitVec 32 := 1#32
  let arg20 : BitVec 32 := Scf.iv c0_i32_14 c1_i32 k0_t1
  let c32_i32 : BitVec 32 := 32#32
  let v65 : BitVec 32 := Scalar.muli arg20 c32_i32
  let v66 : BitVec 32 := v65
  let v78 : Index := Scalar.indexCast v66
  let c0_22 : Index := 0#32
  ![0, v78.toNat, 0]
def k0_off6 (k0_t1 : Fin k0_t1_loop.trips) : Fin 3 → Nat :=
  let c0_32 : Index := 0#32
  let c0_i32_14 : BitVec 32 := 0#32
  let c1_i32 : BitVec 32 := 1#32
  let arg20 : BitVec 32 := Scf.iv c0_i32_14 c1_i32 k0_t1
  let c32_i32 : BitVec 32 := 32#32
  let v65 : BitVec 32 := Scalar.muli arg20 c32_i32
  let v66 : BitVec 32 := v65
  let v126 : Index := Scalar.indexCast v66
  let c0_33 : Index := 0#32
  ![0, v126.toNat, 0]
def k0_off7 (k0_t1 : Fin k0_t1_loop.trips) : Fin 3 → Nat :=
  let c0_46 : Index := 0#32
  let c0_i32_14 : BitVec 32 := 0#32
  let c1_i32 : BitVec 32 := 1#32
  let arg20 : BitVec 32 := Scf.iv c0_i32_14 c1_i32 k0_t1
  let c32_i32 : BitVec 32 := 32#32
  let v65 : BitVec 32 := Scalar.muli arg20 c32_i32
  let v66 : BitVec 32 := v65
  let v168 : Index := Scalar.indexCast v66
  let c0_47 : Index := 0#32
  ![0, v168.toNat, 0]
def k0_off8 (k0_t1 : Fin k0_t1_loop.trips) : Fin 3 → Nat :=
  let c0_53 : Index := 0#32
  let c0_i32_14 : BitVec 32 := 0#32
  let c1_i32 : BitVec 32 := 1#32
  let arg20 : BitVec 32 := Scf.iv c0_i32_14 c1_i32 k0_t1
  let c32_i32 : BitVec 32 := 32#32
  let v65 : BitVec 32 := Scalar.muli arg20 c32_i32
  let v66 : BitVec 32 := v65
  let v188 : Index := Scalar.indexCast v66
  let c2048 : Index := 2048#32
  ![0, v188.toNat, 2048]
def k0_off9 (k0_t1 : Fin k0_t1_loop.trips) : Fin 3 → Nat :=
  let c0_66 : Index := 0#32
  let c0_i32_14 : BitVec 32 := 0#32
  let c1_i32 : BitVec 32 := 1#32
  let arg20 : BitVec 32 := Scf.iv c0_i32_14 c1_i32 k0_t1
  let c32_i32 : BitVec 32 := 32#32
  let v65 : BitVec 32 := Scalar.muli arg20 c32_i32
  let v66 : BitVec 32 := v65
  let v230 : Index := Scalar.indexCast v66
  let c16 : Index := 16#32
  ![0, v230.toNat, 16]
def k0_off10 (k0_t1 : Fin k0_t1_loop.trips) : Fin 3 → Nat :=
  let c0_84 : Index := 0#32
  let c0_i32_14 : BitVec 32 := 0#32
  let c1_i32 : BitVec 32 := 1#32
  let arg20 : BitVec 32 := Scf.iv c0_i32_14 c1_i32 k0_t1
  let c32_i32 : BitVec 32 := 32#32
  let v65 : BitVec 32 := Scalar.muli arg20 c32_i32
  let v66 : BitVec 32 := v65
  let v292 : Index := Scalar.indexCast v66
  let c128 : Index := 128#32
  ![0, v292.toNat, 128]
def k0_off11 (k0_t1 : Fin k0_t1_loop.trips) : Fin 3 → Nat :=
  let c0_101 : Index := 0#32
  let c0_i32_14 : BitVec 32 := 0#32
  let c1_i32 : BitVec 32 := 1#32
  let arg20 : BitVec 32 := Scf.iv c0_i32_14 c1_i32 k0_t1
  let c32_i32 : BitVec 32 := 32#32
  let v65 : BitVec 32 := Scalar.muli arg20 c32_i32
  let v66 : BitVec 32 := v65
  let v340 : Index := Scalar.indexCast v66
  let c128_102 : Index := 128#32
  ![0, v340.toNat, 128]
def k0_off12 (k0_t1 : Fin k0_t1_loop.trips) : Fin 3 → Nat :=
  let c0_115 : Index := 0#32
  let c0_i32_14 : BitVec 32 := 0#32
  let c1_i32 : BitVec 32 := 1#32
  let arg20 : BitVec 32 := Scf.iv c0_i32_14 c1_i32 k0_t1
  let c32_i32 : BitVec 32 := 32#32
  let v65 : BitVec 32 := Scalar.muli arg20 c32_i32
  let v66 : BitVec 32 := v65
  let v382 : Index := Scalar.indexCast v66
  let c1 : Index := 1#32
  ![0, v382.toNat, 1]
def k0_off13 (k0_t1 : Fin k0_t1_loop.trips) : Fin 3 → Nat :=
  let c0_121 : Index := 0#32
  let c0_i32_14 : BitVec 32 := 0#32
  let c1_i32 : BitVec 32 := 1#32
  let arg20 : BitVec 32 := Scf.iv c0_i32_14 c1_i32 k0_t1
  let c32_i32 : BitVec 32 := 32#32
  let v65 : BitVec 32 := Scalar.muli arg20 c32_i32
  let v66 : BitVec 32 := v65
  let v402 : Index := Scalar.indexCast v66
  let c2176 : Index := 2176#32
  ![0, v402.toNat, 2176]
def k0_off14 (k0_t1 : Fin k0_t1_loop.trips) : Fin 3 → Nat :=
  let c0_134 : Index := 0#32
  let c0_i32_14 : BitVec 32 := 0#32
  let c1_i32 : BitVec 32 := 1#32
  let arg20 : BitVec 32 := Scf.iv c0_i32_14 c1_i32 k0_t1
  let c32_i32 : BitVec 32 := 32#32
  let v65 : BitVec 32 := Scalar.muli arg20 c32_i32
  let v66 : BitVec 32 := v65
  let v444 : Index := Scalar.indexCast v66
  let c17 : Index := 17#32
  ![0, v444.toNat, 17]
def k0_off15 (k0_t1 : Fin k0_t1_loop.trips) : Fin 3 → Nat :=
  let c0_154 : Index := 0#32
  let c0_i32_14 : BitVec 32 := 0#32
  let c1_i32 : BitVec 32 := 1#32
  let arg20 : BitVec 32 := Scf.iv c0_i32_14 c1_i32 k0_t1
  let c32_i32 : BitVec 32 := 32#32
  let v65 : BitVec 32 := Scalar.muli arg20 c32_i32
  let v66 : BitVec 32 := v65
  let v506 : Index := Scalar.indexCast v66
  let c256 : Index := 256#32
  ![0, v506.toNat, 256]
def k0_off16 (k0_t1 : Fin k0_t1_loop.trips) : Fin 3 → Nat :=
  let c0_171 : Index := 0#32
  let c0_i32_14 : BitVec 32 := 0#32
  let c1_i32 : BitVec 32 := 1#32
  let arg20 : BitVec 32 := Scf.iv c0_i32_14 c1_i32 k0_t1
  let c32_i32 : BitVec 32 := 32#32
  let v65 : BitVec 32 := Scalar.muli arg20 c32_i32
  let v66 : BitVec 32 := v65
  let v554 : Index := Scalar.indexCast v66
  let c256_172 : Index := 256#32
  ![0, v554.toNat, 256]
def k0_off17 (k0_t1 : Fin k0_t1_loop.trips) : Fin 3 → Nat :=
  let c0_185 : Index := 0#32
  let c0_i32_14 : BitVec 32 := 0#32
  let c1_i32 : BitVec 32 := 1#32
  let arg20 : BitVec 32 := Scf.iv c0_i32_14 c1_i32 k0_t1
  let c32_i32 : BitVec 32 := 32#32
  let v65 : BitVec 32 := Scalar.muli arg20 c32_i32
  let v66 : BitVec 32 := v65
  let v596 : Index := Scalar.indexCast v66
  let c2 : Index := 2#32
  ![0, v596.toNat, 2]
def k0_off18 (k0_t1 : Fin k0_t1_loop.trips) : Fin 3 → Nat :=
  let c0_191 : Index := 0#32
  let c0_i32_14 : BitVec 32 := 0#32
  let c1_i32 : BitVec 32 := 1#32
  let arg20 : BitVec 32 := Scf.iv c0_i32_14 c1_i32 k0_t1
  let c32_i32 : BitVec 32 := 32#32
  let v65 : BitVec 32 := Scalar.muli arg20 c32_i32
  let v66 : BitVec 32 := v65
  let v616 : Index := Scalar.indexCast v66
  let c2304 : Index := 2304#32
  ![0, v616.toNat, 2304]
def k0_off19 (k0_t1 : Fin k0_t1_loop.trips) : Fin 3 → Nat :=
  let c0_204 : Index := 0#32
  let c0_i32_14 : BitVec 32 := 0#32
  let c1_i32 : BitVec 32 := 1#32
  let arg20 : BitVec 32 := Scf.iv c0_i32_14 c1_i32 k0_t1
  let c32_i32 : BitVec 32 := 32#32
  let v65 : BitVec 32 := Scalar.muli arg20 c32_i32
  let v66 : BitVec 32 := v65
  let v658 : Index := Scalar.indexCast v66
  let c18 : Index := 18#32
  ![0, v658.toNat, 18]
def k0_off20 (k0_t1 : Fin k0_t1_loop.trips) : Fin 3 → Nat :=
  let c0_224 : Index := 0#32
  let c0_i32_14 : BitVec 32 := 0#32
  let c1_i32 : BitVec 32 := 1#32
  let arg20 : BitVec 32 := Scf.iv c0_i32_14 c1_i32 k0_t1
  let c32_i32 : BitVec 32 := 32#32
  let v65 : BitVec 32 := Scalar.muli arg20 c32_i32
  let v66 : BitVec 32 := v65
  let v720 : Index := Scalar.indexCast v66
  let c384 : Index := 384#32
  ![0, v720.toNat, 384]
def k0_off21 (k0_t1 : Fin k0_t1_loop.trips) : Fin 3 → Nat :=
  let c0_241 : Index := 0#32
  let c0_i32_14 : BitVec 32 := 0#32
  let c1_i32 : BitVec 32 := 1#32
  let arg20 : BitVec 32 := Scf.iv c0_i32_14 c1_i32 k0_t1
  let c32_i32 : BitVec 32 := 32#32
  let v65 : BitVec 32 := Scalar.muli arg20 c32_i32
  let v66 : BitVec 32 := v65
  let v768 : Index := Scalar.indexCast v66
  let c384_242 : Index := 384#32
  ![0, v768.toNat, 384]
def k0_off22 (k0_t1 : Fin k0_t1_loop.trips) : Fin 3 → Nat :=
  let c0_255 : Index := 0#32
  let c0_i32_14 : BitVec 32 := 0#32
  let c1_i32 : BitVec 32 := 1#32
  let arg20 : BitVec 32 := Scf.iv c0_i32_14 c1_i32 k0_t1
  let c32_i32 : BitVec 32 := 32#32
  let v65 : BitVec 32 := Scalar.muli arg20 c32_i32
  let v66 : BitVec 32 := v65
  let v810 : Index := Scalar.indexCast v66
  let c3 : Index := 3#32
  ![0, v810.toNat, 3]
def k0_off23 (k0_t1 : Fin k0_t1_loop.trips) : Fin 3 → Nat :=
  let c0_261 : Index := 0#32
  let c0_i32_14 : BitVec 32 := 0#32
  let c1_i32 : BitVec 32 := 1#32
  let arg20 : BitVec 32 := Scf.iv c0_i32_14 c1_i32 k0_t1
  let c32_i32 : BitVec 32 := 32#32
  let v65 : BitVec 32 := Scalar.muli arg20 c32_i32
  let v66 : BitVec 32 := v65
  let v830 : Index := Scalar.indexCast v66
  let c2432 : Index := 2432#32
  ![0, v830.toNat, 2432]
def k0_off24 (k0_t1 : Fin k0_t1_loop.trips) : Fin 3 → Nat :=
  let c0_274 : Index := 0#32
  let c0_i32_14 : BitVec 32 := 0#32
  let c1_i32 : BitVec 32 := 1#32
  let arg20 : BitVec 32 := Scf.iv c0_i32_14 c1_i32 k0_t1
  let c32_i32 : BitVec 32 := 32#32
  let v65 : BitVec 32 := Scalar.muli arg20 c32_i32
  let v66 : BitVec 32 := v65
  let v872 : Index := Scalar.indexCast v66
  let c19 : Index := 19#32
  ![0, v872.toNat, 19]
def k0_off25 (k0_t1 : Fin k0_t1_loop.trips) : Fin 3 → Nat :=
  let c0_294 : Index := 0#32
  let c0_i32_14 : BitVec 32 := 0#32
  let c1_i32 : BitVec 32 := 1#32
  let arg20 : BitVec 32 := Scf.iv c0_i32_14 c1_i32 k0_t1
  let c32_i32 : BitVec 32 := 32#32
  let v65 : BitVec 32 := Scalar.muli arg20 c32_i32
  let v66 : BitVec 32 := v65
  let v934 : Index := Scalar.indexCast v66
  let c512 : Index := 512#32
  ![0, v934.toNat, 512]
def k0_off26 (k0_t1 : Fin k0_t1_loop.trips) : Fin 3 → Nat :=
  let c0_311 : Index := 0#32
  let c0_i32_14 : BitVec 32 := 0#32
  let c1_i32 : BitVec 32 := 1#32
  let arg20 : BitVec 32 := Scf.iv c0_i32_14 c1_i32 k0_t1
  let c32_i32 : BitVec 32 := 32#32
  let v65 : BitVec 32 := Scalar.muli arg20 c32_i32
  let v66 : BitVec 32 := v65
  let v982 : Index := Scalar.indexCast v66
  let c512_312 : Index := 512#32
  ![0, v982.toNat, 512]
def k0_off27 (k0_t1 : Fin k0_t1_loop.trips) : Fin 3 → Nat :=
  let c0_325 : Index := 0#32
  let c0_i32_14 : BitVec 32 := 0#32
  let c1_i32 : BitVec 32 := 1#32
  let arg20 : BitVec 32 := Scf.iv c0_i32_14 c1_i32 k0_t1
  let c32_i32 : BitVec 32 := 32#32
  let v65 : BitVec 32 := Scalar.muli arg20 c32_i32
  let v66 : BitVec 32 := v65
  let v1024 : Index := Scalar.indexCast v66
  let c4 : Index := 4#32
  ![0, v1024.toNat, 4]
def k0_off28 (k0_t1 : Fin k0_t1_loop.trips) : Fin 3 → Nat :=
  let c0_331 : Index := 0#32
  let c0_i32_14 : BitVec 32 := 0#32
  let c1_i32 : BitVec 32 := 1#32
  let arg20 : BitVec 32 := Scf.iv c0_i32_14 c1_i32 k0_t1
  let c32_i32 : BitVec 32 := 32#32
  let v65 : BitVec 32 := Scalar.muli arg20 c32_i32
  let v66 : BitVec 32 := v65
  let v1044 : Index := Scalar.indexCast v66
  let c2560 : Index := 2560#32
  ![0, v1044.toNat, 2560]
def k0_off29 (k0_t1 : Fin k0_t1_loop.trips) : Fin 3 → Nat :=
  let c0_344 : Index := 0#32
  let c0_i32_14 : BitVec 32 := 0#32
  let c1_i32 : BitVec 32 := 1#32
  let arg20 : BitVec 32 := Scf.iv c0_i32_14 c1_i32 k0_t1
  let c32_i32 : BitVec 32 := 32#32
  let v65 : BitVec 32 := Scalar.muli arg20 c32_i32
  let v66 : BitVec 32 := v65
  let v1086 : Index := Scalar.indexCast v66
  let c20 : Index := 20#32
  ![0, v1086.toNat, 20]
def k0_off30 (k0_t1 : Fin k0_t1_loop.trips) : Fin 3 → Nat :=
  let c0_364 : Index := 0#32
  let c0_i32_14 : BitVec 32 := 0#32
  let c1_i32 : BitVec 32 := 1#32
  let arg20 : BitVec 32 := Scf.iv c0_i32_14 c1_i32 k0_t1
  let c32_i32 : BitVec 32 := 32#32
  let v65 : BitVec 32 := Scalar.muli arg20 c32_i32
  let v66 : BitVec 32 := v65
  let v1148 : Index := Scalar.indexCast v66
  let c640 : Index := 640#32
  ![0, v1148.toNat, 640]
def k0_off31 (k0_t1 : Fin k0_t1_loop.trips) : Fin 3 → Nat :=
  let c0_381 : Index := 0#32
  let c0_i32_14 : BitVec 32 := 0#32
  let c1_i32 : BitVec 32 := 1#32
  let arg20 : BitVec 32 := Scf.iv c0_i32_14 c1_i32 k0_t1
  let c32_i32 : BitVec 32 := 32#32
  let v65 : BitVec 32 := Scalar.muli arg20 c32_i32
  let v66 : BitVec 32 := v65
  let v1196 : Index := Scalar.indexCast v66
  let c640_382 : Index := 640#32
  ![0, v1196.toNat, 640]
def k0_off32 (k0_t1 : Fin k0_t1_loop.trips) : Fin 3 → Nat :=
  let c0_395 : Index := 0#32
  let c0_i32_14 : BitVec 32 := 0#32
  let c1_i32 : BitVec 32 := 1#32
  let arg20 : BitVec 32 := Scf.iv c0_i32_14 c1_i32 k0_t1
  let c32_i32 : BitVec 32 := 32#32
  let v65 : BitVec 32 := Scalar.muli arg20 c32_i32
  let v66 : BitVec 32 := v65
  let v1238 : Index := Scalar.indexCast v66
  let c5 : Index := 5#32
  ![0, v1238.toNat, 5]
def k0_off33 (k0_t1 : Fin k0_t1_loop.trips) : Fin 3 → Nat :=
  let c0_401 : Index := 0#32
  let c0_i32_14 : BitVec 32 := 0#32
  let c1_i32 : BitVec 32 := 1#32
  let arg20 : BitVec 32 := Scf.iv c0_i32_14 c1_i32 k0_t1
  let c32_i32 : BitVec 32 := 32#32
  let v65 : BitVec 32 := Scalar.muli arg20 c32_i32
  let v66 : BitVec 32 := v65
  let v1258 : Index := Scalar.indexCast v66
  let c2688 : Index := 2688#32
  ![0, v1258.toNat, 2688]
def k0_off34 (k0_t1 : Fin k0_t1_loop.trips) : Fin 3 → Nat :=
  let c0_414 : Index := 0#32
  let c0_i32_14 : BitVec 32 := 0#32
  let c1_i32 : BitVec 32 := 1#32
  let arg20 : BitVec 32 := Scf.iv c0_i32_14 c1_i32 k0_t1
  let c32_i32 : BitVec 32 := 32#32
  let v65 : BitVec 32 := Scalar.muli arg20 c32_i32
  let v66 : BitVec 32 := v65
  let v1300 : Index := Scalar.indexCast v66
  let c21 : Index := 21#32
  ![0, v1300.toNat, 21]
def k0_off35 (k0_t1 : Fin k0_t1_loop.trips) : Fin 3 → Nat :=
  let c0_434 : Index := 0#32
  let c0_i32_14 : BitVec 32 := 0#32
  let c1_i32 : BitVec 32 := 1#32
  let arg20 : BitVec 32 := Scf.iv c0_i32_14 c1_i32 k0_t1
  let c32_i32 : BitVec 32 := 32#32
  let v65 : BitVec 32 := Scalar.muli arg20 c32_i32
  let v66 : BitVec 32 := v65
  let v1362 : Index := Scalar.indexCast v66
  let c768 : Index := 768#32
  ![0, v1362.toNat, 768]
def k0_off36 (k0_t1 : Fin k0_t1_loop.trips) : Fin 3 → Nat :=
  let c0_451 : Index := 0#32
  let c0_i32_14 : BitVec 32 := 0#32
  let c1_i32 : BitVec 32 := 1#32
  let arg20 : BitVec 32 := Scf.iv c0_i32_14 c1_i32 k0_t1
  let c32_i32 : BitVec 32 := 32#32
  let v65 : BitVec 32 := Scalar.muli arg20 c32_i32
  let v66 : BitVec 32 := v65
  let v1410 : Index := Scalar.indexCast v66
  let c768_452 : Index := 768#32
  ![0, v1410.toNat, 768]
def k0_off37 (k0_t1 : Fin k0_t1_loop.trips) : Fin 3 → Nat :=
  let c0_465 : Index := 0#32
  let c0_i32_14 : BitVec 32 := 0#32
  let c1_i32 : BitVec 32 := 1#32
  let arg20 : BitVec 32 := Scf.iv c0_i32_14 c1_i32 k0_t1
  let c32_i32 : BitVec 32 := 32#32
  let v65 : BitVec 32 := Scalar.muli arg20 c32_i32
  let v66 : BitVec 32 := v65
  let v1452 : Index := Scalar.indexCast v66
  let c6 : Index := 6#32
  ![0, v1452.toNat, 6]
def k0_off38 (k0_t1 : Fin k0_t1_loop.trips) : Fin 3 → Nat :=
  let c0_471 : Index := 0#32
  let c0_i32_14 : BitVec 32 := 0#32
  let c1_i32 : BitVec 32 := 1#32
  let arg20 : BitVec 32 := Scf.iv c0_i32_14 c1_i32 k0_t1
  let c32_i32 : BitVec 32 := 32#32
  let v65 : BitVec 32 := Scalar.muli arg20 c32_i32
  let v66 : BitVec 32 := v65
  let v1472 : Index := Scalar.indexCast v66
  let c2816 : Index := 2816#32
  ![0, v1472.toNat, 2816]
def k0_off39 (k0_t1 : Fin k0_t1_loop.trips) : Fin 3 → Nat :=
  let c0_484 : Index := 0#32
  let c0_i32_14 : BitVec 32 := 0#32
  let c1_i32 : BitVec 32 := 1#32
  let arg20 : BitVec 32 := Scf.iv c0_i32_14 c1_i32 k0_t1
  let c32_i32 : BitVec 32 := 32#32
  let v65 : BitVec 32 := Scalar.muli arg20 c32_i32
  let v66 : BitVec 32 := v65
  let v1514 : Index := Scalar.indexCast v66
  let c22 : Index := 22#32
  ![0, v1514.toNat, 22]
def k0_off40 (k0_t1 : Fin k0_t1_loop.trips) : Fin 3 → Nat :=
  let c0_504 : Index := 0#32
  let c0_i32_14 : BitVec 32 := 0#32
  let c1_i32 : BitVec 32 := 1#32
  let arg20 : BitVec 32 := Scf.iv c0_i32_14 c1_i32 k0_t1
  let c32_i32 : BitVec 32 := 32#32
  let v65 : BitVec 32 := Scalar.muli arg20 c32_i32
  let v66 : BitVec 32 := v65
  let v1576 : Index := Scalar.indexCast v66
  let c896 : Index := 896#32
  ![0, v1576.toNat, 896]
def k0_off41 (k0_t1 : Fin k0_t1_loop.trips) : Fin 3 → Nat :=
  let c0_521 : Index := 0#32
  let c0_i32_14 : BitVec 32 := 0#32
  let c1_i32 : BitVec 32 := 1#32
  let arg20 : BitVec 32 := Scf.iv c0_i32_14 c1_i32 k0_t1
  let c32_i32 : BitVec 32 := 32#32
  let v65 : BitVec 32 := Scalar.muli arg20 c32_i32
  let v66 : BitVec 32 := v65
  let v1624 : Index := Scalar.indexCast v66
  let c896_522 : Index := 896#32
  ![0, v1624.toNat, 896]
def k0_off42 (k0_t1 : Fin k0_t1_loop.trips) : Fin 3 → Nat :=
  let c0_535 : Index := 0#32
  let c0_i32_14 : BitVec 32 := 0#32
  let c1_i32 : BitVec 32 := 1#32
  let arg20 : BitVec 32 := Scf.iv c0_i32_14 c1_i32 k0_t1
  let c32_i32 : BitVec 32 := 32#32
  let v65 : BitVec 32 := Scalar.muli arg20 c32_i32
  let v66 : BitVec 32 := v65
  let v1666 : Index := Scalar.indexCast v66
  let c7 : Index := 7#32
  ![0, v1666.toNat, 7]
def k0_off43 (k0_t1 : Fin k0_t1_loop.trips) : Fin 3 → Nat :=
  let c0_541 : Index := 0#32
  let c0_i32_14 : BitVec 32 := 0#32
  let c1_i32 : BitVec 32 := 1#32
  let arg20 : BitVec 32 := Scf.iv c0_i32_14 c1_i32 k0_t1
  let c32_i32 : BitVec 32 := 32#32
  let v65 : BitVec 32 := Scalar.muli arg20 c32_i32
  let v66 : BitVec 32 := v65
  let v1686 : Index := Scalar.indexCast v66
  let c2944 : Index := 2944#32
  ![0, v1686.toNat, 2944]
def k0_off44 (k0_t1 : Fin k0_t1_loop.trips) : Fin 3 → Nat :=
  let c0_554 : Index := 0#32
  let c0_i32_14 : BitVec 32 := 0#32
  let c1_i32 : BitVec 32 := 1#32
  let arg20 : BitVec 32 := Scf.iv c0_i32_14 c1_i32 k0_t1
  let c32_i32 : BitVec 32 := 32#32
  let v65 : BitVec 32 := Scalar.muli arg20 c32_i32
  let v66 : BitVec 32 := v65
  let v1728 : Index := Scalar.indexCast v66
  let c23 : Index := 23#32
  ![0, v1728.toNat, 23]
def k0_off45 (k0_t1 : Fin k0_t1_loop.trips) : Fin 3 → Nat :=
  let c0_574 : Index := 0#32
  let c0_i32_14 : BitVec 32 := 0#32
  let c1_i32 : BitVec 32 := 1#32
  let arg20 : BitVec 32 := Scf.iv c0_i32_14 c1_i32 k0_t1
  let c32_i32 : BitVec 32 := 32#32
  let v65 : BitVec 32 := Scalar.muli arg20 c32_i32
  let v66 : BitVec 32 := v65
  let v1790 : Index := Scalar.indexCast v66
  let c1024 : Index := 1024#32
  ![0, v1790.toNat, 1024]
def k0_off46 (k0_t1 : Fin k0_t1_loop.trips) : Fin 3 → Nat :=
  let c0_591 : Index := 0#32
  let c0_i32_14 : BitVec 32 := 0#32
  let c1_i32 : BitVec 32 := 1#32
  let arg20 : BitVec 32 := Scf.iv c0_i32_14 c1_i32 k0_t1
  let c32_i32 : BitVec 32 := 32#32
  let v65 : BitVec 32 := Scalar.muli arg20 c32_i32
  let v66 : BitVec 32 := v65
  let v1838 : Index := Scalar.indexCast v66
  let c1024_592 : Index := 1024#32
  ![0, v1838.toNat, 1024]
def k0_off47 (k0_t1 : Fin k0_t1_loop.trips) : Fin 3 → Nat :=
  let c0_605 : Index := 0#32
  let c0_i32_14 : BitVec 32 := 0#32
  let c1_i32 : BitVec 32 := 1#32
  let arg20 : BitVec 32 := Scf.iv c0_i32_14 c1_i32 k0_t1
  let c32_i32 : BitVec 32 := 32#32
  let v65 : BitVec 32 := Scalar.muli arg20 c32_i32
  let v66 : BitVec 32 := v65
  let v1880 : Index := Scalar.indexCast v66
  let c8 : Index := 8#32
  ![0, v1880.toNat, 8]
def k0_off48 (k0_t1 : Fin k0_t1_loop.trips) : Fin 3 → Nat :=
  let c0_611 : Index := 0#32
  let c0_i32_14 : BitVec 32 := 0#32
  let c1_i32 : BitVec 32 := 1#32
  let arg20 : BitVec 32 := Scf.iv c0_i32_14 c1_i32 k0_t1
  let c32_i32 : BitVec 32 := 32#32
  let v65 : BitVec 32 := Scalar.muli arg20 c32_i32
  let v66 : BitVec 32 := v65
  let v1900 : Index := Scalar.indexCast v66
  let c3072 : Index := 3072#32
  ![0, v1900.toNat, 3072]
def k0_off49 (k0_t1 : Fin k0_t1_loop.trips) : Fin 3 → Nat :=
  let c0_624 : Index := 0#32
  let c0_i32_14 : BitVec 32 := 0#32
  let c1_i32 : BitVec 32 := 1#32
  let arg20 : BitVec 32 := Scf.iv c0_i32_14 c1_i32 k0_t1
  let c32_i32 : BitVec 32 := 32#32
  let v65 : BitVec 32 := Scalar.muli arg20 c32_i32
  let v66 : BitVec 32 := v65
  let v1942 : Index := Scalar.indexCast v66
  let c24 : Index := 24#32
  ![0, v1942.toNat, 24]
def k0_off50 (k0_t1 : Fin k0_t1_loop.trips) : Fin 3 → Nat :=
  let c0_644 : Index := 0#32
  let c0_i32_14 : BitVec 32 := 0#32
  let c1_i32 : BitVec 32 := 1#32
  let arg20 : BitVec 32 := Scf.iv c0_i32_14 c1_i32 k0_t1
  let c32_i32 : BitVec 32 := 32#32
  let v65 : BitVec 32 := Scalar.muli arg20 c32_i32
  let v66 : BitVec 32 := v65
  let v2004 : Index := Scalar.indexCast v66
  let c1152 : Index := 1152#32
  ![0, v2004.toNat, 1152]
def k0_off51 (k0_t1 : Fin k0_t1_loop.trips) : Fin 3 → Nat :=
  let c0_661 : Index := 0#32
  let c0_i32_14 : BitVec 32 := 0#32
  let c1_i32 : BitVec 32 := 1#32
  let arg20 : BitVec 32 := Scf.iv c0_i32_14 c1_i32 k0_t1
  let c32_i32 : BitVec 32 := 32#32
  let v65 : BitVec 32 := Scalar.muli arg20 c32_i32
  let v66 : BitVec 32 := v65
  let v2052 : Index := Scalar.indexCast v66
  let c1152_662 : Index := 1152#32
  ![0, v2052.toNat, 1152]
def k0_off52 (k0_t1 : Fin k0_t1_loop.trips) : Fin 3 → Nat :=
  let c0_675 : Index := 0#32
  let c0_i32_14 : BitVec 32 := 0#32
  let c1_i32 : BitVec 32 := 1#32
  let arg20 : BitVec 32 := Scf.iv c0_i32_14 c1_i32 k0_t1
  let c32_i32 : BitVec 32 := 32#32
  let v65 : BitVec 32 := Scalar.muli arg20 c32_i32
  let v66 : BitVec 32 := v65
  let v2094 : Index := Scalar.indexCast v66
  let c9 : Index := 9#32
  ![0, v2094.toNat, 9]
def k0_off53 (k0_t1 : Fin k0_t1_loop.trips) : Fin 3 → Nat :=
  let c0_681 : Index := 0#32
  let c0_i32_14 : BitVec 32 := 0#32
  let c1_i32 : BitVec 32 := 1#32
  let arg20 : BitVec 32 := Scf.iv c0_i32_14 c1_i32 k0_t1
  let c32_i32 : BitVec 32 := 32#32
  let v65 : BitVec 32 := Scalar.muli arg20 c32_i32
  let v66 : BitVec 32 := v65
  let v2114 : Index := Scalar.indexCast v66
  let c3200 : Index := 3200#32
  ![0, v2114.toNat, 3200]
def k0_off54 (k0_t1 : Fin k0_t1_loop.trips) : Fin 3 → Nat :=
  let c0_694 : Index := 0#32
  let c0_i32_14 : BitVec 32 := 0#32
  let c1_i32 : BitVec 32 := 1#32
  let arg20 : BitVec 32 := Scf.iv c0_i32_14 c1_i32 k0_t1
  let c32_i32 : BitVec 32 := 32#32
  let v65 : BitVec 32 := Scalar.muli arg20 c32_i32
  let v66 : BitVec 32 := v65
  let v2156 : Index := Scalar.indexCast v66
  let c25 : Index := 25#32
  ![0, v2156.toNat, 25]
def k0_off55 (k0_t1 : Fin k0_t1_loop.trips) : Fin 3 → Nat :=
  let c0_714 : Index := 0#32
  let c0_i32_14 : BitVec 32 := 0#32
  let c1_i32 : BitVec 32 := 1#32
  let arg20 : BitVec 32 := Scf.iv c0_i32_14 c1_i32 k0_t1
  let c32_i32 : BitVec 32 := 32#32
  let v65 : BitVec 32 := Scalar.muli arg20 c32_i32
  let v66 : BitVec 32 := v65
  let v2218 : Index := Scalar.indexCast v66
  let c1280 : Index := 1280#32
  ![0, v2218.toNat, 1280]
def k0_off56 (k0_t1 : Fin k0_t1_loop.trips) : Fin 3 → Nat :=
  let c0_731 : Index := 0#32
  let c0_i32_14 : BitVec 32 := 0#32
  let c1_i32 : BitVec 32 := 1#32
  let arg20 : BitVec 32 := Scf.iv c0_i32_14 c1_i32 k0_t1
  let c32_i32 : BitVec 32 := 32#32
  let v65 : BitVec 32 := Scalar.muli arg20 c32_i32
  let v66 : BitVec 32 := v65
  let v2266 : Index := Scalar.indexCast v66
  let c1280_732 : Index := 1280#32
  ![0, v2266.toNat, 1280]
def k0_off57 (k0_t1 : Fin k0_t1_loop.trips) : Fin 3 → Nat :=
  let c0_745 : Index := 0#32
  let c0_i32_14 : BitVec 32 := 0#32
  let c1_i32 : BitVec 32 := 1#32
  let arg20 : BitVec 32 := Scf.iv c0_i32_14 c1_i32 k0_t1
  let c32_i32 : BitVec 32 := 32#32
  let v65 : BitVec 32 := Scalar.muli arg20 c32_i32
  let v66 : BitVec 32 := v65
  let v2308 : Index := Scalar.indexCast v66
  let c10 : Index := 10#32
  ![0, v2308.toNat, 10]
def k0_off58 (k0_t1 : Fin k0_t1_loop.trips) : Fin 3 → Nat :=
  let c0_751 : Index := 0#32
  let c0_i32_14 : BitVec 32 := 0#32
  let c1_i32 : BitVec 32 := 1#32
  let arg20 : BitVec 32 := Scf.iv c0_i32_14 c1_i32 k0_t1
  let c32_i32 : BitVec 32 := 32#32
  let v65 : BitVec 32 := Scalar.muli arg20 c32_i32
  let v66 : BitVec 32 := v65
  let v2328 : Index := Scalar.indexCast v66
  let c3328 : Index := 3328#32
  ![0, v2328.toNat, 3328]
def k0_off59 (k0_t1 : Fin k0_t1_loop.trips) : Fin 3 → Nat :=
  let c0_764 : Index := 0#32
  let c0_i32_14 : BitVec 32 := 0#32
  let c1_i32 : BitVec 32 := 1#32
  let arg20 : BitVec 32 := Scf.iv c0_i32_14 c1_i32 k0_t1
  let c32_i32 : BitVec 32 := 32#32
  let v65 : BitVec 32 := Scalar.muli arg20 c32_i32
  let v66 : BitVec 32 := v65
  let v2370 : Index := Scalar.indexCast v66
  let c26 : Index := 26#32
  ![0, v2370.toNat, 26]
def k0_off60 (k0_t1 : Fin k0_t1_loop.trips) : Fin 3 → Nat :=
  let c0_784 : Index := 0#32
  let c0_i32_14 : BitVec 32 := 0#32
  let c1_i32 : BitVec 32 := 1#32
  let arg20 : BitVec 32 := Scf.iv c0_i32_14 c1_i32 k0_t1
  let c32_i32 : BitVec 32 := 32#32
  let v65 : BitVec 32 := Scalar.muli arg20 c32_i32
  let v66 : BitVec 32 := v65
  let v2432 : Index := Scalar.indexCast v66
  let c1408 : Index := 1408#32
  ![0, v2432.toNat, 1408]
def k0_off61 (k0_t1 : Fin k0_t1_loop.trips) : Fin 3 → Nat :=
  let c0_801 : Index := 0#32
  let c0_i32_14 : BitVec 32 := 0#32
  let c1_i32 : BitVec 32 := 1#32
  let arg20 : BitVec 32 := Scf.iv c0_i32_14 c1_i32 k0_t1
  let c32_i32 : BitVec 32 := 32#32
  let v65 : BitVec 32 := Scalar.muli arg20 c32_i32
  let v66 : BitVec 32 := v65
  let v2480 : Index := Scalar.indexCast v66
  let c1408_802 : Index := 1408#32
  ![0, v2480.toNat, 1408]
def k0_off62 (k0_t1 : Fin k0_t1_loop.trips) : Fin 3 → Nat :=
  let c0_815 : Index := 0#32
  let c0_i32_14 : BitVec 32 := 0#32
  let c1_i32 : BitVec 32 := 1#32
  let arg20 : BitVec 32 := Scf.iv c0_i32_14 c1_i32 k0_t1
  let c32_i32 : BitVec 32 := 32#32
  let v65 : BitVec 32 := Scalar.muli arg20 c32_i32
  let v66 : BitVec 32 := v65
  let v2522 : Index := Scalar.indexCast v66
  let c11 : Index := 11#32
  ![0, v2522.toNat, 11]
def k0_off63 (k0_t1 : Fin k0_t1_loop.trips) : Fin 3 → Nat :=
  let c0_821 : Index := 0#32
  let c0_i32_14 : BitVec 32 := 0#32
  let c1_i32 : BitVec 32 := 1#32
  let arg20 : BitVec 32 := Scf.iv c0_i32_14 c1_i32 k0_t1
  let c32_i32 : BitVec 32 := 32#32
  let v65 : BitVec 32 := Scalar.muli arg20 c32_i32
  let v66 : BitVec 32 := v65
  let v2542 : Index := Scalar.indexCast v66
  let c3456 : Index := 3456#32
  ![0, v2542.toNat, 3456]
def k0_off64 (k0_t1 : Fin k0_t1_loop.trips) : Fin 3 → Nat :=
  let c0_834 : Index := 0#32
  let c0_i32_14 : BitVec 32 := 0#32
  let c1_i32 : BitVec 32 := 1#32
  let arg20 : BitVec 32 := Scf.iv c0_i32_14 c1_i32 k0_t1
  let c32_i32 : BitVec 32 := 32#32
  let v65 : BitVec 32 := Scalar.muli arg20 c32_i32
  let v66 : BitVec 32 := v65
  let v2584 : Index := Scalar.indexCast v66
  let c27 : Index := 27#32
  ![0, v2584.toNat, 27]
def k0_off65 (k0_t1 : Fin k0_t1_loop.trips) : Fin 3 → Nat :=
  let c0_854 : Index := 0#32
  let c0_i32_14 : BitVec 32 := 0#32
  let c1_i32 : BitVec 32 := 1#32
  let arg20 : BitVec 32 := Scf.iv c0_i32_14 c1_i32 k0_t1
  let c32_i32 : BitVec 32 := 32#32
  let v65 : BitVec 32 := Scalar.muli arg20 c32_i32
  let v66 : BitVec 32 := v65
  let v2646 : Index := Scalar.indexCast v66
  let c1536 : Index := 1536#32
  ![0, v2646.toNat, 1536]
def k0_off66 (k0_t1 : Fin k0_t1_loop.trips) : Fin 3 → Nat :=
  let c0_871 : Index := 0#32
  let c0_i32_14 : BitVec 32 := 0#32
  let c1_i32 : BitVec 32 := 1#32
  let arg20 : BitVec 32 := Scf.iv c0_i32_14 c1_i32 k0_t1
  let c32_i32 : BitVec 32 := 32#32
  let v65 : BitVec 32 := Scalar.muli arg20 c32_i32
  let v66 : BitVec 32 := v65
  let v2694 : Index := Scalar.indexCast v66
  let c1536_872 : Index := 1536#32
  ![0, v2694.toNat, 1536]
def k0_off67 (k0_t1 : Fin k0_t1_loop.trips) : Fin 3 → Nat :=
  let c0_885 : Index := 0#32
  let c0_i32_14 : BitVec 32 := 0#32
  let c1_i32 : BitVec 32 := 1#32
  let arg20 : BitVec 32 := Scf.iv c0_i32_14 c1_i32 k0_t1
  let c32_i32 : BitVec 32 := 32#32
  let v65 : BitVec 32 := Scalar.muli arg20 c32_i32
  let v66 : BitVec 32 := v65
  let v2736 : Index := Scalar.indexCast v66
  let c12 : Index := 12#32
  ![0, v2736.toNat, 12]
def k0_off68 (k0_t1 : Fin k0_t1_loop.trips) : Fin 3 → Nat :=
  let c0_891 : Index := 0#32
  let c0_i32_14 : BitVec 32 := 0#32
  let c1_i32 : BitVec 32 := 1#32
  let arg20 : BitVec 32 := Scf.iv c0_i32_14 c1_i32 k0_t1
  let c32_i32 : BitVec 32 := 32#32
  let v65 : BitVec 32 := Scalar.muli arg20 c32_i32
  let v66 : BitVec 32 := v65
  let v2756 : Index := Scalar.indexCast v66
  let c3584 : Index := 3584#32
  ![0, v2756.toNat, 3584]
def k0_off69 (k0_t1 : Fin k0_t1_loop.trips) : Fin 3 → Nat :=
  let c0_904 : Index := 0#32
  let c0_i32_14 : BitVec 32 := 0#32
  let c1_i32 : BitVec 32 := 1#32
  let arg20 : BitVec 32 := Scf.iv c0_i32_14 c1_i32 k0_t1
  let c32_i32 : BitVec 32 := 32#32
  let v65 : BitVec 32 := Scalar.muli arg20 c32_i32
  let v66 : BitVec 32 := v65
  let v2798 : Index := Scalar.indexCast v66
  let c28 : Index := 28#32
  ![0, v2798.toNat, 28]
def k0_off70 (k0_t1 : Fin k0_t1_loop.trips) : Fin 3 → Nat :=
  let c0_924 : Index := 0#32
  let c0_i32_14 : BitVec 32 := 0#32
  let c1_i32 : BitVec 32 := 1#32
  let arg20 : BitVec 32 := Scf.iv c0_i32_14 c1_i32 k0_t1
  let c32_i32 : BitVec 32 := 32#32
  let v65 : BitVec 32 := Scalar.muli arg20 c32_i32
  let v66 : BitVec 32 := v65
  let v2860 : Index := Scalar.indexCast v66
  let c1664 : Index := 1664#32
  ![0, v2860.toNat, 1664]
def k0_off71 (k0_t1 : Fin k0_t1_loop.trips) : Fin 3 → Nat :=
  let c0_941 : Index := 0#32
  let c0_i32_14 : BitVec 32 := 0#32
  let c1_i32 : BitVec 32 := 1#32
  let arg20 : BitVec 32 := Scf.iv c0_i32_14 c1_i32 k0_t1
  let c32_i32 : BitVec 32 := 32#32
  let v65 : BitVec 32 := Scalar.muli arg20 c32_i32
  let v66 : BitVec 32 := v65
  let v2908 : Index := Scalar.indexCast v66
  let c1664_942 : Index := 1664#32
  ![0, v2908.toNat, 1664]
def k0_off72 (k0_t1 : Fin k0_t1_loop.trips) : Fin 3 → Nat :=
  let c0_955 : Index := 0#32
  let c0_i32_14 : BitVec 32 := 0#32
  let c1_i32 : BitVec 32 := 1#32
  let arg20 : BitVec 32 := Scf.iv c0_i32_14 c1_i32 k0_t1
  let c32_i32 : BitVec 32 := 32#32
  let v65 : BitVec 32 := Scalar.muli arg20 c32_i32
  let v66 : BitVec 32 := v65
  let v2950 : Index := Scalar.indexCast v66
  let c13 : Index := 13#32
  ![0, v2950.toNat, 13]
def k0_off73 (k0_t1 : Fin k0_t1_loop.trips) : Fin 3 → Nat :=
  let c0_961 : Index := 0#32
  let c0_i32_14 : BitVec 32 := 0#32
  let c1_i32 : BitVec 32 := 1#32
  let arg20 : BitVec 32 := Scf.iv c0_i32_14 c1_i32 k0_t1
  let c32_i32 : BitVec 32 := 32#32
  let v65 : BitVec 32 := Scalar.muli arg20 c32_i32
  let v66 : BitVec 32 := v65
  let v2970 : Index := Scalar.indexCast v66
  let c3712 : Index := 3712#32
  ![0, v2970.toNat, 3712]
def k0_off74 (k0_t1 : Fin k0_t1_loop.trips) : Fin 3 → Nat :=
  let c0_974 : Index := 0#32
  let c0_i32_14 : BitVec 32 := 0#32
  let c1_i32 : BitVec 32 := 1#32
  let arg20 : BitVec 32 := Scf.iv c0_i32_14 c1_i32 k0_t1
  let c32_i32 : BitVec 32 := 32#32
  let v65 : BitVec 32 := Scalar.muli arg20 c32_i32
  let v66 : BitVec 32 := v65
  let v3012 : Index := Scalar.indexCast v66
  let c29 : Index := 29#32
  ![0, v3012.toNat, 29]
def k0_off75 (k0_t1 : Fin k0_t1_loop.trips) : Fin 3 → Nat :=
  let c0_994 : Index := 0#32
  let c0_i32_14 : BitVec 32 := 0#32
  let c1_i32 : BitVec 32 := 1#32
  let arg20 : BitVec 32 := Scf.iv c0_i32_14 c1_i32 k0_t1
  let c32_i32 : BitVec 32 := 32#32
  let v65 : BitVec 32 := Scalar.muli arg20 c32_i32
  let v66 : BitVec 32 := v65
  let v3074 : Index := Scalar.indexCast v66
  let c1792 : Index := 1792#32
  ![0, v3074.toNat, 1792]
def k0_off76 (k0_t1 : Fin k0_t1_loop.trips) : Fin 3 → Nat :=
  let c0_1011 : Index := 0#32
  let c0_i32_14 : BitVec 32 := 0#32
  let c1_i32 : BitVec 32 := 1#32
  let arg20 : BitVec 32 := Scf.iv c0_i32_14 c1_i32 k0_t1
  let c32_i32 : BitVec 32 := 32#32
  let v65 : BitVec 32 := Scalar.muli arg20 c32_i32
  let v66 : BitVec 32 := v65
  let v3122 : Index := Scalar.indexCast v66
  let c1792_1012 : Index := 1792#32
  ![0, v3122.toNat, 1792]
def k0_off77 (k0_t1 : Fin k0_t1_loop.trips) : Fin 3 → Nat :=
  let c0_1025 : Index := 0#32
  let c0_i32_14 : BitVec 32 := 0#32
  let c1_i32 : BitVec 32 := 1#32
  let arg20 : BitVec 32 := Scf.iv c0_i32_14 c1_i32 k0_t1
  let c32_i32 : BitVec 32 := 32#32
  let v65 : BitVec 32 := Scalar.muli arg20 c32_i32
  let v66 : BitVec 32 := v65
  let v3164 : Index := Scalar.indexCast v66
  let c14 : Index := 14#32
  ![0, v3164.toNat, 14]
def k0_off78 (k0_t1 : Fin k0_t1_loop.trips) : Fin 3 → Nat :=
  let c0_1031 : Index := 0#32
  let c0_i32_14 : BitVec 32 := 0#32
  let c1_i32 : BitVec 32 := 1#32
  let arg20 : BitVec 32 := Scf.iv c0_i32_14 c1_i32 k0_t1
  let c32_i32 : BitVec 32 := 32#32
  let v65 : BitVec 32 := Scalar.muli arg20 c32_i32
  let v66 : BitVec 32 := v65
  let v3184 : Index := Scalar.indexCast v66
  let c3840 : Index := 3840#32
  ![0, v3184.toNat, 3840]
def k0_off79 (k0_t1 : Fin k0_t1_loop.trips) : Fin 3 → Nat :=
  let c0_1044 : Index := 0#32
  let c0_i32_14 : BitVec 32 := 0#32
  let c1_i32 : BitVec 32 := 1#32
  let arg20 : BitVec 32 := Scf.iv c0_i32_14 c1_i32 k0_t1
  let c32_i32 : BitVec 32 := 32#32
  let v65 : BitVec 32 := Scalar.muli arg20 c32_i32
  let v66 : BitVec 32 := v65
  let v3226 : Index := Scalar.indexCast v66
  let c30 : Index := 30#32
  ![0, v3226.toNat, 30]
def k0_off80 (k0_t1 : Fin k0_t1_loop.trips) : Fin 3 → Nat :=
  let c0_1064 : Index := 0#32
  let c0_i32_14 : BitVec 32 := 0#32
  let c1_i32 : BitVec 32 := 1#32
  let arg20 : BitVec 32 := Scf.iv c0_i32_14 c1_i32 k0_t1
  let c32_i32 : BitVec 32 := 32#32
  let v65 : BitVec 32 := Scalar.muli arg20 c32_i32
  let v66 : BitVec 32 := v65
  let v3288 : Index := Scalar.indexCast v66
  let c1920 : Index := 1920#32
  ![0, v3288.toNat, 1920]
def k0_off81 (k0_t1 : Fin k0_t1_loop.trips) : Fin 3 → Nat :=
  let c0_1081 : Index := 0#32
  let c0_i32_14 : BitVec 32 := 0#32
  let c1_i32 : BitVec 32 := 1#32
  let arg20 : BitVec 32 := Scf.iv c0_i32_14 c1_i32 k0_t1
  let c32_i32 : BitVec 32 := 32#32
  let v65 : BitVec 32 := Scalar.muli arg20 c32_i32
  let v66 : BitVec 32 := v65
  let v3336 : Index := Scalar.indexCast v66
  let c1920_1082 : Index := 1920#32
  ![0, v3336.toNat, 1920]
def k0_off82 (k0_t1 : Fin k0_t1_loop.trips) : Fin 3 → Nat :=
  let c0_1095 : Index := 0#32
  let c0_i32_14 : BitVec 32 := 0#32
  let c1_i32 : BitVec 32 := 1#32
  let arg20 : BitVec 32 := Scf.iv c0_i32_14 c1_i32 k0_t1
  let c32_i32 : BitVec 32 := 32#32
  let v65 : BitVec 32 := Scalar.muli arg20 c32_i32
  let v66 : BitVec 32 := v65
  let v3378 : Index := Scalar.indexCast v66
  let c15 : Index := 15#32
  ![0, v3378.toNat, 15]
def k0_off83 (k0_t1 : Fin k0_t1_loop.trips) : Fin 3 → Nat :=
  let c0_1101 : Index := 0#32
  let c0_i32_14 : BitVec 32 := 0#32
  let c1_i32 : BitVec 32 := 1#32
  let arg20 : BitVec 32 := Scf.iv c0_i32_14 c1_i32 k0_t1
  let c32_i32 : BitVec 32 := 32#32
  let v65 : BitVec 32 := Scalar.muli arg20 c32_i32
  let v66 : BitVec 32 := v65
  let v3398 : Index := Scalar.indexCast v66
  let c3968 : Index := 3968#32
  ![0, v3398.toNat, 3968]
def k0_off84 (k0_t1 : Fin k0_t1_loop.trips) : Fin 3 → Nat :=
  let c0_1114 : Index := 0#32
  let c0_i32_14 : BitVec 32 := 0#32
  let c1_i32 : BitVec 32 := 1#32
  let arg20 : BitVec 32 := Scf.iv c0_i32_14 c1_i32 k0_t1
  let c32_i32 : BitVec 32 := 32#32
  let v65 : BitVec 32 := Scalar.muli arg20 c32_i32
  let v66 : BitVec 32 := v65
  let v3440 : Index := Scalar.indexCast v66
  let c31 : Index := 31#32
  ![0, v3440.toNat, 31]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S2x14336 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2x14336 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x2048 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x32 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x2048 .i8 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x4096 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x2048 .i8 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x32 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x2048 .i8 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== KernelIdeal.lean ====
variable {F : FTy → Type} [FloatOps F] [Named F]
def κ : String → Option EReal := fun
  | "decay" => some ((3 / 100000 : ℝ) : EReal)
  | "eps" => some ((1 / 100000000 : ℝ) : EReal)
  | "inv70" => some ((1 / 70 : ℝ) : EReal)
  | "k2" => some ((1 / 1000 : ℝ) : EReal)
  | "log_beta1" => some ((Real.log (7549747 / 8388608) : ℝ) : EReal)
  | "log_beta2" => some ((Real.log (16760439 / 16777216) : ℝ) : EReal)
  | "v_gain" => some ((2 / 125 : ℝ) : EReal)
  | _ => none
-- ==== ReferenceIdeal.lean ====
abbrev S_ : Shape := ⟨0, ![]⟩
abbrev S2x14336 : Shape := ⟨2, ![2, 14336]⟩
abbrev S2x4096 : Shape := ⟨2, ![2, 4096]⟩
abbrev S2x14336x4096 : Shape := ⟨3, ![2, 14336, 4096]⟩
abbrev S2x14336x2048 : Shape := ⟨3, ![2, 14336, 2048]⟩
abbrev S2x14336x32 : Shape := ⟨3, ![2, 14336, 32]⟩
abbrev S2x14336x32x128 : Shape := ⟨4, ![2, 14336, 32, 128]⟩
abbrev S2x14336x32x1 : Shape := ⟨4, ![2, 14336, 32, 1]⟩
abbrev S2x14336x1 : Shape := ⟨3, ![2, 14336, 1]⟩
abbrev S2x1x4096 : Shape := ⟨3, ![2, 1, 4096]⟩

abbrev nBuf : Space → Nat
  | .hbm => 183
  | .vmem => 0
  | .smem => 0
  | _ => 0

abbrev hbmTy0_0 (i : Nat) : BufTy := match i % 128 with
  | 0 => ⟨S_, .i32⟩
  | 1 => ⟨S2x14336, .f32⟩
  | 2 => ⟨S2x4096, .f32⟩
  | 3 => ⟨S2x14336, .f32⟩
  | 4 => ⟨S2x4096, .f32⟩
  | 5 => ⟨S2x14336x4096, .bf16⟩
  | 6 => ⟨S2x14336x4096, .bf16⟩
  | 7 => ⟨S2x14336x2048, .i8⟩
  | 8 => ⟨S2x14336x32, .f32⟩
  | 9 => ⟨S2x14336x2048, .i8⟩
  | 10 => ⟨S2x14336x4096, .f32⟩
  | 11 => ⟨S2x14336x4096, .f32⟩
  | 12 => ⟨S2x14336x2048, .i32⟩
  | 13 => ⟨S_, .i32⟩
  | 14 => ⟨S2x14336x2048, .i32⟩
  | 15 => ⟨S2x14336x2048, .i32⟩
  | 16 => ⟨S_, .i32⟩
  | 17 => ⟨S2x14336x2048, .i32⟩
  | 18 => ⟨S2x14336x2048, .i32⟩
  | 19 => ⟨S2x14336x4096, .i32⟩
  | 20 => ⟨S_, .i32⟩
  | 21 => ⟨S2x14336x4096, .i32⟩
  | 22 => ⟨S2x14336x4096, .i1⟩
  | 23 => ⟨S2x14336x4096, .i32⟩
  | 24 => ⟨S_, .i32⟩
  | 25 => ⟨S2x14336x4096, .i32⟩
  | 26 => ⟨S2x14336x4096, .i32⟩
  | 27 => ⟨S2x14336x4096, .i32⟩
  | 28 => ⟨S2x14336x4096, .f32⟩
  | 29 => ⟨S2x14336x32x128, .f32⟩
  | 30 => ⟨S2x14336x32x1, .f32⟩
  | 31 => ⟨S2x14336x32x128, .f32⟩
  | 32 => ⟨S2x14336x32x128, .f32⟩
  | 33 => ⟨S2x14336x4096, .f32⟩
  | 34 => ⟨S2x14336x2048, .i32⟩
  | 35 => ⟨S_, .i32⟩
  | 36 => ⟨S2x14336x2048, .i32⟩
  | 37 => ⟨S2x14336x2048, .i32⟩
  | 38 => ⟨S_, .i32⟩
  | 39 => ⟨S2x14336x2048, .i32⟩
  | 40 => ⟨S2x14336x2048, .i32⟩
  | 41 => ⟨S2x14336x4096, .i32⟩
  | 42 => ⟨S2x14336x4096, .f32⟩
  | 43 => ⟨S_, .f32⟩
  | 44 => ⟨S2x14336x4096, .f32⟩
  | 45 => ⟨S2x14336x4096, .f32⟩
  | 46 => ⟨S_, .f32⟩
  | 47 => ⟨S2x14336x4096, .f32⟩
  | 48 => ⟨S2x14336x4096, .f32⟩
  | 49 => ⟨S2x14336x1, .f32⟩
  | 50 => ⟨S2x1x4096, .f32⟩
  | 51 => ⟨S2x14336x4096, .f32⟩
  | 52 => ⟨S2x14336x4096, .f32⟩
  | 53 => ⟨S2x14336x4096, .f32⟩
  | 54 => ⟨S2x14336x4096, .f32⟩
  | 55 => ⟨S_, .f32⟩
  | 56 => ⟨S_, .f32⟩
  | 57 => ⟨S_, .f32⟩
  | 58 => ⟨S2x14336x4096, .f32⟩
  | 59 => ⟨S2x14336x4096, .f32⟩
  | 60 => ⟨S_, .f32⟩
  | 61 => ⟨S_, .f32⟩
  | 62 => ⟨S_, .f32⟩
  | 63 => ⟨S2x14336x4096, .f32⟩
  | 64 => ⟨S2x14336x4096, .f32⟩
  | 65 => ⟨S2x14336x4096, .f32⟩
  | 66 => ⟨S_, .f32⟩
  | 67 => ⟨S_, .f32⟩
  | 68 => ⟨S_, .f32⟩
  | 69 => ⟨S2x14336x4096, .f32⟩
  | 70 => ⟨S2x14336x4096, .f32⟩
  | 71 => ⟨S_, .f32⟩
  | 72 => ⟨S_, .f32⟩
  | 73 => ⟨S_, .f32⟩
  | 74 => ⟨S2x14336x4096, .f32⟩
  | 75 => ⟨S2x14336x4096, .f32⟩
  | 76 => ⟨S2x14336x4096, .f32⟩
  | 77 => ⟨S2x14336x4096, .f32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S2x14336x4096, .f32⟩
  | 95 => ⟨S2x14336x4096, .f32⟩
  | 96 => ⟨S2x14336x4096, .f32⟩
  | 97 => ⟨S2x14336x4096, .f32⟩
  | 98 => ⟨S2x14336x4096, .f32⟩
  | 99 => ⟨S_, .f32⟩
  | 100 => ⟨S_, .f32⟩
  | 101 => ⟨S_, .f32⟩
  | 102 => ⟨S2x14336x4096, .f32⟩
  | 103 => ⟨S2x14336x4096, .f32⟩
  | 104 => ⟨S2x14336x4096, .f32⟩
  | 105 => ⟨S_, .f32⟩
  | 106 => ⟨S_, .f32⟩
  | 107 => ⟨S_, .f32⟩
  | 108 => ⟨S2x14336x4096, .f32⟩
  | 109 => ⟨S2x14336x4096, .f32⟩
  | 110 => ⟨S2x14336x4096, .f32⟩
  | 111 => ⟨S2x14336x4096, .f32⟩
  | 112 => ⟨S2x14336x4096, .f32⟩
  | 113 => ⟨S2x14336x32x128, .f32⟩
  | 114 => ⟨S2x14336x32x128, .f32⟩
  | 115 => ⟨S_, .f32⟩
  | 116 => ⟨S2x14336x32, .f32⟩
  | 117 => ⟨S_, .f32⟩
  | 118 => ⟨S2x14336x32, .f32⟩
  | 119 => ⟨S2x14336x32, .i1⟩
  | 120 => ⟨S_, .f32⟩
  | 121 => ⟨S2x14336x32, .f32⟩
  | 122 => ⟨S2x14336x32, .f32⟩
  | 123 => ⟨S_, .f32⟩
  | 124 => ⟨S_, .f32⟩
  | 125 => ⟨S2x14336x32, .f32⟩
  | 126 => ⟨S2x14336x32, .f32⟩
  | 127 => ⟨S2x14336x32x1, .f32⟩
  | _ => ⟨S_, .i32⟩

abbrev hbmTy0_1 (i : Nat) : BufTy := match i % 128 with
  | 0 => ⟨S2x14336x32x128, .f32⟩
  | 1 => ⟨S2x14336x32x128, .f32⟩
  | 2 => ⟨S2x14336x32x128, .f32⟩
  | 3 => ⟨S_, .f32⟩
  | 4 => ⟨S_, .f32⟩
  | 5 => ⟨S_, .f32⟩
  | 6 => ⟨S2x14336x32x128, .f32⟩
  | 7 => ⟨S2x14336x32x128, .f32⟩
  | 8 => ⟨S_, .f32⟩
  | 9 => ⟨S2x14336x32x128, .f32⟩
  | 10 => ⟨S2x14336x32x128, .f32⟩
  | 11 => ⟨S2x14336x32x128, .i32⟩
  | 12 => ⟨S2x14336x4096, .i32⟩
  | 13 => ⟨S2x14336x1, .f32⟩
  | 14 => ⟨S2x1x4096, .f32⟩
  | 15 => ⟨S2x14336x4096, .f32⟩
  | 16 => ⟨S2x14336x4096, .f32⟩
  | 17 => ⟨S2x14336x4096, .f32⟩
  | 18 => ⟨S_, .f32⟩
  | 19 => ⟨S2x14336x4096, .f32⟩
  | 20 => ⟨S2x14336x4096, .f32⟩
  | 21 => ⟨S2x14336x4096, .f32⟩
  | 22 => ⟨S_, .f32⟩
  | 23 => ⟨S2x14336x4096, .f32⟩
  | 24 => ⟨S2x14336x4096, .f32⟩
  | 25 => ⟨S2x14336x4096, .f32⟩
  | 26 => ⟨S_, .f32⟩
  | 27 => ⟨S_, .f32⟩
  | 28 => ⟨S_, .f32⟩
  | 29 => ⟨S2x14336x4096, .f32⟩
  | 30 => ⟨S2x14336x4096, .f32⟩
  | 31 => ⟨S_, .f32⟩
  | 32 => ⟨S2x14336x4096, .f32⟩
  | 33 => ⟨S2x14336x4096, .f32⟩
  | 34 => ⟨S2x14336x4096, .i32⟩
  | 35 => ⟨S_, .i32⟩
  | 36 => ⟨S2x14336x4096, .i32⟩
  | 37 => ⟨S2x14336x4096, .i32⟩
  | 38 => ⟨S2x14336x2048, .i32⟩
  | 39 => ⟨S2x14336x2048, .i32⟩
  | 40 => ⟨S_, .i32⟩
  | 41 => ⟨S2x14336x2048, .i32⟩
  | 42 => ⟨S2x14336x2048, .i32⟩
  | 43 => ⟨S2x14336x2048, .i32⟩
  | 44 => ⟨S2x14336x2048, .i8⟩
  | 45 => ⟨S_, .i32⟩
  | 46 => ⟨S2x14336x4096, .i32⟩
  | 47 => ⟨S2x14336x4096, .i32⟩
  | 48 => ⟨S2x14336x2048, .i32⟩
  | 49 => ⟨S2x14336x2048, .i32⟩
  | 50 => ⟨S_, .i32⟩
  | 51 => ⟨S2x14336x2048, .i32⟩
  | 52 => ⟨S2x14336x2048, .i32⟩
  | 53 => ⟨S2x14336x2048, .i32⟩
  | 54 => ⟨S2x14336x2048, .i8⟩
  | _ => ⟨S_, .i32⟩

abbrev hbmTy (i : Nat) : BufTy := match i / 128 with
  | 0 => hbmTy0_0 i
  | 1 => hbmTy0_1 i
  | _ => ⟨S_, .i32⟩

abbrev bufTy : (tb : Table) → Fin (tcTables nBuf tb) → BufTy
  | .hbm, ⟨i, _⟩ => hbmTy i
  | _, _ => ⟨S_, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c : Ref sig .tc := ⟨.hbm, 13, rfl⟩
abbrev main_v3 : Ref sig .tc := ⟨.hbm, 14, rfl⟩
abbrev main_v4 : Ref sig .tc := ⟨.hbm, 15, rfl⟩
abbrev main_c_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_3 : Ref sig .tc := ⟨.hbm, 35, rfl⟩
abbrev main_v21 : Ref sig .tc := ⟨.hbm, 36, rfl⟩
abbrev main_v22 : Ref sig .tc := ⟨.hbm, 37, rfl⟩
abbrev main_c_4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst : Ref sig .tc := ⟨.hbm, 43, rfl⟩
abbrev main_v27 : Ref sig .tc := ⟨.hbm, 44, rfl⟩
abbrev main_v28 : Ref sig .tc := ⟨.hbm, 45, rfl⟩
abbrev main_cst_5 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_cst_7 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_8 : Ref sig .tc := ⟨.hbm, 60, rfl⟩
abbrev main_cst_9 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_10 : Ref sig .tc := ⟨.hbm, 66, rfl⟩
abbrev main_cst_11 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_12 : Ref sig .tc := ⟨.hbm, 71, rfl⟩
abbrev main_cst_13 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_14 : Ref sig .tc := ⟨.hbm, 79, rfl⟩
abbrev main_cst_15 : Ref sig .tc := ⟨.hbm, 80, rfl⟩
abbrev main_v53 : Ref sig .tc := ⟨.hbm, 81, rfl⟩
abbrev main_v54 : Ref sig .tc := ⟨.hbm, 82, rfl⟩
abbrev main_cst_16 : Ref sig .tc := ⟨.hbm, 83, rfl⟩
abbrev main_v55 : Ref sig .tc := ⟨.hbm, 84, rfl⟩
abbrev main_cst_17 : Ref sig .tc := ⟨.hbm, 85, rfl⟩
abbrev main_cst_18 : Ref sig .tc := ⟨.hbm, 86, rfl⟩
abbrev main_v56 : Ref sig .tc := ⟨.hbm, 87, rfl⟩
abbrev main_v57 : Ref sig .tc := ⟨.hbm, 88, rfl⟩
abbrev main_cst_19 : Ref sig .tc := ⟨.hbm, 89, rfl⟩
abbrev main_v58 : Ref sig .tc := ⟨.hbm, 90, rfl⟩
abbrev main_cst_20 : Ref sig .tc := ⟨.hbm, 91, rfl⟩
abbrev main_cst_21 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_cst_22 : Ref sig .tc := ⟨.hbm, 99, rfl⟩
abbrev main_cst_23 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_cst_24 : Ref sig .tc := ⟨.hbm, 105, rfl⟩
abbrev main_cst_25 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_cst_26 : Ref sig .tc := ⟨.hbm, 115, rfl⟩
abbrev main_v77 : Ref sig .tc := ⟨.hbm, 116, rfl⟩
abbrev main_cst_27 : Ref sig .tc := ⟨.hbm, 117, rfl⟩
abbrev main_v78 : Ref sig .tc := ⟨.hbm, 118, rfl⟩
abbrev main_v79 : Ref sig .tc := ⟨.hbm, 119, rfl⟩
abbrev main_cst_28 : Ref sig .tc := ⟨.hbm, 120, rfl⟩
abbrev main_v80 : Ref sig .tc := ⟨.hbm, 121, rfl⟩
abbrev main_v81 : Ref sig .tc := ⟨.hbm, 122, rfl⟩
abbrev main_cst_29 : Ref sig .tc := ⟨.hbm, 123, rfl⟩
abbrev main_call0_v0 : Ref sig .tc := ⟨.hbm, 124, rfl⟩
abbrev main_call0_v1 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_cst_30 : Ref sig .tc := ⟨.hbm, 131, rfl⟩
abbrev main_cst_31 : Ref sig .tc := ⟨.hbm, 132, rfl⟩
abbrev main_call2_v0 : Ref sig .tc := ⟨.hbm, 133, rfl⟩
abbrev main_call2_v1 : Ref sig .tc := ⟨.hbm, 134, rfl⟩
abbrev main_call2_v2 : Ref sig .tc := ⟨.hbm, 135, rfl⟩
abbrev main_call2_v3 : Ref sig .tc := ⟨.hbm, 136, rfl⟩
abbrev main_call2_v4 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_cst_32 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_cst_33 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_cst_34 : Ref sig .tc := ⟨.hbm, 154, rfl⟩
abbrev main_cst_35 : Ref sig .tc := ⟨.hbm, 155, rfl⟩
abbrev main_call4_v0 : Ref sig .tc := ⟨.hbm, 156, rfl⟩
abbrev main_call4_v1 : Ref sig .tc := ⟨.hbm, 157, rfl⟩
abbrev main_call4_v2 : Ref sig .tc := ⟨.hbm, 158, rfl⟩
abbrev main_call4_v3 : Ref sig .tc := ⟨.hbm, 159, rfl⟩
abbrev main_call4_v4 : Ref sig .tc := ⟨.hbm, 160, rfl⟩
abbrev main_v101 : Ref sig .tc := ⟨.hbm, 161, rfl⟩
abbrev main_v102 : Ref sig .tc := ⟨.hbm, 162, rfl⟩
abbrev main_c_36 : Ref sig .tc := ⟨.hbm, 163, rfl⟩
abbrev main_v103 : Ref sig .tc := ⟨.hbm, 164, rfl⟩
abbrev main_v104 : Ref sig .tc := ⟨.hbm, 165, rfl⟩
abbrev main_v105 : Ref sig .tc := ⟨.hbm, 166, rfl⟩
abbrev main_v106 : Ref sig .tc := ⟨.hbm, 167, rfl⟩
abbrev main_c_37 : Ref sig .tc := ⟨.hbm, 168, rfl⟩
abbrev main_v107 : Ref sig .tc := ⟨.hbm, 169, rfl⟩
abbrev main_v108 : Ref sig .tc := ⟨.hbm, 170, rfl⟩
abbrev main_v109 : Ref sig .tc := ⟨.hbm, 171, rfl⟩
abbrev main_v110 : Ref sig .tc := ⟨.hbm, 172, rfl⟩
abbrev main_c_38 : Ref sig .tc := ⟨.hbm, 173, rfl⟩
abbrev main_v111 : Ref sig .tc := ⟨.hbm, 174, rfl⟩
abbrev main_v112 : Ref sig .tc := ⟨.hbm, 175, rfl⟩
abbrev main_v113 : Ref sig .tc := ⟨.hbm, 176, rfl⟩
abbrev main_v114 : Ref sig .tc := ⟨.hbm, 177, rfl⟩
abbrev main_c_39 : Ref sig .tc := ⟨.hbm, 178, rfl⟩
abbrev main_v115 : Ref sig .tc := ⟨.hbm, 179, rfl⟩
abbrev main_v116 : Ref sig .tc := ⟨.hbm, 180, rfl⟩
abbrev main_v117 : Ref sig .tc := ⟨.hbm, 181, rfl⟩
abbrev main_v118 : Ref sig .tc := ⟨.hbm, 182, rfl⟩

abbrev nD : Nat := 1
abbrev τ : Topo := Topo.v7x

variable {F : FTy → Type} [FloatOps F]
-- ==== Stats.lean ====
abbrev S2x14336 : Shape := ⟨2, ![2, 14336]⟩
abbrev S2x4096 : Shape := ⟨2, ![2, 4096]⟩
abbrev S2x14336x4096 : Shape := ⟨3, ![2, 14336, 4096]⟩
abbrev S2x14336x2048 : Shape := ⟨3, ![2, 14336, 2048]⟩
abbrev S1x512x4096 : Shape := ⟨3, ![1, 512, 4096]⟩
abbrev S1x512x2048 : Shape := ⟨3, ![1, 512, 2048]⟩
abbrev S8x4096 : Shape := ⟨2, ![8, 4096]⟩
abbrev S512x128 : Shape := ⟨2, ![512, 128]⟩
abbrev S1x4096 : Shape := ⟨2, ![1, 4096]⟩
abbrev S1x512 : Shape := ⟨2, ![1, 512]⟩
abbrev S1x128 : Shape := ⟨2, ![1, 128]⟩
abbrev S128x128 : Shape := ⟨2, ![128, 128]⟩
abbrev S32x128 : Shape := ⟨2, ![32, 128]⟩
abbrev S1x32x128 : Shape := ⟨3, ![1, 32, 128]⟩
abbrev S64x128 : Shape := ⟨2, ![64, 128]⟩
abbrev S8x128 : Shape := ⟨2, ![8, 128]⟩
abbrev S4x8x128 : Shape := ⟨3, ![4, 8, 128]⟩
abbrev S1x8x128 : Shape := ⟨3, ![1, 8, 128]⟩
abbrev S32 : Shape := ⟨1, ![32]⟩
abbrev S32x1 : Shape := ⟨2, ![32, 1]⟩
abbrev S4096 : Shape := ⟨1, ![4096]⟩

abbrev nBuf : Space → Nat
  | .hbm => 6
  | .vmem => 12
  | .smem => 0
  | _ => 0

abbrev bufTy : (tb : Table) → Fin (tcTables nBuf tb) → BufTy
  | .hbm, ⟨0, _⟩ => ⟨S2x14336, .f32⟩
  | .hbm, ⟨1, _⟩ => ⟨S2x4096, .f32⟩
  | .hbm, ⟨2, _⟩ => ⟨S2x14336x4096, .bf16⟩
  | .hbm, ⟨3, _⟩ => ⟨S2x14336x2048, .i8⟩
  | .hbm, ⟨4, _⟩ => ⟨S2x14336, .f32⟩
  | .hbm, ⟨5, _⟩ => ⟨S2x4096, .f32⟩
  | .local _ .vmem, ⟨0, _⟩ => ⟨S2x14336, .f32⟩
  | .local _ .vmem, ⟨1, _⟩ => ⟨S2x4096, .f32⟩
  | .local _ .vmem, ⟨2, _⟩ => ⟨S1x512x4096, .bf16⟩
  | .local _ .vmem, ⟨3, _⟩ => ⟨S1x512x4096, .bf16⟩
  | .local _ .vmem, ⟨4, _⟩ => ⟨S1x512x2048, .i8⟩
  | .local _ .vmem, ⟨5, _⟩ => ⟨S1x512x2048, .i8⟩
  | .local _ .vmem, ⟨6, _⟩ => ⟨S2x14336, .f32⟩
  | .local _ .vmem, ⟨7, _⟩ => ⟨S2x4096, .f32⟩
  | .local _ .vmem, ⟨8, _⟩ => ⟨S8x4096, .f32⟩
  | .local _ .vmem, ⟨9, _⟩ => ⟨S8x4096, .f32⟩
  | .local _ .vmem, ⟨10, _⟩ => ⟨S512x128, .f32⟩
  | .local _ .vmem, ⟨11, _⟩ => ⟨S512x128, .f32⟩
  | _, _ => ⟨S2x14336, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7

abbrev nD : Nat := 1
abbrev τ : Topo := Topo.v7x

variable {F : FTy → Type} [BitOps F]

abbrev grid0 : Pipeline.Grid := ⟨2, ![2, 28], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_off1 (i : grid0.Coords) : Fin 2 → Nat :=
  let arg0 : BitVec 32 := BitVec.ofNat 32 (i 0).val
  let v67 : Index := Scalar.indexCast arg0
  let c0_22 : Index := 0#32
  ![v67.toNat, 0]
def k0_mult1 (i : grid0.Coords) : BitVec 32 :=
  let arg1 : BitVec 32 := BitVec.ofNat 32 (i 1).val
  let c512_i32 : BitVec 32 := 512#32
  let v3 : BitVec 32 := Scalar.muli arg1 c512_i32
  v3
def k0_off2 (i : grid0.Coords) : Fin 2 → Nat :=
  let arg0 : BitVec 32 := BitVec.ofNat 32 (i 0).val
  let v5 : Index := Scalar.indexCast arg0
  let arg1 : BitVec 32 := BitVec.ofNat 32 (i 1).val
  let c512_i32 : BitVec 32 := 512#32
  let v3 : BitVec 32 := Scalar.muli arg1 c512_i32
  let v4 : BitVec 32 := v3
  let v6 : Index := Scalar.indexCast v4
  ![v5.toNat, v6.toNat]
@[reducible] def k0_t1_loop : Scf.Loop 32 :=
  let c0_i32_2 : BitVec 32 := 0#32
  let c16_i32 : BitVec 32 := 16#32
  let v30 : BitVec 32 := Scalar.addi c0_i32_2 c16_i32
  let c1_i32 : BitVec 32 := 1#32
  ⟨c0_i32_2, v30, c1_i32⟩
def k0_mult2 (k0_t1 : Fin k0_t1_loop.trips) : BitVec 32 :=
  let c0_i32_2 : BitVec 32 := 0#32
  let c1_i32 : BitVec 32 := 1#32
  let arg12 : BitVec 32 := Scf.iv c0_i32_2 c1_i32 k0_t1
  let c32_i32 : BitVec 32 := 32#32
  let v67 : BitVec 32 := Scalar.muli arg12 c32_i32
  v67
def k0_off3 (k0_t1 : Fin k0_t1_loop.trips) : Fin 2 → Nat :=
  let c0_i32_2 : BitVec 32 := 0#32
  let c1_i32 : BitVec 32 := 1#32
  let arg12 : BitVec 32 := Scf.iv c0_i32_2 c1_i32 k0_t1
  let c32_i32 : BitVec 32 := 32#32
  let v67 : BitVec 32 := Scalar.muli arg12 c32_i32
  let v68 : BitVec 32 := v67
  let v69 : Index := Scalar.indexCast v68
  let c0_22 : Index := 0#32
  ![v69.toNat, 0]
def k0_off4 (k0_t1 : Fin k0_t1_loop.trips) : Fin 3 → Nat :=
  let c0_24 : Index := 0#32
  let c0_i32_2 : BitVec 32 := 0#32
  let c1_i32 : BitVec 32 := 1#32
  let arg12 : BitVec 32 := Scf.iv c0_i32_2 c1_i32 k0_t1
  let c32_i32 : BitVec 32 := 32#32
  let v67 : BitVec 32 := Scalar.muli arg12 c32_i32
  let v68 : BitVec 32 := v67
  let v72 : Index := Scalar.indexCast v68
  let c0_25 : Index := 0#32
  ![0, v72.toNat, 0]
def k0_off5 (k0_t1 : Fin k0_t1_loop.trips) : Fin 3 → Nat :=
  let c0_29 : Index := 0#32
  let c0_i32_2 : BitVec 32 := 0#32
  let c1_i32 : BitVec 32 := 1#32
  let arg12 : BitVec 32 := Scf.iv c0_i32_2 c1_i32 k0_t1
  let c32_i32 : BitVec 32 := 32#32
  let v67 : BitVec 32 := Scalar.muli arg12 c32_i32
  let v68 : BitVec 32 := v67
  let v94 : Index := Scalar.indexCast v68
  let c0_30 : Index := 0#32
  ![0, v94.toNat, 0]
def k0_off6 (k0_t1 : Fin k0_t1_loop.trips) : Fin 3 → Nat :=
  let c0_38 : Index := 0#32
  let c0_i32_2 : BitVec 32 := 0#32
  let c1_i32 : BitVec 32 := 1#32
  let arg12 : BitVec 32 := Scf.iv c0_i32_2 c1_i32 k0_t1
  let c32_i32 : BitVec 32 := 32#32
  let v67 : BitVec 32 := Scalar.muli arg12 c32_i32
  let v68 : BitVec 32 := v67
  let v115 : Index := Scalar.indexCast v68
  let c2048 : Index := 2048#32
  ![0, v115.toNat, 2048]
def k0_off7 (k0_t1 : Fin k0_t1_loop.trips) : Fin 3 → Nat :=
  let c0_46 : Index := 0#32
  let c0_i32_2 : BitVec 32 := 0#32
  let c1_i32 : BitVec 32 := 1#32
  let arg12 : BitVec 32 := Scf.iv c0_i32_2 c1_i32 k0_t1
  let c32_i32 : BitVec 32 := 32#32
  let v67 : BitVec 32 := Scalar.muli arg12 c32_i32
  let v68 : BitVec 32 := v67
  let v136 : Index := Scalar.indexCast v68
  let c128_47 : Index := 128#32
  ![0, v136.toNat, 128]
def k0_off8 (k0_t1 : Fin k0_t1_loop.trips) : Fin 3 → Nat :=
  let c0_54 : Index := 0#32
  let c0_i32_2 : BitVec 32 := 0#32
  let c1_i32 : BitVec 32 := 1#32
  let arg12 : BitVec 32 := Scf.iv c0_i32_2 c1_i32 k0_t1
  let c32_i32 : BitVec 32 := 32#32
  let v67 : BitVec 32 := Scalar.muli arg12 c32_i32
  let v68 : BitVec 32 := v67
  let v158 : Index := Scalar.indexCast v68
  let c128_55 : Index := 128#32
  ![0, v158.toNat, 128]
def k0_off9 (k0_t1 : Fin k0_t1_loop.trips) : Fin 3 → Nat :=
  let c0_63 : Index := 0#32
  let c0_i32_2 : BitVec 32 := 0#32
  let c1_i32 : BitVec 32 := 1#32
  let arg12 : BitVec 32 := Scf.iv c0_i32_2 c1_i32 k0_t1
  let c32_i32 : BitVec 32 := 32#32
  let v67 : BitVec 32 := Scalar.muli arg12 c32_i32
  let v68 : BitVec 32 := v67
  let v179 : Index := Scalar.indexCast v68
  let c2176 : Index := 2176#32
  ![0, v179.toNat, 2176]
def k0_off10 (k0_t1 : Fin k0_t1_loop.trips) : Fin 3 → Nat :=
  let c0_71 : Index := 0#32
  let c0_i32_2 : BitVec 32 := 0#32
  let c1_i32 : BitVec 32 := 1#32
  let arg12 : BitVec 32 := Scf.iv c0_i32_2 c1_i32 k0_t1
  let c32_i32 : BitVec 32 := 32#32
  let v67 : BitVec 32 := Scalar.muli arg12 c32_i32
  let v68 : BitVec 32 := v67
  let v200 : Index := Scalar.indexCast v68
  let c256_72 : Index := 256#32
  ![0, v200.toNat, 256]
def k0_off11 (k0_t1 : Fin k0_t1_loop.trips) : Fin 3 → Nat :=
  let c0_79 : Index := 0#32
  let c0_i32_2 : BitVec 32 := 0#32
  let c1_i32 : BitVec 32 := 1#32
  let arg12 : BitVec 32 := Scf.iv c0_i32_2 c1_i32 k0_t1
  let c32_i32 : BitVec 32 := 32#32
  let v67 : BitVec 32 := Scalar.muli arg12 c32_i32
  let v68 : BitVec 32 := v67
  let v222 : Index := Scalar.indexCast v68
  let c256_80 : Index := 256#32
  ![0, v222.toNat, 256]
def k0_off12 (k0_t1 : Fin k0_t1_loop.trips) : Fin 3 → Nat :=
  let c0_88 : Index := 0#32
  let c0_i32_2 : BitVec 32 := 0#32
  let c1_i32 : BitVec 32 := 1#32
  let arg12 : BitVec 32 := Scf.iv c0_i32_2 c1_i32 k0_t1
  let c32_i32 : BitVec 32 := 32#32
  let v67 : BitVec 32 := Scalar.muli arg12 c32_i32
  let v68 : BitVec 32 := v67
  let v243 : Index := Scalar.indexCast v68
  let c2304 : Index := 2304#32
  ![0, v243.toNat, 2304]
def k0_off13 (k0_t1 : Fin k0_t1_loop.trips) : Fin 3 → Nat :=
  let c0_96 : Index := 0#32
  let c0_i32_2 : BitVec 32 := 0#32
  let c1_i32 : BitVec 32 := 1#32
  let arg12 : BitVec 32 := Scf.iv c0_i32_2 c1_i32 k0_t1
  let c32_i32 : BitVec 32 := 32#32
  let v67 : BitVec 32 := Scalar.muli arg12 c32_i32
  let v68 : BitVec 32 := v67
  let v264 : Index := Scalar.indexCast v68
  let c384_97 : Index := 384#32
  ![0, v264.toNat, 384]
def k0_off14 (k0_t1 : Fin k0_t1_loop.trips) : Fin 3 → Nat :=
  let c0_104 : Index := 0#32
  let c0_i32_2 : BitVec 32 := 0#32
  let c1_i32 : BitVec 32 := 1#32
  let arg12 : BitVec 32 := Scf.iv c0_i32_2 c1_i32 k0_t1
  let c32_i32 : BitVec 32 := 32#32
  let v67 : BitVec 32 := Scalar.muli arg12 c32_i32
  let v68 : BitVec 32 := v67
  let v286 : Index := Scalar.indexCast v68
  let c384_105 : Index := 384#32
  ![0, v286.toNat, 384]
def k0_off15 (k0_t1 : Fin k0_t1_loop.trips) : Fin 3 → Nat :=
  let c0_113 : Index := 0#32
  let c0_i32_2 : BitVec 32 := 0#32
  let c1_i32 : BitVec 32 := 1#32
  let arg12 : BitVec 32 := Scf.iv c0_i32_2 c1_i32 k0_t1
  let c32_i32 : BitVec 32 := 32#32
  let v67 : BitVec 32 := Scalar.muli arg12 c32_i32
  let v68 : BitVec 32 := v67
  let v307 : Index := Scalar.indexCast v68
  let c2432 : Index := 2432#32
  ![0, v307.toNat, 2432]
def k0_off16 (k0_t1 : Fin k0_t1_loop.trips) : Fin 3 → Nat :=
  let c0_121 : Index := 0#32
  let c0_i32_2 : BitVec 32 := 0#32
  let c1_i32 : BitVec 32 := 1#32
  let arg12 : BitVec 32 := Scf.iv c0_i32_2 c1_i32 k0_t1
  let c32_i32 : BitVec 32 := 32#32
  let v67 : BitVec 32 := Scalar.muli arg12 c32_i32
  let v68 : BitVec 32 := v67
  let v328 : Index := Scalar.indexCast v68
  let c512 : Index := 512#32
  ![0, v328.toNat, 512]
def k0_off17 (k0_t1 : Fin k0_t1_loop.trips) : Fin 3 → Nat :=
  let c0_128 : Index := 0#32
  let c0_i32_2 : BitVec 32 := 0#32
  let c1_i32 : BitVec 32 := 1#32
  let arg12 : BitVec 32 := Scf.iv c0_i32_2 c1_i32 k0_t1
  let c32_i32 : BitVec 32 := 32#32
  let v67 : BitVec 32 := Scalar.muli arg12 c32_i32
  let v68 : BitVec 32 := v67
  let v350 : Index := Scalar.indexCast v68
  let c512_129 : Index := 512#32
  ![0, v350.toNat, 512]
def k0_off18 (k0_t1 : Fin k0_t1_loop.trips) : Fin 3 → Nat :=
  let c0_137 : Index := 0#32
  let c0_i32_2 : BitVec 32 := 0#32
  let c1_i32 : BitVec 32 := 1#32
  let arg12 : BitVec 32 := Scf.iv c0_i32_2 c1_i32 k0_t1
  let c32_i32 : BitVec 32 := 32#32
  let v67 : BitVec 32 := Scalar.muli arg12 c32_i32
  let v68 : BitVec 32 := v67
  let v371 : Index := Scalar.indexCast v68
  let c2560 : Index := 2560#32
  ![0, v371.toNat, 2560]
def k0_off19 (k0_t1 : Fin k0_t1_loop.trips) : Fin 3 → Nat :=
  let c0_145 : Index := 0#32
  let c0_i32_2 : BitVec 32 := 0#32
  let c1_i32 : BitVec 32 := 1#32
  let arg12 : BitVec 32 := Scf.iv c0_i32_2 c1_i32 k0_t1
  let c32_i32 : BitVec 32 := 32#32
  let v67 : BitVec 32 := Scalar.muli arg12 c32_i32
  let v68 : BitVec 32 := v67
  let v392 : Index := Scalar.indexCast v68
  let c640 : Index := 640#32
  ![0, v392.toNat, 640]
def k0_off20 (k0_t1 : Fin k0_t1_loop.trips) : Fin 3 → Nat :=
  let c0_152 : Index := 0#32
  let c0_i32_2 : BitVec 32 := 0#32
  let c1_i32 : BitVec 32 := 1#32
  let arg12 : BitVec 32 := Scf.iv c0_i32_2 c1_i32 k0_t1
  let c32_i32 : BitVec 32 := 32#32
  let v67 : BitVec 32 := Scalar.muli arg12 c32_i32
  let v68 : BitVec 32 := v67
  let v414 : Index := Scalar.indexCast v68
  let c640_153 : Index := 640#32
  ![0, v414.toNat, 640]
def k0_off21 (k0_t1 : Fin k0_t1_loop.trips) : Fin 3 → Nat :=
  let c0_161 : Index := 0#32
  let c0_i32_2 : BitVec 32 := 0#32
  let c1_i32 : BitVec 32 := 1#32
  let arg12 : BitVec 32 := Scf.iv c0_i32_2 c1_i32 k0_t1
  let c32_i32 : BitVec 32 := 32#32
  let v67 : BitVec 32 := Scalar.muli arg12 c32_i32
  let v68 : BitVec 32 := v67
  let v435 : Index := Scalar.indexCast v68
  let c2688 : Index := 2688#32
  ![0, v435.toNat, 2688]
def k0_off22 (k0_t1 : Fin k0_t1_loop.trips) : Fin 3 → Nat :=
  let c0_169 : Index := 0#32
  let c0_i32_2 : BitVec 32 := 0#32
  let c1_i32 : BitVec 32 := 1#32
  let arg12 : BitVec 32 := Scf.iv c0_i32_2 c1_i32 k0_t1
  let c32_i32 : BitVec 32 := 32#32
  let v67 : BitVec 32 := Scalar.muli arg12 c32_i32
  let v68 : BitVec 32 := v67
  let v456 : Index := Scalar.indexCast v68
  let c768 : Index := 768#32
  ![0, v456.toNat, 768]
def k0_off23 (k0_t1 : Fin k0_t1_loop.trips) : Fin 3 → Nat :=
  let c0_176 : Index := 0#32
  let c0_i32_2 : BitVec 32 := 0#32
  let c1_i32 : BitVec 32 := 1#32
  let arg12 : BitVec 32 := Scf.iv c0_i32_2 c1_i32 k0_t1
  let c32_i32 : BitVec 32 := 32#32
  let v67 : BitVec 32 := Scalar.muli arg12 c32_i32
  let v68 : BitVec 32 := v67
  let v478 : Index := Scalar.indexCast v68
  let c768_177 : Index := 768#32
  ![0, v478.toNat, 768]
def k0_off24 (k0_t1 : Fin k0_t1_loop.trips) : Fin 3 → Nat :=
  let c0_185 : Index := 0#32
  let c0_i32_2 : BitVec 32 := 0#32
  let c1_i32 : BitVec 32 := 1#32
  let arg12 : BitVec 32 := Scf.iv c0_i32_2 c1_i32 k0_t1
  let c32_i32 : BitVec 32 := 32#32
  let v67 : BitVec 32 := Scalar.muli arg12 c32_i32
  let v68 : BitVec 32 := v67
  let v499 : Index := Scalar.indexCast v68
  let c2816 : Index := 2816#32
  ![0, v499.toNat, 2816]
def k0_off25 (k0_t1 : Fin k0_t1_loop.trips) : Fin 3 → Nat :=
  let c0_193 : Index := 0#32
  let c0_i32_2 : BitVec 32 := 0#32
  let c1_i32 : BitVec 32 := 1#32
  let arg12 : BitVec 32 := Scf.iv c0_i32_2 c1_i32 k0_t1
  let c32_i32 : BitVec 32 := 32#32
  let v67 : BitVec 32 := Scalar.muli arg12 c32_i32
  let v68 : BitVec 32 := v67
  let v520 : Index := Scalar.indexCast v68
  let c896 : Index := 896#32
  ![0, v520.toNat, 896]
def k0_off26 (k0_t1 : Fin k0_t1_loop.trips) : Fin 3 → Nat :=
  let c0_200 : Index := 0#32
  let c0_i32_2 : BitVec 32 := 0#32
  let c1_i32 : BitVec 32 := 1#32
  let arg12 : BitVec 32 := Scf.iv c0_i32_2 c1_i32 k0_t1
  let c32_i32 : BitVec 32 := 32#32
  let v67 : BitVec 32 := Scalar.muli arg12 c32_i32
  let v68 : BitVec 32 := v67
  let v542 : Index := Scalar.indexCast v68
  let c896_201 : Index := 896#32
  ![0, v542.toNat, 896]
def k0_off27 (k0_t1 : Fin k0_t1_loop.trips) : Fin 3 → Nat :=
  let c0_209 : Index := 0#32
  let c0_i32_2 : BitVec 32 := 0#32
  let c1_i32 : BitVec 32 := 1#32
  let arg12 : BitVec 32 := Scf.iv c0_i32_2 c1_i32 k0_t1
  let c32_i32 : BitVec 32 := 32#32
  let v67 : BitVec 32 := Scalar.muli arg12 c32_i32
  let v68 : BitVec 32 := v67
  let v563 : Index := Scalar.indexCast v68
  let c2944 : Index := 2944#32
  ![0, v563.toNat, 2944]
def k0_off28 (k0_t1 : Fin k0_t1_loop.trips) : Fin 3 → Nat :=
  let c0_217 : Index := 0#32
  let c0_i32_2 : BitVec 32 := 0#32
  let c1_i32 : BitVec 32 := 1#32
  let arg12 : BitVec 32 := Scf.iv c0_i32_2 c1_i32 k0_t1
  let c32_i32 : BitVec 32 := 32#32
  let v67 : BitVec 32 := Scalar.muli arg12 c32_i32
  let v68 : BitVec 32 := v67
  let v584 : Index := Scalar.indexCast v68
  let c1024 : Index := 1024#32
  ![0, v584.toNat, 1024]
def k0_off29 (k0_t1 : Fin k0_t1_loop.trips) : Fin 3 → Nat :=
  let c0_224 : Index := 0#32
  let c0_i32_2 : BitVec 32 := 0#32
  let c1_i32 : BitVec 32 := 1#32
  let arg12 : BitVec 32 := Scf.iv c0_i32_2 c1_i32 k0_t1
  let c32_i32 : BitVec 32 := 32#32
  let v67 : BitVec 32 := Scalar.muli arg12 c32_i32
  let v68 : BitVec 32 := v67
  let v606 : Index := Scalar.indexCast v68
  let c1024_225 : Index := 1024#32
  ![0, v606.toNat, 1024]
def k0_off30 (k0_t1 : Fin k0_t1_loop.trips) : Fin 3 → Nat :=
  let c0_233 : Index := 0#32
  let c0_i32_2 : BitVec 32 := 0#32
  let c1_i32 : BitVec 32 := 1#32
  let arg12 : BitVec 32 := Scf.iv c0_i32_2 c1_i32 k0_t1
  let c32_i32 : BitVec 32 := 32#32
  let v67 : BitVec 32 := Scalar.muli arg12 c32_i32
  let v68 : BitVec 32 := v67
  let v627 : Index := Scalar.indexCast v68
  let c3072 : Index := 3072#32
  ![0, v627.toNat, 3072]
def k0_off31 (k0_t1 : Fin k0_t1_loop.trips) : Fin 3 → Nat :=
  let c0_241 : Index := 0#32
  let c0_i32_2 : BitVec 32 := 0#32
  let c1_i32 : BitVec 32 := 1#32
  let arg12 : BitVec 32 := Scf.iv c0_i32_2 c1_i32 k0_t1
  let c32_i32 : BitVec 32 := 32#32
  let v67 : BitVec 32 := Scalar.muli arg12 c32_i32
  let v68 : BitVec 32 := v67
  let v648 : Index := Scalar.indexCast v68
  let c1152 : Index := 1152#32
  ![0, v648.toNat, 1152]
def k0_off32 (k0_t1 : Fin k0_t1_loop.trips) : Fin 3 → Nat :=
  let c0_248 : Index := 0#32
  let c0_i32_2 : BitVec 32 := 0#32
  let c1_i32 : BitVec 32 := 1#32
  let arg12 : BitVec 32 := Scf.iv c0_i32_2 c1_i32 k0_t1
  let c32_i32 : BitVec 32 := 32#32
  let v67 : BitVec 32 := Scalar.muli arg12 c32_i32
  let v68 : BitVec 32 := v67
  let v670 : Index := Scalar.indexCast v68
  let c1152_249 : Index := 1152#32
  ![0, v670.toNat, 1152]
def k0_off33 (k0_t1 : Fin k0_t1_loop.trips) : Fin 3 → Nat :=
  let c0_257 : Index := 0#32
  let c0_i32_2 : BitVec 32 := 0#32
  let c1_i32 : BitVec 32 := 1#32
  let arg12 : BitVec 32 := Scf.iv c0_i32_2 c1_i32 k0_t1
  let c32_i32 : BitVec 32 := 32#32
  let v67 : BitVec 32 := Scalar.muli arg12 c32_i32
  let v68 : BitVec 32 := v67
  let v691 : Index := Scalar.indexCast v68
  let c3200 : Index := 3200#32
  ![0, v691.toNat, 3200]
def k0_off34 (k0_t1 : Fin k0_t1_loop.trips) : Fin 3 → Nat :=
  let c0_265 : Index := 0#32
  let c0_i32_2 : BitVec 32 := 0#32
  let c1_i32 : BitVec 32 := 1#32
  let arg12 : BitVec 32 := Scf.iv c0_i32_2 c1_i32 k0_t1
  let c32_i32 : BitVec 32 := 32#32
  let v67 : BitVec 32 := Scalar.muli arg12 c32_i32
  let v68 : BitVec 32 := v67
  let v712 : Index := Scalar.indexCast v68
  let c1280 : Index := 1280#32
  ![0, v712.toNat, 1280]
def k0_off35 (k0_t1 : Fin k0_t1_loop.trips) : Fin 3 → Nat :=
  let c0_272 : Index := 0#32
  let c0_i32_2 : BitVec 32 := 0#32
  let c1_i32 : BitVec 32 := 1#32
  let arg12 : BitVec 32 := Scf.iv c0_i32_2 c1_i32 k0_t1
  let c32_i32 : BitVec 32 := 32#32
  let v67 : BitVec 32 := Scalar.muli arg12 c32_i32
  let v68 : BitVec 32 := v67
  let v734 : Index := Scalar.indexCast v68
  let c1280_273 : Index := 1280#32
  ![0, v734.toNat, 1280]
def k0_off36 (k0_t1 : Fin k0_t1_loop.trips) : Fin 3 → Nat :=
  let c0_281 : Index := 0#32
  let c0_i32_2 : BitVec 32 := 0#32
  let c1_i32 : BitVec 32 := 1#32
  let arg12 : BitVec 32 := Scf.iv c0_i32_2 c1_i32 k0_t1
  let c32_i32 : BitVec 32 := 32#32
  let v67 : BitVec 32 := Scalar.muli arg12 c32_i32
  let v68 : BitVec 32 := v67
  let v755 : Index := Scalar.indexCast v68
  let c3328 : Index := 3328#32
  ![0, v755.toNat, 3328]
def k0_off37 (k0_t1 : Fin k0_t1_loop.trips) : Fin 3 → Nat :=
  let c0_289 : Index := 0#32
  let c0_i32_2 : BitVec 32 := 0#32
  let c1_i32 : BitVec 32 := 1#32
  let arg12 : BitVec 32 := Scf.iv c0_i32_2 c1_i32 k0_t1
  let c32_i32 : BitVec 32 := 32#32
  let v67 : BitVec 32 := Scalar.muli arg12 c32_i32
  let v68 : BitVec 32 := v67
  let v776 : Index := Scalar.indexCast v68
  let c1408 : Index := 1408#32
  ![0, v776.toNat, 1408]
def k0_off38 (k0_t1 : Fin k0_t1_loop.trips) : Fin 3 → Nat :=
  let c0_296 : Index := 0#32
  let c0_i32_2 : BitVec 32 := 0#32
  let c1_i32 : BitVec 32 := 1#32
  let arg12 : BitVec 32 := Scf.iv c0_i32_2 c1_i32 k0_t1
  let c32_i32 : BitVec 32 := 32#32
  let v67 : BitVec 32 := Scalar.muli arg12 c32_i32
  let v68 : BitVec 32 := v67
  let v798 : Index := Scalar.indexCast v68
  let c1408_297 : Index := 1408#32
  ![0, v798.toNat, 1408]
def k0_off39 (k0_t1 : Fin k0_t1_loop.trips) : Fin 3 → Nat :=
  let c0_305 : Index := 0#32
  let c0_i32_2 : BitVec 32 := 0#32
  let c1_i32 : BitVec 32 := 1#32
  let arg12 : BitVec 32 := Scf.iv c0_i32_2 c1_i32 k0_t1
  let c32_i32 : BitVec 32 := 32#32
  let v67 : BitVec 32 := Scalar.muli arg12 c32_i32
  let v68 : BitVec 32 := v67
  let v819 : Index := Scalar.indexCast v68
  let c3456 : Index := 3456#32
  ![0, v819.toNat, 3456]
def k0_off40 (k0_t1 : Fin k0_t1_loop.trips) : Fin 3 → Nat :=
  let c0_313 : Index := 0#32
  let c0_i32_2 : BitVec 32 := 0#32
  let c1_i32 : BitVec 32 := 1#32
  let arg12 : BitVec 32 := Scf.iv c0_i32_2 c1_i32 k0_t1
  let c32_i32 : BitVec 32 := 32#32
  let v67 : BitVec 32 := Scalar.muli arg12 c32_i32
  let v68 : BitVec 32 := v67
  let v840 : Index := Scalar.indexCast v68
  let c1536 : Index := 1536#32
  ![0, v840.toNat, 1536]
def k0_off41 (k0_t1 : Fin k0_t1_loop.trips) : Fin 3 → Nat :=
  let c0_320 : Index := 0#32
  let c0_i32_2 : BitVec 32 := 0#32
  let c1_i32 : BitVec 32 := 1#32
  let arg12 : BitVec 32 := Scf.iv c0_i32_2 c1_i32 k0_t1
  let c32_i32 : BitVec 32 := 32#32
  let v67 : BitVec 32 := Scalar.muli arg12 c32_i32
  let v68 : BitVec 32 := v67
  let v862 : Index := Scalar.indexCast v68
  let c1536_321 : Index := 1536#32
  ![0, v862.toNat, 1536]
def k0_off42 (k0_t1 : Fin k0_t1_loop.trips) : Fin 3 → Nat :=
  let c0_329 : Index := 0#32
  let c0_i32_2 : BitVec 32 := 0#32
  let c1_i32 : BitVec 32 := 1#32
  let arg12 : BitVec 32 := Scf.iv c0_i32_2 c1_i32 k0_t1
  let c32_i32 : BitVec 32 := 32#32
  let v67 : BitVec 32 := Scalar.muli arg12 c32_i32
  let v68 : BitVec 32 := v67
  let v883 : Index := Scalar.indexCast v68
  let c3584 : Index := 3584#32
  ![0, v883.toNat, 3584]
def k0_off43 (k0_t1 : Fin k0_t1_loop.trips) : Fin 3 → Nat :=
  let c0_337 : Index := 0#32
  let c0_i32_2 : BitVec 32 := 0#32
  let c1_i32 : BitVec 32 := 1#32
  let arg12 : BitVec 32 := Scf.iv c0_i32_2 c1_i32 k0_t1
  let c32_i32 : BitVec 32 := 32#32
  let v67 : BitVec 32 := Scalar.muli arg12 c32_i32
  let v68 : BitVec 32 := v67
  let v904 : Index := Scalar.indexCast v68
  let c1664 : Index := 1664#32
  ![0, v904.toNat, 1664]
def k0_off44 (k0_t1 : Fin k0_t1_loop.trips) : Fin 3 → Nat :=
  let c0_344 : Index := 0#32
  let c0_i32_2 : BitVec 32 := 0#32
  let c1_i32 : BitVec 32 := 1#32
  let arg12 : BitVec 32 := Scf.iv c0_i32_2 c1_i32 k0_t1
  let c32_i32 : BitVec 32 := 32#32
  let v67 : BitVec 32 := Scalar.muli arg12 c32_i32
  let v68 : BitVec 32 := v67
  let v926 : Index := Scalar.indexCast v68
  let c1664_345 : Index := 1664#32
  ![0, v926.toNat, 1664]
def k0_off45 (k0_t1 : Fin k0_t1_loop.trips) : Fin 3 → Nat :=
  let c0_353 : Index := 0#32
  let c0_i32_2 : BitVec 32 := 0#32
  let c1_i32 : BitVec 32 := 1#32
  let arg12 : BitVec 32 := Scf.iv c0_i32_2 c1_i32 k0_t1
  let c32_i32 : BitVec 32 := 32#32
  let v67 : BitVec 32 := Scalar.muli arg12 c32_i32
  let v68 : BitVec 32 := v67
  let v947 : Index := Scalar.indexCast v68
  let c3712 : Index := 3712#32
  ![0, v947.toNat, 3712]
def k0_off46 (k0_t1 : Fin k0_t1_loop.trips) : Fin 3 → Nat :=
  let c0_361 : Index := 0#32
  let c0_i32_2 : BitVec 32 := 0#32
  let c1_i32 : BitVec 32 := 1#32
  let arg12 : BitVec 32 := Scf.iv c0_i32_2 c1_i32 k0_t1
  let c32_i32 : BitVec 32 := 32#32
  let v67 : BitVec 32 := Scalar.muli arg12 c32_i32
  let v68 : BitVec 32 := v67
  let v968 : Index := Scalar.indexCast v68
  let c1792 : Index := 1792#32
  ![0, v968.toNat, 1792]
def k0_off47 (k0_t1 : Fin k0_t1_loop.trips) : Fin 3 → Nat :=
  let c0_368 : Index := 0#32
  let c0_i32_2 : BitVec 32 := 0#32
  let c1_i32 : BitVec 32 := 1#32
  let arg12 : BitVec 32 := Scf.iv c0_i32_2 c1_i32 k0_t1
  let c32_i32 : BitVec 32 := 32#32
  let v67 : BitVec 32 := Scalar.muli arg12 c32_i32
  let v68 : BitVec 32 := v67
  let v990 : Index := Scalar.indexCast v68
  let c1792_369 : Index := 1792#32
  ![0, v990.toNat, 1792]
def k0_off48 (k0_t1 : Fin k0_t1_loop.trips) : Fin 3 → Nat :=
  let c0_377 : Index := 0#32
  let c0_i32_2 : BitVec 32 := 0#32
  let c1_i32 : BitVec 32 := 1#32
  let arg12 : BitVec 32 := Scf.iv c0_i32_2 c1_i32 k0_t1
  let c32_i32 : BitVec 32 := 32#32
  let v67 : BitVec 32 := Scalar.muli arg12 c32_i32
  let v68 : BitVec 32 := v67
  let v1011 : Index := Scalar.indexCast v68
  let c3840 : Index := 3840#32
  ![0, v1011.toNat, 3840]
def k0_off49 (k0_t1 : Fin k0_t1_loop.trips) : Fin 3 → Nat :=
  let c0_385 : Index := 0#32
  let c0_i32_2 : BitVec 32 := 0#32
  let c1_i32 : BitVec 32 := 1#32
  let arg12 : BitVec 32 := Scf.iv c0_i32_2 c1_i32 k0_t1
  let c32_i32 : BitVec 32 := 32#32
  let v67 : BitVec 32 := Scalar.muli arg12 c32_i32
  let v68 : BitVec 32 := v67
  let v1032 : Index := Scalar.indexCast v68
  let c1920 : Index := 1920#32
  ![0, v1032.toNat, 1920]
def k0_off50 (k0_t1 : Fin k0_t1_loop.trips) : Fin 3 → Nat :=
  let c0_392 : Index := 0#32
  let c0_i32_2 : BitVec 32 := 0#32
  let c1_i32 : BitVec 32 := 1#32
  let arg12 : BitVec 32 := Scf.iv c0_i32_2 c1_i32 k0_t1
  let c32_i32 : BitVec 32 := 32#32
  let v67 : BitVec 32 := Scalar.muli arg12 c32_i32
  let v68 : BitVec 32 := v67
  let v1054 : Index := Scalar.indexCast v68
  let c1920_393 : Index := 1920#32
  ![0, v1054.toNat, 1920]
def k0_off51 (k0_t1 : Fin k0_t1_loop.trips) : Fin 3 → Nat :=
  let c0_401 : Index := 0#32
  let c0_i32_2 : BitVec 32 := 0#32
  let c1_i32 : BitVec 32 := 1#32
  let arg12 : BitVec 32 := Scf.iv c0_i32_2 c1_i32 k0_t1
  let c32_i32 : BitVec 32 := 32#32
  let v67 : BitVec 32 := Scalar.muli arg12 c32_i32
  let v68 : BitVec 32 := v67
  let v1075 : Index := Scalar.indexCast v68
  let c3968 : Index := 3968#32
  ![0, v1075.toNat, 3968]
def k0_cond2 (i : grid0.Coords) : BitVec 1 :=
  let arg0 : BitVec 32 := BitVec.ofNat 32 (i 0).val
  let c0_i32_13 : BitVec 32 := 0#32
  let v51 : BitVec 1 := Scalar.cmpi .eq arg0 c0_i32_13
  let v52 : BitVec 32 := Scalar.extui v51
  let c0_i32_14 : BitVec 32 := 0#32
  let v53 : BitVec 1 := Scalar.cmpi .ne v52 c0_i32_14
  v53

def k0_off52 (i : grid0.Coords) (c0_i32_22 : BitVec 32) : Fin 2 → Nat :=
  let c0_23 : Index := 0#32
  let arg1 : BitVec 32 := BitVec.ofNat 32 (i 1).val
  let c512_i32 : BitVec 32 := 512#32
  let v3 : BitVec 32 := Scalar.muli arg1 c512_i32
  let v4 : BitVec 32 := v3
  let v67 : BitVec 32 := Scalar.addi v4 c0_i32_22
  let v68 : Index := Scalar.indexCast v67
  ![0, v68.toNat]
def k0_cond4 (i : grid0.Coords) : BitVec 1 :=
  let arg0 : BitVec 32 := BitVec.ofNat 32 (i 0).val
  let c1_i32_17 : BitVec 32 := 1#32
  let v59 : BitVec 1 := Scalar.cmpi .eq arg0 c1_i32_17
  let v60 : BitVec 32 := Scalar.extui v59
  let c0_i32_18 : BitVec 32 := 0#32
  let v61 : BitVec 1 := Scalar.cmpi .ne v60 c0_i32_18
  v61

def k0_off53 (i : grid0.Coords) (c0_i32_22 : BitVec 32) : Fin 2 → Nat :=
  let c1 : Index := 1#32
  let arg1 : BitVec 32 := BitVec.ofNat 32 (i 1).val
  let c512_i32 : BitVec 32 := 512#32
  let v3 : BitVec 32 := Scalar.muli arg1 c512_i32
  let v4 : BitVec 32 := v3
  let v67 : BitVec 32 := Scalar.addi v4 c0_i32_22
  let v68 : Index := Scalar.indexCast v67
  ![1, v68.toNat]
def k0_cond3 (i : grid0.Coords) : BitVec 1 :=
  let arg0 : BitVec 32 := BitVec.ofNat 32 (i 0).val
  let c0_i32_15 : BitVec 32 := 0#32
  let v54 : BitVec 1 := Scalar.cmpi .eq arg0 c0_i32_15
  let arg1 : BitVec 32 := BitVec.ofNat 32 (i 1).val
  let c27_i32 : BitVec 32 := 27#32
  let v55 : BitVec 1 := Scalar.cmpi .eq arg1 c27_i32
  let v56 : BitVec 1 := Scalar.andi v54 v55
  let v57 : BitVec 32 := Scalar.extui v56
  let c0_i32_16 : BitVec 32 := 0#32
  let v58 : BitVec 1 := Scalar.cmpi .ne v57 c0_i32_16
  v58

def k0_cond5 (i : grid0.Coords) : BitVec 1 :=
  let arg0 : BitVec 32 := BitVec.ofNat 32 (i 0).val
  let c1_i32_19 : BitVec 32 := 1#32
  let v62 : BitVec 1 := Scalar.cmpi .eq arg0 c1_i32_19
  let arg1 : BitVec 32 := BitVec.ofNat 32 (i 1).val
  let c27_i32_20 : BitVec 32 := 27#32
  let v63 : BitVec 1 := Scalar.cmpi .eq arg1 c27_i32_20
  let v64 : BitVec 1 := Scalar.andi v62 v63
  let v65 : BitVec 32 := Scalar.extui v64
  let c0_i32_21 : BitVec 32 := 0#32
  let v66 : BitVec 1 := Scalar.cmpi .ne v65 c0_i32_21
  v66

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2x14336 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S2x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x2048 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S2x14336 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]
-- ==== StatsIdeal.lean ====
variable {F : FTy → Type} [FloatOps F] [Named F]
def κ : String → Option EReal := fun
  | "k2" => some ((1 / 1000 : ℝ) : EReal)
  | _ => none
-- ==== StatsReferenceIdeal.lean ====
abbrev S2x14336 : Shape := ⟨2, ![2, 14336]⟩
abbrev S2x4096 : Shape := ⟨2, ![2, 4096]⟩
abbrev S2x14336x4096 : Shape := ⟨3, ![2, 14336, 4096]⟩
abbrev S2x14336x2048 : Shape := ⟨3, ![2, 14336, 2048]⟩
abbrev S_ : Shape := ⟨0, ![]⟩
abbrev S2x14336x1 : Shape := ⟨3, ![2, 14336, 1]⟩
abbrev S2x1x4096 : Shape := ⟨3, ![2, 1, 4096]⟩

abbrev nBuf : Space → Nat
  | .hbm => 42
  | .vmem => 0
  | .smem => 0
  | _ => 0

abbrev bufTy : (tb : Table) → Fin (tcTables nBuf tb) → BufTy
  | .hbm, ⟨0, _⟩ => ⟨S2x14336, .f32⟩
  | .hbm, ⟨1, _⟩ => ⟨S2x4096, .f32⟩
  | .hbm, ⟨2, _⟩ => ⟨S2x14336x4096, .bf16⟩
  | .hbm, ⟨3, _⟩ => ⟨S2x14336x2048, .i8⟩
  | .hbm, ⟨4, _⟩ => ⟨S2x14336x4096, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S2x14336x2048, .i32⟩
  | .hbm, ⟨9, _⟩ => ⟨S_, .i32⟩
  | .hbm, ⟨10, _⟩ => ⟨S2x14336x2048, .i32⟩
  | .hbm, ⟨11, _⟩ => ⟨S2x14336x2048, .i32⟩
  | .hbm, ⟨12, _⟩ => ⟨S_, .i32⟩
  | .hbm, ⟨13, _⟩ => ⟨S2x14336x2048, .i32⟩
  | .hbm, ⟨14, _⟩ => ⟨S2x14336x2048, .i32⟩
  | .hbm, ⟨15, _⟩ => ⟨S2x14336x4096, .i32⟩
  | .hbm, ⟨16, _⟩ => ⟨S2x14336x4096, .f32⟩
  | .hbm, ⟨17, _⟩ => ⟨S_, .f32⟩
  | .hbm, ⟨18, _⟩ => ⟨S2x14336x4096, .f32⟩
  | .hbm, ⟨19, _⟩ => ⟨S2x14336x4096, .f32⟩
  | .hbm, ⟨20, _⟩ => ⟨S_, .f32⟩
  | .hbm, ⟨21, _⟩ => ⟨S2x14336x4096, .f32⟩
  | .hbm, ⟨22, _⟩ => ⟨S2x14336x4096, .f32⟩
  | .hbm, ⟨23, _⟩ => ⟨S2x14336x1, .f32⟩
  | .hbm, ⟨24, _⟩ => ⟨S2x1x4096, .f32⟩
  | .hbm, ⟨25, _⟩ => ⟨S2x14336x4096, .f32⟩
  | .hbm, ⟨26, _⟩ => ⟨S2x14336x4096, .f32⟩
  | .hbm, ⟨27, _⟩ => ⟨S2x14336x4096, .f32⟩
  | .hbm, ⟨28, _⟩ => ⟨S2x14336x4096, .f32⟩
  | .hbm, ⟨29, _⟩ => ⟨S2x14336x4096, .f32⟩
  | .hbm, ⟨30, _⟩ => ⟨S2x14336x4096, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S2x14336x4096, .f32⟩
  | .hbm, ⟨35, _⟩ => ⟨S2x14336x4096, .f32⟩
  | .hbm, ⟨36, _⟩ => ⟨S2x14336x4096, .f32⟩
  | .hbm, ⟨37, _⟩ => ⟨S2x14336x4096, .f32⟩
  | .hbm, ⟨38, _⟩ => ⟨S_, .f32⟩
  | .hbm, ⟨39, _⟩ => ⟨S2x14336, .f32⟩
  | .hbm, ⟨40, _⟩ => ⟨S_, .f32⟩
  | .hbm, ⟨41, _⟩ => ⟨S2x4096, .f32⟩
  | _, _ => ⟨S2x14336, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩

abbrev nD : Nat := 1
abbrev τ : Topo := Topo.v7x

variable {F : FTy → Type} [FloatOps F]
-- ==== Proof.BitsBase.lean ====
module

public import proofs.«01_k».proof.Proof.Gen.Stats.Frame
public import proofs.«01_k».proof.Proof.Gen.Stats.Skeleton
public import proofs.«01_k».proof.Proof.Gen.Stats.Loops

@[expose] public section

set_option maxRecDepth 16384

noncomputable section

namespace Cert.Stats.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)
open Cert.Stats.Gen

variable {F : FTy → Type} [BitOps F]

local notation "𝕄" => MT nD τ sig Unit (Elt F) ℕ (UR sig nD τ) ℕ

/-! ## The branch conditions of a point, by its number -/

theorem cond1_iff : ∀ t : Fin cfg0.N, k0_cond1 (grid0.coords t) = 1#1 ↔ t.val % 28 = 0 :=
  (fun t => by
    have ht : t.val < 56 := Nat.lt_of_lt_of_eq t.isLt N_0
    have e0 : (grid0.coords t 0).val = t.val / 28 % 2 := Pipeline.Grid.coords_val t 0 (by decide) rfl
    have e1 : (grid0.coords t 1).val = t.val / 1 % 28 := Pipeline.Grid.coords_val t 1 (by decide) rfl
    simp only [k0_cond1, e0, e1]
    word_cmp
   : ∀ t : Fin grid0.N, k0_cond1 (grid0.coords t) = 1#1 ↔ t.val % 28 = 0)

theorem cond2_iff : ∀ t : Fin cfg0.N, k0_cond2 (grid0.coords t) = 1#1 ↔ t.val / 28 % 2 = 0 :=
  (fun t => by
    have ht : t.val < 56 := Nat.lt_of_lt_of_eq t.isLt N_0
    have e0 : (grid0.coords t 0).val = t.val / 28 % 2 := Pipeline.Grid.coords_val t 0 (by decide) rfl
    have e1 : (grid0.coords t 1).val = t.val / 1 % 28 := Pipeline.Grid.coords_val t 1 (by decide) rfl
    simp only [k0_cond2, e0, e1]
    word_cmp
   : ∀ t : Fin grid0.N, k0_cond2 (grid0.coords t) = 1#1 ↔ t.val / 28 % 2 = 0)

theorem cond3_iff : ∀ t : Fin cfg0.N, k0_cond3 (grid0.coords t) = 1#1 ↔ t.val / 28 % 2 = 0 ∧ t.val % 28 = 27 :=
  (fun t => by
    have ht : t.val < 56 := Nat.lt_of_lt_of_eq t.isLt N_0
    have e0 : (grid0.coords t 0).val = t.val / 28 % 2 := Pipeline.Grid.coords_val t 0 (by decide) rfl
    have e1 : (grid0.coords t 1).val = t.val / 1 % 28 := Pipeline.Grid.coords_val t 1 (by decide) rfl
    simp only [k0_cond3, e0, e1]
    word_cmp
   : ∀ t : Fin grid0.N, k0_cond3 (grid0.coords t) = 1#1 ↔ t.val / 28 % 2 = 0 ∧ t.val % 28 = 27)

theorem cond4_iff : ∀ t : Fin cfg0.N, k0_cond4 (grid0.coords t) = 1#1 ↔ t.val / 28 % 2 = 1 :=
  (fun t => by
    have ht : t.val < 56 := Nat.lt_of_lt_of_eq t.isLt N_0
    have e0 : (grid0.coords t 0).val = t.val / 28 % 2 := Pipeline.Grid.coords_val t 0 (by decide) rfl
    have e1 : (grid0.coords t 1).val = t.val / 1 % 28 := Pipeline.Grid.coords_val t 1 (by decide) rfl
    simp only [k0_cond4, e0, e1]
    word_cmp
   : ∀ t : Fin grid0.N, k0_cond4 (grid0.coords t) = 1#1 ↔ t.val / 28 % 2 = 1)

theorem cond5_iff : ∀ t : Fin cfg0.N, k0_cond5 (grid0.coords t) = 1#1 ↔ t.val / 28 % 2 = 1 ∧ t.val % 28 = 27 :=
  (fun t => by
    have ht : t.val < 56 := Nat.lt_of_lt_of_eq t.isLt N_0
    have e0 : (grid0.coords t 0).val = t.val / 28 % 2 := Pipeline.Grid.coords_val t 0 (by decide) rfl
    have e1 : (grid0.coords t 1).val = t.val / 1 % 28 := Pipeline.Grid.coords_val t 1 (by decide) rfl
    simp only [k0_cond5, e0, e1]
    word_cmp
   : ∀ t : Fin grid0.N, k0_cond5 (grid0.coords t) = 1#1 ↔ t.val / 28 % 2 = 1 ∧ t.val % 28 = 27)

/-- Each window's staging memref at a point, and that it is a whole buffer. -/
abbrev ms0 (t : Fin cfg0.N) : Memref sig .tc .vmem S2x14336 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S2x4096 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x512x4096 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x512x2048 .i8 := win0_3.stage (cfg0.slots t 3)
abbrev hs3 (t : Fin cfg0.N) : (ms3 t).IsWhole := hstage0_3 ((cfg0.slots t 3).cast nbuf0_3)
abbrev ms4 (t : Fin cfg0.N) : Memref sig .tc .vmem S2x14336 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S2x4096 .f32 := win0_5.stage (cfg0.slots t 5)
abbrev hs5 (t : Fin cfg0.N) : (ms5 t).IsWhole := hstage0_5 ((cfg0.slots t 5).cast nbuf0_5)
/-- The scratch buffers. -/
abbrev sc0 : Memref sig .tc .vmem S8x4096 .f32 := Memref.whole cc0_scratch0
abbrev sc1 : Memref sig .tc .vmem S8x4096 .f32 := Memref.whole cc0_scratch1
abbrev sc2 : Memref sig .tc .vmem S512x128 .f32 := Memref.whole cc0_scratch2
abbrev sc3 : Memref sig .tc .vmem S512x128 .f32 := Memref.whole cc0_scratch3

/-- What is held beside the windows: each scratch buffer, as a memref, at some contents, and the generator register. -/
theorem held_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d)) ∗ (∃ r, prngReg c r)) := by
  unfold Pipeline.ΦA; rw [scopedRest0_eq]; simp only [sc0, sc1, sc2, sc3, owns_whole]; try rfl

end Cert.Stats.Run

end
-- ==== Proof.BitsRunA.lean ====
module

public import proofs.«01_k».proof.Proof.BitsBase

@[expose] public section

set_option maxRecDepth 16384

noncomputable section

namespace Cert.Stats.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)
open Cert.Stats.Gen

variable {F : FTy → Type} [BitOps F]

local notation "𝕄" => MT nD τ sig Unit (Elt F) ℕ (UR sig nD τ) ℕ

set_option maxHeartbeats 1000000 in
/-- The kernel body at a point of case A, run on whole staging and scratch buffers: the pieces it writes,
    found by the run, with the run itself. -/
noncomputable def runA (c : Dev nD) (i : grid0.Coords) (arg2 : Memref sig .tc .vmem S2x14336 .f32) (harg2 : arg2.IsWhole) (arg3 : Memref sig .tc .vmem S2x4096 .f32) (harg3 : arg3.IsWhole) (arg4 : Memref sig .tc .vmem S1x512x4096 .bf16) (harg4 : arg4.IsWhole) (arg5 : Memref sig .tc .vmem S1x512x2048 .i8) (harg5 : arg5.IsWhole) (arg6 : Memref sig .tc .vmem S2x14336 .f32) (harg6 : arg6.IsWhole) (arg7 : Memref sig .tc .vmem S2x4096 .f32) (harg7 : arg7.IsWhole) (arg8 : Memref sig .tc .vmem S8x4096 .f32) (harg8 : arg8.IsWhole) (arg9 : Memref sig .tc .vmem S8x4096 .f32) (harg9 : arg9.IsWhole) (arg10 : Memref sig .tc .vmem S512x128 .f32) (harg10 : arg10.IsWhole) (arg11 : Memref sig .tc .vmem S512x128 .f32) (harg11 : arg11.IsWhole) (hc1 : k0_cond1 i = 1#1) (hc2 : k0_cond2 i = 1#1) (hc3 : ¬ k0_cond3 i = 1#1) (hc4 : ¬ k0_cond4 i = 1#1) (hc5 : ¬ k0_cond5 i = 1#1)
    (x2 : Vec F S2x14336 .f32) (x3 : Vec F S2x4096 .f32) (x4 : Vec F S1x512x4096 .bf16) (x5 : Vec F S1x512x2048 .i8) (x6 : Vec F S2x14336 .f32) (x7 : Vec F S2x4096 .f32) (x8 : Vec F S8x4096 .f32) (x9 : Vec F S8x4096 .f32) (x11 : Vec F S512x128 .f32) :
    Σ' (L6 : List (View.Piece (Elt F) S2x14336 .f32)), Σ' (L8 : List (View.Piece (Elt F) S8x4096 .f32)), { L9 : List (View.Piece (Elt F) S8x4096 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ owns (c : Thread nD τ) arg11 fullShare x11
            ∗ (iprop(owns (c : Thread nD τ) arg2 fullShare x2 ∗ owns (c : Thread nD τ) arg3 fullShare x3 ∗ owns (c : Thread nD τ) arg4 fullShare x4 ∗ owns (c : Thread nD τ) arg5 fullShare x5 ∗ (arg6.view.loc (c : Thread nD τ) ↦[arg6.view.set]{fullShare} arg6.view.writes (Elt F) (harg6.unread x6) L6) ∗ owns (c : Thread nD τ) arg7 fullShare x7 ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9) ∗ (∃ d, owns (c : Thread nD τ) arg10 fullShare d) ∗ (∃ d, owns (c : Thread nD τ) arg11 fullShare d)) -∗ K ⟨⟩))
          ⊢ wp frame (wpE (defs₀ (F := F)) Variants.none c none) E (cc0_adamw4_stats i arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0_adamw4_stats_eq_skeleton]; unfold cc0_adamw4_stats_skel
    simp only [k0_part26_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg11.eq_unread hf11
    sl_exec (disch := first | sl_exact hc1 | sl_exact hc2 | sl_exact hc3 | sl_exact hc4 | sl_exact hc5)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexact H6
    isplitl [H7]
    · iexists _; isplitr; · ipureintro; exact harg7.read_unread _
      iexact H7
    isplitl [H8]; · iexists _; iexact H8
    isplitl [H9]; · iexists _; iexact H9
    isplitl [H10]
    · iexists _, _; isplitr; swap; · iexact H10
      ipureintro; rfl
    iexists _, _; isplitr; swap; · iexact H11
    ipureintro; rfl

end Cert.Stats.Run

end
-- ==== Proof.BitsRunB.lean ====
module

public import proofs.«01_k».proof.Proof.BitsBase

@[expose] public section

set_option maxRecDepth 16384

noncomputable section

namespace Cert.Stats.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)
open Cert.Stats.Gen

variable {F : FTy → Type} [BitOps F]

local notation "𝕄" => MT nD τ sig Unit (Elt F) ℕ (UR sig nD τ) ℕ

set_option maxHeartbeats 1000000 in
/-- The kernel body at a point of case B, run on whole staging and scratch buffers: the pieces it writes,
    found by the run, with the run itself. -/
noncomputable def runB (c : Dev nD) (i : grid0.Coords) (arg2 : Memref sig .tc .vmem S2x14336 .f32) (harg2 : arg2.IsWhole) (arg3 : Memref sig .tc .vmem S2x4096 .f32) (harg3 : arg3.IsWhole) (arg4 : Memref sig .tc .vmem S1x512x4096 .bf16) (harg4 : arg4.IsWhole) (arg5 : Memref sig .tc .vmem S1x512x2048 .i8) (harg5 : arg5.IsWhole) (arg6 : Memref sig .tc .vmem S2x14336 .f32) (harg6 : arg6.IsWhole) (arg7 : Memref sig .tc .vmem S2x4096 .f32) (harg7 : arg7.IsWhole) (arg8 : Memref sig .tc .vmem S8x4096 .f32) (harg8 : arg8.IsWhole) (arg9 : Memref sig .tc .vmem S8x4096 .f32) (harg9 : arg9.IsWhole) (arg10 : Memref sig .tc .vmem S512x128 .f32) (harg10 : arg10.IsWhole) (arg11 : Memref sig .tc .vmem S512x128 .f32) (harg11 : arg11.IsWhole) (hc1 : ¬ k0_cond1 i = 1#1) (hc2 : k0_cond2 i = 1#1) (hc3 : ¬ k0_cond3 i = 1#1) (hc4 : ¬ k0_cond4 i = 1#1) (hc5 : ¬ k0_cond5 i = 1#1)
    (x2 : Vec F S2x14336 .f32) (x3 : Vec F S2x4096 .f32) (x4 : Vec F S1x512x4096 .bf16) (x5 : Vec F S1x512x2048 .i8) (x6 : Vec F S2x14336 .f32) (x7 : Vec F S2x4096 .f32) (x8 : Vec F S8x4096 .f32) (x9 : Vec F S8x4096 .f32) (x11 : Vec F S512x128 .f32) :
    Σ' (L6 : List (View.Piece (Elt F) S2x14336 .f32)), { L9 : List (View.Piece (Elt F) S8x4096 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ owns (c : Thread nD τ) arg11 fullShare x11
            ∗ (iprop(owns (c : Thread nD τ) arg2 fullShare x2 ∗ owns (c : Thread nD τ) arg3 fullShare x3 ∗ owns (c : Thread nD τ) arg4 fullShare x4 ∗ owns (c : Thread nD τ) arg5 fullShare x5 ∗ (arg6.view.loc (c : Thread nD τ) ↦[arg6.view.set]{fullShare} arg6.view.writes (Elt F) (harg6.unread x6) L6) ∗ owns (c : Thread nD τ) arg7 fullShare x7 ∗ owns (c : Thread nD τ) arg8 fullShare x8 ∗ (arg9.view.loc (c : Thread nD τ) ↦[arg9.view.set]{fullShare} arg9.view.writes (Elt F) (harg9.unread x9) L9) ∗ (∃ d, owns (c : Thread nD τ) arg10 fullShare d) ∗ (∃ d, owns (c : Thread nD τ) arg11 fullShare d)) -∗ K ⟨⟩))
          ⊢ wp frame (wpE (defs₀ (F := F)) Variants.none c none) E (cc0_adamw4_stats i arg2 harg2 arg3 harg3 arg4 harg4 arg5 harg5 arg6 harg6 arg7 harg7 arg8 harg8 arg9 harg9 arg10 harg10 arg11 harg11) K } := by
  refine ⟨?_, ?_, fun E K => ?run⟩
  case run =>
    simp only [cc0_adamw4_stats_eq_skeleton]; unfold cc0_adamw4_stats_skel
    simp only [k0_part26_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg11.eq_unread hf11
    sl_exec (disch := first | sl_exact hc1 | sl_exact hc2 | sl_exact hc3 | sl_exact hc4 | sl_exact hc5)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexact H6
    isplitl [H7]
    · iexists _; isplitr; · ipureintro; exact harg7.read_unread _
      iexact H7
    isplitl [H8]
    · iexists _; isplitr; · ipureintro; exact harg8.read_unread _
      iexact H8
    isplitl [H9]; · iexact H9
    isplitl [H10]
    · iexists _, _; isplitr; swap; · iexact H10
      ipureintro; rfl
    iexists _, _; isplitr; swap; · iexact H11
    ipureintro; rfl

end Cert.Stats.Run

end
-- ==== Proof.BitsRunC.lean ====
module

public import proofs.«01_k».proof.Proof.BitsBase

@[expose] public section

set_option maxRecDepth 16384

noncomputable section

namespace Cert.Stats.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)
open Cert.Stats.Gen

variable {F : FTy → Type} [BitOps F]

local notation "𝕄" => MT nD τ sig Unit (Elt F) ℕ (UR sig nD τ) ℕ

set_option maxHeartbeats 1000000 in
/-- The kernel body at a point of case C, run on whole staging and scratch buffers: the pieces it writes,
    found by the run, with the run itself. -/
noncomputable def runC (c : Dev nD) (i : grid0.Coords) (arg2 : Memref sig .tc .vmem S2x14336 .f32) (harg2 : arg2.IsWhole) (arg3 : Memref sig .tc .vmem S2x4096 .f32) (harg3 : arg3.IsWhole) (arg4 : Memref sig .tc .vmem S1x512x4096 .bf16) (harg4 : arg4.IsWhole) (arg5 : Memref sig .tc .vmem S1x512x2048 .i8) (harg5 : arg5.IsWhole) (arg6 : Memref sig .tc .vmem S2x14336 .f32) (harg6 : arg6.IsWhole) (arg7 : Memref sig .tc .vmem S2x4096 .f32) (harg7 : arg7.IsWhole) (arg8 : Memref sig .tc .vmem S8x4096 .f32) (harg8 : arg8.IsWhole) (arg9 : Memref sig .tc .vmem S8x4096 .f32) (harg9 : arg9.IsWhole) (arg10 : Memref sig .tc .vmem S512x128 .f32) (harg10 : arg10.IsWhole) (arg11 : Memref sig .tc .vmem S512x128 .f32) (harg11 : arg11.IsWhole) (hc1 : ¬ k0_cond1 i = 1#1) (hc2 : k0_cond2 i = 1#1) (hc3 : k0_cond3 i = 1#1) (hc4 : ¬ k0_cond4 i = 1#1) (hc5 : ¬ k0_cond5 i = 1#1)
    (x2 : Vec F S2x14336 .f32) (x3 : Vec F S2x4096 .f32) (x4 : Vec F S1x512x4096 .bf16) (x5 : Vec F S1x512x2048 .i8) (x6 : Vec F S2x14336 .f32) (x7 : Vec F S2x4096 .f32) (x8 : Vec F S8x4096 .f32) (x9 : Vec F S8x4096 .f32) (x11 : Vec F S512x128 .f32) :
    Σ' (L6 : List (View.Piece (Elt F) S2x14336 .f32)), Σ' (L7 : List (View.Piece (Elt F) S2x4096 .f32)), { L9 : List (View.Piece (Elt F) S8x4096 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ owns (c : Thread nD τ) arg11 fullShare x11
            ∗ (iprop(owns (c : Thread nD τ) arg2 fullShare x2 ∗ owns (c : Thread nD τ) arg3 fullShare x3 ∗ owns (c : Thread nD τ) arg4 fullShare x4 ∗ owns (c : Thread nD τ) arg5 fullShare x5 ∗ (arg6.view.loc (c : Thread nD τ) ↦[arg6.view.set]{fullShare} arg6.view.writes (Elt F) (harg6.unread x6) L6) ∗ (arg7.view.loc (c : Thread nD τ) ↦[arg7.view.set]{fullShare} arg7.view.writes (Elt F) (harg7.unread x7) L7) ∗ owns (c : Thread nD τ) arg8 fullShare x8 ∗ (arg9.view.loc (c : Thread nD τ) ↦[arg9.view.set]{fullShare} arg9.view.writes (Elt F) (harg9.unread x9) L9) ∗ (∃ d, owns (c : Thread nD τ) arg10 fullShare d) ∗ (∃ d, owns (c : Thread nD τ) arg11 fullShare d)) -∗ K ⟨⟩))
          ⊢ wp frame (wpE (defs₀ (F := F)) Variants.none c none) E (cc0_adamw4_stats i arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0_adamw4_stats_eq_skeleton]; unfold cc0_adamw4_stats_skel
    simp only [k0_part26_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg11.eq_unread hf11
    sl_exec (disch := first | sl_exact hc1 | sl_exact hc2 | sl_exact hc3 | sl_exact hc4 | sl_exact hc5)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexact H6
    isplitl [H7]; · iexact H7
    isplitl [H8]
    · iexists _; isplitr; · ipureintro; exact harg8.read_unread _
      iexact H8
    isplitl [H9]; · iexact H9
    isplitl [H10]
    · iexists _, _; isplitr; swap; · iexact H10
      ipureintro; rfl
    iexists _, _; isplitr; swap; · iexact H11
    ipureintro; rfl

end Cert.Stats.Run

end
-- ==== Proof.BitsRunD.lean ====
module

public import proofs.«01_k».proof.Proof.BitsBase

@[expose] public section

set_option maxRecDepth 16384

noncomputable section

namespace Cert.Stats.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)
open Cert.Stats.Gen

variable {F : FTy → Type} [BitOps F]

local notation "𝕄" => MT nD τ sig Unit (Elt F) ℕ (UR sig nD τ) ℕ

set_option maxHeartbeats 1000000 in
/-- The kernel body at a point of case D, run on whole staging and scratch buffers: the pieces it writes,
    found by the run, with the run itself. -/
noncomputable def runD (c : Dev nD) (i : grid0.Coords) (arg2 : Memref sig .tc .vmem S2x14336 .f32) (harg2 : arg2.IsWhole) (arg3 : Memref sig .tc .vmem S2x4096 .f32) (harg3 : arg3.IsWhole) (arg4 : Memref sig .tc .vmem S1x512x4096 .bf16) (harg4 : arg4.IsWhole) (arg5 : Memref sig .tc .vmem S1x512x2048 .i8) (harg5 : arg5.IsWhole) (arg6 : Memref sig .tc .vmem S2x14336 .f32) (harg6 : arg6.IsWhole) (arg7 : Memref sig .tc .vmem S2x4096 .f32) (harg7 : arg7.IsWhole) (arg8 : Memref sig .tc .vmem S8x4096 .f32) (harg8 : arg8.IsWhole) (arg9 : Memref sig .tc .vmem S8x4096 .f32) (harg9 : arg9.IsWhole) (arg10 : Memref sig .tc .vmem S512x128 .f32) (harg10 : arg10.IsWhole) (arg11 : Memref sig .tc .vmem S512x128 .f32) (harg11 : arg11.IsWhole) (hc1 : k0_cond1 i = 1#1) (hc2 : ¬ k0_cond2 i = 1#1) (hc3 : ¬ k0_cond3 i = 1#1) (hc4 : k0_cond4 i = 1#1) (hc5 : ¬ k0_cond5 i = 1#1)
    (x2 : Vec F S2x14336 .f32) (x3 : Vec F S2x4096 .f32) (x4 : Vec F S1x512x4096 .bf16) (x5 : Vec F S1x512x2048 .i8) (x6 : Vec F S2x14336 .f32) (x7 : Vec F S2x4096 .f32) (x8 : Vec F S8x4096 .f32) (x9 : Vec F S8x4096 .f32) (x11 : Vec F S512x128 .f32) :
    Σ' (L6 : List (View.Piece (Elt F) S2x14336 .f32)), Σ' (L8 : List (View.Piece (Elt F) S8x4096 .f32)), { L9 : List (View.Piece (Elt F) S8x4096 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ owns (c : Thread nD τ) arg11 fullShare x11
            ∗ (iprop(owns (c : Thread nD τ) arg2 fullShare x2 ∗ owns (c : Thread nD τ) arg3 fullShare x3 ∗ owns (c : Thread nD τ) arg4 fullShare x4 ∗ owns (c : Thread nD τ) arg5 fullShare x5 ∗ (arg6.view.loc (c : Thread nD τ) ↦[arg6.view.set]{fullShare} arg6.view.writes (Elt F) (harg6.unread x6) L6) ∗ owns (c : Thread nD τ) arg7 fullShare x7 ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9) ∗ (∃ d, owns (c : Thread nD τ) arg10 fullShare d) ∗ (∃ d, owns (c : Thread nD τ) arg11 fullShare d)) -∗ K ⟨⟩))
          ⊢ wp frame (wpE (defs₀ (F := F)) Variants.none c none) E (cc0_adamw4_stats i arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0_adamw4_stats_eq_skeleton]; unfold cc0_adamw4_stats_skel
    simp only [k0_part26_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg11.eq_unread hf11
    sl_exec (disch := first | sl_exact hc1 | sl_exact hc2 | sl_exact hc3 | sl_exact hc4 | sl_exact hc5)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexact H6
    isplitl [H7]
    · iexists _; isplitr; · ipureintro; exact harg7.read_unread _
      iexact H7
    isplitl [H8]; · iexists _; iexact H8
    isplitl [H9]; · iexists _; iexact H9
    isplitl [H10]
    · iexists _, _; isplitr; swap; · iexact H10
      ipureintro; rfl
    iexists _, _; isplitr; swap; · iexact H11
    ipureintro; rfl

end Cert.Stats.Run

end
-- ==== Proof.BitsRunE.lean ====
module

public import proofs.«01_k».proof.Proof.BitsBase

@[expose] public section

set_option maxRecDepth 16384

noncomputable section

namespace Cert.Stats.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)
open Cert.Stats.Gen

variable {F : FTy → Type} [BitOps F]

local notation "𝕄" => MT nD τ sig Unit (Elt F) ℕ (UR sig nD τ) ℕ

set_option maxHeartbeats 1000000 in
/-- The kernel body at a point of case E, run on whole staging and scratch buffers: the pieces it writes,
    found by the run, with the run itself. -/
noncomputable def runE (c : Dev nD) (i : grid0.Coords) (arg2 : Memref sig .tc .vmem S2x14336 .f32) (harg2 : arg2.IsWhole) (arg3 : Memref sig .tc .vmem S2x4096 .f32) (harg3 : arg3.IsWhole) (arg4 : Memref sig .tc .vmem S1x512x4096 .bf16) (harg4 : arg4.IsWhole) (arg5 : Memref sig .tc .vmem S1x512x2048 .i8) (harg5 : arg5.IsWhole) (arg6 : Memref sig .tc .vmem S2x14336 .f32) (harg6 : arg6.IsWhole) (arg7 : Memref sig .tc .vmem S2x4096 .f32) (harg7 : arg7.IsWhole) (arg8 : Memref sig .tc .vmem S8x4096 .f32) (harg8 : arg8.IsWhole) (arg9 : Memref sig .tc .vmem S8x4096 .f32) (harg9 : arg9.IsWhole) (arg10 : Memref sig .tc .vmem S512x128 .f32) (harg10 : arg10.IsWhole) (arg11 : Memref sig .tc .vmem S512x128 .f32) (harg11 : arg11.IsWhole) (hc1 : ¬ k0_cond1 i = 1#1) (hc2 : ¬ k0_cond2 i = 1#1) (hc3 : ¬ k0_cond3 i = 1#1) (hc4 : k0_cond4 i = 1#1) (hc5 : ¬ k0_cond5 i = 1#1)
    (x2 : Vec F S2x14336 .f32) (x3 : Vec F S2x4096 .f32) (x4 : Vec F S1x512x4096 .bf16) (x5 : Vec F S1x512x2048 .i8) (x6 : Vec F S2x14336 .f32) (x7 : Vec F S2x4096 .f32) (x8 : Vec F S8x4096 .f32) (x9 : Vec F S8x4096 .f32) (x11 : Vec F S512x128 .f32) :
    Σ' (L6 : List (View.Piece (Elt F) S2x14336 .f32)), { L9 : List (View.Piece (Elt F) S8x4096 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ owns (c : Thread nD τ) arg11 fullShare x11
            ∗ (iprop(owns (c : Thread nD τ) arg2 fullShare x2 ∗ owns (c : Thread nD τ) arg3 fullShare x3 ∗ owns (c : Thread nD τ) arg4 fullShare x4 ∗ owns (c : Thread nD τ) arg5 fullShare x5 ∗ (arg6.view.loc (c : Thread nD τ) ↦[arg6.view.set]{fullShare} arg6.view.writes (Elt F) (harg6.unread x6) L6) ∗ owns (c : Thread nD τ) arg7 fullShare x7 ∗ owns (c : Thread nD τ) arg8 fullShare x8 ∗ (arg9.view.loc (c : Thread nD τ) ↦[arg9.view.set]{fullShare} arg9.view.writes (Elt F) (harg9.unread x9) L9) ∗ (∃ d, owns (c : Thread nD τ) arg10 fullShare d) ∗ (∃ d, owns (c : Thread nD τ) arg11 fullShare d)) -∗ K ⟨⟩))
          ⊢ wp frame (wpE (defs₀ (F := F)) Variants.none c none) E (cc0_adamw4_stats i arg2 harg2 arg3 harg3 arg4 harg4 arg5 harg5 arg6 harg6 arg7 harg7 arg8 harg8 arg9 harg9 arg10 harg10 arg11 harg11) K } := by
  refine ⟨?_, ?_, fun E K => ?run⟩
  case run =>
    simp only [cc0_adamw4_stats_eq_skeleton]; unfold cc0_adamw4_stats_skel
    simp only [k0_part26_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg11.eq_unread hf11
    sl_exec (disch := first | sl_exact hc1 | sl_exact hc2 | sl_exact hc3 | sl_exact hc4 | sl_exact hc5)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexact H6
    isplitl [H7]
    · iexists _; isplitr; · ipureintro; exact harg7.read_unread _
      iexact H7
    isplitl [H8]
    · iexists _; isplitr; · ipureintro; exact harg8.read_unread _
      iexact H8
    isplitl [H9]; · iexact H9
    isplitl [H10]
    · iexists _, _; isplitr; swap; · iexact H10
      ipureintro; rfl
    iexists _, _; isplitr; swap; · iexact H11
    ipureintro; rfl

end Cert.Stats.Run

end
-- ==== Proof.BitsRunF.lean ====
module

public import proofs.«01_k».proof.Proof.BitsBase

@[expose] public section

set_option maxRecDepth 16384

noncomputable section

namespace Cert.Stats.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)
open Cert.Stats.Gen

variable {F : FTy → Type} [BitOps F]

local notation "𝕄" => MT nD τ sig Unit (Elt F) ℕ (UR sig nD τ) ℕ

set_option maxHeartbeats 1000000 in
/-- The kernel body at a point of case F, run on whole staging and scratch buffers: the pieces it writes,
    found by the run, with the run itself. -/
noncomputable def runF (c : Dev nD) (i : grid0.Coords) (arg2 : Memref sig .tc .vmem S2x14336 .f32) (harg2 : arg2.IsWhole) (arg3 : Memref sig .tc .vmem S2x4096 .f32) (harg3 : arg3.IsWhole) (arg4 : Memref sig .tc .vmem S1x512x4096 .bf16) (harg4 : arg4.IsWhole) (arg5 : Memref sig .tc .vmem S1x512x2048 .i8) (harg5 : arg5.IsWhole) (arg6 : Memref sig .tc .vmem S2x14336 .f32) (harg6 : arg6.IsWhole) (arg7 : Memref sig .tc .vmem S2x4096 .f32) (harg7 : arg7.IsWhole) (arg8 : Memref sig .tc .vmem S8x4096 .f32) (harg8 : arg8.IsWhole) (arg9 : Memref sig .tc .vmem S8x4096 .f32) (harg9 : arg9.IsWhole) (arg10 : Memref sig .tc .vmem S512x128 .f32) (harg10 : arg10.IsWhole) (arg11 : Memref sig .tc .vmem S512x128 .f32) (harg11 : arg11.IsWhole) (hc1 : ¬ k0_cond1 i = 1#1) (hc2 : ¬ k0_cond2 i = 1#1) (hc3 : ¬ k0_cond3 i = 1#1) (hc4 : k0_cond4 i = 1#1) (hc5 : k0_cond5 i = 1#1)
    (x2 : Vec F S2x14336 .f32) (x3 : Vec F S2x4096 .f32) (x4 : Vec F S1x512x4096 .bf16) (x5 : Vec F S1x512x2048 .i8) (x6 : Vec F S2x14336 .f32) (x7 : Vec F S2x4096 .f32) (x8 : Vec F S8x4096 .f32) (x9 : Vec F S8x4096 .f32) (x11 : Vec F S512x128 .f32) :
    Σ' (L6 : List (View.Piece (Elt F) S2x14336 .f32)), Σ' (L7 : List (View.Piece (Elt F) S2x4096 .f32)), { L9 : List (View.Piece (Elt F) S8x4096 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ owns (c : Thread nD τ) arg11 fullShare x11
            ∗ (iprop(owns (c : Thread nD τ) arg2 fullShare x2 ∗ owns (c : Thread nD τ) arg3 fullShare x3 ∗ owns (c : Thread nD τ) arg4 fullShare x4 ∗ owns (c : Thread nD τ) arg5 fullShare x5 ∗ (arg6.view.loc (c : Thread nD τ) ↦[arg6.view.set]{fullShare} arg6.view.writes (Elt F) (harg6.unread x6) L6) ∗ (arg7.view.loc (c : Thread nD τ) ↦[arg7.view.set]{fullShare} arg7.view.writes (Elt F) (harg7.unread x7) L7) ∗ owns (c : Thread nD τ) arg8 fullShare x8 ∗ (arg9.view.loc (c : Thread nD τ) ↦[arg9.view.set]{fullShare} arg9.view.writes (Elt F) (harg9.unread x9) L9) ∗ (∃ d, owns (c : Thread nD τ) arg10 fullShare d) ∗ (∃ d, owns (c : Thread nD τ) arg11 fullShare d)) -∗ K ⟨⟩))
          ⊢ wp frame (wpE (defs₀ (F := F)) Variants.none c none) E (cc0_adamw4_stats i arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0_adamw4_stats_eq_skeleton]; unfold cc0_adamw4_stats_skel
    simp only [k0_part26_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg11.eq_unread hf11
    sl_exec (disch := first | sl_exact hc1 | sl_exact hc2 | sl_exact hc3 | sl_exact hc4 | sl_exact hc5)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexact H6
    isplitl [H7]; · iexact H7
    isplitl [H8]
    · iexists _; isplitr; · ipureintro; exact harg8.read_unread _
      iexact H8
    isplitl [H9]; · iexact H9
    isplitl [H10]
    · iexists _, _; isplitr; swap; · iexact H10
      ipureintro; rfl
    iexists _, _; isplitr; swap; · iexact H11
    ipureintro; rfl

end Cert.Stats.Run

end
-- ==== Proof.BitsBody.lean ====
module

public import proofs.«01_k».proof.Proof.BitsRunA
public import proofs.«01_k».proof.Proof.BitsRunB
public import proofs.«01_k».proof.Proof.BitsRunC
public import proofs.«01_k».proof.Proof.BitsRunD
public import proofs.«01_k».proof.Proof.BitsRunE
public import proofs.«01_k».proof.Proof.BitsRunF

@[expose] public section

set_option maxRecDepth 16384

noncomputable section

namespace Cert.Stats.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)
open Cert.Stats.Gen

variable {F : FTy → Type} [BitOps F]

local notation "𝕄" => MT nD τ sig Unit (Elt F) ℕ (UR sig nD τ) ℕ

variable (m : (ℓ : Loc nD τ sig) → Buf (Elt F) ℓ) (ρ : Dev nD → PrngReg)

/-- The run of the body at a point of case A, on the point's staging buffers and blocks and the scratch buffers. -/
def atA (c : Dev nD) (t : Fin cfg0.N) (hi : t.val % 28 = 0) (hb : t.val / 28 % 2 = 0) (x6 : Vec F S2x14336 .f32) (x7 : Vec F S2x4096 .f32) (x8 x9 : Vec F S8x4096 .f32) (x11 : Vec F S512x128 .f32) :=
  runA (F := F) c (grid0.coords t) (ms0 t) (hs0 t) (ms1 t) (hs1 t) (ms2 t) (hs2 t) (ms3 t) (hs3 t) (ms4 t) (hs4 t) (ms5 t) (hs5 t) sc0 (Memref.isWhole_whole _) sc1 (Memref.isWhole_whole _) sc2 (Memref.isWhole_whole _) sc3 (Memref.isWhole_whole _)
    (by rw [cond1_iff]; omega) (by rw [cond2_iff]; omega) (by rw [cond3_iff]; omega) (by rw [cond4_iff]; omega) (by rw [cond5_iff]; omega) (iblk m c 0 t) (iblk m c 1 t) (iblk m c 2 t) (iblk m c 3 t) x6 x7 x8 x9 x11

/-- The run of the body at a point of case B, on the point's staging buffers and blocks and the scratch buffers. -/
def atB (c : Dev nD) (t : Fin cfg0.N) (hi : (t.val % 28 ≠ 0 ∧ t.val % 28 ≠ 27)) (hb : t.val / 28 % 2 = 0) (x6 : Vec F S2x14336 .f32) (x7 : Vec F S2x4096 .f32) (x8 x9 : Vec F S8x4096 .f32) (x11 : Vec F S512x128 .f32) :=
  runB (F := F) c (grid0.coords t) (ms0 t) (hs0 t) (ms1 t) (hs1 t) (ms2 t) (hs2 t) (ms3 t) (hs3 t) (ms4 t) (hs4 t) (ms5 t) (hs5 t) sc0 (Memref.isWhole_whole _) sc1 (Memref.isWhole_whole _) sc2 (Memref.isWhole_whole _) sc3 (Memref.isWhole_whole _)
    (by rw [cond1_iff]; omega) (by rw [cond2_iff]; omega) (by rw [cond3_iff]; omega) (by rw [cond4_iff]; omega) (by rw [cond5_iff]; omega) (iblk m c 0 t) (iblk m c 1 t) (iblk m c 2 t) (iblk m c 3 t) x6 x7 x8 x9 x11

/-- The run of the body at a point of case C, on the point's staging buffers and blocks and the scratch buffers. -/
def atC (c : Dev nD) (t : Fin cfg0.N) (hi : t.val % 28 = 27) (hb : t.val / 28 % 2 = 0) (x6 : Vec F S2x14336 .f32) (x7 : Vec F S2x4096 .f32) (x8 x9 : Vec F S8x4096 .f32) (x11 : Vec F S512x128 .f32) :=
  runC (F := F) c (grid0.coords t) (ms0 t) (hs0 t) (ms1 t) (hs1 t) (ms2 t) (hs2 t) (ms3 t) (hs3 t) (ms4 t) (hs4 t) (ms5 t) (hs5 t) sc0 (Memref.isWhole_whole _) sc1 (Memref.isWhole_whole _) sc2 (Memref.isWhole_whole _) sc3 (Memref.isWhole_whole _)
    (by rw [cond1_iff]; omega) (by rw [cond2_iff]; omega) (by rw [cond3_iff]; omega) (by rw [cond4_iff]; omega) (by rw [cond5_iff]; omega) (iblk m c 0 t) (iblk m c 1 t) (iblk m c 2 t) (iblk m c 3 t) x6 x7 x8 x9 x11

/-- The run of the body at a point of case D, on the point's staging buffers and blocks and the scratch buffers. -/
def atD (c : Dev nD) (t : Fin cfg0.N) (hi : t.val % 28 = 0) (hb : t.val / 28 % 2 = 1) (x6 : Vec F S2x14336 .f32) (x7 : Vec F S2x4096 .f32) (x8 x9 : Vec F S8x4096 .f32) (x11 : Vec F S512x128 .f32) :=
  runD (F := F) c (grid0.coords t) (ms0 t) (hs0 t) (ms1 t) (hs1 t) (ms2 t) (hs2 t) (ms3 t) (hs3 t) (ms4 t) (hs4 t) (ms5 t) (hs5 t) sc0 (Memref.isWhole_whole _) sc1 (Memref.isWhole_whole _) sc2 (Memref.isWhole_whole _) sc3 (Memref.isWhole_whole _)
    (by rw [cond1_iff]; omega) (by rw [cond2_iff]; omega) (by rw [cond3_iff]; omega) (by rw [cond4_iff]; omega) (by rw [cond5_iff]; omega) (iblk m c 0 t) (iblk m c 1 t) (iblk m c 2 t) (iblk m c 3 t) x6 x7 x8 x9 x11

/-- The run of the body at a point of case E, on the point's staging buffers and blocks and the scratch buffers. -/
def atE (c : Dev nD) (t : Fin cfg0.N) (hi : (t.val % 28 ≠ 0 ∧ t.val % 28 ≠ 27)) (hb : t.val / 28 % 2 = 1) (x6 : Vec F S2x14336 .f32) (x7 : Vec F S2x4096 .f32) (x8 x9 : Vec F S8x4096 .f32) (x11 : Vec F S512x128 .f32) :=
  runE (F := F) c (grid0.coords t) (ms0 t) (hs0 t) (ms1 t) (hs1 t) (ms2 t) (hs2 t) (ms3 t) (hs3 t) (ms4 t) (hs4 t) (ms5 t) (hs5 t) sc0 (Memref.isWhole_whole _) sc1 (Memref.isWhole_whole _) sc2 (Memref.isWhole_whole _) sc3 (Memref.isWhole_whole _)
    (by rw [cond1_iff]; omega) (by rw [cond2_iff]; omega) (by rw [cond3_iff]; omega) (by rw [cond4_iff]; omega) (by rw [cond5_iff]; omega) (iblk m c 0 t) (iblk m c 1 t) (iblk m c 2 t) (iblk m c 3 t) x6 x7 x8 x9 x11

/-- The run of the body at a point of case F, on the point's staging buffers and blocks and the scratch buffers. -/
def atF (c : Dev nD) (t : Fin cfg0.N) (hi : t.val % 28 = 27) (hb : t.val / 28 % 2 = 1) (x6 : Vec F S2x14336 .f32) (x7 : Vec F S2x4096 .f32) (x8 x9 : Vec F S8x4096 .f32) (x11 : Vec F S512x128 .f32) :=
  runF (F := F) c (grid0.coords t) (ms0 t) (hs0 t) (ms1 t) (hs1 t) (ms2 t) (hs2 t) (ms3 t) (hs3 t) (ms4 t) (hs4 t) (ms5 t) (hs5 t) sc0 (Memref.isWhole_whole _) sc1 (Memref.isWhole_whole _) sc2 (Memref.isWhole_whole _) sc3 (Memref.isWhole_whole _)
    (by rw [cond1_iff]; omega) (by rw [cond2_iff]; omega) (by rw [cond3_iff]; omega) (by rw [cond4_iff]; omega) (by rw [cond5_iff]; omega) (iblk m c 0 t) (iblk m c 1 t) (iblk m c 2 t) (iblk m c 3 t) x6 x7 x8 x9 x11

/-- What is said of the scratch buffers before a point and of the two outputs' buffers after it, with the proof that
    each case of the body establishes it. -/
structure Says (c : Dev nD) where
  /-- What the two column scratch buffers hold before a point that is not the first of its bank. -/
  Good : ℕ → Vec F S8x4096 .f32 → Vec F S8x4096 .f32 → Prop
  /-- What a point leaves of the row output's buffer. -/
  R4 : Fin cfg0.N → Vec F S2x14336 .f32 → Vec F S2x14336 .f32 → Prop
  /-- What a point leaves of the column output's buffer. -/
  R5 : Fin cfg0.N → Vec F S2x4096 .f32 → Vec F S2x4096 .f32 → Prop
  ofA : ∀ (t : Fin cfg0.N) (hi : t.val % 28 = 0) (hb : t.val / 28 % 2 = 0) x6 x7 x8 x9 x11, R4 t x6 ((ms4 t).view.read (Elt F) ((ms4 t).view.writes (Elt F) ((hs4 t).unread x6) (atA m c t hi hb x6 x7 x8 x9 x11).1))
    ∧ R5 t x7 x7
    ∧ ∀ f g, Good (t.val + 1) (sc0.view.read (Elt F) (sc0.view.writes (Elt F) f (atA m c t hi hb x6 x7 x8 x9 x11).2.1)) (sc1.view.read (Elt F) (sc1.view.writes (Elt F) g (atA m c t hi hb x6 x7 x8 x9 x11).2.2.1))
  ofB : ∀ (t : Fin cfg0.N) (hi : (t.val % 28 ≠ 0 ∧ t.val % 28 ≠ 27)) (hb : t.val / 28 % 2 = 0) x6 x7 x8 x9 x11, Good t.val x8 x9 → R4 t x6 ((ms4 t).view.read (Elt F) ((ms4 t).view.writes (Elt F) ((hs4 t).unread x6) (atB m c t hi hb x6 x7 x8 x9 x11).1))
    ∧ R5 t x7 x7
    ∧ Good (t.val + 1) x8 (sc1.view.read (Elt F) (sc1.view.writes (Elt F) ((Memref.isWhole_whole _).unread x9) (atB m c t hi hb x6 x7 x8 x9 x11).2.1))
  ofC : ∀ (t : Fin cfg0.N) (hi : t.val % 28 = 27) (hb : t.val / 28 % 2 = 0) x6 x7 x8 x9 x11, Good t.val x8 x9 → R4 t x6 ((ms4 t).view.read (Elt F) ((ms4 t).view.writes (Elt F) ((hs4 t).unread x6) (atC m c t hi hb x6 x7 x8 x9 x11).1))
    ∧ R5 t x7 ((ms5 t).view.read (Elt F) ((ms5 t).view.writes (Elt F) ((hs5 t).unread x7) (atC m c t hi hb x6 x7 x8 x9 x11).2.1))
    ∧ Good (t.val + 1) x8 (sc1.view.read (Elt F) (sc1.view.writes (Elt F) ((Memref.isWhole_whole _).unread x9) (atC m c t hi hb x6 x7 x8 x9 x11).2.2.1))
  ofD : ∀ (t : Fin cfg0.N) (hi : t.val % 28 = 0) (hb : t.val / 28 % 2 = 1) x6 x7 x8 x9 x11, R4 t x6 ((ms4 t).view.read (Elt F) ((ms4 t).view.writes (Elt F) ((hs4 t).unread x6) (atD m c t hi hb x6 x7 x8 x9 x11).1))
    ∧ R5 t x7 x7
    ∧ ∀ f g, Good (t.val + 1) (sc0.view.read (Elt F) (sc0.view.writes (Elt F) f (atD m c t hi hb x6 x7 x8 x9 x11).2.1)) (sc1.view.read (Elt F) (sc1.view.writes (Elt F) g (atD m c t hi hb x6 x7 x8 x9 x11).2.2.1))
  ofE : ∀ (t : Fin cfg0.N) (hi : (t.val % 28 ≠ 0 ∧ t.val % 28 ≠ 27)) (hb : t.val / 28 % 2 = 1) x6 x7 x8 x9 x11, Good t.val x8 x9 → R4 t x6 ((ms4 t).view.read (Elt F) ((ms4 t).view.writes (Elt F) ((hs4 t).unread x6) (atE m c t hi hb x6 x7 x8 x9 x11).1))
    ∧ R5 t x7 x7
    ∧ Good (t.val + 1) x8 (sc1.view.read (Elt F) (sc1.view.writes (Elt F) ((Memref.isWhole_whole _).unread x9) (atE m c t hi hb x6 x7 x8 x9 x11).2.1))
  ofF : ∀ (t : Fin cfg0.N) (hi : t.val % 28 = 27) (hb : t.val / 28 % 2 = 1) x6 x7 x8 x9 x11, Good t.val x8 x9 → R4 t x6 ((ms4 t).view.read (Elt F) ((ms4 t).view.writes (Elt F) ((hs4 t).unread x6) (atF m c t hi hb x6 x7 x8 x9 x11).1))
    ∧ R5 t x7 ((ms5 t).view.read (Elt F) ((ms5 t).view.writes (Elt F) ((hs5 t).unread x7) (atF m c t hi hb x6 x7 x8 x9 x11).2.1))
    ∧ Good (t.val + 1) x8 (sc1.view.read (Elt F) (sc1.view.writes (Elt F) ((Memref.isWhole_whole _).unread x9) (atF m c t hi hb x6 x7 x8 x9 x11).2.2.1))

variable {m}

/-- The proof data: the inputs are left as found, the outputs as said, the scratch buffers as said. -/
def rdat {c : Dev nD} (s : Says m c) : RDat τ (Elt F) Unit ℕ (UR sig nD τ) ℕ cfg0 c where
  A w := V m c (Pipeline.arrRef spec0 w)
  after
    | 4 => s.R4
    | 5 => s.R5
    | _ => fun _ Y X => X = Y
  Φ t := iprop(iprop((∃ x8 x9, ⌜t.val % 28 ≠ 0 → s.Good t.val x8 x9⌝ ∗ owns (c : Thread nD τ) sc0 fullShare x8 ∗ owns (c : Thread nD τ) sc1 fullShare x9) ∗ (∃ d, owns (c : Thread nD τ) sc2 fullShare d) ∗ (∃ d, owns (c : Thread nD τ) sc3 fullShare d)) ∗ (∃ r, prngReg c r))
  q _ := fullShare
  owed _ := 0

theorem defs₀_row (t : Fin cfg0.N) :
    defs₀ (F := F) .tc cfg0.body (cfg0.bodyArgs t (cfg0.slots t)) = bodyAt0 t := by
  unfold defs₀; rw [Defs.onTc_tc]

theorem finds_0 {c : Dev nD} (s : Says m c) (t : Fin cfg0.N) (Y) (h : (rdat s).Finds 0 t Y) : Y = iblk m c 0 t := by
  obtain ⟨d, hd⟩ := (rdat s).finds_in_eq_fetched 0 rfl (fun _ _ _ => rfl) (fun _ _ _ h => h) t Y h
  exact hd

theorem finds_1 {c : Dev nD} (s : Says m c) (t : Fin cfg0.N) (Y) (h : (rdat s).Finds 1 t Y) : Y = iblk m c 1 t := by
  obtain ⟨d, hd⟩ := (rdat s).finds_in_eq_fetched 1 rfl (fun _ _ _ => rfl) (fun _ _ _ h => h) t Y h
  exact hd

theorem finds_2 {c : Dev nD} (s : Says m c) (t : Fin cfg0.N) (Y) (h : (rdat s).Finds 2 t Y) : Y = iblk m c 2 t := by
  obtain ⟨d, hd⟩ := (rdat s).finds_in_eq_fetched 2 rfl (fun _ _ _ => rfl) (fun _ _ _ h => h) t Y h
  exact hd

theorem finds_3 {c : Dev nD} (s : Says m c) (t : Fin cfg0.N) (Y) (h : (rdat s).Finds 3 t Y) : Y = iblk m c 3 t := by
  obtain ⟨d, hd⟩ := (rdat s).finds_in_eq_fetched 3 rfl (fun _ _ _ => rfl) (fun _ _ _ h => h) t Y h
  exact hd

/-- The body at a point of case A: from what is held before the point to what is held after it. -/
theorem soundA {c : Dev nD} (s : Says m c) (t : Fin cfg0.N) (hi : t.val % 28 = 0) (hb : t.val / 28 % 2 = 0) (Y4 : Vec F S2x14336 .f32) (Y5 : Vec F S2x4096 .f32) :
    (iprop((rdat s).Φ t.castSucc ∗ (rdat s).owesAt () t.castSucc
        ∗ owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t)
        ∗ owns (c : Thread nD τ) (ms4 t) fullShare Y4 ∗ owns (c : Thread nD τ) (ms5 t) fullShare Y5) : sProp 𝕄)
      ⊢ wp frame (wpE (defs₀ (F := F)) Variants.none c none) Set.univ (bodyAt0 t) fun _ =>
        iprop((rdat s).Φ t.succ ∗ (rdat s).owesAt () t.succ
        ∗ (∃ X, ⌜X = iblk m c 0 t⌝ ∗ owns (c : Thread nD τ) (ms0 t) fullShare X) ∗ (∃ X, ⌜X = iblk m c 1 t⌝ ∗ owns (c : Thread nD τ) (ms1 t) fullShare X) ∗ (∃ X, ⌜X = iblk m c 2 t⌝ ∗ owns (c : Thread nD τ) (ms2 t) fullShare X) ∗ (∃ X, ⌜X = iblk m c 3 t⌝ ∗ owns (c : Thread nD τ) (ms3 t) fullShare X)
        ∗ (∃ X, ⌜s.R4 t Y4 X⌝ ∗ owns (c : Thread nD τ) (ms4 t) fullShare X) ∗ (∃ X, ⌜s.R5 t Y5 X⌝ ∗ owns (c : Thread nD τ) (ms5 t) fullShare X)) := by
  have hN : t.val < 56 := Nat.lt_of_lt_of_eq t.isLt N_0
  dsimp only [rdat]
  simp only [Fin.val_castSucc, Fin.val_succ]
  iintro ⟨⟨⟨⟨%x8, %x9, %hg, HS0, HS1⟩, HS2, ⟨%x11, HS3⟩⟩, Hg⟩, Ho, H0, H1, H2, H3, H4, H5⟩
  iapply ((atA m c t hi hb Y4 Y5 x8 x9 x11).2.2.2 Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  isplitl [HS3]; · iexact HS3
  iintro ⟨H0, H1, H2, H3, H4, H5, ⟨%f8, HS0⟩, ⟨%f9, HS1⟩, HS2, HS3⟩
  obtain ⟨h4, h5, h8⟩ := s.ofA t hi hb Y4 Y5 x8 x9 x11
  isplitl [HS0 HS1 HS2 HS3 Hg]
  · isplitl [HS0 HS1 HS2 HS3]
    · isplitl [HS0 HS1]
      · iexists _; iexists _; isplitr
        · ipureintro; exact fun _ => h8 f8 f9
        isplitl [HS0]
        · unfold owns; iexists _; isplitr; · ipureintro; rfl
          iexact HS0
        unfold owns; iexists _; isplitr; · ipureintro; rfl
        iexact HS1
      isplitl [HS2]; · iexact HS2
      iexact HS3
    iexact Hg
  isplitl [Ho]; · iexact Ho
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; exact h4
    unfold owns; iexists _; isplitr; · ipureintro; rfl
    iexact H4
  iexists _; isplitr; · ipureintro; exact h5
  iexact H5

/-- The body at a point of case B: from what is held before the point to what is held after it. -/
theorem soundB {c : Dev nD} (s : Says m c) (t : Fin cfg0.N) (hi : (t.val % 28 ≠ 0 ∧ t.val % 28 ≠ 27)) (hb : t.val / 28 % 2 = 0) (Y4 : Vec F S2x14336 .f32) (Y5 : Vec F S2x4096 .f32) :
    (iprop((rdat s).Φ t.castSucc ∗ (rdat s).owesAt () t.castSucc
        ∗ owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t)
        ∗ owns (c : Thread nD τ) (ms4 t) fullShare Y4 ∗ owns (c : Thread nD τ) (ms5 t) fullShare Y5) : sProp 𝕄)
      ⊢ wp frame (wpE (defs₀ (F := F)) Variants.none c none) Set.univ (bodyAt0 t) fun _ =>
        iprop((rdat s).Φ t.succ ∗ (rdat s).owesAt () t.succ
        ∗ (∃ X, ⌜X = iblk m c 0 t⌝ ∗ owns (c : Thread nD τ) (ms0 t) fullShare X) ∗ (∃ X, ⌜X = iblk m c 1 t⌝ ∗ owns (c : Thread nD τ) (ms1 t) fullShare X) ∗ (∃ X, ⌜X = iblk m c 2 t⌝ ∗ owns (c : Thread nD τ) (ms2 t) fullShare X) ∗ (∃ X, ⌜X = iblk m c 3 t⌝ ∗ owns (c : Thread nD τ) (ms3 t) fullShare X)
        ∗ (∃ X, ⌜s.R4 t Y4 X⌝ ∗ owns (c : Thread nD τ) (ms4 t) fullShare X) ∗ (∃ X, ⌜s.R5 t Y5 X⌝ ∗ owns (c : Thread nD τ) (ms5 t) fullShare X)) := by
  have hN : t.val < 56 := Nat.lt_of_lt_of_eq t.isLt N_0
  dsimp only [rdat]
  simp only [Fin.val_castSucc, Fin.val_succ]
  iintro ⟨⟨⟨⟨%x8, %x9, %hg, HS0, HS1⟩, HS2, ⟨%x11, HS3⟩⟩, Hg⟩, Ho, H0, H1, H2, H3, H4, H5⟩
  iapply ((atB m c t hi hb Y4 Y5 x8 x9 x11).2.2 Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  isplitl [HS3]; · iexact HS3
  iintro ⟨H0, H1, H2, H3, H4, H5, HS0, HS1, HS2, HS3⟩
  obtain ⟨h4, h5, h8⟩ := s.ofB t hi hb Y4 Y5 x8 x9 x11 (hg (by omega))
  isplitl [HS0 HS1 HS2 HS3 Hg]
  · isplitl [HS0 HS1 HS2 HS3]
    · isplitl [HS0 HS1]
      · iexists _; iexists _; isplitr
        · ipureintro; exact fun _ => h8
        isplitl [HS0]; · iexact HS0
        unfold owns; iexists _; isplitr; · ipureintro; rfl
        iexact HS1
      isplitl [HS2]; · iexact HS2
      iexact HS3
    iexact Hg
  isplitl [Ho]; · iexact Ho
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; exact h4
    unfold owns; iexists _; isplitr; · ipureintro; rfl
    iexact H4
  iexists _; isplitr; · ipureintro; exact h5
  iexact H5

/-- The body at a point of case C: from what is held before the point to what is held after it. -/
theorem soundC {c : Dev nD} (s : Says m c) (t : Fin cfg0.N) (hi : t.val % 28 = 27) (hb : t.val / 28 % 2 = 0) (Y4 : Vec F S2x14336 .f32) (Y5 : Vec F S2x4096 .f32) :
    (iprop((rdat s).Φ t.castSucc ∗ (rdat s).owesAt () t.castSucc
        ∗ owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t)
        ∗ owns (c : Thread nD τ) (ms4 t) fullShare Y4 ∗ owns (c : Thread nD τ) (ms5 t) fullShare Y5) : sProp 𝕄)
      ⊢ wp frame (wpE (defs₀ (F := F)) Variants.none c none) Set.univ (bodyAt0 t) fun _ =>
        iprop((rdat s).Φ t.succ ∗ (rdat s).owesAt () t.succ
        ∗ (∃ X, ⌜X = iblk m c 0 t⌝ ∗ owns (c : Thread nD τ) (ms0 t) fullShare X) ∗ (∃ X, ⌜X = iblk m c 1 t⌝ ∗ owns (c : Thread nD τ) (ms1 t) fullShare X) ∗ (∃ X, ⌜X = iblk m c 2 t⌝ ∗ owns (c : Thread nD τ) (ms2 t) fullShare X) ∗ (∃ X, ⌜X = iblk m c 3 t⌝ ∗ owns (c : Thread nD τ) (ms3 t) fullShare X)
        ∗ (∃ X, ⌜s.R4 t Y4 X⌝ ∗ owns (c : Thread nD τ) (ms4 t) fullShare X) ∗ (∃ X, ⌜s.R5 t Y5 X⌝ ∗ owns (c : Thread nD τ) (ms5 t) fullShare X)) := by
  have hN : t.val < 56 := Nat.lt_of_lt_of_eq t.isLt N_0
  dsimp only [rdat]
  simp only [Fin.val_castSucc, Fin.val_succ]
  iintro ⟨⟨⟨⟨%x8, %x9, %hg, HS0, HS1⟩, HS2, ⟨%x11, HS3⟩⟩, Hg⟩, Ho, H0, H1, H2, H3, H4, H5⟩
  iapply ((atC m c t hi hb Y4 Y5 x8 x9 x11).2.2.2 Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  isplitl [HS3]; · iexact HS3
  iintro ⟨H0, H1, H2, H3, H4, H5, HS0, HS1, HS2, HS3⟩
  obtain ⟨h4, h5, h8⟩ := s.ofC t hi hb Y4 Y5 x8 x9 x11 (hg (by omega))
  isplitl [HS0 HS1 HS2 HS3 Hg]
  · isplitl [HS0 HS1 HS2 HS3]
    · isplitl [HS0 HS1]
      · iexists _; iexists _; isplitr
        · ipureintro; exact fun _ => h8
        isplitl [HS0]; · iexact HS0
        unfold owns; iexists _; isplitr; · ipureintro; rfl
        iexact HS1
      isplitl [HS2]; · iexact HS2
      iexact HS3
    iexact Hg
  isplitl [Ho]; · iexact Ho
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; exact h4
    unfold owns; iexists _; isplitr; · ipureintro; rfl
    iexact H4
  iexists _; isplitr; · ipureintro; exact h5
  unfold owns; iexists _; isplitr; · ipureintro; rfl
  iexact H5

/-- The body at a point of case D: from what is held before the point to what is held after it. -/
theorem soundD {c : Dev nD} (s : Says m c) (t : Fin cfg0.N) (hi : t.val % 28 = 0) (hb : t.val / 28 % 2 = 1) (Y4 : Vec F S2x14336 .f32) (Y5 : Vec F S2x4096 .f32) :
    (iprop((rdat s).Φ t.castSucc ∗ (rdat s).owesAt () t.castSucc
        ∗ owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t)
        ∗ owns (c : Thread nD τ) (ms4 t) fullShare Y4 ∗ owns (c : Thread nD τ) (ms5 t) fullShare Y5) : sProp 𝕄)
      ⊢ wp frame (wpE (defs₀ (F := F)) Variants.none c none) Set.univ (bodyAt0 t) fun _ =>
        iprop((rdat s).Φ t.succ ∗ (rdat s).owesAt () t.succ
        ∗ (∃ X, ⌜X = iblk m c 0 t⌝ ∗ owns (c : Thread nD τ) (ms0 t) fullShare X) ∗ (∃ X, ⌜X = iblk m c 1 t⌝ ∗ owns (c : Thread nD τ) (ms1 t) fullShare X) ∗ (∃ X, ⌜X = iblk m c 2 t⌝ ∗ owns (c : Thread nD τ) (ms2 t) fullShare X) ∗ (∃ X, ⌜X = iblk m c 3 t⌝ ∗ owns (c : Thread nD τ) (ms3 t) fullShare X)
        ∗ (∃ X, ⌜s.R4 t Y4 X⌝ ∗ owns (c : Thread nD τ) (ms4 t) fullShare X) ∗ (∃ X, ⌜s.R5 t Y5 X⌝ ∗ owns (c : Thread nD τ) (ms5 t) fullShare X)) := by
  have hN : t.val < 56 := Nat.lt_of_lt_of_eq t.isLt N_0
  dsimp only [rdat]
  simp only [Fin.val_castSucc, Fin.val_succ]
  iintro ⟨⟨⟨⟨%x8, %x9, %hg, HS0, HS1⟩, HS2, ⟨%x11, HS3⟩⟩, Hg⟩, Ho, H0, H1, H2, H3, H4, H5⟩
  iapply ((atD m c t hi hb Y4 Y5 x8 x9 x11).2.2.2 Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  isplitl [HS3]; · iexact HS3
  iintro ⟨H0, H1, H2, H3, H4, H5, ⟨%f8, HS0⟩, ⟨%f9, HS1⟩, HS2, HS3⟩
  obtain ⟨h4, h5, h8⟩ := s.ofD t hi hb Y4 Y5 x8 x9 x11
  isplitl [HS0 HS1 HS2 HS3 Hg]
  · isplitl [HS0 HS1 HS2 HS3]
    · isplitl [HS0 HS1]
      · iexists _; iexists _; isplitr
        · ipureintro; exact fun _ => h8 f8 f9
        isplitl [HS0]
        · unfold owns; iexists _; isplitr; · ipureintro; rfl
          iexact HS0
        unfold owns; iexists _; isplitr; · ipureintro; rfl
        iexact HS1
      isplitl [HS2]; · iexact HS2
      iexact HS3
    iexact Hg
  isplitl [Ho]; · iexact Ho
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; exact h4
    unfold owns; iexists _; isplitr; · ipureintro; rfl
    iexact H4
  iexists _; isplitr; · ipureintro; exact h5
  iexact H5

/-- The body at a point of case E: from what is held before the point to what is held after it. -/
theorem soundE {c : Dev nD} (s : Says m c) (t : Fin cfg0.N) (hi : (t.val % 28 ≠ 0 ∧ t.val % 28 ≠ 27)) (hb : t.val / 28 % 2 = 1) (Y4 : Vec F S2x14336 .f32) (Y5 : Vec F S2x4096 .f32) :
    (iprop((rdat s).Φ t.castSucc ∗ (rdat s).owesAt () t.castSucc
        ∗ owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t)
        ∗ owns (c : Thread nD τ) (ms4 t) fullShare Y4 ∗ owns (c : Thread nD τ) (ms5 t) fullShare Y5) : sProp 𝕄)
      ⊢ wp frame (wpE (defs₀ (F := F)) Variants.none c none) Set.univ (bodyAt0 t) fun _ =>
        iprop((rdat s).Φ t.succ ∗ (rdat s).owesAt () t.succ
        ∗ (∃ X, ⌜X = iblk m c 0 t⌝ ∗ owns (c : Thread nD τ) (ms0 t) fullShare X) ∗ (∃ X, ⌜X = iblk m c 1 t⌝ ∗ owns (c : Thread nD τ) (ms1 t) fullShare X) ∗ (∃ X, ⌜X = iblk m c 2 t⌝ ∗ owns (c : Thread nD τ) (ms2 t) fullShare X) ∗ (∃ X, ⌜X = iblk m c 3 t⌝ ∗ owns (c : Thread nD τ) (ms3 t) fullShare X)
        ∗ (∃ X, ⌜s.R4 t Y4 X⌝ ∗ owns (c : Thread nD τ) (ms4 t) fullShare X) ∗ (∃ X, ⌜s.R5 t Y5 X⌝ ∗ owns (c : Thread nD τ) (ms5 t) fullShare X)) := by
  have hN : t.val < 56 := Nat.lt_of_lt_of_eq t.isLt N_0
  dsimp only [rdat]
  simp only [Fin.val_castSucc, Fin.val_succ]
  iintro ⟨⟨⟨⟨%x8, %x9, %hg, HS0, HS1⟩, HS2, ⟨%x11, HS3⟩⟩, Hg⟩, Ho, H0, H1, H2, H3, H4, H5⟩
  iapply ((atE m c t hi hb Y4 Y5 x8 x9 x11).2.2 Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  isplitl [HS3]; · iexact HS3
  iintro ⟨H0, H1, H2, H3, H4, H5, HS0, HS1, HS2, HS3⟩
  obtain ⟨h4, h5, h8⟩ := s.ofE t hi hb Y4 Y5 x8 x9 x11 (hg (by omega))
  isplitl [HS0 HS1 HS2 HS3 Hg]
  · isplitl [HS0 HS1 HS2 HS3]
    · isplitl [HS0 HS1]
      · iexists _; iexists _; isplitr
        · ipureintro; exact fun _ => h8
        isplitl [HS0]; · iexact HS0
        unfold owns; iexists _; isplitr; · ipureintro; rfl
        iexact HS1
      isplitl [HS2]; · iexact HS2
      iexact HS3
    iexact Hg
  isplitl [Ho]; · iexact Ho
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; exact h4
    unfold owns; iexists _; isplitr; · ipureintro; rfl
    iexact H4
  iexists _; isplitr; · ipureintro; exact h5
  iexact H5

/-- The body at a point of case F: from what is held before the point to what is held after it. -/
theorem soundF {c : Dev nD} (s : Says m c) (t : Fin cfg0.N) (hi : t.val % 28 = 27) (hb : t.val / 28 % 2 = 1) (Y4 : Vec F S2x14336 .f32) (Y5 : Vec F S2x4096 .f32) :
    (iprop((rdat s).Φ t.castSucc ∗ (rdat s).owesAt () t.castSucc
        ∗ owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t)
        ∗ owns (c : Thread nD τ) (ms4 t) fullShare Y4 ∗ owns (c : Thread nD τ) (ms5 t) fullShare Y5) : sProp 𝕄)
      ⊢ wp frame (wpE (defs₀ (F := F)) Variants.none c none) Set.univ (bodyAt0 t) fun _ =>
        iprop((rdat s).Φ t.succ ∗ (rdat s).owesAt () t.succ
        ∗ (∃ X, ⌜X = iblk m c 0 t⌝ ∗ owns (c : Thread nD τ) (ms0 t) fullShare X) ∗ (∃ X, ⌜X = iblk m c 1 t⌝ ∗ owns (c : Thread nD τ) (ms1 t) fullShare X) ∗ (∃ X, ⌜X = iblk m c 2 t⌝ ∗ owns (c : Thread nD τ) (ms2 t) fullShare X) ∗ (∃ X, ⌜X = iblk m c 3 t⌝ ∗ owns (c : Thread nD τ) (ms3 t) fullShare X)
        ∗ (∃ X, ⌜s.R4 t Y4 X⌝ ∗ owns (c : Thread nD τ) (ms4 t) fullShare X) ∗ (∃ X, ⌜s.R5 t Y5 X⌝ ∗ owns (c : Thread nD τ) (ms5 t) fullShare X)) := by
  have hN : t.val < 56 := Nat.lt_of_lt_of_eq t.isLt N_0
  dsimp only [rdat]
  simp only [Fin.val_castSucc, Fin.val_succ]
  iintro ⟨⟨⟨⟨%x8, %x9, %hg, HS0, HS1⟩, HS2, ⟨%x11, HS3⟩⟩, Hg⟩, Ho, H0, H1, H2, H3, H4, H5⟩
  iapply ((atF m c t hi hb Y4 Y5 x8 x9 x11).2.2.2 Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  isplitl [HS3]; · iexact HS3
  iintro ⟨H0, H1, H2, H3, H4, H5, HS0, HS1, HS2, HS3⟩
  obtain ⟨h4, h5, h8⟩ := s.ofF t hi hb Y4 Y5 x8 x9 x11 (hg (by omega))
  isplitl [HS0 HS1 HS2 HS3 Hg]
  · isplitl [HS0 HS1 HS2 HS3]
    · isplitl [HS0 HS1]
      · iexists _; iexists _; isplitr
        · ipureintro; exact fun _ => h8
        isplitl [HS0]; · iexact HS0
        unfold owns; iexists _; isplitr; · ipureintro; rfl
        iexact HS1
      isplitl [HS2]; · iexact HS2
      iexact HS3
    iexact Hg
  isplitl [Ho]; · iexact Ho
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; exact h4
    unfold owns; iexists _; isplitr; · ipureintro; rfl
    iexact H4
  iexists _; isplitr; · ipureintro; exact h5
  unfold owns; iexists _; isplitr; · ipureintro; rfl
  iexact H5

theorem body_obligation {c : Dev nD} (s : Says m c) : (rdat s).BodyObligation (defs₀ (F := F)) Variants.none () Set.univ := fun t Y hY => by
  rw [bigSep_W0, bigSep_W0, defs₀_row]
  rw [finds_0 s t _ (hY 0), finds_1 s t _ (hY 1), finds_2 s t _ (hY 2), finds_3 s t _ (hY 3)]
  have hN : t.val < 56 := Nat.lt_of_lt_of_eq t.isLt N_0
  by_cases hb : t.val / 28 % 2 = 0
  · by_cases h0 : t.val % 28 = 0
    · exact triple_restated (soundA s t h0 hb (Y 4) (Y 5)) rfl .rfl fun _ => .rfl
    by_cases h1 : t.val % 28 = 27
    · exact triple_restated (soundC s t h1 hb (Y 4) (Y 5)) rfl .rfl fun _ => .rfl
    exact triple_restated (soundB s t ⟨h0, h1⟩ hb (Y 4) (Y 5)) rfl .rfl fun _ => .rfl
  · have hb : t.val / 28 % 2 = 1 := by omega
    by_cases h0 : t.val % 28 = 0
    · exact triple_restated (soundD s t h0 hb (Y 4) (Y 5)) rfl .rfl fun _ => .rfl
    by_cases h1 : t.val % 28 = 27
    · exact triple_restated (soundF s t h1 hb (Y 4) (Y 5)) rfl .rfl fun _ => .rfl
    exact triple_restated (soundE s t ⟨h0, h1⟩ hb (Y 4) (Y 5)) rfl .rfl fun _ => .rfl

theorem hin {c : Dev nD} (s : Says m c) : Pipeline.ΦA spec0 c ⊢ (rdat s).Φ 0 := by
  rw [held_eq]; dsimp only [rdat]
  iintro ⟨⟨⟨%d8, H0⟩, ⟨%d9, H1⟩, H2, H3⟩, Hg⟩
  isplitl [H0 H1 H2 H3]
  · isplitl [H0 H1]
    · iexists d8; iexists d9; isplitr
      · ipureintro; intro h; exact absurd rfl h
      isplitl [H0]; · iexact H0
      iexact H1
    isplitl [H2]; · iexact H2
    iexact H3
  iexact Hg

theorem hout {c : Dev nD} (s : Says m c) : (rdat s).Φ (Fin.last cfg0.N) ⊢ Pipeline.ΦA spec0 c := by
  rw [held_eq]; dsimp only [rdat]
  iintro ⟨⟨⟨%d8, %d9, -, H0, H1⟩, H2, H3⟩, Hg⟩
  isplitl [H0 H1 H2 H3]
  · isplitl [H0]; · iexists _; iexact H0
    isplitl [H1]; · iexists _; iexact H1
    isplitl [H2]; · iexact H2
    iexact H3
  iexact Hg

set_option backward.isDefEq.respectTransparency.types false in
/-- The launch: it ends with each array at contents the data allow, and every semaphore counter at zero. -/
theorem run_main (s : (c : Dev nD) → Says m c) :
    θ_run defs (onTc (τ := τ) (main (F := F))) (s₀ m ρ) (fun r => Idealize.ShloMosaic.Pipeline.RDat.FramePost cfg0 (fun c => rdat (s c)) (V m) r ∧ r.2.sem = fun _ => 0) :=
  RDat.θ_run_frame_track (Q' := _) cfgs (0 : Fin 1) launch0 defs₀ Variants.none (fun c => rdat (s c)) m ρ main
    (hbody := fun c => body_obligation (s c)) (hshare := fun c w => by unfold RDat.share; split <;> rfl)
    (howed := fun _ _ => rfl) (V := V m) (hmain := hmain m Variants.none) (hA := fun _ _ => rfl) (hin := fun c => hin (s c)) (hout := fun c => hout (s c))

/-- The argument arrays end unchanged and every counter at zero, whatever is said of the outputs. -/
theorem frame (s : (c : Dev nD) → Says m c) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨(Idealize.ShloMosaic.Pipeline.RDat.FramePost.arr_in h.1 c 0 rfl).trans (V_main_arg0 m c), (Idealize.ShloMosaic.Pipeline.RDat.FramePost.arr_in h.1 c 1 rfl).trans (V_main_arg1 m c),
    (Idealize.ShloMosaic.Pipeline.RDat.FramePost.arr_in h.1 c 2 rfl).trans (V_main_arg2 m c), (Idealize.ShloMosaic.Pipeline.RDat.FramePost.arr_in h.1 c 3 rfl).trans (V_main_arg3 m c)⟩, h.2⟩) (run_main ρ s)

variable (m) in
/-- Nothing said. -/
def nothing (c : Dev nD) : Says m c where
  Good _ _ _ := True
  R4 _ _ _ := True
  R5 _ _ _ := True
  ofA := by intros; exact ⟨trivial, trivial, fun _ _ => trivial⟩
  ofB := by intros; exact ⟨trivial, trivial, trivial⟩
  ofC := by intros; exact ⟨trivial, trivial, trivial⟩
  ofD := by intros; exact ⟨trivial, trivial, fun _ _ => trivial⟩
  ofE := by intros; exact ⟨trivial, trivial, trivial⟩
  ofF := by intros; exact ⟨trivial, trivial, trivial⟩

end Cert.Stats.Run

end
-- ==== Proof.StatsBase.lean ====
module

public import proofs.«01_k».proof.Proof.Gen.StatsIdeal.Frame
public import proofs.«01_k».proof.Proof.Gen.StatsIdeal.Skeleton
public import proofs.«01_k».proof.Proof.Gen.StatsIdeal.Loops

@[expose] public section

set_option maxRecDepth 16384

noncomputable section

namespace Cert.StatsIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)
open Cert.StatsIdeal.Gen

variable {F : FTy → Type} [FloatOps F] [Named F]

local notation "𝕄" => MT nD τ sig Unit (Elt F) ℕ (UR sig nD τ) ℕ

/-! ## The branch conditions of a point, by its number -/

theorem cond1_iff : ∀ t : Fin cfg0.N, k0_cond1 (grid0.coords t) = 1#1 ↔ t.val % 28 = 0 :=
  (fun t => by
    have ht : t.val < 56 := Nat.lt_of_lt_of_eq t.isLt N_0
    have e0 : (grid0.coords t 0).val = t.val / 28 % 2 := Pipeline.Grid.coords_val t 0 (by decide) rfl
    have e1 : (grid0.coords t 1).val = t.val / 1 % 28 := Pipeline.Grid.coords_val t 1 (by decide) rfl
    simp only [k0_cond1, e0, e1]
    word_cmp
   : ∀ t : Fin grid0.N, k0_cond1 (grid0.coords t) = 1#1 ↔ t.val % 28 = 0)

theorem cond2_iff : ∀ t : Fin cfg0.N, k0_cond2 (grid0.coords t) = 1#1 ↔ t.val / 28 % 2 = 0 :=
  (fun t => by
    have ht : t.val < 56 := Nat.lt_of_lt_of_eq t.isLt N_0
    have e0 : (grid0.coords t 0).val = t.val / 28 % 2 := Pipeline.Grid.coords_val t 0 (by decide) rfl
    have e1 : (grid0.coords t 1).val = t.val / 1 % 28 := Pipeline.Grid.coords_val t 1 (by decide) rfl
    simp only [k0_cond2, e0, e1]
    word_cmp
   : ∀ t : Fin grid0.N, k0_cond2 (grid0.coords t) = 1#1 ↔ t.val / 28 % 2 = 0)

theorem cond3_iff : ∀ t : Fin cfg0.N, k0_cond3 (grid0.coords t) = 1#1 ↔ t.val / 28 % 2 = 0 ∧ t.val % 28 = 27 :=
  (fun t => by
    have ht : t.val < 56 := Nat.lt_of_lt_of_eq t.isLt N_0
    have e0 : (grid0.coords t 0).val = t.val / 28 % 2 := Pipeline.Grid.coords_val t 0 (by decide) rfl
    have e1 : (grid0.coords t 1).val = t.val / 1 % 28 := Pipeline.Grid.coords_val t 1 (by decide) rfl
    simp only [k0_cond3, e0, e1]
    word_cmp
   : ∀ t : Fin grid0.N, k0_cond3 (grid0.coords t) = 1#1 ↔ t.val / 28 % 2 = 0 ∧ t.val % 28 = 27)

theorem cond4_iff : ∀ t : Fin cfg0.N, k0_cond4 (grid0.coords t) = 1#1 ↔ t.val / 28 % 2 = 1 :=
  (fun t => by
    have ht : t.val < 56 := Nat.lt_of_lt_of_eq t.isLt N_0
    have e0 : (grid0.coords t 0).val = t.val / 28 % 2 := Pipeline.Grid.coords_val t 0 (by decide) rfl
    have e1 : (grid0.coords t 1).val = t.val / 1 % 28 := Pipeline.Grid.coords_val t 1 (by decide) rfl
    simp only [k0_cond4, e0, e1]
    word_cmp
   : ∀ t : Fin grid0.N, k0_cond4 (grid0.coords t) = 1#1 ↔ t.val / 28 % 2 = 1)

theorem cond5_iff : ∀ t : Fin cfg0.N, k0_cond5 (grid0.coords t) = 1#1 ↔ t.val / 28 % 2 = 1 ∧ t.val % 28 = 27 :=
  (fun t => by
    have ht : t.val < 56 := Nat.lt_of_lt_of_eq t.isLt N_0
    have e0 : (grid0.coords t 0).val = t.val / 28 % 2 := Pipeline.Grid.coords_val t 0 (by decide) rfl
    have e1 : (grid0.coords t 1).val = t.val / 1 % 28 := Pipeline.Grid.coords_val t 1 (by decide) rfl
    simp only [k0_cond5, e0, e1]
    word_cmp
   : ∀ t : Fin grid0.N, k0_cond5 (grid0.coords t) = 1#1 ↔ t.val / 28 % 2 = 1 ∧ t.val % 28 = 27)

/-- Each window's staging memref at a point, and that it is a whole buffer. -/
abbrev ms0 (t : Fin cfg0.N) : Memref sig .tc .vmem S2x14336 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S2x4096 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x512x4096 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x512x2048 .i8 := win0_3.stage (cfg0.slots t 3)
abbrev hs3 (t : Fin cfg0.N) : (ms3 t).IsWhole := hstage0_3 ((cfg0.slots t 3).cast nbuf0_3)
abbrev ms4 (t : Fin cfg0.N) : Memref sig .tc .vmem S2x14336 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S2x4096 .f32 := win0_5.stage (cfg0.slots t 5)
abbrev hs5 (t : Fin cfg0.N) : (ms5 t).IsWhole := hstage0_5 ((cfg0.slots t 5).cast nbuf0_5)
/-- The scratch buffers. -/
abbrev sc0 : Memref sig .tc .vmem S8x4096 .f32 := Memref.whole cc0_scratch0
abbrev sc1 : Memref sig .tc .vmem S8x4096 .f32 := Memref.whole cc0_scratch1
abbrev sc2 : Memref sig .tc .vmem S512x128 .f32 := Memref.whole cc0_scratch2
abbrev sc3 : Memref sig .tc .vmem S512x128 .f32 := Memref.whole cc0_scratch3

/-- What is held beside the windows: each scratch buffer, as a memref, at some contents, and the generator register. -/
theorem held_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d)) ∗ (∃ r, prngReg c r)) := by
  unfold Pipeline.ΦA; rw [scopedRest0_eq]; simp only [sc0, sc1, sc2, sc3, owns_whole]; try rfl

end Cert.StatsIdeal.Run

end
-- ==== Proof.StatsRunA.lean ====
module

public import proofs.«01_k».proof.Proof.StatsBase

@[expose] public section

set_option maxRecDepth 16384

noncomputable section

namespace Cert.StatsIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)
open Cert.StatsIdeal.Gen

variable {F : FTy → Type} [FloatOps F] [Named F]

local notation "𝕄" => MT nD τ sig Unit (Elt F) ℕ (UR sig nD τ) ℕ

set_option maxHeartbeats 1000000 in
/-- The kernel body at a point of case A, run on whole staging and scratch buffers: the pieces it writes,
    found by the run, with the run itself. -/
noncomputable def runA (c : Dev nD) (i : grid0.Coords) (arg2 : Memref sig .tc .vmem S2x14336 .f32) (harg2 : arg2.IsWhole) (arg3 : Memref sig .tc .vmem S2x4096 .f32) (harg3 : arg3.IsWhole) (arg4 : Memref sig .tc .vmem S1x512x4096 .bf16) (harg4 : arg4.IsWhole) (arg5 : Memref sig .tc .vmem S1x512x2048 .i8) (harg5 : arg5.IsWhole) (arg6 : Memref sig .tc .vmem S2x14336 .f32) (harg6 : arg6.IsWhole) (arg7 : Memref sig .tc .vmem S2x4096 .f32) (harg7 : arg7.IsWhole) (arg8 : Memref sig .tc .vmem S8x4096 .f32) (harg8 : arg8.IsWhole) (arg9 : Memref sig .tc .vmem S8x4096 .f32) (harg9 : arg9.IsWhole) (arg10 : Memref sig .tc .vmem S512x128 .f32) (harg10 : arg10.IsWhole) (arg11 : Memref sig .tc .vmem S512x128 .f32) (harg11 : arg11.IsWhole) (hc1 : k0_cond1 i = 1#1) (hc2 : k0_cond2 i = 1#1) (hc3 : ¬ k0_cond3 i = 1#1) (hc4 : ¬ k0_cond4 i = 1#1) (hc5 : ¬ k0_cond5 i = 1#1)
    (x2 : Vec F S2x14336 .f32) (x3 : Vec F S2x4096 .f32) (x4 : Vec F S1x512x4096 .bf16) (x5 : Vec F S1x512x2048 .i8) (x6 : Vec F S2x14336 .f32) (x7 : Vec F S2x4096 .f32) (x8 : Vec F S8x4096 .f32) (x9 : Vec F S8x4096 .f32) (x11 : Vec F S512x128 .f32) :
    Σ' (L6 : List (View.Piece (Elt F) S2x14336 .f32)), Σ' (L8 : List (View.Piece (Elt F) S8x4096 .f32)), { L9 : List (View.Piece (Elt F) S8x4096 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ owns (c : Thread nD τ) arg11 fullShare x11
            ∗ (iprop(owns (c : Thread nD τ) arg2 fullShare x2 ∗ owns (c : Thread nD τ) arg3 fullShare x3 ∗ owns (c : Thread nD τ) arg4 fullShare x4 ∗ owns (c : Thread nD τ) arg5 fullShare x5 ∗ (arg6.view.loc (c : Thread nD τ) ↦[arg6.view.set]{fullShare} arg6.view.writes (Elt F) (harg6.unread x6) L6) ∗ owns (c : Thread nD τ) arg7 fullShare x7 ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9) ∗ (∃ d, owns (c : Thread nD τ) arg10 fullShare d) ∗ (∃ d, owns (c : Thread nD τ) arg11 fullShare d)) -∗ K ⟨⟩))
          ⊢ wp frame (wpE (defs₀ (F := F)) Variants.none c none) E (cc0_adamw4_stats i arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0_adamw4_stats_eq_skeleton]; unfold cc0_adamw4_stats_skel
    simp only [k0_part26_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg11.eq_unread hf11
    sl_exec (disch := first | sl_exact hc1 | sl_exact hc2 | sl_exact hc3 | sl_exact hc4 | sl_exact hc5)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexact H6
    isplitl [H7]
    · iexists _; isplitr; · ipureintro; exact harg7.read_unread _
      iexact H7
    isplitl [H8]; · iexists _; iexact H8
    isplitl [H9]; · iexists _; iexact H9
    isplitl [H10]
    · iexists _, _; isplitr; swap; · iexact H10
      ipureintro; rfl
    iexists _, _; isplitr; swap; · iexact H11
    ipureintro; rfl

end Cert.StatsIdeal.Run

end
-- ==== Proof.StatsRunB.lean ====
module

public import proofs.«01_k».proof.Proof.StatsBase

@[expose] public section

set_option maxRecDepth 16384

noncomputable section

namespace Cert.StatsIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)
open Cert.StatsIdeal.Gen

variable {F : FTy → Type} [FloatOps F] [Named F]

local notation "𝕄" => MT nD τ sig Unit (Elt F) ℕ (UR sig nD τ) ℕ

set_option maxHeartbeats 1000000 in
/-- The kernel body at a point of case B, run on whole staging and scratch buffers: the pieces it writes,
    found by the run, with the run itself. -/
noncomputable def runB (c : Dev nD) (i : grid0.Coords) (arg2 : Memref sig .tc .vmem S2x14336 .f32) (harg2 : arg2.IsWhole) (arg3 : Memref sig .tc .vmem S2x4096 .f32) (harg3 : arg3.IsWhole) (arg4 : Memref sig .tc .vmem S1x512x4096 .bf16) (harg4 : arg4.IsWhole) (arg5 : Memref sig .tc .vmem S1x512x2048 .i8) (harg5 : arg5.IsWhole) (arg6 : Memref sig .tc .vmem S2x14336 .f32) (harg6 : arg6.IsWhole) (arg7 : Memref sig .tc .vmem S2x4096 .f32) (harg7 : arg7.IsWhole) (arg8 : Memref sig .tc .vmem S8x4096 .f32) (harg8 : arg8.IsWhole) (arg9 : Memref sig .tc .vmem S8x4096 .f32) (harg9 : arg9.IsWhole) (arg10 : Memref sig .tc .vmem S512x128 .f32) (harg10 : arg10.IsWhole) (arg11 : Memref sig .tc .vmem S512x128 .f32) (harg11 : arg11.IsWhole) (hc1 : ¬ k0_cond1 i = 1#1) (hc2 : k0_cond2 i = 1#1) (hc3 : ¬ k0_cond3 i = 1#1) (hc4 : ¬ k0_cond4 i = 1#1) (hc5 : ¬ k0_cond5 i = 1#1)
    (x2 : Vec F S2x14336 .f32) (x3 : Vec F S2x4096 .f32) (x4 : Vec F S1x512x4096 .bf16) (x5 : Vec F S1x512x2048 .i8) (x6 : Vec F S2x14336 .f32) (x7 : Vec F S2x4096 .f32) (x8 : Vec F S8x4096 .f32) (x9 : Vec F S8x4096 .f32) (x11 : Vec F S512x128 .f32) :
    Σ' (L6 : List (View.Piece (Elt F) S2x14336 .f32)), { L9 : List (View.Piece (Elt F) S8x4096 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ owns (c : Thread nD τ) arg11 fullShare x11
            ∗ (iprop(owns (c : Thread nD τ) arg2 fullShare x2 ∗ owns (c : Thread nD τ) arg3 fullShare x3 ∗ owns (c : Thread nD τ) arg4 fullShare x4 ∗ owns (c : Thread nD τ) arg5 fullShare x5 ∗ (arg6.view.loc (c : Thread nD τ) ↦[arg6.view.set]{fullShare} arg6.view.writes (Elt F) (harg6.unread x6) L6) ∗ owns (c : Thread nD τ) arg7 fullShare x7 ∗ owns (c : Thread nD τ) arg8 fullShare x8 ∗ (arg9.view.loc (c : Thread nD τ) ↦[arg9.view.set]{fullShare} arg9.view.writes (Elt F) (harg9.unread x9) L9) ∗ (∃ d, owns (c : Thread nD τ) arg10 fullShare d) ∗ (∃ d, owns (c : Thread nD τ) arg11 fullShare d)) -∗ K ⟨⟩))
          ⊢ wp frame (wpE (defs₀ (F := F)) Variants.none c none) E (cc0_adamw4_stats i arg2 harg2 arg3 harg3 arg4 harg4 arg5 harg5 arg6 harg6 arg7 harg7 arg8 harg8 arg9 harg9 arg10 harg10 arg11 harg11) K } := by
  refine ⟨?_, ?_, fun E K => ?run⟩
  case run =>
    simp only [cc0_adamw4_stats_eq_skeleton]; unfold cc0_adamw4_stats_skel
    simp only [k0_part26_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg11.eq_unread hf11
    sl_exec (disch := first | sl_exact hc1 | sl_exact hc2 | sl_exact hc3 | sl_exact hc4 | sl_exact hc5)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexact H6
    isplitl [H7]
    · iexists _; isplitr; · ipureintro; exact harg7.read_unread _
      iexact H7
    isplitl [H8]
    · iexists _; isplitr; · ipureintro; exact harg8.read_unread _
      iexact H8
    isplitl [H9]; · iexact H9
    isplitl [H10]
    · iexists _, _; isplitr; swap; · iexact H10
      ipureintro; rfl
    iexists _, _; isplitr; swap; · iexact H11
    ipureintro; rfl

end Cert.StatsIdeal.Run

end
-- ==== Proof.StatsRunC.lean ====
module

public import proofs.«01_k».proof.Proof.StatsBase

@[expose] public section

set_option maxRecDepth 16384

noncomputable section

namespace Cert.StatsIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)
open Cert.StatsIdeal.Gen

variable {F : FTy → Type} [FloatOps F] [Named F]

local notation "𝕄" => MT nD τ sig Unit (Elt F) ℕ (UR sig nD τ) ℕ

set_option maxHeartbeats 1000000 in
/-- The kernel body at a point of case C, run on whole staging and scratch buffers: the pieces it writes,
    found by the run, with the run itself. -/
noncomputable def runC (c : Dev nD) (i : grid0.Coords) (arg2 : Memref sig .tc .vmem S2x14336 .f32) (harg2 : arg2.IsWhole) (arg3 : Memref sig .tc .vmem S2x4096 .f32) (harg3 : arg3.IsWhole) (arg4 : Memref sig .tc .vmem S1x512x4096 .bf16) (harg4 : arg4.IsWhole) (arg5 : Memref sig .tc .vmem S1x512x2048 .i8) (harg5 : arg5.IsWhole) (arg6 : Memref sig .tc .vmem S2x14336 .f32) (harg6 : arg6.IsWhole) (arg7 : Memref sig .tc .vmem S2x4096 .f32) (harg7 : arg7.IsWhole) (arg8 : Memref sig .tc .vmem S8x4096 .f32) (harg8 : arg8.IsWhole) (arg9 : Memref sig .tc .vmem S8x4096 .f32) (harg9 : arg9.IsWhole) (arg10 : Memref sig .tc .vmem S512x128 .f32) (harg10 : arg10.IsWhole) (arg11 : Memref sig .tc .vmem S512x128 .f32) (harg11 : arg11.IsWhole) (hc1 : ¬ k0_cond1 i = 1#1) (hc2 : k0_cond2 i = 1#1) (hc3 : k0_cond3 i = 1#1) (hc4 : ¬ k0_cond4 i = 1#1) (hc5 : ¬ k0_cond5 i = 1#1)
    (x2 : Vec F S2x14336 .f32) (x3 : Vec F S2x4096 .f32) (x4 : Vec F S1x512x4096 .bf16) (x5 : Vec F S1x512x2048 .i8) (x6 : Vec F S2x14336 .f32) (x7 : Vec F S2x4096 .f32) (x8 : Vec F S8x4096 .f32) (x9 : Vec F S8x4096 .f32) (x11 : Vec F S512x128 .f32) :
    Σ' (L6 : List (View.Piece (Elt F) S2x14336 .f32)), Σ' (L7 : List (View.Piece (Elt F) S2x4096 .f32)), { L9 : List (View.Piece (Elt F) S8x4096 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ owns (c : Thread nD τ) arg11 fullShare x11
            ∗ (iprop(owns (c : Thread nD τ) arg2 fullShare x2 ∗ owns (c : Thread nD τ) arg3 fullShare x3 ∗ owns (c : Thread nD τ) arg4 fullShare x4 ∗ owns (c : Thread nD τ) arg5 fullShare x5 ∗ (arg6.view.loc (c : Thread nD τ) ↦[arg6.view.set]{fullShare} arg6.view.writes (Elt F) (harg6.unread x6) L6) ∗ (arg7.view.loc (c : Thread nD τ) ↦[arg7.view.set]{fullShare} arg7.view.writes (Elt F) (harg7.unread x7) L7) ∗ owns (c : Thread nD τ) arg8 fullShare x8 ∗ (arg9.view.loc (c : Thread nD τ) ↦[arg9.view.set]{fullShare} arg9.view.writes (Elt F) (harg9.unread x9) L9) ∗ (∃ d, owns (c : Thread nD τ) arg10 fullShare d) ∗ (∃ d, owns (c : Thread nD τ) arg11 fullShare d)) -∗ K ⟨⟩))
          ⊢ wp frame (wpE (defs₀ (F := F)) Variants.none c none) E (cc0_adamw4_stats i arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0_adamw4_stats_eq_skeleton]; unfold cc0_adamw4_stats_skel
    simp only [k0_part26_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg11.eq_unread hf11
    sl_exec (disch := first | sl_exact hc1 | sl_exact hc2 | sl_exact hc3 | sl_exact hc4 | sl_exact hc5)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexact H6
    isplitl [H7]; · iexact H7
    isplitl [H8]
    · iexists _; isplitr; · ipureintro; exact harg8.read_unread _
      iexact H8
    isplitl [H9]; · iexact H9
    isplitl [H10]
    · iexists _, _; isplitr; swap; · iexact H10
      ipureintro; rfl
    iexists _, _; isplitr; swap; · iexact H11
    ipureintro; rfl

end Cert.StatsIdeal.Run

end
-- ==== Proof.StatsRunD.lean ====
module

public import proofs.«01_k».proof.Proof.StatsBase

@[expose] public section

set_option maxRecDepth 16384

noncomputable section

namespace Cert.StatsIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)
open Cert.StatsIdeal.Gen

variable {F : FTy → Type} [FloatOps F] [Named F]

local notation "𝕄" => MT nD τ sig Unit (Elt F) ℕ (UR sig nD τ) ℕ

set_option maxHeartbeats 1000000 in
/-- The kernel body at a point of case D, run on whole staging and scratch buffers: the pieces it writes,
    found by the run, with the run itself. -/
noncomputable def runD (c : Dev nD) (i : grid0.Coords) (arg2 : Memref sig .tc .vmem S2x14336 .f32) (harg2 : arg2.IsWhole) (arg3 : Memref sig .tc .vmem S2x4096 .f32) (harg3 : arg3.IsWhole) (arg4 : Memref sig .tc .vmem S1x512x4096 .bf16) (harg4 : arg4.IsWhole) (arg5 : Memref sig .tc .vmem S1x512x2048 .i8) (harg5 : arg5.IsWhole) (arg6 : Memref sig .tc .vmem S2x14336 .f32) (harg6 : arg6.IsWhole) (arg7 : Memref sig .tc .vmem S2x4096 .f32) (harg7 : arg7.IsWhole) (arg8 : Memref sig .tc .vmem S8x4096 .f32) (harg8 : arg8.IsWhole) (arg9 : Memref sig .tc .vmem S8x4096 .f32) (harg9 : arg9.IsWhole) (arg10 : Memref sig .tc .vmem S512x128 .f32) (harg10 : arg10.IsWhole) (arg11 : Memref sig .tc .vmem S512x128 .f32) (harg11 : arg11.IsWhole) (hc1 : k0_cond1 i = 1#1) (hc2 : ¬ k0_cond2 i = 1#1) (hc3 : ¬ k0_cond3 i = 1#1) (hc4 : k0_cond4 i = 1#1) (hc5 : ¬ k0_cond5 i = 1#1)
    (x2 : Vec F S2x14336 .f32) (x3 : Vec F S2x4096 .f32) (x4 : Vec F S1x512x4096 .bf16) (x5 : Vec F S1x512x2048 .i8) (x6 : Vec F S2x14336 .f32) (x7 : Vec F S2x4096 .f32) (x8 : Vec F S8x4096 .f32) (x9 : Vec F S8x4096 .f32) (x11 : Vec F S512x128 .f32) :
    Σ' (L6 : List (View.Piece (Elt F) S2x14336 .f32)), Σ' (L8 : List (View.Piece (Elt F) S8x4096 .f32)), { L9 : List (View.Piece (Elt F) S8x4096 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ owns (c : Thread nD τ) arg11 fullShare x11
            ∗ (iprop(owns (c : Thread nD τ) arg2 fullShare x2 ∗ owns (c : Thread nD τ) arg3 fullShare x3 ∗ owns (c : Thread nD τ) arg4 fullShare x4 ∗ owns (c : Thread nD τ) arg5 fullShare x5 ∗ (arg6.view.loc (c : Thread nD τ) ↦[arg6.view.set]{fullShare} arg6.view.writes (Elt F) (harg6.unread x6) L6) ∗ owns (c : Thread nD τ) arg7 fullShare x7 ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9) ∗ (∃ d, owns (c : Thread nD τ) arg10 fullShare d) ∗ (∃ d, owns (c : Thread nD τ) arg11 fullShare d)) -∗ K ⟨⟩))
          ⊢ wp frame (wpE (defs₀ (F := F)) Variants.none c none) E (cc0_adamw4_stats i arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0_adamw4_stats_eq_skeleton]; unfold cc0_adamw4_stats_skel
    simp only [k0_part26_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg11.eq_unread hf11
    sl_exec (disch := first | sl_exact hc1 | sl_exact hc2 | sl_exact hc3 | sl_exact hc4 | sl_exact hc5)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexact H6
    isplitl [H7]
    · iexists _; isplitr; · ipureintro; exact harg7.read_unread _
      iexact H7
    isplitl [H8]; · iexists _; iexact H8
    isplitl [H9]; · iexists _; iexact H9
    isplitl [H10]
    · iexists _, _; isplitr; swap; · iexact H10
      ipureintro; rfl
    iexists _, _; isplitr; swap; · iexact H11
    ipureintro; rfl

end Cert.StatsIdeal.Run

end
-- ==== Proof.StatsRunE.lean ====
module

public import proofs.«01_k».proof.Proof.StatsBase

@[expose] public section

set_option maxRecDepth 16384

noncomputable section

namespace Cert.StatsIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)
open Cert.StatsIdeal.Gen

variable {F : FTy → Type} [FloatOps F] [Named F]

local notation "𝕄" => MT nD τ sig Unit (Elt F) ℕ (UR sig nD τ) ℕ

set_option maxHeartbeats 1000000 in
/-- The kernel body at a point of case E, run on whole staging and scratch buffers: the pieces it writes,
    found by the run, with the run itself. -/
noncomputable def runE (c : Dev nD) (i : grid0.Coords) (arg2 : Memref sig .tc .vmem S2x14336 .f32) (harg2 : arg2.IsWhole) (arg3 : Memref sig .tc .vmem S2x4096 .f32) (harg3 : arg3.IsWhole) (arg4 : Memref sig .tc .vmem S1x512x4096 .bf16) (harg4 : arg4.IsWhole) (arg5 : Memref sig .tc .vmem S1x512x2048 .i8) (harg5 : arg5.IsWhole) (arg6 : Memref sig .tc .vmem S2x14336 .f32) (harg6 : arg6.IsWhole) (arg7 : Memref sig .tc .vmem S2x4096 .f32) (harg7 : arg7.IsWhole) (arg8 : Memref sig .tc .vmem S8x4096 .f32) (harg8 : arg8.IsWhole) (arg9 : Memref sig .tc .vmem S8x4096 .f32) (harg9 : arg9.IsWhole) (arg10 : Memref sig .tc .vmem S512x128 .f32) (harg10 : arg10.IsWhole) (arg11 : Memref sig .tc .vmem S512x128 .f32) (harg11 : arg11.IsWhole) (hc1 : ¬ k0_cond1 i = 1#1) (hc2 : ¬ k0_cond2 i = 1#1) (hc3 : ¬ k0_cond3 i = 1#1) (hc4 : k0_cond4 i = 1#1) (hc5 : ¬ k0_cond5 i = 1#1)
    (x2 : Vec F S2x14336 .f32) (x3 : Vec F S2x4096 .f32) (x4 : Vec F S1x512x4096 .bf16) (x5 : Vec F S1x512x2048 .i8) (x6 : Vec F S2x14336 .f32) (x7 : Vec F S2x4096 .f32) (x8 : Vec F S8x4096 .f32) (x9 : Vec F S8x4096 .f32) (x11 : Vec F S512x128 .f32) :
    Σ' (L6 : List (View.Piece (Elt F) S2x14336 .f32)), { L9 : List (View.Piece (Elt F) S8x4096 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ owns (c : Thread nD τ) arg11 fullShare x11
            ∗ (iprop(owns (c : Thread nD τ) arg2 fullShare x2 ∗ owns (c : Thread nD τ) arg3 fullShare x3 ∗ owns (c : Thread nD τ) arg4 fullShare x4 ∗ owns (c : Thread nD τ) arg5 fullShare x5 ∗ (arg6.view.loc (c : Thread nD τ) ↦[arg6.view.set]{fullShare} arg6.view.writes (Elt F) (harg6.unread x6) L6) ∗ owns (c : Thread nD τ) arg7 fullShare x7 ∗ owns (c : Thread nD τ) arg8 fullShare x8 ∗ (arg9.view.loc (c : Thread nD τ) ↦[arg9.view.set]{fullShare} arg9.view.writes (Elt F) (harg9.unread x9) L9) ∗ (∃ d, owns (c : Thread nD τ) arg10 fullShare d) ∗ (∃ d, owns (c : Thread nD τ) arg11 fullShare d)) -∗ K ⟨⟩))
          ⊢ wp frame (wpE (defs₀ (F := F)) Variants.none c none) E (cc0_adamw4_stats i arg2 harg2 arg3 harg3 arg4 harg4 arg5 harg5 arg6 harg6 arg7 harg7 arg8 harg8 arg9 harg9 arg10 harg10 arg11 harg11) K } := by
  refine ⟨?_, ?_, fun E K => ?run⟩
  case run =>
    simp only [cc0_adamw4_stats_eq_skeleton]; unfold cc0_adamw4_stats_skel
    simp only [k0_part26_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg11.eq_unread hf11
    sl_exec (disch := first | sl_exact hc1 | sl_exact hc2 | sl_exact hc3 | sl_exact hc4 | sl_exact hc5)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexact H6
    isplitl [H7]
    · iexists _; isplitr; · ipureintro; exact harg7.read_unread _
      iexact H7
    isplitl [H8]
    · iexists _; isplitr; · ipureintro; exact harg8.read_unread _
      iexact H8
    isplitl [H9]; · iexact H9
    isplitl [H10]
    · iexists _, _; isplitr; swap; · iexact H10
      ipureintro; rfl
    iexists _, _; isplitr; swap; · iexact H11
    ipureintro; rfl

end Cert.StatsIdeal.Run

end
-- ==== Proof.StatsRunF.lean ====
module

public import proofs.«01_k».proof.Proof.StatsBase

@[expose] public section

set_option maxRecDepth 16384

noncomputable section

namespace Cert.StatsIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)
open Cert.StatsIdeal.Gen

variable {F : FTy → Type} [FloatOps F] [Named F]

local notation "𝕄" => MT nD τ sig Unit (Elt F) ℕ (UR sig nD τ) ℕ

set_option maxHeartbeats 1000000 in
/-- The kernel body at a point of case F, run on whole staging and scratch buffers: the pieces it writes,
    found by the run, with the run itself. -/
noncomputable def runF (c : Dev nD) (i : grid0.Coords) (arg2 : Memref sig .tc .vmem S2x14336 .f32) (harg2 : arg2.IsWhole) (arg3 : Memref sig .tc .vmem S2x4096 .f32) (harg3 : arg3.IsWhole) (arg4 : Memref sig .tc .vmem S1x512x4096 .bf16) (harg4 : arg4.IsWhole) (arg5 : Memref sig .tc .vmem S1x512x2048 .i8) (harg5 : arg5.IsWhole) (arg6 : Memref sig .tc .vmem S2x14336 .f32) (harg6 : arg6.IsWhole) (arg7 : Memref sig .tc .vmem S2x4096 .f32) (harg7 : arg7.IsWhole) (arg8 : Memref sig .tc .vmem S8x4096 .f32) (harg8 : arg8.IsWhole) (arg9 : Memref sig .tc .vmem S8x4096 .f32) (harg9 : arg9.IsWhole) (arg10 : Memref sig .tc .vmem S512x128 .f32) (harg10 : arg10.IsWhole) (arg11 : Memref sig .tc .vmem S512x128 .f32) (harg11 : arg11.IsWhole) (hc1 : ¬ k0_cond1 i = 1#1) (hc2 : ¬ k0_cond2 i = 1#1) (hc3 : ¬ k0_cond3 i = 1#1) (hc4 : k0_cond4 i = 1#1) (hc5 : k0_cond5 i = 1#1)
    (x2 : Vec F S2x14336 .f32) (x3 : Vec F S2x4096 .f32) (x4 : Vec F S1x512x4096 .bf16) (x5 : Vec F S1x512x2048 .i8) (x6 : Vec F S2x14336 .f32) (x7 : Vec F S2x4096 .f32) (x8 : Vec F S8x4096 .f32) (x9 : Vec F S8x4096 .f32) (x11 : Vec F S512x128 .f32) :
    Σ' (L6 : List (View.Piece (Elt F) S2x14336 .f32)), Σ' (L7 : List (View.Piece (Elt F) S2x4096 .f32)), { L9 : List (View.Piece (Elt F) S8x4096 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ owns (c : Thread nD τ) arg11 fullShare x11
            ∗ (iprop(owns (c : Thread nD τ) arg2 fullShare x2 ∗ owns (c : Thread nD τ) arg3 fullShare x3 ∗ owns (c : Thread nD τ) arg4 fullShare x4 ∗ owns (c : Thread nD τ) arg5 fullShare x5 ∗ (arg6.view.loc (c : Thread nD τ) ↦[arg6.view.set]{fullShare} arg6.view.writes (Elt F) (harg6.unread x6) L6) ∗ (arg7.view.loc (c : Thread nD τ) ↦[arg7.view.set]{fullShare} arg7.view.writes (Elt F) (harg7.unread x7) L7) ∗ owns (c : Thread nD τ) arg8 fullShare x8 ∗ (arg9.view.loc (c : Thread nD τ) ↦[arg9.view.set]{fullShare} arg9.view.writes (Elt F) (harg9.unread x9) L9) ∗ (∃ d, owns (c : Thread nD τ) arg10 fullShare d) ∗ (∃ d, owns (c : Thread nD τ) arg11 fullShare d)) -∗ K ⟨⟩))
          ⊢ wp frame (wpE (defs₀ (F := F)) Variants.none c none) E (cc0_adamw4_stats i arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0_adamw4_stats_eq_skeleton]; unfold cc0_adamw4_stats_skel
    simp only [k0_part26_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg11.eq_unread hf11
    sl_exec (disch := first | sl_exact hc1 | sl_exact hc2 | sl_exact hc3 | sl_exact hc4 | sl_exact hc5)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexact H6
    isplitl [H7]; · iexact H7
    isplitl [H8]
    · iexists _; isplitr; · ipureintro; exact harg8.read_unread _
      iexact H8
    isplitl [H9]; · iexact H9
    isplitl [H10]
    · iexists _, _; isplitr; swap; · iexact H10
      ipureintro; rfl
    iexists _, _; isplitr; swap; · iexact H11
    ipureintro; rfl

end Cert.StatsIdeal.Run

end
-- ==== Proof.StatsBody.lean ====
module

public import proofs.«01_k».proof.Proof.StatsRunA
public import proofs.«01_k».proof.Proof.StatsRunB
public import proofs.«01_k».proof.Proof.StatsRunC
public import proofs.«01_k».proof.Proof.StatsRunD
public import proofs.«01_k».proof.Proof.StatsRunE
public import proofs.«01_k».proof.Proof.StatsRunF

@[expose] public section

set_option maxRecDepth 16384

noncomputable section

namespace Cert.StatsIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)
open Cert.StatsIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The run of the body at a point of case A, on the point's staging buffers and blocks and the scratch buffers. -/
def atA (c : Dev nD) (t : Fin cfg0.N) (hi : t.val % 28 = 0) (hb : t.val / 28 % 2 = 0) (x6 : Vec F S2x14336 .f32) (x7 : Vec F S2x4096 .f32) (x8 x9 : Vec F S8x4096 .f32) (x11 : Vec F S512x128 .f32) :=
  runA (F := F) c (grid0.coords t) (ms0 t) (hs0 t) (ms1 t) (hs1 t) (ms2 t) (hs2 t) (ms3 t) (hs3 t) (ms4 t) (hs4 t) (ms5 t) (hs5 t) sc0 (Memref.isWhole_whole _) sc1 (Memref.isWhole_whole _) sc2 (Memref.isWhole_whole _) sc3 (Memref.isWhole_whole _)
    (by rw [cond1_iff]; omega) (by rw [cond2_iff]; omega) (by rw [cond3_iff]; omega) (by rw [cond4_iff]; omega) (by rw [cond5_iff]; omega) (iblk m c 0 t) (iblk m c 1 t) (iblk m c 2 t) (iblk m c 3 t) x6 x7 x8 x9 x11

/-- The run of the body at a point of case B, on the point's staging buffers and blocks and the scratch buffers. -/
def atB (c : Dev nD) (t : Fin cfg0.N) (hi : (t.val % 28 ≠ 0 ∧ t.val % 28 ≠ 27)) (hb : t.val / 28 % 2 = 0) (x6 : Vec F S2x14336 .f32) (x7 : Vec F S2x4096 .f32) (x8 x9 : Vec F S8x4096 .f32) (x11 : Vec F S512x128 .f32) :=
  runB (F := F) c (grid0.coords t) (ms0 t) (hs0 t) (ms1 t) (hs1 t) (ms2 t) (hs2 t) (ms3 t) (hs3 t) (ms4 t) (hs4 t) (ms5 t) (hs5 t) sc0 (Memref.isWhole_whole _) sc1 (Memref.isWhole_whole _) sc2 (Memref.isWhole_whole _) sc3 (Memref.isWhole_whole _)
    (by rw [cond1_iff]; omega) (by rw [cond2_iff]; omega) (by rw [cond3_iff]; omega) (by rw [cond4_iff]; omega) (by rw [cond5_iff]; omega) (iblk m c 0 t) (iblk m c 1 t) (iblk m c 2 t) (iblk m c 3 t) x6 x7 x8 x9 x11

/-- The run of the body at a point of case C, on the point's staging buffers and blocks and the scratch buffers. -/
def atC (c : Dev nD) (t : Fin cfg0.N) (hi : t.val % 28 = 27) (hb : t.val / 28 % 2 = 0) (x6 : Vec F S2x14336 .f32) (x7 : Vec F S2x4096 .f32) (x8 x9 : Vec F S8x4096 .f32) (x11 : Vec F S512x128 .f32) :=
  runC (F := F) c (grid0.coords t) (ms0 t) (hs0 t) (ms1 t) (hs1 t) (ms2 t) (hs2 t) (ms3 t) (hs3 t) (ms4 t) (hs4 t) (ms5 t) (hs5 t) sc0 (Memref.isWhole_whole _) sc1 (Memref.isWhole_whole _) sc2 (Memref.isWhole_whole _) sc3 (Memref.isWhole_whole _)
    (by rw [cond1_iff]; omega) (by rw [cond2_iff]; omega) (by rw [cond3_iff]; omega) (by rw [cond4_iff]; omega) (by rw [cond5_iff]; omega) (iblk m c 0 t) (iblk m c 1 t) (iblk m c 2 t) (iblk m c 3 t) x6 x7 x8 x9 x11

/-- The run of the body at a point of case D, on the point's staging buffers and blocks and the scratch buffers. -/
def atD (c : Dev nD) (t : Fin cfg0.N) (hi : t.val % 28 = 0) (hb : t.val / 28 % 2 = 1) (x6 : Vec F S2x14336 .f32) (x7 : Vec F S2x4096 .f32) (x8 x9 : Vec F S8x4096 .f32) (x11 : Vec F S512x128 .f32) :=
  runD (F := F) c (grid0.coords t) (ms0 t) (hs0 t) (ms1 t) (hs1 t) (ms2 t) (hs2 t) (ms3 t) (hs3 t) (ms4 t) (hs4 t) (ms5 t) (hs5 t) sc0 (Memref.isWhole_whole _) sc1 (Memref.isWhole_whole _) sc2 (Memref.isWhole_whole _) sc3 (Memref.isWhole_whole _)
    (by rw [cond1_iff]; omega) (by rw [cond2_iff]; omega) (by rw [cond3_iff]; omega) (by rw [cond4_iff]; omega) (by rw [cond5_iff]; omega) (iblk m c 0 t) (iblk m c 1 t) (iblk m c 2 t) (iblk m c 3 t) x6 x7 x8 x9 x11

/-- The run of the body at a point of case E, on the point's staging buffers and blocks and the scratch buffers. -/
def atE (c : Dev nD) (t : Fin cfg0.N) (hi : (t.val % 28 ≠ 0 ∧ t.val % 28 ≠ 27)) (hb : t.val / 28 % 2 = 1) (x6 : Vec F S2x14336 .f32) (x7 : Vec F S2x4096 .f32) (x8 x9 : Vec F S8x4096 .f32) (x11 : Vec F S512x128 .f32) :=
  runE (F := F) c (grid0.coords t) (ms0 t) (hs0 t) (ms1 t) (hs1 t) (ms2 t) (hs2 t) (ms3 t) (hs3 t) (ms4 t) (hs4 t) (ms5 t) (hs5 t) sc0 (Memref.isWhole_whole _) sc1 (Memref.isWhole_whole _) sc2 (Memref.isWhole_whole _) sc3 (Memref.isWhole_whole _)
    (by rw [cond1_iff]; omega) (by rw [cond2_iff]; omega) (by rw [cond3_iff]; omega) (by rw [cond4_iff]; omega) (by rw [cond5_iff]; omega) (iblk m c 0 t) (iblk m c 1 t) (iblk m c 2 t) (iblk m c 3 t) x6 x7 x8 x9 x11

/-- The run of the body at a point of case F, on the point's staging buffers and blocks and the scratch buffers. -/
def atF (c : Dev nD) (t : Fin cfg0.N) (hi : t.val % 28 = 27) (hb : t.val / 28 % 2 = 1) (x6 : Vec F S2x14336 .f32) (x7 : Vec F S2x4096 .f32) (x8 x9 : Vec F S8x4096 .f32) (x11 : Vec F S512x128 .f32) :=
  runF (F := F) c (grid0.coords t) (ms0 t) (hs0 t) (ms1 t) (hs1 t) (ms2 t) (hs2 t) (ms3 t) (hs3 t) (ms4 t) (hs4 t) (ms5 t) (hs5 t) sc0 (Memref.isWhole_whole _) sc1 (Memref.isWhole_whole _) sc2 (Memref.isWhole_whole _) sc3 (Memref.isWhole_whole _)
    (by rw [cond1_iff]; omega) (by rw [cond2_iff]; omega) (by rw [cond3_iff]; omega) (by rw [cond4_iff]; omega) (by rw [cond5_iff]; omega) (iblk m c 0 t) (iblk m c 1 t) (iblk m c 2 t) (iblk m c 3 t) x6 x7 x8 x9 x11

/-- What is said of the scratch buffers before a point and of the two outputs' buffers after it, with the proof that
    each case of the body establishes it. -/
structure Says (c : Dev nD) where
  /-- What the two column scratch buffers hold before a point that is not the first of its bank. -/
  Good : ℕ → Vec F S8x4096 .f32 → Vec F S8x4096 .f32 → Prop
  /-- What a point leaves of the row output's buffer. -/
  R4 : Fin cfg0.N → Vec F S2x14336 .f32 → Vec F S2x14336 .f32 → Prop
  /-- What a point leaves of the column output's buffer. -/
  R5 : Fin cfg0.N → Vec F S2x4096 .f32 → Vec F S2x4096 .f32 → Prop
  ofA : ∀ (t : Fin cfg0.N) (hi : t.val % 28 = 0) (hb : t.val / 28 % 2 = 0) x6 x7 x8 x9 x11, R4 t x6 ((ms4 t).view.read (Elt F) ((ms4 t).view.writes (Elt F) ((hs4 t).unread x6) (atA m c t hi hb x6 x7 x8 x9 x11).1))
    ∧ R5 t x7 x7
    ∧ ∀ f g, Good (t.val + 1) (sc0.view.read (Elt F) (sc0.view.writes (Elt F) f (atA m c t hi hb x6 x7 x8 x9 x11).2.1)) (sc1.view.read (Elt F) (sc1.view.writes (Elt F) g (atA m c t hi hb x6 x7 x8 x9 x11).2.2.1))
  ofB : ∀ (t : Fin cfg0.N) (hi : (t.val % 28 ≠ 0 ∧ t.val % 28 ≠ 27)) (hb : t.val / 28 % 2 = 0) x6 x7 x8 x9 x11, Good t.val x8 x9 → R4 t x6 ((ms4 t).view.read (Elt F) ((ms4 t).view.writes (Elt F) ((hs4 t).unread x6) (atB m c t hi hb x6 x7 x8 x9 x11).1))
    ∧ R5 t x7 x7
    ∧ Good (t.val + 1) x8 (sc1.view.read (Elt F) (sc1.view.writes (Elt F) ((Memref.isWhole_whole _).unread x9) (atB m c t hi hb x6 x7 x8 x9 x11).2.1))
  ofC : ∀ (t : Fin cfg0.N) (hi : t.val % 28 = 27) (hb : t.val / 28 % 2 = 0) x6 x7 x8 x9 x11, Good t.val x8 x9 → R4 t x6 ((ms4 t).view.read (Elt F) ((ms4 t).view.writes (Elt F) ((hs4 t).unread x6) (atC m c t hi hb x6 x7 x8 x9 x11).1))
    ∧ R5 t x7 ((ms5 t).view.read (Elt F) ((ms5 t).view.writes (Elt F) ((hs5 t).unread x7) (atC m c t hi hb x6 x7 x8 x9 x11).2.1))
    ∧ Good (t.val + 1) x8 (sc1.view.read (Elt F) (sc1.view.writes (Elt F) ((Memref.isWhole_whole _).unread x9) (atC m c t hi hb x6 x7 x8 x9 x11).2.2.1))
  ofD : ∀ (t : Fin cfg0.N) (hi : t.val % 28 = 0) (hb : t.val / 28 % 2 = 1) x6 x7 x8 x9 x11, R4 t x6 ((ms4 t).view.read (Elt F) ((ms4 t).view.writes (Elt F) ((hs4 t).unread x6) (atD m c t hi hb x6 x7 x8 x9 x11).1))
    ∧ R5 t x7 x7
    ∧ ∀ f g, Good (t.val + 1) (sc0.view.read (Elt F) (sc0.view.writes (Elt F) f (atD m c t hi hb x6 x7 x8 x9 x11).2.1)) (sc1.view.read (Elt F) (sc1.view.writes (Elt F) g (atD m c t hi hb x6 x7 x8 x9 x11).2.2.1))
  ofE : ∀ (t : Fin cfg0.N) (hi : (t.val % 28 ≠ 0 ∧ t.val % 28 ≠ 27)) (hb : t.val / 28 % 2 = 1) x6 x7 x8 x9 x11, Good t.val x8 x9 → R4 t x6 ((ms4 t).view.read (Elt F) ((ms4 t).view.writes (Elt F) ((hs4 t).unread x6) (atE m c t hi hb x6 x7 x8 x9 x11).1))
    ∧ R5 t x7 x7
    ∧ Good (t.val + 1) x8 (sc1.view.read (Elt F) (sc1.view.writes (Elt F) ((Memref.isWhole_whole _).unread x9) (atE m c t hi hb x6 x7 x8 x9 x11).2.1))
  ofF : ∀ (t : Fin cfg0.N) (hi : t.val % 28 = 27) (hb : t.val / 28 % 2 = 1) x6 x7 x8 x9 x11, Good t.val x8 x9 → R4 t x6 ((ms4 t).view.read (Elt F) ((ms4 t).view.writes (Elt F) ((hs4 t).unread x6) (atF m c t hi hb x6 x7 x8 x9 x11).1))
    ∧ R5 t x7 ((ms5 t).view.read (Elt F) ((ms5 t).view.writes (Elt F) ((hs5 t).unread x7) (atF m c t hi hb x6 x7 x8 x9 x11).2.1))
    ∧ Good (t.val + 1) x8 (sc1.view.read (Elt F) (sc1.view.writes (Elt F) ((Memref.isWhole_whole _).unread x9) (atF m c t hi hb x6 x7 x8 x9 x11).2.2.1))

variable {m}

/-- The proof data: the inputs are left as found, the outputs as said, the scratch buffers as said. -/
def rdat {c : Dev nD} (s : Says m c) : RDat τ (Elt F) Unit ℕ (UR sig nD τ) ℕ cfg0 c where
  A w := V m c (Pipeline.arrRef spec0 w)
  after
    | 4 => s.R4
    | 5 => s.R5
    | _ => fun _ Y X => X = Y
  Φ t := iprop(iprop((∃ x8 x9, ⌜t.val % 28 ≠ 0 → s.Good t.val x8 x9⌝ ∗ owns (c : Thread nD τ) sc0 fullShare x8 ∗ owns (c : Thread nD τ) sc1 fullShare x9) ∗ (∃ d, owns (c : Thread nD τ) sc2 fullShare d) ∗ (∃ d, owns (c : Thread nD τ) sc3 fullShare d)) ∗ (∃ r, prngReg c r))
  q _ := fullShare
  owed _ := 0

theorem defs₀_row (t : Fin cfg0.N) :
    defs₀ (F := F) .tc cfg0.body (cfg0.bodyArgs t (cfg0.slots t)) = bodyAt0 t := by
  unfold defs₀; rw [Defs.onTc_tc]

theorem finds_0 {c : Dev nD} (s : Says m c) (t : Fin cfg0.N) (Y) (h : (rdat s).Finds 0 t Y) : Y = iblk m c 0 t := by
  obtain ⟨d, hd⟩ := (rdat s).finds_in_eq_fetched 0 rfl (fun _ _ _ => rfl) (fun _ _ _ h => h) t Y h
  exact hd

theorem finds_1 {c : Dev nD} (s : Says m c) (t : Fin cfg0.N) (Y) (h : (rdat s).Finds 1 t Y) : Y = iblk m c 1 t := by
  obtain ⟨d, hd⟩ := (rdat s).finds_in_eq_fetched 1 rfl (fun _ _ _ => rfl) (fun _ _ _ h => h) t Y h
  exact hd

theorem finds_2 {c : Dev nD} (s : Says m c) (t : Fin cfg0.N) (Y) (h : (rdat s).Finds 2 t Y) : Y = iblk m c 2 t := by
  obtain ⟨d, hd⟩ := (rdat s).finds_in_eq_fetched 2 rfl (fun _ _ _ => rfl) (fun _ _ _ h => h) t Y h
  exact hd

theorem finds_3 {c : Dev nD} (s : Says m c) (t : Fin cfg0.N) (Y) (h : (rdat s).Finds 3 t Y) : Y = iblk m c 3 t := by
  obtain ⟨d, hd⟩ := (rdat s).finds_in_eq_fetched 3 rfl (fun _ _ _ => rfl) (fun _ _ _ h => h) t Y h
  exact hd

/-- The body at a point of case A: from what is held before the point to what is held after it. -/
theorem soundA {c : Dev nD} (s : Says m c) (t : Fin cfg0.N) (hi : t.val % 28 = 0) (hb : t.val / 28 % 2 = 0) (Y4 : Vec F S2x14336 .f32) (Y5 : Vec F S2x4096 .f32) :
    (iprop((rdat s).Φ t.castSucc ∗ (rdat s).owesAt () t.castSucc
        ∗ owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t)
        ∗ owns (c : Thread nD τ) (ms4 t) fullShare Y4 ∗ owns (c : Thread nD τ) (ms5 t) fullShare Y5) : sProp 𝕄)
      ⊢ wp frame (wpE (defs₀ (F := F)) Variants.none c none) Set.univ (bodyAt0 t) fun _ =>
        iprop((rdat s).Φ t.succ ∗ (rdat s).owesAt () t.succ
        ∗ (∃ X, ⌜X = iblk m c 0 t⌝ ∗ owns (c : Thread nD τ) (ms0 t) fullShare X) ∗ (∃ X, ⌜X = iblk m c 1 t⌝ ∗ owns (c : Thread nD τ) (ms1 t) fullShare X) ∗ (∃ X, ⌜X = iblk m c 2 t⌝ ∗ owns (c : Thread nD τ) (ms2 t) fullShare X) ∗ (∃ X, ⌜X = iblk m c 3 t⌝ ∗ owns (c : Thread nD τ) (ms3 t) fullShare X)
        ∗ (∃ X, ⌜s.R4 t Y4 X⌝ ∗ owns (c : Thread nD τ) (ms4 t) fullShare X) ∗ (∃ X, ⌜s.R5 t Y5 X⌝ ∗ owns (c : Thread nD τ) (ms5 t) fullShare X)) := by
  have hN : t.val < 56 := Nat.lt_of_lt_of_eq t.isLt N_0
  dsimp only [rdat]
  simp only [Fin.val_castSucc, Fin.val_succ]
  iintro ⟨⟨⟨⟨%x8, %x9, %hg, HS0, HS1⟩, HS2, ⟨%x11, HS3⟩⟩, Hg⟩, Ho, H0, H1, H2, H3, H4, H5⟩
  iapply ((atA m c t hi hb Y4 Y5 x8 x9 x11).2.2.2 Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  isplitl [HS3]; · iexact HS3
  iintro ⟨H0, H1, H2, H3, H4, H5, ⟨%f8, HS0⟩, ⟨%f9, HS1⟩, HS2, HS3⟩
  obtain ⟨h4, h5, h8⟩ := s.ofA t hi hb Y4 Y5 x8 x9 x11
  isplitl [HS0 HS1 HS2 HS3 Hg]
  · isplitl [HS0 HS1 HS2 HS3]
    · isplitl [HS0 HS1]
      · iexists _; iexists _; isplitr
        · ipureintro; exact fun _ => h8 f8 f9
        isplitl [HS0]
        · unfold owns; iexists _; isplitr; · ipureintro; rfl
          iexact HS0
        unfold owns; iexists _; isplitr; · ipureintro; rfl
        iexact HS1
      isplitl [HS2]; · iexact HS2
      iexact HS3
    iexact Hg
  isplitl [Ho]; · iexact Ho
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; exact h4
    unfold owns; iexists _; isplitr; · ipureintro; rfl
    iexact H4
  iexists _; isplitr; · ipureintro; exact h5
  iexact H5

/-- The body at a point of case B: from what is held before the point to what is held after it. -/
theorem soundB {c : Dev nD} (s : Says m c) (t : Fin cfg0.N) (hi : (t.val % 28 ≠ 0 ∧ t.val % 28 ≠ 27)) (hb : t.val / 28 % 2 = 0) (Y4 : Vec F S2x14336 .f32) (Y5 : Vec F S2x4096 .f32) :
    (iprop((rdat s).Φ t.castSucc ∗ (rdat s).owesAt () t.castSucc
        ∗ owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t)
        ∗ owns (c : Thread nD τ) (ms4 t) fullShare Y4 ∗ owns (c : Thread nD τ) (ms5 t) fullShare Y5) : sProp 𝕄)
      ⊢ wp frame (wpE (defs₀ (F := F)) Variants.none c none) Set.univ (bodyAt0 t) fun _ =>
        iprop((rdat s).Φ t.succ ∗ (rdat s).owesAt () t.succ
        ∗ (∃ X, ⌜X = iblk m c 0 t⌝ ∗ owns (c : Thread nD τ) (ms0 t) fullShare X) ∗ (∃ X, ⌜X = iblk m c 1 t⌝ ∗ owns (c : Thread nD τ) (ms1 t) fullShare X) ∗ (∃ X, ⌜X = iblk m c 2 t⌝ ∗ owns (c : Thread nD τ) (ms2 t) fullShare X) ∗ (∃ X, ⌜X = iblk m c 3 t⌝ ∗ owns (c : Thread nD τ) (ms3 t) fullShare X)
        ∗ (∃ X, ⌜s.R4 t Y4 X⌝ ∗ owns (c : Thread nD τ) (ms4 t) fullShare X) ∗ (∃ X, ⌜s.R5 t Y5 X⌝ ∗ owns (c : Thread nD τ) (ms5 t) fullShare X)) := by
  have hN : t.val < 56 := Nat.lt_of_lt_of_eq t.isLt N_0
  dsimp only [rdat]
  simp only [Fin.val_castSucc, Fin.val_succ]
  iintro ⟨⟨⟨⟨%x8, %x9, %hg, HS0, HS1⟩, HS2, ⟨%x11, HS3⟩⟩, Hg⟩, Ho, H0, H1, H2, H3, H4, H5⟩
  iapply ((atB m c t hi hb Y4 Y5 x8 x9 x11).2.2 Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  isplitl [HS3]; · iexact HS3
  iintro ⟨H0, H1, H2, H3, H4, H5, HS0, HS1, HS2, HS3⟩
  obtain ⟨h4, h5, h8⟩ := s.ofB t hi hb Y4 Y5 x8 x9 x11 (hg (by omega))
  isplitl [HS0 HS1 HS2 HS3 Hg]
  · isplitl [HS0 HS1 HS2 HS3]
    · isplitl [HS0 HS1]
      · iexists _; iexists _; isplitr
        · ipureintro; exact fun _ => h8
        isplitl [HS0]; · iexact HS0
        unfold owns; iexists _; isplitr; · ipureintro; rfl
        iexact HS1
      isplitl [HS2]; · iexact HS2
      iexact HS3
    iexact Hg
  isplitl [Ho]; · iexact Ho
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; exact h4
    unfold owns; iexists _; isplitr; · ipureintro; rfl
    iexact H4
  iexists _; isplitr; · ipureintro; exact h5
  iexact H5

/-- The body at a point of case C: from what is held before the point to what is held after it. -/
theorem soundC {c : Dev nD} (s : Says m c) (t : Fin cfg0.N) (hi : t.val % 28 = 27) (hb : t.val / 28 % 2 = 0) (Y4 : Vec F S2x14336 .f32) (Y5 : Vec F S2x4096 .f32) :
    (iprop((rdat s).Φ t.castSucc ∗ (rdat s).owesAt () t.castSucc
        ∗ owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t)
        ∗ owns (c : Thread nD τ) (ms4 t) fullShare Y4 ∗ owns (c : Thread nD τ) (ms5 t) fullShare Y5) : sProp 𝕄)
      ⊢ wp frame (wpE (defs₀ (F := F)) Variants.none c none) Set.univ (bodyAt0 t) fun _ =>
        iprop((rdat s).Φ t.succ ∗ (rdat s).owesAt () t.succ
        ∗ (∃ X, ⌜X = iblk m c 0 t⌝ ∗ owns (c : Thread nD τ) (ms0 t) fullShare X) ∗ (∃ X, ⌜X = iblk m c 1 t⌝ ∗ owns (c : Thread nD τ) (ms1 t) fullShare X) ∗ (∃ X, ⌜X = iblk m c 2 t⌝ ∗ owns (c : Thread nD τ) (ms2 t) fullShare X) ∗ (∃ X, ⌜X = iblk m c 3 t⌝ ∗ owns (c : Thread nD τ) (ms3 t) fullShare X)
        ∗ (∃ X, ⌜s.R4 t Y4 X⌝ ∗ owns (c : Thread nD τ) (ms4 t) fullShare X) ∗ (∃ X, ⌜s.R5 t Y5 X⌝ ∗ owns (c : Thread nD τ) (ms5 t) fullShare X)) := by
  have hN : t.val < 56 := Nat.lt_of_lt_of_eq t.isLt N_0
  dsimp only [rdat]
  simp only [Fin.val_castSucc, Fin.val_succ]
  iintro ⟨⟨⟨⟨%x8, %x9, %hg, HS0, HS1⟩, HS2, ⟨%x11, HS3⟩⟩, Hg⟩, Ho, H0, H1, H2, H3, H4, H5⟩
  iapply ((atC m c t hi hb Y4 Y5 x8 x9 x11).2.2.2 Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  isplitl [HS3]; · iexact HS3
  iintro ⟨H0, H1, H2, H3, H4, H5, HS0, HS1, HS2, HS3⟩
  obtain ⟨h4, h5, h8⟩ := s.ofC t hi hb Y4 Y5 x8 x9 x11 (hg (by omega))
  isplitl [HS0 HS1 HS2 HS3 Hg]
  · isplitl [HS0 HS1 HS2 HS3]
    · isplitl [HS0 HS1]
      · iexists _; iexists _; isplitr
        · ipureintro; exact fun _ => h8
        isplitl [HS0]; · iexact HS0
        unfold owns; iexists _; isplitr; · ipureintro; rfl
        iexact HS1
      isplitl [HS2]; · iexact HS2
      iexact HS3
    iexact Hg
  isplitl [Ho]; · iexact Ho
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; exact h4
    unfold owns; iexists _; isplitr; · ipureintro; rfl
    iexact H4
  iexists _; isplitr; · ipureintro; exact h5
  unfold owns; iexists _; isplitr; · ipureintro; rfl
  iexact H5

/-- The body at a point of case D: from what is held before the point to what is held after it. -/
theorem soundD {c : Dev nD} (s : Says m c) (t : Fin cfg0.N) (hi : t.val % 28 = 0) (hb : t.val / 28 % 2 = 1) (Y4 : Vec F S2x14336 .f32) (Y5 : Vec F S2x4096 .f32) :
    (iprop((rdat s).Φ t.castSucc ∗ (rdat s).owesAt () t.castSucc
        ∗ owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t)
        ∗ owns (c : Thread nD τ) (ms4 t) fullShare Y4 ∗ owns (c : Thread nD τ) (ms5 t) fullShare Y5) : sProp 𝕄)
      ⊢ wp frame (wpE (defs₀ (F := F)) Variants.none c none) Set.univ (bodyAt0 t) fun _ =>
        iprop((rdat s).Φ t.succ ∗ (rdat s).owesAt () t.succ
        ∗ (∃ X, ⌜X = iblk m c 0 t⌝ ∗ owns (c : Thread nD τ) (ms0 t) fullShare X) ∗ (∃ X, ⌜X = iblk m c 1 t⌝ ∗ owns (c : Thread nD τ) (ms1 t) fullShare X) ∗ (∃ X, ⌜X = iblk m c 2 t⌝ ∗ owns (c : Thread nD τ) (ms2 t) fullShare X) ∗ (∃ X, ⌜X = iblk m c 3 t⌝ ∗ owns (c : Thread nD τ) (ms3 t) fullShare X)
        ∗ (∃ X, ⌜s.R4 t Y4 X⌝ ∗ owns (c : Thread nD τ) (ms4 t) fullShare X) ∗ (∃ X, ⌜s.R5 t Y5 X⌝ ∗ owns (c : Thread nD τ) (ms5 t) fullShare X)) := by
  have hN : t.val < 56 := Nat.lt_of_lt_of_eq t.isLt N_0
  dsimp only [rdat]
  simp only [Fin.val_castSucc, Fin.val_succ]
  iintro ⟨⟨⟨⟨%x8, %x9, %hg, HS0, HS1⟩, HS2, ⟨%x11, HS3⟩⟩, Hg⟩, Ho, H0, H1, H2, H3, H4, H5⟩
  iapply ((atD m c t hi hb Y4 Y5 x8 x9 x11).2.2.2 Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  isplitl [HS3]; · iexact HS3
  iintro ⟨H0, H1, H2, H3, H4, H5, ⟨%f8, HS0⟩, ⟨%f9, HS1⟩, HS2, HS3⟩
  obtain ⟨h4, h5, h8⟩ := s.ofD t hi hb Y4 Y5 x8 x9 x11
  isplitl [HS0 HS1 HS2 HS3 Hg]
  · isplitl [HS0 HS1 HS2 HS3]
    · isplitl [HS0 HS1]
      · iexists _; iexists _; isplitr
        · ipureintro; exact fun _ => h8 f8 f9
        isplitl [HS0]
        · unfold owns; iexists _; isplitr; · ipureintro; rfl
          iexact HS0
        unfold owns; iexists _; isplitr; · ipureintro; rfl
        iexact HS1
      isplitl [HS2]; · iexact HS2
      iexact HS3
    iexact Hg
  isplitl [Ho]; · iexact Ho
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; exact h4
    unfold owns; iexists _; isplitr; · ipureintro; rfl
    iexact H4
  iexists _; isplitr; · ipureintro; exact h5
  iexact H5

/-- The body at a point of case E: from what is held before the point to what is held after it. -/
theorem soundE {c : Dev nD} (s : Says m c) (t : Fin cfg0.N) (hi : (t.val % 28 ≠ 0 ∧ t.val % 28 ≠ 27)) (hb : t.val / 28 % 2 = 1) (Y4 : Vec F S2x14336 .f32) (Y5 : Vec F S2x4096 .f32) :
    (iprop((rdat s).Φ t.castSucc ∗ (rdat s).owesAt () t.castSucc
        ∗ owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t)
        ∗ owns (c : Thread nD τ) (ms4 t) fullShare Y4 ∗ owns (c : Thread nD τ) (ms5 t) fullShare Y5) : sProp 𝕄)
      ⊢ wp frame (wpE (defs₀ (F := F)) Variants.none c none) Set.univ (bodyAt0 t) fun _ =>
        iprop((rdat s).Φ t.succ ∗ (rdat s).owesAt () t.succ
        ∗ (∃ X, ⌜X = iblk m c 0 t⌝ ∗ owns (c : Thread nD τ) (ms0 t) fullShare X) ∗ (∃ X, ⌜X = iblk m c 1 t⌝ ∗ owns (c : Thread nD τ) (ms1 t) fullShare X) ∗ (∃ X, ⌜X = iblk m c 2 t⌝ ∗ owns (c : Thread nD τ) (ms2 t) fullShare X) ∗ (∃ X, ⌜X = iblk m c 3 t⌝ ∗ owns (c : Thread nD τ) (ms3 t) fullShare X)
        ∗ (∃ X, ⌜s.R4 t Y4 X⌝ ∗ owns (c : Thread nD τ) (ms4 t) fullShare X) ∗ (∃ X, ⌜s.R5 t Y5 X⌝ ∗ owns (c : Thread nD τ) (ms5 t) fullShare X)) := by
  have hN : t.val < 56 := Nat.lt_of_lt_of_eq t.isLt N_0
  dsimp only [rdat]
  simp only [Fin.val_castSucc, Fin.val_succ]
  iintro ⟨⟨⟨⟨%x8, %x9, %hg, HS0, HS1⟩, HS2, ⟨%x11, HS3⟩⟩, Hg⟩, Ho, H0, H1, H2, H3, H4, H5⟩
  iapply ((atE m c t hi hb Y4 Y5 x8 x9 x11).2.2 Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  isplitl [HS3]; · iexact HS3
  iintro ⟨H0, H1, H2, H3, H4, H5, HS0, HS1, HS2, HS3⟩
  obtain ⟨h4, h5, h8⟩ := s.ofE t hi hb Y4 Y5 x8 x9 x11 (hg (by omega))
  isplitl [HS0 HS1 HS2 HS3 Hg]
  · isplitl [HS0 HS1 HS2 HS3]
    · isplitl [HS0 HS1]
      · iexists _; iexists _; isplitr
        · ipureintro; exact fun _ => h8
        isplitl [HS0]; · iexact HS0
        unfold owns; iexists _; isplitr; · ipureintro; rfl
        iexact HS1
      isplitl [HS2]; · iexact HS2
      iexact HS3
    iexact Hg
  isplitl [Ho]; · iexact Ho
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; exact h4
    unfold owns; iexists _; isplitr; · ipureintro; rfl
    iexact H4
  iexists _; isplitr; · ipureintro; exact h5
  iexact H5

/-- The body at a point of case F: from what is held before the point to what is held after it. -/
theorem soundF {c : Dev nD} (s : Says m c) (t : Fin cfg0.N) (hi : t.val % 28 = 27) (hb : t.val / 28 % 2 = 1) (Y4 : Vec F S2x14336 .f32) (Y5 : Vec F S2x4096 .f32) :
    (iprop((rdat s).Φ t.castSucc ∗ (rdat s).owesAt () t.castSucc
        ∗ owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t)
        ∗ owns (c : Thread nD τ) (ms4 t) fullShare Y4 ∗ owns (c : Thread nD τ) (ms5 t) fullShare Y5) : sProp 𝕄)
      ⊢ wp frame (wpE (defs₀ (F := F)) Variants.none c none) Set.univ (bodyAt0 t) fun _ =>
        iprop((rdat s).Φ t.succ ∗ (rdat s).owesAt () t.succ
        ∗ (∃ X, ⌜X = iblk m c 0 t⌝ ∗ owns (c : Thread nD τ) (ms0 t) fullShare X) ∗ (∃ X, ⌜X = iblk m c 1 t⌝ ∗ owns (c : Thread nD τ) (ms1 t) fullShare X) ∗ (∃ X, ⌜X = iblk m c 2 t⌝ ∗ owns (c : Thread nD τ) (ms2 t) fullShare X) ∗ (∃ X, ⌜X = iblk m c 3 t⌝ ∗ owns (c : Thread nD τ) (ms3 t) fullShare X)
        ∗ (∃ X, ⌜s.R4 t Y4 X⌝ ∗ owns (c : Thread nD τ) (ms4 t) fullShare X) ∗ (∃ X, ⌜s.R5 t Y5 X⌝ ∗ owns (c : Thread nD τ) (ms5 t) fullShare X)) := by
  have hN : t.val < 56 := Nat.lt_of_lt_of_eq t.isLt N_0
  dsimp only [rdat]
  simp only [Fin.val_castSucc, Fin.val_succ]
  iintro ⟨⟨⟨⟨%x8, %x9, %hg, HS0, HS1⟩, HS2, ⟨%x11, HS3⟩⟩, Hg⟩, Ho, H0, H1, H2, H3, H4, H5⟩
  iapply ((atF m c t hi hb Y4 Y5 x8 x9 x11).2.2.2 Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  isplitl [HS3]; · iexact HS3
  iintro ⟨H0, H1, H2, H3, H4, H5, HS0, HS1, HS2, HS3⟩
  obtain ⟨h4, h5, h8⟩ := s.ofF t hi hb Y4 Y5 x8 x9 x11 (hg (by omega))
  isplitl [HS0 HS1 HS2 HS3 Hg]
  · isplitl [HS0 HS1 HS2 HS3]
    · isplitl [HS0 HS1]
      · iexists _; iexists _; isplitr
        · ipureintro; exact fun _ => h8
        isplitl [HS0]; · iexact HS0
        unfold owns; iexists _; isplitr; · ipureintro; rfl
        iexact HS1
      isplitl [HS2]; · iexact HS2
      iexact HS3
    iexact Hg
  isplitl [Ho]; · iexact Ho
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; exact h4
    unfold owns; iexists _; isplitr; · ipureintro; rfl
    iexact H4
  iexists _; isplitr; · ipureintro; exact h5
  unfold owns; iexists _; isplitr; · ipureintro; rfl
  iexact H5

theorem body_obligation {c : Dev nD} (s : Says m c) : (rdat s).BodyObligation (defs₀ (F := F)) Variants.none () Set.univ := fun t Y hY => by
  rw [bigSep_W0, bigSep_W0, defs₀_row]
  rw [finds_0 s t _ (hY 0), finds_1 s t _ (hY 1), finds_2 s t _ (hY 2), finds_3 s t _ (hY 3)]
  have hN : t.val < 56 := Nat.lt_of_lt_of_eq t.isLt N_0
  by_cases hb : t.val / 28 % 2 = 0
  · by_cases h0 : t.val % 28 = 0
    · exact triple_restated (soundA s t h0 hb (Y 4) (Y 5)) rfl .rfl fun _ => .rfl
    by_cases h1 : t.val % 28 = 27
    · exact triple_restated (soundC s t h1 hb (Y 4) (Y 5)) rfl .rfl fun _ => .rfl
    exact triple_restated (soundB s t ⟨h0, h1⟩ hb (Y 4) (Y 5)) rfl .rfl fun _ => .rfl
  · have hb : t.val / 28 % 2 = 1 := by omega
    by_cases h0 : t.val % 28 = 0
    · exact triple_restated (soundD s t h0 hb (Y 4) (Y 5)) rfl .rfl fun _ => .rfl
    by_cases h1 : t.val % 28 = 27
    · exact triple_restated (soundF s t h1 hb (Y 4) (Y 5)) rfl .rfl fun _ => .rfl
    exact triple_restated (soundE s t ⟨h0, h1⟩ hb (Y 4) (Y 5)) rfl .rfl fun _ => .rfl

theorem hin {c : Dev nD} (s : Says m c) : Pipeline.ΦA spec0 c ⊢ (rdat s).Φ 0 := by
  rw [held_eq]; dsimp only [rdat]
  iintro ⟨⟨⟨%d8, H0⟩, ⟨%d9, H1⟩, H2, H3⟩, Hg⟩
  isplitl [H0 H1 H2 H3]
  · isplitl [H0 H1]
    · iexists d8; iexists d9; isplitr
      · ipureintro; intro h; exact absurd rfl h
      isplitl [H0]; · iexact H0
      iexact H1
    isplitl [H2]; · iexact H2
    iexact H3
  iexact Hg

theorem hout {c : Dev nD} (s : Says m c) : (rdat s).Φ (Fin.last cfg0.N) ⊢ Pipeline.ΦA spec0 c := by
  rw [held_eq]; dsimp only [rdat]
  iintro ⟨⟨⟨%d8, %d9, -, H0, H1⟩, H2, H3⟩, Hg⟩
  isplitl [H0 H1 H2 H3]
  · isplitl [H0]; · iexists _; iexact H0
    isplitl [H1]; · iexists _; iexact H1
    isplitl [H2]; · iexact H2
    iexact H3
  iexact Hg

set_option backward.isDefEq.respectTransparency.types false in
/-- The launch: it ends with each array at contents the data allow, and every semaphore counter at zero. -/
theorem run_main (s : (c : Dev nD) → Says m c) :
    θ_run defs (onTc (τ := τ) (main (F := F))) (s₀ m ρ) (fun r => Idealize.ShloMosaic.Pipeline.RDat.FramePost cfg0 (fun c => rdat (s c)) (V m) r ∧ r.2.sem = fun _ => 0) :=
  RDat.θ_run_frame_track (Q' := _) cfgs (0 : Fin 1) launch0 defs₀ Variants.none (fun c => rdat (s c)) m ρ main
    (hbody := fun c => body_obligation (s c)) (hshare := fun c w => by unfold RDat.share; split <;> rfl)
    (howed := fun _ _ => rfl) (V := V m) (hmain := hmain m Variants.none) (hA := fun _ _ => rfl) (hin := fun c => hin (s c)) (hout := fun c => hout (s c))

/-- The argument arrays end unchanged and every counter at zero, whatever is said of the outputs. -/
theorem frame (s : (c : Dev nD) → Says m c) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨(Idealize.ShloMosaic.Pipeline.RDat.FramePost.arr_in h.1 c 0 rfl).trans (V_main_arg0 m c), (Idealize.ShloMosaic.Pipeline.RDat.FramePost.arr_in h.1 c 1 rfl).trans (V_main_arg1 m c),
    (Idealize.ShloMosaic.Pipeline.RDat.FramePost.arr_in h.1 c 2 rfl).trans (V_main_arg2 m c), (Idealize.ShloMosaic.Pipeline.RDat.FramePost.arr_in h.1 c 3 rfl).trans (V_main_arg3 m c)⟩, h.2⟩) (run_main ρ s)

variable (m) in
/-- Nothing said. -/
def nothing (c : Dev nD) : Says m c where
  Good _ _ _ := True
  R4 _ _ _ := True
  R5 _ _ _ := True
  ofA := by intros; exact ⟨trivial, trivial, fun _ _ => trivial⟩
  ofB := by intros; exact ⟨trivial, trivial, trivial⟩
  ofC := by intros; exact ⟨trivial, trivial, trivial⟩
  ofD := by intros; exact ⟨trivial, trivial, fun _ _ => trivial⟩
  ofE := by intros; exact ⟨trivial, trivial, trivial⟩
  ofF := by intros; exact ⟨trivial, trivial, trivial⟩

end Cert.StatsIdeal.Run

end
-- ==== Proof.Lits.lean ====
module

public import proofs.«01_k».proof.Proof.Gen.KernelIdeal
public import Idealize.ShloMosaic.PureOps.IdealRules

@[expose] public section

/-! The float constants the programs spell, as the extended reals they denote. -/

noncomputable section

namespace Cert.Lits
open Idealize.ShloMosaic

theorem f0 : Ideal.ofBits .f32 0x00000000#32 = 0 := by simp [Ideal.ofBits, Ideal.ieee]
theorem f1 : Ideal.ofBits .f32 0x3F800000#32 = 1 := by simp [Ideal.ofBits, Ideal.ieee, -EReal.coe_mul]; norm_num
theorem f3 : Ideal.ofBits .f32 0x40400000#32 = ((3 : ℝ) : EReal) := by simp [Ideal.ofBits, Ideal.ieee, -EReal.coe_mul]; norm_num
theorem f7 : Ideal.ofBits .f32 0x40E00000#32 = ((7 : ℝ) : EReal) := by simp [Ideal.ofBits, Ideal.ieee, -EReal.coe_mul]; norm_num
theorem fm7 : Ideal.ofBits .f32 0xC0E00000#32 = ((-7 : ℝ) : EReal) := by simp [Ideal.ofBits, Ideal.ieee, -EReal.coe_mul]; norm_num
theorem f9 : Ideal.ofBits .f32 0x41100000#32 = ((9 : ℝ) : EReal) := by simp [Ideal.ofBits, Ideal.ieee, -EReal.coe_mul]; norm_num
theorem f10 : Ideal.ofBits .f32 0x41200000#32 = ((10 : ℝ) : EReal) := by simp [Ideal.ofBits, Ideal.ieee, -EReal.coe_mul]; norm_num
theorem f15 : Ideal.ofBits .f32 0x41700000#32 = ((15 : ℝ) : EReal) := by simp [Ideal.ofBits, Ideal.ieee, -EReal.coe_mul]; norm_num
theorem f16 : Ideal.ofBits .f32 0x41800000#32 = ((16 : ℝ) : EReal) := by simp [Ideal.ofBits, Ideal.ieee, -EReal.coe_mul]; norm_num
theorem f999 : Ideal.ofBits .f32 0x4479C000#32 = ((999 : ℝ) : EReal) := by simp [Ideal.ofBits, Ideal.ieee, -EReal.coe_mul]; norm_num
theorem f1000 : Ideal.ofBits .f32 0x447A0000#32 = ((1000 : ℝ) : EReal) := by simp [Ideal.ofBits, Ideal.ieee, -EReal.coe_mul]; norm_num
theorem f10000 : Ideal.ofBits .f32 0x461C4000#32 = ((10000 : ℝ) : EReal) := by simp [Ideal.ofBits, Ideal.ieee, -EReal.coe_mul]; norm_num
theorem f1e8 : Ideal.ofBits .f32 0x4CBEBC20#32 = ((100000000 : ℝ) : EReal) := by simp [Ideal.ofBits, Ideal.ieee, -EReal.coe_mul]; norm_num
theorem f_beta1 : Ideal.ofBits .f32 0x4B666666#32 = ((15099494 : ℝ) : EReal) := by simp [Ideal.ofBits, Ideal.ieee, -EReal.coe_mul]
theorem f_beta2 : Ideal.ofBits .f32 0x4B7FBE77#32 = ((16760439 : ℝ) : EReal) := by simp [Ideal.ofBits, Ideal.ieee, -EReal.coe_mul]
theorem f_scale : Ideal.ofBits .f32 0x33800000#32 = ((1 / 16777216 : ℝ) : EReal) := by simp [Ideal.ofBits, Ideal.ieee, -EReal.coe_mul]; norm_num
theorem f_sixteenth : Ideal.ofBits .f32 0x3D800000#32 = ((1 / 16 : ℝ) : EReal) := by simp [Ideal.ofBits, Ideal.ieee, -EReal.coe_mul]; norm_num
theorem f_fold : Ideal.ofBits .f32 0x4279C000#32 = ((999 / 16 : ℝ) : EReal) := by simp [Ideal.ofBits, Ideal.ieee, -EReal.coe_mul]; norm_num
theorem f_bot : Ideal.ofBits .f32 0xFF800000#32 = ⊥ := by simp [Ideal.ofBits, Ideal.ieee]

/-- The smallest normal f32. -/
theorem f_tiny : ∃ y : ℝ, 0 < y ∧ Ideal.ofBits .f32 0x00800000#32 = (y : EReal) ∧
    Ideal.ofBits .f32 0x01E00000#32 = ((7 * y : ℝ) : EReal) := by
  refine ⟨2⁻¹ ^ 126, by positivity, ?_, ?_⟩ <;> simp [Ideal.ofBits, Ideal.ieee, -EReal.coe_mul] <;> norm_num

theorem b0 : Ideal.ofBits .bf16 0x0000#16 = ((0 : ℝ) : EReal) := by simp [Ideal.ofBits, Ideal.ieee]
theorem b1 : Ideal.ofBits .bf16 0x3F80#16 = ((1 : ℝ) : EReal) := by simp [Ideal.ofBits, Ideal.ieee, -EReal.coe_mul]; norm_num
theorem b7 : Ideal.ofBits .bf16 0x40E0#16 = ((7 : ℝ) : EReal) := by simp [Ideal.ofBits, Ideal.ieee, -EReal.coe_mul]; norm_num
theorem bm7 : Ideal.ofBits .bf16 0xC0E0#16 = ((-7 : ℝ) : EReal) := by simp [Ideal.ofBits, Ideal.ieee, -EReal.coe_mul]; norm_num
theorem b15 : Ideal.ofBits .bf16 0x4170#16 = ((15 : ℝ) : EReal) := by simp [Ideal.ofBits, Ideal.ieee, -EReal.coe_mul]; norm_num

/-! The named constants of the kernel. -/

theorem n_decay : Named.named (F := Ideal) (φ := .f32) KernelIdeal.κ "decay" 0x37FBA882#32 = ((3 / 100000 : ℝ) : EReal) :=
  IdealRules.named_const.ideal_named_scalar _ _ _ _ rfl
theorem n_inv70 : Named.named (F := Ideal) (φ := .f32) KernelIdeal.κ "inv70" 0x3C6A0EA1#32 = ((1 / 70 : ℝ) : EReal) :=
  IdealRules.named_const.ideal_named_scalar _ _ _ _ rfl
theorem n_k2 : Named.named (F := Ideal) (φ := .f32) KernelIdeal.κ "k2" 0x3A83126F#32 = ((1 / 1000 : ℝ) : EReal) :=
  IdealRules.named_const.ideal_named_scalar _ _ _ _ rfl
theorem n_v_gain : Named.named (F := Ideal) (φ := .f32) KernelIdeal.κ "v_gain" 0x3C83126F#32 = ((2 / 125 : ℝ) : EReal) :=
  IdealRules.named_const.ideal_named_scalar _ _ _ _ rfl
theorem n_eps : Named.named (F := Ideal) (φ := .f32) KernelIdeal.κ "eps" 0x322BCC77#32 = ((1 / 100000000 : ℝ) : EReal) :=
  IdealRules.named_const.ideal_named_scalar _ _ _ _ rfl
theorem n_log1 : Named.named (F := Ideal) (φ := .f32) KernelIdeal.κ "log_beta1" 0xBDD7C745#32 =
    ((Real.log (7549747 / 8388608) : ℝ) : EReal) :=
  IdealRules.named_const.ideal_named_scalar _ _ _ _ rfl
theorem n_log2 : Named.named (F := Ideal) (φ := .f32) KernelIdeal.κ "log_beta2" 0xBA8322CA#32 =
    ((Real.log (16760439 / 16777216) : ℝ) : EReal) :=
  IdealRules.named_const.ideal_named_scalar _ _ _ _ rfl

end Cert.Lits
-- ==== Proof.Calc.lean ====
module

public import proofs.«01_k».proof.Proof.Lits

@[expose] public section

/-! The equalities of extended reals that lie between the kernel's formulas and the reference's. -/

noncomputable section

namespace Cert.Calc
open Idealize.ShloMosaic

/-- The magnitude of a product with a positive real. -/
theorem abs_scale (c : ℝ) (hc : 0 < c) (x : EReal) : max ((c : EReal) * x) (-((c : EReal) * x)) = (c : EReal) * max x (-x) := by
  have h0 : (0 : EReal) ≤ (c : EReal) := EReal.coe_nonneg.2 hc.le
  have hm : Monotone fun x : EReal => (c : EReal) * x := fun a b h => mul_le_mul_of_nonneg_left h h0
  rw [← mul_neg]
  exact (hm.map_max).symm

/-- The greatest magnitude of a family scaled by a positive real. -/
theorem fold_scale {n : ℕ} (c : ℝ) (hc : 0 < c) (f : Fin n → EReal) :
    Finset.univ.fold max ⊥ (fun x => max ((c : EReal) * f x) (-((c : EReal) * f x))) =
      (c : EReal) * Finset.univ.fold max ⊥ (fun x => max (f x) (-f x)) := by
  have h0 : (0 : EReal) ≤ (c : EReal) := EReal.coe_nonneg.2 hc.le
  have hm : Monotone fun x : EReal => (c : EReal) * x := fun a b h => mul_le_mul_of_nonneg_left h h0
  have h := Finset.fold_hom (op := max) (op' := max) (b := (⊥ : EReal)) (s := (Finset.univ : Finset (Fin n)))
    (f := fun x => max (f x) (-f x)) (m := fun x : EReal => (c : EReal) * x) (fun x y => hm.map_max)
  rw [← h]
  simp only [abs_scale c hc, EReal.coe_mul_bot_of_pos hc]

/-- A member of a family whose greatest magnitude is zero is zero. -/
theorem zero_of_fold {n : ℕ} (f : Fin n → EReal) (h : Finset.univ.fold max ⊥ (fun x => max (f x) (-f x)) = 0) (x : Fin n) :
    f x = 0 := by
  have hx : max (f x) (-f x) ≤ 0 := by
    rw [← h]
    exact Finset.le_fold_max (b := (⊥ : EReal)) _ |>.2 (Or.inr ⟨x, Finset.mem_univ x, le_rfl⟩)
  refine le_antisymm ((le_max_left _ _).trans hx) ?_
  have h2 := (le_max_right _ _).trans hx
  exact EReal.neg_le_zero.1 h2

/-- The least of two products with a nonnegative real. -/
theorem min_scale (c : ℝ) (hc : 0 ≤ c) (x y : EReal) : min (x * (c : EReal)) (y * (c : EReal)) = min x y * (c : EReal) := by
  have hm : Monotone fun x : EReal => x * (c : EReal) := fun a b h => mul_le_mul_of_nonneg_right h (EReal.coe_nonneg.2 hc)
  exact (hm.map_min).symm

/-- A quotient by a nonzero extended real. -/
theorem div_ne (x y : EReal) (hy : y ≠ 0) : Ideal.div x y = x * y⁻¹ := if_neg hy

/-- `1 / rsqrt v` is the square root of a nonnegative `v`. -/
theorem div_rsqrt (v : EReal) (hv : 0 ≤ v) : Ideal.div 1 (Ideal.rsqrt v) = Ideal.sqrt v := by
  induction v with
  | bot => exact absurd hv (by simp)
  | top =>
    rw [show Ideal.rsqrt ⊤ = 0 from rfl, show Ideal.sqrt ⊤ = ⊤ from rfl, Ideal.div, if_pos rfl, if_pos zero_lt_one]
  | coe x =>
    have hx : 0 ≤ x := EReal.coe_nonneg.1 hv
    rw [Ideal.rsqrt_coe, Ideal.sqrt_coe, if_neg (not_lt.2 hx), if_neg (not_lt.2 hx)]
    split
    · next h => subst h; rw [div_ne _ _ (by simp)]; simp
    · next h =>
      have hs : Real.sqrt x ≠ 0 := (Real.sqrt_ne_zero hx).2 h
      rw [Ideal.div_coe (inv_ne_zero hs), one_mul, one_div, inv_inv]

/-- The code of the first moment before clipping, where the block's greatest magnitude `a` is nonzero. -/
theorem code_m (m a : EReal) (ha : 0 < a) : m * Ideal.div ((7 : ℝ) : EReal) a =
    Ideal.div (((1 / 10 : ℝ) : EReal) * m) (Ideal.div (((1 / 10 : ℝ) : EReal) * a) ((7 : ℝ) : EReal)) := by
  have h0 : ((1 / 10 : ℝ) : EReal) * a * ((1 / 7 : ℝ) : EReal) ≠ 0 :=
    mul_ne_zero (mul_ne_zero (EReal.coe_ne_zero.2 (by norm_num)) ha.ne') (EReal.coe_ne_zero.2 (by norm_num))
  have e : ((1 / 10 : ℝ) : EReal) * a * ((1 / 7 : ℝ) : EReal) = ((1 / 70 : ℝ) : EReal) * a := by
    rw [mul_right_comm, ← EReal.coe_mul]; norm_num
  rw [Ideal.div_coe (by norm_num : (7 : ℝ) ≠ 0), div_ne _ _ ha.ne', div_ne _ _ h0, e, EReal.mul_inv, ← EReal.coe_inv,
    ← mul_assoc, ← mul_assoc, mul_right_comm ((1 / 10 : ℝ) : EReal) m, ← EReal.coe_mul, mul_comm m]
  norm_num

/-- The code of the second moment before clipping, where the least of the norms is at least the tiny `y`. -/
theorem code_v (v p q : EReal) (y : ℝ) (hy : 0 < y) (h : (y : EReal) ≤ min p q) :
    v * max (Ideal.div ((2 / 125 : ℝ) : EReal) (max p (y : EReal))) (Ideal.div ((2 / 125 : ℝ) : EReal) (max q (y : EReal))) =
      Ideal.div (((16 : ℝ) : EReal) * (((1 / 1000 : ℝ) : EReal) * v)) (min p q) := by
  have hy' : (0 : EReal) < (y : EReal) := EReal.coe_pos.2 hy
  have hp : 0 < p := hy'.trans_le (h.trans (min_le_left _ _))
  have hq : 0 < q := hy'.trans_le (h.trans (min_le_right _ _))
  have h0 : (0 : EReal) ≤ ((2 / 125 : ℝ) : EReal) := EReal.coe_nonneg.2 (by norm_num)
  have anti := EReal.inv_strictAntiOn.antitoneOn
  rw [max_eq_left (h.trans (min_le_left _ _)), max_eq_left (h.trans (min_le_right _ _)), div_ne _ _ hp.ne', div_ne _ _ hq.ne',
    div_ne _ _ (lt_min hp hq).ne', ← mul_assoc, ← EReal.coe_mul]
  have key : max (((2 / 125 : ℝ) : EReal) * p⁻¹) (((2 / 125 : ℝ) : EReal) * q⁻¹) = ((2 / 125 : ℝ) : EReal) * (min p q)⁻¹ := by
    rcases le_total p q with hpq | hpq
    · rw [min_eq_left hpq, max_eq_left (mul_le_mul_of_nonneg_left (anti hp hq hpq) h0)]
    · rw [min_eq_right hpq, max_eq_right (mul_le_mul_of_nonneg_left (anti hq hp hpq) h0)]
  rw [key, ← mul_assoc, mul_comm v]
  norm_num

/-- Clipping at zero from below a code that rounds `-1`. -/
theorem code_zero : max (0 : EReal) (Ideal.liftRound Ideal.roundHalfEven (0 - 1)) = 0 := by
  have e : (0 - 1 : EReal) = ((-1 : ℝ) : EReal) := by rw [zero_sub]; rfl
  rw [e]
  refine max_eq_left ?_
  show (((Ideal.roundHalfEven (-1) : ℤ) : ℝ) : EReal) ≤ 0
  have h : Ideal.roundHalfEven (-1) = -1 := by
    have f : ⌊(-1 : ℝ)⌋ = -1 := by norm_num
    unfold Ideal.roundHalfEven
    simp only [f]
    norm_num
  rw [h]
  exact EReal.coe_nonpos.2 (by norm_num)

/-- The reference's code of a second moment of zero, clipped at zero from below. -/
theorem code_zero_div (n : EReal) : max (0 : EReal) (Ideal.liftRound Ideal.roundHalfEven (Ideal.div 0 n - 1)) = 0 := by
  by_cases h : n = 0
  · have e : Ideal.div 0 n = ⊥ := by rw [Ideal.div, if_pos h, if_neg (lt_irrefl _)]
    rw [e]
    exact max_eq_left bot_le
  · rw [div_ne _ _ h, zero_mul, code_zero]

/-- A bias correction `1 - β^t` at a whole step `t ≥ 1`, the power spelled as an exponential or as a power. -/
theorem bias (β : ℝ) (h0 : 0 < β) (h1 : β < 1) (t : ℤ) (ht : 1 ≤ t) : ∃ c : ℝ, 0 < c ∧
    1 - Ideal.exp (((t : ℝ) : EReal) * ((Real.log β : ℝ) : EReal)) = (c : EReal) ∧
    1 - Ideal.pow (β : EReal) ((t : ℝ) : EReal) = (c : EReal) := by
  refine ⟨1 - β ^ (t : ℝ), ?_, ?_, ?_⟩
  · have : β ^ (t : ℝ) < 1 := Real.rpow_lt_one h0.le h1 (by exact_mod_cast (by omega : 0 < t))
    linarith
  · rw [← EReal.coe_mul, Ideal.exp_coe, Real.rpow_def_of_pos h0, mul_comm (Real.log β), EReal.coe_sub, EReal.coe_one]
  · rw [Ideal.pow_coe_coe, EReal.coe_sub, EReal.coe_one]; rfl

/-- The update's quotient, the second moment's bias correction folded into the numerator and into ε. -/
theorem step (m v : EReal) (hv : 0 ≤ v) (c₁ c₂ : ℝ) (h1 : 0 < c₁) (h2 : 0 < c₂) :
    m * Ideal.div (Ideal.div (((3 / 100000 : ℝ) : EReal) * Ideal.sqrt (Ideal.div (c₂ : EReal) ((1 / 1000 : ℝ) : EReal))) (c₁ : EReal))
        (Ideal.div 1 (Ideal.rsqrt v) + ((1 / 100000000 : ℝ) : EReal) * Ideal.sqrt (Ideal.div (c₂ : EReal) ((1 / 1000 : ℝ) : EReal))) =
      ((3 / 10000 : ℝ) : EReal) * Ideal.div (Ideal.div (((1 / 10 : ℝ) : EReal) * m) (c₁ : EReal))
        (Ideal.sqrt (Ideal.div (((1 / 1000 : ℝ) : EReal) * v) (c₂ : EReal)) + ((1 / 100000000 : ℝ) : EReal)) := by
  have hs : Ideal.sqrt (Ideal.div (c₂ : EReal) ((1 / 1000 : ℝ) : EReal)) = ((Real.sqrt (c₂ * 1000) : ℝ) : EReal) := by
    rw [Ideal.div_coe (by norm_num), ← EReal.coe_mul, Ideal.sqrt_coe, if_neg (not_lt.2 (by positivity))]
    norm_num
  have hs0 : 0 < Real.sqrt (c₂ * 1000) := Real.sqrt_pos.2 (by positivity)
  have hsq : Real.sqrt (c₂ * 1000) ^ 2 = c₂ * 1000 := Real.sq_sqrt (by positivity)
  rw [div_rsqrt v hv, hs]
  generalize Real.sqrt (c₂ * 1000) = s at hs0 hsq
  rw [← EReal.coe_mul, ← EReal.coe_mul, Ideal.div_coe h1.ne', Ideal.div_coe h1.ne', ← EReal.coe_mul]
  induction v with
  | bot => exact absurd hv (by simp)
  | top =>
    rw [EReal.coe_mul_top_of_pos (by norm_num), Ideal.div_coe h2.ne', EReal.top_mul_coe_of_pos (by positivity)]
    rw [show Ideal.sqrt ⊤ = ⊤ from rfl, EReal.top_add_coe, EReal.top_add_coe, div_ne _ _ EReal.top_ne_zero,
      div_ne _ _ EReal.top_ne_zero, EReal.inv_top, mul_zero, mul_zero, mul_zero, mul_zero]
  | coe x =>
    have hx : 0 ≤ x := EReal.coe_nonneg.1 hv
    have hd : 0 < Real.sqrt x + 1 / 100000000 * s := by positivity
    have e : Real.sqrt (1 / 1000 * x * (1 / c₂)) = Real.sqrt x / s := by
      rw [show 1 / 1000 * x * (1 / c₂) = x / s ^ 2 by rw [hsq]; field_simp, Real.sqrt_div' _ (by positivity),
        Real.sqrt_sq hs0.le]
    have hd' : 0 < Real.sqrt x / s + 1 / 100000000 := by positivity
    rw [← EReal.coe_mul, Ideal.div_coe h2.ne', ← EReal.coe_mul, Ideal.sqrt_coe, Ideal.sqrt_coe, if_neg (not_lt.2 hx),
      if_neg (not_lt.2 (by positivity)), e, ← EReal.coe_add, ← EReal.coe_add, Ideal.div_coe hd.ne', Ideal.div_coe hd'.ne',
      ← EReal.coe_mul, mul_comm ((1 / 10 : ℝ) : EReal) m, mul_assoc m, mul_assoc m, ← EReal.coe_mul, ← EReal.coe_mul,
      mul_left_comm, ← EReal.coe_mul]
    congr 2
    field_simp
    norm_num

end Cert.Calc
-- ==== Proof.Block.lean ====
module

public import proofs.«01_k».proof.Proof.Gen.KernelIdeal.Skeleton
public import Idealize.ShloMosaic.Lib.Pointwise
public import Idealize.ShloMosaic.Lib.BitcastPair
public import Idealize.ShloMosaic.Lib.ValueIdx

@[expose] public section

/-! The values one column block of the step kernel stores, as vectors of the values it loads, and each of them at an
index. The sixteen unrolled column blocks of the kernel compute the same vectors at different offsets. -/

set_option maxRecDepth 16384

noncomputable section

namespace Cert.KernelIdeal.Value
open Cert.KernelIdeal Cert.KernelIdeal.Gen
open Idealize.ShloMosaic

/-! ### The vectors -/

/-- The new first moment (before its factor) of one 128-column block: the codes of parity `p` times the block's scale,
plus the gradient. -/
def vM (p : Fin 2) (blk : ℕ) (hs : S32x32.Slices ![0, blk] S32x1) (v77 : FVec Ideal S32x32 .f32)
    (c : Vec Ideal S1x32x128 .i8) (g : Vec Ideal S1x32x128 .bf16) : FVec Ideal S32x128 .f32 :=
  addf (mulf (extf .f32 (rowsOfParity p S32x128 (k0_pay8 (F := Ideal) c) bitcasts_S64x128_w16_S32x128_w32))
    (broadcastTo S32x128 (extractStridedSlice S32x1 ![0, blk] v77 hs) broadcasts_S32x1_S32x128)) (k0_pay14 g)

/-- The new second moment (before its factor) of one block. -/
def vV (p : Fin 2) (v69 : FVec Ideal S4x8x128 .f32) (c : Vec Ideal S1x32x128 .i8) (g : Vec Ideal S1x32x128 .bf16)
    (col : Vec Ideal S8x128 .f32) : FVec Ideal S32x128 .f32 :=
  addf (mulf (extf .f32 (rowsOfParity p S32x128 (k0_pay12 (F := Ideal) (k0_pay11 (F := Ideal) c))
      bitcasts_S64x128_w16_S32x128_w32))
    (shapeCast S32x128 (minimumf v69 (broadcastTo S4x8x128 (shapeCast S1x8x128 col shapeCasts_S8x128_S1x8x128)
      broadcasts_S1x8x128_S4x8x128)) shapeCasts_S4x8x128_S32x128)) (mulf (k0_pay14 g) (k0_pay14 g))

/-- The update of one block. -/
def vDW (v59 v63 m v : FVec Ideal S32x128 .f32) (w : Vec Ideal S1x32x128 .bf16) : FVec Ideal S1x32x128 .f32 :=
  k0_pay19 (mulf m (divf v63 (addf (divf (broadcast S32x128 (Scalar.ofBits .f32 0x3F800000#32)) (rsqrt v)) v59)))
    (k0_pay18 w)

/-- The words one block packs out of two rounded vectors, clipped to `[lo, hi]`. -/
def vWord (cl ch : BitVec 16) (lo hi : FVec Ideal S32x128 .f32) : IVec S32x128 32 :=
  bitcast S32x128 32 (trunci 16 (fptosi 32 (minimumf (broadcast S64x128 (Scalar.ofBits .bf16 ch))
    (maximumf (broadcast S64x128 (Scalar.ofBits .bf16 cl))
      (interleaveRows S64x128 (truncf .bf16 lo : FVec Ideal S32x128 .bf16) (truncf .bf16 hi : FVec Ideal S32x128 .bf16)
        bitcasts_S64x128_w16_S32x128_w32)))) natLt_16_32) bitcasts_S64x128_w16_S32x128_w32

/-- The bytes one block packs out of two rounded vectors, clipped to `[lo, hi]`. -/
def vPack (cl ch : BitVec 16) (lo hi : FVec Ideal S32x128 .f32) : IVec S1x32x128 8 :=
  shapeCast S1x32x128 (trunci 8 (ori (andi (vWord cl ch lo hi) (broadcast S32x128 15#32))
    (andi (shrsi (vWord cl ch lo hi) (broadcast S32x128 12#32)) (broadcast S32x128 240#32))) natLt_8_32)
    shapeCasts_S32x128_S1x32x128

/-! ### Nibbles -/

/-- The word `words` of one code byte for the signed codes. -/
def wordS (b : BitVec 8) : BitVec 32 :=
  ((b.zeroExtend 32 <<< 28).sshiftRight 28 &&& 65535#32) ||| ((b.zeroExtend 32 <<< 24).sshiftRight 28 <<< 16)

/-- The word of one code byte for the unsigned codes. -/
def wordU (b : BitVec 8) : BitVec 32 :=
  (b.zeroExtend 32 &&& 15#32) ||| ((b.zeroExtend 32).sshiftRight 4 <<< 16)

/-- The low (`p = 0`) or high (`p = 1`) nibble of a byte, as an unsigned number. -/
def nibU (b : BitVec 8) (p : ℕ) : ℤ := if p = 0 then (b &&& 15#8).toNat else (b >>> 4).toNat

/-- The low or high nibble of a byte, as a signed number. -/
def nibS (b : BitVec 8) (p : ℕ) : ℤ := if 8 ≤ nibU b p then nibU b p - 16 else nibU b p

theorem wordS_half (b : BitVec 8) (p : Fin 2) :
    ((wordS b).extractLsb' (16 * p.val) 16).toInt = nibS b p := by
  revert b p; decide +kernel

theorem wordU_half (b : BitVec 8) (p : Fin 2) :
    ((wordU b).extractLsb' (16 * p.val) 16).toInt = nibU b p := by
  revert b p; decide +kernel

/-- The byte of two codes: the low four bits of each, the second above the first. -/
def packByte (zl zh : BitVec 32) : BitVec 8 := ((zl &&& 15#32) ||| ((zh &&& 15#32) <<< 4)).setWidth 8

/-- The kernel's way of packing the two halves of a word into a byte packs their low four bits. -/
theorem pack_word (zl zh : BitVec 32) :
    (((zh.setWidth 16 ++ zl.setWidth 16 : BitVec 32) &&& 15#32) |||
      ((zh.setWidth 16 ++ zl.setWidth 16 : BitVec 32).sshiftRight 12 &&& 240#32)).setWidth 8 = packByte zl zh := by
  unfold packByte
  have hw : ∀ i : ℕ, (zh.setWidth 16 ++ zl.setWidth 16 : BitVec 32).getLsbD i =
      if i < 16 then (zl.setWidth 16).getLsbD i else (zh.setWidth 16).getLsbD (i - 16) :=
    fun i => BitVec.getLsbD_append
  generalize (zh.setWidth 16 ++ zl.setWidth 16 : BitVec 32) = w at hw ⊢
  apply BitVec.eq_of_getLsbD_eq
  intro i hi
  have h0 := hw i
  have h1 := hw (i + 12)
  interval_cases i <;> simp [BitVec.getElem_sshiftRight] at h0 h1 ⊢ <;> assumption

/-! ### The vectors at an index -/

theorem src_32_16 (r : Fin 32) (l : Fin 128) (p : Fin 2) (q : ℕ) (hp) (hq : q = r.val) :
    (bitcasts_S32x128_w32_S64x128_w16).srcIdx (ix2 ⟨2 * r.val + p.val, by omega⟩ l : S64x128.Idx) q hp = ix2 r l := by
  subst hq
  funext a
  apply Fin.ext
  match a with
  | ⟨0, _⟩ => exact Shape.Bitcasts.srcIdx_row _ _ _ _ _ rfl
  | ⟨1, _⟩ => exact Shape.Bitcasts.srcIdx_other _ _ _ _ _ (show ¬ (1 + 2 = 2) by decide)

theorem src_16_32 (r : Fin 32) (l : Fin 128) (q : ℕ) (hp) (hq : q < 64) :
    (bitcasts_S64x128_w16_S32x128_w32).srcIdx (ix2 r l : S32x128.Idx) q hp = ix2 ⟨q, hq⟩ l := by
  funext a
  apply Fin.ext
  match a with
  | ⟨0, _⟩ => exact Shape.Bitcasts.srcIdx_row _ _ _ _ _ rfl
  | ⟨1, _⟩ => exact Shape.Bitcasts.srcIdx_other _ _ _ _ _ (show ¬ (1 + 2 = 2) by decide)

theorem row_64 (a : Fin 64) (l : Fin 128) : S64x128.row (ix2 a l) = a.val := rfl
theorem row_32 (a : Fin 32) (l : Fin 128) : S32x128.row (ix2 a l) = a.val := rfl

/-- A word vector read as half words, at an index. -/
theorem halves_apply (x : IVec S32x128 32) (r : Fin 32) (l : Fin 128) (p : Fin 2) :
    bitcast S64x128 16 x bitcasts_S32x128_w32_S64x128_w16 (ix2 ⟨2 * r.val + p.val, by omega⟩ l)
      = (x (ix2 r l)).extractLsb' (16 * p.val) 16 := by
  rw [Idealize.ShloMosaic.bitcast_32_16, src_32_16 r l p _ _ (by rw [row_64]; dsimp only; omega), row_64]
  congr 2
  dsimp only; omega

theorem rows_pay8 (p : Fin 2) (c : Vec Ideal S1x32x128 .i8) (r : Fin 32) (l : Fin 128) :
    rowsOfParity p S32x128 (k0_pay8 (F := Ideal) c) bitcasts_S64x128_w16_S32x128_w32 (ix2 r l)
      = ((nibS (c (ix3 0 r l)) p : ℝ) : EReal) := by
  rw [← wordS_half]
  unfold k0_pay8
  pointwise
  rw [halves_apply]
  pointwise
  rfl

theorem rows_pay12 (p : Fin 2) (c : Vec Ideal S1x32x128 .i8) (r : Fin 32) (l : Fin 128) :
    rowsOfParity p S32x128 (k0_pay12 (F := Ideal) (k0_pay11 (F := Ideal) c)) bitcasts_S64x128_w16_S32x128_w32 (ix2 r l)
      = ((nibU (c (ix3 0 r l)) p : ℝ) : EReal) + Ideal.ofBits .bf16 0x3F80#16 := by
  rw [← wordU_half]
  unfold k0_pay12 k0_pay11
  pointwise
  rw [halves_apply]
  pointwise
  rfl

theorem vM_apply (p : Fin 2) (blk : Fin 32) (hs) (v77 : FVec Ideal S32x32 .f32)
    (c : Vec Ideal S1x32x128 .i8) (g : Vec Ideal S1x32x128 .bf16) (r : Fin 32) (l : Fin 128) :
    vM p blk hs v77 c g (ix2 r l) =
      ((nibS (c (ix3 0 r l)) p : ℝ) : EReal) * v77 (ix2 r blk) + g (ix3 0 r l) := by
  rw [← rows_pay8]
  unfold vM
  pointwise [k0_pay14]

theorem vV_apply (p : Fin 2) (v69 : FVec Ideal S4x8x128 .f32) (c : Vec Ideal S1x32x128 .i8)
    (g : Vec Ideal S1x32x128 .bf16) (col : Vec Ideal S8x128 .f32) (r : Fin 32) (l : Fin 128) :
    vV p v69 c g col (ix2 r l) =
      (((nibU (c (ix3 0 r l)) p : ℝ) : EReal) + Ideal.ofBits .bf16 0x3F80#16) *
        min (v69 (ix3 ⟨r / 8, by omega⟩ ⟨r % 8, by omega⟩ l)) (col (ix2 ⟨r % 8, by omega⟩ l))
        + g (ix3 0 r l) * g (ix3 0 r l) := by
  rw [← rows_pay12]
  unfold vV
  pointwise [k0_pay14]

theorem vDW_apply (v59 v63 m v : FVec Ideal S32x128 .f32) (w : Vec Ideal S1x32x128 .bf16) (r : Fin 32) (l : Fin 128) :
    vDW v59 v63 m v w (ix3 0 r l) =
      m (ix2 r l) * Ideal.div (v63 (ix2 r l)) (Ideal.div 1 (Ideal.rsqrt (v (ix2 r l))) + v59 (ix2 r l)) +
      w (ix3 0 r l) * Named.named (F := Ideal) (φ := .f32) κ "decay" 0x37FBA882#32 := by
  unfold vDW
  pointwise [k0_pay19, k0_pay18]

theorem pay20_apply (m : FVec Ideal S32x128 .f32) (r : Fin 32) (z : Fin 1):
    k0_pay20 m (ix2 r z) = Finset.univ.fold max (Ideal.ofBits .f32 0xFF800000#32)
      (fun x => FloatOps.absf (F := Ideal) (φ := .f32) (m (ix2 r x))) := by
  unfold k0_pay20
  pointwise

theorem pay22_apply (m : FVec Ideal S32x128 .f32) (r : Fin 32) (l : Fin 128) :
    k0_pay22 m (ix2 r l) = Ideal.liftRound Ideal.roundHalfEven (m (ix2 r l) *
        Ideal.div (Ideal.ofBits FTy.f32 0x40E00000#32)
          (max (k0_pay20 m (ix2 r 0)) (Ideal.ofBits FTy.f32 0x01E00000#32))) := by
  unfold k0_pay22
  pointwise

theorem pay21_apply (m : FVec Ideal S32x128 .f32) (r : Fin 32) :
    k0_pay21 m (ix3 0 r 0) = if k0_pay20 m (ix2 r 0) = 0 then 1
      else k0_pay20 m (ix2 r 0) * Named.named (F := Ideal) (φ := .f32) κ "inv70" 0x3C6A0EA1#32 := by
  unfold k0_pay21
  pointwise

theorem pay23_apply (v72 : FVec Ideal S4x8x128 .f32) (v : FVec Ideal S32x128 .f32) (col : Vec Ideal S8x128 .f32)
    (r : Fin 32) (l : Fin 128) :
    k0_pay23 v72 v col (ix2 r l) = Ideal.liftRound Ideal.roundHalfEven
      (v (ix2 r l) * max (v72 (ix3 ⟨r / 8, by omega⟩ ⟨r % 8, by omega⟩ l)) (col (ix2 ⟨r % 8, by omega⟩ l)) - 1) := by
  unfold k0_pay23
  pointwise

/-- One clipped code as a 32-bit integer. -/
def clipI (cl ch : BitVec 16) (x : EReal) : BitVec 32 :=
  FloatOps.fptosi (F := Ideal) (φ := .bf16) 32 (min (Ideal.ofBits .bf16 ch) (max (Ideal.ofBits .bf16 cl) x))

theorem vWord_apply (cl ch : BitVec 16) (lo hi : FVec Ideal S32x128 .f32) (r : Fin 32) (l : Fin 128) :
    vWord cl ch lo hi (ix2 r l) = (clipI cl ch (hi (ix2 r l))).setWidth 16 ++ (clipI cl ch (lo (ix2 r l))).setWidth 16 := by
  unfold vWord
  rw [Idealize.ShloMosaic.bitcast_16_32, src_16_32 r l _ _ (by rw [row_32]; omega), src_16_32 r l _ _ (by rw [row_32]; omega)]
  have h1 : (2 * r.val + 1) % 2 = 1 := by omega
  have h2 : (2 * r.val + 1) / 2 = r.val := by omega
  have h3 : 2 * r.val / 2 = r.val := by omega
  simp only [row_32]
  congr 1
  · pointwise [row_64, clipI]
    rw [if_neg (by omega)]
    simp only [h2]
  · pointwise [row_64, clipI]
    rw [if_pos (by omega)]
    simp only [h3]

theorem vPack_apply (cl ch : BitVec 16) (lo hi : FVec Ideal S32x128 .f32) (r : Fin 32) (l : Fin 128) :
    vPack cl ch lo hi (ix3 0 r l) = packByte (clipI cl ch (lo (ix2 r l))) (clipI cl ch (hi (ix2 r l))) := by
  rw [← pack_word, ← vWord_apply]
  unfold vPack
  pointwise
  rfl

end Cert.KernelIdeal.Value
-- ==== Proof.Cells.lean ====
module

public import proofs.«01_k».proof.Proof.Block
public import Idealize.ShloMosaic.Lib.Pipeline.Value
public import Idealize.ShloMosaic.Lib.Pipeline.ValueKit.Tiles

@[expose] public section

/-! What one grid point of the step kernel stores, element by element, in terms of the blocks it is given. -/

set_option maxRecDepth 16384

noncomputable section

namespace Cert.KernelIdeal.Value
open Cert.KernelIdeal Cert.KernelIdeal.Gen
open Idealize.ShloMosaic

/-! ### The elements of a block -/

section Cells
variable (tf : EReal) (xw xg : Vec Ideal S1x256x4096 .bf16) (xm xv : Vec Ideal S1x256x2048 .i8)
  (xs : Vec Ideal S1x256x32 .f32) (cb ci : Vec Ideal S8x4096 .f32) (rb ri : Vec Ideal S256x128 .f32)

/-- Square root of the second moment's bias correction over its factor. -/
def bInvS : EReal := Ideal.sqrt (Ideal.div (1 - Ideal.exp (tf * Named.named (F := Ideal) (φ := .f32) κ "log_beta2" 0xBA8322CA#32))
  (Named.named (F := Ideal) (φ := .f32) κ "k2" 0x3A83126F#32))

/-- The scaled ε. -/
def bEps : EReal := Named.named (F := Ideal) (φ := .f32) κ "eps" 0x322BCC77#32 * bInvS tf

/-- The scaled step length. -/
def bGain : EReal := Ideal.div (Named.named (F := Ideal) (φ := .f32) κ "decay" 0x37FBA882#32 * bInvS tf)
  (1 - Ideal.exp (tf * Named.named (F := Ideal) (φ := .f32) κ "log_beta1" 0xBDD7C745#32))

/-- The new first moment, without its factor. -/
def bM (R : Fin 256) (C : Fin 4096) : EReal :=
  ((nibS (xm (ix3 0 R ⟨C % 2048, by omega⟩)) (C / 2048) : ℝ) : EReal) *
    (xs (ix3 0 R ⟨C / 128, by omega⟩) * Ideal.ofBits .f32 0x41100000#32) + xg (ix3 0 R C)

/-- The new second moment, without its factor. -/
def bV (R : Fin 256) (C : Fin 4096) : EReal :=
  (((nibU (xv (ix3 0 R ⟨C % 2048, by omega⟩)) (C / 2048) : ℝ) : EReal) + Ideal.ofBits .bf16 0x3F80#16) *
    min (rb (ix2 R ⟨C % 128, by omega⟩)) (cb (ix2 ⟨R % 8, by omega⟩ C)) + xg (ix3 0 R C) * xg (ix3 0 R C)

/-- The update. -/
def bDW (R : Fin 256) (C : Fin 4096) : EReal :=
  bM xg xm xs R C * Ideal.div (bGain tf) (Ideal.div 1 (Ideal.rsqrt (bV xg xv cb rb R C)) + bEps tf)
    + xw (ix3 0 R C) * Named.named (F := Ideal) (φ := .f32) κ "decay" 0x37FBA882#32

/-- The greatest magnitude of the first moment in a 128-column block. -/
def bA (R : Fin 256) (b : Fin 32) : EReal :=
  Finset.univ.fold max (Ideal.ofBits .f32 0xFF800000#32) (fun x : Fin 128 =>
    FloatOps.absf (F := Ideal) (φ := .f32) (bM xg xm xs R ⟨128 * b + x, by omega⟩))

/-- The block's new scale. -/
def bS (R : Fin 256) (b : Fin 32) : EReal :=
  if bA xg xm xs R b = 0 then 1 else bA xg xm xs R b * Named.named (F := Ideal) (φ := .f32) κ "inv70" 0x3C6A0EA1#32

/-- The rounded code of the first moment, before clipping. -/
def bQM (R : Fin 256) (C : Fin 4096) : EReal :=
  Ideal.liftRound Ideal.roundHalfEven (bM xg xm xs R C *
    Ideal.div (Ideal.ofBits FTy.f32 0x40E00000#32)
      (max (bA xg xm xs R ⟨C / 128, by omega⟩) (Ideal.ofBits FTy.f32 0x01E00000#32)))

/-- The rounded code of the second moment, before clipping. -/
def bQV (R : Fin 256) (C : Fin 4096) : EReal :=
  Ideal.liftRound Ideal.roundHalfEven (bV xg xv cb rb R C *
    max (ri (ix2 R ⟨C % 128, by omega⟩)) (ci (ix2 ⟨R % 8, by omega⟩ C)) - 1)

/-- The byte of first moment codes. -/
def bMC (R : Fin 256) (C : Fin 2048) : BitVec 8 :=
  packByte (clipI 0xC0E0#16 0x40E0#16 (bQM xg xm xs R ⟨C, by omega⟩))
    (clipI 0xC0E0#16 0x40E0#16 (bQM xg xm xs R ⟨C + 2048, by omega⟩))

/-- The byte of second moment codes. -/
def bVC (R : Fin 256) (C : Fin 2048) : BitVec 8 :=
  packByte (clipI 0x0000#16 0x4170#16 (bQV xg xv cb ci rb ri R ⟨C, by omega⟩))
    (clipI 0x0000#16 0x4170#16 (bQV xg xv cb ci rb ri R ⟨C + 2048, by omega⟩))

/-! ### The tiles read at an index -/

theorem pay1_apply (v43 : FVec Ideal S8x128 .f32) (h43 : ∀ a l, v43 (ix2 a l) = tf) (a : Fin 8) (l : Fin 128) :
    k0_pay1 v43 (ix2 a l) = bInvS tf := by
  unfold k0_pay1 bInvS
  pointwise [h43]

theorem pay2_apply (v43 : FVec Ideal S8x128 .f32) (h43 : ∀ a l, v43 (ix2 a l) = tf) (r : Fin 32) (l : Fin 128) :
    k0_pay2 v43 (ix2 r l) = bEps tf := by
  unfold k0_pay2 bEps
  have h := pay1_apply tf v43 h43
  pointwise [h]
  split_ifs <;> rfl

theorem pay3_apply (v43 : FVec Ideal S8x128 .f32) (h43 : ∀ a l, v43 (ix2 a l) = tf) (r : Fin 32) (l : Fin 128) :
    k0_pay3 v43 (ix2 r l) = bGain tf := by
  unfold k0_pay3 bGain
  have h := pay1_apply tf v43 h43
  pointwise [h, h43]
  split_ifs <;> rfl

/-! ### A block's vectors are the elements -/

variable (k : Fin 8) (j : Fin 16) (p : Fin 2)

theorem vM_eq (hs) (v77 : FVec Ideal S32x32 .f32) (c : Vec Ideal S1x32x128 .i8) (g : Vec Ideal S1x32x128 .bf16)
    (h77 : ∀ (r b : Fin 32), v77 (ix2 r b) = xs (ix3 0 ⟨32 * k + r, by omega⟩ b) * Ideal.ofBits .f32 0x41100000#32)
    (hc : ∀ (r : Fin 32) (l : Fin 128), c (ix3 0 r l) = xm (ix3 0 ⟨32 * k + r, by omega⟩ ⟨128 * j + l, by omega⟩))
    (hg : ∀ (r : Fin 32) (l : Fin 128), g (ix3 0 r l) = xg (ix3 0 ⟨32 * k + r, by omega⟩ ⟨128 * (j + 16 * p) + l, by omega⟩))
    (r : Fin 32) (l : Fin 128) :
    vM p (j + 16 * p) hs v77 c g (ix2 r l) = bM xg xm xs ⟨32 * k + r, by omega⟩ ⟨128 * (j + 16 * p) + l, by omega⟩ := by
  rw [vM_apply p ⟨j + 16 * p, by omega⟩, h77, hc, hg]
  unfold bM
  have e1 : (128 * (j.val + 16 * p) + l) % 2048 = 128 * j + l := by omega
  have e2 : (128 * (j.val + 16 * p) + l) / 2048 = p := by omega
  have e3 : (128 * (j.val + 16 * p) + l) / 128 = j + 16 * p := by omega
  simp only [e1, e2, e3]

theorem vV_eq (v69 : FVec Ideal S4x8x128 .f32) (c : Vec Ideal S1x32x128 .i8) (g : Vec Ideal S1x32x128 .bf16)
    (col : Vec Ideal S8x128 .f32)
    (h69 : ∀ (a : Fin 4) (b : Fin 8) (l : Fin 128), v69 (ix3 a b l) = rb (ix2 ⟨32 * k + (8 * a + b), by omega⟩ l))
    (hc : ∀ (r : Fin 32) (l : Fin 128), c (ix3 0 r l) = xv (ix3 0 ⟨32 * k + r, by omega⟩ ⟨128 * j + l, by omega⟩))
    (hg : ∀ (r : Fin 32) (l : Fin 128), g (ix3 0 r l) = xg (ix3 0 ⟨32 * k + r, by omega⟩ ⟨128 * (j + 16 * p) + l, by omega⟩))
    (hcol : ∀ (a : Fin 8) (l : Fin 128), col (ix2 a l) = cb (ix2 a ⟨128 * (j + 16 * p) + l, by omega⟩))
    (r : Fin 32) (l : Fin 128) :
    vV p v69 c g col (ix2 r l) = bV xg xv cb rb ⟨32 * k + r, by omega⟩ ⟨128 * (j + 16 * p) + l, by omega⟩ := by
  rw [vV_apply, h69, hc, hg, hcol]
  unfold bV
  have e1 : (128 * (j.val + 16 * p) + l) % 2048 = 128 * j + l := by omega
  have e2 : (128 * (j.val + 16 * p) + l) / 2048 = p := by omega
  have e3 : (128 * (j.val + 16 * p) + l) % 128 = l := by omega
  have e4 : 8 * (r.val / 8) + r.val % 8 = r := by omega
  have e5 : (32 * k.val + r) % 8 = r % 8 := by omega
  simp only [e1, e2, e3, e4, e5]

theorem pay20_eq (m : FVec Ideal S32x128 .f32)
    (hm : ∀ (r : Fin 32) (l : Fin 128), m (ix2 r l) = bM xg xm xs ⟨32 * k + r, by omega⟩ ⟨128 * (j + 16 * p) + l, by omega⟩)
    (r : Fin 32) (z : Fin 1) :
    k0_pay20 m (ix2 r z) = bA xg xm xs ⟨32 * k + r, by omega⟩ ⟨j + 16 * p, by omega⟩ := by
  rw [pay20_apply]
  simp only [hm]
  rfl

theorem pay22_eq (m : FVec Ideal S32x128 .f32)
    (hm : ∀ (r : Fin 32) (l : Fin 128), m (ix2 r l) = bM xg xm xs ⟨32 * k + r, by omega⟩ ⟨128 * (j + 16 * p) + l, by omega⟩)
    (r : Fin 32) (l : Fin 128) :
    k0_pay22 m (ix2 r l) = bQM xg xm xs ⟨32 * k + r, by omega⟩ ⟨128 * (j + 16 * p) + l, by omega⟩ := by
  rw [pay22_apply, pay20_eq xg xm xs k j p m hm, hm]
  unfold bQM
  have e3 : (128 * (j.val + 16 * p) + l) / 128 = j + 16 * p := by omega
  simp only [e3]

theorem pay23_eq (v72 : FVec Ideal S4x8x128 .f32) (v : FVec Ideal S32x128 .f32) (col : Vec Ideal S8x128 .f32)
    (h72 : ∀ (a : Fin 4) (b : Fin 8) (l : Fin 128), v72 (ix3 a b l) = ri (ix2 ⟨32 * k + (8 * a + b), by omega⟩ l))
    (hv : ∀ (r : Fin 32) (l : Fin 128), v (ix2 r l) = bV xg xv cb rb ⟨32 * k + r, by omega⟩ ⟨128 * (j + 16 * p) + l, by omega⟩)
    (hcol : ∀ (a : Fin 8) (l : Fin 128), col (ix2 a l) = ci (ix2 a ⟨128 * (j + 16 * p) + l, by omega⟩))
    (r : Fin 32) (l : Fin 128) :
    k0_pay23 v72 v col (ix2 r l) = bQV xg xv cb ci rb ri ⟨32 * k + r, by omega⟩ ⟨128 * (j + 16 * p) + l, by omega⟩ := by
  rw [pay23_apply, h72, hv, hcol]
  unfold bQV
  have e3 : (128 * (j.val + 16 * p) + l) % 128 = l := by omega
  have e4 : 8 * (r.val / 8) + r.val % 8 = r := by omega
  have e5 : (32 * k.val + r) % 8 = r % 8 := by omega
  simp only [e3, e4, e5]

end Cells

/-! ### Rectangles -/

/-- The place of a `[1, 32, 128]` tile's element in an array of three axes. -/
theorem emb3 {n0 n1 n2 m2 : ℕ} (off : Fin 3 → ℕ) (a b : ℕ) (hoff : off = ![0, a, b])
    (inb : ∀ x, off x + (⟨3, ![1, 32, m2]⟩ : Shape).size x ≤ (⟨3, ![n0, n1, n2]⟩ : Shape).size x)
    (r : Fin 32) (l : Fin m2) (h0 : 0 < n0) (h1 : a + r < n1) (h2 : b + l < n2) :
    (Rect.unit (s := ⟨3, ![n0, n1, n2]⟩) off (⟨3, ![1, 32, m2]⟩ : Shape).size inb).emb (ix3 (0 : Fin 1) r l)
      = ix3 ⟨0, h0⟩ ⟨a + r, h1⟩ ⟨b + l, h2⟩ := by
  subst hoff
  funext x
  apply Fin.ext
  match x with
  | ⟨0, _⟩ => rfl
  | ⟨1, _⟩ => show a + 1 * r.val = _; rw [Nat.one_mul]; rfl
  | ⟨2, _⟩ => show b + 1 * l.val = _; rw [Nat.one_mul]; rfl

/-- A `[1, 32, m2]` tile loaded from an array of three axes, at an index. -/
theorem ld3 {e : EltTy} {n0 n1 n2 m2 : ℕ} (X : Vec Ideal ⟨3, ![n0, n1, n2]⟩ e) (off : Fin 3 → ℕ) (a b : ℕ)
    (hoff : off = ![0, a, b])
    (inb : ∀ x, off x + (⟨3, ![1, 32, m2]⟩ : Shape).size x ≤ (⟨3, ![n0, n1, n2]⟩ : Shape).size x)
    (r : Fin 32) (l : Fin m2) (h0 : 0 < n0) (h1 : a + r < n1) (h2 : b + l < n2) :
    View.ld X (Rect.unit (s := ⟨3, ![n0, n1, n2]⟩) off (⟨3, ![1, 32, m2]⟩ : Shape).size inb) (ix3 (0 : Fin 1) r l)
      = X (ix3 ⟨0, h0⟩ ⟨a + r, h1⟩ ⟨b + l, h2⟩) :=
  congrArg X (emb3 off a b hoff inb r l h0 h1 h2)

/-- A tile of two axes loaded from an array of two axes, at an index. -/
theorem ld2 {e : EltTy} {n0 n1 m0 m1 : ℕ} (X : Vec Ideal ⟨2, ![n0, n1]⟩ e) (off : Fin 2 → ℕ) (a b : ℕ)
    (hoff : off = ![a, b])
    (inb : ∀ x, off x + (⟨2, ![m0, m1]⟩ : Shape).size x ≤ (⟨2, ![n0, n1]⟩ : Shape).size x)
    (r : Fin m0) (l : Fin m1) (h1 : a + r < n0) (h2 : b + l < n1) :
    View.ld X (Rect.unit (s := ⟨2, ![n0, n1]⟩) off (⟨2, ![m0, m1]⟩ : Shape).size inb) (ix2 r l)
      = X (ix2 ⟨a + r, h1⟩ ⟨b + l, h2⟩) := by
  subst hoff
  refine congrArg X ?_
  funext x
  apply Fin.ext
  match x with
  | ⟨0, _⟩ => show a + 1 * r.val = _; rw [Nat.one_mul]; rfl
  | ⟨1, _⟩ => show b + 1 * l.val = _; rw [Nat.one_mul]; rfl

end Cert.KernelIdeal.Value
-- ==== Proof.Tiles.lean ====
module

public import proofs.«01_k».proof.Proof.Cells
public import proofs.«01_k».proof.Proof.Gen.KernelIdeal.Loops

@[expose] public section

/-! What one trip of the step kernel's loop stores: each stored tile is the tile of one array of elements (`Cells`),
whichever column block stores it. -/

set_option maxRecDepth 16384

noncomputable section

namespace Cert.KernelIdeal.Value
open Cert.KernelIdeal Cert.KernelIdeal.Gen
open Idealize.ShloMosaic Idealize.ShloMosaic.TcCoe
open Idealize.SL Idealize.SL.RA Idealize.SL.BI Idealize.SL.Sem

theorem idx3_ex {m2 : ℕ} (x : (⟨3, ![1, 32, m2]⟩ : Shape).Idx) :
    ∃ (r : Fin 32) (l : Fin m2), x = ix3 (0 : Fin 1) r l := by
  refine ⟨x 1, x 2, ?_⟩
  funext a
  match a with
  | ⟨0, _⟩ => exact Subsingleton.elim (α := Fin 1) _ _
  | ⟨1, _⟩ => rfl
  | ⟨2, _⟩ => rfl

theorem trips_eq : k0_t1_loop.trips = 8 := by decide +kernel

theorem off3_eq : ∀ k : Fin k0_t1_loop.trips, k0_off3 k = ![32 * k.val, 0] := by decide +kernel
theorem off4_eq : ∀ k : Fin k0_t1_loop.trips, k0_off4 k = ![0, 32 * k.val, 0] := by decide +kernel
theorem off5_eq : ∀ k : Fin k0_t1_loop.trips, k0_off5 k = ![0, 32 * k.val, 0] := by decide +kernel
theorem off6_eq : ∀ k : Fin k0_t1_loop.trips, k0_off6 k = ![0, 32 * k.val, 0] := by decide +kernel
theorem off7_eq : ∀ k : Fin k0_t1_loop.trips, k0_off7 k = ![0, 32 * k.val, 0] := by decide +kernel
theorem off8_eq : ∀ k : Fin k0_t1_loop.trips, k0_off8 k = ![0, 32 * k.val, 2048] := by decide +kernel
theorem off9_eq : ∀ k : Fin k0_t1_loop.trips, k0_off9 k = ![0, 32 * k.val, 16] := by decide +kernel
theorem off10_eq : ∀ k : Fin k0_t1_loop.trips, k0_off10 k = ![0, 32 * k.val, 128] := by decide +kernel
theorem off11_eq : ∀ k : Fin k0_t1_loop.trips, k0_off11 k = ![0, 32 * k.val, 128] := by decide +kernel
theorem off12_eq : ∀ k : Fin k0_t1_loop.trips, k0_off12 k = ![0, 32 * k.val, 1] := by decide +kernel
theorem off13_eq : ∀ k : Fin k0_t1_loop.trips, k0_off13 k = ![0, 32 * k.val, 2176] := by decide +kernel
theorem off14_eq : ∀ k : Fin k0_t1_loop.trips, k0_off14 k = ![0, 32 * k.val, 17] := by decide +kernel
theorem off15_eq : ∀ k : Fin k0_t1_loop.trips, k0_off15 k = ![0, 32 * k.val, 256] := by decide +kernel
theorem off16_eq : ∀ k : Fin k0_t1_loop.trips, k0_off16 k = ![0, 32 * k.val, 256] := by decide +kernel
theorem off17_eq : ∀ k : Fin k0_t1_loop.trips, k0_off17 k = ![0, 32 * k.val, 2] := by decide +kernel
theorem off18_eq : ∀ k : Fin k0_t1_loop.trips, k0_off18 k = ![0, 32 * k.val, 2304] := by decide +kernel
theorem off19_eq : ∀ k : Fin k0_t1_loop.trips, k0_off19 k = ![0, 32 * k.val, 18] := by decide +kernel
theorem off20_eq : ∀ k : Fin k0_t1_loop.trips, k0_off20 k = ![0, 32 * k.val, 384] := by decide +kernel
theorem off21_eq : ∀ k : Fin k0_t1_loop.trips, k0_off21 k = ![0, 32 * k.val, 384] := by decide +kernel
theorem off22_eq : ∀ k : Fin k0_t1_loop.trips, k0_off22 k = ![0, 32 * k.val, 3] := by decide +kernel
theorem off23_eq : ∀ k : Fin k0_t1_loop.trips, k0_off23 k = ![0, 32 * k.val, 2432] := by decide +kernel
theorem off24_eq : ∀ k : Fin k0_t1_loop.trips, k0_off24 k = ![0, 32 * k.val, 19] := by decide +kernel
theorem off25_eq : ∀ k : Fin k0_t1_loop.trips, k0_off25 k = ![0, 32 * k.val, 512] := by decide +kernel
theorem off26_eq : ∀ k : Fin k0_t1_loop.trips, k0_off26 k = ![0, 32 * k.val, 512] := by decide +kernel
theorem off27_eq : ∀ k : Fin k0_t1_loop.trips, k0_off27 k = ![0, 32 * k.val, 4] := by decide +kernel
theorem off28_eq : ∀ k : Fin k0_t1_loop.trips, k0_off28 k = ![0, 32 * k.val, 2560] := by decide +kernel
theorem off29_eq : ∀ k : Fin k0_t1_loop.trips, k0_off29 k = ![0, 32 * k.val, 20] := by decide +kernel
theorem off30_eq : ∀ k : Fin k0_t1_loop.trips, k0_off30 k = ![0, 32 * k.val, 640] := by decide +kernel
theorem off31_eq : ∀ k : Fin k0_t1_loop.trips, k0_off31 k = ![0, 32 * k.val, 640] := by decide +kernel
theorem off32_eq : ∀ k : Fin k0_t1_loop.trips, k0_off32 k = ![0, 32 * k.val, 5] := by decide +kernel
theorem off33_eq : ∀ k : Fin k0_t1_loop.trips, k0_off33 k = ![0, 32 * k.val, 2688] := by decide +kernel
theorem off34_eq : ∀ k : Fin k0_t1_loop.trips, k0_off34 k = ![0, 32 * k.val, 21] := by decide +kernel
theorem off35_eq : ∀ k : Fin k0_t1_loop.trips, k0_off35 k = ![0, 32 * k.val, 768] := by decide +kernel
theorem off36_eq : ∀ k : Fin k0_t1_loop.trips, k0_off36 k = ![0, 32 * k.val, 768] := by decide +kernel
theorem off37_eq : ∀ k : Fin k0_t1_loop.trips, k0_off37 k = ![0, 32 * k.val, 6] := by decide +kernel
theorem off38_eq : ∀ k : Fin k0_t1_loop.trips, k0_off38 k = ![0, 32 * k.val, 2816] := by decide +kernel
theorem off39_eq : ∀ k : Fin k0_t1_loop.trips, k0_off39 k = ![0, 32 * k.val, 22] := by decide +kernel
theorem off40_eq : ∀ k : Fin k0_t1_loop.trips, k0_off40 k = ![0, 32 * k.val, 896] := by decide +kernel
theorem off41_eq : ∀ k : Fin k0_t1_loop.trips, k0_off41 k = ![0, 32 * k.val, 896] := by decide +kernel
theorem off42_eq : ∀ k : Fin k0_t1_loop.trips, k0_off42 k = ![0, 32 * k.val, 7] := by decide +kernel
theorem off43_eq : ∀ k : Fin k0_t1_loop.trips, k0_off43 k = ![0, 32 * k.val, 2944] := by decide +kernel
theorem off44_eq : ∀ k : Fin k0_t1_loop.trips, k0_off44 k = ![0, 32 * k.val, 23] := by decide +kernel
theorem off45_eq : ∀ k : Fin k0_t1_loop.trips, k0_off45 k = ![0, 32 * k.val, 1024] := by decide +kernel
theorem off46_eq : ∀ k : Fin k0_t1_loop.trips, k0_off46 k = ![0, 32 * k.val, 1024] := by decide +kernel
theorem off47_eq : ∀ k : Fin k0_t1_loop.trips, k0_off47 k = ![0, 32 * k.val, 8] := by decide +kernel
theorem off48_eq : ∀ k : Fin k0_t1_loop.trips, k0_off48 k = ![0, 32 * k.val, 3072] := by decide +kernel
theorem off49_eq : ∀ k : Fin k0_t1_loop.trips, k0_off49 k = ![0, 32 * k.val, 24] := by decide +kernel
theorem off50_eq : ∀ k : Fin k0_t1_loop.trips, k0_off50 k = ![0, 32 * k.val, 1152] := by decide +kernel
theorem off51_eq : ∀ k : Fin k0_t1_loop.trips, k0_off51 k = ![0, 32 * k.val, 1152] := by decide +kernel
theorem off52_eq : ∀ k : Fin k0_t1_loop.trips, k0_off52 k = ![0, 32 * k.val, 9] := by decide +kernel
theorem off53_eq : ∀ k : Fin k0_t1_loop.trips, k0_off53 k = ![0, 32 * k.val, 3200] := by decide +kernel
theorem off54_eq : ∀ k : Fin k0_t1_loop.trips, k0_off54 k = ![0, 32 * k.val, 25] := by decide +kernel
theorem off55_eq : ∀ k : Fin k0_t1_loop.trips, k0_off55 k = ![0, 32 * k.val, 1280] := by decide +kernel
theorem off56_eq : ∀ k : Fin k0_t1_loop.trips, k0_off56 k = ![0, 32 * k.val, 1280] := by decide +kernel
theorem off57_eq : ∀ k : Fin k0_t1_loop.trips, k0_off57 k = ![0, 32 * k.val, 10] := by decide +kernel
theorem off58_eq : ∀ k : Fin k0_t1_loop.trips, k0_off58 k = ![0, 32 * k.val, 3328] := by decide +kernel
theorem off59_eq : ∀ k : Fin k0_t1_loop.trips, k0_off59 k = ![0, 32 * k.val, 26] := by decide +kernel
theorem off60_eq : ∀ k : Fin k0_t1_loop.trips, k0_off60 k = ![0, 32 * k.val, 1408] := by decide +kernel
theorem off61_eq : ∀ k : Fin k0_t1_loop.trips, k0_off61 k = ![0, 32 * k.val, 1408] := by decide +kernel
theorem off62_eq : ∀ k : Fin k0_t1_loop.trips, k0_off62 k = ![0, 32 * k.val, 11] := by decide +kernel
theorem off63_eq : ∀ k : Fin k0_t1_loop.trips, k0_off63 k = ![0, 32 * k.val, 3456] := by decide +kernel
theorem off64_eq : ∀ k : Fin k0_t1_loop.trips, k0_off64 k = ![0, 32 * k.val, 27] := by decide +kernel
theorem off65_eq : ∀ k : Fin k0_t1_loop.trips, k0_off65 k = ![0, 32 * k.val, 1536] := by decide +kernel
theorem off66_eq : ∀ k : Fin k0_t1_loop.trips, k0_off66 k = ![0, 32 * k.val, 1536] := by decide +kernel
theorem off67_eq : ∀ k : Fin k0_t1_loop.trips, k0_off67 k = ![0, 32 * k.val, 12] := by decide +kernel
theorem off68_eq : ∀ k : Fin k0_t1_loop.trips, k0_off68 k = ![0, 32 * k.val, 3584] := by decide +kernel
theorem off69_eq : ∀ k : Fin k0_t1_loop.trips, k0_off69 k = ![0, 32 * k.val, 28] := by decide +kernel
theorem off70_eq : ∀ k : Fin k0_t1_loop.trips, k0_off70 k = ![0, 32 * k.val, 1664] := by decide +kernel
theorem off71_eq : ∀ k : Fin k0_t1_loop.trips, k0_off71 k = ![0, 32 * k.val, 1664] := by decide +kernel
theorem off72_eq : ∀ k : Fin k0_t1_loop.trips, k0_off72 k = ![0, 32 * k.val, 13] := by decide +kernel
theorem off73_eq : ∀ k : Fin k0_t1_loop.trips, k0_off73 k = ![0, 32 * k.val, 3712] := by decide +kernel
theorem off74_eq : ∀ k : Fin k0_t1_loop.trips, k0_off74 k = ![0, 32 * k.val, 29] := by decide +kernel
theorem off75_eq : ∀ k : Fin k0_t1_loop.trips, k0_off75 k = ![0, 32 * k.val, 1792] := by decide +kernel
theorem off76_eq : ∀ k : Fin k0_t1_loop.trips, k0_off76 k = ![0, 32 * k.val, 1792] := by decide +kernel
theorem off77_eq : ∀ k : Fin k0_t1_loop.trips, k0_off77 k = ![0, 32 * k.val, 14] := by decide +kernel
theorem off78_eq : ∀ k : Fin k0_t1_loop.trips, k0_off78 k = ![0, 32 * k.val, 3840] := by decide +kernel
theorem off79_eq : ∀ k : Fin k0_t1_loop.trips, k0_off79 k = ![0, 32 * k.val, 30] := by decide +kernel
theorem off80_eq : ∀ k : Fin k0_t1_loop.trips, k0_off80 k = ![0, 32 * k.val, 1920] := by decide +kernel
theorem off81_eq : ∀ k : Fin k0_t1_loop.trips, k0_off81 k = ![0, 32 * k.val, 1920] := by decide +kernel
theorem off82_eq : ∀ k : Fin k0_t1_loop.trips, k0_off82 k = ![0, 32 * k.val, 15] := by decide +kernel
theorem off83_eq : ∀ k : Fin k0_t1_loop.trips, k0_off83 k = ![0, 32 * k.val, 3968] := by decide +kernel
theorem off84_eq : ∀ k : Fin k0_t1_loop.trips, k0_off84 k = ![0, 32 * k.val, 31] := by decide +kernel

section Trip
variable (arg7 arg8 : Memref sig .tc .vmem S1x256x4096 .bf16) (arg9 arg11 : Memref sig .tc .vmem S1x256x2048 .i8)
  (arg10 : Memref sig .tc .vmem S1x256x32 .f32) (arg16 arg17 : Memref sig .tc .vmem S8x4096 .f32)
  (arg18 arg19 : Memref sig .tc .vmem S256x128 .f32) (v43 : FVec Ideal S8x128 .f32)
  (X7 : BufTy.Contents (Elt Ideal) arg7.view.ty) (X8 : BufTy.Contents (Elt Ideal) arg8.view.ty)
  (X9 : BufTy.Contents (Elt Ideal) arg9.view.ty) (X10 : BufTy.Contents (Elt Ideal) arg10.view.ty)
  (X11 : BufTy.Contents (Elt Ideal) arg11.view.ty) (X16 : BufTy.Contents (Elt Ideal) arg16.view.ty)
  (X17 : BufTy.Contents (Elt Ideal) arg17.view.ty) (X18 : BufTy.Contents (Elt Ideal) arg18.view.ty)
  (X19 : BufTy.Contents (Elt Ideal) arg19.view.ty) (k : Fin k0_t1_loop.trips)

/-- A `[1, 32, 128]` tile loaded from a `[1, 256, 4096]` operand. -/
def tG (a : Memref sig .tc .vmem S1x256x4096 .bf16) (X : BufTy.Contents (Elt Ideal) a.view.ty) (o : Fin 3 → ℕ)
    (h : ∀ x, o x + S1x32x128.size x ≤ S1x256x4096.size x) : Vec Ideal S1x32x128 .bf16 :=
  View.readAt (Elt Ideal) a.view (Rect.unit (s := S1x256x4096) o S1x32x128.size h).toLoadRect X

/-- A `[1, 32, 128]` tile loaded from a packed `[1, 256, 2048]` operand. -/
def tC (a : Memref sig .tc .vmem S1x256x2048 .i8) (X : BufTy.Contents (Elt Ideal) a.view.ty) (o : Fin 3 → ℕ)
    (h : ∀ x, o x + S1x32x128.size x ≤ S1x256x2048.size x) : Vec Ideal S1x32x128 .i8 :=
  View.readAt (Elt Ideal) a.view (Rect.unit (s := S1x256x2048) o S1x32x128.size h).toLoadRect X

/-- An `[8, 128]` tile loaded from a column scratch. -/
def tCol (a : Memref sig .tc .vmem S8x4096 .f32) (X : BufTy.Contents (Elt Ideal) a.view.ty) (cc : ℕ)
    (h : ∀ x, (![0, cc] : Fin 2 → ℕ) x + S8x128.size x ≤ S8x4096.size x) : Vec Ideal S8x128 .f32 :=
  View.readAt (Elt Ideal) a.view (Rect.unit (s := S8x4096) ![0, cc] S8x128.size h).toLoadRect X

/-- The trip's rows of a row scratch, in groups of eight. -/
def tRow (a : Memref sig .tc .vmem S256x128 .f32) (X : BufTy.Contents (Elt Ideal) a.view.ty)
    (h : ∀ x, k0_off3 k x + S32x128.size x ≤ S256x128.size x) : FVec Ideal S4x8x128 .f32 :=
  k0_pay5 (F := Ideal) (View.readAt (Elt Ideal) a.view (Rect.unit (s := S256x128) (k0_off3 k) S32x128.size h).toLoadRect X)

/-- The trip's scales, times nine. -/
def tS (h : ∀ x, k0_off4 k x + S1x32x32.size x ≤ S1x256x32.size x) : FVec Ideal S32x32 .f32 :=
  k0_pay7 (F := Ideal) (View.readAt (Elt Ideal) arg10.view (Rect.unit (s := S1x256x32) (k0_off4 k) S1x32x32.size h).toLoadRect X10)

/-- The box of a tile of scales lies in the block. -/
theorem ms_in (b : ℕ) (hb : b < 32) {os : Fin 3 → ℕ} (hos : os = ![0, 32 * k.val, b]) :
    ∀ x, os x + S1x32x1.size x ≤ S1x256x32.size x := by
  subst hos
  have := trips_eq
  have := k.isLt
  intro x
  match x with
  | 0 => show 0 + 1 ≤ 1; omega
  | 1 => show 32 * k.val + 32 ≤ 256; omega
  | 2 => show b + 1 ≤ 32; omega

theorem tRow_apply (h3 : ∀ x, k0_off3 k x + S32x128.size x ≤ S256x128.size x) (a : Memref sig .tc .vmem S256x128 .f32) (X : BufTy.Contents (Elt Ideal) a.view.ty)
    (r : Fin 4) (s : Fin 8) (l : Fin 128) :
    tRow k a X h3 (ix3 r s l) = a.view.read (Elt Ideal) X
      (ix2 ⟨32 * (k.cast trips_eq).val + (8 * r.val + s.val), by omega⟩ l) := by
  unfold tRow k0_pay5
  pointwise
  refine (ld2 (a.view.read (Elt Ideal) X) (k0_off3 k) _ _ (off3_eq k) h3 _ _ ?_ ?_).trans ?_
  all_goals first | (have := trips_eq; have := k.isLt; omega) | skip
  simp only [Nat.zero_add, Nat.mul_comm r.val 8]

theorem tS_apply (h4 : ∀ x, k0_off4 k x + S1x32x32.size x ≤ S1x256x32.size x) (r c : Fin 32) :
    tS arg10 X10 k h4 (ix2 r c) = arg10.view.read (Elt Ideal) X10
      (ix3 0 ⟨32 * (k.cast trips_eq).val + r.val, by omega⟩ c) * Ideal.ofBits .f32 0x41100000#32 := by
  unfold tS k0_pay7
  pointwise
  refine congrArg (· * Ideal.ofBits .f32 0x41100000#32) ?_
  refine (ld3 (arg10.view.read (Elt Ideal) X10) (k0_off4 k) _ _ (off4_eq k) h4 r c (by omega) ?_ ?_).trans ?_
  all_goals first | (have := trips_eq; have := k.isLt; omega) | skip
  simp only [Nat.zero_add]
  rfl

variable (j : Fin 16)

theorem tC_apply {oc : Fin 3 → ℕ} (hoc : oc = ![0, 32 * k.val, 128 * j.val])
    (ic : ∀ x, oc x + S1x32x128.size x ≤ S1x256x2048.size x) (a : Memref sig .tc .vmem S1x256x2048 .i8) (X : BufTy.Contents (Elt Ideal) a.view.ty)
    (r : Fin 32) (l : Fin 128) :
    tC a X oc ic (ix3 0 r l) = a.view.read (Elt Ideal) X (ix3 0 ⟨32 * (k.cast trips_eq).val + r.val, by omega⟩
      ⟨128 * j.val + l.val, by omega⟩) :=
  ld3 (a.view.read (Elt Ideal) X) oc _ _ hoc ic r l _ _ _

variable (p : Fin 2) (b cc : ℕ) (hb : b = j.val + 16 * p.val) (hcc : cc = 128 * b)
  {oc og : Fin 3 → ℕ} (hoc : oc = ![0, 32 * k.val, 128 * j.val]) (hog : og = ![0, 32 * k.val, cc])
  (ic : ∀ x, oc x + S1x32x128.size x ≤ S1x256x2048.size x) (ig : ∀ x, og x + S1x32x128.size x ≤ S1x256x4096.size x)
  (icol : ∀ x, (![0, cc] : Fin 2 → ℕ) x + S8x128.size x ≤ S8x4096.size x)
  (h3 : ∀ x, k0_off3 k x + S32x128.size x ≤ S256x128.size x) (h4 : ∀ x, k0_off4 k x + S1x32x32.size x ≤ S1x256x32.size x)

/-- The first moment's vector of one block of the trip. -/
def tM (hs : S32x32.Slices ![0, b] S32x1) : FVec Ideal S32x128 .f32 :=
  vM p b hs (tS arg10 X10 k h4) (tC arg9 X9 oc ic) (tG arg8 X8 og ig)

/-- The second moment's vector of one block of the trip. -/
def tV : FVec Ideal S32x128 .f32 :=
  vV p (tRow k arg18 X18 h3) (tC arg11 X11 oc ic) (tG arg8 X8 og ig) (tCol arg16 X16 cc icol)

include hog hcc hb in
theorem tG_apply (a : Memref sig .tc .vmem S1x256x4096 .bf16) (X : BufTy.Contents (Elt Ideal) a.view.ty)
    (r : Fin 32) (l : Fin 128) :
    tG a X og ig (ix3 0 r l) = a.view.read (Elt Ideal) X (ix3 0 ⟨32 * (k.cast trips_eq).val + r.val, by omega⟩
      ⟨128 * (j.val + 16 * p.val) + l.val, by omega⟩) := by
  subst hcc hb
  exact ld3 (a.view.read (Elt Ideal) X) og _ _ hog ig r l _ _ _

include hcc hb in
theorem tCol_apply (a : Memref sig .tc .vmem S8x4096 .f32) (X : BufTy.Contents (Elt Ideal) a.view.ty)
    (r : Fin 8) (l : Fin 128) :
    tCol a X cc icol (ix2 r l) = a.view.read (Elt Ideal) X (ix2 r ⟨128 * (j.val + 16 * p.val) + l.val, by omega⟩) := by
  subst hcc hb
  rw [show tCol a X _ icol (ix2 r l) = _ from
    ld2 (a.view.read (Elt Ideal) X) _ _ _ rfl icol r l (by omega) (by omega)]
  congr 2
  exact Fin.ext (Nat.zero_add _)

include hog hcc hb hoc in
theorem tM_apply (hs : S32x32.Slices ![0, b] S32x1) (r : Fin 32) (l : Fin 128) :
    tM arg8 arg9 arg10 X8 X9 X10 k p b ic ig h4 hs (ix2 r l) =
      bM (arg8.view.read (Elt Ideal) X8) (arg9.view.read (Elt Ideal) X9) (arg10.view.read (Elt Ideal) X10)
        ⟨32 * (k.cast trips_eq).val + r.val, by omega⟩ ⟨128 * (j.val + 16 * p.val) + l.val, by omega⟩ := by
  have hg := tG_apply k j p b cc hb hcc hog ig arg8 X8
  subst hb
  exact vM_eq _ _ _ (k.cast trips_eq) j p hs _ _ _ (tS_apply arg10 X10 k h4) (tC_apply k j hoc ic arg9 X9) hg r l

include hog hcc hb hoc in
theorem tV_apply (r : Fin 32) (l : Fin 128) :
    tV arg8 arg11 arg16 arg18 X8 X11 X16 X18 k p cc ic ig icol h3 (ix2 r l) =
      bV (arg8.view.read (Elt Ideal) X8) (arg11.view.read (Elt Ideal) X11) (arg16.view.read (Elt Ideal) X16)
        (arg18.view.read (Elt Ideal) X18)
        ⟨32 * (k.cast trips_eq).val + r.val, by omega⟩ ⟨128 * (j.val + 16 * p.val) + l.val, by omega⟩ :=
  vV_eq _ _ _ _ (k.cast trips_eq) j p _ _ _ _ (tRow_apply k h3 arg18 X18) (tC_apply k j hoc ic arg11 X11)
    (tG_apply k j p b cc hb hcc hog ig arg8 X8) (tCol_apply j p b cc hb hcc icol arg16 X16) r l

/-! ### One stored tile of each output -/

include hog hcc hb hoc in
/-- A tile of updates. -/
theorem dw_piece (tf : EReal) (h43 : ∀ a l, v43 (ix2 a l) = tf) (hs : S32x32.Slices ![0, b] S32x1)
    {pay : S1x32x128.Idx → EReal}
    (hp : pay = vDW (k0_pay2 v43) (k0_pay3 v43) (tM arg8 arg9 arg10 X8 X9 X10 k p b ic ig h4 hs)
      (tV arg8 arg11 arg16 arg18 X8 X11 X16 X18 k p cc ic ig icol h3) (tG arg7 X7 og ig)) (x : S1x32x128.Idx) :
    pay x = (fun y : S1x256x4096.Idx => bDW tf (arg7.view.read (Elt Ideal) X7) (arg8.view.read (Elt Ideal) X8)
      (arg9.view.read (Elt Ideal) X9) (arg11.view.read (Elt Ideal) X11) (arg10.view.read (Elt Ideal) X10)
      (arg16.view.read (Elt Ideal) X16) (arg18.view.read (Elt Ideal) X18) (y 1) (y 2))
      ((Rect.unit (s := S1x256x4096) og S1x32x128.size ig).emb x) := by
  obtain ⟨r, l, rfl⟩ := idx3_ex x
  rw [hp, vDW_apply, pay2_apply tf v43 h43, pay3_apply tf v43 h43,
    tM_apply arg8 arg9 arg10 X8 X9 X10 k j p b cc hb hcc hoc hog,
    tV_apply arg8 arg11 arg16 arg18 X8 X11 X16 X18 k j p b cc hb hcc hoc hog,
    tG_apply k j p b cc hb hcc hog]
  subst hcc hb
  rw [emb3 og _ _ hog ig r l (by omega) (by have := trips_eq; omega) (by omega)]
  rfl

include hog hcc hb hoc in
/-- A tile of scales. -/
theorem ms_piece (hs : S32x32.Slices ![0, b] S32x1) {os : Fin 3 → ℕ} (hos : os = ![0, 32 * k.val, b])
    (is : ∀ x, os x + S1x32x1.size x ≤ S1x256x32.size x) {pay : S1x32x1.Idx → EReal}
    (hp : pay = k0_pay21 (tM arg8 arg9 arg10 X8 X9 X10 k p b ic ig h4 hs)) (x : S1x32x1.Idx) :
    pay x = (fun y : S1x256x32.Idx => bS (arg8.view.read (Elt Ideal) X8)
      (arg9.view.read (Elt Ideal) X9) (arg10.view.read (Elt Ideal) X10) (y 1) (y 2))
      ((Rect.unit (s := S1x256x32) os S1x32x1.size is).emb x) := by
  obtain ⟨r, l, rfl⟩ := idx3_ex x
  obtain rfl : l = 0 := Subsingleton.elim _ _
  rw [hp, pay21_apply, pay20_eq _ _ _ (k.cast trips_eq) j p _
    (tM_apply arg8 arg9 arg10 X8 X9 X10 k j p b cc hb hcc hoc hog ic ig h4 hs)]
  subst hcc hb
  rw [emb3 os _ _ hos is r 0 (by omega) (by have := trips_eq; omega) (by simp; omega)]
  rfl

variable (b' cc' : ℕ) (hb' : b' = j.val + 16) (hcc' : cc' = 128 * b') (hb0 : b = j.val)
  {og' : Fin 3 → ℕ} (hog' : og' = ![0, 32 * k.val, cc']) (ig' : ∀ x, og' x + S1x32x128.size x ≤ S1x256x4096.size x)
  (icol' : ∀ x, (![0, cc'] : Fin 2 → ℕ) x + S8x128.size x ≤ S8x4096.size x)

include hog hcc hoc hb' hcc' hb0 hog' in
/-- A tile of first moment codes. -/
theorem mc_piece (hs : S32x32.Slices ![0, b] S32x1) (hs' : S32x32.Slices ![0, b'] S32x1)
    {pay : S1x32x128.Idx → BitVec 8}
    (hp : pay = vPack 0xC0E0#16 0x40E0#16 (k0_pay22 (tM arg8 arg9 arg10 X8 X9 X10 k 0 b ic ig h4 hs))
      (k0_pay22 (tM arg8 arg9 arg10 X8 X9 X10 k 1 b' ic ig' h4 hs'))) (x : S1x32x128.Idx) :
    pay x = (fun y : S1x256x2048.Idx => bMC (arg8.view.read (Elt Ideal) X8) (arg9.view.read (Elt Ideal) X9)
      (arg10.view.read (Elt Ideal) X10) (y 1) (y 2))
      ((Rect.unit (s := S1x256x2048) oc S1x32x128.size ic).emb x) := by
  obtain ⟨r, l, rfl⟩ := idx3_ex x
  rw [hp, vPack_apply,
    pay22_eq _ _ _ (k.cast trips_eq) j 0 _
      (tM_apply arg8 arg9 arg10 X8 X9 X10 k j 0 b cc (by rw [hb0]; rfl) hcc hoc hog ic ig h4 hs),
    pay22_eq _ _ _ (k.cast trips_eq) j 1 _
      (tM_apply arg8 arg9 arg10 X8 X9 X10 k j 1 b' cc' (by rw [hb']; rfl) hcc' hoc hog' ic ig' h4 hs'),
    emb3 oc _ _ hoc ic r l (by omega) (by have := trips_eq; omega) (by omega)]
  have f0 : 128 * (j.val + 16 * (0 : Fin 2).val) + l.val = 128 * j.val + l.val := by simp
  have f1 : 128 * (j.val + 16 * (1 : Fin 2).val) + l.val = 128 * j.val + l.val + 2048 := by simp; omega
  simp only [f0, f1]
  rfl

include hog hcc hoc hb' hcc' hb0 hog' in
/-- A tile of second moment codes. -/
theorem vc_piece {pay : S1x32x128.Idx → BitVec 8}
    (hp : pay = vPack 0x0000#16 0x4170#16
      (k0_pay23 (tRow k arg19 X19 h3) (tV arg8 arg11 arg16 arg18 X8 X11 X16 X18 k 0 cc ic ig icol h3) (tCol arg17 X17 cc icol))
      (k0_pay23 (tRow k arg19 X19 h3) (tV arg8 arg11 arg16 arg18 X8 X11 X16 X18 k 1 cc' ic ig' icol' h3) (tCol arg17 X17 cc' icol')))
    (x : S1x32x128.Idx) :
    pay x = (fun y : S1x256x2048.Idx => bVC (arg8.view.read (Elt Ideal) X8) (arg11.view.read (Elt Ideal) X11)
      (arg16.view.read (Elt Ideal) X16) (arg17.view.read (Elt Ideal) X17) (arg18.view.read (Elt Ideal) X18)
      (arg19.view.read (Elt Ideal) X19) (y 1) (y 2))
      ((Rect.unit (s := S1x256x2048) oc S1x32x128.size ic).emb x) := by
  have e0 : b = j.val + 16 * (0 : Fin 2).val := by rw [hb0]; rfl
  have e1 : b' = j.val + 16 * (1 : Fin 2).val := by rw [hb']; rfl
  obtain ⟨r, l, rfl⟩ := idx3_ex x
  rw [hp, vPack_apply,
    pay23_eq _ _ _ _ _ _ (k.cast trips_eq) j 0 _ _ _ (tRow_apply k h3 arg19 X19)
      (tV_apply arg8 arg11 arg16 arg18 X8 X11 X16 X18 k j 0 b cc e0 hcc hoc hog ic ig icol h3)
      (tCol_apply j 0 b cc e0 hcc icol arg17 X17),
    pay23_eq _ _ _ _ _ _ (k.cast trips_eq) j 1 _ _ _ (tRow_apply k h3 arg19 X19)
      (tV_apply arg8 arg11 arg16 arg18 X8 X11 X16 X18 k j 1 b' cc' e1 hcc' hoc hog' ic ig' icol' h3)
      (tCol_apply j 1 b' cc' e1 hcc' icol' arg17 X17),
    emb3 oc _ _ hoc ic r l (by omega) (by have := trips_eq; omega) (by omega)]
  have f0 : 128 * (j.val + 16 * (0 : Fin 2).val) + l.val = 128 * j.val + l.val := by simp
  have f1 : 128 * (j.val + 16 * (1 : Fin 2).val) + l.val = 128 * j.val + l.val + 2048 := by simp; omega
  simp only [f0, f1]
  rfl

end Trip

end Cert.KernelIdeal.Value
-- ==== Proof.Trip.lean ====
module

public import proofs.«01_k».proof.Proof.Tiles

@[expose] public section

/-! Every tile a trip of the step kernel's loop stores is a tile of the elements of `Cells`. -/

set_option maxRecDepth 16384

noncomputable section

namespace Cert.KernelIdeal.Value
open Cert.KernelIdeal Cert.KernelIdeal.Gen
open Idealize.ShloMosaic Idealize.ShloMosaic.TcCoe
open Idealize.SL Idealize.SL.RA Idealize.SL.BI Idealize.SL.Sem

section Trip
variable (𝒱 : Variants) (c : Dev nD) (bd : Option 𝒱.V) (i : grid0.Coords) (arg2 : Memref sig .tc .smem S1 .i32) (harg2 : arg2.IsWhole) (arg3 : Memref sig .tc .vmem S2x14336 .f32) (harg3 : arg3.IsWhole) (arg4 : Memref sig .tc .vmem S2x4096 .f32) (harg4 : arg4.IsWhole) (arg5 : Memref sig .tc .vmem S2x14336 .f32) (harg5 : arg5.IsWhole) (arg6 : Memref sig .tc .vmem S2x4096 .f32) (harg6 : arg6.IsWhole) (arg7 : Memref sig .tc .vmem S1x256x4096 .bf16) (harg7 : arg7.IsWhole) (arg8 : Memref sig .tc .vmem S1x256x4096 .bf16) (harg8 : arg8.IsWhole) (arg9 : Memref sig .tc .vmem S1x256x2048 .i8) (harg9 : arg9.IsWhole) (arg10 : Memref sig .tc .vmem S1x256x32 .f32) (harg10 : arg10.IsWhole) (arg11 : Memref sig .tc .vmem S1x256x2048 .i8) (harg11 : arg11.IsWhole) (arg12 : Memref sig .tc .vmem S1x256x4096 .f32) (harg12 : arg12.IsWhole) (arg13 : Memref sig .tc .vmem S1x256x2048 .i8) (harg13 : arg13.IsWhole) (arg14 : Memref sig .tc .vmem S1x256x32 .f32) (harg14 : arg14.IsWhole) (arg15 : Memref sig .tc .vmem S1x256x2048 .i8) (harg15 : arg15.IsWhole) (arg16 : Memref sig .tc .vmem S8x4096 .f32) (harg16 : arg16.IsWhole) (arg17 : Memref sig .tc .vmem S8x4096 .f32) (harg17 : arg17.IsWhole) (arg18 : Memref sig .tc .vmem S256x128 .f32) (harg18 : arg18.IsWhole) (arg19 : Memref sig .tc .vmem S256x128 .f32) (harg19 : arg19.IsWhole) (v43 : FVec Ideal S8x128 .f32) (X_arg7 : BufTy.Contents (Elt Ideal) arg7.view.ty) (X_arg8 : BufTy.Contents (Elt Ideal) arg8.view.ty) (X_arg9 : BufTy.Contents (Elt Ideal) arg9.view.ty) (X_arg10 : BufTy.Contents (Elt Ideal) arg10.view.ty) (X_arg11 : BufTy.Contents (Elt Ideal) arg11.view.ty) (X_arg16 : BufTy.Contents (Elt Ideal) arg16.view.ty) (X_arg17 : BufTy.Contents (Elt Ideal) arg17.view.ty) (X_arg18 : BufTy.Contents (Elt Ideal) arg18.view.ty) (X_arg19 : BufTy.Contents (Elt Ideal) arg19.view.ty)

set_option maxHeartbeats 4000000 in
/-- Every tile one trip stores into output dw. -/
theorem trip_dw (tf : EReal) (h43 : ∀ a l, v43 (ix2 a l) = tf) (k : Fin k0_t1_loop.trips) :
    ∀ q ∈ (trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v43 X_arg7 X_arg8 X_arg9 X_arg10 X_arg11 X_arg16 X_arg17 X_arg18 X_arg19 k).1, ∀ x : q.1.shape.Idx, q.2 x =
      (fun y : S1x256x4096.Idx => bDW tf (arg7.view.read (Elt Ideal) X_arg7) (arg8.view.read (Elt Ideal) X_arg8) (arg9.view.read (Elt Ideal) X_arg9) (arg11.view.read (Elt Ideal) X_arg11) (arg10.view.read (Elt Ideal) X_arg10) (arg16.view.read (Elt Ideal) X_arg16) (arg18.view.read (Elt Ideal) X_arg18) (y 1) (y 2)) (q.1.emb x) := by
  unfold trip_k0_t1
  dsimp only
  refine List.forall_mem_cons.mpr ⟨dw_piece arg7 arg8 arg9 arg11 arg10 arg16 arg18 v43 X_arg7 X_arg8 X_arg9 X_arg10 X_arg11 X_arg16 X_arg18 k 15 1 31 3968 rfl rfl (off80_eq k) (off83_eq k) _ _ _ _ _ tf h43 _ rfl, ?_⟩
  refine List.forall_mem_cons.mpr ⟨dw_piece arg7 arg8 arg9 arg11 arg10 arg16 arg18 v43 X_arg7 X_arg8 X_arg9 X_arg10 X_arg11 X_arg16 X_arg18 k 15 0 15 1920 rfl rfl (off80_eq k) (off81_eq k) _ _ _ _ _ tf h43 _ rfl, ?_⟩
  refine List.forall_mem_cons.mpr ⟨dw_piece arg7 arg8 arg9 arg11 arg10 arg16 arg18 v43 X_arg7 X_arg8 X_arg9 X_arg10 X_arg11 X_arg16 X_arg18 k 14 1 30 3840 rfl rfl (off75_eq k) (off78_eq k) _ _ _ _ _ tf h43 _ rfl, ?_⟩
  refine List.forall_mem_cons.mpr ⟨dw_piece arg7 arg8 arg9 arg11 arg10 arg16 arg18 v43 X_arg7 X_arg8 X_arg9 X_arg10 X_arg11 X_arg16 X_arg18 k 14 0 14 1792 rfl rfl (off75_eq k) (off76_eq k) _ _ _ _ _ tf h43 _ rfl, ?_⟩
  refine List.forall_mem_cons.mpr ⟨dw_piece arg7 arg8 arg9 arg11 arg10 arg16 arg18 v43 X_arg7 X_arg8 X_arg9 X_arg10 X_arg11 X_arg16 X_arg18 k 13 1 29 3712 rfl rfl (off70_eq k) (off73_eq k) _ _ _ _ _ tf h43 _ rfl, ?_⟩
  refine List.forall_mem_cons.mpr ⟨dw_piece arg7 arg8 arg9 arg11 arg10 arg16 arg18 v43 X_arg7 X_arg8 X_arg9 X_arg10 X_arg11 X_arg16 X_arg18 k 13 0 13 1664 rfl rfl (off70_eq k) (off71_eq k) _ _ _ _ _ tf h43 _ rfl, ?_⟩
  refine List.forall_mem_cons.mpr ⟨dw_piece arg7 arg8 arg9 arg11 arg10 arg16 arg18 v43 X_arg7 X_arg8 X_arg9 X_arg10 X_arg11 X_arg16 X_arg18 k 12 1 28 3584 rfl rfl (off65_eq k) (off68_eq k) _ _ _ _ _ tf h43 _ rfl, ?_⟩
  refine List.forall_mem_cons.mpr ⟨dw_piece arg7 arg8 arg9 arg11 arg10 arg16 arg18 v43 X_arg7 X_arg8 X_arg9 X_arg10 X_arg11 X_arg16 X_arg18 k 12 0 12 1536 rfl rfl (off65_eq k) (off66_eq k) _ _ _ _ _ tf h43 _ rfl, ?_⟩
  refine List.forall_mem_cons.mpr ⟨dw_piece arg7 arg8 arg9 arg11 arg10 arg16 arg18 v43 X_arg7 X_arg8 X_arg9 X_arg10 X_arg11 X_arg16 X_arg18 k 11 1 27 3456 rfl rfl (off60_eq k) (off63_eq k) _ _ _ _ _ tf h43 _ rfl, ?_⟩
  refine List.forall_mem_cons.mpr ⟨dw_piece arg7 arg8 arg9 arg11 arg10 arg16 arg18 v43 X_arg7 X_arg8 X_arg9 X_arg10 X_arg11 X_arg16 X_arg18 k 11 0 11 1408 rfl rfl (off60_eq k) (off61_eq k) _ _ _ _ _ tf h43 _ rfl, ?_⟩
  refine List.forall_mem_cons.mpr ⟨dw_piece arg7 arg8 arg9 arg11 arg10 arg16 arg18 v43 X_arg7 X_arg8 X_arg9 X_arg10 X_arg11 X_arg16 X_arg18 k 10 1 26 3328 rfl rfl (off55_eq k) (off58_eq k) _ _ _ _ _ tf h43 _ rfl, ?_⟩
  refine List.forall_mem_cons.mpr ⟨dw_piece arg7 arg8 arg9 arg11 arg10 arg16 arg18 v43 X_arg7 X_arg8 X_arg9 X_arg10 X_arg11 X_arg16 X_arg18 k 10 0 10 1280 rfl rfl (off55_eq k) (off56_eq k) _ _ _ _ _ tf h43 _ rfl, ?_⟩
  refine List.forall_mem_cons.mpr ⟨dw_piece arg7 arg8 arg9 arg11 arg10 arg16 arg18 v43 X_arg7 X_arg8 X_arg9 X_arg10 X_arg11 X_arg16 X_arg18 k 9 1 25 3200 rfl rfl (off50_eq k) (off53_eq k) _ _ _ _ _ tf h43 _ rfl, ?_⟩
  refine List.forall_mem_cons.mpr ⟨dw_piece arg7 arg8 arg9 arg11 arg10 arg16 arg18 v43 X_arg7 X_arg8 X_arg9 X_arg10 X_arg11 X_arg16 X_arg18 k 9 0 9 1152 rfl rfl (off50_eq k) (off51_eq k) _ _ _ _ _ tf h43 _ rfl, ?_⟩
  refine List.forall_mem_cons.mpr ⟨dw_piece arg7 arg8 arg9 arg11 arg10 arg16 arg18 v43 X_arg7 X_arg8 X_arg9 X_arg10 X_arg11 X_arg16 X_arg18 k 8 1 24 3072 rfl rfl (off45_eq k) (off48_eq k) _ _ _ _ _ tf h43 _ rfl, ?_⟩
  refine List.forall_mem_cons.mpr ⟨dw_piece arg7 arg8 arg9 arg11 arg10 arg16 arg18 v43 X_arg7 X_arg8 X_arg9 X_arg10 X_arg11 X_arg16 X_arg18 k 8 0 8 1024 rfl rfl (off45_eq k) (off46_eq k) _ _ _ _ _ tf h43 _ rfl, ?_⟩
  refine List.forall_mem_cons.mpr ⟨dw_piece arg7 arg8 arg9 arg11 arg10 arg16 arg18 v43 X_arg7 X_arg8 X_arg9 X_arg10 X_arg11 X_arg16 X_arg18 k 7 1 23 2944 rfl rfl (off40_eq k) (off43_eq k) _ _ _ _ _ tf h43 _ rfl, ?_⟩
  refine List.forall_mem_cons.mpr ⟨dw_piece arg7 arg8 arg9 arg11 arg10 arg16 arg18 v43 X_arg7 X_arg8 X_arg9 X_arg10 X_arg11 X_arg16 X_arg18 k 7 0 7 896 rfl rfl (off40_eq k) (off41_eq k) _ _ _ _ _ tf h43 _ rfl, ?_⟩
  refine List.forall_mem_cons.mpr ⟨dw_piece arg7 arg8 arg9 arg11 arg10 arg16 arg18 v43 X_arg7 X_arg8 X_arg9 X_arg10 X_arg11 X_arg16 X_arg18 k 6 1 22 2816 rfl rfl (off35_eq k) (off38_eq k) _ _ _ _ _ tf h43 _ rfl, ?_⟩
  refine List.forall_mem_cons.mpr ⟨dw_piece arg7 arg8 arg9 arg11 arg10 arg16 arg18 v43 X_arg7 X_arg8 X_arg9 X_arg10 X_arg11 X_arg16 X_arg18 k 6 0 6 768 rfl rfl (off35_eq k) (off36_eq k) _ _ _ _ _ tf h43 _ rfl, ?_⟩
  refine List.forall_mem_cons.mpr ⟨dw_piece arg7 arg8 arg9 arg11 arg10 arg16 arg18 v43 X_arg7 X_arg8 X_arg9 X_arg10 X_arg11 X_arg16 X_arg18 k 5 1 21 2688 rfl rfl (off30_eq k) (off33_eq k) _ _ _ _ _ tf h43 _ rfl, ?_⟩
  refine List.forall_mem_cons.mpr ⟨dw_piece arg7 arg8 arg9 arg11 arg10 arg16 arg18 v43 X_arg7 X_arg8 X_arg9 X_arg10 X_arg11 X_arg16 X_arg18 k 5 0 5 640 rfl rfl (off30_eq k) (off31_eq k) _ _ _ _ _ tf h43 _ rfl, ?_⟩
  refine List.forall_mem_cons.mpr ⟨dw_piece arg7 arg8 arg9 arg11 arg10 arg16 arg18 v43 X_arg7 X_arg8 X_arg9 X_arg10 X_arg11 X_arg16 X_arg18 k 4 1 20 2560 rfl rfl (off25_eq k) (off28_eq k) _ _ _ _ _ tf h43 _ rfl, ?_⟩
  refine List.forall_mem_cons.mpr ⟨dw_piece arg7 arg8 arg9 arg11 arg10 arg16 arg18 v43 X_arg7 X_arg8 X_arg9 X_arg10 X_arg11 X_arg16 X_arg18 k 4 0 4 512 rfl rfl (off25_eq k) (off26_eq k) _ _ _ _ _ tf h43 _ rfl, ?_⟩
  refine List.forall_mem_cons.mpr ⟨dw_piece arg7 arg8 arg9 arg11 arg10 arg16 arg18 v43 X_arg7 X_arg8 X_arg9 X_arg10 X_arg11 X_arg16 X_arg18 k 3 1 19 2432 rfl rfl (off20_eq k) (off23_eq k) _ _ _ _ _ tf h43 _ rfl, ?_⟩
  refine List.forall_mem_cons.mpr ⟨dw_piece arg7 arg8 arg9 arg11 arg10 arg16 arg18 v43 X_arg7 X_arg8 X_arg9 X_arg10 X_arg11 X_arg16 X_arg18 k 3 0 3 384 rfl rfl (off20_eq k) (off21_eq k) _ _ _ _ _ tf h43 _ rfl, ?_⟩
  refine List.forall_mem_cons.mpr ⟨dw_piece arg7 arg8 arg9 arg11 arg10 arg16 arg18 v43 X_arg7 X_arg8 X_arg9 X_arg10 X_arg11 X_arg16 X_arg18 k 2 1 18 2304 rfl rfl (off15_eq k) (off18_eq k) _ _ _ _ _ tf h43 _ rfl, ?_⟩
  refine List.forall_mem_cons.mpr ⟨dw_piece arg7 arg8 arg9 arg11 arg10 arg16 arg18 v43 X_arg7 X_arg8 X_arg9 X_arg10 X_arg11 X_arg16 X_arg18 k 2 0 2 256 rfl rfl (off15_eq k) (off16_eq k) _ _ _ _ _ tf h43 _ rfl, ?_⟩
  refine List.forall_mem_cons.mpr ⟨dw_piece arg7 arg8 arg9 arg11 arg10 arg16 arg18 v43 X_arg7 X_arg8 X_arg9 X_arg10 X_arg11 X_arg16 X_arg18 k 1 1 17 2176 rfl rfl (off10_eq k) (off13_eq k) _ _ _ _ _ tf h43 _ rfl, ?_⟩
  refine List.forall_mem_cons.mpr ⟨dw_piece arg7 arg8 arg9 arg11 arg10 arg16 arg18 v43 X_arg7 X_arg8 X_arg9 X_arg10 X_arg11 X_arg16 X_arg18 k 1 0 1 128 rfl rfl (off10_eq k) (off11_eq k) _ _ _ _ _ tf h43 _ rfl, ?_⟩
  refine List.forall_mem_cons.mpr ⟨dw_piece arg7 arg8 arg9 arg11 arg10 arg16 arg18 v43 X_arg7 X_arg8 X_arg9 X_arg10 X_arg11 X_arg16 X_arg18 k 0 1 16 2048 rfl rfl (off5_eq k) (off8_eq k) _ _ _ _ _ tf h43 _ rfl, ?_⟩
  refine List.forall_mem_cons.mpr ⟨dw_piece arg7 arg8 arg9 arg11 arg10 arg16 arg18 v43 X_arg7 X_arg8 X_arg9 X_arg10 X_arg11 X_arg16 X_arg18 k 0 0 0 0 rfl rfl (off5_eq k) (off6_eq k) _ _ _ _ _ tf h43 _ rfl, ?_⟩
  exact fun q hq => absurd hq List.not_mem_nil

set_option maxHeartbeats 4000000 in
/-- Every tile one trip stores into output mc. -/
theorem trip_mc (k : Fin k0_t1_loop.trips) :
    ∀ q ∈ (trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v43 X_arg7 X_arg8 X_arg9 X_arg10 X_arg11 X_arg16 X_arg17 X_arg18 X_arg19 k).2.1, ∀ x : q.1.shape.Idx, q.2 x =
      (fun y : S1x256x2048.Idx => bMC (arg8.view.read (Elt Ideal) X_arg8) (arg9.view.read (Elt Ideal) X_arg9) (arg10.view.read (Elt Ideal) X_arg10) (y 1) (y 2)) (q.1.emb x) := by
  unfold trip_k0_t1
  dsimp only
  refine List.forall_mem_cons.mpr ⟨mc_piece arg8 arg9 arg10 X_arg8 X_arg9 X_arg10 k 15 15 1920 rfl (off80_eq k) (off81_eq k) _ _ _ 31 3968 rfl rfl rfl (off83_eq k) _ _ _ rfl, ?_⟩
  refine List.forall_mem_cons.mpr ⟨mc_piece arg8 arg9 arg10 X_arg8 X_arg9 X_arg10 k 14 14 1792 rfl (off75_eq k) (off76_eq k) _ _ _ 30 3840 rfl rfl rfl (off78_eq k) _ _ _ rfl, ?_⟩
  refine List.forall_mem_cons.mpr ⟨mc_piece arg8 arg9 arg10 X_arg8 X_arg9 X_arg10 k 13 13 1664 rfl (off70_eq k) (off71_eq k) _ _ _ 29 3712 rfl rfl rfl (off73_eq k) _ _ _ rfl, ?_⟩
  refine List.forall_mem_cons.mpr ⟨mc_piece arg8 arg9 arg10 X_arg8 X_arg9 X_arg10 k 12 12 1536 rfl (off65_eq k) (off66_eq k) _ _ _ 28 3584 rfl rfl rfl (off68_eq k) _ _ _ rfl, ?_⟩
  refine List.forall_mem_cons.mpr ⟨mc_piece arg8 arg9 arg10 X_arg8 X_arg9 X_arg10 k 11 11 1408 rfl (off60_eq k) (off61_eq k) _ _ _ 27 3456 rfl rfl rfl (off63_eq k) _ _ _ rfl, ?_⟩
  refine List.forall_mem_cons.mpr ⟨mc_piece arg8 arg9 arg10 X_arg8 X_arg9 X_arg10 k 10 10 1280 rfl (off55_eq k) (off56_eq k) _ _ _ 26 3328 rfl rfl rfl (off58_eq k) _ _ _ rfl, ?_⟩
  refine List.forall_mem_cons.mpr ⟨mc_piece arg8 arg9 arg10 X_arg8 X_arg9 X_arg10 k 9 9 1152 rfl (off50_eq k) (off51_eq k) _ _ _ 25 3200 rfl rfl rfl (off53_eq k) _ _ _ rfl, ?_⟩
  refine List.forall_mem_cons.mpr ⟨mc_piece arg8 arg9 arg10 X_arg8 X_arg9 X_arg10 k 8 8 1024 rfl (off45_eq k) (off46_eq k) _ _ _ 24 3072 rfl rfl rfl (off48_eq k) _ _ _ rfl, ?_⟩
  refine List.forall_mem_cons.mpr ⟨mc_piece arg8 arg9 arg10 X_arg8 X_arg9 X_arg10 k 7 7 896 rfl (off40_eq k) (off41_eq k) _ _ _ 23 2944 rfl rfl rfl (off43_eq k) _ _ _ rfl, ?_⟩
  refine List.forall_mem_cons.mpr ⟨mc_piece arg8 arg9 arg10 X_arg8 X_arg9 X_arg10 k 6 6 768 rfl (off35_eq k) (off36_eq k) _ _ _ 22 2816 rfl rfl rfl (off38_eq k) _ _ _ rfl, ?_⟩
  refine List.forall_mem_cons.mpr ⟨mc_piece arg8 arg9 arg10 X_arg8 X_arg9 X_arg10 k 5 5 640 rfl (off30_eq k) (off31_eq k) _ _ _ 21 2688 rfl rfl rfl (off33_eq k) _ _ _ rfl, ?_⟩
  refine List.forall_mem_cons.mpr ⟨mc_piece arg8 arg9 arg10 X_arg8 X_arg9 X_arg10 k 4 4 512 rfl (off25_eq k) (off26_eq k) _ _ _ 20 2560 rfl rfl rfl (off28_eq k) _ _ _ rfl, ?_⟩
  refine List.forall_mem_cons.mpr ⟨mc_piece arg8 arg9 arg10 X_arg8 X_arg9 X_arg10 k 3 3 384 rfl (off20_eq k) (off21_eq k) _ _ _ 19 2432 rfl rfl rfl (off23_eq k) _ _ _ rfl, ?_⟩
  refine List.forall_mem_cons.mpr ⟨mc_piece arg8 arg9 arg10 X_arg8 X_arg9 X_arg10 k 2 2 256 rfl (off15_eq k) (off16_eq k) _ _ _ 18 2304 rfl rfl rfl (off18_eq k) _ _ _ rfl, ?_⟩
  refine List.forall_mem_cons.mpr ⟨mc_piece arg8 arg9 arg10 X_arg8 X_arg9 X_arg10 k 1 1 128 rfl (off10_eq k) (off11_eq k) _ _ _ 17 2176 rfl rfl rfl (off13_eq k) _ _ _ rfl, ?_⟩
  refine List.forall_mem_cons.mpr ⟨mc_piece arg8 arg9 arg10 X_arg8 X_arg9 X_arg10 k 0 0 0 rfl (off5_eq k) (off6_eq k) _ _ _ 16 2048 rfl rfl rfl (off8_eq k) _ _ _ rfl, ?_⟩
  exact fun q hq => absurd hq List.not_mem_nil

set_option maxHeartbeats 4000000 in
/-- Every tile one trip stores into output ms. -/
theorem trip_ms (k : Fin k0_t1_loop.trips) :
    ∀ q ∈ (trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v43 X_arg7 X_arg8 X_arg9 X_arg10 X_arg11 X_arg16 X_arg17 X_arg18 X_arg19 k).2.2.1, ∀ x : q.1.shape.Idx, q.2 x =
      (fun y : S1x256x32.Idx => bS (arg8.view.read (Elt Ideal) X_arg8) (arg9.view.read (Elt Ideal) X_arg9) (arg10.view.read (Elt Ideal) X_arg10) (y 1) (y 2)) (q.1.emb x) := by
  unfold trip_k0_t1
  dsimp only
  refine List.forall_mem_cons.mpr ⟨ms_piece arg8 arg9 arg10 X_arg8 X_arg9 X_arg10 k 15 1 31 3968 rfl rfl (off80_eq k) (off83_eq k) _ _ _ _ (off84_eq k) (ms_in k 31 (by omega) (off84_eq k)) rfl, ?_⟩
  refine List.forall_mem_cons.mpr ⟨ms_piece arg8 arg9 arg10 X_arg8 X_arg9 X_arg10 k 15 0 15 1920 rfl rfl (off80_eq k) (off81_eq k) _ _ _ _ (off82_eq k) (ms_in k 15 (by omega) (off82_eq k)) rfl, ?_⟩
  refine List.forall_mem_cons.mpr ⟨ms_piece arg8 arg9 arg10 X_arg8 X_arg9 X_arg10 k 14 1 30 3840 rfl rfl (off75_eq k) (off78_eq k) _ _ _ _ (off79_eq k) (ms_in k 30 (by omega) (off79_eq k)) rfl, ?_⟩
  refine List.forall_mem_cons.mpr ⟨ms_piece arg8 arg9 arg10 X_arg8 X_arg9 X_arg10 k 14 0 14 1792 rfl rfl (off75_eq k) (off76_eq k) _ _ _ _ (off77_eq k) (ms_in k 14 (by omega) (off77_eq k)) rfl, ?_⟩
  refine List.forall_mem_cons.mpr ⟨ms_piece arg8 arg9 arg10 X_arg8 X_arg9 X_arg10 k 13 1 29 3712 rfl rfl (off70_eq k) (off73_eq k) _ _ _ _ (off74_eq k) (ms_in k 29 (by omega) (off74_eq k)) rfl, ?_⟩
  refine List.forall_mem_cons.mpr ⟨ms_piece arg8 arg9 arg10 X_arg8 X_arg9 X_arg10 k 13 0 13 1664 rfl rfl (off70_eq k) (off71_eq k) _ _ _ _ (off72_eq k) (ms_in k 13 (by omega) (off72_eq k)) rfl, ?_⟩
  refine List.forall_mem_cons.mpr ⟨ms_piece arg8 arg9 arg10 X_arg8 X_arg9 X_arg10 k 12 1 28 3584 rfl rfl (off65_eq k) (off68_eq k) _ _ _ _ (off69_eq k) (ms_in k 28 (by omega) (off69_eq k)) rfl, ?_⟩
  refine List.forall_mem_cons.mpr ⟨ms_piece arg8 arg9 arg10 X_arg8 X_arg9 X_arg10 k 12 0 12 1536 rfl rfl (off65_eq k) (off66_eq k) _ _ _ _ (off67_eq k) (ms_in k 12 (by omega) (off67_eq k)) rfl, ?_⟩
  refine List.forall_mem_cons.mpr ⟨ms_piece arg8 arg9 arg10 X_arg8 X_arg9 X_arg10 k 11 1 27 3456 rfl rfl (off60_eq k) (off63_eq k) _ _ _ _ (off64_eq k) (ms_in k 27 (by omega) (off64_eq k)) rfl, ?_⟩
  refine List.forall_mem_cons.mpr ⟨ms_piece arg8 arg9 arg10 X_arg8 X_arg9 X_arg10 k 11 0 11 1408 rfl rfl (off60_eq k) (off61_eq k) _ _ _ _ (off62_eq k) (ms_in k 11 (by omega) (off62_eq k)) rfl, ?_⟩
  refine List.forall_mem_cons.mpr ⟨ms_piece arg8 arg9 arg10 X_arg8 X_arg9 X_arg10 k 10 1 26 3328 rfl rfl (off55_eq k) (off58_eq k) _ _ _ _ (off59_eq k) (ms_in k 26 (by omega) (off59_eq k)) rfl, ?_⟩
  refine List.forall_mem_cons.mpr ⟨ms_piece arg8 arg9 arg10 X_arg8 X_arg9 X_arg10 k 10 0 10 1280 rfl rfl (off55_eq k) (off56_eq k) _ _ _ _ (off57_eq k) (ms_in k 10 (by omega) (off57_eq k)) rfl, ?_⟩
  refine List.forall_mem_cons.mpr ⟨ms_piece arg8 arg9 arg10 X_arg8 X_arg9 X_arg10 k 9 1 25 3200 rfl rfl (off50_eq k) (off53_eq k) _ _ _ _ (off54_eq k) (ms_in k 25 (by omega) (off54_eq k)) rfl, ?_⟩
  refine List.forall_mem_cons.mpr ⟨ms_piece arg8 arg9 arg10 X_arg8 X_arg9 X_arg10 k 9 0 9 1152 rfl rfl (off50_eq k) (off51_eq k) _ _ _ _ (off52_eq k) (ms_in k 9 (by omega) (off52_eq k)) rfl, ?_⟩
  refine List.forall_mem_cons.mpr ⟨ms_piece arg8 arg9 arg10 X_arg8 X_arg9 X_arg10 k 8 1 24 3072 rfl rfl (off45_eq k) (off48_eq k) _ _ _ _ (off49_eq k) (ms_in k 24 (by omega) (off49_eq k)) rfl, ?_⟩
  refine List.forall_mem_cons.mpr ⟨ms_piece arg8 arg9 arg10 X_arg8 X_arg9 X_arg10 k 8 0 8 1024 rfl rfl (off45_eq k) (off46_eq k) _ _ _ _ (off47_eq k) (ms_in k 8 (by omega) (off47_eq k)) rfl, ?_⟩
  refine List.forall_mem_cons.mpr ⟨ms_piece arg8 arg9 arg10 X_arg8 X_arg9 X_arg10 k 7 1 23 2944 rfl rfl (off40_eq k) (off43_eq k) _ _ _ _ (off44_eq k) (ms_in k 23 (by omega) (off44_eq k)) rfl, ?_⟩
  refine List.forall_mem_cons.mpr ⟨ms_piece arg8 arg9 arg10 X_arg8 X_arg9 X_arg10 k 7 0 7 896 rfl rfl (off40_eq k) (off41_eq k) _ _ _ _ (off42_eq k) (ms_in k 7 (by omega) (off42_eq k)) rfl, ?_⟩
  refine List.forall_mem_cons.mpr ⟨ms_piece arg8 arg9 arg10 X_arg8 X_arg9 X_arg10 k 6 1 22 2816 rfl rfl (off35_eq k) (off38_eq k) _ _ _ _ (off39_eq k) (ms_in k 22 (by omega) (off39_eq k)) rfl, ?_⟩
  refine List.forall_mem_cons.mpr ⟨ms_piece arg8 arg9 arg10 X_arg8 X_arg9 X_arg10 k 6 0 6 768 rfl rfl (off35_eq k) (off36_eq k) _ _ _ _ (off37_eq k) (ms_in k 6 (by omega) (off37_eq k)) rfl, ?_⟩
  refine List.forall_mem_cons.mpr ⟨ms_piece arg8 arg9 arg10 X_arg8 X_arg9 X_arg10 k 5 1 21 2688 rfl rfl (off30_eq k) (off33_eq k) _ _ _ _ (off34_eq k) (ms_in k 21 (by omega) (off34_eq k)) rfl, ?_⟩
  refine List.forall_mem_cons.mpr ⟨ms_piece arg8 arg9 arg10 X_arg8 X_arg9 X_arg10 k 5 0 5 640 rfl rfl (off30_eq k) (off31_eq k) _ _ _ _ (off32_eq k) (ms_in k 5 (by omega) (off32_eq k)) rfl, ?_⟩
  refine List.forall_mem_cons.mpr ⟨ms_piece arg8 arg9 arg10 X_arg8 X_arg9 X_arg10 k 4 1 20 2560 rfl rfl (off25_eq k) (off28_eq k) _ _ _ _ (off29_eq k) (ms_in k 20 (by omega) (off29_eq k)) rfl, ?_⟩
  refine List.forall_mem_cons.mpr ⟨ms_piece arg8 arg9 arg10 X_arg8 X_arg9 X_arg10 k 4 0 4 512 rfl rfl (off25_eq k) (off26_eq k) _ _ _ _ (off27_eq k) (ms_in k 4 (by omega) (off27_eq k)) rfl, ?_⟩
  refine List.forall_mem_cons.mpr ⟨ms_piece arg8 arg9 arg10 X_arg8 X_arg9 X_arg10 k 3 1 19 2432 rfl rfl (off20_eq k) (off23_eq k) _ _ _ _ (off24_eq k) (ms_in k 19 (by omega) (off24_eq k)) rfl, ?_⟩
  refine List.forall_mem_cons.mpr ⟨ms_piece arg8 arg9 arg10 X_arg8 X_arg9 X_arg10 k 3 0 3 384 rfl rfl (off20_eq k) (off21_eq k) _ _ _ _ (off22_eq k) (ms_in k 3 (by omega) (off22_eq k)) rfl, ?_⟩
  refine List.forall_mem_cons.mpr ⟨ms_piece arg8 arg9 arg10 X_arg8 X_arg9 X_arg10 k 2 1 18 2304 rfl rfl (off15_eq k) (off18_eq k) _ _ _ _ (off19_eq k) (ms_in k 18 (by omega) (off19_eq k)) rfl, ?_⟩
  refine List.forall_mem_cons.mpr ⟨ms_piece arg8 arg9 arg10 X_arg8 X_arg9 X_arg10 k 2 0 2 256 rfl rfl (off15_eq k) (off16_eq k) _ _ _ _ (off17_eq k) (ms_in k 2 (by omega) (off17_eq k)) rfl, ?_⟩
  refine List.forall_mem_cons.mpr ⟨ms_piece arg8 arg9 arg10 X_arg8 X_arg9 X_arg10 k 1 1 17 2176 rfl rfl (off10_eq k) (off13_eq k) _ _ _ _ (off14_eq k) (ms_in k 17 (by omega) (off14_eq k)) rfl, ?_⟩
  refine List.forall_mem_cons.mpr ⟨ms_piece arg8 arg9 arg10 X_arg8 X_arg9 X_arg10 k 1 0 1 128 rfl rfl (off10_eq k) (off11_eq k) _ _ _ _ (off12_eq k) (ms_in k 1 (by omega) (off12_eq k)) rfl, ?_⟩
  refine List.forall_mem_cons.mpr ⟨ms_piece arg8 arg9 arg10 X_arg8 X_arg9 X_arg10 k 0 1 16 2048 rfl rfl (off5_eq k) (off8_eq k) _ _ _ _ (off9_eq k) (ms_in k 16 (by omega) (off9_eq k)) rfl, ?_⟩
  refine List.forall_mem_cons.mpr ⟨ms_piece arg8 arg9 arg10 X_arg8 X_arg9 X_arg10 k 0 0 0 0 rfl rfl (off5_eq k) (off6_eq k) _ _ _ _ (off7_eq k) (ms_in k 0 (by omega) (off7_eq k)) rfl, ?_⟩
  exact fun q hq => absurd hq List.not_mem_nil

set_option maxHeartbeats 4000000 in
/-- Every tile one trip stores into output vc. -/
theorem trip_vc (k : Fin k0_t1_loop.trips) :
    ∀ q ∈ (trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v43 X_arg7 X_arg8 X_arg9 X_arg10 X_arg11 X_arg16 X_arg17 X_arg18 X_arg19 k).2.2.2.1, ∀ x : q.1.shape.Idx, q.2 x =
      (fun y : S1x256x2048.Idx => bVC (arg8.view.read (Elt Ideal) X_arg8) (arg11.view.read (Elt Ideal) X_arg11) (arg16.view.read (Elt Ideal) X_arg16) (arg17.view.read (Elt Ideal) X_arg17) (arg18.view.read (Elt Ideal) X_arg18) (arg19.view.read (Elt Ideal) X_arg19) (y 1) (y 2)) (q.1.emb x) := by
  unfold trip_k0_t1
  dsimp only
  refine List.forall_mem_cons.mpr ⟨vc_piece arg8 arg11 arg16 arg17 arg18 arg19 X_arg8 X_arg11 X_arg16 X_arg17 X_arg18 X_arg19 k 15 15 1920 rfl (off80_eq k) (off81_eq k) _ _ _ _ 31 3968 rfl rfl rfl (off83_eq k) _ _ rfl, ?_⟩
  refine List.forall_mem_cons.mpr ⟨vc_piece arg8 arg11 arg16 arg17 arg18 arg19 X_arg8 X_arg11 X_arg16 X_arg17 X_arg18 X_arg19 k 14 14 1792 rfl (off75_eq k) (off76_eq k) _ _ _ _ 30 3840 rfl rfl rfl (off78_eq k) _ _ rfl, ?_⟩
  refine List.forall_mem_cons.mpr ⟨vc_piece arg8 arg11 arg16 arg17 arg18 arg19 X_arg8 X_arg11 X_arg16 X_arg17 X_arg18 X_arg19 k 13 13 1664 rfl (off70_eq k) (off71_eq k) _ _ _ _ 29 3712 rfl rfl rfl (off73_eq k) _ _ rfl, ?_⟩
  refine List.forall_mem_cons.mpr ⟨vc_piece arg8 arg11 arg16 arg17 arg18 arg19 X_arg8 X_arg11 X_arg16 X_arg17 X_arg18 X_arg19 k 12 12 1536 rfl (off65_eq k) (off66_eq k) _ _ _ _ 28 3584 rfl rfl rfl (off68_eq k) _ _ rfl, ?_⟩
  refine List.forall_mem_cons.mpr ⟨vc_piece arg8 arg11 arg16 arg17 arg18 arg19 X_arg8 X_arg11 X_arg16 X_arg17 X_arg18 X_arg19 k 11 11 1408 rfl (off60_eq k) (off61_eq k) _ _ _ _ 27 3456 rfl rfl rfl (off63_eq k) _ _ rfl, ?_⟩
  refine List.forall_mem_cons.mpr ⟨vc_piece arg8 arg11 arg16 arg17 arg18 arg19 X_arg8 X_arg11 X_arg16 X_arg17 X_arg18 X_arg19 k 10 10 1280 rfl (off55_eq k) (off56_eq k) _ _ _ _ 26 3328 rfl rfl rfl (off58_eq k) _ _ rfl, ?_⟩
  refine List.forall_mem_cons.mpr ⟨vc_piece arg8 arg11 arg16 arg17 arg18 arg19 X_arg8 X_arg11 X_arg16 X_arg17 X_arg18 X_arg19 k 9 9 1152 rfl (off50_eq k) (off51_eq k) _ _ _ _ 25 3200 rfl rfl rfl (off53_eq k) _ _ rfl, ?_⟩
  refine List.forall_mem_cons.mpr ⟨vc_piece arg8 arg11 arg16 arg17 arg18 arg19 X_arg8 X_arg11 X_arg16 X_arg17 X_arg18 X_arg19 k 8 8 1024 rfl (off45_eq k) (off46_eq k) _ _ _ _ 24 3072 rfl rfl rfl (off48_eq k) _ _ rfl, ?_⟩
  refine List.forall_mem_cons.mpr ⟨vc_piece arg8 arg11 arg16 arg17 arg18 arg19 X_arg8 X_arg11 X_arg16 X_arg17 X_arg18 X_arg19 k 7 7 896 rfl (off40_eq k) (off41_eq k) _ _ _ _ 23 2944 rfl rfl rfl (off43_eq k) _ _ rfl, ?_⟩
  refine List.forall_mem_cons.mpr ⟨vc_piece arg8 arg11 arg16 arg17 arg18 arg19 X_arg8 X_arg11 X_arg16 X_arg17 X_arg18 X_arg19 k 6 6 768 rfl (off35_eq k) (off36_eq k) _ _ _ _ 22 2816 rfl rfl rfl (off38_eq k) _ _ rfl, ?_⟩
  refine List.forall_mem_cons.mpr ⟨vc_piece arg8 arg11 arg16 arg17 arg18 arg19 X_arg8 X_arg11 X_arg16 X_arg17 X_arg18 X_arg19 k 5 5 640 rfl (off30_eq k) (off31_eq k) _ _ _ _ 21 2688 rfl rfl rfl (off33_eq k) _ _ rfl, ?_⟩
  refine List.forall_mem_cons.mpr ⟨vc_piece arg8 arg11 arg16 arg17 arg18 arg19 X_arg8 X_arg11 X_arg16 X_arg17 X_arg18 X_arg19 k 4 4 512 rfl (off25_eq k) (off26_eq k) _ _ _ _ 20 2560 rfl rfl rfl (off28_eq k) _ _ rfl, ?_⟩
  refine List.forall_mem_cons.mpr ⟨vc_piece arg8 arg11 arg16 arg17 arg18 arg19 X_arg8 X_arg11 X_arg16 X_arg17 X_arg18 X_arg19 k 3 3 384 rfl (off20_eq k) (off21_eq k) _ _ _ _ 19 2432 rfl rfl rfl (off23_eq k) _ _ rfl, ?_⟩
  refine List.forall_mem_cons.mpr ⟨vc_piece arg8 arg11 arg16 arg17 arg18 arg19 X_arg8 X_arg11 X_arg16 X_arg17 X_arg18 X_arg19 k 2 2 256 rfl (off15_eq k) (off16_eq k) _ _ _ _ 18 2304 rfl rfl rfl (off18_eq k) _ _ rfl, ?_⟩
  refine List.forall_mem_cons.mpr ⟨vc_piece arg8 arg11 arg16 arg17 arg18 arg19 X_arg8 X_arg11 X_arg16 X_arg17 X_arg18 X_arg19 k 1 1 128 rfl (off10_eq k) (off11_eq k) _ _ _ _ 17 2176 rfl rfl rfl (off13_eq k) _ _ rfl, ?_⟩
  refine List.forall_mem_cons.mpr ⟨vc_piece arg8 arg11 arg16 arg17 arg18 arg19 X_arg8 X_arg11 X_arg16 X_arg17 X_arg18 X_arg19 k 0 0 0 rfl (off5_eq k) (off6_eq k) _ _ _ _ 16 2048 rfl rfl rfl (off8_eq k) _ _ rfl, ?_⟩
  exact fun q hq => absurd hq List.not_mem_nil

end Trip

end Cert.KernelIdeal.Value
-- ==== Proof.Loop.lean ====
module

public import proofs.«01_k».proof.Proof.Gen.KernelIdeal.Value
public import proofs.«01_k».proof.Proof.Trip

@[expose] public section

set_option maxRecDepth 16384

noncomputable section

namespace Cert.KernelIdeal.Value
open Cert.KernelIdeal Cert.KernelIdeal.Gen
open Idealize.ShloMosaic Idealize.ShloMosaic.TcCoe
open Idealize.SL Idealize.SL.RA Idealize.SL.BI Idealize.SL.Sem

section Loop

variable (𝒱 : Variants) (c : Dev nD) (bd : Option 𝒱.V) (i : grid0.Coords) (arg2 : Memref sig .tc .smem S1 .i32) (harg2 : arg2.IsWhole) (arg3 : Memref sig .tc .vmem S2x14336 .f32) (harg3 : arg3.IsWhole) (arg4 : Memref sig .tc .vmem S2x4096 .f32) (harg4 : arg4.IsWhole) (arg5 : Memref sig .tc .vmem S2x14336 .f32) (harg5 : arg5.IsWhole) (arg6 : Memref sig .tc .vmem S2x4096 .f32) (harg6 : arg6.IsWhole) (arg7 : Memref sig .tc .vmem S1x256x4096 .bf16) (harg7 : arg7.IsWhole) (arg8 : Memref sig .tc .vmem S1x256x4096 .bf16) (harg8 : arg8.IsWhole) (arg9 : Memref sig .tc .vmem S1x256x2048 .i8) (harg9 : arg9.IsWhole) (arg10 : Memref sig .tc .vmem S1x256x32 .f32) (harg10 : arg10.IsWhole) (arg11 : Memref sig .tc .vmem S1x256x2048 .i8) (harg11 : arg11.IsWhole) (arg12 : Memref sig .tc .vmem S1x256x4096 .f32) (harg12 : arg12.IsWhole) (arg13 : Memref sig .tc .vmem S1x256x2048 .i8) (harg13 : arg13.IsWhole) (arg14 : Memref sig .tc .vmem S1x256x32 .f32) (harg14 : arg14.IsWhole) (arg15 : Memref sig .tc .vmem S1x256x2048 .i8) (harg15 : arg15.IsWhole) (arg16 : Memref sig .tc .vmem S8x4096 .f32) (harg16 : arg16.IsWhole) (arg17 : Memref sig .tc .vmem S8x4096 .f32) (harg17 : arg17.IsWhole) (arg18 : Memref sig .tc .vmem S256x128 .f32) (harg18 : arg18.IsWhole) (arg19 : Memref sig .tc .vmem S256x128 .f32) (harg19 : arg19.IsWhole) (v43 : FVec Ideal S8x128 .f32) (X_arg7 : BufTy.Contents (Elt Ideal) arg7.view.ty) (X_arg8 : BufTy.Contents (Elt Ideal) arg8.view.ty) (X_arg9 : BufTy.Contents (Elt Ideal) arg9.view.ty) (X_arg10 : BufTy.Contents (Elt Ideal) arg10.view.ty) (X_arg11 : BufTy.Contents (Elt Ideal) arg11.view.ty) (X_arg16 : BufTy.Contents (Elt Ideal) arg16.view.ty) (X_arg17 : BufTy.Contents (Elt Ideal) arg17.view.ty) (X_arg18 : BufTy.Contents (Elt Ideal) arg18.view.ty) (X_arg19 : BufTy.Contents (Elt Ideal) arg19.view.ty)

/-- A property every trip gives the tiles it stores holds of all tiles stored so far. -/
theorem loop_all (P0 : View.Piece (Elt Ideal) S1x256x4096 .f32 → Prop) (P1 : View.Piece (Elt Ideal) S1x256x2048 .i8 → Prop) (P2 : View.Piece (Elt Ideal) S1x256x32 .f32 → Prop) (P3 : View.Piece (Elt Ideal) S1x256x2048 .i8 → Prop)
    (h0 : ∀ k, ∀ q ∈ (trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v43 X_arg7 X_arg8 X_arg9 X_arg10 X_arg11 X_arg16 X_arg17 X_arg18 X_arg19 k).1, P0 q)
    (h1 : ∀ k, ∀ q ∈ (trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v43 X_arg7 X_arg8 X_arg9 X_arg10 X_arg11 X_arg16 X_arg17 X_arg18 X_arg19 k).2.1, P1 q)
    (h2 : ∀ k, ∀ q ∈ (trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v43 X_arg7 X_arg8 X_arg9 X_arg10 X_arg11 X_arg16 X_arg17 X_arg18 X_arg19 k).2.2.1, P2 q)
    (h3 : ∀ k, ∀ q ∈ (trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v43 X_arg7 X_arg8 X_arg9 X_arg10 X_arg11 X_arg16 X_arg17 X_arg18 X_arg19 k).2.2.2.1, P3 q) (n : ℕ) (hn : n ≤ k0_t1_loop.trips) :
    (∀ q ∈ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v43 X_arg7 X_arg8 X_arg9 X_arg10 X_arg11 X_arg16 X_arg17 X_arg18 X_arg19 n).1, P0 q) ∧
    (∀ q ∈ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v43 X_arg7 X_arg8 X_arg9 X_arg10 X_arg11 X_arg16 X_arg17 X_arg18 X_arg19 n).2.1, P1 q) ∧
    (∀ q ∈ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v43 X_arg7 X_arg8 X_arg9 X_arg10 X_arg11 X_arg16 X_arg17 X_arg18 X_arg19 n).2.2.1, P2 q) ∧
    (∀ q ∈ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v43 X_arg7 X_arg8 X_arg9 X_arg10 X_arg11 X_arg16 X_arg17 X_arg18 X_arg19 n).2.2.2, P3 q) := by
  induction n with
  | zero => exact ⟨fun q hq => absurd hq List.not_mem_nil, fun q hq => absurd hq List.not_mem_nil,
      fun q hq => absurd hq List.not_mem_nil, fun q hq => absurd hq List.not_mem_nil⟩
  | succ n ih =>
    obtain ⟨i0, i1, i2, i3⟩ := ih (by omega)
    have e : pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v43 X_arg7 X_arg8 X_arg9 X_arg10 X_arg11 X_arg16 X_arg17 X_arg18 X_arg19 (n + 1) = _ := pb_k0_t1_succ 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v43 X_arg7 X_arg8 X_arg9 X_arg10 X_arg11 X_arg16 X_arg17 X_arg18 X_arg19 ⟨n, hn⟩
    rw [e]
    exact ⟨fun q hq => (List.mem_append.mp hq).elim (h0 _ q) (i0 q),
      fun q hq => (List.mem_append.mp hq).elim (h1 _ q) (i1 q),
      fun q hq => (List.mem_append.mp hq).elim (h2 _ q) (i2 q),
      fun q hq => (List.mem_append.mp hq).elim (h3 _ q) (i3 q)⟩

/-- What every tile stored by the whole loop holds. -/
theorem loop_cells (tf : EReal) (h43 : ∀ a l, v43 (ix2 a l) = tf) (n : ℕ) (hn : n ≤ k0_t1_loop.trips) :
    (∀ q ∈ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v43 X_arg7 X_arg8 X_arg9 X_arg10 X_arg11 X_arg16 X_arg17 X_arg18 X_arg19 n).1, ∀ x : q.1.shape.Idx, q.2 x =
      (fun y : S1x256x4096.Idx => bDW tf (arg7.view.read (Elt Ideal) X_arg7) (arg8.view.read (Elt Ideal) X_arg8) (arg9.view.read (Elt Ideal) X_arg9) (arg11.view.read (Elt Ideal) X_arg11) (arg10.view.read (Elt Ideal) X_arg10) (arg16.view.read (Elt Ideal) X_arg16) (arg18.view.read (Elt Ideal) X_arg18) (y 1) (y 2)) (q.1.emb x)) ∧
    (∀ q ∈ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v43 X_arg7 X_arg8 X_arg9 X_arg10 X_arg11 X_arg16 X_arg17 X_arg18 X_arg19 n).2.1, ∀ x : q.1.shape.Idx, q.2 x =
      (fun y : S1x256x2048.Idx => bMC (arg8.view.read (Elt Ideal) X_arg8) (arg9.view.read (Elt Ideal) X_arg9) (arg10.view.read (Elt Ideal) X_arg10) (y 1) (y 2)) (q.1.emb x)) ∧
    (∀ q ∈ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v43 X_arg7 X_arg8 X_arg9 X_arg10 X_arg11 X_arg16 X_arg17 X_arg18 X_arg19 n).2.2.1, ∀ x : q.1.shape.Idx, q.2 x =
      (fun y : S1x256x32.Idx => bS (arg8.view.read (Elt Ideal) X_arg8) (arg9.view.read (Elt Ideal) X_arg9) (arg10.view.read (Elt Ideal) X_arg10) (y 1) (y 2)) (q.1.emb x)) ∧
    (∀ q ∈ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v43 X_arg7 X_arg8 X_arg9 X_arg10 X_arg11 X_arg16 X_arg17 X_arg18 X_arg19 n).2.2.2, ∀ x : q.1.shape.Idx, q.2 x =
      (fun y : S1x256x2048.Idx => bVC (arg8.view.read (Elt Ideal) X_arg8) (arg11.view.read (Elt Ideal) X_arg11) (arg16.view.read (Elt Ideal) X_arg16) (arg17.view.read (Elt Ideal) X_arg17) (arg18.view.read (Elt Ideal) X_arg18) (arg19.view.read (Elt Ideal) X_arg19) (y 1) (y 2)) (q.1.emb x)) :=
  loop_all 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v43 X_arg7 X_arg8 X_arg9 X_arg10 X_arg11 X_arg16 X_arg17 X_arg18 X_arg19 _ _ _ _
    (trip_dw 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v43 X_arg7 X_arg8 X_arg9 X_arg10 X_arg11 X_arg16 X_arg17 X_arg18 X_arg19 tf h43) (trip_mc 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v43 X_arg7 X_arg8 X_arg9 X_arg10 X_arg11 X_arg16 X_arg17 X_arg18 X_arg19) (trip_ms 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v43 X_arg7 X_arg8 X_arg9 X_arg10 X_arg11 X_arg16 X_arg17 X_arg18 X_arg19) (trip_vc 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v43 X_arg7 X_arg8 X_arg9 X_arg10 X_arg11 X_arg16 X_arg17 X_arg18 X_arg19) n hn

end Loop

end Cert.KernelIdeal.Value
-- ==== Proof.Points.lean ====
module

public import proofs.«01_k».proof.Proof.Cells

@[expose] public section

/-! The row and column factors one grid point of the step kernel works with. -/

set_option maxRecDepth 16384

noncomputable section

namespace Cert.KernelIdeal.Value
open Cert.KernelIdeal Cert.KernelIdeal.Gen
open Idealize.ShloMosaic Idealize.ShloMosaic.TcCoe
open Idealize.SL Idealize.SL.RA Idealize.SL.BI Idealize.SL.Sem

theorem idx2_ex {n0 n1 : ℕ} (y : (⟨2, ![n0, n1]⟩ : Shape).Idx) : ∃ (r : Fin n0) (l : Fin n1), y = ix2 r l :=
  ⟨y 0, y 1, funext fun a => match a with | 0 => rfl | 1 => rfl⟩

/-- The step number as a float. -/
def tfOf (x : Vec Ideal S1 .i32) : EReal := FloatOps.sitofp (F := Ideal) .f32 (x (Shape.Idx.first (by decide)))

/-- The column factors of the second moment, for batch entry `b`. -/
def colB (b : Fin 2) (x : Vec Ideal S2x4096 .f32) : Vec Ideal S8x4096 .f32 := fun y =>
  x (ix2 b (y 1)) * Ideal.ofBits .f32 0x4279C000#32

/-- The inverse column factors of the new second moment, for batch entry `b`. -/
def colI (b : Fin 2) (x : Vec Ideal S2x4096 .f32) : Vec Ideal S8x4096 .f32 := fun y =>
  Ideal.div (Named.named (F := Ideal) (φ := .f32) κ "v_gain" 0x3C83126F#32)
    (max (x (ix2 b (y 1))) (Ideal.ofBits .f32 0x00800000#32))

/-- The row factors of the second moment, for batch entry `b` and row block `q`. -/
def rowB (b : Fin 2) (q : Fin 56) (x : Vec Ideal S2x14336 .f32) : Vec Ideal S256x128 .f32 := fun y =>
  x (ix2 b ⟨256 * q.val + (y 0).val, by have : (y 0).val < 256 := (y 0).isLt; omega⟩) * Ideal.ofBits .f32 0x4279C000#32

/-- The inverse row factors of the new second moment, for batch entry `b` and row block `q`. -/
def rowI (b : Fin 2) (q : Fin 56) (x : Vec Ideal S2x14336 .f32) : Vec Ideal S256x128 .f32 := fun y =>
  Ideal.div (Named.named (F := Ideal) (φ := .f32) κ "v_gain" 0x3C83126F#32)
    (max (x (ix2 b ⟨256 * q.val + (y 0).val, by have : (y 0).val < 256 := (y 0).isLt; omega⟩)) (Ideal.ofBits .f32 0x00800000#32))

theorem pay467_apply (v : BitVec 32) (a : Fin 8) (l : Fin 128) :
    k0_pay467 (F := Ideal) v (ix2 a l) = FloatOps.sitofp (F := Ideal) .f32 v := by
  unfold k0_pay467
  pointwise

theorem pay463_apply (v : Vec Ideal S1x4096 .f32) (a : Fin 8) (l : Fin 4096) :
    k0_pay463 (F := Ideal) v (ix2 a l) = v (ix2 0 l) * Ideal.ofBits .f32 0x4279C000#32 := by
  unfold k0_pay463
  pointwise

theorem pay464_apply (v : Vec Ideal S1x4096 .f32) (a : Fin 8) (l : Fin 4096) :
    k0_pay464 (F := Ideal) v (ix2 a l) = Ideal.div (Named.named (F := Ideal) (φ := .f32) κ "v_gain" 0x3C83126F#32)
      (max (v (ix2 0 l)) (Ideal.ofBits .f32 0x00800000#32)) := by
  unfold k0_pay464
  pointwise

theorem pay465_apply (v : Vec Ideal S1x256 .f32) (a : Fin 256) (l : Fin 128) :
    k0_pay465 (F := Ideal) v (ix2 a l) = v (ix2 0 a) * Ideal.ofBits .f32 0x4279C000#32 := by
  unfold k0_pay465
  pointwise
  split
  · rfl
  · have h : 128 + (a.val - 128) = a.val := by omega
    simp only [h]

theorem pay466_apply (v : Vec Ideal S1x256 .f32) (a : Fin 256) (l : Fin 128) :
    k0_pay466 (F := Ideal) v (ix2 a l) = Ideal.div (Named.named (F := Ideal) (φ := .f32) κ "v_gain" 0x3C83126F#32)
      (max (v (ix2 0 a)) (Ideal.ofBits .f32 0x00800000#32)) := by
  unfold k0_pay466
  pointwise
  split
  · rfl
  · have h : 128 + (a.val - 128) = a.val := by omega
    simp only [h]

/-- A store of a whole buffer leaves what was stored. -/
theorem read_store {S : Shape} {e : EltTy} {sp : Space} (a : Memref sig .tc sp S e) (f : BufTy.Contents (Elt Ideal) a.view.ty)
    {off : Fin S.rank → ℕ} (h : off = fun _ => 0) (inb : ∀ x, off x + S.size x ≤ S.size x) (w : Vec Ideal S e) :
    a.view.read (Elt Ideal) (a.view.writes (Elt Ideal) f [⟨Rect.unit off S.size inb, w⟩]) = w := by
  subst h
  funext x
  have hx := View.read_writes_cons_emb (v := a.view) (f := f) (Rect.whole S) w [] x
  rwa [Rect.emb_whole_apply] at hx

theorem zero2 : (![0, 0] : Fin 2 → ℕ) = fun _ => 0 := by decide

/-- A point at an index of the row and column factors. -/
theorem pay_col (b : Fin 2) (x : Vec Ideal S2x4096 .f32) {off : Fin 2 → ℕ} (ho : off = ![b.val, 0])
    (inb : ∀ y, off y + S1x4096.size y ≤ S2x4096.size y) :
    k0_pay463 (F := Ideal) (View.ld x (Rect.unit (s := S2x4096) off S1x4096.size inb)) = colB b x := by
  funext y
  obtain ⟨r, l, rfl⟩ := idx2_ex y
  rw [pay463_apply, ld2 x off _ _ ho inb 0 l (by have := b.isLt; simp; omega) (by omega)]
  simp only [Nat.zero_add]
  rfl

theorem pay_coli (b : Fin 2) (x : Vec Ideal S2x4096 .f32) {off : Fin 2 → ℕ} (ho : off = ![b.val, 0])
    (inb : ∀ y, off y + S1x4096.size y ≤ S2x4096.size y) :
    k0_pay464 (F := Ideal) (View.ld x (Rect.unit (s := S2x4096) off S1x4096.size inb)) = colI b x := by
  funext y
  obtain ⟨r, l, rfl⟩ := idx2_ex y
  rw [pay464_apply, ld2 x off _ _ ho inb 0 l (by have := b.isLt; simp; omega) (by omega)]
  simp only [Nat.zero_add]
  rfl

theorem pay_row (b : Fin 2) (q : Fin 56) (x : Vec Ideal S2x14336 .f32) {off : Fin 2 → ℕ} (ho : off = ![b.val, 256 * q.val])
    (inb : ∀ y, off y + S1x256.size y ≤ S2x14336.size y) :
    k0_pay465 (F := Ideal) (View.ld x (Rect.unit (s := S2x14336) off S1x256.size inb)) = rowB b q x := by
  funext y
  obtain ⟨r, l, rfl⟩ := idx2_ex y
  rw [pay465_apply, ld2 x off _ _ ho inb 0 r (by have := b.isLt; simp; omega) (by omega)]
  rfl

theorem pay_rowi (b : Fin 2) (q : Fin 56) (x : Vec Ideal S2x14336 .f32) {off : Fin 2 → ℕ} (ho : off = ![b.val, 256 * q.val])
    (inb : ∀ y, off y + S1x256.size y ≤ S2x14336.size y) :
    k0_pay466 (F := Ideal) (View.ld x (Rect.unit (s := S2x14336) off S1x256.size inb)) = rowI b q x := by
  funext y
  obtain ⟨r, l, rfl⟩ := idx2_ex y
  rw [pay466_apply, ld2 x off _ _ ho inb 0 r (by have := b.isLt; simp; omega) (by omega)]
  rfl

end Cert.KernelIdeal.Value
-- ==== Proof.Run.lean ====
module

public import proofs.«01_k».proof.Proof.Gen.KernelIdeal.Value
public import proofs.«01_k».proof.Proof.Loop
public import proofs.«01_k».proof.Proof.Points

@[expose] public section

/-! What one grid point leaves in each output block and in the column scratches. -/

set_option maxRecDepth 16384

noncomputable section

namespace Cert.KernelIdeal.Value
open Cert.KernelIdeal Cert.KernelIdeal.Gen
open Idealize.ShloMosaic Idealize.ShloMosaic.TcCoe
open Idealize.SL Idealize.SL.RA Idealize.SL.BI Idealize.SL.Sem

section A

variable (c : Dev nD) (i : grid0.Coords) (arg2 : Memref sig .tc .smem S1 .i32) (harg2 : arg2.IsWhole) (arg3 : Memref sig .tc .vmem S2x14336 .f32) (harg3 : arg3.IsWhole) (arg4 : Memref sig .tc .vmem S2x4096 .f32) (harg4 : arg4.IsWhole) (arg5 : Memref sig .tc .vmem S2x14336 .f32) (harg5 : arg5.IsWhole) (arg6 : Memref sig .tc .vmem S2x4096 .f32) (harg6 : arg6.IsWhole) (arg7 : Memref sig .tc .vmem S1x256x4096 .bf16) (harg7 : arg7.IsWhole) (arg8 : Memref sig .tc .vmem S1x256x4096 .bf16) (harg8 : arg8.IsWhole) (arg9 : Memref sig .tc .vmem S1x256x2048 .i8) (harg9 : arg9.IsWhole) (arg10 : Memref sig .tc .vmem S1x256x32 .f32) (harg10 : arg10.IsWhole) (arg11 : Memref sig .tc .vmem S1x256x2048 .i8) (harg11 : arg11.IsWhole) (arg12 : Memref sig .tc .vmem S1x256x4096 .f32) (harg12 : arg12.IsWhole) (arg13 : Memref sig .tc .vmem S1x256x2048 .i8) (harg13 : arg13.IsWhole) (arg14 : Memref sig .tc .vmem S1x256x32 .f32) (harg14 : arg14.IsWhole) (arg15 : Memref sig .tc .vmem S1x256x2048 .i8) (harg15 : arg15.IsWhole) (arg16 : Memref sig .tc .vmem S8x4096 .f32) (harg16 : arg16.IsWhole) (arg17 : Memref sig .tc .vmem S8x4096 .f32) (harg17 : arg17.IsWhole) (arg18 : Memref sig .tc .vmem S256x128 .f32) (harg18 : arg18.IsWhole) (arg19 : Memref sig .tc .vmem S256x128 .f32) (harg19 : arg19.IsWhole) (hc0 : cond0_0 i)
  (x0 : Vec Ideal S1 .i32) (x1 : Vec Ideal S2x14336 .f32) (x2 : Vec Ideal S2x4096 .f32) (x3 : Vec Ideal S2x14336 .f32) (x4 : Vec Ideal S2x4096 .f32) (x5 : Vec Ideal S1x256x4096 .bf16) (x6 : Vec Ideal S1x256x4096 .bf16) (x7 : Vec Ideal S1x256x2048 .i8) (x8 : Vec Ideal S1x256x32 .f32) (x9 : Vec Ideal S1x256x2048 .i8)

variable (b : Fin 2) (q : Fin 56) (ho1 : k0_off1 i = ![b.val, 0]) (ho2 : k0_off2 i = ![b.val, 256 * q.val])

include ho1 in
theorem scratch16_A (a : Memref sig .tc .vmem S8x4096 .f32) (f : BufTy.Contents (Elt Ideal) a.view.ty) :
    a.view.read (Elt Ideal) (a.view.writes (Elt Ideal) f (kernelRun0_A.sl.HS0_1 c i arg4 harg4 hc0 x2)) = colB b x2 := by
  sl_unfold_run_names
  refine (read_store a f zero2 _ _).trans ?_
  rw [View.readAt_eq_ld, harg4.read_unread]
  exact pay_col b _ ho1 _

include ho1 in
theorem scratch17_A (a : Memref sig .tc .vmem S8x4096 .f32) (f : BufTy.Contents (Elt Ideal) a.view.ty) :
    a.view.read (Elt Ideal) (a.view.writes (Elt Ideal) f (kernelRun0_A.sl.HS1_1 c i arg6 harg6 hc0 x4)) = colI b x4 := by
  sl_unfold_run_names
  refine (read_store a f zero2 _ _).trans ?_
  rw [View.readAt_eq_ld, harg6.read_unread]
  exact pay_coli b _ ho1 _

include ho2 in
theorem scratch18_A (a : Memref sig .tc .vmem S256x128 .f32) (f : BufTy.Contents (Elt Ideal) a.view.ty) :
    a.view.read (Elt Ideal) (a.view.writes (Elt Ideal) f (kernelRun0_A.sl.HS2_1 c i arg3 harg3 x1)) = rowB b q x1 := by
  sl_unfold_run_names
  refine (read_store a f zero2 _ _).trans ?_
  rw [View.readAt_eq_ld, harg3.read_unread]
  exact pay_row b q _ ho2 _

include ho2 in
theorem scratch19_A (a : Memref sig .tc .vmem S256x128 .f32) (f : BufTy.Contents (Elt Ideal) a.view.ty) :
    a.view.read (Elt Ideal) (a.view.writes (Elt Ideal) f (kernelRun0_A.sl.HS3_1 c i arg5 harg5 x3)) = rowI b q x3 := by
  sl_unfold_run_names
  refine (read_store a f zero2 _ _).trans ?_
  rw [View.readAt_eq_ld, harg5.read_unread]
  exact pay_rowi b q _ ho2 _

theorem step_A (a : Fin 8) (l : Fin 128) : kernelRun0_A.sl.r_1 (F := Ideal) c arg2 harg2 x0 (ix2 a l) = tfOf x0 := by
  sl_unfold_run_names
  rw [pay467_apply, View.readAt_eq_ld, harg2.read_unread, View.ld_unit_zero (by decide)]
  rfl

include ho1 ho2 in
set_option maxHeartbeats 1000000 in
/-- What every tile stored at this point holds. -/
theorem run_A :
    (∀ p ∈ (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9).1, ∀ x : p.1.shape.Idx, p.2 x =
      (fun y : S1x256x4096.Idx => bDW (tfOf x0) x5 x6 x7 x9 x8 (colB b x2) (rowB b q x1) (y 1) (y 2)) (p.1.emb x)) ∧
    (∀ p ∈ (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9).2.1, ∀ x : p.1.shape.Idx, p.2 x =
      (fun y : S1x256x2048.Idx => bMC x6 x7 x8 (y 1) (y 2)) (p.1.emb x)) ∧
    (∀ p ∈ (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9).2.2.1, ∀ x : p.1.shape.Idx, p.2 x =
      (fun y : S1x256x32.Idx => bS x6 x7 x8 (y 1) (y 2)) (p.1.emb x)) ∧
    (∀ p ∈ (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9).2.2.2.1, ∀ x : p.1.shape.Idx, p.2 x =
      (fun y : S1x256x2048.Idx => bVC x6 x9 (colB b x2) (colI b x4) (rowB b q x1) (rowI b q x3) (y 1) (y 2)) (p.1.emb x)) := by
  unfold kernelRun0_A
  have h := loop_cells Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
    _ (harg7.unread x5) (harg8.unread x6) (harg9.unread x7) (harg10.unread x8) (harg11.unread x9)
    (arg16.view.writes (Elt Ideal) arg16.view.junk (kernelRun0_A.sl.HS0_1 c i arg4 harg4 hc0 x2))
    (arg17.view.writes (Elt Ideal) arg17.view.junk (kernelRun0_A.sl.HS1_1 c i arg6 harg6 hc0 x4))
    (arg18.view.writes (Elt Ideal) arg18.view.junk (kernelRun0_A.sl.HS2_1 c i arg3 harg3 x1))
    (arg19.view.writes (Elt Ideal) arg19.view.junk (kernelRun0_A.sl.HS3_1 c i arg5 harg5 x3))
    (tfOf x0) (step_A c arg2 harg2 x0) k0_t1_loop.trips le_rfl
  simp only [harg7.read_unread, harg8.read_unread, harg9.read_unread, harg10.read_unread, harg11.read_unread,
    scratch16_A c i arg4 harg4 hc0 x2 b ho1, scratch17_A c i arg6 harg6 hc0 x4 b ho1,
    scratch18_A c i arg3 harg3 x1 b q ho2, scratch19_A c i arg5 harg5 x3 b q ho2] at h
  exact h

include ho1 ho2 in
theorem out10_A : out0_A_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 =
    (fun y : S1x256x4096.Idx => bDW (tfOf x0) x5 x6 x7 x9 x8 (colB b x2) (rowB b q x1) (y 1) (y 2)) := by
  unfold out0_A_10
  funext y
  exact View.read_writes_apply_of_pieces _ _ (fun y : S1x256x4096.Idx => bDW (tfOf x0) x5 x6 x7 x9 x8 (colB b x2) (rowB b q x1) (y 1) (y 2)) _ (run_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 b q ho1 ho2).1 y
    (cover0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 y)

include ho1 ho2 in
theorem out11_A : out0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 =
    (fun y : S1x256x2048.Idx => bMC x6 x7 x8 (y 1) (y 2)) := by
  unfold out0_A_11
  funext y
  exact View.read_writes_apply_of_pieces _ _ (fun y : S1x256x2048.Idx => bMC x6 x7 x8 (y 1) (y 2)) _ (run_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 b q ho1 ho2).2.1 y
    (cover0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 y)

include ho1 ho2 in
theorem out12_A : out0_A_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 =
    (fun y : S1x256x32.Idx => bS x6 x7 x8 (y 1) (y 2)) := by
  unfold out0_A_12
  funext y
  exact View.read_writes_apply_of_pieces _ _ (fun y : S1x256x32.Idx => bS x6 x7 x8 (y 1) (y 2)) _ (run_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 b q ho1 ho2).2.2.1 y
    (cover0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 y)

include ho1 ho2 in
theorem out13_A : out0_A_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 =
    (fun y : S1x256x2048.Idx => bVC x6 x9 (colB b x2) (colI b x4) (rowB b q x1) (rowI b q x3) (y 1) (y 2)) := by
  unfold out0_A_13
  funext y
  exact View.read_writes_apply_of_pieces _ _ (fun y : S1x256x2048.Idx => bVC x6 x9 (colB b x2) (colI b x4) (rowB b q x1) (rowI b q x3) (y 1) (y 2)) _ (run_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 b q ho1 ho2).2.2.2 y
    (cover0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 y)

include ho1 in
theorem sout0_A : sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 = colB b x2 := by
  unfold sout0_A_0
  exact scratch16_A c i arg4 harg4 hc0 x2 b ho1 _ _

include ho1 in
theorem sout1_A : sout0_A_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 = colI b x4 := by
  unfold sout0_A_1
  exact scratch17_A c i arg6 harg6 hc0 x4 b ho1 _ _

end A

section B

variable (c : Dev nD) (i : grid0.Coords) (arg2 : Memref sig .tc .smem S1 .i32) (harg2 : arg2.IsWhole) (arg3 : Memref sig .tc .vmem S2x14336 .f32) (harg3 : arg3.IsWhole) (arg4 : Memref sig .tc .vmem S2x4096 .f32) (harg4 : arg4.IsWhole) (arg5 : Memref sig .tc .vmem S2x14336 .f32) (harg5 : arg5.IsWhole) (arg6 : Memref sig .tc .vmem S2x4096 .f32) (harg6 : arg6.IsWhole) (arg7 : Memref sig .tc .vmem S1x256x4096 .bf16) (harg7 : arg7.IsWhole) (arg8 : Memref sig .tc .vmem S1x256x4096 .bf16) (harg8 : arg8.IsWhole) (arg9 : Memref sig .tc .vmem S1x256x2048 .i8) (harg9 : arg9.IsWhole) (arg10 : Memref sig .tc .vmem S1x256x32 .f32) (harg10 : arg10.IsWhole) (arg11 : Memref sig .tc .vmem S1x256x2048 .i8) (harg11 : arg11.IsWhole) (arg12 : Memref sig .tc .vmem S1x256x4096 .f32) (harg12 : arg12.IsWhole) (arg13 : Memref sig .tc .vmem S1x256x2048 .i8) (harg13 : arg13.IsWhole) (arg14 : Memref sig .tc .vmem S1x256x32 .f32) (harg14 : arg14.IsWhole) (arg15 : Memref sig .tc .vmem S1x256x2048 .i8) (harg15 : arg15.IsWhole) (arg16 : Memref sig .tc .vmem S8x4096 .f32) (harg16 : arg16.IsWhole) (arg17 : Memref sig .tc .vmem S8x4096 .f32) (harg17 : arg17.IsWhole) (arg18 : Memref sig .tc .vmem S256x128 .f32) (harg18 : arg18.IsWhole) (arg19 : Memref sig .tc .vmem S256x128 .f32) (harg19 : arg19.IsWhole) (hc0 : ¬cond0_0 i)
  (x0 : Vec Ideal S1 .i32) (x1 : Vec Ideal S2x14336 .f32) (x2 : Vec Ideal S2x4096 .f32) (x3 : Vec Ideal S2x14336 .f32) (x4 : Vec Ideal S2x4096 .f32) (x5 : Vec Ideal S1x256x4096 .bf16) (x6 : Vec Ideal S1x256x4096 .bf16) (x7 : Vec Ideal S1x256x2048 .i8) (x8 : Vec Ideal S1x256x32 .f32) (x9 : Vec Ideal S1x256x2048 .i8) (xs0 : Vec Ideal S8x4096 .f32) (xs1 : Vec Ideal S8x4096 .f32)

variable (b : Fin 2) (q : Fin 56) (ho1 : k0_off1 i = ![b.val, 0]) (ho2 : k0_off2 i = ![b.val, 256 * q.val])

include ho2 in
theorem scratch18_B (a : Memref sig .tc .vmem S256x128 .f32) (f : BufTy.Contents (Elt Ideal) a.view.ty) :
    a.view.read (Elt Ideal) (a.view.writes (Elt Ideal) f (kernelRun0_B.sl.HS2_1 c i arg3 harg3 x1)) = rowB b q x1 := by
  sl_unfold_run_names
  refine (read_store a f zero2 _ _).trans ?_
  rw [View.readAt_eq_ld, harg3.read_unread]
  exact pay_row b q _ ho2 _

include ho2 in
theorem scratch19_B (a : Memref sig .tc .vmem S256x128 .f32) (f : BufTy.Contents (Elt Ideal) a.view.ty) :
    a.view.read (Elt Ideal) (a.view.writes (Elt Ideal) f (kernelRun0_B.sl.HS3_1 c i arg5 harg5 x3)) = rowI b q x3 := by
  sl_unfold_run_names
  refine (read_store a f zero2 _ _).trans ?_
  rw [View.readAt_eq_ld, harg5.read_unread]
  exact pay_rowi b q _ ho2 _

theorem step_B (a : Fin 8) (l : Fin 128) : kernelRun0_B.sl.r_1 (F := Ideal) c arg2 harg2 x0 (ix2 a l) = tfOf x0 := by
  sl_unfold_run_names
  rw [pay467_apply, View.readAt_eq_ld, harg2.read_unread, View.ld_unit_zero (by decide)]
  rfl

include ho1 ho2 in
set_option maxHeartbeats 1000000 in
/-- What every tile stored at this point holds. -/
theorem run_B :
    (∀ p ∈ (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xs0 xs1).1, ∀ x : p.1.shape.Idx, p.2 x =
      (fun y : S1x256x4096.Idx => bDW (tfOf x0) x5 x6 x7 x9 x8 xs0 (rowB b q x1) (y 1) (y 2)) (p.1.emb x)) ∧
    (∀ p ∈ (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xs0 xs1).2.1, ∀ x : p.1.shape.Idx, p.2 x =
      (fun y : S1x256x2048.Idx => bMC x6 x7 x8 (y 1) (y 2)) (p.1.emb x)) ∧
    (∀ p ∈ (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xs0 xs1).2.2.1, ∀ x : p.1.shape.Idx, p.2 x =
      (fun y : S1x256x32.Idx => bS x6 x7 x8 (y 1) (y 2)) (p.1.emb x)) ∧
    (∀ p ∈ (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xs0 xs1).2.2.2.1, ∀ x : p.1.shape.Idx, p.2 x =
      (fun y : S1x256x2048.Idx => bVC x6 x9 xs0 xs1 (rowB b q x1) (rowI b q x3) (y 1) (y 2)) (p.1.emb x)) := by
  unfold kernelRun0_B
  have h := loop_cells Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
    _ (harg7.unread x5) (harg8.unread x6) (harg9.unread x7) (harg10.unread x8) (harg11.unread x9)
    (harg16.unread xs0) (harg17.unread xs1)
    (arg18.view.writes (Elt Ideal) arg18.view.junk (kernelRun0_B.sl.HS2_1 c i arg3 harg3 x1))
    (arg19.view.writes (Elt Ideal) arg19.view.junk (kernelRun0_B.sl.HS3_1 c i arg5 harg5 x3))
    (tfOf x0) (step_B c arg2 harg2 x0) k0_t1_loop.trips le_rfl
  simp only [harg7.read_unread, harg8.read_unread, harg9.read_unread, harg10.read_unread, harg11.read_unread,
    harg16.read_unread, harg17.read_unread,
    scratch18_B c i arg3 harg3 x1 b q ho2, scratch19_B c i arg5 harg5 x3 b q ho2] at h
  exact h

include ho1 ho2 in
theorem out10_B : out0_B_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xs0 xs1 =
    (fun y : S1x256x4096.Idx => bDW (tfOf x0) x5 x6 x7 x9 x8 xs0 (rowB b q x1) (y 1) (y 2)) := by
  unfold out0_B_10
  funext y
  exact View.read_writes_apply_of_pieces _ _ (fun y : S1x256x4096.Idx => bDW (tfOf x0) x5 x6 x7 x9 x8 xs0 (rowB b q x1) (y 1) (y 2)) _ (run_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xs0 xs1 b q ho1 ho2).1 y
    (cover0_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xs0 xs1 y)

include ho1 ho2 in
theorem out11_B : out0_B_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xs0 xs1 =
    (fun y : S1x256x2048.Idx => bMC x6 x7 x8 (y 1) (y 2)) := by
  unfold out0_B_11
  funext y
  exact View.read_writes_apply_of_pieces _ _ (fun y : S1x256x2048.Idx => bMC x6 x7 x8 (y 1) (y 2)) _ (run_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xs0 xs1 b q ho1 ho2).2.1 y
    (cover0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xs0 xs1 y)

include ho1 ho2 in
theorem out12_B : out0_B_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xs0 xs1 =
    (fun y : S1x256x32.Idx => bS x6 x7 x8 (y 1) (y 2)) := by
  unfold out0_B_12
  funext y
  exact View.read_writes_apply_of_pieces _ _ (fun y : S1x256x32.Idx => bS x6 x7 x8 (y 1) (y 2)) _ (run_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xs0 xs1 b q ho1 ho2).2.2.1 y
    (cover0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xs0 xs1 y)

include ho1 ho2 in
theorem out13_B : out0_B_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xs0 xs1 =
    (fun y : S1x256x2048.Idx => bVC x6 x9 xs0 xs1 (rowB b q x1) (rowI b q x3) (y 1) (y 2)) := by
  unfold out0_B_13
  funext y
  exact View.read_writes_apply_of_pieces _ _ (fun y : S1x256x2048.Idx => bVC x6 x9 xs0 xs1 (rowB b q x1) (rowI b q x3) (y 1) (y 2)) _ (run_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xs0 xs1 b q ho1 ho2).2.2.2 y
    (cover0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xs0 xs1 y)

end B

end Cert.KernelIdeal.Value
-- ==== Proof.Whole.lean ====
module

public import proofs.«01_k».proof.Proof.Run

@[expose] public section

/-! The results of the step kernel, element by element, as functions of the whole argument arrays. -/

set_option maxRecDepth 16384

noncomputable section

namespace Cert.KernelIdeal.Value
open Cert.KernelIdeal Cert.KernelIdeal.Gen
open Idealize.ShloMosaic Idealize.ShloMosaic.TcCoe
open Idealize.SL Idealize.SL.RA Idealize.SL.BI Idealize.SL.Sem

section Whole
variable (tf : EReal) (vr : Vec Ideal S2x14336 .f32) (vc : Vec Ideal S2x4096 .f32) (rn : Vec Ideal S2x14336 .f32)
  (cn : Vec Ideal S2x4096 .f32) (w g : Vec Ideal S2x14336x4096 .bf16) (mc : Vec Ideal S2x14336x2048 .i8)
  (ms : Vec Ideal S2x14336x32 .f32) (vq : Vec Ideal S2x14336x2048 .i8)

/-- The new first moment, divided by `1 - β₁`. -/
def wM (b : Fin 2) (r : Fin 14336) (C : Fin 4096) : EReal :=
  ((nibS (mc (ix3 b r ⟨C % 2048, by omega⟩)) (C / 2048) : ℝ) : EReal) *
    (ms (ix3 b r ⟨C / 128, by omega⟩) * Ideal.ofBits .f32 0x41100000#32) + g (ix3 b r C)

/-- The new second moment, divided by `1 - β₂`. -/
def wV (b : Fin 2) (r : Fin 14336) (C : Fin 4096) : EReal :=
  (((nibU (vq (ix3 b r ⟨C % 2048, by omega⟩)) (C / 2048) : ℝ) : EReal) + Ideal.ofBits .bf16 0x3F80#16) *
    min (vr (ix2 b r) * Ideal.ofBits .f32 0x4279C000#32) (vc (ix2 b C) * Ideal.ofBits .f32 0x4279C000#32)
    + g (ix3 b r C) * g (ix3 b r C)

/-- The update. -/
def wDW (b : Fin 2) (r : Fin 14336) (C : Fin 4096) : EReal :=
  wM g mc ms b r C * Ideal.div (bGain tf) (Ideal.div 1 (Ideal.rsqrt (wV vr vc g vq b r C)) + bEps tf)
    + w (ix3 b r C) * Named.named (F := Ideal) (φ := .f32) κ "decay" 0x37FBA882#32

/-- The greatest magnitude of the first moment in a 128-column block. -/
def wA (b : Fin 2) (r : Fin 14336) (k : Fin 32) : EReal :=
  Finset.univ.fold max (Ideal.ofBits .f32 0xFF800000#32) (fun x : Fin 128 =>
    FloatOps.absf (F := Ideal) (φ := .f32) (wM g mc ms b r ⟨128 * k + x, by omega⟩))

/-- The block's new scale. -/
def wS (b : Fin 2) (r : Fin 14336) (k : Fin 32) : EReal :=
  if wA g mc ms b r k = 0 then 1 else wA g mc ms b r k * Named.named (F := Ideal) (φ := .f32) κ "inv70" 0x3C6A0EA1#32

/-- The rounded code of the first moment, before clipping. -/
def wQM (b : Fin 2) (r : Fin 14336) (C : Fin 4096) : EReal :=
  Ideal.liftRound Ideal.roundHalfEven (wM g mc ms b r C *
    Ideal.div (Ideal.ofBits FTy.f32 0x40E00000#32)
      (max (wA g mc ms b r ⟨C / 128, by omega⟩) (Ideal.ofBits FTy.f32 0x01E00000#32)))

/-- An inverse factor of the new second moment. -/
def vInv (x : EReal) : EReal :=
  Ideal.div (Named.named (F := Ideal) (φ := .f32) κ "v_gain" 0x3C83126F#32) (max x (Ideal.ofBits .f32 0x00800000#32))

/-- The rounded code of the second moment, before clipping. -/
def wQV (b : Fin 2) (r : Fin 14336) (C : Fin 4096) : EReal :=
  Ideal.liftRound Ideal.roundHalfEven (wV vr vc g vq b r C * max (vInv (rn (ix2 b r))) (vInv (cn (ix2 b C))) - 1)

/-- The byte of first moment codes. -/
def wMC (b : Fin 2) (r : Fin 14336) (C : Fin 2048) : BitVec 8 :=
  packByte (clipI 0xC0E0#16 0x40E0#16 (wQM g mc ms b r ⟨C, by omega⟩))
    (clipI 0xC0E0#16 0x40E0#16 (wQM g mc ms b r ⟨C + 2048, by omega⟩))

/-- The byte of second moment codes. -/
def wVC (b : Fin 2) (r : Fin 14336) (C : Fin 2048) : BitVec 8 :=
  packByte (clipI 0x0000#16 0x4170#16 (wQV vr vc rn cn g vq b r ⟨C, by omega⟩))
    (clipI 0x0000#16 0x4170#16 (wQV vr vc rn cn g vq b r ⟨C + 2048, by omega⟩))

/-! ### A block's elements are the arrays' -/

variable (xw xg : Vec Ideal S1x256x4096 .bf16) (xm xv : Vec Ideal S1x256x2048 .i8) (xs : Vec Ideal S1x256x32 .f32)
  (b : Fin 2) (q : Fin 56) (R : Fin 256) (r : Fin 14336) (hr : r.val = 256 * q.val + R.val)
  (hw : ∀ C, xw (ix3 0 R C) = w (ix3 b r C)) (hg : ∀ C, xg (ix3 0 R C) = g (ix3 b r C))
  (hm : ∀ C, xm (ix3 0 R C) = mc (ix3 b r C)) (hs : ∀ C, xs (ix3 0 R C) = ms (ix3 b r C))
  (hv : ∀ C, xv (ix3 0 R C) = vq (ix3 b r C))

include hg hm hs in
theorem bM_whole (C : Fin 4096) : bM xg xm xs R C = wM g mc ms b r C := by
  unfold bM wM; rw [hg, hm, hs]

include hr in
theorem rowB_whole (l : Fin 128) : rowB b q vr (ix2 R l) = vr (ix2 b r) * Ideal.ofBits .f32 0x4279C000#32 := by
  rw [show r = ⟨256 * q.val + R.val, by omega⟩ from Fin.ext hr]
  rfl

include hr in
theorem rowI_whole (l : Fin 128) : rowI b q rn (ix2 R l) = vInv (rn (ix2 b r)) := by
  rw [show r = ⟨256 * q.val + R.val, by omega⟩ from Fin.ext hr]
  rfl

include hr hg hv in
theorem bV_whole (C : Fin 4096) : bV xg xv (colB b vc) (rowB b q vr) R C = wV vr vc g vq b r C := by
  unfold bV wV; rw [hg, hv, rowB_whole vr b q R r hr]; rfl

include hr hw hg hm hs hv in
theorem bDW_whole (C : Fin 4096) :
    bDW tf xw xg xm xv xs (colB b vc) (rowB b q vr) R C = wDW tf vr vc w g mc ms vq b r C := by
  unfold bDW wDW
  rw [bM_whole g mc ms xg xm xs b R r hg hm hs, bV_whole vr vc g vq xg xv b q R r hr hg hv, hw]

include hg hm hs in
theorem bA_whole (k : Fin 32) : bA xg xm xs R k = wA g mc ms b r k := by
  unfold bA wA; simp only [bM_whole g mc ms xg xm xs b R r hg hm hs]

include hg hm hs in
theorem bS_whole (k : Fin 32) : bS xg xm xs R k = wS g mc ms b r k := by
  unfold bS wS; rw [bA_whole g mc ms xg xm xs b R r hg hm hs]

include hg hm hs in
theorem bMC_whole (C : Fin 2048) : bMC xg xm xs R C = wMC g mc ms b r C := by
  unfold bMC wMC bQM wQM
  rw [bM_whole g mc ms xg xm xs b R r hg hm hs, bM_whole g mc ms xg xm xs b R r hg hm hs,
    bA_whole g mc ms xg xm xs b R r hg hm hs, bA_whole g mc ms xg xm xs b R r hg hm hs]

include hr hg hv in
theorem bVC_whole (C : Fin 2048) :
    bVC xg xv (colB b vc) (colI b cn) (rowB b q vr) (rowI b q rn) R C = wVC vr vc rn cn g vq b r C := by
  unfold bVC wVC bQV wQV
  rw [bV_whole vr vc g vq xg xv b q R r hr hg hv, bV_whole vr vc g vq xg xv b q R r hr hg hv,
    rowI_whole rn b q R r hr, rowI_whole rn b q R r hr]
  rfl

end Whole

end Cert.KernelIdeal.Value
-- ==== Proof.Ref.lean ====
module

public import proofs.«01_k».proof.Proof.Cells
public import proofs.«01_k».proof.Proof.Lits
public import proofs.«01_k».proof.Proof.Gen.ReferenceIdeal.Read

@[expose] public section

/-! The reference's results, element by element, as functions of its arguments. -/

set_option maxRecDepth 16384

noncomputable section

namespace Cert.ReferenceIdeal.Read
open Cert.ReferenceIdeal Cert.ReferenceIdeal.Gen
open Idealize.ShloMosaic Idealize.ShloMosaic.TcCoe
open Cert.KernelIdeal.Value (nibU nibS packByte)

/-- The low four bits of a byte, as the reference reads them. -/
theorem low_code (x : BitVec 8) : IntOp.andi (BitVec.setWidth 32 x) 15#32 = BitVec.ofInt 32 (nibU x 0) := by
  revert x; decide

/-- The high four bits of a byte, as the reference reads them. -/
theorem high_code (x : BitVec 8) : IntOp.shrsi ArithUnit.host (BitVec.setWidth 32 x) 4#32 = BitVec.ofInt 32 (nibU x 1) := by
  revert x; decide

/-- Two codes packed into a byte, as the reference packs them. -/
theorem pack_eq (x y : BitVec 32) : BitVec.setWidth 8 (IntOp.ori (IntOp.andi x 15#32)
    (IntOp.shli ArithUnit.host (IntOp.andi y 15#32) 4#32)) = packByte x y := by
  unfold packByte
  simp [IntOp.ori, IntOp.andi, IntOp.shli]

theorem nibU_toInt (x : BitVec 8) (p : ℕ) : (BitVec.ofInt 32 (nibU x p)).toInt = nibU x p := by
  unfold nibU; split <;> (revert x; decide)

theorem nibS_toInt (x : BitVec 8) (p : ℕ) : (IntOp.subi (BitVec.ofInt 32 (nibU x p))
    (IntOp.muli 16#32 (BitVec.setWidth 32 (IntOp.cmpi CmpIPredicate.sge (BitVec.ofInt 32 (nibU x p)) 8#32)))).toInt = nibS x p := by
  unfold nibS nibU; split <;> (revert x; decide)

section
variable (g : Vec Ideal S2x14336x4096 .bf16) (mc : Vec Ideal S2x14336x2048 .i8)
  (ms : Vec Ideal S2x14336x32 .f32) (vq : Vec Ideal S2x14336x2048 .i8) (b : Fin 2) (r : Fin 14336)

theorem v7_at (C : Fin 4096) : val_main_v7 (F := Ideal) mc (ix3 b r C) =
    BitVec.ofInt 32 (nibU (mc (ix3 b r ⟨C % 2048, by omega⟩)) (C / 2048)) := by
  unfold val_main_v7
  pointwise [val_main_v4, val_main_v6, val_main_v2, val_main_v3, val_main_c, val_main_v5, val_main_c_0]
  split
  · rename_i h
    rw [low_code]
    simp only [Nat.mod_eq_of_lt h, Nat.div_eq_of_lt h]
  · rename_i h
    rw [high_code, show (C.val / 2048) = 1 by omega]
    simp only [show C.val % 2048 = C.val - 2048 by omega]

theorem v25_at (C : Fin 4096) : val_main_v25 (F := Ideal) vq (ix3 b r C) =
    BitVec.ofInt 32 (nibU (vq (ix3 b r ⟨C % 2048, by omega⟩)) (C / 2048)) := by
  unfold val_main_v25
  pointwise [val_main_v22, val_main_v24, val_main_v20, val_main_v21, val_main_c_3, val_main_v23, val_main_c_4]
  split
  · rename_i h
    rw [low_code]
    simp only [Nat.mod_eq_of_lt h, Nat.div_eq_of_lt h]
  · rename_i h
    rw [high_code, show (C.val / 2048) = 1 by omega]
    simp only [show C.val % 2048 = C.val - 2048 by omega]

/-- The first moment before the step. -/
theorem v19_at (C : Fin 4096) : val_main_v19 (F := Ideal) mc ms (ix3 b r C) =
    ((nibS (mc (ix3 b r ⟨C % 2048, by omega⟩)) (C / 2048) : ℝ) : EReal) * ms (ix3 b r ⟨C / 128, by omega⟩) := by
  unfold val_main_v19 val_main_v18 val_main_v17 val_main_v16 val_main_v15 val_main_v14 val_main_v13 val_main_v12
    val_main_v11 val_main_v10 val_main_v9 val_main_v8 val_main_c_1 val_main_c_2
  generalize hz : val_main_v7 (F := Ideal) mc = z
  pointwise []
  subst hz
  rw [v7_at, show ∀ n : BitVec 32, FloatOps.sitofp (F := Ideal) .f32 n = ((n.toInt : ℝ) : EReal) from fun _ => rfl, nibS_toInt]

/-- The new first moment. -/
def rM (C : Fin 4096) : EReal :=
  ((9 / 10 : ℝ) : EReal) * (((nibS (mc (ix3 b r ⟨C % 2048, by omega⟩)) (C / 2048) : ℝ) : EReal) * ms (ix3 b r ⟨C / 128, by omega⟩))
    + ((1 / 10 : ℝ) : EReal) * g (ix3 b r C)

theorem div_lit (p q : ℝ) (hq : q ≠ 0) : Ideal.div (p : EReal) (q : EReal) = ((p / q : ℝ) : EReal) := by
  rw [Ideal.div_coe hq, ← EReal.coe_mul]; congr 1; ring

theorem one_div_lit (q : ℝ) (hq : q ≠ 0) : Ideal.div 1 (q : EReal) = ((1 / q : ℝ) : EReal) := by
  rw [Ideal.div_coe hq, one_mul]

theorem v43_at (C : Fin 4096) : val_main_v43 (F := Ideal) g mc ms (ix3 b r C) = rM g mc ms b r C := by
  unfold val_main_v43 val_main_v42 val_main_v41 val_main_v40 val_main_v39 val_main_v38 val_main_v37 val_main_v1 val_main_cst_6
    val_main_cst_7 val_main_cst_8 val_main_cst_9
  generalize hz : val_main_v19 (F := Ideal) mc ms = z
  pointwise []
  subst hz
  rw [v19_at, Lits.f9, Lits.f10, div_lit _ _ (by norm_num), one_div_lit _ (by norm_num)]
  rfl

/-- The greatest magnitude of the new first moment in a block. -/
def rA (k : Fin 32) : EReal :=
  Finset.univ.fold max ⊥ (fun x : Fin 128 => max (rM g mc ms b r ⟨128 * k + x, by omega⟩) (-rM g mc ms b r ⟨128 * k + x, by omega⟩))

/-- The new scale of a block. -/
def rS (k : Fin 32) : EReal := if rA g mc ms b r k = 0 then 1 else Ideal.div (rA g mc ms b r k) ((7 : ℝ) : EReal)

theorem v75_at (k : Fin 32) (x : Fin 128) : val_main_v75 (F := Ideal) g mc ms (ix4 b r k x) =
    rM g mc ms b r ⟨128 * k + x, by omega⟩ := by
  unfold val_main_v75
  generalize hz : val_main_v43 (F := Ideal) g mc ms = z
  pointwise []
  subst hz
  rw [v43_at]
  exact congrArg _ (Fin.ext (by show k.val * 128 + x.val = 128 * k.val + x.val; omega))

theorem v77_at (k : Fin 32) : val_main_v77 (F := Ideal) g mc ms (ix3 b r k) = rA g mc ms b r k := by
  unfold val_main_v77 val_main_v76
  generalize hz : val_main_v75 (F := Ideal) g mc ms = z
  pointwise [val_main_cst_26]
  subst hz
  simp only [v75_at, Lits.f_bot]
  rfl

theorem where_at (a y : EReal) : Scalar.select (FloatOps.cmpf (F := Ideal) (φ := .f32) .oeq a 0) (1 : EReal) y =
    if a = 0 then 1 else y := by
  rw [show FloatOps.cmpf (F := Ideal) (φ := .f32) .oeq a (0 : EReal) = Ideal.cmp .oeq a 0 from rfl]
  pointwise []

theorem v82_at (k : Fin 32) : val_main_v82 (F := Ideal) g mc ms (ix3 b r k) = rS g mc ms b r k := by
  have e0 : val_main_v78 (F := Ideal) (ix3 b r k) = (0 : EReal) := by
    rw [val_main_v78_apply, val_main_cst_27_apply]; exact Lits.f0
  have e7 : val_main_v80 (F := Ideal) (ix3 b r k) = ((7 : ℝ) : EReal) := by
    rw [val_main_v80_apply, val_main_cst_28_apply]; exact Lits.f7
  have e1 : val_main_call0_v1 (F := Ideal) (ix3 b r k) = (1 : EReal) := by
    rw [val_main_call0_v1_apply, val_main_call0_v0_apply, val_main_cst_29_apply]; exact Lits.f1
  rw [val_main_v82_apply, val_main_v79_apply, val_main_v81_apply, v77_at, e0, e7, e1, Ideal.hostDivf_def, where_at]
  rfl

/-- The code of a first moment. -/
def rQM (C : Fin 4096) : BitVec 32 :=
  Ideal.fptosi 32 (min ((7 : ℝ) : EReal) (max ((-7 : ℝ) : EReal)
    (Ideal.liftRound Ideal.roundHalfEven (Ideal.div (rM g mc ms b r C) (rS g mc ms b r ⟨C / 128, by omega⟩)))))

theorem v84_at (k : Fin 32) (x : Fin 128) : val_main_v84 (F := Ideal) g mc ms (ix4 b r k x) = rS g mc ms b r k := by
  unfold val_main_v84 val_main_v83
  generalize hz : val_main_v82 (F := Ideal) g mc ms = z
  pointwise []
  subst hz
  rw [v82_at]

theorem v88_at (k : Fin 32) (x : Fin 128) (C : Fin 4096) (hC : 128 * k.val + x.val = C.val) :
    val_main_v88 (F := Ideal) g mc ms (ix4 b r k x) =
    Ideal.fptosi 32 (min ((7 : ℝ) : EReal) (max ((-7 : ℝ) : EReal)
      (Ideal.liftRound Ideal.roundHalfEven (Ideal.div (rM g mc ms b r C) (rS g mc ms b r k))))) := by
  have e7 : val_main_call2_v4 (F := Ideal) (ix4 b r k x) = ((7 : ℝ) : EReal) := by
    rw [val_main_call2_v4_apply, val_main_call2_v3_apply, val_main_cst_31_apply]; exact Lits.f7
  have em : val_main_call2_v1 (F := Ideal) (ix4 b r k x) = ((-7 : ℝ) : EReal) := by
    rw [val_main_call2_v1_apply, val_main_call2_v0_apply, val_main_cst_30_apply]; exact Lits.fm7
  have hM : rM g mc ms b r ⟨128 * k.val + x.val, by omega⟩ = rM g mc ms b r C := congrArg _ (Fin.ext hC)
  rw [val_main_v88_apply, val_main_v87_apply, val_main_call2_v2_apply, val_main_v86_apply, val_main_v85_apply, v75_at, v84_at, e7, em,
    hM, Ideal.hostUnary_roundeven_def, Ideal.hostDivf_def, Ideal.maximumf_def, Ideal.minimumf_def]
  rfl

theorem v89_at (C : Fin 4096) : val_main_v89 (F := Ideal) g mc ms (ix3 b r C) = rQM g mc ms b r C := by
  unfold val_main_v89
  generalize hz : val_main_v88 (F := Ideal) g mc ms = z
  pointwise []
  subst hz
  rw [v88_at g mc ms b r _ _ C (Nat.div_add_mod C.val 128)]
  rfl

/-- A byte of first moment codes. -/
def rMC (C : Fin 2048) : BitVec 8 :=
  packByte (rQM g mc ms b r ⟨C, by omega⟩) (rQM g mc ms b r ⟨C + 2048, by omega⟩)

theorem v110_at (C : Fin 2048) : val_main_v110 (F := Ideal) g mc ms (ix3 b r C) = rMC g mc ms b r C := by
  unfold val_main_v110 val_main_v109 val_main_v108 val_main_v107 val_main_v106 val_main_v105 val_main_v104 val_main_v103
    val_main_c_36 val_main_c_37
  generalize hz : val_main_v89 (F := Ideal) g mc ms = z
  pointwise []
  subst hz
  rw [v89_at, v89_at]
  unfold rMC
  rw [← pack_eq]
  simp only [Nat.add_comm]

end

section
variable (t : Vec Ideal S_ .i32) (vr : Vec Ideal S2x14336 .f32) (vc : Vec Ideal S2x4096 .f32) (rn : Vec Ideal S2x14336 .f32)
  (cn : Vec Ideal S2x4096 .f32) (w g : Vec Ideal S2x14336x4096 .bf16) (mc : Vec Ideal S2x14336x2048 .i8)
  (ms : Vec Ideal S2x14336x32 .f32) (vq : Vec Ideal S2x14336x2048 .i8) (b : Fin 2) (r : Fin 14336)

/-- The new second moment. -/
def rV (C : Fin 4096) : EReal :=
  ((999 / 1000 : ℝ) : EReal) * ((((nibU (vq (ix3 b r ⟨C % 2048, by omega⟩)) (C / 2048) : ℝ) : EReal) + 1) * ((1 / 16 : ℝ) : EReal)
    * min (vr (ix2 b r)) (vc (ix2 b C))) + ((1 / 1000 : ℝ) : EReal) * g (ix3 b r C) * g (ix3 b r C)

theorem v51_at (C : Fin 4096) : val_main_v51 (F := Ideal) vr vc g vq (ix3 b r C) = rV vr vc g vq b r C := by
  unfold val_main_v51 val_main_v50 val_main_v49 val_main_v48 val_main_v47 val_main_v46 val_main_v45 val_main_v44 val_main_v36
    val_main_v35 val_main_v34 val_main_v33 val_main_v32 val_main_v31 val_main_v30 val_main_v29 val_main_v28 val_main_v27
    val_main_v26 val_main_v1 val_main_cst val_main_cst_5 val_main_cst_10 val_main_cst_11 val_main_cst_12 val_main_cst_13
  generalize hz : val_main_v25 (F := Ideal) vq = z
  pointwise []
  subst hz
  rw [v25_at, show ∀ n : BitVec 32, FloatOps.sitofp (F := Ideal) .f32 n = ((n.toInt : ℝ) : EReal) from fun _ => rfl, nibU_toInt,
    Lits.f999, Lits.f1000, Lits.f_sixteenth, div_lit _ _ (by norm_num), one_div_lit _ (by norm_num)]
  rfl

/-- `1 - β ^ t`. -/
def rBc (β : ℝ) (t : EReal) : EReal := 1 - Ideal.pow (β : EReal) t

/-- The update. -/
def rDW (C : Fin 4096) : EReal :=
  ((3 / 10000 : ℝ) : EReal) *
    (Ideal.div (Ideal.div (rM g mc ms b r C) (rBc (15099494 / 16777216) (FloatOps.sitofp (F := Ideal) .f32 (t ix0))))
        (Ideal.sqrt (Ideal.div (rV vr vc g vq b r C) (rBc (16760439 / 16777216) (FloatOps.sitofp (F := Ideal) .f32 (t ix0))))
          + ((1 / 100000000 : ℝ) : EReal))
      + ((1 / 10 : ℝ) : EReal) * w (ix3 b r C))

theorem v74_at (C : Fin 4096) : val_main_v74 (F := Ideal) t vr vc w g mc ms vq (ix3 b r C) = rDW t vr vc w g mc ms vq b r C := by
  unfold val_main_v74 val_main_v73 val_main_v72 val_main_v71 val_main_v70 val_main_v69 val_main_v68 val_main_v67 val_main_v66
    val_main_v65 val_main_v64 val_main_v63 val_main_v62 val_main_v61 val_main_v60 val_main_v59 val_main_v58 val_main_v57 val_main_v56
    val_main_v55 val_main_v54 val_main_v53 val_main_v52 val_main_v0 val_main_cst_14 val_main_cst_15 val_main_cst_16 val_main_cst_17
    val_main_cst_18 val_main_cst_19 val_main_cst_20 val_main_cst_21 val_main_cst_22 val_main_cst_23 val_main_cst_24 val_main_cst_25
  generalize hz : val_main_v43 (F := Ideal) g mc ms = z
  generalize hy : val_main_v51 (F := Ideal) vr vc g vq = y
  pointwise []
  subst hz hy
  rw [v43_at, v51_at, Lits.f3, Lits.f10000, Lits.f1e8, Lits.f10, Lits.f_beta1, Lits.f_beta2, Lits.f_scale,
    div_lit _ _ (by norm_num), one_div_lit _ (by norm_num), one_div_lit _ (by norm_num), ← EReal.coe_mul, ← EReal.coe_mul,
    mul_one_div, mul_one_div]
  rfl

/-- The code of a second moment. -/
def rQV (C : Fin 4096) : BitVec 32 :=
  Ideal.fptosi 32 (min ((15 : ℝ) : EReal) (max 0 (Ideal.liftRound Ideal.roundHalfEven
    (Ideal.div (((16 : ℝ) : EReal) * rV vr vc g vq b r C) (min (rn (ix2 b r)) (cn (ix2 b C))) - 1))))

theorem v97_at (C : Fin 4096) : val_main_v97 (F := Ideal) vr vc rn cn g vq (ix3 b r C) =
    Ideal.div (((16 : ℝ) : EReal) * rV vr vc g vq b r C) (min (rn (ix2 b r)) (cn (ix2 b C))) := by
  unfold val_main_v97 val_main_v96 val_main_v95 val_main_v94 val_main_v93 val_main_v92 val_main_v91 val_main_v90 val_main_cst_32
  generalize hy : val_main_v51 (F := Ideal) vr vc g vq = y
  pointwise []
  subst hy
  rw [v51_at, Lits.f16]

theorem v102_at (C : Fin 4096) : val_main_v102 (F := Ideal) vr vc rn cn g vq (ix3 b r C) = rQV vr vc rn cn g vq b r C := by
  have e15 : val_main_call4_v4 (F := Ideal) (ix3 b r C) = ((15 : ℝ) : EReal) := by
    rw [val_main_call4_v4_apply, val_main_call4_v3_apply, val_main_cst_35_apply]; exact Lits.f15
  have e0 : val_main_call4_v1 (F := Ideal) (ix3 b r C) = (0 : EReal) := by
    rw [val_main_call4_v1_apply, val_main_call4_v0_apply, val_main_cst_34_apply]; exact Lits.f0
  have e1 : val_main_v98 (F := Ideal) (ix3 b r C) = (1 : EReal) := by
    rw [val_main_v98_apply, val_main_cst_33_apply]; exact Lits.f1
  rw [val_main_v102_apply, val_main_v101_apply, val_main_call4_v2_apply, val_main_v100_apply, val_main_v99_apply, v97_at, e15, e0, e1,
    Ideal.hostUnary_roundeven_def, Ideal.subf_def, Ideal.maximumf_def, Ideal.minimumf_def]
  rfl

/-- A byte of second moment codes. -/
def rVC (C : Fin 2048) : BitVec 8 :=
  packByte (rQV vr vc rn cn g vq b r ⟨C, by omega⟩) (rQV vr vc rn cn g vq b r ⟨C + 2048, by omega⟩)

theorem v118_at (C : Fin 2048) : val_main_v118 (F := Ideal) vr vc rn cn g vq (ix3 b r C) = rVC vr vc rn cn g vq b r C := by
  unfold val_main_v118 val_main_v117 val_main_v116 val_main_v115 val_main_v114 val_main_v113 val_main_v112 val_main_v111
    val_main_c_38 val_main_c_39
  generalize hz : val_main_v102 (F := Ideal) vr vc rn cn g vq = z
  pointwise []
  subst hz
  rw [v102_at, v102_at]
  unfold rVC
  rw [← pack_eq]
  simp only [Nat.add_comm]

end

end Cert.ReferenceIdeal.Read
-- ==== Proof.Mask.lean ====
module

public import proofs.«01_k».proof.Proof.Ref
public import proofs.«01_k».proof.On_well_scaled

@[expose] public section

/-! Where the results are compared: what the mask says at an element. -/

set_option maxRecDepth 16384

noncomputable section

namespace Cert.On_well_scaled
open Idealize.ShloMosaic Idealize.ShloMosaic.TcCoe
open Cert.KernelIdeal.Value (nibU nibS)
open Cert.ReferenceIdeal.Read (val_main_v19 val_main_v36 v19_at v25_at nibU_toInt)

instance facts : Facts where
  bitsLt_bf16_f32 := by decide
  natLt_8_32 := by decide
  bcast_S_S2x14336x2048 := by decide
  concatenates_S2x14336x2048_S2x14336x2048_S2x14336x4096_d2 := by decide
  bcast_S_S2x14336x4096 := by decide
  natLt_1_32 := by decide
  shapeCasts_S2x14336x4096_S2x14336x32x128 := by decide
  bcast_S2x14336x32_S2x14336x32x1_0_1_2 := by decide
  bcast_S2x14336x32x1_S2x14336x32x128_0_1_2_3 := by decide
  shapeCasts_S2x14336x32x128_S2x14336x4096 := by decide
  bcast_S2x14336_S2x14336x1_0_1 := by decide
  bcast_S2x4096_S2x1x4096_0_2 := by decide
  bcast_S2x14336x1_S2x14336x4096_0_1_2 := by decide
  bcast_S2x1x4096_S2x14336x4096_0_1_2 := by decide
  reducesTo_S2x14336x32x128_S2x14336x32_d3 := by decide
  h_S_ := by decide
  bcast_S_S2x14336x32 := by decide
  slices_S2x14336x32_S2x14336x16_0_0_0 := by decide
  slices_S2x14336x32_S2x14336x16_0_0_16 := by decide
  bcast_S2x14336x16_S2x14336x16x1_0_1_2 := by decide
  bcast_S2x14336x16x1_S2x14336x16x128_0_1_2_3 := by decide
  shapeCasts_S2x14336x16x128_S2x14336x2048 := by decide
  slices_S2x14336x4096_S2x14336x2048_0_0_0 := by decide
  slices_S2x14336x4096_S2x14336x2048_0_0_2048 := by decide

open Facts

variable (t : Vec Ideal S_ .i32) (vr : Vec Ideal S2x14336 .f32) (vc : Vec Ideal S2x4096 .f32) (rn : Vec Ideal S2x14336 .f32)
  (cn : Vec Ideal S2x4096 .f32) (w g : Vec Ideal S2x14336x4096 .bf16) (mc : Vec Ideal S2x14336x2048 .i8)
  (ms : Vec Ideal S2x14336x32 .f32) (vq : Vec Ideal S2x14336x2048 .i8) (b : Fin 2) (r : Fin 14336)

/-- The new first moment, divided by `1 - β₁`, as an array. -/
def aM : FVec Ideal S2x14336x4096 .f32 :=
  addf (mulf (broadcastInDim S2x14336x4096 ![] bcast_S_S2x14336x4096 (constant S_ .f32 0x41100000#32)) (val_main_v19 (F := Ideal) mc ms))
    (extf .f32 g bitsLt_bf16_f32)

/-- The new second moment, divided by `1 - β₂`, as an array. -/
def aV : FVec Ideal S2x14336x4096 .f32 :=
  addf (mulf (broadcastInDim S2x14336x4096 ![] bcast_S_S2x14336x4096 (constant S_ .f32 0x4479C000#32)) (val_main_v36 (F := Ideal) vr vc vq))
    (mulf (extf .f32 g bitsLt_bf16_f32) (extf .f32 g bitsLt_bf16_f32))

/-- Each block's greatest magnitude, as an array. -/
def aA : FVec Ideal S2x14336x32 .f32 :=
  Host.reduce FloatOps.maximumf (Host.absf (shapeCast S2x14336x32x128 (aM g mc ms) shapeCasts_S2x14336x4096_S2x14336x32x128))
    (constant S_ .f32 0xFF800000#32) reducesTo_S2x14336x32x128_S2x14336x32_d3 h_S_

/-- The norm of each code, as an array. -/
def aN : FVec Ideal S2x14336x4096 .f32 :=
  minimumf (broadcastInDim S2x14336x4096 ![0, 1, 2] bcast_S2x14336x1_S2x14336x4096_0_1_2
      (broadcastInDim S2x14336x1 ![0, 1] bcast_S2x14336_S2x14336x1_0_1 rn))
    (broadcastInDim S2x14336x4096 ![0, 1, 2] bcast_S2x1x4096_S2x14336x4096_0_1_2
      (broadcastInDim S2x1x4096 ![0, 2] bcast_S2x4096_S2x1x4096_0_2 cn))

/-- Which blocks are compared. -/
def aB (a : FVec Ideal S2x14336x32 .f32) : IVec S2x14336x32 1 :=
  ori (cmpf .oeq a (broadcastInDim S2x14336x32 ![] bcast_S_S2x14336x32 (constant S_ .f32 0x00000000#32)))
    (cmpf .oge a (broadcastInDim S2x14336x32 ![] bcast_S_S2x14336x32 (constant S_ .f32 0x01E00000#32)))

/-- Which codes of second moments are compared. -/
def aC (v n : FVec Ideal S2x14336x4096 .f32) : IVec S2x14336x4096 1 :=
  ori (cmpf .oeq v (broadcastInDim S2x14336x4096 ![] bcast_S_S2x14336x4096 (constant S_ .f32 0x00000000#32)))
    (cmpf .oge n (broadcastInDim S2x14336x4096 ![] bcast_S_S2x14336x4096 (constant S_ .f32 0x00800000#32)))

/-- The mask's four parts. -/
theorem fn_eq : fn (F := Ideal) t vr vc rn cn w g mc ms vq =
    (andi (broadcastInDim S2x14336x4096 ![] bcast_S_S2x14336x4096 (cmpi .sge t (constantI S_ 32 1#32)))
        (cmpf .oge (aV vr vc g vq) (broadcastInDim S2x14336x4096 ![] bcast_S_S2x14336x4096 (constant S_ .f32 0x00000000#32))),
      shapeCast S2x14336x2048 (broadcastInDim S2x14336x16x128 ![0, 1, 2, 3] bcast_S2x14336x16x1_S2x14336x16x128_0_1_2_3
        (broadcastInDim S2x14336x16x1 ![0, 1, 2] bcast_S2x14336x16_S2x14336x16x1_0_1_2
          (andi (extractStridedSlice S2x14336x16 ![0, 0, 0] (aB (aA g mc ms)) slices_S2x14336x32_S2x14336x16_0_0_0)
            (extractStridedSlice S2x14336x16 ![0, 0, 16] (aB (aA g mc ms)) slices_S2x14336x32_S2x14336x16_0_0_16))))
        shapeCasts_S2x14336x16x128_S2x14336x2048,
      broadcastInDim S2x14336x32 ![] bcast_S_S2x14336x32 (constantI S_ 1 1#1),
      andi (extractStridedSlice S2x14336x2048 ![0, 0, 0] (aC (aV vr vc g vq) (aN rn cn)) slices_S2x14336x4096_S2x14336x2048_0_0_0)
        (extractStridedSlice S2x14336x2048 ![0, 0, 2048] (aC (aV vr vc g vq) (aN rn cn)) slices_S2x14336x4096_S2x14336x2048_0_0_2048)) :=
  rfl

/-- The new first moment, divided by `1 - β₁`. -/
def mM (C : Fin 4096) : EReal :=
  ((9 : ℝ) : EReal) * (((nibS (mc (ix3 b r ⟨C % 2048, by omega⟩)) (C / 2048) : ℝ) : EReal) * ms (ix3 b r ⟨C / 128, by omega⟩))
    + g (ix3 b r C)

theorem aM_at (C : Fin 4096) : aM g mc ms (ix3 b r C) = mM g mc ms b r C := by
  unfold aM
  generalize hz : val_main_v19 (F := Ideal) mc ms = z
  pointwise []
  subst hz
  rw [v19_at, Lits.f9]
  rfl

/-- The new second moment, divided by `1 - β₂`. -/
def mV (C : Fin 4096) : EReal :=
  ((999 : ℝ) : EReal) * ((((nibU (vq (ix3 b r ⟨C % 2048, by omega⟩)) (C / 2048) : ℝ) : EReal) + 1) * ((1 / 16 : ℝ) : EReal)
    * min (vr (ix2 b r)) (vc (ix2 b C))) + g (ix3 b r C) * g (ix3 b r C)

theorem aV_at (C : Fin 4096) : aV vr vc g vq (ix3 b r C) = mV vr vc g vq b r C := by
  unfold aV val_main_v36
  open Cert.ReferenceIdeal.Read in
  unfold val_main_v35 val_main_v34 val_main_v33 val_main_v32 val_main_v31 val_main_v30 val_main_v29 val_main_v28 val_main_v27
    val_main_v26 val_main_cst val_main_cst_5
  generalize hz : Cert.ReferenceIdeal.Read.val_main_v25 (F := Ideal) vq = z
  pointwise []
  subst hz
  rw [v25_at, show ∀ n : BitVec 32, FloatOps.sitofp (F := Ideal) .f32 n = ((n.toInt : ℝ) : EReal) from fun _ => rfl, nibU_toInt,
    Lits.f999, Lits.f_sixteenth]
  rfl

/-- A block's greatest magnitude. -/
def mA (k : Fin 32) : EReal :=
  Finset.univ.fold max ⊥ (fun x : Fin 128 => max (mM g mc ms b r ⟨128 * k + x, by omega⟩) (-mM g mc ms b r ⟨128 * k + x, by omega⟩))

theorem aA_at (k : Fin 32) : aA g mc ms (ix3 b r k) = mA g mc ms b r k := by
  unfold aA
  generalize hz : aM g mc ms = z
  pointwise []
  subst hz
  have hx : ∀ x : Fin 128, aM g mc ms (ix3 b r ⟨k * 128 + x, by omega⟩) = mM g mc ms b r ⟨128 * k + x, by omega⟩ := fun x => by
    rw [aM_at]
    exact congrArg _ (Fin.ext (by show k.val * 128 + x.val = 128 * k.val + x.val; omega))
  simp only [hx, Lits.f_bot]
  rfl

theorem ofBool_one (p : Prop) [Decidable p] : BitVec.ofBool (decide p) = 1#1 ↔ p := by
  by_cases h : p <;> simp [h]

theorem and_one (x y : BitVec 1) : IntOp.andi x y = 1#1 ↔ x = 1#1 ∧ y = 1#1 := by
  revert x y; decide

theorem or_one (x y : BitVec 1) : IntOp.ori x y = 1#1 ↔ x = 1#1 ∨ y = 1#1 := by
  revert x y; decide

theorem oeq_one (x y : EReal) : FloatOps.cmpf (F := Ideal) (φ := .f32) .oeq x y = 1#1 ↔ x = y := ofBool_one _
theorem oge_one (x y : EReal) : FloatOps.cmpf (F := Ideal) (φ := .f32) .oge x y = 1#1 ↔ y ≤ x := ofBool_one _

theorem splat32 (z : BitVec 32) (i : S2x14336x32.Idx) :
    broadcastInDim S2x14336x32 ![] bcast_S_S2x14336x32 (constant (F := Ideal) S_ .f32 z) i = Ideal.ofBits .f32 z := rfl

theorem splat4096 (z : BitVec 32) (i : S2x14336x4096.Idx) :
    broadcastInDim S2x14336x4096 ![] bcast_S_S2x14336x4096 (constant (F := Ideal) S_ .f32 z) i = Ideal.ofBits .f32 z := rfl

/-- Where the updates are compared. -/
theorem mask0 (C : Fin 4096) (h : (fn (F := Ideal) t vr vc rn cn w g mc ms vq).1 (ix3 b r C) = 1#1) :
    1 ≤ (t ix0).toInt ∧ 0 ≤ mV vr vc g vq b r C := by
  rw [fn_eq] at h
  have h' := (and_one _ _).1 h
  refine ⟨?_, ?_⟩
  · have h1 := h'.1
    generalize hz : cmpi .sge t (constantI S_ 32 1#32) = z at h1
    have e : broadcastInDim S2x14336x4096 ![] bcast_S_S2x14336x4096 z (ix3 b r C) = z ix0 := by pointwise []
    rw [e] at h1
    subst hz
    have h2 : IntOp.cmpi .sge (t ix0) 1#32 = 1#1 := h1
    simpa [BitVec.sle] using (ofBool_one _).1 ((show BitVec.ofBool (decide ((1#32).sle (t ix0) = true)) = IntOp.cmpi .sge (t ix0) 1#32 by
      simp [IntOp.cmpi]).trans h2)
  · have h1 := (oge_one _ _).1 h'.2
    rw [aV_at, splat4096, Lits.f0] at h1
    exact h1

theorem choice32 (a : FVec Ideal S2x14336x32 .f32) (y z : BitVec 32) (i : S2x14336x32.Idx) :
    ori (cmpf .oeq a (broadcastInDim S2x14336x32 ![] bcast_S_S2x14336x32 (constant S_ .f32 y)))
      (cmpf .oge a (broadcastInDim S2x14336x32 ![] bcast_S_S2x14336x32 (constant S_ .f32 z))) i =
    IntOp.ori (FloatOps.cmpf (F := Ideal) (φ := .f32) .oeq (a i) (Ideal.ofBits .f32 y))
      (FloatOps.cmpf (F := Ideal) (φ := .f32) .oge (a i) (Ideal.ofBits .f32 z)) := rfl

theorem choice4096 (v n : FVec Ideal S2x14336x4096 .f32) (y z : BitVec 32) (i : S2x14336x4096.Idx) :
    ori (cmpf .oeq v (broadcastInDim S2x14336x4096 ![] bcast_S_S2x14336x4096 (constant S_ .f32 y)))
      (cmpf .oge n (broadcastInDim S2x14336x4096 ![] bcast_S_S2x14336x4096 (constant S_ .f32 z))) i =
    IntOp.ori (FloatOps.cmpf (F := Ideal) (φ := .f32) .oeq (v i) (Ideal.ofBits .f32 y))
      (FloatOps.cmpf (F := Ideal) (φ := .f32) .oge (n i) (Ideal.ofBits .f32 z)) := rfl

/-- Where a block's codes of the first moment are compared. -/
theorem aB_at (k : Fin 32) (h : aB (aA g mc ms) (ix3 b r k) = 1#1) :
    mA g mc ms b r k = 0 ∨ Ideal.ofBits .f32 0x01E00000#32 ≤ mA g mc ms b r k := by
  unfold aB at h
  rwa [choice32, aA_at, or_one, oeq_one, oge_one, Lits.f0] at h

/-- Where a code of the second moment is compared. -/
theorem aC_at (C : Fin 4096) (h : aC (aV vr vc g vq) (aN rn cn) (ix3 b r C) = 1#1) :
    mV vr vc g vq b r C = 0 ∨ Ideal.ofBits .f32 0x00800000#32 ≤ min (rn (ix2 b r)) (cn (ix2 b C)) := by
  have e : aN rn cn (ix3 b r C) = min (rn (ix2 b r)) (cn (ix2 b C)) := by
    unfold aN
    pointwise []
  unfold aC at h
  rwa [choice4096, aV_at, e, or_one, oeq_one, oge_one, Lits.f0] at h

theorem mask1 (C : Fin 2048) (h : (fn (F := Ideal) t vr vc rn cn w g mc ms vq).2.1 (ix3 b r C) = 1#1) :
    (mA g mc ms b r ⟨C / 128, by omega⟩ = 0 ∨ Ideal.ofBits .f32 0x01E00000#32 ≤ mA g mc ms b r ⟨C / 128, by omega⟩) ∧
    (mA g mc ms b r ⟨16 + C / 128, by omega⟩ = 0 ∨ Ideal.ofBits .f32 0x01E00000#32 ≤ mA g mc ms b r ⟨16 + C / 128, by omega⟩) := by
  rw [fn_eq] at h
  dsimp only at h
  generalize hz : aB (aA g mc ms) = z at h
  pointwise [] at h
  subst hz
  rw [and_one] at h
  exact ⟨aB_at g mc ms b r _ h.1, aB_at g mc ms b r _ h.2⟩

theorem mask3 (C : Fin 2048) (h : (fn (F := Ideal) t vr vc rn cn w g mc ms vq).2.2.2 (ix3 b r C) = 1#1) :
    (mV vr vc g vq b r ⟨C, by omega⟩ = 0 ∨ Ideal.ofBits .f32 0x00800000#32 ≤ min (rn (ix2 b r)) (cn (ix2 b ⟨C, by omega⟩))) ∧
    (mV vr vc g vq b r ⟨C + 2048, by omega⟩ = 0 ∨
      Ideal.ofBits .f32 0x00800000#32 ≤ min (rn (ix2 b r)) (cn (ix2 b ⟨C + 2048, by omega⟩))) := by
  rw [fn_eq] at h
  dsimp only at h
  generalize hz : aC (aV vr vc g vq) (aN rn cn) = z at h
  pointwise [] at h
  subst hz
  rw [and_one] at h
  simp only [Nat.add_comm 2048] at h
  exact ⟨aC_at vr vc rn cn g vq b r _ h.1, aC_at vr vc rn cn g vq b r _ h.2⟩

end Cert.On_well_scaled
-- ==== Proof.Equal.lean ====
module

public import proofs.«01_k».proof.Proof.Calc
public import proofs.«01_k».proof.Proof.Whole
public import proofs.«01_k».proof.Proof.Ref
public import proofs.«01_k».proof.Proof.Mask

@[expose] public section

/-! The kernel's results are the reference's, element by element, where the masks hold. -/

set_option maxRecDepth 16384

noncomputable section

namespace Cert.Equal
open Idealize.ShloMosaic Idealize.ShloMosaic.TcCoe
open Cert.KernelIdeal.Value Cert.ReferenceIdeal.Read Cert.On_well_scaled

variable (t : Vec Ideal KernelIdeal.S_ .i32) (vr rn : Vec Ideal KernelIdeal.S2x14336 .f32) (vc cn : Vec Ideal KernelIdeal.S2x4096 .f32)
  (w g : Vec Ideal KernelIdeal.S2x14336x4096 .bf16) (mc vq : Vec Ideal KernelIdeal.S2x14336x2048 .i8)
  (ms : Vec Ideal KernelIdeal.S2x14336x32 .f32) (b : Fin 2) (r : Fin 14336)

/-! ### The moments -/

/-- The kernel's first moment is the mask's, ten times the reference's. -/
theorem m_eq (C : Fin 4096) : wM g mc ms b r C = mM g mc ms b r C := by
  unfold wM mM
  rw [Lits.f9, ← mul_assoc, mul_comm (_ * _) ((9 : ℝ) : EReal)]

/-- The reference's first moment is a tenth of the kernel's. -/
theorem rm_eq (C : Fin 4096) : rM g mc ms b r C = ((1 / 10 : ℝ) : EReal) * mM g mc ms b r C := by
  unfold rM mM
  rw [EReal.left_distrib_of_nonneg_of_ne_top (EReal.coe_nonneg.2 (by norm_num)) (EReal.coe_ne_top _),
    ← mul_assoc ((1 / 10 : ℝ) : EReal) ((9 : ℝ) : EReal), ← EReal.coe_mul]
  norm_num

/-- The kernel's second moment is the mask's. -/
theorem v_eq (C : Fin 4096) : wV vr vc g vq b r C = mV vr vc g vq b r C := by
  unfold wV mV
  rw [Lits.b1, Lits.f_fold, Calc.min_scale _ (by norm_num), EReal.coe_one]
  congr 1
  rw [← mul_assoc, mul_comm _ ((999 / 16 : ℝ) : EReal), mul_right_comm _ ((1 / 16 : ℝ) : EReal), mul_comm _ ((1 / 16 : ℝ) : EReal),
    ← mul_assoc ((999 : ℝ) : EReal), ← EReal.coe_mul]
  norm_num

/-- The reference's second moment is a thousandth of the kernel's. -/
theorem rv_eq (C : Fin 4096) : rV vr vc g vq b r C = ((1 / 1000 : ℝ) : EReal) * mV vr vc g vq b r C := by
  unfold rV mV
  rw [EReal.left_distrib_of_nonneg_of_ne_top (EReal.coe_nonneg.2 (by norm_num)) (EReal.coe_ne_top _),
    ← mul_assoc ((1 / 1000 : ℝ) : EReal) ((999 : ℝ) : EReal), ← EReal.coe_mul, mul_assoc ((1 / 1000 : ℝ) : EReal)]
  norm_num

/-- The kernel's greatest magnitude of a block is the mask's. -/
theorem a_eq (k : Fin 32) : wA g mc ms b r k = mA g mc ms b r k := by
  unfold wA mA
  rw [Lits.f_bot]
  simp only [m_eq]
  rfl

/-- The reference's greatest magnitude of a block is a tenth of the kernel's. -/
theorem ra_eq (k : Fin 32) : rA g mc ms b r k = ((1 / 10 : ℝ) : EReal) * mA g mc ms b r k := by
  unfold rA mA
  simp only [rm_eq]
  exact Calc.fold_scale (1 / 10) (by norm_num) _

/-! ### The update -/

/-- The updates are equal at a step of at least one, where the second moment is nonnegative. -/
theorem dw_eq (C : Fin 4096) (ht : 1 ≤ (t ix0).toInt) (hv : 0 ≤ mV vr vc g vq b r C) :
    wDW (FloatOps.sitofp (F := Ideal) .f32 (t ix0)) vr vc w g mc ms vq b r C = rDW t vr vc w g mc ms vq b r C := by
  obtain ⟨c₁, h1, e1, p1⟩ := Calc.bias (7549747 / 8388608) (by norm_num) (by norm_num) _ ht
  obtain ⟨c₂, h2, e2, p2⟩ := Calc.bias (16760439 / 16777216) (by norm_num) (by norm_num) _ ht
  have q1 : rBc (15099494 / 16777216) (((t ix0).toInt : ℝ) : EReal) = (c₁ : EReal) := by
    rw [show (15099494 / 16777216 : ℝ) = 7549747 / 8388608 by norm_num]; exact p1
  have q2 : rBc (16760439 / 16777216) (((t ix0).toInt : ℝ) : EReal) = (c₂ : EReal) := p2
  unfold wDW rDW bGain bEps bInvS
  rw [show FloatOps.sitofp (F := Ideal) .f32 (t ix0) = (((t ix0).toInt : ℝ) : EReal) from rfl, Lits.n_decay, Lits.n_eps, Lits.n_k2,
    Lits.n_log1, Lits.n_log2, e1, e2, q1, q2, m_eq, v_eq, rm_eq, rv_eq, Calc.step _ _ hv c₁ c₂ h1 h2,
    EReal.left_distrib_of_nonneg_of_ne_top (EReal.coe_nonneg.2 (by norm_num)) (EReal.coe_ne_top _)]
  congr 1
  rw [← mul_assoc, ← EReal.coe_mul, mul_comm]
  norm_num

/-! ### The first moment's codes and scales -/

/-- The scales are equal. -/
theorem s_eq (k : Fin 32) : wS g mc ms b r k = rS g mc ms b r k := by
  unfold wS rS
  rw [a_eq, ra_eq, Lits.n_inv70]
  by_cases h : mA g mc ms b r k = 0
  · rw [if_pos h, if_pos (by rw [h, mul_zero])]
  · rw [if_neg h, if_neg (mul_ne_zero (EReal.coe_ne_zero.2 (by norm_num)) h), Ideal.div_coe (by norm_num), mul_comm _ (mA g mc ms b r k),
      mul_assoc, ← EReal.coe_mul]
    norm_num

/-- A first moment in a block whose greatest magnitude is zero is zero. -/
theorem m_zero (C : Fin 4096) (h : mA g mc ms b r ⟨C / 128, by omega⟩ = 0) : mM g mc ms b r C = 0 := by
  have hC := Calc.zero_of_fold (fun x : Fin 128 => mM g mc ms b r ⟨128 * (C.val / 128) + x, by omega⟩) h ⟨C.val % 128, by omega⟩
  have e : (⟨128 * (C.val / 128) + C.val % 128, by omega⟩ : Fin 4096) = C := Fin.ext (Nat.div_add_mod _ _)
  rw [← e]
  exact hC

/-- The first moment's codes are equal where the block's greatest magnitude is zero or not tiny. -/
theorem qm_eq (C : Fin 4096) (h : mA g mc ms b r ⟨C / 128, by omega⟩ = 0 ∨
    Ideal.ofBits .f32 0x01E00000#32 ≤ mA g mc ms b r ⟨C / 128, by omega⟩) :
    clipI 0xC0E0#16 0x40E0#16 (wQM g mc ms b r C) = rQM g mc ms b r C := by
  have hq : wQM g mc ms b r C = Ideal.liftRound Ideal.roundHalfEven (Ideal.div (rM g mc ms b r C) (rS g mc ms b r ⟨C / 128, by omega⟩)) := by
    unfold wQM
    refine congrArg _ ?_
    rw [m_eq, a_eq, Lits.f7, rm_eq]
    unfold rS
    rw [ra_eq]
    rcases h with h | h
    · rw [h, m_zero g mc ms b r C h, mul_zero, if_pos rfl, zero_mul, Calc.div_ne _ _ one_ne_zero, zero_mul]
    · obtain ⟨y, hy, -, e⟩ := Lits.f_tiny
      rw [max_eq_left h]
      rw [e] at h
      have hpos : 0 < mA g mc ms b r ⟨C / 128, by omega⟩ := lt_of_lt_of_le (EReal.coe_pos.2 (by positivity)) h
      rw [if_neg (mul_ne_zero (EReal.coe_ne_zero.2 (by norm_num)) hpos.ne')]
      exact Calc.code_m _ _ hpos
  unfold clipI rQM
  rw [hq, Lits.b7, Lits.bm7]
  rfl

/-- The second moment's codes are equal where the second moment is zero or neither of its norms is tiny. -/
theorem qv_eq (C : Fin 4096) (h : mV vr vc g vq b r C = 0 ∨
    Ideal.ofBits .f32 0x00800000#32 ≤ min (rn (ix2 b r)) (cn (ix2 b C))) :
    clipI 0x0000#16 0x4170#16 (wQV vr vc rn cn g vq b r C) = rQV vr vc rn cn g vq b r C := by
  have hq : max 0 (wQV vr vc rn cn g vq b r C) = max 0 (Ideal.liftRound Ideal.roundHalfEven
      (Ideal.div (((16 : ℝ) : EReal) * rV vr vc g vq b r C) (min (rn (ix2 b r)) (cn (ix2 b C))) - 1)) := by
    unfold wQV vInv
    rw [v_eq, rv_eq, Lits.n_v_gain]
    rcases h with h | h
    · rw [h, zero_mul, mul_zero, mul_zero, Calc.code_zero, Calc.code_zero_div]
    · obtain ⟨y, hy, e, -⟩ := Lits.f_tiny
      rw [e] at h ⊢
      rw [Calc.code_v _ _ _ y hy h]
  unfold clipI rQV
  rw [Lits.b0, Lits.b15, EReal.coe_zero, hq]
  rfl

/-- The bytes of first moment codes are equal where mask 1 holds. -/
theorem mc_eq (C : Fin 2048)
    (h : (mA g mc ms b r ⟨C / 128, by omega⟩ = 0 ∨ Ideal.ofBits .f32 0x01E00000#32 ≤ mA g mc ms b r ⟨C / 128, by omega⟩) ∧
      (mA g mc ms b r ⟨16 + C / 128, by omega⟩ = 0 ∨ Ideal.ofBits .f32 0x01E00000#32 ≤ mA g mc ms b r ⟨16 + C / 128, by omega⟩)) :
    wMC g mc ms b r C = rMC g mc ms b r C := by
  have e : (⟨16 + C.val / 128, by omega⟩ : Fin 32) = ⟨(C.val + 2048) / 128, by omega⟩ := Fin.ext (by show 16 + C.val / 128 = (C.val + 2048) / 128; omega)
  unfold wMC rMC
  rw [qm_eq g mc ms b r ⟨C, by omega⟩ h.1, qm_eq g mc ms b r ⟨C + 2048, by omega⟩ (e ▸ h.2)]

/-- The bytes of second moment codes are equal where mask 3 holds. -/
theorem vc_eq (C : Fin 2048)
    (h : (mV vr vc g vq b r ⟨C, by omega⟩ = 0 ∨ Ideal.ofBits .f32 0x00800000#32 ≤ min (rn (ix2 b r)) (cn (ix2 b ⟨C, by omega⟩))) ∧
      (mV vr vc g vq b r ⟨C + 2048, by omega⟩ = 0 ∨
        Ideal.ofBits .f32 0x00800000#32 ≤ min (rn (ix2 b r)) (cn (ix2 b ⟨C + 2048, by omega⟩)))) :
    wVC vr vc rn cn g vq b r C = rVC vr vc rn cn g vq b r C := by
  unfold wVC rVC
  rw [qv_eq vr rn vc cn g vq b r ⟨C, by omega⟩ h.1, qv_eq vr rn vc cn g vq b r ⟨C + 2048, by omega⟩ h.2]

end Cert.Equal
-- ==== Proof.StatsTrip.lean ====
module

public import proofs.«01_k».proof.Proof.Whole
public import proofs.«01_k».proof.Proof.Points
public import proofs.«01_k».proof.Proof.StatsBody
public import proofs.«01_k».proof.Proof.Lits
public import Idealize.ShloMosaic.Lib.WritesUnit
public import proofs.«01_k».proof.Proof.Gen.StatsIdeal.Skeleton
public import proofs.«01_k».proof.Proof.Gen.StatsIdeal.Loops

@[expose] public section

/-! What one trip of the statistics kernel's loop stores: for each of its rows, the largest new second moment of the row,
and not less than zero. -/

set_option maxRecDepth 16384

noncomputable section

namespace Cert.StatsIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)
open Cert.StatsIdeal Cert.StatsIdeal.Gen
open Cert.KernelIdeal.Value (vV vV_apply ld2 ld3 nibU idx2_ex read_store)

theorem trips_eq : k0_t1_loop.trips = 16 := by decide +kernel

/-- The new second moment at row `R` and column `C` of one block, from the block's gradients and codes, the spread column
statistics and the spread row statistics. -/
def sV (xg : Vec Ideal S1x512x4096 .bf16) (xv : Vec Ideal S1x512x2048 .i8) (cb : Vec Ideal S8x4096 .f32)
    (rb : Vec Ideal S512x128 .f32) (R : Fin 512) (C : Fin 4096) : EReal :=
  (((nibU (xv (ix3 0 R ⟨C % 2048, Nat.mod_lt _ (by decide)⟩)) (C / 2048) : ℝ) : EReal)
      + Ideal.ofBits .bf16 0x3F80#16) *
    min (rb (ix2 R ⟨C % 128, Nat.mod_lt _ (by decide)⟩)) (cb (ix2 ⟨R % 8, Nat.mod_lt _ (by decide)⟩ C))
    + xg (ix3 0 R C) * xg (ix3 0 R C)

theorem rows4_apply (x : Vec Ideal S32x128 .f32) (a : Fin 4) (b : Fin 8) (l : Fin 128) :
    shapeCast S4x8x128 x shapeCasts_S32x128_S4x8x128 (ix3 a b l) = x (ix2 ⟨a.val * 8 + b.val, by omega⟩ l) := by
  pointwise

theorem rows4_apply' (x : Vec Ideal S32x128 .f32) (r : Fin 32) (l : Fin 128) :
    shapeCast S4x8x128 x shapeCasts_S32x128_S4x8x128 (ix3 ⟨r / 8, by omega⟩ ⟨r % 8, by omega⟩ l) = x (ix2 r l) :=
  (rows4_apply x _ _ l).trans (congrArg (fun z => x (ix2 z l)) (Fin.ext (Nat.div_add_mod' r.val 8)))

theorem tile (k : Fin k0_t1_loop.trips) (j : Fin 16) (p : Fin 2) {cc : ℕ} (hcc : cc = 128 * (j.val + 16 * p.val))
    {oc og : Fin 3 → ℕ} (hoc : oc = ![0, 32 * k.val, 128 * j.val]) (hog : og = ![0, 32 * k.val, cc])
    {or : Fin 2 → ℕ} (hor : or = ![32 * k.val, 0])
    (a4 : Memref sig .tc .vmem S1x512x4096 .bf16) (a5 : Memref sig .tc .vmem S1x512x2048 .i8)
    (a8 : Memref sig .tc .vmem S8x4096 .f32) (a10 : Memref sig .tc .vmem S512x128 .f32)
    (X4 : BufTy.Contents (Elt Ideal) a4.view.ty) (X5 : BufTy.Contents (Elt Ideal) a5.view.ty)
    (X8 : BufTy.Contents (Elt Ideal) a8.view.ty) (X10 : BufTy.Contents (Elt Ideal) a10.view.ty)
    (ir : ∀ x, or x + S32x128.size x ≤ S512x128.size x) (ic : ∀ x, oc x + S1x32x128.size x ≤ S1x512x2048.size x)
    (ig : ∀ x, og x + S1x32x128.size x ≤ S1x512x4096.size x)
    (icol : ∀ x, (![0, cc] : Fin 2 → ℕ) x + S8x128.size x ≤ S8x4096.size x) (r : Fin 32) (l : Fin 128) :
    vV p (shapeCast S4x8x128 (View.readAt (Elt Ideal) a10.view (Rect.unit (s := S512x128) or S32x128.size ir).toLoadRect X10)
          shapeCasts_S32x128_S4x8x128)
        (View.readAt (Elt Ideal) a5.view (Rect.unit (s := S1x512x2048) oc S1x32x128.size ic).toLoadRect X5)
        (View.readAt (Elt Ideal) a4.view (Rect.unit (s := S1x512x4096) og S1x32x128.size ig).toLoadRect X4)
        (View.readAt (Elt Ideal) a8.view (Rect.unit (s := S8x4096) ![0, cc] S8x128.size icol).toLoadRect X8) (ix2 r l)
      = sV (a4.view.read (Elt Ideal) X4) (a5.view.read (Elt Ideal) X5) (a8.view.read (Elt Ideal) X8)
          (a10.view.read (Elt Ideal) X10) ⟨32 * (k.cast trips_eq).val + r.val, by omega⟩
          ⟨128 * (j.val + 16 * p.val) + l.val, by omega⟩ := by
  subst hcc
  have hk : k.val < 16 := lt_of_lt_of_eq k.isLt trips_eq
  have h5 : View.readAt (Elt Ideal) a5.view (Rect.unit (s := S1x512x2048) oc S1x32x128.size ic).toLoadRect X5 (ix3 0 r l)
      = a5.view.read (Elt Ideal) X5 (ix3 0 ⟨32 * k.val + r.val, by omega⟩ ⟨128 * j.val + l.val, by omega⟩) :=
    ld3 (a5.view.read (Elt Ideal) X5) oc _ _ hoc ic r l _ _ _
  have h4 : View.readAt (Elt Ideal) a4.view (Rect.unit (s := S1x512x4096) og S1x32x128.size ig).toLoadRect X4 (ix3 0 r l)
      = a4.view.read (Elt Ideal) X4 (ix3 0 ⟨32 * k.val + r.val, by omega⟩ ⟨128 * (j.val + 16 * p.val) + l.val, by omega⟩) :=
    ld3 (a4.view.read (Elt Ideal) X4) og _ _ hog ig r l _ _ _
  have h8 : View.readAt (Elt Ideal) a8.view (Rect.unit (s := S8x4096) ![0, 128 * (j.val + 16 * p.val)] S8x128.size icol).toLoadRect X8
        (ix2 (⟨r % 8, by omega⟩ : Fin 8) l)
      = a8.view.read (Elt Ideal) X8 (ix2 ⟨0 + r % 8, by omega⟩ ⟨128 * (j.val + 16 * p.val) + l.val, by omega⟩) :=
    ld2 (a8.view.read (Elt Ideal) X8) _ _ _ rfl icol _ l _ _
  have h10 : shapeCast S4x8x128 (View.readAt (Elt Ideal) a10.view (Rect.unit (s := S512x128) or S32x128.size ir).toLoadRect X10)
          shapeCasts_S32x128_S4x8x128 (ix3 (⟨r / 8, by omega⟩ : Fin 4) (⟨r % 8, by omega⟩ : Fin 8) l)
      = a10.view.read (Elt Ideal) X10 (ix2 ⟨32 * k.val + r.val, by omega⟩ ⟨0 + l.val, by omega⟩) := by
    have e : View.readAt (Elt Ideal) a10.view (Rect.unit (s := S512x128) or S32x128.size ir).toLoadRect X10 (ix2 r l) = _ :=
      ld2 (a10.view.read (Elt Ideal) X10) or _ _ hor ir r l (by omega) (by omega)
    exact (rows4_apply' _ _ _).trans e
  rw [vV_apply, h5, h4, h8, h10]
  unfold sV
  have e1 : (128 * (j.val + 16 * p) + l) % 2048 = 128 * j + l := by omega
  have e2 : (128 * (j.val + 16 * p) + l) / 2048 = p := by omega
  have e3 : (128 * (j.val + 16 * p) + l) % 128 = l := by omega
  have e5 : (32 * k.val + r) % 8 = r % 8 := by omega
  simp only [e1, e2, e3, e5, Nat.zero_add, Fin.val_cast]

theorem off4_eq : ∀ k : Fin k0_t1_loop.trips, k0_off4 k = ![0, 32 * k.val, 0] := by decide +kernel
theorem off5_eq : ∀ k : Fin k0_t1_loop.trips, k0_off5 k = ![0, 32 * k.val, 0] := by decide +kernel
theorem off6_eq : ∀ k : Fin k0_t1_loop.trips, k0_off6 k = ![0, 32 * k.val, 2048] := by decide +kernel
theorem off7_eq : ∀ k : Fin k0_t1_loop.trips, k0_off7 k = ![0, 32 * k.val, 128] := by decide +kernel
theorem off8_eq : ∀ k : Fin k0_t1_loop.trips, k0_off8 k = ![0, 32 * k.val, 128] := by decide +kernel
theorem off9_eq : ∀ k : Fin k0_t1_loop.trips, k0_off9 k = ![0, 32 * k.val, 2176] := by decide +kernel
theorem off10_eq : ∀ k : Fin k0_t1_loop.trips, k0_off10 k = ![0, 32 * k.val, 256] := by decide +kernel
theorem off11_eq : ∀ k : Fin k0_t1_loop.trips, k0_off11 k = ![0, 32 * k.val, 256] := by decide +kernel
theorem off12_eq : ∀ k : Fin k0_t1_loop.trips, k0_off12 k = ![0, 32 * k.val, 2304] := by decide +kernel
theorem off13_eq : ∀ k : Fin k0_t1_loop.trips, k0_off13 k = ![0, 32 * k.val, 384] := by decide +kernel
theorem off14_eq : ∀ k : Fin k0_t1_loop.trips, k0_off14 k = ![0, 32 * k.val, 384] := by decide +kernel
theorem off15_eq : ∀ k : Fin k0_t1_loop.trips, k0_off15 k = ![0, 32 * k.val, 2432] := by decide +kernel
theorem off16_eq : ∀ k : Fin k0_t1_loop.trips, k0_off16 k = ![0, 32 * k.val, 512] := by decide +kernel
theorem off17_eq : ∀ k : Fin k0_t1_loop.trips, k0_off17 k = ![0, 32 * k.val, 512] := by decide +kernel
theorem off18_eq : ∀ k : Fin k0_t1_loop.trips, k0_off18 k = ![0, 32 * k.val, 2560] := by decide +kernel
theorem off19_eq : ∀ k : Fin k0_t1_loop.trips, k0_off19 k = ![0, 32 * k.val, 640] := by decide +kernel
theorem off20_eq : ∀ k : Fin k0_t1_loop.trips, k0_off20 k = ![0, 32 * k.val, 640] := by decide +kernel
theorem off21_eq : ∀ k : Fin k0_t1_loop.trips, k0_off21 k = ![0, 32 * k.val, 2688] := by decide +kernel
theorem off22_eq : ∀ k : Fin k0_t1_loop.trips, k0_off22 k = ![0, 32 * k.val, 768] := by decide +kernel
theorem off23_eq : ∀ k : Fin k0_t1_loop.trips, k0_off23 k = ![0, 32 * k.val, 768] := by decide +kernel
theorem off24_eq : ∀ k : Fin k0_t1_loop.trips, k0_off24 k = ![0, 32 * k.val, 2816] := by decide +kernel
theorem off25_eq : ∀ k : Fin k0_t1_loop.trips, k0_off25 k = ![0, 32 * k.val, 896] := by decide +kernel
theorem off26_eq : ∀ k : Fin k0_t1_loop.trips, k0_off26 k = ![0, 32 * k.val, 896] := by decide +kernel
theorem off27_eq : ∀ k : Fin k0_t1_loop.trips, k0_off27 k = ![0, 32 * k.val, 2944] := by decide +kernel
theorem off28_eq : ∀ k : Fin k0_t1_loop.trips, k0_off28 k = ![0, 32 * k.val, 1024] := by decide +kernel
theorem off29_eq : ∀ k : Fin k0_t1_loop.trips, k0_off29 k = ![0, 32 * k.val, 1024] := by decide +kernel
theorem off30_eq : ∀ k : Fin k0_t1_loop.trips, k0_off30 k = ![0, 32 * k.val, 3072] := by decide +kernel
theorem off31_eq : ∀ k : Fin k0_t1_loop.trips, k0_off31 k = ![0, 32 * k.val, 1152] := by decide +kernel
theorem off32_eq : ∀ k : Fin k0_t1_loop.trips, k0_off32 k = ![0, 32 * k.val, 1152] := by decide +kernel
theorem off33_eq : ∀ k : Fin k0_t1_loop.trips, k0_off33 k = ![0, 32 * k.val, 3200] := by decide +kernel
theorem off34_eq : ∀ k : Fin k0_t1_loop.trips, k0_off34 k = ![0, 32 * k.val, 1280] := by decide +kernel
theorem off35_eq : ∀ k : Fin k0_t1_loop.trips, k0_off35 k = ![0, 32 * k.val, 1280] := by decide +kernel
theorem off36_eq : ∀ k : Fin k0_t1_loop.trips, k0_off36 k = ![0, 32 * k.val, 3328] := by decide +kernel
theorem off37_eq : ∀ k : Fin k0_t1_loop.trips, k0_off37 k = ![0, 32 * k.val, 1408] := by decide +kernel
theorem off38_eq : ∀ k : Fin k0_t1_loop.trips, k0_off38 k = ![0, 32 * k.val, 1408] := by decide +kernel
theorem off39_eq : ∀ k : Fin k0_t1_loop.trips, k0_off39 k = ![0, 32 * k.val, 3456] := by decide +kernel
theorem off40_eq : ∀ k : Fin k0_t1_loop.trips, k0_off40 k = ![0, 32 * k.val, 1536] := by decide +kernel
theorem off41_eq : ∀ k : Fin k0_t1_loop.trips, k0_off41 k = ![0, 32 * k.val, 1536] := by decide +kernel
theorem off42_eq : ∀ k : Fin k0_t1_loop.trips, k0_off42 k = ![0, 32 * k.val, 3584] := by decide +kernel
theorem off43_eq : ∀ k : Fin k0_t1_loop.trips, k0_off43 k = ![0, 32 * k.val, 1664] := by decide +kernel
theorem off44_eq : ∀ k : Fin k0_t1_loop.trips, k0_off44 k = ![0, 32 * k.val, 1664] := by decide +kernel
theorem off45_eq : ∀ k : Fin k0_t1_loop.trips, k0_off45 k = ![0, 32 * k.val, 3712] := by decide +kernel
theorem off46_eq : ∀ k : Fin k0_t1_loop.trips, k0_off46 k = ![0, 32 * k.val, 1792] := by decide +kernel
theorem off47_eq : ∀ k : Fin k0_t1_loop.trips, k0_off47 k = ![0, 32 * k.val, 1792] := by decide +kernel
theorem off48_eq : ∀ k : Fin k0_t1_loop.trips, k0_off48 k = ![0, 32 * k.val, 3840] := by decide +kernel
theorem off49_eq : ∀ k : Fin k0_t1_loop.trips, k0_off49 k = ![0, 32 * k.val, 1920] := by decide +kernel
theorem off50_eq : ∀ k : Fin k0_t1_loop.trips, k0_off50 k = ![0, 32 * k.val, 1920] := by decide +kernel
theorem off51_eq : ∀ k : Fin k0_t1_loop.trips, k0_off51 k = ![0, 32 * k.val, 3968] := by decide +kernel
theorem off3_eq : ∀ k : Fin k0_t1_loop.trips, k0_off3 k = ![32 * k.val, 0] := by decide +kernel

section Trip

variable (arg4 : Memref sig .tc .vmem S1x512x4096 .bf16) (arg5 : Memref sig .tc .vmem S1x512x2048 .i8)
  (arg8 : Memref sig .tc .vmem S8x4096 .f32) (arg10 : Memref sig .tc .vmem S512x128 .f32)
  (X_arg4 : BufTy.Contents (Elt Ideal) arg4.view.ty) (X_arg5 : BufTy.Contents (Elt Ideal) arg5.view.ty)
  (X_arg8 : BufTy.Contents (Elt Ideal) arg8.view.ty) (X_arg10 : BufTy.Contents (Elt Ideal) arg10.view.ty)
  (k : Fin k0_t1_loop.trips) (r : Fin 32) (l : Fin 128)

/-- The new second moment the trip computes at its row `r`, column block `b` and lane `l`. -/
def tV (b : Fin 32) : EReal :=
  sV (arg4.view.read (Elt Ideal) X_arg4) (arg5.view.read (Elt Ideal) X_arg5) (arg8.view.read (Elt Ideal) X_arg8)
    (arg10.view.read (Elt Ideal) X_arg10) ⟨32 * (k.cast trips_eq).val + r.val, by omega⟩ ⟨128 * b.val + l.val, by omega⟩

theorem tile0 : trip_k0_t1.sl.v106 (F := Ideal) arg4 arg5 arg8 arg10 X_arg4 X_arg5 X_arg8 X_arg10 k (ix2 r l) = tV arg4 arg5 arg8 arg10 X_arg4 X_arg5 X_arg8 X_arg10 k r l 0 :=
  tile k 0 0 rfl (off4_eq k) (off5_eq k) (off3_eq k) arg4 arg5 arg8 arg10 X_arg4 X_arg5 X_arg8 X_arg10 _ _ _ _ r l

theorem tile1 : trip_k0_t1.sl.v127 (F := Ideal) arg4 arg5 arg8 arg10 X_arg4 X_arg5 X_arg8 X_arg10 k (ix2 r l) = tV arg4 arg5 arg8 arg10 X_arg4 X_arg5 X_arg8 X_arg10 k r l 16 :=
  tile k 0 1 rfl (off4_eq k) (off6_eq k) (off3_eq k) arg4 arg5 arg8 arg10 X_arg4 X_arg5 X_arg8 X_arg10 _ _ _ _ r l

theorem tile2 : trip_k0_t1.sl.v170 (F := Ideal) arg4 arg5 arg8 arg10 X_arg4 X_arg5 X_arg8 X_arg10 k (ix2 r l) = tV arg4 arg5 arg8 arg10 X_arg4 X_arg5 X_arg8 X_arg10 k r l 1 :=
  tile k 1 0 rfl (off7_eq k) (off8_eq k) (off3_eq k) arg4 arg5 arg8 arg10 X_arg4 X_arg5 X_arg8 X_arg10 _ _ _ _ r l

theorem tile3 : trip_k0_t1.sl.v191 (F := Ideal) arg4 arg5 arg8 arg10 X_arg4 X_arg5 X_arg8 X_arg10 k (ix2 r l) = tV arg4 arg5 arg8 arg10 X_arg4 X_arg5 X_arg8 X_arg10 k r l 17 :=
  tile k 1 1 rfl (off7_eq k) (off9_eq k) (off3_eq k) arg4 arg5 arg8 arg10 X_arg4 X_arg5 X_arg8 X_arg10 _ _ _ _ r l

theorem tile4 : trip_k0_t1.sl.v234 (F := Ideal) arg4 arg5 arg8 arg10 X_arg4 X_arg5 X_arg8 X_arg10 k (ix2 r l) = tV arg4 arg5 arg8 arg10 X_arg4 X_arg5 X_arg8 X_arg10 k r l 2 :=
  tile k 2 0 rfl (off10_eq k) (off11_eq k) (off3_eq k) arg4 arg5 arg8 arg10 X_arg4 X_arg5 X_arg8 X_arg10 _ _ _ _ r l

theorem tile5 : trip_k0_t1.sl.v255 (F := Ideal) arg4 arg5 arg8 arg10 X_arg4 X_arg5 X_arg8 X_arg10 k (ix2 r l) = tV arg4 arg5 arg8 arg10 X_arg4 X_arg5 X_arg8 X_arg10 k r l 18 :=
  tile k 2 1 rfl (off10_eq k) (off12_eq k) (off3_eq k) arg4 arg5 arg8 arg10 X_arg4 X_arg5 X_arg8 X_arg10 _ _ _ _ r l

theorem tile6 : trip_k0_t1.sl.v298 (F := Ideal) arg4 arg5 arg8 arg10 X_arg4 X_arg5 X_arg8 X_arg10 k (ix2 r l) = tV arg4 arg5 arg8 arg10 X_arg4 X_arg5 X_arg8 X_arg10 k r l 3 :=
  tile k 3 0 rfl (off13_eq k) (off14_eq k) (off3_eq k) arg4 arg5 arg8 arg10 X_arg4 X_arg5 X_arg8 X_arg10 _ _ _ _ r l

theorem tile7 : trip_k0_t1.sl.v319 (F := Ideal) arg4 arg5 arg8 arg10 X_arg4 X_arg5 X_arg8 X_arg10 k (ix2 r l) = tV arg4 arg5 arg8 arg10 X_arg4 X_arg5 X_arg8 X_arg10 k r l 19 :=
  tile k 3 1 rfl (off13_eq k) (off15_eq k) (off3_eq k) arg4 arg5 arg8 arg10 X_arg4 X_arg5 X_arg8 X_arg10 _ _ _ _ r l

theorem tile8 : trip_k0_t1.sl.v362 (F := Ideal) arg4 arg5 arg8 arg10 X_arg4 X_arg5 X_arg8 X_arg10 k (ix2 r l) = tV arg4 arg5 arg8 arg10 X_arg4 X_arg5 X_arg8 X_arg10 k r l 4 :=
  tile k 4 0 rfl (off16_eq k) (off17_eq k) (off3_eq k) arg4 arg5 arg8 arg10 X_arg4 X_arg5 X_arg8 X_arg10 _ _ _ _ r l

theorem tile9 : trip_k0_t1.sl.v383 (F := Ideal) arg4 arg5 arg8 arg10 X_arg4 X_arg5 X_arg8 X_arg10 k (ix2 r l) = tV arg4 arg5 arg8 arg10 X_arg4 X_arg5 X_arg8 X_arg10 k r l 20 :=
  tile k 4 1 rfl (off16_eq k) (off18_eq k) (off3_eq k) arg4 arg5 arg8 arg10 X_arg4 X_arg5 X_arg8 X_arg10 _ _ _ _ r l

theorem tile10 : trip_k0_t1.sl.v426 (F := Ideal) arg4 arg5 arg8 arg10 X_arg4 X_arg5 X_arg8 X_arg10 k (ix2 r l) = tV arg4 arg5 arg8 arg10 X_arg4 X_arg5 X_arg8 X_arg10 k r l 5 :=
  tile k 5 0 rfl (off19_eq k) (off20_eq k) (off3_eq k) arg4 arg5 arg8 arg10 X_arg4 X_arg5 X_arg8 X_arg10 _ _ _ _ r l

theorem tile11 : trip_k0_t1.sl.v447 (F := Ideal) arg4 arg5 arg8 arg10 X_arg4 X_arg5 X_arg8 X_arg10 k (ix2 r l) = tV arg4 arg5 arg8 arg10 X_arg4 X_arg5 X_arg8 X_arg10 k r l 21 :=
  tile k 5 1 rfl (off19_eq k) (off21_eq k) (off3_eq k) arg4 arg5 arg8 arg10 X_arg4 X_arg5 X_arg8 X_arg10 _ _ _ _ r l

theorem tile12 : trip_k0_t1.sl.v490 (F := Ideal) arg4 arg5 arg8 arg10 X_arg4 X_arg5 X_arg8 X_arg10 k (ix2 r l) = tV arg4 arg5 arg8 arg10 X_arg4 X_arg5 X_arg8 X_arg10 k r l 6 :=
  tile k 6 0 rfl (off22_eq k) (off23_eq k) (off3_eq k) arg4 arg5 arg8 arg10 X_arg4 X_arg5 X_arg8 X_arg10 _ _ _ _ r l

theorem tile13 : trip_k0_t1.sl.v511 (F := Ideal) arg4 arg5 arg8 arg10 X_arg4 X_arg5 X_arg8 X_arg10 k (ix2 r l) = tV arg4 arg5 arg8 arg10 X_arg4 X_arg5 X_arg8 X_arg10 k r l 22 :=
  tile k 6 1 rfl (off22_eq k) (off24_eq k) (off3_eq k) arg4 arg5 arg8 arg10 X_arg4 X_arg5 X_arg8 X_arg10 _ _ _ _ r l

theorem tile14 : trip_k0_t1.sl.v554 (F := Ideal) arg4 arg5 arg8 arg10 X_arg4 X_arg5 X_arg8 X_arg10 k (ix2 r l) = tV arg4 arg5 arg8 arg10 X_arg4 X_arg5 X_arg8 X_arg10 k r l 7 :=
  tile k 7 0 rfl (off25_eq k) (off26_eq k) (off3_eq k) arg4 arg5 arg8 arg10 X_arg4 X_arg5 X_arg8 X_arg10 _ _ _ _ r l

theorem tile15 : trip_k0_t1.sl.v575 (F := Ideal) arg4 arg5 arg8 arg10 X_arg4 X_arg5 X_arg8 X_arg10 k (ix2 r l) = tV arg4 arg5 arg8 arg10 X_arg4 X_arg5 X_arg8 X_arg10 k r l 23 :=
  tile k 7 1 rfl (off25_eq k) (off27_eq k) (off3_eq k) arg4 arg5 arg8 arg10 X_arg4 X_arg5 X_arg8 X_arg10 _ _ _ _ r l

theorem tile16 : trip_k0_t1.sl.v618 (F := Ideal) arg4 arg5 arg8 arg10 X_arg4 X_arg5 X_arg8 X_arg10 k (ix2 r l) = tV arg4 arg5 arg8 arg10 X_arg4 X_arg5 X_arg8 X_arg10 k r l 8 :=
  tile k 8 0 rfl (off28_eq k) (off29_eq k) (off3_eq k) arg4 arg5 arg8 arg10 X_arg4 X_arg5 X_arg8 X_arg10 _ _ _ _ r l

theorem tile17 : trip_k0_t1.sl.v639 (F := Ideal) arg4 arg5 arg8 arg10 X_arg4 X_arg5 X_arg8 X_arg10 k (ix2 r l) = tV arg4 arg5 arg8 arg10 X_arg4 X_arg5 X_arg8 X_arg10 k r l 24 :=
  tile k 8 1 rfl (off28_eq k) (off30_eq k) (off3_eq k) arg4 arg5 arg8 arg10 X_arg4 X_arg5 X_arg8 X_arg10 _ _ _ _ r l

theorem tile18 : trip_k0_t1.sl.v682 (F := Ideal) arg4 arg5 arg8 arg10 X_arg4 X_arg5 X_arg8 X_arg10 k (ix2 r l) = tV arg4 arg5 arg8 arg10 X_arg4 X_arg5 X_arg8 X_arg10 k r l 9 :=
  tile k 9 0 rfl (off31_eq k) (off32_eq k) (off3_eq k) arg4 arg5 arg8 arg10 X_arg4 X_arg5 X_arg8 X_arg10 _ _ _ _ r l

theorem tile19 : trip_k0_t1.sl.v703 (F := Ideal) arg4 arg5 arg8 arg10 X_arg4 X_arg5 X_arg8 X_arg10 k (ix2 r l) = tV arg4 arg5 arg8 arg10 X_arg4 X_arg5 X_arg8 X_arg10 k r l 25 :=
  tile k 9 1 rfl (off31_eq k) (off33_eq k) (off3_eq k) arg4 arg5 arg8 arg10 X_arg4 X_arg5 X_arg8 X_arg10 _ _ _ _ r l

theorem tile20 : trip_k0_t1.sl.v746 (F := Ideal) arg4 arg5 arg8 arg10 X_arg4 X_arg5 X_arg8 X_arg10 k (ix2 r l) = tV arg4 arg5 arg8 arg10 X_arg4 X_arg5 X_arg8 X_arg10 k r l 10 :=
  tile k 10 0 rfl (off34_eq k) (off35_eq k) (off3_eq k) arg4 arg5 arg8 arg10 X_arg4 X_arg5 X_arg8 X_arg10 _ _ _ _ r l

theorem tile21 : trip_k0_t1.sl.v767 (F := Ideal) arg4 arg5 arg8 arg10 X_arg4 X_arg5 X_arg8 X_arg10 k (ix2 r l) = tV arg4 arg5 arg8 arg10 X_arg4 X_arg5 X_arg8 X_arg10 k r l 26 :=
  tile k 10 1 rfl (off34_eq k) (off36_eq k) (off3_eq k) arg4 arg5 arg8 arg10 X_arg4 X_arg5 X_arg8 X_arg10 _ _ _ _ r l

theorem tile22 : trip_k0_t1.sl.v810 (F := Ideal) arg4 arg5 arg8 arg10 X_arg4 X_arg5 X_arg8 X_arg10 k (ix2 r l) = tV arg4 arg5 arg8 arg10 X_arg4 X_arg5 X_arg8 X_arg10 k r l 11 :=
  tile k 11 0 rfl (off37_eq k) (off38_eq k) (off3_eq k) arg4 arg5 arg8 arg10 X_arg4 X_arg5 X_arg8 X_arg10 _ _ _ _ r l

theorem tile23 : trip_k0_t1.sl.v831 (F := Ideal) arg4 arg5 arg8 arg10 X_arg4 X_arg5 X_arg8 X_arg10 k (ix2 r l) = tV arg4 arg5 arg8 arg10 X_arg4 X_arg5 X_arg8 X_arg10 k r l 27 :=
  tile k 11 1 rfl (off37_eq k) (off39_eq k) (off3_eq k) arg4 arg5 arg8 arg10 X_arg4 X_arg5 X_arg8 X_arg10 _ _ _ _ r l

theorem tile24 : trip_k0_t1.sl.v874 (F := Ideal) arg4 arg5 arg8 arg10 X_arg4 X_arg5 X_arg8 X_arg10 k (ix2 r l) = tV arg4 arg5 arg8 arg10 X_arg4 X_arg5 X_arg8 X_arg10 k r l 12 :=
  tile k 12 0 rfl (off40_eq k) (off41_eq k) (off3_eq k) arg4 arg5 arg8 arg10 X_arg4 X_arg5 X_arg8 X_arg10 _ _ _ _ r l

theorem tile25 : trip_k0_t1.sl.v895 (F := Ideal) arg4 arg5 arg8 arg10 X_arg4 X_arg5 X_arg8 X_arg10 k (ix2 r l) = tV arg4 arg5 arg8 arg10 X_arg4 X_arg5 X_arg8 X_arg10 k r l 28 :=
  tile k 12 1 rfl (off40_eq k) (off42_eq k) (off3_eq k) arg4 arg5 arg8 arg10 X_arg4 X_arg5 X_arg8 X_arg10 _ _ _ _ r l

theorem tile26 : trip_k0_t1.sl.v938 (F := Ideal) arg4 arg5 arg8 arg10 X_arg4 X_arg5 X_arg8 X_arg10 k (ix2 r l) = tV arg4 arg5 arg8 arg10 X_arg4 X_arg5 X_arg8 X_arg10 k r l 13 :=
  tile k 13 0 rfl (off43_eq k) (off44_eq k) (off3_eq k) arg4 arg5 arg8 arg10 X_arg4 X_arg5 X_arg8 X_arg10 _ _ _ _ r l

theorem tile27 : trip_k0_t1.sl.v959 (F := Ideal) arg4 arg5 arg8 arg10 X_arg4 X_arg5 X_arg8 X_arg10 k (ix2 r l) = tV arg4 arg5 arg8 arg10 X_arg4 X_arg5 X_arg8 X_arg10 k r l 29 :=
  tile k 13 1 rfl (off43_eq k) (off45_eq k) (off3_eq k) arg4 arg5 arg8 arg10 X_arg4 X_arg5 X_arg8 X_arg10 _ _ _ _ r l

theorem tile28 : trip_k0_t1.sl.v1002 (F := Ideal) arg4 arg5 arg8 arg10 X_arg4 X_arg5 X_arg8 X_arg10 k (ix2 r l) = tV arg4 arg5 arg8 arg10 X_arg4 X_arg5 X_arg8 X_arg10 k r l 14 :=
  tile k 14 0 rfl (off46_eq k) (off47_eq k) (off3_eq k) arg4 arg5 arg8 arg10 X_arg4 X_arg5 X_arg8 X_arg10 _ _ _ _ r l

theorem tile29 : trip_k0_t1.sl.v1023 (F := Ideal) arg4 arg5 arg8 arg10 X_arg4 X_arg5 X_arg8 X_arg10 k (ix2 r l) = tV arg4 arg5 arg8 arg10 X_arg4 X_arg5 X_arg8 X_arg10 k r l 30 :=
  tile k 14 1 rfl (off46_eq k) (off48_eq k) (off3_eq k) arg4 arg5 arg8 arg10 X_arg4 X_arg5 X_arg8 X_arg10 _ _ _ _ r l

theorem tile30 : trip_k0_t1.sl.v1066 (F := Ideal) arg4 arg5 arg8 arg10 X_arg4 X_arg5 X_arg8 X_arg10 k (ix2 r l) = tV arg4 arg5 arg8 arg10 X_arg4 X_arg5 X_arg8 X_arg10 k r l 15 :=
  tile k 15 0 rfl (off49_eq k) (off50_eq k) (off3_eq k) arg4 arg5 arg8 arg10 X_arg4 X_arg5 X_arg8 X_arg10 _ _ _ _ r l

theorem tile31 : trip_k0_t1.sl.v1087 (F := Ideal) arg4 arg5 arg8 arg10 X_arg4 X_arg5 X_arg8 X_arg10 k (ix2 r l) = tV arg4 arg5 arg8 arg10 X_arg4 X_arg5 X_arg8 X_arg10 k r l 31 :=
  tile k 15 1 rfl (off49_eq k) (off51_eq k) (off3_eq k) arg4 arg5 arg8 arg10 X_arg4 X_arg5 X_arg8 X_arg10 _ _ _ _ r l

/-- The column block of the trip's `n`-th tile. -/
def bf (n : ℕ) : Fin 32 := Fin.ofNat 32 (n / 2 + 16 * (n % 2))

/-- `z` is at least zero and at least the first `n` tiles' elements at the trip's row and lane. -/
def up : ℕ → EReal → Prop
  | 0, z => 0 ≤ z
  | n + 1, z => up n z ∧ tV arg4 arg5 arg8 arg10 X_arg4 X_arg5 X_arg8 X_arg10 k r l (bf n) ≤ z

theorem step {a b : FVec Ideal S32x128 .f32} {x : S32x128.Idx} {w z : EReal} {P : Prop} (ha : a x ≤ z ↔ P) (hb : b x = w) :
    maximumf a b x ≤ z ↔ P ∧ w ≤ z := by
  subst hb
  exact max_le_iff.trans (and_congr_left fun _ => ha)

variable (z : EReal)

theorem chain0 : trip_k0_t1.sl.v107 (F := Ideal) arg4 arg5 arg8 arg10 X_arg4 X_arg5 X_arg8 X_arg10 k (ix2 r l) ≤ z ↔ up arg4 arg5 arg8 arg10 X_arg4 X_arg5 X_arg8 X_arg10 k r l 1 z :=
  step (show Ideal.ofBits .f32 0x00000000#32 ≤ z ↔ 0 ≤ z by rw [Cert.Lits.f0]) (tile0 arg4 arg5 arg8 arg10 X_arg4 X_arg5 X_arg8 X_arg10 k r l)

theorem chain1 : trip_k0_t1.sl.v128 (F := Ideal) arg4 arg5 arg8 arg10 X_arg4 X_arg5 X_arg8 X_arg10 k (ix2 r l) ≤ z ↔ up arg4 arg5 arg8 arg10 X_arg4 X_arg5 X_arg8 X_arg10 k r l 2 z :=
  step (chain0 arg4 arg5 arg8 arg10 X_arg4 X_arg5 X_arg8 X_arg10 k r l z) (tile1 arg4 arg5 arg8 arg10 X_arg4 X_arg5 X_arg8 X_arg10 k r l)

theorem chain2 : trip_k0_t1.sl.v171 (F := Ideal) arg4 arg5 arg8 arg10 X_arg4 X_arg5 X_arg8 X_arg10 k (ix2 r l) ≤ z ↔ up arg4 arg5 arg8 arg10 X_arg4 X_arg5 X_arg8 X_arg10 k r l 3 z :=
  step (chain1 arg4 arg5 arg8 arg10 X_arg4 X_arg5 X_arg8 X_arg10 k r l z) (tile2 arg4 arg5 arg8 arg10 X_arg4 X_arg5 X_arg8 X_arg10 k r l)

theorem chain3 : trip_k0_t1.sl.v192 (F := Ideal) arg4 arg5 arg8 arg10 X_arg4 X_arg5 X_arg8 X_arg10 k (ix2 r l) ≤ z ↔ up arg4 arg5 arg8 arg10 X_arg4 X_arg5 X_arg8 X_arg10 k r l 4 z :=
  step (chain2 arg4 arg5 arg8 arg10 X_arg4 X_arg5 X_arg8 X_arg10 k r l z) (tile3 arg4 arg5 arg8 arg10 X_arg4 X_arg5 X_arg8 X_arg10 k r l)

theorem chain4 : trip_k0_t1.sl.v235 (F := Ideal) arg4 arg5 arg8 arg10 X_arg4 X_arg5 X_arg8 X_arg10 k (ix2 r l) ≤ z ↔ up arg4 arg5 arg8 arg10 X_arg4 X_arg5 X_arg8 X_arg10 k r l 5 z :=
  step (chain3 arg4 arg5 arg8 arg10 X_arg4 X_arg5 X_arg8 X_arg10 k r l z) (tile4 arg4 arg5 arg8 arg10 X_arg4 X_arg5 X_arg8 X_arg10 k r l)

theorem chain5 : trip_k0_t1.sl.v256 (F := Ideal) arg4 arg5 arg8 arg10 X_arg4 X_arg5 X_arg8 X_arg10 k (ix2 r l) ≤ z ↔ up arg4 arg5 arg8 arg10 X_arg4 X_arg5 X_arg8 X_arg10 k r l 6 z :=
  step (chain4 arg4 arg5 arg8 arg10 X_arg4 X_arg5 X_arg8 X_arg10 k r l z) (tile5 arg4 arg5 arg8 arg10 X_arg4 X_arg5 X_arg8 X_arg10 k r l)

theorem chain6 : trip_k0_t1.sl.v299 (F := Ideal) arg4 arg5 arg8 arg10 X_arg4 X_arg5 X_arg8 X_arg10 k (ix2 r l) ≤ z ↔ up arg4 arg5 arg8 arg10 X_arg4 X_arg5 X_arg8 X_arg10 k r l 7 z :=
  step (chain5 arg4 arg5 arg8 arg10 X_arg4 X_arg5 X_arg8 X_arg10 k r l z) (tile6 arg4 arg5 arg8 arg10 X_arg4 X_arg5 X_arg8 X_arg10 k r l)

theorem chain7 : trip_k0_t1.sl.v320 (F := Ideal) arg4 arg5 arg8 arg10 X_arg4 X_arg5 X_arg8 X_arg10 k (ix2 r l) ≤ z ↔ up arg4 arg5 arg8 arg10 X_arg4 X_arg5 X_arg8 X_arg10 k r l 8 z :=
  step (chain6 arg4 arg5 arg8 arg10 X_arg4 X_arg5 X_arg8 X_arg10 k r l z) (tile7 arg4 arg5 arg8 arg10 X_arg4 X_arg5 X_arg8 X_arg10 k r l)

theorem chain8 : trip_k0_t1.sl.v363 (F := Ideal) arg4 arg5 arg8 arg10 X_arg4 X_arg5 X_arg8 X_arg10 k (ix2 r l) ≤ z ↔ up arg4 arg5 arg8 arg10 X_arg4 X_arg5 X_arg8 X_arg10 k r l 9 z :=
  step (chain7 arg4 arg5 arg8 arg10 X_arg4 X_arg5 X_arg8 X_arg10 k r l z) (tile8 arg4 arg5 arg8 arg10 X_arg4 X_arg5 X_arg8 X_arg10 k r l)

theorem chain9 : trip_k0_t1.sl.v384 (F := Ideal) arg4 arg5 arg8 arg10 X_arg4 X_arg5 X_arg8 X_arg10 k (ix2 r l) ≤ z ↔ up arg4 arg5 arg8 arg10 X_arg4 X_arg5 X_arg8 X_arg10 k r l 10 z :=
  step (chain8 arg4 arg5 arg8 arg10 X_arg4 X_arg5 X_arg8 X_arg10 k r l z) (tile9 arg4 arg5 arg8 arg10 X_arg4 X_arg5 X_arg8 X_arg10 k r l)

theorem chain10 : trip_k0_t1.sl.v427 (F := Ideal) arg4 arg5 arg8 arg10 X_arg4 X_arg5 X_arg8 X_arg10 k (ix2 r l) ≤ z ↔ up arg4 arg5 arg8 arg10 X_arg4 X_arg5 X_arg8 X_arg10 k r l 11 z :=
  step (chain9 arg4 arg5 arg8 arg10 X_arg4 X_arg5 X_arg8 X_arg10 k r l z) (tile10 arg4 arg5 arg8 arg10 X_arg4 X_arg5 X_arg8 X_arg10 k r l)

theorem chain11 : trip_k0_t1.sl.v448 (F := Ideal) arg4 arg5 arg8 arg10 X_arg4 X_arg5 X_arg8 X_arg10 k (ix2 r l) ≤ z ↔ up arg4 arg5 arg8 arg10 X_arg4 X_arg5 X_arg8 X_arg10 k r l 12 z :=
  step (chain10 arg4 arg5 arg8 arg10 X_arg4 X_arg5 X_arg8 X_arg10 k r l z) (tile11 arg4 arg5 arg8 arg10 X_arg4 X_arg5 X_arg8 X_arg10 k r l)

theorem chain12 : trip_k0_t1.sl.v491 (F := Ideal) arg4 arg5 arg8 arg10 X_arg4 X_arg5 X_arg8 X_arg10 k (ix2 r l) ≤ z ↔ up arg4 arg5 arg8 arg10 X_arg4 X_arg5 X_arg8 X_arg10 k r l 13 z :=
  step (chain11 arg4 arg5 arg8 arg10 X_arg4 X_arg5 X_arg8 X_arg10 k r l z) (tile12 arg4 arg5 arg8 arg10 X_arg4 X_arg5 X_arg8 X_arg10 k r l)

theorem chain13 : trip_k0_t1.sl.v512 (F := Ideal) arg4 arg5 arg8 arg10 X_arg4 X_arg5 X_arg8 X_arg10 k (ix2 r l) ≤ z ↔ up arg4 arg5 arg8 arg10 X_arg4 X_arg5 X_arg8 X_arg10 k r l 14 z :=
  step (chain12 arg4 arg5 arg8 arg10 X_arg4 X_arg5 X_arg8 X_arg10 k r l z) (tile13 arg4 arg5 arg8 arg10 X_arg4 X_arg5 X_arg8 X_arg10 k r l)

theorem chain14 : trip_k0_t1.sl.v555 (F := Ideal) arg4 arg5 arg8 arg10 X_arg4 X_arg5 X_arg8 X_arg10 k (ix2 r l) ≤ z ↔ up arg4 arg5 arg8 arg10 X_arg4 X_arg5 X_arg8 X_arg10 k r l 15 z :=
  step (chain13 arg4 arg5 arg8 arg10 X_arg4 X_arg5 X_arg8 X_arg10 k r l z) (tile14 arg4 arg5 arg8 arg10 X_arg4 X_arg5 X_arg8 X_arg10 k r l)

theorem chain15 : trip_k0_t1.sl.v576 (F := Ideal) arg4 arg5 arg8 arg10 X_arg4 X_arg5 X_arg8 X_arg10 k (ix2 r l) ≤ z ↔ up arg4 arg5 arg8 arg10 X_arg4 X_arg5 X_arg8 X_arg10 k r l 16 z :=
  step (chain14 arg4 arg5 arg8 arg10 X_arg4 X_arg5 X_arg8 X_arg10 k r l z) (tile15 arg4 arg5 arg8 arg10 X_arg4 X_arg5 X_arg8 X_arg10 k r l)

theorem chain16 : trip_k0_t1.sl.v619 (F := Ideal) arg4 arg5 arg8 arg10 X_arg4 X_arg5 X_arg8 X_arg10 k (ix2 r l) ≤ z ↔ up arg4 arg5 arg8 arg10 X_arg4 X_arg5 X_arg8 X_arg10 k r l 17 z :=
  step (chain15 arg4 arg5 arg8 arg10 X_arg4 X_arg5 X_arg8 X_arg10 k r l z) (tile16 arg4 arg5 arg8 arg10 X_arg4 X_arg5 X_arg8 X_arg10 k r l)

theorem chain17 : trip_k0_t1.sl.v640 (F := Ideal) arg4 arg5 arg8 arg10 X_arg4 X_arg5 X_arg8 X_arg10 k (ix2 r l) ≤ z ↔ up arg4 arg5 arg8 arg10 X_arg4 X_arg5 X_arg8 X_arg10 k r l 18 z :=
  step (chain16 arg4 arg5 arg8 arg10 X_arg4 X_arg5 X_arg8 X_arg10 k r l z) (tile17 arg4 arg5 arg8 arg10 X_arg4 X_arg5 X_arg8 X_arg10 k r l)

theorem chain18 : trip_k0_t1.sl.v683 (F := Ideal) arg4 arg5 arg8 arg10 X_arg4 X_arg5 X_arg8 X_arg10 k (ix2 r l) ≤ z ↔ up arg4 arg5 arg8 arg10 X_arg4 X_arg5 X_arg8 X_arg10 k r l 19 z :=
  step (chain17 arg4 arg5 arg8 arg10 X_arg4 X_arg5 X_arg8 X_arg10 k r l z) (tile18 arg4 arg5 arg8 arg10 X_arg4 X_arg5 X_arg8 X_arg10 k r l)

theorem chain19 : trip_k0_t1.sl.v704 (F := Ideal) arg4 arg5 arg8 arg10 X_arg4 X_arg5 X_arg8 X_arg10 k (ix2 r l) ≤ z ↔ up arg4 arg5 arg8 arg10 X_arg4 X_arg5 X_arg8 X_arg10 k r l 20 z :=
  step (chain18 arg4 arg5 arg8 arg10 X_arg4 X_arg5 X_arg8 X_arg10 k r l z) (tile19 arg4 arg5 arg8 arg10 X_arg4 X_arg5 X_arg8 X_arg10 k r l)

theorem chain20 : trip_k0_t1.sl.v747 (F := Ideal) arg4 arg5 arg8 arg10 X_arg4 X_arg5 X_arg8 X_arg10 k (ix2 r l) ≤ z ↔ up arg4 arg5 arg8 arg10 X_arg4 X_arg5 X_arg8 X_arg10 k r l 21 z :=
  step (chain19 arg4 arg5 arg8 arg10 X_arg4 X_arg5 X_arg8 X_arg10 k r l z) (tile20 arg4 arg5 arg8 arg10 X_arg4 X_arg5 X_arg8 X_arg10 k r l)

theorem chain21 : trip_k0_t1.sl.v768 (F := Ideal) arg4 arg5 arg8 arg10 X_arg4 X_arg5 X_arg8 X_arg10 k (ix2 r l) ≤ z ↔ up arg4 arg5 arg8 arg10 X_arg4 X_arg5 X_arg8 X_arg10 k r l 22 z :=
  step (chain20 arg4 arg5 arg8 arg10 X_arg4 X_arg5 X_arg8 X_arg10 k r l z) (tile21 arg4 arg5 arg8 arg10 X_arg4 X_arg5 X_arg8 X_arg10 k r l)

theorem chain22 : trip_k0_t1.sl.v811 (F := Ideal) arg4 arg5 arg8 arg10 X_arg4 X_arg5 X_arg8 X_arg10 k (ix2 r l) ≤ z ↔ up arg4 arg5 arg8 arg10 X_arg4 X_arg5 X_arg8 X_arg10 k r l 23 z :=
  step (chain21 arg4 arg5 arg8 arg10 X_arg4 X_arg5 X_arg8 X_arg10 k r l z) (tile22 arg4 arg5 arg8 arg10 X_arg4 X_arg5 X_arg8 X_arg10 k r l)

theorem chain23 : trip_k0_t1.sl.v832 (F := Ideal) arg4 arg5 arg8 arg10 X_arg4 X_arg5 X_arg8 X_arg10 k (ix2 r l) ≤ z ↔ up arg4 arg5 arg8 arg10 X_arg4 X_arg5 X_arg8 X_arg10 k r l 24 z :=
  step (chain22 arg4 arg5 arg8 arg10 X_arg4 X_arg5 X_arg8 X_arg10 k r l z) (tile23 arg4 arg5 arg8 arg10 X_arg4 X_arg5 X_arg8 X_arg10 k r l)

theorem chain24 : trip_k0_t1.sl.v875 (F := Ideal) arg4 arg5 arg8 arg10 X_arg4 X_arg5 X_arg8 X_arg10 k (ix2 r l) ≤ z ↔ up arg4 arg5 arg8 arg10 X_arg4 X_arg5 X_arg8 X_arg10 k r l 25 z :=
  step (chain23 arg4 arg5 arg8 arg10 X_arg4 X_arg5 X_arg8 X_arg10 k r l z) (tile24 arg4 arg5 arg8 arg10 X_arg4 X_arg5 X_arg8 X_arg10 k r l)

theorem chain25 : trip_k0_t1.sl.v896 (F := Ideal) arg4 arg5 arg8 arg10 X_arg4 X_arg5 X_arg8 X_arg10 k (ix2 r l) ≤ z ↔ up arg4 arg5 arg8 arg10 X_arg4 X_arg5 X_arg8 X_arg10 k r l 26 z :=
  step (chain24 arg4 arg5 arg8 arg10 X_arg4 X_arg5 X_arg8 X_arg10 k r l z) (tile25 arg4 arg5 arg8 arg10 X_arg4 X_arg5 X_arg8 X_arg10 k r l)

theorem chain26 : trip_k0_t1.sl.v939 (F := Ideal) arg4 arg5 arg8 arg10 X_arg4 X_arg5 X_arg8 X_arg10 k (ix2 r l) ≤ z ↔ up arg4 arg5 arg8 arg10 X_arg4 X_arg5 X_arg8 X_arg10 k r l 27 z :=
  step (chain25 arg4 arg5 arg8 arg10 X_arg4 X_arg5 X_arg8 X_arg10 k r l z) (tile26 arg4 arg5 arg8 arg10 X_arg4 X_arg5 X_arg8 X_arg10 k r l)

theorem chain27 : trip_k0_t1.sl.v960 (F := Ideal) arg4 arg5 arg8 arg10 X_arg4 X_arg5 X_arg8 X_arg10 k (ix2 r l) ≤ z ↔ up arg4 arg5 arg8 arg10 X_arg4 X_arg5 X_arg8 X_arg10 k r l 28 z :=
  step (chain26 arg4 arg5 arg8 arg10 X_arg4 X_arg5 X_arg8 X_arg10 k r l z) (tile27 arg4 arg5 arg8 arg10 X_arg4 X_arg5 X_arg8 X_arg10 k r l)

theorem chain28 : trip_k0_t1.sl.v1003 (F := Ideal) arg4 arg5 arg8 arg10 X_arg4 X_arg5 X_arg8 X_arg10 k (ix2 r l) ≤ z ↔ up arg4 arg5 arg8 arg10 X_arg4 X_arg5 X_arg8 X_arg10 k r l 29 z :=
  step (chain27 arg4 arg5 arg8 arg10 X_arg4 X_arg5 X_arg8 X_arg10 k r l z) (tile28 arg4 arg5 arg8 arg10 X_arg4 X_arg5 X_arg8 X_arg10 k r l)

theorem chain29 : trip_k0_t1.sl.v1024 (F := Ideal) arg4 arg5 arg8 arg10 X_arg4 X_arg5 X_arg8 X_arg10 k (ix2 r l) ≤ z ↔ up arg4 arg5 arg8 arg10 X_arg4 X_arg5 X_arg8 X_arg10 k r l 30 z :=
  step (chain28 arg4 arg5 arg8 arg10 X_arg4 X_arg5 X_arg8 X_arg10 k r l z) (tile29 arg4 arg5 arg8 arg10 X_arg4 X_arg5 X_arg8 X_arg10 k r l)

theorem chain30 : trip_k0_t1.sl.v1067 (F := Ideal) arg4 arg5 arg8 arg10 X_arg4 X_arg5 X_arg8 X_arg10 k (ix2 r l) ≤ z ↔ up arg4 arg5 arg8 arg10 X_arg4 X_arg5 X_arg8 X_arg10 k r l 31 z :=
  step (chain29 arg4 arg5 arg8 arg10 X_arg4 X_arg5 X_arg8 X_arg10 k r l z) (tile30 arg4 arg5 arg8 arg10 X_arg4 X_arg5 X_arg8 X_arg10 k r l)

theorem chain31 : trip_k0_t1.sl.v1088 (F := Ideal) arg4 arg5 arg8 arg10 X_arg4 X_arg5 X_arg8 X_arg10 k (ix2 r l) ≤ z ↔ up arg4 arg5 arg8 arg10 X_arg4 X_arg5 X_arg8 X_arg10 k r l 32 z :=
  step (chain30 arg4 arg5 arg8 arg10 X_arg4 X_arg5 X_arg8 X_arg10 k r l z) (tile31 arg4 arg5 arg8 arg10 X_arg4 X_arg5 X_arg8 X_arg10 k r l)

theorem up_iff (n : ℕ) : up arg4 arg5 arg8 arg10 X_arg4 X_arg5 X_arg8 X_arg10 k r l n z ↔ 0 ≤ z ∧ ∀ i < n, tV arg4 arg5 arg8 arg10 X_arg4 X_arg5 X_arg8 X_arg10 k r l (bf i) ≤ z := by
  induction n with
  | zero => simp [up]
  | succ n ih =>
    show up arg4 arg5 arg8 arg10 X_arg4 X_arg5 X_arg8 X_arg10 k r l n z ∧ _ ↔ _
    rw [ih, and_assoc]
    refine and_congr_right fun _ => ⟨fun h i hi => ?_, fun h => ⟨fun i hi => h i (by omega), h n (by omega)⟩⟩
    rcases Nat.lt_succ_iff_lt_or_eq.mp hi with h' | rfl
    · exact h.1 i h'
    · exact h.2

theorem bf_surj : ∀ b : Fin 32, ∃ i, i < 32 ∧ bf i = b := by decide +kernel

theorem lanes_apply (x : FVec Ideal S32x128 .f32) :
    shapeCast S32x128 (broadcastTo S32x128 (shapeCast S32x1 (shapeCast S32x1
        (multiReduction .maximumf [1] S32 x 0xFF800000#32 reduces_S32x128_S32 (.inl rfl) rfl) shapeCasts_S32_S32x1)
        shapeCasts_S32x1_S32x1) broadcasts_S32x1_S32x128) shapeCasts_S32x128_S32x128 (ix2 r l)
      = Finset.univ.fold max (Ideal.ofBits .f32 0xFF800000#32) (fun y : Fin 128 => x (ix2 r y)) := by
  pointwise

/-- The largest new second moment of row `R`, and not less than zero. -/
def rmV (xg : Vec Ideal S1x512x4096 .bf16) (xv : Vec Ideal S1x512x2048 .i8) (cb : Vec Ideal S8x4096 .f32)
    (rb : Vec Ideal S512x128 .f32) (R : Fin 512) : EReal :=
  max 0 (Finset.univ.sup fun C : Fin 4096 => sV xg xv cb rb R C)

/-- What the trip stores at its row `r`. -/
theorem v1103_apply : trip_k0_t1.sl.v1103 (F := Ideal) arg4 arg5 arg8 arg10 X_arg4 X_arg5 X_arg8 X_arg10 k (ix2 r l)
    = rmV (arg4.view.read (Elt Ideal) X_arg4) (arg5.view.read (Elt Ideal) X_arg5) (arg8.view.read (Elt Ideal) X_arg8)
        (arg10.view.read (Elt Ideal) X_arg10) ⟨32 * (k.cast trips_eq).val + r.val, by omega⟩ := by
  refine (lanes_apply r l (trip_k0_t1.sl.v1088 (F := Ideal) arg4 arg5 arg8 arg10 X_arg4 X_arg5 X_arg8 X_arg10 k)).trans ?_
  refine eq_of_forall_ge_iff fun z => ?_
  unfold rmV
  rw [Finset.fold_max_le, Cert.Lits.f_bot, max_le_iff, Finset.sup_le_iff]
  constructor
  · rintro ⟨-, h⟩
    have h' := fun y : Fin 128 => (up_iff arg4 arg5 arg8 arg10 X_arg4 X_arg5 X_arg8 X_arg10 k r y z 32).mp ((chain31 arg4 arg5 arg8 arg10 X_arg4 X_arg5 X_arg8 X_arg10 k r y z).mp (h y (Finset.mem_univ _)))
    refine ⟨(h' 0).1, fun C _ => ?_⟩
    obtain ⟨i, hi, hb⟩ := bf_surj ⟨C.val / 128, by omega⟩
    have e := (h' ⟨C.val % 128, Nat.mod_lt _ (by decide)⟩).2 i hi
    rw [hb] at e
    unfold tV at e
    refine le_of_eq_of_le ?_ e
    congr 1
    exact Fin.ext (by simp only; omega)
  · rintro ⟨h0, h⟩
    exact ⟨bot_le, fun y _ => (chain31 arg4 arg5 arg8 arg10 X_arg4 X_arg5 X_arg8 X_arg10 k r y z).mpr ((up_iff arg4 arg5 arg8 arg10 X_arg4 X_arg5 X_arg8 X_arg10 k r y z 32).mpr
      ⟨h0, fun i _ => h _ (Finset.mem_univ _)⟩)⟩

end Trip

section Loop

variable (𝒱 : Variants) (c : Dev nD) (bd : Option 𝒱.V) (i : grid0.Coords) (arg2 : Memref sig .tc .vmem S2x14336 .f32) (harg2 : arg2.IsWhole) (arg3 : Memref sig .tc .vmem S2x4096 .f32) (harg3 : arg3.IsWhole) (arg4 : Memref sig .tc .vmem S1x512x4096 .bf16) (harg4 : arg4.IsWhole) (arg5 : Memref sig .tc .vmem S1x512x2048 .i8) (harg5 : arg5.IsWhole) (arg6 : Memref sig .tc .vmem S2x14336 .f32) (harg6 : arg6.IsWhole) (arg7 : Memref sig .tc .vmem S2x4096 .f32) (harg7 : arg7.IsWhole) (arg8 : Memref sig .tc .vmem S8x4096 .f32) (harg8 : arg8.IsWhole) (arg9 : Memref sig .tc .vmem S8x4096 .f32) (harg9 : arg9.IsWhole) (arg10 : Memref sig .tc .vmem S512x128 .f32) (harg10 : arg10.IsWhole) (arg11 : Memref sig .tc .vmem S512x128 .f32) (harg11 : arg11.IsWhole) (X_arg4 : BufTy.Contents (Elt Ideal) arg4.view.ty) (X_arg5 : BufTy.Contents (Elt Ideal) arg5.view.ty) (X_arg8 : BufTy.Contents (Elt Ideal) arg8.view.ty) (X_arg10 : BufTy.Contents (Elt Ideal) arg10.view.ty)

theorem trip_row (k : Fin k0_t1_loop.trips) (f9) (f11) : ∃ h, (tripL_k0_t1 (F := Ideal) 𝒱 c bd i arg2 harg2 arg3 harg3 arg4 harg4 arg5 harg5 arg6 harg6 arg7 harg7 arg8 harg8 arg9 harg9 arg10 harg10 arg11 harg11 X_arg4 X_arg5 X_arg8 X_arg10 k f9 f11).2
    = [⟨Rect.unit (s := S512x128) (k0_off3 k) S32x128.size h, trip_k0_t1.sl.v1103 (F := Ideal) arg4 arg5 arg8 arg10 X_arg4 X_arg5 X_arg8 X_arg10 k⟩] :=
  ⟨_, by unfold tripL_k0_t1 trip_k0_t1; rfl⟩

/-- The rows of maxima after `n` trips. -/
theorem loop_rows (G9) (G11) (n : ℕ) (hn : n ≤ k0_t1_loop.trips) (R : Fin 512) (hR : R.val < 32 * n) (l : Fin 128) :
    arg11.view.read (Elt Ideal) (arg11.view.writes (Elt Ideal) G11 (pb_k0_t1 (F := Ideal) 𝒱 c bd i arg2 harg2 arg3 harg3 arg4 harg4 arg5 harg5 arg6 harg6 arg7 harg7 arg8 harg8 arg9 harg9 arg10 harg10 arg11 harg11 X_arg4 X_arg5 X_arg8 X_arg10 G9 G11 n).2) (ix2 R l)
      = rmV (arg4.view.read (Elt Ideal) X_arg4) (arg5.view.read (Elt Ideal) X_arg5) (arg8.view.read (Elt Ideal) X_arg8)
        (arg10.view.read (Elt Ideal) X_arg10) R := by
  induction n with
  | zero => omega
  | succ n ih =>
    have e : pb_k0_t1 (F := Ideal) 𝒱 c bd i arg2 harg2 arg3 harg3 arg4 harg4 arg5 harg5 arg6 harg6 arg7 harg7 arg8 harg8 arg9 harg9 arg10 harg10 arg11 harg11 X_arg4 X_arg5 X_arg8 X_arg10 G9 G11 (n + 1) = _ := pb_k0_t1_succ 𝒱 c bd i arg2 harg2 arg3 harg3 arg4 harg4 arg5 harg5 arg6 harg6 arg7 harg7 arg8 harg8 arg9 harg9 arg10 harg10 arg11 harg11 X_arg4 X_arg5 X_arg8 X_arg10 G9 G11 ⟨n, hn⟩
    obtain ⟨h, ht⟩ := trip_row 𝒱 c bd i arg2 harg2 arg3 harg3 arg4 harg4 arg5 harg5 arg6 harg6 arg7 harg7 arg8 harg8 arg9 harg9 arg10 harg10 arg11 harg11 X_arg4 X_arg5 X_arg8 X_arg10 ⟨n, hn⟩ (arg9.view.writes (Elt Ideal) G9 (pb_k0_t1 (F := Ideal) 𝒱 c bd i arg2 harg2 arg3 harg3 arg4 harg4 arg5 harg5 arg6 harg6 arg7 harg7 arg8 harg8 arg9 harg9 arg10 harg10 arg11 harg11 X_arg4 X_arg5 X_arg8 X_arg10 G9 G11 n).1)
      (arg11.view.writes (Elt Ideal) G11 (pb_k0_t1 (F := Ideal) 𝒱 c bd i arg2 harg2 arg3 harg3 arg4 harg4 arg5 harg5 arg6 harg6 arg7 harg7 arg8 harg8 arg9 harg9 arg10 harg10 arg11 harg11 X_arg4 X_arg5 X_arg8 X_arg10 G9 G11 n).2)
    refine ((congrArg (fun P => arg11.view.read (Elt Ideal) (arg11.view.writes (Elt Ideal) G11 P) (ix2 R l))
      ((congrArg Prod.snd e).trans (congrArg (· ++ (pb_k0_t1 (F := Ideal) 𝒱 c bd i arg2 harg2 arg3 harg3 arg4 harg4 arg5 harg5 arg6 harg6 arg7 harg7 arg8 harg8 arg9 harg9 arg10 harg10 arg11 harg11 X_arg4 X_arg5 X_arg8 X_arg10 G9 G11 n).2) ht)))).trans ?_
    by_cases hc : R.val < 32 * n
    · refine Eq.trans ?_ (ih (by omega) hc)
      exact View.read_writes_cons_unit_of_not_mem _ _ h _ _ _ (off3_eq ⟨n, hn⟩) (0 : Fin 2) (.inl hc)
    · refine (View.read_writes_cons_unit_of_mem _ _ h _ _ (ix2 R l) (ix2 (⟨R.val - 32 * n, by omega⟩ : Fin 32) l)
        (off3_eq ⟨n, hn⟩) (fun a => ?_)).trans ?_
      · match a with
        | ⟨0, _⟩ => show R.val = 32 * n + (R.val - 32 * n); omega
        | ⟨1, _⟩ => exact (Nat.zero_add _).symm
      · rw [v1103_apply]
        congr 1
        exact Fin.ext (by show 32 * n + (R.val - 32 * n) = R.val; omega)

end Loop

end Cert.StatsIdeal.Value

end
-- ==== Proof.StatsPoint.lean ====
module

public import proofs.«01_k».proof.Proof.StatsTrip
public import proofs.«01_k».proof.Proof.Gen.StatsIdeal.Skeleton
public import proofs.«01_k».proof.Proof.Gen.StatsIdeal.Loops

@[expose] public section

/-! What the body of the statistics kernel writes at one grid point: 512 entries of the array of row statistics. -/

set_option maxRecDepth 16384

noncomputable section

namespace Cert.StatsIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)
open Cert.StatsIdeal Cert.StatsIdeal.Gen
open Cert.KernelIdeal.Value (vV vV_apply ld2 ld3 nibU idx2_ex colB zero2)

/-- A store of a whole buffer leaves what was stored. -/
theorem read_store {S : Shape} {e : EltTy} {sp : Space} (a : Memref sig .tc sp S e) (f : BufTy.Contents (Elt Ideal) a.view.ty)
    {off : Fin S.rank → ℕ} (h : off = fun _ => 0) (inb : ∀ x, off x + S.size x ≤ S.size x) (w : Vec Ideal S e) :
    a.view.read (Elt Ideal) (a.view.writes (Elt Ideal) f [⟨Rect.unit off S.size inb, w⟩]) = w := by
  subst h
  funext x
  have hx := View.read_writes_cons_emb (v := a.view) (f := f) (Rect.whole S) w [] x
  rwa [Rect.emb_whole_apply] at hx

theorem pay168_apply (v : Vec Ideal S1x4096 .f32) (a : Fin 8) (l : Fin 4096) :
    k0_pay168 (F := Ideal) v (ix2 a l) = v (ix2 0 l) * Ideal.ofBits .f32 0x4279C000#32 := by
  unfold k0_pay168
  pointwise

theorem pay_col (b : Fin 2) (x : Vec Ideal S2x4096 .f32) {off : Fin 2 → ℕ} (ho : off = ![b.val, 0])
    (inb : ∀ y, off y + S1x4096.size y ≤ S2x4096.size y) :
    k0_pay168 (F := Ideal) (View.ld x (Rect.unit (s := S2x4096) off S1x4096.size inb)) = colB b x := by
  funext y
  obtain ⟨r, l, rfl⟩ := idx2_ex y
  rw [pay168_apply, ld2 x off _ _ ho inb 0 l (by have := b.isLt; simp; omega) (by omega)]
  simp only [Nat.zero_add]
  rfl

/-- The row factors of the second moment, for batch entry `b` and row block `q`. -/
def rowS (b : Fin 2) (q : Fin 28) (x : Vec Ideal S2x14336 .f32) : Vec Ideal S512x128 .f32 := fun y =>
  x (ix2 b ⟨512 * q.val + (y 0).val, by have : (y 0).val < 512 := (y 0).isLt; omega⟩) * Ideal.ofBits .f32 0x4279C000#32

theorem pay170_apply (v : Vec Ideal S1x512 .f32) (a : Fin 512) (l : Fin 128) :
    k0_pay170 (F := Ideal) v (ix2 a l) = v (ix2 0 a) * Ideal.ofBits .f32 0x4279C000#32 := by
  unfold k0_pay170
  pointwise
  split_ifs <;> first | rfl | (congr 2; congr 1; exact Fin.ext (by simp only; omega))

theorem pay_row (b : Fin 2) (q : Fin 28) (x : Vec Ideal S2x14336 .f32) {off : Fin 2 → ℕ} (ho : off = ![b.val, 512 * q.val])
    (inb : ∀ y, off y + S1x512.size y ≤ S2x14336.size y) :
    k0_pay170 (F := Ideal) (View.ld x (Rect.unit (s := S2x14336) off S1x512.size inb)) = rowS b q x := by
  funext y
  obtain ⟨r, l, rfl⟩ := idx2_ex y
  rw [pay170_apply, ld2 x off _ _ ho inb 0 r (by have := b.isLt; simp; omega) (by omega)]
  rfl

/-- The factor of the row statistics. -/
def k2 : EReal := Named.named (F := Ideal) (φ := .f32) κ "k2" 0x3A83126F#32

theorem pay171_apply (v : Vec Ideal S128x128 .f32) (l : Fin 128) : k0_pay171 (F := Ideal) v (ix2 0 l) = v (ix2 l 0) * k2 := by
  unfold k0_pay171 k2
  pointwise

/-- Entries `512 q` to `512 q + 511` of row `b` replaced by `w`. -/
def outRow (b : Fin 2) (q : Fin 28) (w : Fin 512 → EReal) (x : Vec Ideal S2x14336 .f32) : Vec Ideal S2x14336 .f32 := fun y =>
  if h : (y 0).val = b.val ∧ 512 * q.val ≤ (y 1).val ∧ (y 1).val < 512 * q.val + 512 then w ⟨(y 1).val - 512 * q.val, by omega⟩ else x y

theorem row_step (a : Memref sig .tc .vmem S2x14336 .f32) (f : BufTy.Contents (Elt Ideal) a.view.ty) {o : Fin 2 → ℕ} {b s : ℕ}
    (ho : o = ![b, s]) (inb : ∀ x, o x + S1x128.size x ≤ S2x14336.size x) (p : Vec Ideal S1x128 .f32)
    (L : List (View.Piece (Elt Ideal) S2x14336 .f32)) (B : Fin 2) (C : Fin 14336) :
    a.view.read (Elt Ideal) (a.view.writes (Elt Ideal) f ((⟨Rect.unit (s := S2x14336) o S1x128.size inb, p⟩ :
      View.Piece (Elt Ideal) S2x14336 .f32) :: L)) (ix2 B C) =
      if h : B.val = b ∧ s ≤ C.val ∧ C.val < s + 128 then p (ix2 0 ⟨C.val - s, by omega⟩)
      else a.view.read (Elt Ideal) (a.view.writes (Elt Ideal) f L) (ix2 B C) := by
  split_ifs with h
  · refine View.read_writes_cons_unit_of_mem _ _ inb _ _ (ix2 B C) (ix2 (0 : Fin 1) (⟨C.val - s, by omega⟩ : Fin 128)) ho (fun x => ?_)
    match x with
    | ⟨0, _⟩ => exact h.1
    | ⟨1, _⟩ => show C.val = s + (C.val - s); omega
  · by_cases hB : B.val = b
    · refine View.read_writes_cons_unit_of_not_mem _ _ inb _ _ _ ho (1 : Fin 2) ?_
      show C.val < s ∨ s + 128 ≤ C.val
      omega
    · refine View.read_writes_cons_unit_of_not_mem _ _ inb _ _ _ ho (0 : Fin 2) ?_
      show B.val < b ∨ b + 1 ≤ B.val
      omega

theorem row_out (a : Memref sig .tc .vmem S2x14336 .f32) (ha : a.IsWhole) (x : Vec Ideal S2x14336 .f32) (b : Fin 2) (q : Fin 28)
    (w : Fin 512 → EReal) {o0 o1 o2 o3 : Fin 2 → ℕ} (ho0 : o0 = ![b.val, 512 * q.val]) (ho1 : o1 = ![b.val, 512 * q.val + 128])
    (ho2 : o2 = ![b.val, 512 * q.val + 256]) (ho3 : o3 = ![b.val, 512 * q.val + 384])
    (i0 : ∀ x, o0 x + S1x128.size x ≤ S2x14336.size x) (i1 : ∀ x, o1 x + S1x128.size x ≤ S2x14336.size x)
    (i2 : ∀ x, o2 x + S1x128.size x ≤ S2x14336.size x) (i3 : ∀ x, o3 x + S1x128.size x ≤ S2x14336.size x)
    (p0 p1 p2 p3 : Vec Ideal S1x128 .f32) (h0 : ∀ l : Fin 128, p0 (ix2 0 l) = w ⟨l.val, by omega⟩)
    (h1 : ∀ l : Fin 128, p1 (ix2 0 l) = w ⟨128 + l.val, by omega⟩) (h2 : ∀ l : Fin 128, p2 (ix2 0 l) = w ⟨256 + l.val, by omega⟩)
    (h3 : ∀ l : Fin 128, p3 (ix2 0 l) = w ⟨384 + l.val, by omega⟩) :
    a.view.read (Elt Ideal) (a.view.writes (Elt Ideal) (ha.unread x)
      [⟨Rect.unit (s := S2x14336) o3 S1x128.size i3, p3⟩, ⟨Rect.unit (s := S2x14336) o2 S1x128.size i2, p2⟩,
        ⟨Rect.unit (s := S2x14336) o1 S1x128.size i1, p1⟩, ⟨Rect.unit (s := S2x14336) o0 S1x128.size i0, p0⟩])
      = outRow b q w x := by
  funext y
  obtain ⟨B, C, rfl⟩ := idx2_ex y
  rw [row_step a _ ho3 i3, row_step a _ ho2 i2, row_step a _ ho1 i1, row_step a _ ho0 i0]
  simp only [h0, h1, h2, h3]
  have e : a.view.read (Elt Ideal) (a.view.writes (Elt Ideal) (ha.unread x) []) (ix2 B C) = x (ix2 B C) :=
    congrFun (ha.read_unread x) _
  rw [e]
  have hC : (ix2 B C : S2x14336.Idx) 1 = C := rfl
  have hB : (ix2 B C : S2x14336.Idx) 0 = B := rfl
  unfold outRow
  simp only [hB, hC]
  split_ifs <;> first | rfl | (exfalso; omega) | (congr 1; exact Fin.ext (by simp only; omega))

/-- What is stored of 128 rows of maxima. -/
theorem stored (a : Memref sig .tc .vmem S512x128 .f32) (X : BufTy.Contents (Elt Ideal) a.view.ty) (rv : Fin 512 → EReal)
    (h : ∀ (R : Fin 512) (l : Fin 128), a.view.read (Elt Ideal) X (ix2 R l) = rv R) {s : ℕ} (hs : s + 128 ≤ 512) {o : Fin 2 → ℕ}
    (ho : o = ![s, 0]) (inb : ∀ x, o x + S128x128.size x ≤ S512x128.size x) (l : Fin 128) :
    k0_pay171 (F := Ideal) (View.readAt (Elt Ideal) a.view (Rect.unit (s := S512x128) o S128x128.size inb).toLoadRect X) (ix2 0 l)
      = rv ⟨s + l.val, by omega⟩ * k2 := by
  rw [pay171_apply]
  refine congrArg (· * k2) ?_
  exact (ld2 (a.view.read (Elt Ideal) X) o _ _ ho inb l 0 (by omega) (by omega)).trans (h _ _)

theorem outA  (c : Dev nD) (i : grid0.Coords) (arg2 : Memref sig .tc .vmem S2x14336 .f32) (harg2 : arg2.IsWhole) (arg3 : Memref sig .tc .vmem S2x4096 .f32) (harg3 : arg3.IsWhole) (arg4 : Memref sig .tc .vmem S1x512x4096 .bf16) (harg4 : arg4.IsWhole) (arg5 : Memref sig .tc .vmem S1x512x2048 .i8) (harg5 : arg5.IsWhole) (arg6 : Memref sig .tc .vmem S2x14336 .f32) (harg6 : arg6.IsWhole) (arg7 : Memref sig .tc .vmem S2x4096 .f32) (harg7 : arg7.IsWhole) (arg8 : Memref sig .tc .vmem S8x4096 .f32) (harg8 : arg8.IsWhole) (arg9 : Memref sig .tc .vmem S8x4096 .f32) (harg9 : arg9.IsWhole) (arg10 : Memref sig .tc .vmem S512x128 .f32) (harg10 : arg10.IsWhole) (arg11 : Memref sig .tc .vmem S512x128 .f32) (harg11 : arg11.IsWhole) (hc1 : k0_cond1 i = 1#1) (hc2 : k0_cond2 i = 1#1) (hc3 : ¬ k0_cond3 i = 1#1) (hc4 : ¬ k0_cond4 i = 1#1) (hc5 : ¬ k0_cond5 i = 1#1)
    (x2 : Vec Ideal S2x14336 .f32) (x3 : Vec Ideal S2x4096 .f32) (x4 : Vec Ideal S1x512x4096 .bf16) (x5 : Vec Ideal S1x512x2048 .i8) (x6 : Vec Ideal S2x14336 .f32) (x7 : Vec Ideal S2x4096 .f32) (x8 : Vec Ideal S8x4096 .f32) (x9 : Vec Ideal S8x4096 .f32) (x11 : Vec Ideal S512x128 .f32)
    (b : Fin 2) (q : Fin 28) (ho1 : k0_off1 i = ![b.val, 0]) (ho2 : k0_off2 i = ![b.val, 512 * q.val])
    (hw0 : k0_off52 i 0#32 = ![b.val, 512 * q.val]) (hw1 : k0_off52 i 128#32 = ![b.val, 512 * q.val + 128])
    (hw2 : k0_off52 i 256#32 = ![b.val, 512 * q.val + 256]) (hw3 : k0_off52 i 384#32 = ![b.val, 512 * q.val + 384]) :
    arg6.view.read (Elt Ideal) (arg6.view.writes (Elt Ideal) (harg6.unread x6) (Run.runA (F := Ideal) c i arg2 harg2 arg3 harg3 arg4 harg4 arg5 harg5 arg6 harg6 arg7 harg7 arg8 harg8 arg9 harg9 arg10 harg10 arg11 harg11 hc1 hc2 hc3 hc4 hc5 x2 x3 x4 x5 x6 x7 x8 x9 x11).1)
      = outRow b q (fun R => rmV x4 x5 (colB b x3) (rowS b q x2) R * k2) x6 := by
  unfold Run.runA
  dsimp only
  have hrow : ∀ a : Memref sig .tc .vmem S512x128 .f32, ∀ f : BufTy.Contents (Elt Ideal) a.view.ty,
      a.view.read (Elt Ideal) (a.view.writes (Elt Ideal) f (Run.runA.sl.H10_1 (F := Ideal) c i arg2 harg2 x2)) = rowS b q x2 := by
    intro a f
    unfold Run.runA.sl.H10_1
    sl_unfold_run_names
    refine (read_store a f zero2 _ _).trans ?_
    rw [View.readAt_eq_ld, harg2.read_unread]
    exact pay_row b q _ ho2 _
  have hcol : ∀ a : Memref sig .tc .vmem S8x4096 .f32, ∀ f : BufTy.Contents (Elt Ideal) a.view.ty,
      a.view.read (Elt Ideal) (a.view.writes (Elt Ideal) f (Run.runA.sl.H8_1 (F := Ideal) c i arg3 harg3 hc1 x3)) = colB b x3 := by
    intro a f
    sl_unfold_run_names
    refine (read_store a f zero2 _ _).trans ?_
    rw [View.readAt_eq_ld, harg3.read_unread]
    exact pay_col b _ ho1 _
  have key := fun X8 G9 G11 R l => loop_rows Variants.none c none i arg2 harg2 arg3 harg3 arg4 harg4 arg5 harg5 arg6 harg6 arg7 harg7 arg8 harg8 arg9 harg9 arg10 harg10 arg11 harg11 (harg4.unread x4) (harg5.unread x5) X8
    (arg10.view.writes (Elt Ideal) arg10.view.junk (Run.runA.sl.H10_1 (F := Ideal) c i arg2 harg2 x2)) G9 G11 k0_t1_loop.trips le_rfl R (by rw [trips_eq]; exact R.isLt) l
  simp only [harg4.read_unread, harg5.read_unread, hrow] at key
  refine row_out arg6 harg6 x6 b q _ hw0 hw1 hw2 hw3 _ _ _ _ _ _ _ _ (fun l => ?_) (fun l => ?_) (fun l => ?_) (fun l => ?_)
  · refine (stored arg11 _ (fun R => rmV x4 x5 (colB b x3) (rowS b q x2) R) (fun R l => (key _ _ _ R l).trans ?_) (s := 0) (by decide) rfl _ l).trans ?_
    · rw [hcol arg8 _]
    · simp only [Nat.zero_add]
  · refine (stored arg11 _ (fun R => rmV x4 x5 (colB b x3) (rowS b q x2) R) (fun R l => (key _ _ _ R l).trans ?_) (s := 128) (by decide) rfl _ l).trans ?_
    · rw [hcol arg8 _]
    · rfl
  · refine (stored arg11 _ (fun R => rmV x4 x5 (colB b x3) (rowS b q x2) R) (fun R l => (key _ _ _ R l).trans ?_) (s := 256) (by decide) rfl _ l).trans ?_
    · rw [hcol arg8 _]
    · rfl
  · refine (stored arg11 _ (fun R => rmV x4 x5 (colB b x3) (rowS b q x2) R) (fun R l => (key _ _ _ R l).trans ?_) (s := 384) (by decide) rfl _ l).trans ?_
    · rw [hcol arg8 _]
    · rfl

theorem colA  (c : Dev nD) (i : grid0.Coords) (arg2 : Memref sig .tc .vmem S2x14336 .f32) (harg2 : arg2.IsWhole) (arg3 : Memref sig .tc .vmem S2x4096 .f32) (harg3 : arg3.IsWhole) (arg4 : Memref sig .tc .vmem S1x512x4096 .bf16) (harg4 : arg4.IsWhole) (arg5 : Memref sig .tc .vmem S1x512x2048 .i8) (harg5 : arg5.IsWhole) (arg6 : Memref sig .tc .vmem S2x14336 .f32) (harg6 : arg6.IsWhole) (arg7 : Memref sig .tc .vmem S2x4096 .f32) (harg7 : arg7.IsWhole) (arg8 : Memref sig .tc .vmem S8x4096 .f32) (harg8 : arg8.IsWhole) (arg9 : Memref sig .tc .vmem S8x4096 .f32) (harg9 : arg9.IsWhole) (arg10 : Memref sig .tc .vmem S512x128 .f32) (harg10 : arg10.IsWhole) (arg11 : Memref sig .tc .vmem S512x128 .f32) (harg11 : arg11.IsWhole) (hc1 : k0_cond1 i = 1#1) (hc2 : k0_cond2 i = 1#1) (hc3 : ¬ k0_cond3 i = 1#1) (hc4 : ¬ k0_cond4 i = 1#1) (hc5 : ¬ k0_cond5 i = 1#1)
    (x2 : Vec Ideal S2x14336 .f32) (x3 : Vec Ideal S2x4096 .f32) (x4 : Vec Ideal S1x512x4096 .bf16) (x5 : Vec Ideal S1x512x2048 .i8) (x6 : Vec Ideal S2x14336 .f32) (x7 : Vec Ideal S2x4096 .f32) (x8 : Vec Ideal S8x4096 .f32) (x9 : Vec Ideal S8x4096 .f32) (x11 : Vec Ideal S512x128 .f32)
    (b : Fin 2) (ho1 : k0_off1 i = ![b.val, 0]) (a : Memref sig .tc .vmem S8x4096 .f32) (f : BufTy.Contents (Elt Ideal) a.view.ty) :
    a.view.read (Elt Ideal) (a.view.writes (Elt Ideal) f (Run.runA (F := Ideal) c i arg2 harg2 arg3 harg3 arg4 harg4 arg5 harg5 arg6 harg6 arg7 harg7 arg8 harg8 arg9 harg9 arg10 harg10 arg11 harg11 hc1 hc2 hc3 hc4 hc5 x2 x3 x4 x5 x6 x7 x8 x9 x11).2.1) = colB b x3 := by
  unfold Run.runA
  dsimp only
  sl_unfold_run_names
  refine (read_store a f zero2 _ _).trans ?_
  rw [View.readAt_eq_ld, harg3.read_unread]
  exact pay_col b _ ho1 _

theorem outB  (c : Dev nD) (i : grid0.Coords) (arg2 : Memref sig .tc .vmem S2x14336 .f32) (harg2 : arg2.IsWhole) (arg3 : Memref sig .tc .vmem S2x4096 .f32) (harg3 : arg3.IsWhole) (arg4 : Memref sig .tc .vmem S1x512x4096 .bf16) (harg4 : arg4.IsWhole) (arg5 : Memref sig .tc .vmem S1x512x2048 .i8) (harg5 : arg5.IsWhole) (arg6 : Memref sig .tc .vmem S2x14336 .f32) (harg6 : arg6.IsWhole) (arg7 : Memref sig .tc .vmem S2x4096 .f32) (harg7 : arg7.IsWhole) (arg8 : Memref sig .tc .vmem S8x4096 .f32) (harg8 : arg8.IsWhole) (arg9 : Memref sig .tc .vmem S8x4096 .f32) (harg9 : arg9.IsWhole) (arg10 : Memref sig .tc .vmem S512x128 .f32) (harg10 : arg10.IsWhole) (arg11 : Memref sig .tc .vmem S512x128 .f32) (harg11 : arg11.IsWhole) (hc1 : ¬ k0_cond1 i = 1#1) (hc2 : k0_cond2 i = 1#1) (hc3 : ¬ k0_cond3 i = 1#1) (hc4 : ¬ k0_cond4 i = 1#1) (hc5 : ¬ k0_cond5 i = 1#1)
    (x2 : Vec Ideal S2x14336 .f32) (x3 : Vec Ideal S2x4096 .f32) (x4 : Vec Ideal S1x512x4096 .bf16) (x5 : Vec Ideal S1x512x2048 .i8) (x6 : Vec Ideal S2x14336 .f32) (x7 : Vec Ideal S2x4096 .f32) (x8 : Vec Ideal S8x4096 .f32) (x9 : Vec Ideal S8x4096 .f32) (x11 : Vec Ideal S512x128 .f32)
    (b : Fin 2) (q : Fin 28)  (ho2 : k0_off2 i = ![b.val, 512 * q.val])
    (hw0 : k0_off52 i 0#32 = ![b.val, 512 * q.val]) (hw1 : k0_off52 i 128#32 = ![b.val, 512 * q.val + 128])
    (hw2 : k0_off52 i 256#32 = ![b.val, 512 * q.val + 256]) (hw3 : k0_off52 i 384#32 = ![b.val, 512 * q.val + 384]) :
    arg6.view.read (Elt Ideal) (arg6.view.writes (Elt Ideal) (harg6.unread x6) (Run.runB (F := Ideal) c i arg2 harg2 arg3 harg3 arg4 harg4 arg5 harg5 arg6 harg6 arg7 harg7 arg8 harg8 arg9 harg9 arg10 harg10 arg11 harg11 hc1 hc2 hc3 hc4 hc5 x2 x3 x4 x5 x6 x7 x8 x9 x11).1)
      = outRow b q (fun R => rmV x4 x5 x8 (rowS b q x2) R * k2) x6 := by
  unfold Run.runB
  dsimp only
  have hrow : ∀ a : Memref sig .tc .vmem S512x128 .f32, ∀ f : BufTy.Contents (Elt Ideal) a.view.ty,
      a.view.read (Elt Ideal) (a.view.writes (Elt Ideal) f (Run.runB.sl.H10_1 (F := Ideal) c i arg2 harg2 x2)) = rowS b q x2 := by
    intro a f
    unfold Run.runB.sl.H10_1
    sl_unfold_run_names
    refine (read_store a f zero2 _ _).trans ?_
    rw [View.readAt_eq_ld, harg2.read_unread]
    exact pay_row b q _ ho2 _
  have key := fun X8 G9 G11 R l => loop_rows Variants.none c none i arg2 harg2 arg3 harg3 arg4 harg4 arg5 harg5 arg6 harg6 arg7 harg7 arg8 harg8 arg9 harg9 arg10 harg10 arg11 harg11 (harg4.unread x4) (harg5.unread x5) X8
    (arg10.view.writes (Elt Ideal) arg10.view.junk (Run.runB.sl.H10_1 (F := Ideal) c i arg2 harg2 x2)) G9 G11 k0_t1_loop.trips le_rfl R (by rw [trips_eq]; exact R.isLt) l
  simp only [harg4.read_unread, harg5.read_unread, hrow] at key
  refine row_out arg6 harg6 x6 b q _ hw0 hw1 hw2 hw3 _ _ _ _ _ _ _ _ (fun l => ?_) (fun l => ?_) (fun l => ?_) (fun l => ?_)
  · refine (stored arg11 _ (fun R => rmV x4 x5 x8 (rowS b q x2) R) (fun R l => (key _ _ _ R l).trans ?_) (s := 0) (by decide) rfl _ l).trans ?_
    · rw [harg8.read_unread x8]
    · simp only [Nat.zero_add]
  · refine (stored arg11 _ (fun R => rmV x4 x5 x8 (rowS b q x2) R) (fun R l => (key _ _ _ R l).trans ?_) (s := 128) (by decide) rfl _ l).trans ?_
    · rw [harg8.read_unread x8]
    · rfl
  · refine (stored arg11 _ (fun R => rmV x4 x5 x8 (rowS b q x2) R) (fun R l => (key _ _ _ R l).trans ?_) (s := 256) (by decide) rfl _ l).trans ?_
    · rw [harg8.read_unread x8]
    · rfl
  · refine (stored arg11 _ (fun R => rmV x4 x5 x8 (rowS b q x2) R) (fun R l => (key _ _ _ R l).trans ?_) (s := 384) (by decide) rfl _ l).trans ?_
    · rw [harg8.read_unread x8]
    · rfl

theorem outC  (c : Dev nD) (i : grid0.Coords) (arg2 : Memref sig .tc .vmem S2x14336 .f32) (harg2 : arg2.IsWhole) (arg3 : Memref sig .tc .vmem S2x4096 .f32) (harg3 : arg3.IsWhole) (arg4 : Memref sig .tc .vmem S1x512x4096 .bf16) (harg4 : arg4.IsWhole) (arg5 : Memref sig .tc .vmem S1x512x2048 .i8) (harg5 : arg5.IsWhole) (arg6 : Memref sig .tc .vmem S2x14336 .f32) (harg6 : arg6.IsWhole) (arg7 : Memref sig .tc .vmem S2x4096 .f32) (harg7 : arg7.IsWhole) (arg8 : Memref sig .tc .vmem S8x4096 .f32) (harg8 : arg8.IsWhole) (arg9 : Memref sig .tc .vmem S8x4096 .f32) (harg9 : arg9.IsWhole) (arg10 : Memref sig .tc .vmem S512x128 .f32) (harg10 : arg10.IsWhole) (arg11 : Memref sig .tc .vmem S512x128 .f32) (harg11 : arg11.IsWhole) (hc1 : ¬ k0_cond1 i = 1#1) (hc2 : k0_cond2 i = 1#1) (hc3 : k0_cond3 i = 1#1) (hc4 : ¬ k0_cond4 i = 1#1) (hc5 : ¬ k0_cond5 i = 1#1)
    (x2 : Vec Ideal S2x14336 .f32) (x3 : Vec Ideal S2x4096 .f32) (x4 : Vec Ideal S1x512x4096 .bf16) (x5 : Vec Ideal S1x512x2048 .i8) (x6 : Vec Ideal S2x14336 .f32) (x7 : Vec Ideal S2x4096 .f32) (x8 : Vec Ideal S8x4096 .f32) (x9 : Vec Ideal S8x4096 .f32) (x11 : Vec Ideal S512x128 .f32)
    (b : Fin 2) (q : Fin 28)  (ho2 : k0_off2 i = ![b.val, 512 * q.val])
    (hw0 : k0_off52 i 0#32 = ![b.val, 512 * q.val]) (hw1 : k0_off52 i 128#32 = ![b.val, 512 * q.val + 128])
    (hw2 : k0_off52 i 256#32 = ![b.val, 512 * q.val + 256]) (hw3 : k0_off52 i 384#32 = ![b.val, 512 * q.val + 384]) :
    arg6.view.read (Elt Ideal) (arg6.view.writes (Elt Ideal) (harg6.unread x6) (Run.runC (F := Ideal) c i arg2 harg2 arg3 harg3 arg4 harg4 arg5 harg5 arg6 harg6 arg7 harg7 arg8 harg8 arg9 harg9 arg10 harg10 arg11 harg11 hc1 hc2 hc3 hc4 hc5 x2 x3 x4 x5 x6 x7 x8 x9 x11).1)
      = outRow b q (fun R => rmV x4 x5 x8 (rowS b q x2) R * k2) x6 := by
  unfold Run.runC
  dsimp only
  have hrow : ∀ a : Memref sig .tc .vmem S512x128 .f32, ∀ f : BufTy.Contents (Elt Ideal) a.view.ty,
      a.view.read (Elt Ideal) (a.view.writes (Elt Ideal) f (Run.runC.sl.H10_1 (F := Ideal) c i arg2 harg2 x2)) = rowS b q x2 := by
    intro a f
    unfold Run.runC.sl.H10_1
    sl_unfold_run_names
    refine (read_store a f zero2 _ _).trans ?_
    rw [View.readAt_eq_ld, harg2.read_unread]
    exact pay_row b q _ ho2 _
  have key := fun X8 G9 G11 R l => loop_rows Variants.none c none i arg2 harg2 arg3 harg3 arg4 harg4 arg5 harg5 arg6 harg6 arg7 harg7 arg8 harg8 arg9 harg9 arg10 harg10 arg11 harg11 (harg4.unread x4) (harg5.unread x5) X8
    (arg10.view.writes (Elt Ideal) arg10.view.junk (Run.runC.sl.H10_1 (F := Ideal) c i arg2 harg2 x2)) G9 G11 k0_t1_loop.trips le_rfl R (by rw [trips_eq]; exact R.isLt) l
  simp only [harg4.read_unread, harg5.read_unread, hrow] at key
  refine row_out arg6 harg6 x6 b q _ hw0 hw1 hw2 hw3 _ _ _ _ _ _ _ _ (fun l => ?_) (fun l => ?_) (fun l => ?_) (fun l => ?_)
  · refine (stored arg11 _ (fun R => rmV x4 x5 x8 (rowS b q x2) R) (fun R l => (key _ _ _ R l).trans ?_) (s := 0) (by decide) rfl _ l).trans ?_
    · rw [harg8.read_unread x8]
    · simp only [Nat.zero_add]
  · refine (stored arg11 _ (fun R => rmV x4 x5 x8 (rowS b q x2) R) (fun R l => (key _ _ _ R l).trans ?_) (s := 128) (by decide) rfl _ l).trans ?_
    · rw [harg8.read_unread x8]
    · rfl
  · refine (stored arg11 _ (fun R => rmV x4 x5 x8 (rowS b q x2) R) (fun R l => (key _ _ _ R l).trans ?_) (s := 256) (by decide) rfl _ l).trans ?_
    · rw [harg8.read_unread x8]
    · rfl
  · refine (stored arg11 _ (fun R => rmV x4 x5 x8 (rowS b q x2) R) (fun R l => (key _ _ _ R l).trans ?_) (s := 384) (by decide) rfl _ l).trans ?_
    · rw [harg8.read_unread x8]
    · rfl

theorem outD  (c : Dev nD) (i : grid0.Coords) (arg2 : Memref sig .tc .vmem S2x14336 .f32) (harg2 : arg2.IsWhole) (arg3 : Memref sig .tc .vmem S2x4096 .f32) (harg3 : arg3.IsWhole) (arg4 : Memref sig .tc .vmem S1x512x4096 .bf16) (harg4 : arg4.IsWhole) (arg5 : Memref sig .tc .vmem S1x512x2048 .i8) (harg5 : arg5.IsWhole) (arg6 : Memref sig .tc .vmem S2x14336 .f32) (harg6 : arg6.IsWhole) (arg7 : Memref sig .tc .vmem S2x4096 .f32) (harg7 : arg7.IsWhole) (arg8 : Memref sig .tc .vmem S8x4096 .f32) (harg8 : arg8.IsWhole) (arg9 : Memref sig .tc .vmem S8x4096 .f32) (harg9 : arg9.IsWhole) (arg10 : Memref sig .tc .vmem S512x128 .f32) (harg10 : arg10.IsWhole) (arg11 : Memref sig .tc .vmem S512x128 .f32) (harg11 : arg11.IsWhole) (hc1 : k0_cond1 i = 1#1) (hc2 : ¬ k0_cond2 i = 1#1) (hc3 : ¬ k0_cond3 i = 1#1) (hc4 : k0_cond4 i = 1#1) (hc5 : ¬ k0_cond5 i = 1#1)
    (x2 : Vec Ideal S2x14336 .f32) (x3 : Vec Ideal S2x4096 .f32) (x4 : Vec Ideal S1x512x4096 .bf16) (x5 : Vec Ideal S1x512x2048 .i8) (x6 : Vec Ideal S2x14336 .f32) (x7 : Vec Ideal S2x4096 .f32) (x8 : Vec Ideal S8x4096 .f32) (x9 : Vec Ideal S8x4096 .f32) (x11 : Vec Ideal S512x128 .f32)
    (b : Fin 2) (q : Fin 28) (ho1 : k0_off1 i = ![b.val, 0]) (ho2 : k0_off2 i = ![b.val, 512 * q.val])
    (hw0 : k0_off53 i 0#32 = ![b.val, 512 * q.val]) (hw1 : k0_off53 i 128#32 = ![b.val, 512 * q.val + 128])
    (hw2 : k0_off53 i 256#32 = ![b.val, 512 * q.val + 256]) (hw3 : k0_off53 i 384#32 = ![b.val, 512 * q.val + 384]) :
    arg6.view.read (Elt Ideal) (arg6.view.writes (Elt Ideal) (harg6.unread x6) (Run.runD (F := Ideal) c i arg2 harg2 arg3 harg3 arg4 harg4 arg5 harg5 arg6 harg6 arg7 harg7 arg8 harg8 arg9 harg9 arg10 harg10 arg11 harg11 hc1 hc2 hc3 hc4 hc5 x2 x3 x4 x5 x6 x7 x8 x9 x11).1)
      = outRow b q (fun R => rmV x4 x5 (colB b x3) (rowS b q x2) R * k2) x6 := by
  unfold Run.runD
  dsimp only
  have hrow : ∀ a : Memref sig .tc .vmem S512x128 .f32, ∀ f : BufTy.Contents (Elt Ideal) a.view.ty,
      a.view.read (Elt Ideal) (a.view.writes (Elt Ideal) f (Run.runD.sl.H10_1 (F := Ideal) c i arg2 harg2 x2)) = rowS b q x2 := by
    intro a f
    unfold Run.runD.sl.H10_1
    sl_unfold_run_names
    refine (read_store a f zero2 _ _).trans ?_
    rw [View.readAt_eq_ld, harg2.read_unread]
    exact pay_row b q _ ho2 _
  have hcol : ∀ a : Memref sig .tc .vmem S8x4096 .f32, ∀ f : BufTy.Contents (Elt Ideal) a.view.ty,
      a.view.read (Elt Ideal) (a.view.writes (Elt Ideal) f (Run.runD.sl.H8_1 (F := Ideal) c i arg3 harg3 hc1 x3)) = colB b x3 := by
    intro a f
    sl_unfold_run_names
    refine (read_store a f zero2 _ _).trans ?_
    rw [View.readAt_eq_ld, harg3.read_unread]
    exact pay_col b _ ho1 _
  have key := fun X8 G9 G11 R l => loop_rows Variants.none c none i arg2 harg2 arg3 harg3 arg4 harg4 arg5 harg5 arg6 harg6 arg7 harg7 arg8 harg8 arg9 harg9 arg10 harg10 arg11 harg11 (harg4.unread x4) (harg5.unread x5) X8
    (arg10.view.writes (Elt Ideal) arg10.view.junk (Run.runD.sl.H10_1 (F := Ideal) c i arg2 harg2 x2)) G9 G11 k0_t1_loop.trips le_rfl R (by rw [trips_eq]; exact R.isLt) l
  simp only [harg4.read_unread, harg5.read_unread, hrow] at key
  refine row_out arg6 harg6 x6 b q _ hw0 hw1 hw2 hw3 _ _ _ _ _ _ _ _ (fun l => ?_) (fun l => ?_) (fun l => ?_) (fun l => ?_)
  · refine (stored arg11 _ (fun R => rmV x4 x5 (colB b x3) (rowS b q x2) R) (fun R l => (key _ _ _ R l).trans ?_) (s := 0) (by decide) rfl _ l).trans ?_
    · rw [hcol arg8 _]
    · simp only [Nat.zero_add]
  · refine (stored arg11 _ (fun R => rmV x4 x5 (colB b x3) (rowS b q x2) R) (fun R l => (key _ _ _ R l).trans ?_) (s := 128) (by decide) rfl _ l).trans ?_
    · rw [hcol arg8 _]
    · rfl
  · refine (stored arg11 _ (fun R => rmV x4 x5 (colB b x3) (rowS b q x2) R) (fun R l => (key _ _ _ R l).trans ?_) (s := 256) (by decide) rfl _ l).trans ?_
    · rw [hcol arg8 _]
    · rfl
  · refine (stored arg11 _ (fun R => rmV x4 x5 (colB b x3) (rowS b q x2) R) (fun R l => (key _ _ _ R l).trans ?_) (s := 384) (by decide) rfl _ l).trans ?_
    · rw [hcol arg8 _]
    · rfl

theorem colD  (c : Dev nD) (i : grid0.Coords) (arg2 : Memref sig .tc .vmem S2x14336 .f32) (harg2 : arg2.IsWhole) (arg3 : Memref sig .tc .vmem S2x4096 .f32) (harg3 : arg3.IsWhole) (arg4 : Memref sig .tc .vmem S1x512x4096 .bf16) (harg4 : arg4.IsWhole) (arg5 : Memref sig .tc .vmem S1x512x2048 .i8) (harg5 : arg5.IsWhole) (arg6 : Memref sig .tc .vmem S2x14336 .f32) (harg6 : arg6.IsWhole) (arg7 : Memref sig .tc .vmem S2x4096 .f32) (harg7 : arg7.IsWhole) (arg8 : Memref sig .tc .vmem S8x4096 .f32) (harg8 : arg8.IsWhole) (arg9 : Memref sig .tc .vmem S8x4096 .f32) (harg9 : arg9.IsWhole) (arg10 : Memref sig .tc .vmem S512x128 .f32) (harg10 : arg10.IsWhole) (arg11 : Memref sig .tc .vmem S512x128 .f32) (harg11 : arg11.IsWhole) (hc1 : k0_cond1 i = 1#1) (hc2 : ¬ k0_cond2 i = 1#1) (hc3 : ¬ k0_cond3 i = 1#1) (hc4 : k0_cond4 i = 1#1) (hc5 : ¬ k0_cond5 i = 1#1)
    (x2 : Vec Ideal S2x14336 .f32) (x3 : Vec Ideal S2x4096 .f32) (x4 : Vec Ideal S1x512x4096 .bf16) (x5 : Vec Ideal S1x512x2048 .i8) (x6 : Vec Ideal S2x14336 .f32) (x7 : Vec Ideal S2x4096 .f32) (x8 : Vec Ideal S8x4096 .f32) (x9 : Vec Ideal S8x4096 .f32) (x11 : Vec Ideal S512x128 .f32)
    (b : Fin 2) (ho1 : k0_off1 i = ![b.val, 0]) (a : Memref sig .tc .vmem S8x4096 .f32) (f : BufTy.Contents (Elt Ideal) a.view.ty) :
    a.view.read (Elt Ideal) (a.view.writes (Elt Ideal) f (Run.runD (F := Ideal) c i arg2 harg2 arg3 harg3 arg4 harg4 arg5 harg5 arg6 harg6 arg7 harg7 arg8 harg8 arg9 harg9 arg10 harg10 arg11 harg11 hc1 hc2 hc3 hc4 hc5 x2 x3 x4 x5 x6 x7 x8 x9 x11).2.1) = colB b x3 := by
  unfold Run.runD
  dsimp only
  sl_unfold_run_names
  refine (read_store a f zero2 _ _).trans ?_
  rw [View.readAt_eq_ld, harg3.read_unread]
  exact pay_col b _ ho1 _

theorem outE  (c : Dev nD) (i : grid0.Coords) (arg2 : Memref sig .tc .vmem S2x14336 .f32) (harg2 : arg2.IsWhole) (arg3 : Memref sig .tc .vmem S2x4096 .f32) (harg3 : arg3.IsWhole) (arg4 : Memref sig .tc .vmem S1x512x4096 .bf16) (harg4 : arg4.IsWhole) (arg5 : Memref sig .tc .vmem S1x512x2048 .i8) (harg5 : arg5.IsWhole) (arg6 : Memref sig .tc .vmem S2x14336 .f32) (harg6 : arg6.IsWhole) (arg7 : Memref sig .tc .vmem S2x4096 .f32) (harg7 : arg7.IsWhole) (arg8 : Memref sig .tc .vmem S8x4096 .f32) (harg8 : arg8.IsWhole) (arg9 : Memref sig .tc .vmem S8x4096 .f32) (harg9 : arg9.IsWhole) (arg10 : Memref sig .tc .vmem S512x128 .f32) (harg10 : arg10.IsWhole) (arg11 : Memref sig .tc .vmem S512x128 .f32) (harg11 : arg11.IsWhole) (hc1 : ¬ k0_cond1 i = 1#1) (hc2 : ¬ k0_cond2 i = 1#1) (hc3 : ¬ k0_cond3 i = 1#1) (hc4 : k0_cond4 i = 1#1) (hc5 : ¬ k0_cond5 i = 1#1)
    (x2 : Vec Ideal S2x14336 .f32) (x3 : Vec Ideal S2x4096 .f32) (x4 : Vec Ideal S1x512x4096 .bf16) (x5 : Vec Ideal S1x512x2048 .i8) (x6 : Vec Ideal S2x14336 .f32) (x7 : Vec Ideal S2x4096 .f32) (x8 : Vec Ideal S8x4096 .f32) (x9 : Vec Ideal S8x4096 .f32) (x11 : Vec Ideal S512x128 .f32)
    (b : Fin 2) (q : Fin 28)  (ho2 : k0_off2 i = ![b.val, 512 * q.val])
    (hw0 : k0_off53 i 0#32 = ![b.val, 512 * q.val]) (hw1 : k0_off53 i 128#32 = ![b.val, 512 * q.val + 128])
    (hw2 : k0_off53 i 256#32 = ![b.val, 512 * q.val + 256]) (hw3 : k0_off53 i 384#32 = ![b.val, 512 * q.val + 384]) :
    arg6.view.read (Elt Ideal) (arg6.view.writes (Elt Ideal) (harg6.unread x6) (Run.runE (F := Ideal) c i arg2 harg2 arg3 harg3 arg4 harg4 arg5 harg5 arg6 harg6 arg7 harg7 arg8 harg8 arg9 harg9 arg10 harg10 arg11 harg11 hc1 hc2 hc3 hc4 hc5 x2 x3 x4 x5 x6 x7 x8 x9 x11).1)
      = outRow b q (fun R => rmV x4 x5 x8 (rowS b q x2) R * k2) x6 := by
  unfold Run.runE
  dsimp only
  have hrow : ∀ a : Memref sig .tc .vmem S512x128 .f32, ∀ f : BufTy.Contents (Elt Ideal) a.view.ty,
      a.view.read (Elt Ideal) (a.view.writes (Elt Ideal) f (Run.runE.sl.H10_1 (F := Ideal) c i arg2 harg2 x2)) = rowS b q x2 := by
    intro a f
    unfold Run.runE.sl.H10_1
    sl_unfold_run_names
    refine (read_store a f zero2 _ _).trans ?_
    rw [View.readAt_eq_ld, harg2.read_unread]
    exact pay_row b q _ ho2 _
  have key := fun X8 G9 G11 R l => loop_rows Variants.none c none i arg2 harg2 arg3 harg3 arg4 harg4 arg5 harg5 arg6 harg6 arg7 harg7 arg8 harg8 arg9 harg9 arg10 harg10 arg11 harg11 (harg4.unread x4) (harg5.unread x5) X8
    (arg10.view.writes (Elt Ideal) arg10.view.junk (Run.runE.sl.H10_1 (F := Ideal) c i arg2 harg2 x2)) G9 G11 k0_t1_loop.trips le_rfl R (by rw [trips_eq]; exact R.isLt) l
  simp only [harg4.read_unread, harg5.read_unread, hrow] at key
  refine row_out arg6 harg6 x6 b q _ hw0 hw1 hw2 hw3 _ _ _ _ _ _ _ _ (fun l => ?_) (fun l => ?_) (fun l => ?_) (fun l => ?_)
  · refine (stored arg11 _ (fun R => rmV x4 x5 x8 (rowS b q x2) R) (fun R l => (key _ _ _ R l).trans ?_) (s := 0) (by decide) rfl _ l).trans ?_
    · rw [harg8.read_unread x8]
    · simp only [Nat.zero_add]
  · refine (stored arg11 _ (fun R => rmV x4 x5 x8 (rowS b q x2) R) (fun R l => (key _ _ _ R l).trans ?_) (s := 128) (by decide) rfl _ l).trans ?_
    · rw [harg8.read_unread x8]
    · rfl
  · refine (stored arg11 _ (fun R => rmV x4 x5 x8 (rowS b q x2) R) (fun R l => (key _ _ _ R l).trans ?_) (s := 256) (by decide) rfl _ l).trans ?_
    · rw [harg8.read_unread x8]
    · rfl
  · refine (stored arg11 _ (fun R => rmV x4 x5 x8 (rowS b q x2) R) (fun R l => (key _ _ _ R l).trans ?_) (s := 384) (by decide) rfl _ l).trans ?_
    · rw [harg8.read_unread x8]
    · rfl

theorem outF  (c : Dev nD) (i : grid0.Coords) (arg2 : Memref sig .tc .vmem S2x14336 .f32) (harg2 : arg2.IsWhole) (arg3 : Memref sig .tc .vmem S2x4096 .f32) (harg3 : arg3.IsWhole) (arg4 : Memref sig .tc .vmem S1x512x4096 .bf16) (harg4 : arg4.IsWhole) (arg5 : Memref sig .tc .vmem S1x512x2048 .i8) (harg5 : arg5.IsWhole) (arg6 : Memref sig .tc .vmem S2x14336 .f32) (harg6 : arg6.IsWhole) (arg7 : Memref sig .tc .vmem S2x4096 .f32) (harg7 : arg7.IsWhole) (arg8 : Memref sig .tc .vmem S8x4096 .f32) (harg8 : arg8.IsWhole) (arg9 : Memref sig .tc .vmem S8x4096 .f32) (harg9 : arg9.IsWhole) (arg10 : Memref sig .tc .vmem S512x128 .f32) (harg10 : arg10.IsWhole) (arg11 : Memref sig .tc .vmem S512x128 .f32) (harg11 : arg11.IsWhole) (hc1 : ¬ k0_cond1 i = 1#1) (hc2 : ¬ k0_cond2 i = 1#1) (hc3 : ¬ k0_cond3 i = 1#1) (hc4 : k0_cond4 i = 1#1) (hc5 : k0_cond5 i = 1#1)
    (x2 : Vec Ideal S2x14336 .f32) (x3 : Vec Ideal S2x4096 .f32) (x4 : Vec Ideal S1x512x4096 .bf16) (x5 : Vec Ideal S1x512x2048 .i8) (x6 : Vec Ideal S2x14336 .f32) (x7 : Vec Ideal S2x4096 .f32) (x8 : Vec Ideal S8x4096 .f32) (x9 : Vec Ideal S8x4096 .f32) (x11 : Vec Ideal S512x128 .f32)
    (b : Fin 2) (q : Fin 28)  (ho2 : k0_off2 i = ![b.val, 512 * q.val])
    (hw0 : k0_off53 i 0#32 = ![b.val, 512 * q.val]) (hw1 : k0_off53 i 128#32 = ![b.val, 512 * q.val + 128])
    (hw2 : k0_off53 i 256#32 = ![b.val, 512 * q.val + 256]) (hw3 : k0_off53 i 384#32 = ![b.val, 512 * q.val + 384]) :
    arg6.view.read (Elt Ideal) (arg6.view.writes (Elt Ideal) (harg6.unread x6) (Run.runF (F := Ideal) c i arg2 harg2 arg3 harg3 arg4 harg4 arg5 harg5 arg6 harg6 arg7 harg7 arg8 harg8 arg9 harg9 arg10 harg10 arg11 harg11 hc1 hc2 hc3 hc4 hc5 x2 x3 x4 x5 x6 x7 x8 x9 x11).1)
      = outRow b q (fun R => rmV x4 x5 x8 (rowS b q x2) R * k2) x6 := by
  unfold Run.runF
  dsimp only
  have hrow : ∀ a : Memref sig .tc .vmem S512x128 .f32, ∀ f : BufTy.Contents (Elt Ideal) a.view.ty,
      a.view.read (Elt Ideal) (a.view.writes (Elt Ideal) f (Run.runF.sl.H10_1 (F := Ideal) c i arg2 harg2 x2)) = rowS b q x2 := by
    intro a f
    unfold Run.runF.sl.H10_1
    sl_unfold_run_names
    refine (read_store a f zero2 _ _).trans ?_
    rw [View.readAt_eq_ld, harg2.read_unread]
    exact pay_row b q _ ho2 _
  have key := fun X8 G9 G11 R l => loop_rows Variants.none c none i arg2 harg2 arg3 harg3 arg4 harg4 arg5 harg5 arg6 harg6 arg7 harg7 arg8 harg8 arg9 harg9 arg10 harg10 arg11 harg11 (harg4.unread x4) (harg5.unread x5) X8
    (arg10.view.writes (Elt Ideal) arg10.view.junk (Run.runF.sl.H10_1 (F := Ideal) c i arg2 harg2 x2)) G9 G11 k0_t1_loop.trips le_rfl R (by rw [trips_eq]; exact R.isLt) l
  simp only [harg4.read_unread, harg5.read_unread, hrow] at key
  refine row_out arg6 harg6 x6 b q _ hw0 hw1 hw2 hw3 _ _ _ _ _ _ _ _ (fun l => ?_) (fun l => ?_) (fun l => ?_) (fun l => ?_)
  · refine (stored arg11 _ (fun R => rmV x4 x5 x8 (rowS b q x2) R) (fun R l => (key _ _ _ R l).trans ?_) (s := 0) (by decide) rfl _ l).trans ?_
    · rw [harg8.read_unread x8]
    · simp only [Nat.zero_add]
  · refine (stored arg11 _ (fun R => rmV x4 x5 x8 (rowS b q x2) R) (fun R l => (key _ _ _ R l).trans ?_) (s := 128) (by decide) rfl _ l).trans ?_
    · rw [harg8.read_unread x8]
    · rfl
  · refine (stored arg11 _ (fun R => rmV x4 x5 x8 (rowS b q x2) R) (fun R l => (key _ _ _ R l).trans ?_) (s := 256) (by decide) rfl _ l).trans ?_
    · rw [harg8.read_unread x8]
    · rfl
  · refine (stored arg11 _ (fun R => rmV x4 x5 x8 (rowS b q x2) R) (fun R l => (key _ _ _ R l).trans ?_) (s := 384) (by decide) rfl _ l).trans ?_
    · rw [harg8.read_unread x8]
    · rfl

end Cert.StatsIdeal.Value

end
-- ==== Proof.StatsCol.lean ====
module

public import proofs.«01_k».proof.Proof.StatsPoint
public import proofs.«01_k».proof.Proof.Gen.StatsIdeal.Skeleton
public import proofs.«01_k».proof.Proof.Gen.StatsIdeal.Loops

@[expose] public section

/-! What the statistics kernel's loop leaves in the scratch buffer of column maxima: in each of its eight rows, the largest
new second moment of every eighth row of the block, and what it held before. -/

set_option maxRecDepth 16384

noncomputable section

namespace Cert.StatsIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)
open Cert.StatsIdeal Cert.StatsIdeal.Gen
open Cert.KernelIdeal.Value (ld2 idx2_ex)

/-- A tile's column maxima over its rows eight apart, joined with the old ones. -/
def colP (old : FVec Ideal S8x128 .f32) (v : FVec Ideal S32x128 .f32) : FVec Ideal S8x128 .f32 :=
  shapeCast S8x128 (maximumf old (multiReduction .maximumf [0] S8x128 (shapeCast S4x8x128 v shapeCasts_S32x128_S4x8x128)
    0xFF800000#32 reduces_S4x8x128_S8x128 (.inl rfl) rfl)) shapeCasts_S8x128_S8x128

theorem colP_apply (old : FVec Ideal S8x128 .f32) (v : FVec Ideal S32x128 .f32) (s : Fin 8) (l : Fin 128) :
    colP old v (ix2 s l) = max (old (ix2 s l)) (Finset.univ.fold max (Ideal.ofBits .f32 0xFF800000#32)
      (fun a : Fin 4 => v (ix2 ⟨a.val * 8 + s.val, by omega⟩ l))) := by
  unfold colP
  pointwise

/-- The pieces of `L` put `T` in the column blocks of `S`. -/
def Puts (a : Memref sig .tc .vmem S8x4096 .f32) (f : BufTy.Contents (Elt Ideal) a.view.ty) (T : Fin 8 → Fin 4096 → EReal)
    (L : List (View.Piece (Elt Ideal) S8x4096 .f32)) (S : ℕ → Prop) : Prop :=
  ∀ (s : Fin 8) (C : Fin 4096), S (C.val / 128) → a.view.read (Elt Ideal) (a.view.writes (Elt Ideal) f L) (ix2 s C) = T s C

theorem Puts.nil (a : Memref sig .tc .vmem S8x4096 .f32) (f : BufTy.Contents (Elt Ideal) a.view.ty) (T : Fin 8 → Fin 4096 → EReal) :
    Puts a f T [] (fun _ => False) := fun _ _ h => h.elim

theorem Puts.cons {a : Memref sig .tc .vmem S8x4096 .f32} {f : BufTy.Contents (Elt Ideal) a.view.ty} {T : Fin 8 → Fin 4096 → EReal}
    {L : List (View.Piece (Elt Ideal) S8x4096 .f32)} {S : ℕ → Prop} (h : Puts a f T L S) (b : Fin 32) {o : Fin 2 → ℕ}
    (ho : o = ![0, 128 * b.val]) (inb : ∀ x, o x + S8x128.size x ≤ S8x4096.size x) (p : Vec Ideal S8x128 .f32)
    (hp : ∀ (s : Fin 8) (l : Fin 128), p (ix2 s l) = T s ⟨128 * b.val + l.val, by omega⟩) :
    Puts a f T ((⟨Rect.unit (s := S8x4096) o S8x128.size inb, p⟩ : View.Piece (Elt Ideal) S8x4096 .f32) :: L)
      (fun x => x = b.val ∨ S x) := by
  intro s C hC
  by_cases hb : C.val / 128 = b.val
  · refine (View.read_writes_cons_unit_of_mem _ _ inb _ _ (ix2 s C) (ix2 s (⟨C.val % 128, by omega⟩ : Fin 128)) ho (fun x => ?_)).trans ?_
    · match x with
      | ⟨0, _⟩ => exact (Nat.zero_add _).symm
      | ⟨1, _⟩ => show C.val = 128 * b.val + C.val % 128; omega
    · rw [hp]
      congr 1
      exact Fin.ext (by show 128 * b.val + C.val % 128 = C.val; omega)
  · refine (View.read_writes_cons_unit_of_not_mem _ _ inb _ _ _ ho (1 : Fin 2) ?_).trans (h s C (hC.resolve_left hb))
    show C.val < 128 * b.val ∨ 128 * b.val + 128 ≤ C.val
    omega

section Trip

variable (arg4 : Memref sig .tc .vmem S1x512x4096 .bf16) (arg5 : Memref sig .tc .vmem S1x512x2048 .i8)
  (arg8 : Memref sig .tc .vmem S8x4096 .f32) (arg9 : Memref sig .tc .vmem S8x4096 .f32) (arg10 : Memref sig .tc .vmem S512x128 .f32)
  (X_arg4 : BufTy.Contents (Elt Ideal) arg4.view.ty) (X_arg5 : BufTy.Contents (Elt Ideal) arg5.view.ty)
  (X_arg8 : BufTy.Contents (Elt Ideal) arg8.view.ty) (X_arg10 : BufTy.Contents (Elt Ideal) arg10.view.ty)
  (k : Fin k0_t1_loop.trips) (f9 : BufTy.Contents (Elt Ideal) arg9.view.ty) (s : Fin 8)

/-- The column maxima after the trip, from before it. -/
def cT (C : Fin 4096) : EReal :=
  max (arg9.view.read (Elt Ideal) f9 (ix2 s C)) (Finset.univ.fold max (Ideal.ofBits .f32 0xFF800000#32) (fun a : Fin 4 =>
    sV (arg4.view.read (Elt Ideal) X_arg4) (arg5.view.read (Elt Ideal) X_arg5) (arg8.view.read (Elt Ideal) X_arg8)
      (arg10.view.read (Elt Ideal) X_arg10) ⟨32 * (k.cast trips_eq).val + (a.val * 8 + s.val), by omega⟩ C))

theorem col_tile {b : Fin 32} {o : Fin 2 → ℕ} (ho : o = ![0, 128 * b.val]) (inb : ∀ x, o x + S8x128.size x ≤ S8x4096.size x)
    (v : FVec Ideal S32x128 .f32) (hv : ∀ (r : Fin 32) (l : Fin 128), v (ix2 r l) = tV arg4 arg5 arg8 arg10 X_arg4 X_arg5 X_arg8 X_arg10 k r l b) (l : Fin 128) :
    colP (View.readAt (Elt Ideal) arg9.view (Rect.unit (s := S8x4096) o S8x128.size inb).toLoadRect f9) v (ix2 s l)
      = cT arg4 arg5 arg8 arg9 arg10 X_arg4 X_arg5 X_arg8 X_arg10 k f9 s ⟨128 * b.val + l.val, by omega⟩ := by
  rw [colP_apply]
  have h9 : View.readAt (Elt Ideal) arg9.view (Rect.unit (s := S8x4096) o S8x128.size inb).toLoadRect f9 (ix2 s l)
      = arg9.view.read (Elt Ideal) f9 (ix2 ⟨0 + s.val, by omega⟩ ⟨128 * b.val + l.val, by omega⟩) :=
    ld2 (arg9.view.read (Elt Ideal) f9) o _ _ ho inb s l (by omega) (by omega)
  rw [h9]
  simp only [hv]
  unfold cT tV
  simp only [Nat.zero_add]

theorem ctile0 (l : Fin 128) : trip_k0_t1.sl.v114 (F := Ideal) arg4 arg5 arg8 arg9 arg10 X_arg4 X_arg5 X_arg8 X_arg10 k f9 (ix2 s l) = cT arg4 arg5 arg8 arg9 arg10 X_arg4 X_arg5 X_arg8 X_arg10 k f9 s ⟨128 * 0 + l.val, by omega⟩ :=
  col_tile arg4 arg5 arg8 arg9 arg10 X_arg4 X_arg5 X_arg8 X_arg10 k f9 s (b := 0) rfl _ _ (fun r l => tile0 arg4 arg5 arg8 arg10 X_arg4 X_arg5 X_arg8 X_arg10 k r l) l

theorem ctile1 (l : Fin 128) : trip_k0_t1.sl.v135 (F := Ideal) arg4 arg5 arg8 arg9 arg10 X_arg4 X_arg5 X_arg8 X_arg10 k f9 (ix2 s l) = cT arg4 arg5 arg8 arg9 arg10 X_arg4 X_arg5 X_arg8 X_arg10 k f9 s ⟨128 * 16 + l.val, by omega⟩ :=
  col_tile arg4 arg5 arg8 arg9 arg10 X_arg4 X_arg5 X_arg8 X_arg10 k f9 s (b := 16) rfl _ _ (fun r l => tile1 arg4 arg5 arg8 arg10 X_arg4 X_arg5 X_arg8 X_arg10 k r l) l

theorem ctile2 (l : Fin 128) : trip_k0_t1.sl.v178 (F := Ideal) arg4 arg5 arg8 arg9 arg10 X_arg4 X_arg5 X_arg8 X_arg10 k f9 (ix2 s l) = cT arg4 arg5 arg8 arg9 arg10 X_arg4 X_arg5 X_arg8 X_arg10 k f9 s ⟨128 * 1 + l.val, by omega⟩ :=
  col_tile arg4 arg5 arg8 arg9 arg10 X_arg4 X_arg5 X_arg8 X_arg10 k f9 s (b := 1) rfl _ _ (fun r l => tile2 arg4 arg5 arg8 arg10 X_arg4 X_arg5 X_arg8 X_arg10 k r l) l

theorem ctile3 (l : Fin 128) : trip_k0_t1.sl.v199 (F := Ideal) arg4 arg5 arg8 arg9 arg10 X_arg4 X_arg5 X_arg8 X_arg10 k f9 (ix2 s l) = cT arg4 arg5 arg8 arg9 arg10 X_arg4 X_arg5 X_arg8 X_arg10 k f9 s ⟨128 * 17 + l.val, by omega⟩ :=
  col_tile arg4 arg5 arg8 arg9 arg10 X_arg4 X_arg5 X_arg8 X_arg10 k f9 s (b := 17) rfl _ _ (fun r l => tile3 arg4 arg5 arg8 arg10 X_arg4 X_arg5 X_arg8 X_arg10 k r l) l

theorem ctile4 (l : Fin 128) : trip_k0_t1.sl.v242 (F := Ideal) arg4 arg5 arg8 arg9 arg10 X_arg4 X_arg5 X_arg8 X_arg10 k f9 (ix2 s l) = cT arg4 arg5 arg8 arg9 arg10 X_arg4 X_arg5 X_arg8 X_arg10 k f9 s ⟨128 * 2 + l.val, by omega⟩ :=
  col_tile arg4 arg5 arg8 arg9 arg10 X_arg4 X_arg5 X_arg8 X_arg10 k f9 s (b := 2) rfl _ _ (fun r l => tile4 arg4 arg5 arg8 arg10 X_arg4 X_arg5 X_arg8 X_arg10 k r l) l

theorem ctile5 (l : Fin 128) : trip_k0_t1.sl.v263 (F := Ideal) arg4 arg5 arg8 arg9 arg10 X_arg4 X_arg5 X_arg8 X_arg10 k f9 (ix2 s l) = cT arg4 arg5 arg8 arg9 arg10 X_arg4 X_arg5 X_arg8 X_arg10 k f9 s ⟨128 * 18 + l.val, by omega⟩ :=
  col_tile arg4 arg5 arg8 arg9 arg10 X_arg4 X_arg5 X_arg8 X_arg10 k f9 s (b := 18) rfl _ _ (fun r l => tile5 arg4 arg5 arg8 arg10 X_arg4 X_arg5 X_arg8 X_arg10 k r l) l

theorem ctile6 (l : Fin 128) : trip_k0_t1.sl.v306 (F := Ideal) arg4 arg5 arg8 arg9 arg10 X_arg4 X_arg5 X_arg8 X_arg10 k f9 (ix2 s l) = cT arg4 arg5 arg8 arg9 arg10 X_arg4 X_arg5 X_arg8 X_arg10 k f9 s ⟨128 * 3 + l.val, by omega⟩ :=
  col_tile arg4 arg5 arg8 arg9 arg10 X_arg4 X_arg5 X_arg8 X_arg10 k f9 s (b := 3) rfl _ _ (fun r l => tile6 arg4 arg5 arg8 arg10 X_arg4 X_arg5 X_arg8 X_arg10 k r l) l

theorem ctile7 (l : Fin 128) : trip_k0_t1.sl.v327 (F := Ideal) arg4 arg5 arg8 arg9 arg10 X_arg4 X_arg5 X_arg8 X_arg10 k f9 (ix2 s l) = cT arg4 arg5 arg8 arg9 arg10 X_arg4 X_arg5 X_arg8 X_arg10 k f9 s ⟨128 * 19 + l.val, by omega⟩ :=
  col_tile arg4 arg5 arg8 arg9 arg10 X_arg4 X_arg5 X_arg8 X_arg10 k f9 s (b := 19) rfl _ _ (fun r l => tile7 arg4 arg5 arg8 arg10 X_arg4 X_arg5 X_arg8 X_arg10 k r l) l

theorem ctile8 (l : Fin 128) : trip_k0_t1.sl.v370 (F := Ideal) arg4 arg5 arg8 arg9 arg10 X_arg4 X_arg5 X_arg8 X_arg10 k f9 (ix2 s l) = cT arg4 arg5 arg8 arg9 arg10 X_arg4 X_arg5 X_arg8 X_arg10 k f9 s ⟨128 * 4 + l.val, by omega⟩ :=
  col_tile arg4 arg5 arg8 arg9 arg10 X_arg4 X_arg5 X_arg8 X_arg10 k f9 s (b := 4) rfl _ _ (fun r l => tile8 arg4 arg5 arg8 arg10 X_arg4 X_arg5 X_arg8 X_arg10 k r l) l

theorem ctile9 (l : Fin 128) : trip_k0_t1.sl.v391 (F := Ideal) arg4 arg5 arg8 arg9 arg10 X_arg4 X_arg5 X_arg8 X_arg10 k f9 (ix2 s l) = cT arg4 arg5 arg8 arg9 arg10 X_arg4 X_arg5 X_arg8 X_arg10 k f9 s ⟨128 * 20 + l.val, by omega⟩ :=
  col_tile arg4 arg5 arg8 arg9 arg10 X_arg4 X_arg5 X_arg8 X_arg10 k f9 s (b := 20) rfl _ _ (fun r l => tile9 arg4 arg5 arg8 arg10 X_arg4 X_arg5 X_arg8 X_arg10 k r l) l

theorem ctile10 (l : Fin 128) : trip_k0_t1.sl.v434 (F := Ideal) arg4 arg5 arg8 arg9 arg10 X_arg4 X_arg5 X_arg8 X_arg10 k f9 (ix2 s l) = cT arg4 arg5 arg8 arg9 arg10 X_arg4 X_arg5 X_arg8 X_arg10 k f9 s ⟨128 * 5 + l.val, by omega⟩ :=
  col_tile arg4 arg5 arg8 arg9 arg10 X_arg4 X_arg5 X_arg8 X_arg10 k f9 s (b := 5) rfl _ _ (fun r l => tile10 arg4 arg5 arg8 arg10 X_arg4 X_arg5 X_arg8 X_arg10 k r l) l

theorem ctile11 (l : Fin 128) : trip_k0_t1.sl.v455 (F := Ideal) arg4 arg5 arg8 arg9 arg10 X_arg4 X_arg5 X_arg8 X_arg10 k f9 (ix2 s l) = cT arg4 arg5 arg8 arg9 arg10 X_arg4 X_arg5 X_arg8 X_arg10 k f9 s ⟨128 * 21 + l.val, by omega⟩ :=
  col_tile arg4 arg5 arg8 arg9 arg10 X_arg4 X_arg5 X_arg8 X_arg10 k f9 s (b := 21) rfl _ _ (fun r l => tile11 arg4 arg5 arg8 arg10 X_arg4 X_arg5 X_arg8 X_arg10 k r l) l

theorem ctile12 (l : Fin 128) : trip_k0_t1.sl.v498 (F := Ideal) arg4 arg5 arg8 arg9 arg10 X_arg4 X_arg5 X_arg8 X_arg10 k f9 (ix2 s l) = cT arg4 arg5 arg8 arg9 arg10 X_arg4 X_arg5 X_arg8 X_arg10 k f9 s ⟨128 * 6 + l.val, by omega⟩ :=
  col_tile arg4 arg5 arg8 arg9 arg10 X_arg4 X_arg5 X_arg8 X_arg10 k f9 s (b := 6) rfl _ _ (fun r l => tile12 arg4 arg5 arg8 arg10 X_arg4 X_arg5 X_arg8 X_arg10 k r l) l

theorem ctile13 (l : Fin 128) : trip_k0_t1.sl.v519 (F := Ideal) arg4 arg5 arg8 arg9 arg10 X_arg4 X_arg5 X_arg8 X_arg10 k f9 (ix2 s l) = cT arg4 arg5 arg8 arg9 arg10 X_arg4 X_arg5 X_arg8 X_arg10 k f9 s ⟨128 * 22 + l.val, by omega⟩ :=
  col_tile arg4 arg5 arg8 arg9 arg10 X_arg4 X_arg5 X_arg8 X_arg10 k f9 s (b := 22) rfl _ _ (fun r l => tile13 arg4 arg5 arg8 arg10 X_arg4 X_arg5 X_arg8 X_arg10 k r l) l

theorem ctile14 (l : Fin 128) : trip_k0_t1.sl.v562 (F := Ideal) arg4 arg5 arg8 arg9 arg10 X_arg4 X_arg5 X_arg8 X_arg10 k f9 (ix2 s l) = cT arg4 arg5 arg8 arg9 arg10 X_arg4 X_arg5 X_arg8 X_arg10 k f9 s ⟨128 * 7 + l.val, by omega⟩ :=
  col_tile arg4 arg5 arg8 arg9 arg10 X_arg4 X_arg5 X_arg8 X_arg10 k f9 s (b := 7) rfl _ _ (fun r l => tile14 arg4 arg5 arg8 arg10 X_arg4 X_arg5 X_arg8 X_arg10 k r l) l

theorem ctile15 (l : Fin 128) : trip_k0_t1.sl.v583 (F := Ideal) arg4 arg5 arg8 arg9 arg10 X_arg4 X_arg5 X_arg8 X_arg10 k f9 (ix2 s l) = cT arg4 arg5 arg8 arg9 arg10 X_arg4 X_arg5 X_arg8 X_arg10 k f9 s ⟨128 * 23 + l.val, by omega⟩ :=
  col_tile arg4 arg5 arg8 arg9 arg10 X_arg4 X_arg5 X_arg8 X_arg10 k f9 s (b := 23) rfl _ _ (fun r l => tile15 arg4 arg5 arg8 arg10 X_arg4 X_arg5 X_arg8 X_arg10 k r l) l

theorem ctile16 (l : Fin 128) : trip_k0_t1.sl.v626 (F := Ideal) arg4 arg5 arg8 arg9 arg10 X_arg4 X_arg5 X_arg8 X_arg10 k f9 (ix2 s l) = cT arg4 arg5 arg8 arg9 arg10 X_arg4 X_arg5 X_arg8 X_arg10 k f9 s ⟨128 * 8 + l.val, by omega⟩ :=
  col_tile arg4 arg5 arg8 arg9 arg10 X_arg4 X_arg5 X_arg8 X_arg10 k f9 s (b := 8) rfl _ _ (fun r l => tile16 arg4 arg5 arg8 arg10 X_arg4 X_arg5 X_arg8 X_arg10 k r l) l

theorem ctile17 (l : Fin 128) : trip_k0_t1.sl.v647 (F := Ideal) arg4 arg5 arg8 arg9 arg10 X_arg4 X_arg5 X_arg8 X_arg10 k f9 (ix2 s l) = cT arg4 arg5 arg8 arg9 arg10 X_arg4 X_arg5 X_arg8 X_arg10 k f9 s ⟨128 * 24 + l.val, by omega⟩ :=
  col_tile arg4 arg5 arg8 arg9 arg10 X_arg4 X_arg5 X_arg8 X_arg10 k f9 s (b := 24) rfl _ _ (fun r l => tile17 arg4 arg5 arg8 arg10 X_arg4 X_arg5 X_arg8 X_arg10 k r l) l

theorem ctile18 (l : Fin 128) : trip_k0_t1.sl.v690 (F := Ideal) arg4 arg5 arg8 arg9 arg10 X_arg4 X_arg5 X_arg8 X_arg10 k f9 (ix2 s l) = cT arg4 arg5 arg8 arg9 arg10 X_arg4 X_arg5 X_arg8 X_arg10 k f9 s ⟨128 * 9 + l.val, by omega⟩ :=
  col_tile arg4 arg5 arg8 arg9 arg10 X_arg4 X_arg5 X_arg8 X_arg10 k f9 s (b := 9) rfl _ _ (fun r l => tile18 arg4 arg5 arg8 arg10 X_arg4 X_arg5 X_arg8 X_arg10 k r l) l

theorem ctile19 (l : Fin 128) : trip_k0_t1.sl.v711 (F := Ideal) arg4 arg5 arg8 arg9 arg10 X_arg4 X_arg5 X_arg8 X_arg10 k f9 (ix2 s l) = cT arg4 arg5 arg8 arg9 arg10 X_arg4 X_arg5 X_arg8 X_arg10 k f9 s ⟨128 * 25 + l.val, by omega⟩ :=
  col_tile arg4 arg5 arg8 arg9 arg10 X_arg4 X_arg5 X_arg8 X_arg10 k f9 s (b := 25) rfl _ _ (fun r l => tile19 arg4 arg5 arg8 arg10 X_arg4 X_arg5 X_arg8 X_arg10 k r l) l

theorem ctile20 (l : Fin 128) : trip_k0_t1.sl.v754 (F := Ideal) arg4 arg5 arg8 arg9 arg10 X_arg4 X_arg5 X_arg8 X_arg10 k f9 (ix2 s l) = cT arg4 arg5 arg8 arg9 arg10 X_arg4 X_arg5 X_arg8 X_arg10 k f9 s ⟨128 * 10 + l.val, by omega⟩ :=
  col_tile arg4 arg5 arg8 arg9 arg10 X_arg4 X_arg5 X_arg8 X_arg10 k f9 s (b := 10) rfl _ _ (fun r l => tile20 arg4 arg5 arg8 arg10 X_arg4 X_arg5 X_arg8 X_arg10 k r l) l

theorem ctile21 (l : Fin 128) : trip_k0_t1.sl.v775 (F := Ideal) arg4 arg5 arg8 arg9 arg10 X_arg4 X_arg5 X_arg8 X_arg10 k f9 (ix2 s l) = cT arg4 arg5 arg8 arg9 arg10 X_arg4 X_arg5 X_arg8 X_arg10 k f9 s ⟨128 * 26 + l.val, by omega⟩ :=
  col_tile arg4 arg5 arg8 arg9 arg10 X_arg4 X_arg5 X_arg8 X_arg10 k f9 s (b := 26) rfl _ _ (fun r l => tile21 arg4 arg5 arg8 arg10 X_arg4 X_arg5 X_arg8 X_arg10 k r l) l

theorem ctile22 (l : Fin 128) : trip_k0_t1.sl.v818 (F := Ideal) arg4 arg5 arg8 arg9 arg10 X_arg4 X_arg5 X_arg8 X_arg10 k f9 (ix2 s l) = cT arg4 arg5 arg8 arg9 arg10 X_arg4 X_arg5 X_arg8 X_arg10 k f9 s ⟨128 * 11 + l.val, by omega⟩ :=
  col_tile arg4 arg5 arg8 arg9 arg10 X_arg4 X_arg5 X_arg8 X_arg10 k f9 s (b := 11) rfl _ _ (fun r l => tile22 arg4 arg5 arg8 arg10 X_arg4 X_arg5 X_arg8 X_arg10 k r l) l

theorem ctile23 (l : Fin 128) : trip_k0_t1.sl.v839 (F := Ideal) arg4 arg5 arg8 arg9 arg10 X_arg4 X_arg5 X_arg8 X_arg10 k f9 (ix2 s l) = cT arg4 arg5 arg8 arg9 arg10 X_arg4 X_arg5 X_arg8 X_arg10 k f9 s ⟨128 * 27 + l.val, by omega⟩ :=
  col_tile arg4 arg5 arg8 arg9 arg10 X_arg4 X_arg5 X_arg8 X_arg10 k f9 s (b := 27) rfl _ _ (fun r l => tile23 arg4 arg5 arg8 arg10 X_arg4 X_arg5 X_arg8 X_arg10 k r l) l

theorem ctile24 (l : Fin 128) : trip_k0_t1.sl.v882 (F := Ideal) arg4 arg5 arg8 arg9 arg10 X_arg4 X_arg5 X_arg8 X_arg10 k f9 (ix2 s l) = cT arg4 arg5 arg8 arg9 arg10 X_arg4 X_arg5 X_arg8 X_arg10 k f9 s ⟨128 * 12 + l.val, by omega⟩ :=
  col_tile arg4 arg5 arg8 arg9 arg10 X_arg4 X_arg5 X_arg8 X_arg10 k f9 s (b := 12) rfl _ _ (fun r l => tile24 arg4 arg5 arg8 arg10 X_arg4 X_arg5 X_arg8 X_arg10 k r l) l

theorem ctile25 (l : Fin 128) : trip_k0_t1.sl.v903 (F := Ideal) arg4 arg5 arg8 arg9 arg10 X_arg4 X_arg5 X_arg8 X_arg10 k f9 (ix2 s l) = cT arg4 arg5 arg8 arg9 arg10 X_arg4 X_arg5 X_arg8 X_arg10 k f9 s ⟨128 * 28 + l.val, by omega⟩ :=
  col_tile arg4 arg5 arg8 arg9 arg10 X_arg4 X_arg5 X_arg8 X_arg10 k f9 s (b := 28) rfl _ _ (fun r l => tile25 arg4 arg5 arg8 arg10 X_arg4 X_arg5 X_arg8 X_arg10 k r l) l

theorem ctile26 (l : Fin 128) : trip_k0_t1.sl.v946 (F := Ideal) arg4 arg5 arg8 arg9 arg10 X_arg4 X_arg5 X_arg8 X_arg10 k f9 (ix2 s l) = cT arg4 arg5 arg8 arg9 arg10 X_arg4 X_arg5 X_arg8 X_arg10 k f9 s ⟨128 * 13 + l.val, by omega⟩ :=
  col_tile arg4 arg5 arg8 arg9 arg10 X_arg4 X_arg5 X_arg8 X_arg10 k f9 s (b := 13) rfl _ _ (fun r l => tile26 arg4 arg5 arg8 arg10 X_arg4 X_arg5 X_arg8 X_arg10 k r l) l

theorem ctile27 (l : Fin 128) : trip_k0_t1.sl.v967 (F := Ideal) arg4 arg5 arg8 arg9 arg10 X_arg4 X_arg5 X_arg8 X_arg10 k f9 (ix2 s l) = cT arg4 arg5 arg8 arg9 arg10 X_arg4 X_arg5 X_arg8 X_arg10 k f9 s ⟨128 * 29 + l.val, by omega⟩ :=
  col_tile arg4 arg5 arg8 arg9 arg10 X_arg4 X_arg5 X_arg8 X_arg10 k f9 s (b := 29) rfl _ _ (fun r l => tile27 arg4 arg5 arg8 arg10 X_arg4 X_arg5 X_arg8 X_arg10 k r l) l

theorem ctile28 (l : Fin 128) : trip_k0_t1.sl.v1010 (F := Ideal) arg4 arg5 arg8 arg9 arg10 X_arg4 X_arg5 X_arg8 X_arg10 k f9 (ix2 s l) = cT arg4 arg5 arg8 arg9 arg10 X_arg4 X_arg5 X_arg8 X_arg10 k f9 s ⟨128 * 14 + l.val, by omega⟩ :=
  col_tile arg4 arg5 arg8 arg9 arg10 X_arg4 X_arg5 X_arg8 X_arg10 k f9 s (b := 14) rfl _ _ (fun r l => tile28 arg4 arg5 arg8 arg10 X_arg4 X_arg5 X_arg8 X_arg10 k r l) l

theorem ctile29 (l : Fin 128) : trip_k0_t1.sl.v1031 (F := Ideal) arg4 arg5 arg8 arg9 arg10 X_arg4 X_arg5 X_arg8 X_arg10 k f9 (ix2 s l) = cT arg4 arg5 arg8 arg9 arg10 X_arg4 X_arg5 X_arg8 X_arg10 k f9 s ⟨128 * 30 + l.val, by omega⟩ :=
  col_tile arg4 arg5 arg8 arg9 arg10 X_arg4 X_arg5 X_arg8 X_arg10 k f9 s (b := 30) rfl _ _ (fun r l => tile29 arg4 arg5 arg8 arg10 X_arg4 X_arg5 X_arg8 X_arg10 k r l) l

theorem ctile30 (l : Fin 128) : trip_k0_t1.sl.v1074 (F := Ideal) arg4 arg5 arg8 arg9 arg10 X_arg4 X_arg5 X_arg8 X_arg10 k f9 (ix2 s l) = cT arg4 arg5 arg8 arg9 arg10 X_arg4 X_arg5 X_arg8 X_arg10 k f9 s ⟨128 * 15 + l.val, by omega⟩ :=
  col_tile arg4 arg5 arg8 arg9 arg10 X_arg4 X_arg5 X_arg8 X_arg10 k f9 s (b := 15) rfl _ _ (fun r l => tile30 arg4 arg5 arg8 arg10 X_arg4 X_arg5 X_arg8 X_arg10 k r l) l

theorem ctile31 (l : Fin 128) : trip_k0_t1.sl.v1095 (F := Ideal) arg4 arg5 arg8 arg9 arg10 X_arg4 X_arg5 X_arg8 X_arg10 k f9 (ix2 s l) = cT arg4 arg5 arg8 arg9 arg10 X_arg4 X_arg5 X_arg8 X_arg10 k f9 s ⟨128 * 31 + l.val, by omega⟩ :=
  col_tile arg4 arg5 arg8 arg9 arg10 X_arg4 X_arg5 X_arg8 X_arg10 k f9 s (b := 31) rfl _ _ (fun r l => tile31 arg4 arg5 arg8 arg10 X_arg4 X_arg5 X_arg8 X_arg10 k r l) l

end Trip

section Loop

variable (𝒱 : Variants) (c : Dev nD) (bd : Option 𝒱.V) (i : grid0.Coords) (arg2 : Memref sig .tc .vmem S2x14336 .f32) (harg2 : arg2.IsWhole) (arg3 : Memref sig .tc .vmem S2x4096 .f32) (harg3 : arg3.IsWhole) (arg4 : Memref sig .tc .vmem S1x512x4096 .bf16) (harg4 : arg4.IsWhole) (arg5 : Memref sig .tc .vmem S1x512x2048 .i8) (harg5 : arg5.IsWhole) (arg6 : Memref sig .tc .vmem S2x14336 .f32) (harg6 : arg6.IsWhole) (arg7 : Memref sig .tc .vmem S2x4096 .f32) (harg7 : arg7.IsWhole) (arg8 : Memref sig .tc .vmem S8x4096 .f32) (harg8 : arg8.IsWhole) (arg9 : Memref sig .tc .vmem S8x4096 .f32) (harg9 : arg9.IsWhole) (arg10 : Memref sig .tc .vmem S512x128 .f32) (harg10 : arg10.IsWhole) (arg11 : Memref sig .tc .vmem S512x128 .f32) (harg11 : arg11.IsWhole) (X_arg4 : BufTy.Contents (Elt Ideal) arg4.view.ty) (X_arg5 : BufTy.Contents (Elt Ideal) arg5.view.ty) (X_arg8 : BufTy.Contents (Elt Ideal) arg8.view.ty) (X_arg10 : BufTy.Contents (Elt Ideal) arg10.view.ty)

theorem trip_col (k : Fin k0_t1_loop.trips) (f9) (f11) (s : Fin 8) (C : Fin 4096) :
    arg9.view.read (Elt Ideal) (arg9.view.writes (Elt Ideal) f9 (tripL_k0_t1 (F := Ideal) 𝒱 c bd i arg2 harg2 arg3 harg3 arg4 harg4 arg5 harg5 arg6 harg6 arg7 harg7 arg8 harg8 arg9 harg9 arg10 harg10 arg11 harg11 X_arg4 X_arg5 X_arg8 X_arg10 k f9 f11).1) (ix2 s C)
      = cT arg4 arg5 arg8 arg9 arg10 X_arg4 X_arg5 X_arg8 X_arg10 k f9 s C := by
  unfold tripL_k0_t1 trip_k0_t1
  have h := Puts.nil arg9 f9 (fun s C => cT arg4 arg5 arg8 arg9 arg10 X_arg4 X_arg5 X_arg8 X_arg10 k f9 s C)
  replace h := h.cons 0 (o := ![0, 0]) rfl (by decide) (trip_k0_t1.sl.v114 (F := Ideal) arg4 arg5 arg8 arg9 arg10 X_arg4 X_arg5 X_arg8 X_arg10 k f9) (fun s l => ctile0 arg4 arg5 arg8 arg9 arg10 X_arg4 X_arg5 X_arg8 X_arg10 k f9 s l)
  replace h := h.cons 16 (o := ![0, 2048]) rfl (by decide) (trip_k0_t1.sl.v135 (F := Ideal) arg4 arg5 arg8 arg9 arg10 X_arg4 X_arg5 X_arg8 X_arg10 k f9) (fun s l => ctile1 arg4 arg5 arg8 arg9 arg10 X_arg4 X_arg5 X_arg8 X_arg10 k f9 s l)
  replace h := h.cons 1 (o := ![0, 128]) rfl (by decide) (trip_k0_t1.sl.v178 (F := Ideal) arg4 arg5 arg8 arg9 arg10 X_arg4 X_arg5 X_arg8 X_arg10 k f9) (fun s l => ctile2 arg4 arg5 arg8 arg9 arg10 X_arg4 X_arg5 X_arg8 X_arg10 k f9 s l)
  replace h := h.cons 17 (o := ![0, 2176]) rfl (by decide) (trip_k0_t1.sl.v199 (F := Ideal) arg4 arg5 arg8 arg9 arg10 X_arg4 X_arg5 X_arg8 X_arg10 k f9) (fun s l => ctile3 arg4 arg5 arg8 arg9 arg10 X_arg4 X_arg5 X_arg8 X_arg10 k f9 s l)
  replace h := h.cons 2 (o := ![0, 256]) rfl (by decide) (trip_k0_t1.sl.v242 (F := Ideal) arg4 arg5 arg8 arg9 arg10 X_arg4 X_arg5 X_arg8 X_arg10 k f9) (fun s l => ctile4 arg4 arg5 arg8 arg9 arg10 X_arg4 X_arg5 X_arg8 X_arg10 k f9 s l)
  replace h := h.cons 18 (o := ![0, 2304]) rfl (by decide) (trip_k0_t1.sl.v263 (F := Ideal) arg4 arg5 arg8 arg9 arg10 X_arg4 X_arg5 X_arg8 X_arg10 k f9) (fun s l => ctile5 arg4 arg5 arg8 arg9 arg10 X_arg4 X_arg5 X_arg8 X_arg10 k f9 s l)
  replace h := h.cons 3 (o := ![0, 384]) rfl (by decide) (trip_k0_t1.sl.v306 (F := Ideal) arg4 arg5 arg8 arg9 arg10 X_arg4 X_arg5 X_arg8 X_arg10 k f9) (fun s l => ctile6 arg4 arg5 arg8 arg9 arg10 X_arg4 X_arg5 X_arg8 X_arg10 k f9 s l)
  replace h := h.cons 19 (o := ![0, 2432]) rfl (by decide) (trip_k0_t1.sl.v327 (F := Ideal) arg4 arg5 arg8 arg9 arg10 X_arg4 X_arg5 X_arg8 X_arg10 k f9) (fun s l => ctile7 arg4 arg5 arg8 arg9 arg10 X_arg4 X_arg5 X_arg8 X_arg10 k f9 s l)
  replace h := h.cons 4 (o := ![0, 512]) rfl (by decide) (trip_k0_t1.sl.v370 (F := Ideal) arg4 arg5 arg8 arg9 arg10 X_arg4 X_arg5 X_arg8 X_arg10 k f9) (fun s l => ctile8 arg4 arg5 arg8 arg9 arg10 X_arg4 X_arg5 X_arg8 X_arg10 k f9 s l)
  replace h := h.cons 20 (o := ![0, 2560]) rfl (by decide) (trip_k0_t1.sl.v391 (F := Ideal) arg4 arg5 arg8 arg9 arg10 X_arg4 X_arg5 X_arg8 X_arg10 k f9) (fun s l => ctile9 arg4 arg5 arg8 arg9 arg10 X_arg4 X_arg5 X_arg8 X_arg10 k f9 s l)
  replace h := h.cons 5 (o := ![0, 640]) rfl (by decide) (trip_k0_t1.sl.v434 (F := Ideal) arg4 arg5 arg8 arg9 arg10 X_arg4 X_arg5 X_arg8 X_arg10 k f9) (fun s l => ctile10 arg4 arg5 arg8 arg9 arg10 X_arg4 X_arg5 X_arg8 X_arg10 k f9 s l)
  replace h := h.cons 21 (o := ![0, 2688]) rfl (by decide) (trip_k0_t1.sl.v455 (F := Ideal) arg4 arg5 arg8 arg9 arg10 X_arg4 X_arg5 X_arg8 X_arg10 k f9) (fun s l => ctile11 arg4 arg5 arg8 arg9 arg10 X_arg4 X_arg5 X_arg8 X_arg10 k f9 s l)
  replace h := h.cons 6 (o := ![0, 768]) rfl (by decide) (trip_k0_t1.sl.v498 (F := Ideal) arg4 arg5 arg8 arg9 arg10 X_arg4 X_arg5 X_arg8 X_arg10 k f9) (fun s l => ctile12 arg4 arg5 arg8 arg9 arg10 X_arg4 X_arg5 X_arg8 X_arg10 k f9 s l)
  replace h := h.cons 22 (o := ![0, 2816]) rfl (by decide) (trip_k0_t1.sl.v519 (F := Ideal) arg4 arg5 arg8 arg9 arg10 X_arg4 X_arg5 X_arg8 X_arg10 k f9) (fun s l => ctile13 arg4 arg5 arg8 arg9 arg10 X_arg4 X_arg5 X_arg8 X_arg10 k f9 s l)
  replace h := h.cons 7 (o := ![0, 896]) rfl (by decide) (trip_k0_t1.sl.v562 (F := Ideal) arg4 arg5 arg8 arg9 arg10 X_arg4 X_arg5 X_arg8 X_arg10 k f9) (fun s l => ctile14 arg4 arg5 arg8 arg9 arg10 X_arg4 X_arg5 X_arg8 X_arg10 k f9 s l)
  replace h := h.cons 23 (o := ![0, 2944]) rfl (by decide) (trip_k0_t1.sl.v583 (F := Ideal) arg4 arg5 arg8 arg9 arg10 X_arg4 X_arg5 X_arg8 X_arg10 k f9) (fun s l => ctile15 arg4 arg5 arg8 arg9 arg10 X_arg4 X_arg5 X_arg8 X_arg10 k f9 s l)
  replace h := h.cons 8 (o := ![0, 1024]) rfl (by decide) (trip_k0_t1.sl.v626 (F := Ideal) arg4 arg5 arg8 arg9 arg10 X_arg4 X_arg5 X_arg8 X_arg10 k f9) (fun s l => ctile16 arg4 arg5 arg8 arg9 arg10 X_arg4 X_arg5 X_arg8 X_arg10 k f9 s l)
  replace h := h.cons 24 (o := ![0, 3072]) rfl (by decide) (trip_k0_t1.sl.v647 (F := Ideal) arg4 arg5 arg8 arg9 arg10 X_arg4 X_arg5 X_arg8 X_arg10 k f9) (fun s l => ctile17 arg4 arg5 arg8 arg9 arg10 X_arg4 X_arg5 X_arg8 X_arg10 k f9 s l)
  replace h := h.cons 9 (o := ![0, 1152]) rfl (by decide) (trip_k0_t1.sl.v690 (F := Ideal) arg4 arg5 arg8 arg9 arg10 X_arg4 X_arg5 X_arg8 X_arg10 k f9) (fun s l => ctile18 arg4 arg5 arg8 arg9 arg10 X_arg4 X_arg5 X_arg8 X_arg10 k f9 s l)
  replace h := h.cons 25 (o := ![0, 3200]) rfl (by decide) (trip_k0_t1.sl.v711 (F := Ideal) arg4 arg5 arg8 arg9 arg10 X_arg4 X_arg5 X_arg8 X_arg10 k f9) (fun s l => ctile19 arg4 arg5 arg8 arg9 arg10 X_arg4 X_arg5 X_arg8 X_arg10 k f9 s l)
  replace h := h.cons 10 (o := ![0, 1280]) rfl (by decide) (trip_k0_t1.sl.v754 (F := Ideal) arg4 arg5 arg8 arg9 arg10 X_arg4 X_arg5 X_arg8 X_arg10 k f9) (fun s l => ctile20 arg4 arg5 arg8 arg9 arg10 X_arg4 X_arg5 X_arg8 X_arg10 k f9 s l)
  replace h := h.cons 26 (o := ![0, 3328]) rfl (by decide) (trip_k0_t1.sl.v775 (F := Ideal) arg4 arg5 arg8 arg9 arg10 X_arg4 X_arg5 X_arg8 X_arg10 k f9) (fun s l => ctile21 arg4 arg5 arg8 arg9 arg10 X_arg4 X_arg5 X_arg8 X_arg10 k f9 s l)
  replace h := h.cons 11 (o := ![0, 1408]) rfl (by decide) (trip_k0_t1.sl.v818 (F := Ideal) arg4 arg5 arg8 arg9 arg10 X_arg4 X_arg5 X_arg8 X_arg10 k f9) (fun s l => ctile22 arg4 arg5 arg8 arg9 arg10 X_arg4 X_arg5 X_arg8 X_arg10 k f9 s l)
  replace h := h.cons 27 (o := ![0, 3456]) rfl (by decide) (trip_k0_t1.sl.v839 (F := Ideal) arg4 arg5 arg8 arg9 arg10 X_arg4 X_arg5 X_arg8 X_arg10 k f9) (fun s l => ctile23 arg4 arg5 arg8 arg9 arg10 X_arg4 X_arg5 X_arg8 X_arg10 k f9 s l)
  replace h := h.cons 12 (o := ![0, 1536]) rfl (by decide) (trip_k0_t1.sl.v882 (F := Ideal) arg4 arg5 arg8 arg9 arg10 X_arg4 X_arg5 X_arg8 X_arg10 k f9) (fun s l => ctile24 arg4 arg5 arg8 arg9 arg10 X_arg4 X_arg5 X_arg8 X_arg10 k f9 s l)
  replace h := h.cons 28 (o := ![0, 3584]) rfl (by decide) (trip_k0_t1.sl.v903 (F := Ideal) arg4 arg5 arg8 arg9 arg10 X_arg4 X_arg5 X_arg8 X_arg10 k f9) (fun s l => ctile25 arg4 arg5 arg8 arg9 arg10 X_arg4 X_arg5 X_arg8 X_arg10 k f9 s l)
  replace h := h.cons 13 (o := ![0, 1664]) rfl (by decide) (trip_k0_t1.sl.v946 (F := Ideal) arg4 arg5 arg8 arg9 arg10 X_arg4 X_arg5 X_arg8 X_arg10 k f9) (fun s l => ctile26 arg4 arg5 arg8 arg9 arg10 X_arg4 X_arg5 X_arg8 X_arg10 k f9 s l)
  replace h := h.cons 29 (o := ![0, 3712]) rfl (by decide) (trip_k0_t1.sl.v967 (F := Ideal) arg4 arg5 arg8 arg9 arg10 X_arg4 X_arg5 X_arg8 X_arg10 k f9) (fun s l => ctile27 arg4 arg5 arg8 arg9 arg10 X_arg4 X_arg5 X_arg8 X_arg10 k f9 s l)
  replace h := h.cons 14 (o := ![0, 1792]) rfl (by decide) (trip_k0_t1.sl.v1010 (F := Ideal) arg4 arg5 arg8 arg9 arg10 X_arg4 X_arg5 X_arg8 X_arg10 k f9) (fun s l => ctile28 arg4 arg5 arg8 arg9 arg10 X_arg4 X_arg5 X_arg8 X_arg10 k f9 s l)
  replace h := h.cons 30 (o := ![0, 3840]) rfl (by decide) (trip_k0_t1.sl.v1031 (F := Ideal) arg4 arg5 arg8 arg9 arg10 X_arg4 X_arg5 X_arg8 X_arg10 k f9) (fun s l => ctile29 arg4 arg5 arg8 arg9 arg10 X_arg4 X_arg5 X_arg8 X_arg10 k f9 s l)
  replace h := h.cons 15 (o := ![0, 1920]) rfl (by decide) (trip_k0_t1.sl.v1074 (F := Ideal) arg4 arg5 arg8 arg9 arg10 X_arg4 X_arg5 X_arg8 X_arg10 k f9) (fun s l => ctile30 arg4 arg5 arg8 arg9 arg10 X_arg4 X_arg5 X_arg8 X_arg10 k f9 s l)
  replace h := h.cons 31 (o := ![0, 3968]) rfl (by decide) (trip_k0_t1.sl.v1095 (F := Ideal) arg4 arg5 arg8 arg9 arg10 X_arg4 X_arg5 X_arg8 X_arg10 k f9) (fun s l => ctile31 arg4 arg5 arg8 arg9 arg10 X_arg4 X_arg5 X_arg8 X_arg10 k f9 s l)
  refine h s C ?_
  have hC : C.val / 128 < 32 := by omega
  generalize C.val / 128 = x at hC
  show x = 31 ∨ x = 15 ∨ x = 30 ∨ x = 14 ∨ x = 29 ∨ x = 13 ∨ x = 28 ∨ x = 12 ∨ x = 27 ∨ x = 11 ∨ x = 26 ∨ x = 10 ∨ x = 25 ∨ x = 9 ∨ x = 24 ∨ x = 8 ∨ x = 23 ∨ x = 7 ∨ x = 22 ∨ x = 6 ∨ x = 21 ∨ x = 5 ∨ x = 20 ∨ x = 4 ∨ x = 19 ∨ x = 3 ∨ x = 18 ∨ x = 2 ∨ x = 17 ∨ x = 1 ∨ x = 16 ∨ x = 0 ∨ False
  omega

/-- The column maxima after `n` trips. -/
theorem loop_col (G9) (G11) (n : ℕ) (hn : n ≤ k0_t1_loop.trips) (s : Fin 8) (C : Fin 4096) (z : EReal) :
    arg9.view.read (Elt Ideal) (arg9.view.writes (Elt Ideal) G9 (pb_k0_t1 (F := Ideal) 𝒱 c bd i arg2 harg2 arg3 harg3 arg4 harg4 arg5 harg5 arg6 harg6 arg7 harg7 arg8 harg8 arg9 harg9 arg10 harg10 arg11 harg11 X_arg4 X_arg5 X_arg8 X_arg10 G9 G11 n).1) (ix2 s C) ≤ z
      ↔ arg9.view.read (Elt Ideal) G9 (ix2 s C) ≤ z ∧ ∀ R : Fin 512, R.val < 32 * n → R.val % 8 = s.val →
        sV (arg4.view.read (Elt Ideal) X_arg4) (arg5.view.read (Elt Ideal) X_arg5) (arg8.view.read (Elt Ideal) X_arg8)
          (arg10.view.read (Elt Ideal) X_arg10) R C ≤ z := by
  induction n with
  | zero => exact ⟨fun h => ⟨h, fun R hR => absurd hR (by omega)⟩, fun h => h.1⟩
  | succ n ih =>
    have e : pb_k0_t1 (F := Ideal) 𝒱 c bd i arg2 harg2 arg3 harg3 arg4 harg4 arg5 harg5 arg6 harg6 arg7 harg7 arg8 harg8 arg9 harg9 arg10 harg10 arg11 harg11 X_arg4 X_arg5 X_arg8 X_arg10 G9 G11 (n + 1) = _ := pb_k0_t1_succ 𝒱 c bd i arg2 harg2 arg3 harg3 arg4 harg4 arg5 harg5 arg6 harg6 arg7 harg7 arg8 harg8 arg9 harg9 arg10 harg10 arg11 harg11 X_arg4 X_arg5 X_arg8 X_arg10 G9 G11 ⟨n, hn⟩
    have e1 : arg9.view.read (Elt Ideal) (arg9.view.writes (Elt Ideal) G9 (pb_k0_t1 (F := Ideal) 𝒱 c bd i arg2 harg2 arg3 harg3 arg4 harg4 arg5 harg5 arg6 harg6 arg7 harg7 arg8 harg8 arg9 harg9 arg10 harg10 arg11 harg11 X_arg4 X_arg5 X_arg8 X_arg10 G9 G11 (n + 1)).1) (ix2 s C) = _ :=
      (congrArg (fun P => arg9.view.read (Elt Ideal) P (ix2 s C)) ((congrArg (arg9.view.writes (Elt Ideal) G9) (congrArg Prod.fst e)).trans
        (View.writes_append _ _ _ _))).trans (trip_col 𝒱 c bd i arg2 harg2 arg3 harg3 arg4 harg4 arg5 harg5 arg6 harg6 arg7 harg7 arg8 harg8 arg9 harg9 arg10 harg10 arg11 harg11 X_arg4 X_arg5 X_arg8 X_arg10 ⟨n, hn⟩ _ _ s C)
    rw [e1]
    unfold cT
    rw [max_le_iff, Finset.fold_max_le, Cert.Lits.f_bot, ih (by omega), and_assoc]
    refine and_congr_right fun _ => ⟨fun ⟨h0, _, h1⟩ R hR hs => ?_, fun h => ⟨fun R hR hs => h R (by omega) hs, bot_le, fun a _ => ?_⟩⟩
    · by_cases hc : R.val < 32 * n
      · exact h0 R hc hs
      · refine le_of_eq_of_le ?_ (h1 ⟨(R.val - 32 * n) / 8, by omega⟩ (Finset.mem_univ _))
        congr 1
        exact Fin.ext (by show R.val = 32 * n + ((R.val - 32 * n) / 8 * 8 + s.val); omega)
    · exact h _ (by show 32 * n + (a.val * 8 + s.val) < 32 * (n + 1); omega) (by show (32 * n + (a.val * 8 + s.val)) % 8 = s.val; omega)

end Loop

end Cert.StatsIdeal.Value

end
-- ==== Proof.StatsColPoint.lean ====
module

public import proofs.«01_k».proof.Proof.StatsCol
public import proofs.«01_k».proof.Proof.Gen.StatsIdeal.Skeleton
public import proofs.«01_k».proof.Proof.Gen.StatsIdeal.Loops

@[expose] public section

/-! What the body of the statistics kernel leaves at one grid point in the scratch buffer of column maxima, and what it
stores of them at the last point of a batch entry. -/

set_option maxRecDepth 16384

noncomputable section

namespace Cert.StatsIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)
open Cert.StatsIdeal Cert.StatsIdeal.Gen
open Cert.KernelIdeal.Value (ld2 idx2_ex colB zero2)

/-- What stores leave at an index depends on what was there before only through its value at that index. -/
theorem read_rebase {S : Shape} {e : EltTy} {sp : Space} (a : Memref sig .tc sp S e) (f f' : BufTy.Contents (Elt Ideal) a.view.ty)
    (y : S.Idx) (L : List (View.Piece (Elt Ideal) S e)) (h : a.view.read (Elt Ideal) f y = a.view.read (Elt Ideal) f' y) :
    a.view.read (Elt Ideal) (a.view.writes (Elt Ideal) f L) y = a.view.read (Elt Ideal) (a.view.writes (Elt Ideal) f' L) y := by
  induction L with
  | nil => exact h
  | cons p L ih =>
    by_cases hy : y ∈ p.1.set
    · obtain ⟨x, rfl⟩ : ∃ x, p.1.emb x = y := p.1.exists_idx_of_mem hy
      rw [View.read_writes_cons_emb, View.read_writes_cons_emb]
    · have hy' : y ∉ Finset.univ.map p.1.emb := by rwa [Rect.map_emb_univ]
      rw [View.writes_cons, View.writes_cons, View.read_slice_write_of_not_mem p.1 _ _ _ hy',
        View.read_slice_write_of_not_mem p.1 _ _ _ hy']
      exact ih

theorem pay169_apply (s : Fin 8) (C : Fin 4096) : k0_pay169 (F := Ideal) (ix2 s C) = 0 := by
  unfold k0_pay169
  pointwise

/-- The largest of a column's eight maxima, times the factor. -/
def colM (x : Vec Ideal S8x4096 .f32) (C : Fin 4096) : EReal :=
  Finset.univ.fold max (Ideal.ofBits .f32 0xFF800000#32) (fun s : Fin 8 => x (ix2 s C)) * k2

theorem pay4_apply (v : Vec Ideal S8x4096 .f32) (C : Fin 4096) : k0_pay4 (F := Ideal) v (ix2 0 C) = colM v C := by
  unfold k0_pay4 colM k2
  pointwise

theorem pay5_apply (v : Vec Ideal S8x4096 .f32) (C : Fin 4096) : k0_pay5 (F := Ideal) v (ix2 0 C) = colM v C := by
  unfold k0_pay5 colM k2
  pointwise

/-- Row `b` replaced by `w`. -/
def outCol (b : Fin 2) (w : Fin 4096 → EReal) (x : Vec Ideal S2x4096 .f32) : Vec Ideal S2x4096 .f32 := fun y =>
  if (y 0).val = b.val then w (y 1) else x y

theorem col_out (a : Memref sig .tc .vmem S2x4096 .f32) (ha : a.IsWhole) (x : Vec Ideal S2x4096 .f32) (b : Fin 2)
    (w : Fin 4096 → EReal) {o : Fin 2 → ℕ} (ho : o = ![b.val, 0]) (inb : ∀ x, o x + S1x4096.size x ≤ S2x4096.size x)
    (p : Vec Ideal S1x4096 .f32) (hp : ∀ C : Fin 4096, p (ix2 0 C) = w C) :
    a.view.read (Elt Ideal) (a.view.writes (Elt Ideal) (ha.unread x) [⟨Rect.unit (s := S2x4096) o S1x4096.size inb, p⟩])
      = outCol b w x := by
  funext y
  obtain ⟨B, C, rfl⟩ := idx2_ex y
  by_cases hB : B.val = b.val
  · refine Eq.trans ?_ (if_pos (c := ((ix2 B C : S2x4096.Idx) 0).val = b.val) hB).symm
    refine (View.read_writes_cons_unit_of_mem _ _ inb _ _ (ix2 B C) (ix2 (0 : Fin 1) C) ho (fun x => ?_)).trans (hp C)
    match x with
    | ⟨0, _⟩ => exact hB
    | ⟨1, _⟩ => exact (Nat.zero_add _).symm
  · refine Eq.trans ?_ (if_neg (c := ((ix2 B C : S2x4096.Idx) 0).val = b.val) hB).symm
    refine (View.read_writes_cons_unit_of_not_mem _ _ inb _ _ _ ho (0 : Fin 2) ?_).trans (congrFun (ha.read_unread x) _)
    show B.val < b.val ∨ b.val + 1 ≤ B.val
    omega

theorem read_all (a : Memref sig .tc .vmem S8x4096 .f32) (X : BufTy.Contents (Elt Ideal) a.view.ty) {o : Fin 2 → ℕ} (ho : o = ![0, 0])
    (inb : ∀ x, o x + S8x4096.size x ≤ S8x4096.size x) :
    View.readAt (Elt Ideal) a.view (Rect.unit (s := S8x4096) o S8x4096.size inb).toLoadRect X = a.view.read (Elt Ideal) X := by
  funext y
  obtain ⟨s, C, rfl⟩ := idx2_ex y
  refine (ld2 (a.view.read (Elt Ideal) X) o _ _ ho inb s C (by omega) (by omega)).trans ?_
  congr 2
  · exact Fin.ext (Nat.zero_add _)
  · exact Fin.ext (Nat.zero_add _)

theorem nineA  (c : Dev nD) (i : grid0.Coords) (arg2 : Memref sig .tc .vmem S2x14336 .f32) (harg2 : arg2.IsWhole) (arg3 : Memref sig .tc .vmem S2x4096 .f32) (harg3 : arg3.IsWhole) (arg4 : Memref sig .tc .vmem S1x512x4096 .bf16) (harg4 : arg4.IsWhole) (arg5 : Memref sig .tc .vmem S1x512x2048 .i8) (harg5 : arg5.IsWhole) (arg6 : Memref sig .tc .vmem S2x14336 .f32) (harg6 : arg6.IsWhole) (arg7 : Memref sig .tc .vmem S2x4096 .f32) (harg7 : arg7.IsWhole) (arg8 : Memref sig .tc .vmem S8x4096 .f32) (harg8 : arg8.IsWhole) (arg9 : Memref sig .tc .vmem S8x4096 .f32) (harg9 : arg9.IsWhole) (arg10 : Memref sig .tc .vmem S512x128 .f32) (harg10 : arg10.IsWhole) (arg11 : Memref sig .tc .vmem S512x128 .f32) (harg11 : arg11.IsWhole) (hc1 : k0_cond1 i = 1#1) (hc2 : k0_cond2 i = 1#1) (hc3 : ¬ k0_cond3 i = 1#1) (hc4 : ¬ k0_cond4 i = 1#1) (hc5 : ¬ k0_cond5 i = 1#1)
    (x2 : Vec Ideal S2x14336 .f32) (x3 : Vec Ideal S2x4096 .f32) (x4 : Vec Ideal S1x512x4096 .bf16) (x5 : Vec Ideal S1x512x2048 .i8) (x6 : Vec Ideal S2x14336 .f32) (x7 : Vec Ideal S2x4096 .f32) (x8 : Vec Ideal S8x4096 .f32) (x9 : Vec Ideal S8x4096 .f32) (x11 : Vec Ideal S512x128 .f32)
    (b : Fin 2) (q : Fin 28) (ho1 : k0_off1 i = ![b.val, 0]) (ho2 : k0_off2 i = ![b.val, 512 * q.val]) (f : BufTy.Contents (Elt Ideal) arg9.view.ty) (s : Fin 8) (C : Fin 4096) (z : EReal) :
    arg9.view.read (Elt Ideal) (arg9.view.writes (Elt Ideal) f (Run.runA (F := Ideal) c i arg2 harg2 arg3 harg3 arg4 harg4 arg5 harg5 arg6 harg6 arg7 harg7 arg8 harg8 arg9 harg9 arg10 harg10 arg11 harg11 hc1 hc2 hc3 hc4 hc5 x2 x3 x4 x5 x6 x7 x8 x9 x11).2.2.1) (ix2 s C) ≤ z
      ↔ 0 ≤ z ∧ ∀ R : Fin 512, R.val % 8 = s.val → sV x4 x5 (colB b x3) (rowS b q x2) R C ≤ z := by
  unfold Run.runA
  dsimp only
  have hrow : ∀ a : Memref sig .tc .vmem S512x128 .f32, ∀ f : BufTy.Contents (Elt Ideal) a.view.ty,
      a.view.read (Elt Ideal) (a.view.writes (Elt Ideal) f (Run.runA.sl.H10_1 (F := Ideal) c i arg2 harg2 x2)) = rowS b q x2 := by
    intro a f
    unfold Run.runA.sl.H10_1
    sl_unfold_run_names
    refine (read_store a f zero2 _ _).trans ?_
    rw [View.readAt_eq_ld, harg2.read_unread]
    exact pay_row b q _ ho2 _
  have hcol : ∀ a : Memref sig .tc .vmem S8x4096 .f32, ∀ f : BufTy.Contents (Elt Ideal) a.view.ty,
      a.view.read (Elt Ideal) (a.view.writes (Elt Ideal) f (Run.runA.sl.H8_1 (F := Ideal) c i arg3 harg3 hc1 x3)) = colB b x3 := by
    intro a f
    sl_unfold_run_names
    refine (read_store a f zero2 _ _).trans ?_
    rw [View.readAt_eq_ld, harg3.read_unread]
    exact pay_col b _ ho1 _
  have key := fun X8 G9 G11 => loop_col Variants.none c none i arg2 harg2 arg3 harg3 arg4 harg4 arg5 harg5 arg6 harg6 arg7 harg7 arg8 harg8 arg9 harg9 arg10 harg10 arg11 harg11 (harg4.unread x4) (harg5.unread x5) X8
    (arg10.view.writes (Elt Ideal) arg10.view.junk (Run.runA.sl.H10_1 (F := Ideal) c i arg2 harg2 x2)) G9 G11 k0_t1_loop.trips le_rfl s C z
  simp only [harg4.read_unread, harg5.read_unread, hrow] at key
  refine (Iff.of_eq (congrArg (· ≤ z) ((congrArg (fun P => arg9.view.read (Elt Ideal) P (ix2 s C)) (View.writes_append _ _ _ _)).trans
    (read_rebase arg9 _ _ _ _ ?_)))).trans ((key (arg8.view.writes (Elt Ideal) arg8.view.junk (Run.runA.sl.H8_1 (F := Ideal) c i arg3 harg3 hc1 x3))
    (arg9.view.writes (Elt Ideal) arg9.view.junk (Run.runA.sl.H9_1 (F := Ideal))) _).trans ?_)
  · sl_unfold_run_names
    exact (congrFun (read_store arg9 f zero2 _ _) _).trans (congrFun (read_store arg9 _ zero2 _ _) _).symm
  · rw [hcol arg8 _]
    have e0 : arg9.view.read (Elt Ideal) (arg9.view.writes (Elt Ideal) arg9.view.junk (Run.runA.sl.H9_1 (F := Ideal))) (ix2 s C) = 0 := by
      sl_unfold_run_names
      exact (congrFun (read_store arg9 _ zero2 _ _) _).trans (pay169_apply s C)
    rw [e0]
    exact and_congr_right fun _ => ⟨fun h R hs => h R (by rw [trips_eq]; exact R.isLt) hs, fun h R _ hs => h R hs⟩

theorem nineB  (c : Dev nD) (i : grid0.Coords) (arg2 : Memref sig .tc .vmem S2x14336 .f32) (harg2 : arg2.IsWhole) (arg3 : Memref sig .tc .vmem S2x4096 .f32) (harg3 : arg3.IsWhole) (arg4 : Memref sig .tc .vmem S1x512x4096 .bf16) (harg4 : arg4.IsWhole) (arg5 : Memref sig .tc .vmem S1x512x2048 .i8) (harg5 : arg5.IsWhole) (arg6 : Memref sig .tc .vmem S2x14336 .f32) (harg6 : arg6.IsWhole) (arg7 : Memref sig .tc .vmem S2x4096 .f32) (harg7 : arg7.IsWhole) (arg8 : Memref sig .tc .vmem S8x4096 .f32) (harg8 : arg8.IsWhole) (arg9 : Memref sig .tc .vmem S8x4096 .f32) (harg9 : arg9.IsWhole) (arg10 : Memref sig .tc .vmem S512x128 .f32) (harg10 : arg10.IsWhole) (arg11 : Memref sig .tc .vmem S512x128 .f32) (harg11 : arg11.IsWhole) (hc1 : ¬ k0_cond1 i = 1#1) (hc2 : k0_cond2 i = 1#1) (hc3 : ¬ k0_cond3 i = 1#1) (hc4 : ¬ k0_cond4 i = 1#1) (hc5 : ¬ k0_cond5 i = 1#1)
    (x2 : Vec Ideal S2x14336 .f32) (x3 : Vec Ideal S2x4096 .f32) (x4 : Vec Ideal S1x512x4096 .bf16) (x5 : Vec Ideal S1x512x2048 .i8) (x6 : Vec Ideal S2x14336 .f32) (x7 : Vec Ideal S2x4096 .f32) (x8 : Vec Ideal S8x4096 .f32) (x9 : Vec Ideal S8x4096 .f32) (x11 : Vec Ideal S512x128 .f32)
    (b : Fin 2) (q : Fin 28)  (ho2 : k0_off2 i = ![b.val, 512 * q.val])  (s : Fin 8) (C : Fin 4096) (z : EReal) :
    arg9.view.read (Elt Ideal) (arg9.view.writes (Elt Ideal) (harg9.unread x9) (Run.runB (F := Ideal) c i arg2 harg2 arg3 harg3 arg4 harg4 arg5 harg5 arg6 harg6 arg7 harg7 arg8 harg8 arg9 harg9 arg10 harg10 arg11 harg11 hc1 hc2 hc3 hc4 hc5 x2 x3 x4 x5 x6 x7 x8 x9 x11).2.1) (ix2 s C) ≤ z
      ↔ x9 (ix2 s C) ≤ z ∧ ∀ R : Fin 512, R.val % 8 = s.val → sV x4 x5 x8 (rowS b q x2) R C ≤ z := by
  unfold Run.runB
  dsimp only
  have hrow : ∀ a : Memref sig .tc .vmem S512x128 .f32, ∀ f : BufTy.Contents (Elt Ideal) a.view.ty,
      a.view.read (Elt Ideal) (a.view.writes (Elt Ideal) f (Run.runB.sl.H10_1 (F := Ideal) c i arg2 harg2 x2)) = rowS b q x2 := by
    intro a f
    unfold Run.runB.sl.H10_1
    sl_unfold_run_names
    refine (read_store a f zero2 _ _).trans ?_
    rw [View.readAt_eq_ld, harg2.read_unread]
    exact pay_row b q _ ho2 _
  have key := fun G11 => loop_col Variants.none c none i arg2 harg2 arg3 harg3 arg4 harg4 arg5 harg5 arg6 harg6 arg7 harg7 arg8 harg8 arg9 harg9 arg10 harg10 arg11 harg11 (harg4.unread x4) (harg5.unread x5) (harg8.unread x8)
    (arg10.view.writes (Elt Ideal) arg10.view.junk (Run.runB.sl.H10_1 (F := Ideal) c i arg2 harg2 x2)) (harg9.unread x9) G11 k0_t1_loop.trips le_rfl s C z
  simp only [harg4.read_unread, harg5.read_unread, hrow, harg8.read_unread, harg9.read_unread] at key
  exact (key _).trans (and_congr_right fun _ => ⟨fun h R hs => h R (by rw [trips_eq]; exact R.isLt) hs, fun h R _ hs => h R hs⟩)

theorem nineC  (c : Dev nD) (i : grid0.Coords) (arg2 : Memref sig .tc .vmem S2x14336 .f32) (harg2 : arg2.IsWhole) (arg3 : Memref sig .tc .vmem S2x4096 .f32) (harg3 : arg3.IsWhole) (arg4 : Memref sig .tc .vmem S1x512x4096 .bf16) (harg4 : arg4.IsWhole) (arg5 : Memref sig .tc .vmem S1x512x2048 .i8) (harg5 : arg5.IsWhole) (arg6 : Memref sig .tc .vmem S2x14336 .f32) (harg6 : arg6.IsWhole) (arg7 : Memref sig .tc .vmem S2x4096 .f32) (harg7 : arg7.IsWhole) (arg8 : Memref sig .tc .vmem S8x4096 .f32) (harg8 : arg8.IsWhole) (arg9 : Memref sig .tc .vmem S8x4096 .f32) (harg9 : arg9.IsWhole) (arg10 : Memref sig .tc .vmem S512x128 .f32) (harg10 : arg10.IsWhole) (arg11 : Memref sig .tc .vmem S512x128 .f32) (harg11 : arg11.IsWhole) (hc1 : ¬ k0_cond1 i = 1#1) (hc2 : k0_cond2 i = 1#1) (hc3 : k0_cond3 i = 1#1) (hc4 : ¬ k0_cond4 i = 1#1) (hc5 : ¬ k0_cond5 i = 1#1)
    (x2 : Vec Ideal S2x14336 .f32) (x3 : Vec Ideal S2x4096 .f32) (x4 : Vec Ideal S1x512x4096 .bf16) (x5 : Vec Ideal S1x512x2048 .i8) (x6 : Vec Ideal S2x14336 .f32) (x7 : Vec Ideal S2x4096 .f32) (x8 : Vec Ideal S8x4096 .f32) (x9 : Vec Ideal S8x4096 .f32) (x11 : Vec Ideal S512x128 .f32)
    (b : Fin 2) (q : Fin 28)  (ho2 : k0_off2 i = ![b.val, 512 * q.val])  (s : Fin 8) (C : Fin 4096) (z : EReal) :
    arg9.view.read (Elt Ideal) (arg9.view.writes (Elt Ideal) (harg9.unread x9) (Run.runC (F := Ideal) c i arg2 harg2 arg3 harg3 arg4 harg4 arg5 harg5 arg6 harg6 arg7 harg7 arg8 harg8 arg9 harg9 arg10 harg10 arg11 harg11 hc1 hc2 hc3 hc4 hc5 x2 x3 x4 x5 x6 x7 x8 x9 x11).2.2.1) (ix2 s C) ≤ z
      ↔ x9 (ix2 s C) ≤ z ∧ ∀ R : Fin 512, R.val % 8 = s.val → sV x4 x5 x8 (rowS b q x2) R C ≤ z := by
  unfold Run.runC
  dsimp only
  have hrow : ∀ a : Memref sig .tc .vmem S512x128 .f32, ∀ f : BufTy.Contents (Elt Ideal) a.view.ty,
      a.view.read (Elt Ideal) (a.view.writes (Elt Ideal) f (Run.runC.sl.H10_1 (F := Ideal) c i arg2 harg2 x2)) = rowS b q x2 := by
    intro a f
    unfold Run.runC.sl.H10_1
    sl_unfold_run_names
    refine (read_store a f zero2 _ _).trans ?_
    rw [View.readAt_eq_ld, harg2.read_unread]
    exact pay_row b q _ ho2 _
  have key := fun G11 => loop_col Variants.none c none i arg2 harg2 arg3 harg3 arg4 harg4 arg5 harg5 arg6 harg6 arg7 harg7 arg8 harg8 arg9 harg9 arg10 harg10 arg11 harg11 (harg4.unread x4) (harg5.unread x5) (harg8.unread x8)
    (arg10.view.writes (Elt Ideal) arg10.view.junk (Run.runC.sl.H10_1 (F := Ideal) c i arg2 harg2 x2)) (harg9.unread x9) G11 k0_t1_loop.trips le_rfl s C z
  simp only [harg4.read_unread, harg5.read_unread, hrow, harg8.read_unread, harg9.read_unread] at key
  exact (key _).trans (and_congr_right fun _ => ⟨fun h R hs => h R (by rw [trips_eq]; exact R.isLt) hs, fun h R _ hs => h R hs⟩)

theorem sevenC  (c : Dev nD) (i : grid0.Coords) (arg2 : Memref sig .tc .vmem S2x14336 .f32) (harg2 : arg2.IsWhole) (arg3 : Memref sig .tc .vmem S2x4096 .f32) (harg3 : arg3.IsWhole) (arg4 : Memref sig .tc .vmem S1x512x4096 .bf16) (harg4 : arg4.IsWhole) (arg5 : Memref sig .tc .vmem S1x512x2048 .i8) (harg5 : arg5.IsWhole) (arg6 : Memref sig .tc .vmem S2x14336 .f32) (harg6 : arg6.IsWhole) (arg7 : Memref sig .tc .vmem S2x4096 .f32) (harg7 : arg7.IsWhole) (arg8 : Memref sig .tc .vmem S8x4096 .f32) (harg8 : arg8.IsWhole) (arg9 : Memref sig .tc .vmem S8x4096 .f32) (harg9 : arg9.IsWhole) (arg10 : Memref sig .tc .vmem S512x128 .f32) (harg10 : arg10.IsWhole) (arg11 : Memref sig .tc .vmem S512x128 .f32) (harg11 : arg11.IsWhole) (hc1 : ¬ k0_cond1 i = 1#1) (hc2 : k0_cond2 i = 1#1) (hc3 : k0_cond3 i = 1#1) (hc4 : ¬ k0_cond4 i = 1#1) (hc5 : ¬ k0_cond5 i = 1#1)
    (x2 : Vec Ideal S2x14336 .f32) (x3 : Vec Ideal S2x4096 .f32) (x4 : Vec Ideal S1x512x4096 .bf16) (x5 : Vec Ideal S1x512x2048 .i8) (x6 : Vec Ideal S2x14336 .f32) (x7 : Vec Ideal S2x4096 .f32) (x8 : Vec Ideal S8x4096 .f32) (x9 : Vec Ideal S8x4096 .f32) (x11 : Vec Ideal S512x128 .f32)  :
    arg7.view.read (Elt Ideal) (arg7.view.writes (Elt Ideal) (harg7.unread x7) (Run.runC (F := Ideal) c i arg2 harg2 arg3 harg3 arg4 harg4 arg5 harg5 arg6 harg6 arg7 harg7 arg8 harg8 arg9 harg9 arg10 harg10 arg11 harg11 hc1 hc2 hc3 hc4 hc5 x2 x3 x4 x5 x6 x7 x8 x9 x11).2.1)
      = outCol 0 (colM (arg9.view.read (Elt Ideal) (arg9.view.writes (Elt Ideal) (harg9.unread x9) (Run.runC (F := Ideal) c i arg2 harg2 arg3 harg3 arg4 harg4 arg5 harg5 arg6 harg6 arg7 harg7 arg8 harg8 arg9 harg9 arg10 harg10 arg11 harg11 hc1 hc2 hc3 hc4 hc5 x2 x3 x4 x5 x6 x7 x8 x9 x11).2.2.1))) x7 := by
  unfold Run.runC
  dsimp only
  refine col_out arg7 harg7 x7 0 _ (o := ![0, 0]) rfl _ _ (fun C => ?_)
  refine (pay4_apply _ C).trans ?_
  exact congrArg (fun v => colM v C) (read_all arg9 _ rfl _)

theorem nineD  (c : Dev nD) (i : grid0.Coords) (arg2 : Memref sig .tc .vmem S2x14336 .f32) (harg2 : arg2.IsWhole) (arg3 : Memref sig .tc .vmem S2x4096 .f32) (harg3 : arg3.IsWhole) (arg4 : Memref sig .tc .vmem S1x512x4096 .bf16) (harg4 : arg4.IsWhole) (arg5 : Memref sig .tc .vmem S1x512x2048 .i8) (harg5 : arg5.IsWhole) (arg6 : Memref sig .tc .vmem S2x14336 .f32) (harg6 : arg6.IsWhole) (arg7 : Memref sig .tc .vmem S2x4096 .f32) (harg7 : arg7.IsWhole) (arg8 : Memref sig .tc .vmem S8x4096 .f32) (harg8 : arg8.IsWhole) (arg9 : Memref sig .tc .vmem S8x4096 .f32) (harg9 : arg9.IsWhole) (arg10 : Memref sig .tc .vmem S512x128 .f32) (harg10 : arg10.IsWhole) (arg11 : Memref sig .tc .vmem S512x128 .f32) (harg11 : arg11.IsWhole) (hc1 : k0_cond1 i = 1#1) (hc2 : ¬ k0_cond2 i = 1#1) (hc3 : ¬ k0_cond3 i = 1#1) (hc4 : k0_cond4 i = 1#1) (hc5 : ¬ k0_cond5 i = 1#1)
    (x2 : Vec Ideal S2x14336 .f32) (x3 : Vec Ideal S2x4096 .f32) (x4 : Vec Ideal S1x512x4096 .bf16) (x5 : Vec Ideal S1x512x2048 .i8) (x6 : Vec Ideal S2x14336 .f32) (x7 : Vec Ideal S2x4096 .f32) (x8 : Vec Ideal S8x4096 .f32) (x9 : Vec Ideal S8x4096 .f32) (x11 : Vec Ideal S512x128 .f32)
    (b : Fin 2) (q : Fin 28) (ho1 : k0_off1 i = ![b.val, 0]) (ho2 : k0_off2 i = ![b.val, 512 * q.val]) (f : BufTy.Contents (Elt Ideal) arg9.view.ty) (s : Fin 8) (C : Fin 4096) (z : EReal) :
    arg9.view.read (Elt Ideal) (arg9.view.writes (Elt Ideal) f (Run.runD (F := Ideal) c i arg2 harg2 arg3 harg3 arg4 harg4 arg5 harg5 arg6 harg6 arg7 harg7 arg8 harg8 arg9 harg9 arg10 harg10 arg11 harg11 hc1 hc2 hc3 hc4 hc5 x2 x3 x4 x5 x6 x7 x8 x9 x11).2.2.1) (ix2 s C) ≤ z
      ↔ 0 ≤ z ∧ ∀ R : Fin 512, R.val % 8 = s.val → sV x4 x5 (colB b x3) (rowS b q x2) R C ≤ z := by
  unfold Run.runD
  dsimp only
  have hrow : ∀ a : Memref sig .tc .vmem S512x128 .f32, ∀ f : BufTy.Contents (Elt Ideal) a.view.ty,
      a.view.read (Elt Ideal) (a.view.writes (Elt Ideal) f (Run.runD.sl.H10_1 (F := Ideal) c i arg2 harg2 x2)) = rowS b q x2 := by
    intro a f
    unfold Run.runD.sl.H10_1
    sl_unfold_run_names
    refine (read_store a f zero2 _ _).trans ?_
    rw [View.readAt_eq_ld, harg2.read_unread]
    exact pay_row b q _ ho2 _
  have hcol : ∀ a : Memref sig .tc .vmem S8x4096 .f32, ∀ f : BufTy.Contents (Elt Ideal) a.view.ty,
      a.view.read (Elt Ideal) (a.view.writes (Elt Ideal) f (Run.runD.sl.H8_1 (F := Ideal) c i arg3 harg3 hc1 x3)) = colB b x3 := by
    intro a f
    sl_unfold_run_names
    refine (read_store a f zero2 _ _).trans ?_
    rw [View.readAt_eq_ld, harg3.read_unread]
    exact pay_col b _ ho1 _
  have key := fun X8 G9 G11 => loop_col Variants.none c none i arg2 harg2 arg3 harg3 arg4 harg4 arg5 harg5 arg6 harg6 arg7 harg7 arg8 harg8 arg9 harg9 arg10 harg10 arg11 harg11 (harg4.unread x4) (harg5.unread x5) X8
    (arg10.view.writes (Elt Ideal) arg10.view.junk (Run.runD.sl.H10_1 (F := Ideal) c i arg2 harg2 x2)) G9 G11 k0_t1_loop.trips le_rfl s C z
  simp only [harg4.read_unread, harg5.read_unread, hrow] at key
  refine (Iff.of_eq (congrArg (· ≤ z) ((congrArg (fun P => arg9.view.read (Elt Ideal) P (ix2 s C)) (View.writes_append _ _ _ _)).trans
    (read_rebase arg9 _ _ _ _ ?_)))).trans ((key (arg8.view.writes (Elt Ideal) arg8.view.junk (Run.runD.sl.H8_1 (F := Ideal) c i arg3 harg3 hc1 x3))
    (arg9.view.writes (Elt Ideal) arg9.view.junk (Run.runD.sl.H9_1 (F := Ideal))) _).trans ?_)
  · sl_unfold_run_names
    exact (congrFun (read_store arg9 f zero2 _ _) _).trans (congrFun (read_store arg9 _ zero2 _ _) _).symm
  · rw [hcol arg8 _]
    have e0 : arg9.view.read (Elt Ideal) (arg9.view.writes (Elt Ideal) arg9.view.junk (Run.runD.sl.H9_1 (F := Ideal))) (ix2 s C) = 0 := by
      sl_unfold_run_names
      exact (congrFun (read_store arg9 _ zero2 _ _) _).trans (pay169_apply s C)
    rw [e0]
    exact and_congr_right fun _ => ⟨fun h R hs => h R (by rw [trips_eq]; exact R.isLt) hs, fun h R _ hs => h R hs⟩

theorem nineE  (c : Dev nD) (i : grid0.Coords) (arg2 : Memref sig .tc .vmem S2x14336 .f32) (harg2 : arg2.IsWhole) (arg3 : Memref sig .tc .vmem S2x4096 .f32) (harg3 : arg3.IsWhole) (arg4 : Memref sig .tc .vmem S1x512x4096 .bf16) (harg4 : arg4.IsWhole) (arg5 : Memref sig .tc .vmem S1x512x2048 .i8) (harg5 : arg5.IsWhole) (arg6 : Memref sig .tc .vmem S2x14336 .f32) (harg6 : arg6.IsWhole) (arg7 : Memref sig .tc .vmem S2x4096 .f32) (harg7 : arg7.IsWhole) (arg8 : Memref sig .tc .vmem S8x4096 .f32) (harg8 : arg8.IsWhole) (arg9 : Memref sig .tc .vmem S8x4096 .f32) (harg9 : arg9.IsWhole) (arg10 : Memref sig .tc .vmem S512x128 .f32) (harg10 : arg10.IsWhole) (arg11 : Memref sig .tc .vmem S512x128 .f32) (harg11 : arg11.IsWhole) (hc1 : ¬ k0_cond1 i = 1#1) (hc2 : ¬ k0_cond2 i = 1#1) (hc3 : ¬ k0_cond3 i = 1#1) (hc4 : k0_cond4 i = 1#1) (hc5 : ¬ k0_cond5 i = 1#1)
    (x2 : Vec Ideal S2x14336 .f32) (x3 : Vec Ideal S2x4096 .f32) (x4 : Vec Ideal S1x512x4096 .bf16) (x5 : Vec Ideal S1x512x2048 .i8) (x6 : Vec Ideal S2x14336 .f32) (x7 : Vec Ideal S2x4096 .f32) (x8 : Vec Ideal S8x4096 .f32) (x9 : Vec Ideal S8x4096 .f32) (x11 : Vec Ideal S512x128 .f32)
    (b : Fin 2) (q : Fin 28)  (ho2 : k0_off2 i = ![b.val, 512 * q.val])  (s : Fin 8) (C : Fin 4096) (z : EReal) :
    arg9.view.read (Elt Ideal) (arg9.view.writes (Elt Ideal) (harg9.unread x9) (Run.runE (F := Ideal) c i arg2 harg2 arg3 harg3 arg4 harg4 arg5 harg5 arg6 harg6 arg7 harg7 arg8 harg8 arg9 harg9 arg10 harg10 arg11 harg11 hc1 hc2 hc3 hc4 hc5 x2 x3 x4 x5 x6 x7 x8 x9 x11).2.1) (ix2 s C) ≤ z
      ↔ x9 (ix2 s C) ≤ z ∧ ∀ R : Fin 512, R.val % 8 = s.val → sV x4 x5 x8 (rowS b q x2) R C ≤ z := by
  unfold Run.runE
  dsimp only
  have hrow : ∀ a : Memref sig .tc .vmem S512x128 .f32, ∀ f : BufTy.Contents (Elt Ideal) a.view.ty,
      a.view.read (Elt Ideal) (a.view.writes (Elt Ideal) f (Run.runE.sl.H10_1 (F := Ideal) c i arg2 harg2 x2)) = rowS b q x2 := by
    intro a f
    unfold Run.runE.sl.H10_1
    sl_unfold_run_names
    refine (read_store a f zero2 _ _).trans ?_
    rw [View.readAt_eq_ld, harg2.read_unread]
    exact pay_row b q _ ho2 _
  have key := fun G11 => loop_col Variants.none c none i arg2 harg2 arg3 harg3 arg4 harg4 arg5 harg5 arg6 harg6 arg7 harg7 arg8 harg8 arg9 harg9 arg10 harg10 arg11 harg11 (harg4.unread x4) (harg5.unread x5) (harg8.unread x8)
    (arg10.view.writes (Elt Ideal) arg10.view.junk (Run.runE.sl.H10_1 (F := Ideal) c i arg2 harg2 x2)) (harg9.unread x9) G11 k0_t1_loop.trips le_rfl s C z
  simp only [harg4.read_unread, harg5.read_unread, hrow, harg8.read_unread, harg9.read_unread] at key
  exact (key _).trans (and_congr_right fun _ => ⟨fun h R hs => h R (by rw [trips_eq]; exact R.isLt) hs, fun h R _ hs => h R hs⟩)

theorem nineF  (c : Dev nD) (i : grid0.Coords) (arg2 : Memref sig .tc .vmem S2x14336 .f32) (harg2 : arg2.IsWhole) (arg3 : Memref sig .tc .vmem S2x4096 .f32) (harg3 : arg3.IsWhole) (arg4 : Memref sig .tc .vmem S1x512x4096 .bf16) (harg4 : arg4.IsWhole) (arg5 : Memref sig .tc .vmem S1x512x2048 .i8) (harg5 : arg5.IsWhole) (arg6 : Memref sig .tc .vmem S2x14336 .f32) (harg6 : arg6.IsWhole) (arg7 : Memref sig .tc .vmem S2x4096 .f32) (harg7 : arg7.IsWhole) (arg8 : Memref sig .tc .vmem S8x4096 .f32) (harg8 : arg8.IsWhole) (arg9 : Memref sig .tc .vmem S8x4096 .f32) (harg9 : arg9.IsWhole) (arg10 : Memref sig .tc .vmem S512x128 .f32) (harg10 : arg10.IsWhole) (arg11 : Memref sig .tc .vmem S512x128 .f32) (harg11 : arg11.IsWhole) (hc1 : ¬ k0_cond1 i = 1#1) (hc2 : ¬ k0_cond2 i = 1#1) (hc3 : ¬ k0_cond3 i = 1#1) (hc4 : k0_cond4 i = 1#1) (hc5 : k0_cond5 i = 1#1)
    (x2 : Vec Ideal S2x14336 .f32) (x3 : Vec Ideal S2x4096 .f32) (x4 : Vec Ideal S1x512x4096 .bf16) (x5 : Vec Ideal S1x512x2048 .i8) (x6 : Vec Ideal S2x14336 .f32) (x7 : Vec Ideal S2x4096 .f32) (x8 : Vec Ideal S8x4096 .f32) (x9 : Vec Ideal S8x4096 .f32) (x11 : Vec Ideal S512x128 .f32)
    (b : Fin 2) (q : Fin 28)  (ho2 : k0_off2 i = ![b.val, 512 * q.val])  (s : Fin 8) (C : Fin 4096) (z : EReal) :
    arg9.view.read (Elt Ideal) (arg9.view.writes (Elt Ideal) (harg9.unread x9) (Run.runF (F := Ideal) c i arg2 harg2 arg3 harg3 arg4 harg4 arg5 harg5 arg6 harg6 arg7 harg7 arg8 harg8 arg9 harg9 arg10 harg10 arg11 harg11 hc1 hc2 hc3 hc4 hc5 x2 x3 x4 x5 x6 x7 x8 x9 x11).2.2.1) (ix2 s C) ≤ z
      ↔ x9 (ix2 s C) ≤ z ∧ ∀ R : Fin 512, R.val % 8 = s.val → sV x4 x5 x8 (rowS b q x2) R C ≤ z := by
  unfold Run.runF
  dsimp only
  have hrow : ∀ a : Memref sig .tc .vmem S512x128 .f32, ∀ f : BufTy.Contents (Elt Ideal) a.view.ty,
      a.view.read (Elt Ideal) (a.view.writes (Elt Ideal) f (Run.runF.sl.H10_1 (F := Ideal) c i arg2 harg2 x2)) = rowS b q x2 := by
    intro a f
    unfold Run.runF.sl.H10_1
    sl_unfold_run_names
    refine (read_store a f zero2 _ _).trans ?_
    rw [View.readAt_eq_ld, harg2.read_unread]
    exact pay_row b q _ ho2 _
  have key := fun G11 => loop_col Variants.none c none i arg2 harg2 arg3 harg3 arg4 harg4 arg5 harg5 arg6 harg6 arg7 harg7 arg8 harg8 arg9 harg9 arg10 harg10 arg11 harg11 (harg4.unread x4) (harg5.unread x5) (harg8.unread x8)
    (arg10.view.writes (Elt Ideal) arg10.view.junk (Run.runF.sl.H10_1 (F := Ideal) c i arg2 harg2 x2)) (harg9.unread x9) G11 k0_t1_loop.trips le_rfl s C z
  simp only [harg4.read_unread, harg5.read_unread, hrow, harg8.read_unread, harg9.read_unread] at key
  exact (key _).trans (and_congr_right fun _ => ⟨fun h R hs => h R (by rw [trips_eq]; exact R.isLt) hs, fun h R _ hs => h R hs⟩)

theorem sevenF  (c : Dev nD) (i : grid0.Coords) (arg2 : Memref sig .tc .vmem S2x14336 .f32) (harg2 : arg2.IsWhole) (arg3 : Memref sig .tc .vmem S2x4096 .f32) (harg3 : arg3.IsWhole) (arg4 : Memref sig .tc .vmem S1x512x4096 .bf16) (harg4 : arg4.IsWhole) (arg5 : Memref sig .tc .vmem S1x512x2048 .i8) (harg5 : arg5.IsWhole) (arg6 : Memref sig .tc .vmem S2x14336 .f32) (harg6 : arg6.IsWhole) (arg7 : Memref sig .tc .vmem S2x4096 .f32) (harg7 : arg7.IsWhole) (arg8 : Memref sig .tc .vmem S8x4096 .f32) (harg8 : arg8.IsWhole) (arg9 : Memref sig .tc .vmem S8x4096 .f32) (harg9 : arg9.IsWhole) (arg10 : Memref sig .tc .vmem S512x128 .f32) (harg10 : arg10.IsWhole) (arg11 : Memref sig .tc .vmem S512x128 .f32) (harg11 : arg11.IsWhole) (hc1 : ¬ k0_cond1 i = 1#1) (hc2 : ¬ k0_cond2 i = 1#1) (hc3 : ¬ k0_cond3 i = 1#1) (hc4 : k0_cond4 i = 1#1) (hc5 : k0_cond5 i = 1#1)
    (x2 : Vec Ideal S2x14336 .f32) (x3 : Vec Ideal S2x4096 .f32) (x4 : Vec Ideal S1x512x4096 .bf16) (x5 : Vec Ideal S1x512x2048 .i8) (x6 : Vec Ideal S2x14336 .f32) (x7 : Vec Ideal S2x4096 .f32) (x8 : Vec Ideal S8x4096 .f32) (x9 : Vec Ideal S8x4096 .f32) (x11 : Vec Ideal S512x128 .f32)  :
    arg7.view.read (Elt Ideal) (arg7.view.writes (Elt Ideal) (harg7.unread x7) (Run.runF (F := Ideal) c i arg2 harg2 arg3 harg3 arg4 harg4 arg5 harg5 arg6 harg6 arg7 harg7 arg8 harg8 arg9 harg9 arg10 harg10 arg11 harg11 hc1 hc2 hc3 hc4 hc5 x2 x3 x4 x5 x6 x7 x8 x9 x11).2.1)
      = outCol 1 (colM (arg9.view.read (Elt Ideal) (arg9.view.writes (Elt Ideal) (harg9.unread x9) (Run.runF (F := Ideal) c i arg2 harg2 arg3 harg3 arg4 harg4 arg5 harg5 arg6 harg6 arg7 harg7 arg8 harg8 arg9 harg9 arg10 harg10 arg11 harg11 hc1 hc2 hc3 hc4 hc5 x2 x3 x4 x5 x6 x7 x8 x9 x11).2.2.1))) x7 := by
  unfold Run.runF
  dsimp only
  refine col_out arg7 harg7 x7 1 _ (o := ![1, 0]) rfl _ _ (fun C => ?_)
  refine (pay5_apply _ C).trans ?_
  exact congrArg (fun v => colM v C) (read_all arg9 _ rfl _)

end Cert.StatsIdeal.Value

end
-- ==== Proof.StatsWhole.lean ====
module

public import proofs.«01_k».proof.Proof.StatsColPoint
public import Idealize.ShloMosaic.Lib.Pipeline.ArrRel
public import proofs.«01_k».proof.Proof.Gen.StatsIdeal.Skeleton
public import proofs.«01_k».proof.Proof.Gen.StatsIdeal.Loops

@[expose] public section

/-! The arrays of row and of column statistics of the statistics call, entry by entry, as functions of the whole argument arrays. -/

set_option maxRecDepth 16384

noncomputable section

namespace Cert.StatsIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)
open Cert.StatsIdeal Cert.StatsIdeal.Gen
open Cert.StatsIdeal.Run (ms0 ms1 ms2 ms3 ms4 ms5 hs0 hs1 hs2 hs3 hs4 hs5 sc0 sc1 sc2 sc3)
open Cert.KernelIdeal.Value (nibU idx2_ex colB wV)

variable (m : (ℓ : Loc nD τ sig) → Buf (Elt Ideal) ℓ) (c : Dev nD)

theorem idx0 : ∀ t : Fin cfg0.N, win0_0.index t (0 : Fin 2) = 0 ∧ win0_0.index t (1 : Fin 2) = 0 :=
  (by decide +kernel : ∀ t : Fin grid0.N, _)

theorem idx1 : ∀ t : Fin cfg0.N, win0_1.index t (0 : Fin 2) = 0 ∧ win0_1.index t (1 : Fin 2) = 0 :=
  (by decide +kernel : ∀ t : Fin grid0.N, _)

theorem idx2 : ∀ t : Fin cfg0.N, win0_2.index t (0 : Fin 3) = t.val / 28 ∧
    win0_2.index t (1 : Fin 3) = t.val % 28 ∧ win0_2.index t (2 : Fin 3) = 0 :=
  (by decide +kernel : ∀ t : Fin grid0.N, _)

theorem idx3 : ∀ t : Fin cfg0.N, win0_3.index t (0 : Fin 3) = t.val / 28 ∧
    win0_3.index t (1 : Fin 3) = t.val % 28 ∧ win0_3.index t (2 : Fin 3) = 0 :=
  (by decide +kernel : ∀ t : Fin grid0.N, _)

theorem poff1 : ∀ t : Fin cfg0.N, k0_off1 (grid0.coords t) = ![t.val / 28, 0] :=
  (by decide +kernel : ∀ t : Fin grid0.N, _)

theorem poff2 : ∀ t : Fin cfg0.N, k0_off2 (grid0.coords t) = ![t.val / 28, 512 * (t.val % 28)] :=
  (by decide +kernel : ∀ t : Fin grid0.N, _)

theorem poff52_0 : ∀ t : Fin cfg0.N, k0_off52 (grid0.coords t) 0#32 = ![0, 512 * (t.val % 28) + 0] :=
  (by decide +kernel : ∀ t : Fin grid0.N, _)

theorem poff52_128 : ∀ t : Fin cfg0.N, k0_off52 (grid0.coords t) 128#32 = ![0, 512 * (t.val % 28) + 128] :=
  (by decide +kernel : ∀ t : Fin grid0.N, _)

theorem poff52_256 : ∀ t : Fin cfg0.N, k0_off52 (grid0.coords t) 256#32 = ![0, 512 * (t.val % 28) + 256] :=
  (by decide +kernel : ∀ t : Fin grid0.N, _)

theorem poff52_384 : ∀ t : Fin cfg0.N, k0_off52 (grid0.coords t) 384#32 = ![0, 512 * (t.val % 28) + 384] :=
  (by decide +kernel : ∀ t : Fin grid0.N, _)

theorem poff53_0 : ∀ t : Fin cfg0.N, k0_off53 (grid0.coords t) 0#32 = ![1, 512 * (t.val % 28) + 0] :=
  (by decide +kernel : ∀ t : Fin grid0.N, _)

theorem poff53_128 : ∀ t : Fin cfg0.N, k0_off53 (grid0.coords t) 128#32 = ![1, 512 * (t.val % 28) + 128] :=
  (by decide +kernel : ∀ t : Fin grid0.N, _)

theorem poff53_256 : ∀ t : Fin cfg0.N, k0_off53 (grid0.coords t) 256#32 = ![1, 512 * (t.val % 28) + 256] :=
  (by decide +kernel : ∀ t : Fin grid0.N, _)

theorem poff53_384 : ∀ t : Fin cfg0.N, k0_off53 (grid0.coords t) 384#32 = ![1, 512 * (t.val % 28) + 384] :=
  (by decide +kernel : ∀ t : Fin grid0.N, _)

/-- The batch entry a point works on. -/
def bOf (n : ℕ) : Fin 2 := ⟨n / 28 % 2, Nat.mod_lt _ (by omega)⟩

/-- The row block a point works on. -/
def qOf (n : ℕ) : Fin 28 := ⟨n % 28, Nat.mod_lt _ (by omega)⟩

theorem lt56 (t : Fin cfg0.N) : t.val < 56 := lt_of_lt_of_eq t.isLt (by decide +kernel)

theorem bOf_eq (t : Fin cfg0.N) : (bOf t.val).val = t.val / 28 := by
  have := lt56 t
  show t.val / 28 % 2 = t.val / 28
  omega

/-- The row statistics, the column statistics, the gradients and the codes. -/
abbrev aVr : Vec Ideal S2x14336 .f32 := m ((c : Thread nD τ).loc main_arg0)
abbrev aVc : Vec Ideal S2x4096 .f32 := m ((c : Thread nD τ).loc main_arg1)
abbrev aG : Vec Ideal S2x14336x4096 .bf16 := m ((c : Thread nD τ).loc main_arg2)
abbrev aVq : Vec Ideal S2x14336x2048 .i8 := m ((c : Thread nD τ).loc main_arg3)

theorem iblk0_eq (t : Fin cfg0.N) : iblk m c 0 t = aVr m c := by
  funext j
  show V m c main_arg0 (((cfg0.win 0).blk t).view.emb j) = _
  rw [V_main_arg0]
  refine congrArg (m ((c : Thread nD τ).loc main_arg0)) ?_
  obtain ⟨e0, e1⟩ := idx0 t
  funext a; apply Fin.ext
  match a with
  | ⟨0, _⟩ => show win0_0.index t (0 : Fin 2) * 2 + 1 * (j 0).val = (j 0).val; omega
  | ⟨1, _⟩ => show win0_0.index t (1 : Fin 2) * 14336 + 1 * (j 1).val = (j 1).val; omega

theorem iblk1_eq (t : Fin cfg0.N) : iblk m c 1 t = aVc m c := by
  funext j
  show V m c main_arg1 (((cfg0.win 1).blk t).view.emb j) = _
  rw [V_main_arg1]
  refine congrArg (m ((c : Thread nD τ).loc main_arg1)) ?_
  obtain ⟨e0, e1⟩ := idx1 t
  funext a; apply Fin.ext
  match a with
  | ⟨0, _⟩ => show win0_1.index t (0 : Fin 2) * 2 + 1 * (j 0).val = (j 0).val; omega
  | ⟨1, _⟩ => show win0_1.index t (1 : Fin 2) * 4096 + 1 * (j 1).val = (j 1).val; omega

theorem iblk2_apply (t : Fin cfg0.N) (R : Fin 512) (C : Fin 4096) (r : Fin 14336)
    (hr : r.val = 512 * (qOf t.val).val + R.val) : iblk m c 2 t (ix3 0 R C) = aG m c (ix3 (bOf t.val) r C) := by
  show V m c main_arg2 (((cfg0.win 2).blk t).view.emb (ix3 0 R C)) = _
  rw [V_main_arg2]
  refine congrArg (m ((c : Thread nD τ).loc main_arg2)) ?_
  obtain ⟨e0, e1, e2⟩ := idx2 t
  have hq : (qOf t.val).val = t.val % 28 := rfl
  have hb := bOf_eq t
  funext a; apply Fin.ext
  match a with
  | ⟨0, _⟩ => show win0_2.index t (0 : Fin 3) * 1 + 1 * 0 = (bOf t.val).val; omega
  | ⟨1, _⟩ => show win0_2.index t (1 : Fin 3) * 512 + 1 * R.val = r.val; omega
  | ⟨2, _⟩ => show win0_2.index t (2 : Fin 3) * 4096 + 1 * C.val = C.val; omega

theorem iblk3_apply (t : Fin cfg0.N) (R : Fin 512) (C : Fin 2048) (r : Fin 14336)
    (hr : r.val = 512 * (qOf t.val).val + R.val) : iblk m c 3 t (ix3 0 R C) = aVq m c (ix3 (bOf t.val) r C) := by
  show V m c main_arg3 (((cfg0.win 3).blk t).view.emb (ix3 0 R C)) = _
  rw [V_main_arg3]
  refine congrArg (m ((c : Thread nD τ).loc main_arg3)) ?_
  obtain ⟨e0, e1, e2⟩ := idx3 t
  have hq : (qOf t.val).val = t.val % 28 := rfl
  have hb := bOf_eq t
  funext a; apply Fin.ext
  match a with
  | ⟨0, _⟩ => show win0_3.index t (0 : Fin 3) * 1 + 1 * 0 = (bOf t.val).val; omega
  | ⟨1, _⟩ => show win0_3.index t (1 : Fin 3) * 512 + 1 * R.val = r.val; omega
  | ⟨2, _⟩ => show win0_3.index t (2 : Fin 3) * 2048 + 1 * C.val = C.val; omega

/-- The row statistic the kernel stores for row `r` of batch entry `b`. -/
def wRow (vr : Vec Ideal S2x14336 .f32) (vc : Vec Ideal S2x4096 .f32) (g : Vec Ideal S2x14336x4096 .bf16)
    (vq : Vec Ideal S2x14336x2048 .i8) (b : Fin 2) (r : Fin 14336) : EReal :=
  max 0 (Finset.univ.sup fun C : Fin 4096 => wV vr vc g vq b r C) * k2

theorem rmV_whole (t : Fin cfg0.N) (R : Fin 512) :
    rmV (iblk m c 2 t) (iblk m c 3 t) (colB (bOf t.val) (aVc m c)) (rowS (bOf t.val) (qOf t.val) (aVr m c)) R * k2
      = wRow (aVr m c) (aVc m c) (aG m c) (aVq m c) (bOf t.val) ⟨512 * (qOf t.val).val + R.val, by omega⟩ := by
  unfold rmV wRow
  congr 3
  funext C
  unfold sV wV
  rw [iblk2_apply m c t R C ⟨512 * (qOf t.val).val + R.val, by omega⟩ rfl, iblk3_apply m c t R _ ⟨512 * (qOf t.val).val + R.val, by omega⟩ rfl]
  rfl

/-- The row array after a point, from before it. -/
def rowAfter (t : ℕ) (x : Vec Ideal S2x14336 .f32) : Vec Ideal S2x14336 .f32 :=
  outRow (bOf t) (qOf t) (fun R => wRow (aVr m c) (aVc m c) (aG m c) (aVq m c) (bOf t) ⟨512 * (qOf t).val + R.val, by omega⟩) x

theorem outRow_congr (t : Fin cfg0.N) (cb : Vec Ideal S8x4096 .f32) (hcb : cb = colB (bOf t.val) (aVc m c))
    (x0 : Vec Ideal S2x14336 .f32) (h0 : x0 = aVr m c) (x : Vec Ideal S2x14336 .f32) :
    outRow (bOf t.val) (qOf t.val) (fun R => rmV (iblk m c 2 t) (iblk m c 3 t) cb (rowS (bOf t.val) (qOf t.val) x0) R * k2) x
      = rowAfter m c t.val x := by
  subst hcb h0
  unfold rowAfter
  congr 1
  funext R
  exact rmV_whole m c t R

/-- The column statistic the kernel stores for column `C` of batch entry `b`. -/
def wCol (vr : Vec Ideal S2x14336 .f32) (vc : Vec Ideal S2x4096 .f32) (g : Vec Ideal S2x14336x4096 .bf16)
    (vq : Vec Ideal S2x14336x2048 .i8) (b : Fin 2) (C : Fin 4096) : EReal :=
  max 0 (Finset.univ.sup fun r : Fin 14336 => wV vr vc g vq b r C) * k2

/-- `z` bounds zero and the new second moments of column `C` in every eighth of the first `512 k` rows. -/
def Below (b : Fin 2) (k : ℕ) (s : Fin 8) (C : Fin 4096) (z : EReal) : Prop :=
  0 ≤ z ∧ ∀ r : Fin 14336, r.val < 512 * k → r.val % 8 = s.val → wV (aVr m c) (aVc m c) (aG m c) (aVq m c) b r C ≤ z

theorem below_zero (b : Fin 2) (s : Fin 8) (C : Fin 4096) (z : EReal) : Below m c b 0 s C z ↔ 0 ≤ z :=
  ⟨fun h => h.1, fun h => ⟨h, fun r hr => absurd hr (by omega)⟩⟩

theorem sV_whole (t : Fin cfg0.N) (R : Fin 512) (C : Fin 4096) :
    sV (iblk m c 2 t) (iblk m c 3 t) (colB (bOf t.val) (aVc m c)) (rowS (bOf t.val) (qOf t.val) (aVr m c)) R C
      = wV (aVr m c) (aVc m c) (aG m c) (aVq m c) (bOf t.val) ⟨512 * (qOf t.val).val + R.val, by omega⟩ C := by
  unfold sV wV
  rw [iblk2_apply m c t R C ⟨512 * (qOf t.val).val + R.val, by omega⟩ rfl, iblk3_apply m c t R _ ⟨512 * (qOf t.val).val + R.val, by omega⟩ rfl]
  rfl

theorem below_step (t : Fin cfg0.N) (s : Fin 8) (C : Fin 4096) (z : EReal) (cb : Vec Ideal S8x4096 .f32)
    (hcb : cb = colB (bOf t.val) (aVc m c)) (x0 : Vec Ideal S2x14336 .f32) (h0 : x0 = aVr m c) (l : Prop)
    (hl : l ↔ Below m c (bOf t.val) (t.val % 28) s C z) :
    (l ∧ ∀ R : Fin 512, R.val % 8 = s.val →
      sV (iblk m c 2 t) (iblk m c 3 t) cb (rowS (bOf t.val) (qOf t.val) x0) R C ≤ z) ↔ Below m c (bOf t.val) (t.val % 28 + 1) s C z := by
  subst hcb h0
  have hq : (qOf t.val).val = t.val % 28 := rfl
  simp only [sV_whole]
  rw [hl]
  constructor
  · rintro ⟨⟨hz, h1⟩, h2⟩
    refine ⟨hz, fun r hr hs => ?_⟩
    by_cases hc : r.val < 512 * (t.val % 28)
    · exact h1 r hc hs
    · have h3 := h2 ⟨r.val - 512 * (t.val % 28), by omega⟩ (by show (r.val - 512 * (t.val % 28)) % 8 = s.val; omega)
      refine le_of_eq_of_le ?_ h3
      congr 1
      exact Fin.ext (by show r.val = 512 * (t.val % 28) + (r.val - 512 * (t.val % 28)); omega)
  · rintro ⟨hz, h⟩
    refine ⟨⟨hz, fun r hr hs => h r (by omega) hs⟩, fun R hs => h _ ?_ ?_⟩
    · show 512 * (t.val % 28) + R.val < 512 * (t.val % 28 + 1)
      omega
    · show (512 * (t.val % 28) + R.val) % 8 = s.val
      omega

theorem colM_eq (b : Fin 2) (x : Vec Ideal S8x4096 .f32) (h : ∀ s C z, x (ix2 s C) ≤ z ↔ Below m c b 28 s C z) :
    colM x = wCol (aVr m c) (aVc m c) (aG m c) (aVq m c) b := by
  funext C
  unfold colM wCol
  refine congrArg (· * k2) (eq_of_forall_ge_iff fun z => ?_)
  rw [Finset.fold_max_le, Cert.Lits.f_bot, max_le_iff, Finset.sup_le_iff]
  constructor
  · rintro ⟨_, h1⟩
    refine ⟨((h 0 C z).1 (h1 0 (Finset.mem_univ _))).1, fun r _ => ?_⟩
    exact ((h ⟨r.val % 8, by omega⟩ C z).1 (h1 _ (Finset.mem_univ _))).2 r (by omega) rfl
  · rintro ⟨hz, h1⟩
    exact ⟨bot_le, fun s _ => (h s C z).2 ⟨hz, fun r _ _ => h1 r (Finset.mem_univ _)⟩⟩

/-- The column array after a point, from before it. -/
def colAfter (t : ℕ) (x : Vec Ideal S2x4096 .f32) : Vec Ideal S2x4096 .f32 :=
  if t % 28 = 27 then outCol (bOf t) (wCol (aVr m c) (aVc m c) (aG m c) (aVq m c) (bOf t)) x else x

theorem ofA_row (t : Fin cfg0.N) hi hb x6 x7 x8 x9 x11  :
    (ms4 t).view.read (Elt Ideal) ((ms4 t).view.writes (Elt Ideal) ((hs4 t).unread x6) (Run.atA m c t hi hb x6 x7 x8 x9 x11).1)
      = rowAfter m c t.val x6 := by
  have hb' : (bOf t.val).val = t.val / 28 := bOf_eq t
  have hl := lt56 t
  have hz : (bOf t.val).val = 0 := by rw [hb']; omega
  have hq : (qOf t.val).val = t.val % 28 := rfl
  unfold Run.atA
  refine (outA c (grid0.coords t) (ms0 t) (hs0 t) (ms1 t) (hs1 t) (ms2 t) (hs2 t) (ms3 t) (hs3 t) (ms4 t) (hs4 t) (ms5 t) (hs5 t) sc0 (Memref.isWhole_whole _) sc1 (Memref.isWhole_whole _) sc2 (Memref.isWhole_whole _) sc3 (Memref.isWhole_whole _)
    _ _ _ _ _ (iblk m c 0 t) (iblk m c 1 t) (iblk m c 2 t) (iblk m c 3 t) x6 x7 x8 x9 x11 (bOf t.val) (qOf t.val) (by rw [hb']; exact poff1 t) (by rw [hb', hq]; exact poff2 t)
    (by rw [hz, hq]; exact poff52_0 t) (by rw [hz, hq]; exact poff52_128 t) (by rw [hz, hq]; exact poff52_256 t) (by rw [hz, hq]; exact poff52_384 t)).trans ?_
  exact outRow_congr m c t _ (congrArg (colB (bOf t.val)) (iblk1_eq m c t)) _ (iblk0_eq m c t) x6

theorem ofA_col (t : Fin cfg0.N) hi hb x6 x7 x8 x9 x11 (f) :
    sc0.view.read (Elt Ideal) (sc0.view.writes (Elt Ideal) f (Run.atA m c t hi hb x6 x7 x8 x9 x11).2.1)
      = colB (bOf t.val) (aVc m c) := by
  have hb' : (bOf t.val).val = t.val / 28 := bOf_eq t
  unfold Run.atA
  refine (colA c (grid0.coords t) (ms0 t) (hs0 t) (ms1 t) (hs1 t) (ms2 t) (hs2 t) (ms3 t) (hs3 t) (ms4 t) (hs4 t) (ms5 t) (hs5 t) sc0 (Memref.isWhole_whole _) sc1 (Memref.isWhole_whole _) sc2 (Memref.isWhole_whole _) sc3 (Memref.isWhole_whole _)
    _ _ _ _ _ (iblk m c 0 t) (iblk m c 1 t) (iblk m c 2 t) (iblk m c 3 t) x6 x7 x8 x9 x11 (bOf t.val) (by rw [hb']; exact poff1 t) sc0 f).trans ?_
  exact congrArg (colB (bOf t.val)) (iblk1_eq m c t)

theorem ofA_nine (t : Fin cfg0.N) hi hb x6 x7 x8 x9 x11 (g) (s : Fin 8) (C : Fin 4096) (z : EReal) :
    sc1.view.read (Elt Ideal) (sc1.view.writes (Elt Ideal) g (Run.atA m c t hi hb x6 x7 x8 x9 x11).2.2.1) (ix2 s C) ≤ z
      ↔ Below m c (bOf t.val) (t.val % 28 + 1) s C z := by
  have hb' : (bOf t.val).val = t.val / 28 := bOf_eq t
  have hq : (qOf t.val).val = t.val % 28 := rfl
  unfold Run.atA
  refine (nineA c (grid0.coords t) (ms0 t) (hs0 t) (ms1 t) (hs1 t) (ms2 t) (hs2 t) (ms3 t) (hs3 t) (ms4 t) (hs4 t) (ms5 t) (hs5 t) sc0 (Memref.isWhole_whole _) sc1 (Memref.isWhole_whole _) sc2 (Memref.isWhole_whole _) sc3 (Memref.isWhole_whole _)
    _ _ _ _ _ (iblk m c 0 t) (iblk m c 1 t) (iblk m c 2 t) (iblk m c 3 t) x6 x7 x8 x9 x11 (bOf t.val) (qOf t.val) (by rw [hb']; exact poff1 t) (by rw [hb', hq]; exact poff2 t) g s C z).trans ?_
  exact below_step m c t s C z _ (congrArg (colB (bOf t.val)) (iblk1_eq m c t)) _ (iblk0_eq m c t) _ (by rw [hi]; exact (below_zero m c _ s C z).symm)

theorem ofB_row (t : Fin cfg0.N) hi hb x6 x7 x8 x9 x11 (h8 : x8 = colB (bOf t.val) (aVc m c)) :
    (ms4 t).view.read (Elt Ideal) ((ms4 t).view.writes (Elt Ideal) ((hs4 t).unread x6) (Run.atB m c t hi hb x6 x7 x8 x9 x11).1)
      = rowAfter m c t.val x6 := by
  have hb' : (bOf t.val).val = t.val / 28 := bOf_eq t
  have hl := lt56 t
  have hz : (bOf t.val).val = 0 := by rw [hb']; omega
  have hq : (qOf t.val).val = t.val % 28 := rfl
  unfold Run.atB
  refine (outB c (grid0.coords t) (ms0 t) (hs0 t) (ms1 t) (hs1 t) (ms2 t) (hs2 t) (ms3 t) (hs3 t) (ms4 t) (hs4 t) (ms5 t) (hs5 t) sc0 (Memref.isWhole_whole _) sc1 (Memref.isWhole_whole _) sc2 (Memref.isWhole_whole _) sc3 (Memref.isWhole_whole _)
    _ _ _ _ _ (iblk m c 0 t) (iblk m c 1 t) (iblk m c 2 t) (iblk m c 3 t) x6 x7 x8 x9 x11 (bOf t.val) (qOf t.val)  (by rw [hb', hq]; exact poff2 t)
    (by rw [hz, hq]; exact poff52_0 t) (by rw [hz, hq]; exact poff52_128 t) (by rw [hz, hq]; exact poff52_256 t) (by rw [hz, hq]; exact poff52_384 t)).trans ?_
  exact outRow_congr m c t _ h8 _ (iblk0_eq m c t) x6

theorem ofB_nine (t : Fin cfg0.N) hi hb x6 x7 x8 x9 x11 (h8 : x8 = colB (bOf t.val) (aVc m c)) (h9 : ∀ s C z, x9 (ix2 s C) ≤ z ↔ Below m c (bOf t.val) (t.val % 28) s C z) (s : Fin 8) (C : Fin 4096) (z : EReal) :
    sc1.view.read (Elt Ideal) (sc1.view.writes (Elt Ideal) ((Memref.isWhole_whole _).unread x9) (Run.atB m c t hi hb x6 x7 x8 x9 x11).2.1) (ix2 s C) ≤ z
      ↔ Below m c (bOf t.val) (t.val % 28 + 1) s C z := by
  have hb' : (bOf t.val).val = t.val / 28 := bOf_eq t
  have hq : (qOf t.val).val = t.val % 28 := rfl
  unfold Run.atB
  refine (nineB c (grid0.coords t) (ms0 t) (hs0 t) (ms1 t) (hs1 t) (ms2 t) (hs2 t) (ms3 t) (hs3 t) (ms4 t) (hs4 t) (ms5 t) (hs5 t) sc0 (Memref.isWhole_whole _) sc1 (Memref.isWhole_whole _) sc2 (Memref.isWhole_whole _) sc3 (Memref.isWhole_whole _)
    _ _ _ _ _ (iblk m c 0 t) (iblk m c 1 t) (iblk m c 2 t) (iblk m c 3 t) x6 x7 x8 x9 x11 (bOf t.val) (qOf t.val)  (by rw [hb', hq]; exact poff2 t) s C z).trans ?_
  exact below_step m c t s C z _ h8 _ (iblk0_eq m c t) _ (h9 s C z)

theorem ofC_row (t : Fin cfg0.N) hi hb x6 x7 x8 x9 x11 (h8 : x8 = colB (bOf t.val) (aVc m c)) :
    (ms4 t).view.read (Elt Ideal) ((ms4 t).view.writes (Elt Ideal) ((hs4 t).unread x6) (Run.atC m c t hi hb x6 x7 x8 x9 x11).1)
      = rowAfter m c t.val x6 := by
  have hb' : (bOf t.val).val = t.val / 28 := bOf_eq t
  have hl := lt56 t
  have hz : (bOf t.val).val = 0 := by rw [hb']; omega
  have hq : (qOf t.val).val = t.val % 28 := rfl
  unfold Run.atC
  refine (outC c (grid0.coords t) (ms0 t) (hs0 t) (ms1 t) (hs1 t) (ms2 t) (hs2 t) (ms3 t) (hs3 t) (ms4 t) (hs4 t) (ms5 t) (hs5 t) sc0 (Memref.isWhole_whole _) sc1 (Memref.isWhole_whole _) sc2 (Memref.isWhole_whole _) sc3 (Memref.isWhole_whole _)
    _ _ _ _ _ (iblk m c 0 t) (iblk m c 1 t) (iblk m c 2 t) (iblk m c 3 t) x6 x7 x8 x9 x11 (bOf t.val) (qOf t.val)  (by rw [hb', hq]; exact poff2 t)
    (by rw [hz, hq]; exact poff52_0 t) (by rw [hz, hq]; exact poff52_128 t) (by rw [hz, hq]; exact poff52_256 t) (by rw [hz, hq]; exact poff52_384 t)).trans ?_
  exact outRow_congr m c t _ h8 _ (iblk0_eq m c t) x6

theorem ofC_nine (t : Fin cfg0.N) hi hb x6 x7 x8 x9 x11 (h8 : x8 = colB (bOf t.val) (aVc m c)) (h9 : ∀ s C z, x9 (ix2 s C) ≤ z ↔ Below m c (bOf t.val) (t.val % 28) s C z) (s : Fin 8) (C : Fin 4096) (z : EReal) :
    sc1.view.read (Elt Ideal) (sc1.view.writes (Elt Ideal) ((Memref.isWhole_whole _).unread x9) (Run.atC m c t hi hb x6 x7 x8 x9 x11).2.2.1) (ix2 s C) ≤ z
      ↔ Below m c (bOf t.val) (t.val % 28 + 1) s C z := by
  have hb' : (bOf t.val).val = t.val / 28 := bOf_eq t
  have hq : (qOf t.val).val = t.val % 28 := rfl
  unfold Run.atC
  refine (nineC c (grid0.coords t) (ms0 t) (hs0 t) (ms1 t) (hs1 t) (ms2 t) (hs2 t) (ms3 t) (hs3 t) (ms4 t) (hs4 t) (ms5 t) (hs5 t) sc0 (Memref.isWhole_whole _) sc1 (Memref.isWhole_whole _) sc2 (Memref.isWhole_whole _) sc3 (Memref.isWhole_whole _)
    _ _ _ _ _ (iblk m c 0 t) (iblk m c 1 t) (iblk m c 2 t) (iblk m c 3 t) x6 x7 x8 x9 x11 (bOf t.val) (qOf t.val)  (by rw [hb', hq]; exact poff2 t) s C z).trans ?_
  exact below_step m c t s C z _ h8 _ (iblk0_eq m c t) _ (h9 s C z)

theorem ofC_seven (t : Fin cfg0.N) hi hb x6 x7 x8 x9 x11 (h8 : x8 = colB (bOf t.val) (aVc m c)) (h9 : ∀ s C z, x9 (ix2 s C) ≤ z ↔ Below m c (bOf t.val) (t.val % 28) s C z) :
    (ms5 t).view.read (Elt Ideal) ((ms5 t).view.writes (Elt Ideal) ((hs5 t).unread x7) (Run.atC m c t hi hb x6 x7 x8 x9 x11).2.1)
      = colAfter m c t.val x7 := by
  have hl := lt56 t
  have hz : bOf t.val = 0 := Fin.ext (by rw [bOf_eq t]; show t.val / 28 = 0; omega)
  have h28 : t.val % 28 + 1 = 28 := by omega
  have h := ofC_nine m c t hi hb x6 x7 x8 x9 x11 h8 h9
  rw [h28] at h
  have e := colM_eq m c (bOf t.val) _ h
  unfold Run.atC at e ⊢
  refine (sevenC c (grid0.coords t) (ms0 t) (hs0 t) (ms1 t) (hs1 t) (ms2 t) (hs2 t) (ms3 t) (hs3 t) (ms4 t) (hs4 t) (ms5 t) (hs5 t) sc0 (Memref.isWhole_whole _) sc1 (Memref.isWhole_whole _) sc2 (Memref.isWhole_whole _) sc3 (Memref.isWhole_whole _)
    _ _ _ _ _ (iblk m c 0 t) (iblk m c 1 t) (iblk m c 2 t) (iblk m c 3 t) x6 x7 x8 x9 x11).trans ?_
  refine Eq.trans ?_ (if_pos hi).symm
  rw [← hz]
  exact congrArg (fun w => outCol (bOf t.val) w x7) e

theorem ofD_row (t : Fin cfg0.N) hi hb x6 x7 x8 x9 x11  :
    (ms4 t).view.read (Elt Ideal) ((ms4 t).view.writes (Elt Ideal) ((hs4 t).unread x6) (Run.atD m c t hi hb x6 x7 x8 x9 x11).1)
      = rowAfter m c t.val x6 := by
  have hb' : (bOf t.val).val = t.val / 28 := bOf_eq t
  have hl := lt56 t
  have hz : (bOf t.val).val = 1 := by rw [hb']; omega
  have hq : (qOf t.val).val = t.val % 28 := rfl
  unfold Run.atD
  refine (outD c (grid0.coords t) (ms0 t) (hs0 t) (ms1 t) (hs1 t) (ms2 t) (hs2 t) (ms3 t) (hs3 t) (ms4 t) (hs4 t) (ms5 t) (hs5 t) sc0 (Memref.isWhole_whole _) sc1 (Memref.isWhole_whole _) sc2 (Memref.isWhole_whole _) sc3 (Memref.isWhole_whole _)
    _ _ _ _ _ (iblk m c 0 t) (iblk m c 1 t) (iblk m c 2 t) (iblk m c 3 t) x6 x7 x8 x9 x11 (bOf t.val) (qOf t.val) (by rw [hb']; exact poff1 t) (by rw [hb', hq]; exact poff2 t)
    (by rw [hz, hq]; exact poff53_0 t) (by rw [hz, hq]; exact poff53_128 t) (by rw [hz, hq]; exact poff53_256 t) (by rw [hz, hq]; exact poff53_384 t)).trans ?_
  exact outRow_congr m c t _ (congrArg (colB (bOf t.val)) (iblk1_eq m c t)) _ (iblk0_eq m c t) x6

theorem ofD_col (t : Fin cfg0.N) hi hb x6 x7 x8 x9 x11 (f) :
    sc0.view.read (Elt Ideal) (sc0.view.writes (Elt Ideal) f (Run.atD m c t hi hb x6 x7 x8 x9 x11).2.1)
      = colB (bOf t.val) (aVc m c) := by
  have hb' : (bOf t.val).val = t.val / 28 := bOf_eq t
  unfold Run.atD
  refine (colD c (grid0.coords t) (ms0 t) (hs0 t) (ms1 t) (hs1 t) (ms2 t) (hs2 t) (ms3 t) (hs3 t) (ms4 t) (hs4 t) (ms5 t) (hs5 t) sc0 (Memref.isWhole_whole _) sc1 (Memref.isWhole_whole _) sc2 (Memref.isWhole_whole _) sc3 (Memref.isWhole_whole _)
    _ _ _ _ _ (iblk m c 0 t) (iblk m c 1 t) (iblk m c 2 t) (iblk m c 3 t) x6 x7 x8 x9 x11 (bOf t.val) (by rw [hb']; exact poff1 t) sc0 f).trans ?_
  exact congrArg (colB (bOf t.val)) (iblk1_eq m c t)

theorem ofD_nine (t : Fin cfg0.N) hi hb x6 x7 x8 x9 x11 (g) (s : Fin 8) (C : Fin 4096) (z : EReal) :
    sc1.view.read (Elt Ideal) (sc1.view.writes (Elt Ideal) g (Run.atD m c t hi hb x6 x7 x8 x9 x11).2.2.1) (ix2 s C) ≤ z
      ↔ Below m c (bOf t.val) (t.val % 28 + 1) s C z := by
  have hb' : (bOf t.val).val = t.val / 28 := bOf_eq t
  have hq : (qOf t.val).val = t.val % 28 := rfl
  unfold Run.atD
  refine (nineD c (grid0.coords t) (ms0 t) (hs0 t) (ms1 t) (hs1 t) (ms2 t) (hs2 t) (ms3 t) (hs3 t) (ms4 t) (hs4 t) (ms5 t) (hs5 t) sc0 (Memref.isWhole_whole _) sc1 (Memref.isWhole_whole _) sc2 (Memref.isWhole_whole _) sc3 (Memref.isWhole_whole _)
    _ _ _ _ _ (iblk m c 0 t) (iblk m c 1 t) (iblk m c 2 t) (iblk m c 3 t) x6 x7 x8 x9 x11 (bOf t.val) (qOf t.val) (by rw [hb']; exact poff1 t) (by rw [hb', hq]; exact poff2 t) g s C z).trans ?_
  exact below_step m c t s C z _ (congrArg (colB (bOf t.val)) (iblk1_eq m c t)) _ (iblk0_eq m c t) _ (by rw [hi]; exact (below_zero m c _ s C z).symm)

theorem ofE_row (t : Fin cfg0.N) hi hb x6 x7 x8 x9 x11 (h8 : x8 = colB (bOf t.val) (aVc m c)) :
    (ms4 t).view.read (Elt Ideal) ((ms4 t).view.writes (Elt Ideal) ((hs4 t).unread x6) (Run.atE m c t hi hb x6 x7 x8 x9 x11).1)
      = rowAfter m c t.val x6 := by
  have hb' : (bOf t.val).val = t.val / 28 := bOf_eq t
  have hl := lt56 t
  have hz : (bOf t.val).val = 1 := by rw [hb']; omega
  have hq : (qOf t.val).val = t.val % 28 := rfl
  unfold Run.atE
  refine (outE c (grid0.coords t) (ms0 t) (hs0 t) (ms1 t) (hs1 t) (ms2 t) (hs2 t) (ms3 t) (hs3 t) (ms4 t) (hs4 t) (ms5 t) (hs5 t) sc0 (Memref.isWhole_whole _) sc1 (Memref.isWhole_whole _) sc2 (Memref.isWhole_whole _) sc3 (Memref.isWhole_whole _)
    _ _ _ _ _ (iblk m c 0 t) (iblk m c 1 t) (iblk m c 2 t) (iblk m c 3 t) x6 x7 x8 x9 x11 (bOf t.val) (qOf t.val)  (by rw [hb', hq]; exact poff2 t)
    (by rw [hz, hq]; exact poff53_0 t) (by rw [hz, hq]; exact poff53_128 t) (by rw [hz, hq]; exact poff53_256 t) (by rw [hz, hq]; exact poff53_384 t)).trans ?_
  exact outRow_congr m c t _ h8 _ (iblk0_eq m c t) x6

theorem ofE_nine (t : Fin cfg0.N) hi hb x6 x7 x8 x9 x11 (h8 : x8 = colB (bOf t.val) (aVc m c)) (h9 : ∀ s C z, x9 (ix2 s C) ≤ z ↔ Below m c (bOf t.val) (t.val % 28) s C z) (s : Fin 8) (C : Fin 4096) (z : EReal) :
    sc1.view.read (Elt Ideal) (sc1.view.writes (Elt Ideal) ((Memref.isWhole_whole _).unread x9) (Run.atE m c t hi hb x6 x7 x8 x9 x11).2.1) (ix2 s C) ≤ z
      ↔ Below m c (bOf t.val) (t.val % 28 + 1) s C z := by
  have hb' : (bOf t.val).val = t.val / 28 := bOf_eq t
  have hq : (qOf t.val).val = t.val % 28 := rfl
  unfold Run.atE
  refine (nineE c (grid0.coords t) (ms0 t) (hs0 t) (ms1 t) (hs1 t) (ms2 t) (hs2 t) (ms3 t) (hs3 t) (ms4 t) (hs4 t) (ms5 t) (hs5 t) sc0 (Memref.isWhole_whole _) sc1 (Memref.isWhole_whole _) sc2 (Memref.isWhole_whole _) sc3 (Memref.isWhole_whole _)
    _ _ _ _ _ (iblk m c 0 t) (iblk m c 1 t) (iblk m c 2 t) (iblk m c 3 t) x6 x7 x8 x9 x11 (bOf t.val) (qOf t.val)  (by rw [hb', hq]; exact poff2 t) s C z).trans ?_
  exact below_step m c t s C z _ h8 _ (iblk0_eq m c t) _ (h9 s C z)

theorem ofF_row (t : Fin cfg0.N) hi hb x6 x7 x8 x9 x11 (h8 : x8 = colB (bOf t.val) (aVc m c)) :
    (ms4 t).view.read (Elt Ideal) ((ms4 t).view.writes (Elt Ideal) ((hs4 t).unread x6) (Run.atF m c t hi hb x6 x7 x8 x9 x11).1)
      = rowAfter m c t.val x6 := by
  have hb' : (bOf t.val).val = t.val / 28 := bOf_eq t
  have hl := lt56 t
  have hz : (bOf t.val).val = 1 := by rw [hb']; omega
  have hq : (qOf t.val).val = t.val % 28 := rfl
  unfold Run.atF
  refine (outF c (grid0.coords t) (ms0 t) (hs0 t) (ms1 t) (hs1 t) (ms2 t) (hs2 t) (ms3 t) (hs3 t) (ms4 t) (hs4 t) (ms5 t) (hs5 t) sc0 (Memref.isWhole_whole _) sc1 (Memref.isWhole_whole _) sc2 (Memref.isWhole_whole _) sc3 (Memref.isWhole_whole _)
    _ _ _ _ _ (iblk m c 0 t) (iblk m c 1 t) (iblk m c 2 t) (iblk m c 3 t) x6 x7 x8 x9 x11 (bOf t.val) (qOf t.val)  (by rw [hb', hq]; exact poff2 t)
    (by rw [hz, hq]; exact poff53_0 t) (by rw [hz, hq]; exact poff53_128 t) (by rw [hz, hq]; exact poff53_256 t) (by rw [hz, hq]; exact poff53_384 t)).trans ?_
  exact outRow_congr m c t _ h8 _ (iblk0_eq m c t) x6

theorem ofF_nine (t : Fin cfg0.N) hi hb x6 x7 x8 x9 x11 (h8 : x8 = colB (bOf t.val) (aVc m c)) (h9 : ∀ s C z, x9 (ix2 s C) ≤ z ↔ Below m c (bOf t.val) (t.val % 28) s C z) (s : Fin 8) (C : Fin 4096) (z : EReal) :
    sc1.view.read (Elt Ideal) (sc1.view.writes (Elt Ideal) ((Memref.isWhole_whole _).unread x9) (Run.atF m c t hi hb x6 x7 x8 x9 x11).2.2.1) (ix2 s C) ≤ z
      ↔ Below m c (bOf t.val) (t.val % 28 + 1) s C z := by
  have hb' : (bOf t.val).val = t.val / 28 := bOf_eq t
  have hq : (qOf t.val).val = t.val % 28 := rfl
  unfold Run.atF
  refine (nineF c (grid0.coords t) (ms0 t) (hs0 t) (ms1 t) (hs1 t) (ms2 t) (hs2 t) (ms3 t) (hs3 t) (ms4 t) (hs4 t) (ms5 t) (hs5 t) sc0 (Memref.isWhole_whole _) sc1 (Memref.isWhole_whole _) sc2 (Memref.isWhole_whole _) sc3 (Memref.isWhole_whole _)
    _ _ _ _ _ (iblk m c 0 t) (iblk m c 1 t) (iblk m c 2 t) (iblk m c 3 t) x6 x7 x8 x9 x11 (bOf t.val) (qOf t.val)  (by rw [hb', hq]; exact poff2 t) s C z).trans ?_
  exact below_step m c t s C z _ h8 _ (iblk0_eq m c t) _ (h9 s C z)

theorem ofF_seven (t : Fin cfg0.N) hi hb x6 x7 x8 x9 x11 (h8 : x8 = colB (bOf t.val) (aVc m c)) (h9 : ∀ s C z, x9 (ix2 s C) ≤ z ↔ Below m c (bOf t.val) (t.val % 28) s C z) :
    (ms5 t).view.read (Elt Ideal) ((ms5 t).view.writes (Elt Ideal) ((hs5 t).unread x7) (Run.atF m c t hi hb x6 x7 x8 x9 x11).2.1)
      = colAfter m c t.val x7 := by
  have hl := lt56 t
  have hz : bOf t.val = 1 := Fin.ext (by rw [bOf_eq t]; show t.val / 28 = 1; omega)
  have h28 : t.val % 28 + 1 = 28 := by omega
  have h := ofF_nine m c t hi hb x6 x7 x8 x9 x11 h8 h9
  rw [h28] at h
  have e := colM_eq m c (bOf t.val) _ h
  unfold Run.atF at e ⊢
  refine (sevenF c (grid0.coords t) (ms0 t) (hs0 t) (ms1 t) (hs1 t) (ms2 t) (hs2 t) (ms3 t) (hs3 t) (ms4 t) (hs4 t) (ms5 t) (hs5 t) sc0 (Memref.isWhole_whole _) sc1 (Memref.isWhole_whole _) sc2 (Memref.isWhole_whole _) sc3 (Memref.isWhole_whole _)
    _ _ _ _ _ (iblk m c 0 t) (iblk m c 1 t) (iblk m c 2 t) (iblk m c 3 t) x6 x7 x8 x9 x11).trans ?_
  refine Eq.trans ?_ (if_pos hi).symm
  rw [← hz]
  exact congrArg (fun w => outCol (bOf t.val) w x7) e

theorem bOf_succ (t : ℕ) (h : (t + 1) % 28 ≠ 0) : bOf (t + 1) = bOf t := Fin.ext (by show (t + 1) / 28 % 2 = t / 28 % 2; omega)

theorem below_succ (t : ℕ) (h : (t + 1) % 28 ≠ 0) (x : Vec Ideal S8x4096 .f32)
    (hx : ∀ s C z, x (ix2 s C) ≤ z ↔ Below m c (bOf t) (t % 28 + 1) s C z) :
    ∀ s C z, x (ix2 s C) ≤ z ↔ Below m c (bOf (t + 1)) ((t + 1) % 28) s C z := by
  intro s C z
  rw [hx s C z, bOf_succ t h, show (t + 1) % 28 = t % 28 + 1 by omega]

/-- What is said of the call: the scratch buffers hold the batch entry's column factors and its column maxima so far, each
point stores its rows' statistics, and the last of a batch entry stores its columns' statistics. -/
def said : Run.Says m c where
  Good t x8 x9 := t % 28 ≠ 0 → x8 = colB (bOf t) (aVc m c) ∧ ∀ s C z, x9 (ix2 s C) ≤ z ↔ Below m c (bOf t) (t % 28) s C z
  R4 t Y X := X = rowAfter m c t.val Y
  R5 t Y X := X = colAfter m c t.val Y
  ofA t hi hb x6 x7 x8 x9 x11 := ⟨ofA_row m c t hi hb x6 x7 x8 x9 x11, (if_neg (by omega)).symm, fun f g hn => ⟨(ofA_col m c t hi hb x6 x7 x8 x9 x11 f).trans (by rw [bOf_succ _ hn]), below_succ m c _ hn _ (ofA_nine m c t hi hb x6 x7 x8 x9 x11 g)⟩⟩
  ofB t hi hb x6 x7 x8 x9 x11 hg := ⟨ofB_row m c t hi hb x6 x7 x8 x9 x11 (hg (by omega)).1, (if_neg (by omega)).symm, fun hn => ⟨(hg (by omega)).1.trans (by rw [bOf_succ _ hn]), below_succ m c _ hn _ (ofB_nine m c t hi hb x6 x7 x8 x9 x11 (hg (by omega)).1 (hg (by omega)).2)⟩⟩
  ofC t hi hb x6 x7 x8 x9 x11 hg := ⟨ofC_row m c t hi hb x6 x7 x8 x9 x11 (hg (by omega)).1, ofC_seven m c t hi hb x6 x7 x8 x9 x11 (hg (by omega)).1 (hg (by omega)).2, fun hn => absurd hn (by omega)⟩
  ofD t hi hb x6 x7 x8 x9 x11 := ⟨ofD_row m c t hi hb x6 x7 x8 x9 x11, (if_neg (by omega)).symm, fun f g hn => ⟨(ofD_col m c t hi hb x6 x7 x8 x9 x11 f).trans (by rw [bOf_succ _ hn]), below_succ m c _ hn _ (ofD_nine m c t hi hb x6 x7 x8 x9 x11 g)⟩⟩
  ofE t hi hb x6 x7 x8 x9 x11 hg := ⟨ofE_row m c t hi hb x6 x7 x8 x9 x11 (hg (by omega)).1, (if_neg (by omega)).symm, fun hn => ⟨(hg (by omega)).1.trans (by rw [bOf_succ _ hn]), below_succ m c _ hn _ (ofE_nine m c t hi hb x6 x7 x8 x9 x11 (hg (by omega)).1 (hg (by omega)).2)⟩⟩
  ofF t hi hb x6 x7 x8 x9 x11 hg := ⟨ofF_row m c t hi hb x6 x7 x8 x9 x11 (hg (by omega)).1, ofF_seven m c t hi hb x6 x7 x8 x9 x11 (hg (by omega)).1 (hg (by omega)).2, fun hn => absurd hn (by omega)⟩

theorem rowAfter_in (t : ℕ) (x : Vec Ideal S2x14336 .f32) (B : Fin 2) (r : Fin 14336)
    (h : B.val = (bOf t).val ∧ 512 * (qOf t).val ≤ r.val ∧ r.val < 512 * (qOf t).val + 512) :
    rowAfter m c t x (ix2 B r) = wRow (aVr m c) (aVc m c) (aG m c) (aVq m c) B r := by
  obtain rfl : B = bOf t := Fin.ext h.1
  refine (dif_pos (c := ((ix2 (bOf t) r) 0).val = (bOf t).val ∧ 512 * (qOf t).val ≤ ((ix2 (bOf t) r) 1).val
    ∧ ((ix2 (bOf t) r) 1).val < 512 * (qOf t).val + 512) h).trans ?_
  exact congrArg (wRow (aVr m c) (aVc m c) (aG m c) (aVq m c) (bOf t))
    (Fin.ext (Nat.add_sub_cancel' h.2.1 : 512 * (qOf t).val + (r.val - 512 * (qOf t).val) = r.val))

theorem rowAfter_out (t : ℕ) (x : Vec Ideal S2x14336 .f32) (B : Fin 2) (r : Fin 14336)
    (h : ¬(B.val = (bOf t).val ∧ 512 * (qOf t).val ≤ r.val ∧ r.val < 512 * (qOf t).val + 512)) :
    rowAfter m c t x (ix2 B r) = x (ix2 B r) :=
  dif_neg (c := ((ix2 B r) 0).val = (bOf t).val ∧ 512 * (qOf t).val ≤ ((ix2 B r) 1).val ∧ ((ix2 B r) 1).val < 512 * (qOf t).val + 512) h

/-- What the staging buffer of row statistics holds after a point: the statistics of every row of the points so far. -/
theorem leaves4 (n : ℕ) : ∀ (t : Fin cfg0.N), t.val = n → ∀ X, (Run.rdat (said m c)).Leaves 4 t X →
    ∀ (B : Fin 2) (r : Fin 14336), 28 * B.val + r.val / 512 ≤ n →
      X (ix2 B r) = wRow (aVr m c) (aVc m c) (aG m c) (aVq m c) B r := by
  induction n with
  | zero =>
    rintro t ht X ⟨Y, hY, hX⟩ B r hr
    have e : X = rowAfter m c t.val Y := hX
    have hb := bOf_eq t
    have hq : (qOf t.val).val = t.val % 28 := rfl
    exact (congrFun e _).trans (rowAfter_in m c t.val Y B r (by omega))
  | succ n ih =>
    rintro t ht X ⟨Y, hY, hX⟩ B r hr
    have e : X = rowAfter m c t.val Y := hX
    have hl := lt56 t
    have hb := bOf_eq t
    have hq : (qOf t.val).val = t.val % 28 := rfl
    refine (congrFun e _).trans ?_
    by_cases h : B.val = (bOf t.val).val ∧ 512 * (qOf t.val).val ≤ r.val ∧ r.val < 512 * (qOf t.val).val + 512
    · exact rowAfter_in m c t.val Y B r h
    · refine (rowAfter_out m c t.val Y B r h).trans ?_
      rcases ((Run.rdat (said m c)).finds_of_pos rfl (by omega) Y).mp hY with hf | hf
      · have := (flush0_4 _).mp hf
        dsimp only at this
        omega
      · exact ih ⟨t.val - 1, by omega⟩ (by show t.val - 1 = n; omega) Y hf B r (by omega)

theorem colAfter_in (t : ℕ) (x : Vec Ideal S2x4096 .f32) (B : Fin 2) (C : Fin 4096) (ht : t % 28 = 27)
    (h : B.val = (bOf t).val) : colAfter m c t x (ix2 B C) = wCol (aVr m c) (aVc m c) (aG m c) (aVq m c) B C := by
  obtain rfl : B = bOf t := Fin.ext h
  unfold colAfter
  rw [if_pos ht]
  exact if_pos (c := ((ix2 (bOf t) C : S2x4096.Idx) 0).val = (bOf t).val) rfl

theorem colAfter_out (t : ℕ) (x : Vec Ideal S2x4096 .f32) (B : Fin 2) (C : Fin 4096)
    (h : ¬(t % 28 = 27 ∧ B.val = (bOf t).val)) : colAfter m c t x (ix2 B C) = x (ix2 B C) := by
  unfold colAfter
  split_ifs with ht
  · exact if_neg (c := ((ix2 B C : S2x4096.Idx) 0).val = (bOf t).val) fun hb => h ⟨ht, hb⟩
  · rfl

/-- What the staging buffer of column statistics holds after a point: the statistics of the batch entries finished. -/
theorem leaves5 (n : ℕ) : ∀ (t : Fin cfg0.N), t.val = n → ∀ X, (Run.rdat (said m c)).Leaves 5 t X →
    ∀ (B : Fin 2) (C : Fin 4096), 28 * B.val + 27 ≤ n →
      X (ix2 B C) = wCol (aVr m c) (aVc m c) (aG m c) (aVq m c) B C := by
  induction n with
  | zero =>
    rintro t ht X ⟨Y, hY, hX⟩ B C hr
    omega
  | succ n ih =>
    rintro t ht X ⟨Y, hY, hX⟩ B C hr
    have e : X = colAfter m c t.val Y := hX
    have hl := lt56 t
    have hb := bOf_eq t
    refine (congrFun e _).trans ?_
    by_cases h : t.val % 28 = 27 ∧ B.val = (bOf t.val).val
    · exact colAfter_in m c t.val Y B C h.1 h.2
    · refine (colAfter_out m c t.val Y B C h).trans ?_
      rcases ((Run.rdat (said m c)).finds_of_pos rfl (by omega) Y).mp hY with hf | hf
      · have := (flush0_5 _).mp hf
        dsimp only at this
        omega
      · exact ih ⟨t.val - 1, by omega⟩ (by show t.val - 1 = n; omega) Y hf B C (by omega)

theorem whole5 : (cfg0.win 5).WholeAt ⟨55, by decide +kernel⟩ := by
  unfold Pipeline.Window.WholeAt
  decide +kernel

theorem whole4 : (cfg0.win 4).WholeAt ⟨55, by decide +kernel⟩ := by
  unfold Pipeline.Window.WholeAt
  decide +kernel

/-- The call ends with the row statistics in its first result, the column statistics in its second, and its arguments
unchanged. -/
theorem run (ρ : Dev nD → PrngReg) :
    θ_run defs (onTc (τ := τ) (main (F := Ideal))) ⟨m, fun _ => 0, ρ⟩ (fun r => ∀ c : Dev nD, (∀ (B : Fin 2) (r' : Fin 14336),
      r.2.mem ((c.tc : Thread nD τ).loc main_v0_0) (ix2 B r') = wRow (aVr m c) (aVc m c) (aG m c) (aVq m c) B r')
      ∧ (∀ (B : Fin 2) (C : Fin 4096),
        r.2.mem ((c.tc : Thread nD τ).loc main_v0_1) (ix2 B C) = wCol (aVr m c) (aVc m c) (aG m c) (aVq m c) B C)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ⟨fun B r' => ?_, fun B C => ?_,
    (Idealize.ShloMosaic.Pipeline.RDat.FramePost.arr_in h.1 c 0 rfl).trans (V_main_arg0 m c),
    (Idealize.ShloMosaic.Pipeline.RDat.FramePost.arr_in h.1 c 1 rfl).trans (V_main_arg1 m c),
    (Idealize.ShloMosaic.Pipeline.RDat.FramePost.arr_in h.1 c 2 rfl).trans (V_main_arg2 m c),
    (Idealize.ShloMosaic.Pipeline.RDat.FramePost.arr_in h.1 c 3 rfl).trans (V_main_arg3 m c)⟩) (Run.run_main ρ (fun c => said m c))
  · obtain ⟨X, hX, hj⟩ := RDat.ArrAt.emb_eq_of_wholeAt ((h.1 c).1 4) whole4
    exact (hj (ix2 B r')).trans (leaves4 m c 55 _ rfl X hX B r' (by omega))
  · obtain ⟨X, hX, hj⟩ := RDat.ArrAt.emb_eq_of_wholeAt ((h.1 c).1 5) whole5
    exact (hj (ix2 B C)).trans (leaves5 m c 55 _ rfl X hX B C (by omega))

end Cert.StatsIdeal.Value

end
-- ==== Proof.StatsEqual.lean ====
module

public import proofs.«01_k».proof.Proof.Equal
public import proofs.«01_k».proof.Proof.StatsWhole
public import proofs.«01_k».proof.Proof.Gen.StatsReferenceIdeal.Read
public import proofs.«01_k».proof.On_not_negative

@[expose] public section

/-! The kernel's row and column statistics are the reference's, one by one, where the masks hold. -/

set_option maxRecDepth 16384

noncomputable section

namespace Cert.On_not_negative
open Idealize.ShloMosaic Idealize.ShloMosaic.TcCoe

instance facts : Facts where
  bitsLt_bf16_f32 := by decide
  natLt_8_32 := by decide
  bcast_S_S2x14336x2048 := by decide
  concatenates_S2x14336x2048_S2x14336x2048_S2x14336x4096_d2 := by decide
  bcast_S_S2x14336x4096 := by decide
  bcast_S2x14336_S2x14336x1_0_1 := by decide
  bcast_S2x4096_S2x1x4096_0_2 := by decide
  bcast_S2x14336x1_S2x14336x4096_0_1_2 := by decide
  bcast_S2x1x4096_S2x14336x4096_0_1_2 := by decide
  reducesTo_S2x14336x4096_S2x14336_d2 := by decide
  h_S_ := by decide
  bcast_S_S2x14336 := by decide
  reducesTo_S2x14336x4096_S2x4096_d1 := by decide
  bcast_S_S2x4096 := by decide

open Facts

variable (vr : Vec Ideal S2x14336 .f32) (vc : Vec Ideal S2x4096 .f32) (g : Vec Ideal S2x14336x4096 .bf16)
  (vq : Vec Ideal S2x14336x2048 .i8)

theorem fn_eq : fn (F := Ideal) vr vc g vq =
    (cmpf .oge (Cert.StatsReferenceIdeal.Read.val_main_v26 (F := Ideal) vr vc g vq)
      (broadcastInDim S2x14336 ![] bcast_S_S2x14336 (constant (F := Ideal) S_ .f32 0x00000000#32)),
    cmpf .oge (Cert.StatsReferenceIdeal.Read.val_main_v27 (F := Ideal) vr vc g vq)
      (broadcastInDim S2x4096 ![] bcast_S_S2x4096 (constant (F := Ideal) S_ .f32 0x00000000#32))) := rfl

theorem splat (a : FVec Ideal S2x14336 .f32) (z : BitVec 32) (i : S2x14336.Idx) :
    cmpf .oge a (broadcastInDim S2x14336 ![] bcast_S_S2x14336 (constant (F := Ideal) S_ .f32 z)) i =
      FloatOps.cmpf (F := Ideal) (φ := .f32) .oge (a i) (Ideal.ofBits .f32 z) := rfl

theorem splat_col (a : FVec Ideal S2x4096 .f32) (z : BitVec 32) (i : S2x4096.Idx) :
    cmpf .oge a (broadcastInDim S2x4096 ![] bcast_S_S2x4096 (constant (F := Ideal) S_ .f32 z)) i =
      FloatOps.cmpf (F := Ideal) (φ := .f32) .oge (a i) (Ideal.ofBits .f32 z) := rfl

/-- Where a row's statistic is compared, the reference's is not negative. -/
theorem mask (i : S2x14336.Idx) (h : (fn (F := Ideal) vr vc g vq).1 i = 1#1) :
    0 ≤ Cert.StatsReferenceIdeal.Read.val_main_v26 (F := Ideal) vr vc g vq i := by
  rw [fn_eq] at h
  have h1 := (Cert.On_well_scaled.oge_one _ _).1 ((splat _ _ i).symm.trans h)
  rwa [Lits.f0] at h1

/-- Where a column's statistic is compared, the reference's is not negative. -/
theorem mask_col (i : S2x4096.Idx) (h : (fn (F := Ideal) vr vc g vq).2 i = 1#1) :
    0 ≤ Cert.StatsReferenceIdeal.Read.val_main_v27 (F := Ideal) vr vc g vq i := by
  rw [fn_eq] at h
  have h1 := (Cert.On_well_scaled.oge_one _ _).1 ((splat_col _ _ i).symm.trans h)
  rwa [Lits.f0] at h1

end Cert.On_not_negative

namespace Cert.StatsReferenceIdeal.Read
open Cert.StatsReferenceIdeal Cert.StatsReferenceIdeal.Gen
open Idealize.ShloMosaic Idealize.ShloMosaic.TcCoe
open Cert.ReferenceIdeal.Read (rV v51_at)

variable (vr : Vec Ideal S2x14336 .f32) (vc : Vec Ideal S2x4096 .f32) (g : Vec Ideal S2x14336x4096 .bf16)
  (vq : Vec Ideal S2x14336x2048 .i8) (b : Fin 2) (r : Fin 14336)

theorem v25_eq : val_main_v25 (F := Ideal) vr vc g vq = Cert.ReferenceIdeal.Read.val_main_v51 (F := Ideal) vr vc g vq := rfl

/-- The reference's row statistic. -/
def rRow : EReal := Finset.univ.fold max ⊥ (fun C : Fin 4096 => rV vr vc g vq b r C)

theorem v26_at : val_main_v26 (F := Ideal) vr vc g vq (ix2 b r) = rRow vr vc g vq b r := by
  unfold val_main_v26
  generalize hz : val_main_v25 (F := Ideal) vr vc g vq = z
  pointwise [val_main_cst_6]
  subst hz
  have hv : ∀ C : Fin 4096, val_main_v25 (F := Ideal) vr vc g vq (ix3 b r C) = rV vr vc g vq b r C := fun C =>
    (congrFun (v25_eq vr vc g vq) _).trans (v51_at vr vc g vq b r C)
  simp only [hv, Lits.f_bot]
  rfl

/-- The reference's column statistic. -/
def rCol (C : Fin 4096) : EReal := Finset.univ.fold max ⊥ (fun r : Fin 14336 => rV vr vc g vq b r C)

theorem v27_at (C : Fin 4096) : val_main_v27 (F := Ideal) vr vc g vq (ix2 b C) = rCol vr vc g vq b C := by
  unfold val_main_v27
  generalize hz : val_main_v25 (F := Ideal) vr vc g vq = z
  pointwise [val_main_cst_7]
  subst hz
  have hv : ∀ r : Fin 14336, val_main_v25 (F := Ideal) vr vc g vq (ix3 b r C) = rV vr vc g vq b r C := fun r =>
    (congrFun (v25_eq vr vc g vq) _).trans (v51_at vr vc g vq b r C)
  simp only [hv, Lits.f_bot]
  rfl

end Cert.StatsReferenceIdeal.Read

namespace Cert.StatsEqual
open Idealize.ShloMosaic Idealize.ShloMosaic.TcCoe
open Cert.KernelIdeal.Value (wV)
open Cert.ReferenceIdeal.Read (rV)
open Cert.StatsReferenceIdeal.Read (rRow v26_at rCol v27_at)
open Cert.StatsIdeal.Value (wRow wCol k2)

theorem n_k2 : k2 = ((1 / 1000 : ℝ) : EReal) :=
  IdealRules.named_const.ideal_named_scalar _ _ _ _ rfl

/-- A positive multiple of a greatest value. -/
theorem fold_scale {n : ℕ} (c : ℝ) (hc : 0 < c) (f : Fin n → EReal) :
    Finset.univ.fold max ⊥ (fun x => (c : EReal) * f x) = (c : EReal) * Finset.univ.fold max ⊥ f := by
  have h0 : (0 : EReal) ≤ (c : EReal) := EReal.coe_nonneg.2 hc.le
  have hm : Monotone fun x : EReal => (c : EReal) * x := fun a b h => mul_le_mul_of_nonneg_left h h0
  have h := Finset.fold_hom (op := max) (op' := max) (b := (⊥ : EReal)) (s := (Finset.univ : Finset (Fin n)))
    (f := f) (m := fun x : EReal => (c : EReal) * x) (fun x y => hm.map_max)
  rw [← h]
  simp only [EReal.coe_mul_bot_of_pos hc]

variable (vr : Vec Ideal KernelIdeal.S2x14336 .f32) (vc : Vec Ideal KernelIdeal.S2x4096 .f32)
  (g : Vec Ideal KernelIdeal.S2x14336x4096 .bf16) (vq : Vec Ideal KernelIdeal.S2x14336x2048 .i8) (b : Fin 2) (r : Fin 14336)

/-- A thousandth of a greatest value, where it is not negative. -/
theorem thousandth {n : ℕ} (f : Fin n → EReal) (h : 0 ≤ ((1 / 1000 : ℝ) : EReal) * Finset.univ.fold max ⊥ f) :
    max 0 (Finset.univ.sup f) * k2 = ((1 / 1000 : ℝ) : EReal) * Finset.univ.fold max ⊥ f := by
  have hs : Finset.univ.sup f = Finset.univ.fold max ⊥ f := rfl
  rw [hs, n_k2]
  generalize Finset.univ.fold max ⊥ f = S at h ⊢
  have h1 := mul_le_mul_of_nonneg_left h (EReal.coe_nonneg.2 (by norm_num : (0 : ℝ) ≤ 1000))
  rw [mul_zero, ← mul_assoc, ← EReal.coe_mul, show (1000 * (1 / 1000) : ℝ) = 1 by norm_num, EReal.coe_one, one_mul] at h1
  rw [max_eq_right h1, mul_comm]

/-- The row statistics are equal where the reference's is not negative. -/
theorem row_eq (h : 0 ≤ rRow vr vc g vq b r) : wRow vr vc g vq b r = rRow vr vc g vq b r := by
  have hr : rRow vr vc g vq b r = ((1 / 1000 : ℝ) : EReal) * Finset.univ.fold max ⊥ (fun C : Fin 4096 => wV vr vc g vq b r C) := by
    rw [← fold_scale _ (by norm_num)]
    unfold rRow
    simp only [Equal.v_eq, Equal.rv_eq]
  rw [hr] at h ⊢
  exact thousandth _ h

/-- The column statistics are equal where the reference's is not negative. -/
theorem col_eq (C : Fin 4096) (h : 0 ≤ rCol vr vc g vq b C) : wCol vr vc g vq b C = rCol vr vc g vq b C := by
  have hr : rCol vr vc g vq b C = ((1 / 1000 : ℝ) : EReal) * Finset.univ.fold max ⊥ (fun r : Fin 14336 => wV vr vc g vq b r C) := by
    rw [← fold_scale _ (by norm_num)]
    unfold rCol
    simp only [Equal.v_eq, Equal.rv_eq]
  rw [hr] at h ⊢
  exact thousandth _ h

theorem idx_eq {n : ℕ} (i : (⟨2, ![2, n]⟩ : Shape).Idx) : i = ix2 (i 0) (i 1) := by
  funext a
  match a with
  | ⟨0, _⟩ => rfl
  | ⟨1, _⟩ => rfl

/-- The reference's row statistic is the kernel's where the mask holds. -/
theorem out (i : (⟨2, ![2, 14336]⟩ : Shape).Idx) (h : (Cert.On_not_negative.fn (F := Ideal) vr vc g vq).1 i = 1#1) :
    Cert.StatsReferenceIdeal.Read.val_main_v26 (F := Ideal) vr vc g vq i = wRow vr vc g vq (i 0) (i 1) := by
  have h0 := Cert.On_not_negative.mask vr vc g vq i h
  have e2 : Cert.StatsReferenceIdeal.Read.val_main_v26 (F := Ideal) vr vc g vq i = rRow vr vc g vq (i 0) (i 1) :=
    (congrArg _ (idx_eq i)).trans (v26_at vr vc g vq (i 0) (i 1))
  rw [e2] at h0 ⊢
  exact (row_eq vr vc g vq (i 0) (i 1) h0).symm

/-- The reference's column statistic is the kernel's where the mask holds. -/
theorem out_col (i : (⟨2, ![2, 4096]⟩ : Shape).Idx) (h : (Cert.On_not_negative.fn (F := Ideal) vr vc g vq).2 i = 1#1) :
    Cert.StatsReferenceIdeal.Read.val_main_v27 (F := Ideal) vr vc g vq i = wCol vr vc g vq (i 0) (i 1) := by
  have h0 := Cert.On_not_negative.mask_col vr vc g vq i h
  have e2 : Cert.StatsReferenceIdeal.Read.val_main_v27 (F := Ideal) vr vc g vq i = rCol vr vc g vq (i 0) (i 1) :=
    (congrArg _ (idx_eq i)).trans (v27_at vr vc g vq (i 0) (i 1))
  rw [e2] at h0 ⊢
  exact (col_eq vr vc g vq (i 0) (i 1) h0).symm

end Cert.StatsEqual

end
-- ==== Proof.Final.lean ====
module

public import proofs.«01_k».proof.Proof.Whole

@[expose] public section

/-! The step kernel's four results after the run, element by element. -/

set_option maxRecDepth 16384

noncomputable section

namespace Cert.KernelIdeal.Value
open Cert.KernelIdeal Cert.KernelIdeal.Gen
open Idealize.ShloMosaic Idealize.ShloMosaic.TcCoe
open Idealize.SL Idealize.SL.RA Idealize.SL.BI Idealize.SL.Sem

variable (m : (ℓ : Loc nD τ sig) → Buf (Elt Ideal) ℓ) (c : Dev nD)

theorem idx0 : ∀ t : Fin cfg0.N, win0_0.index t (0 : Fin 1) = 0 := (by decide +kernel : ∀ t : Fin grid0.N, _)

theorem idx1 : ∀ t : Fin cfg0.N, win0_1.index t (0 : Fin 2) = 0 ∧ win0_1.index t (1 : Fin 2) = 0 :=
  (by decide +kernel : ∀ t : Fin grid0.N, _)

theorem idx2 : ∀ t : Fin cfg0.N, win0_2.index t (0 : Fin 2) = 0 ∧ win0_2.index t (1 : Fin 2) = 0 :=
  (by decide +kernel : ∀ t : Fin grid0.N, _)

theorem idx3 : ∀ t : Fin cfg0.N, win0_3.index t (0 : Fin 2) = 0 ∧ win0_3.index t (1 : Fin 2) = 0 :=
  (by decide +kernel : ∀ t : Fin grid0.N, _)

theorem idx4 : ∀ t : Fin cfg0.N, win0_4.index t (0 : Fin 2) = 0 ∧ win0_4.index t (1 : Fin 2) = 0 :=
  (by decide +kernel : ∀ t : Fin grid0.N, _)

theorem idx5 : ∀ t : Fin cfg0.N, win0_5.index t (0 : Fin 3) = t.val / 56 ∧
    win0_5.index t (1 : Fin 3) = t.val % 56 ∧ win0_5.index t (2 : Fin 3) = 0 :=
  (by decide +kernel : ∀ t : Fin grid0.N, _)

theorem idx6 : ∀ t : Fin cfg0.N, win0_6.index t (0 : Fin 3) = t.val / 56 ∧
    win0_6.index t (1 : Fin 3) = t.val % 56 ∧ win0_6.index t (2 : Fin 3) = 0 :=
  (by decide +kernel : ∀ t : Fin grid0.N, _)

theorem idx7 : ∀ t : Fin cfg0.N, win0_7.index t (0 : Fin 3) = t.val / 56 ∧
    win0_7.index t (1 : Fin 3) = t.val % 56 ∧ win0_7.index t (2 : Fin 3) = 0 :=
  (by decide +kernel : ∀ t : Fin grid0.N, _)

theorem idx8 : ∀ t : Fin cfg0.N, win0_8.index t (0 : Fin 3) = t.val / 56 ∧
    win0_8.index t (1 : Fin 3) = t.val % 56 ∧ win0_8.index t (2 : Fin 3) = 0 :=
  (by decide +kernel : ∀ t : Fin grid0.N, _)

theorem idx9 : ∀ t : Fin cfg0.N, win0_9.index t (0 : Fin 3) = t.val / 56 ∧
    win0_9.index t (1 : Fin 3) = t.val % 56 ∧ win0_9.index t (2 : Fin 3) = 0 :=
  (by decide +kernel : ∀ t : Fin grid0.N, _)

theorem off1_eq : ∀ t : Fin cfg0.N, k0_off1 (grid0.coords t) = ![t.val / 56, 0] :=
  (by decide +kernel : ∀ t : Fin grid0.N, _)

theorem off2_eq : ∀ t : Fin cfg0.N, k0_off2 (grid0.coords t) = ![t.val / 56, 256 * (t.val % 56)] :=
  (by decide +kernel : ∀ t : Fin grid0.N, _)

/-- The batch entry a point works on. -/
def bOf (n : ℕ) (hn : n < cfg0.N) : Fin 2 := ⟨n / 56, by have : cfg0.N = 112 := N_0; omega⟩

/-- The row block a point works on. -/
def qOf (n : ℕ) : Fin 56 := ⟨n % 56, Nat.mod_lt _ (by omega)⟩

theorem bemb0 (t : Fin cfg0.N) (j : S1.Idx) : ((cfg0.win 0).blk t).view.emb j = j := by
  have e0 := idx0 t
  funext a; apply Fin.ext
  match a with
  | ⟨0, _⟩ => show win0_0.index t (0 : Fin 1) * 1 + 1 * (j 0).val = (j 0).val; omega

theorem bemb1 (t : Fin cfg0.N) (j : S2x14336.Idx) : ((cfg0.win 1).blk t).view.emb j = j := by
  obtain ⟨e0, e1⟩ := idx1 t
  funext a; apply Fin.ext
  match a with
  | ⟨0, _⟩ => show win0_1.index t (0 : Fin 2) * 2 + 1 * (j 0).val = (j 0).val; omega
  | ⟨1, _⟩ => show win0_1.index t (1 : Fin 2) * 14336 + 1 * (j 1).val = (j 1).val; omega

theorem iblk1_eq (t : Fin cfg0.N) : iblk m c 1 t = m ((c : Thread nD τ).loc main_arg1) := by
  funext j
  show V m c main_arg1 (((cfg0.win 1).blk t).view.emb j) = _
  rw [bemb1, V_main_arg1]

theorem bemb2 (t : Fin cfg0.N) (j : S2x4096.Idx) : ((cfg0.win 2).blk t).view.emb j = j := by
  obtain ⟨e0, e1⟩ := idx2 t
  funext a; apply Fin.ext
  match a with
  | ⟨0, _⟩ => show win0_2.index t (0 : Fin 2) * 2 + 1 * (j 0).val = (j 0).val; omega
  | ⟨1, _⟩ => show win0_2.index t (1 : Fin 2) * 4096 + 1 * (j 1).val = (j 1).val; omega

theorem iblk2_eq (t : Fin cfg0.N) : iblk m c 2 t = m ((c : Thread nD τ).loc main_arg2) := by
  funext j
  show V m c main_arg2 (((cfg0.win 2).blk t).view.emb j) = _
  rw [bemb2, V_main_arg2]

theorem bemb3 (t : Fin cfg0.N) (j : S2x14336.Idx) : ((cfg0.win 3).blk t).view.emb j = j := by
  obtain ⟨e0, e1⟩ := idx3 t
  funext a; apply Fin.ext
  match a with
  | ⟨0, _⟩ => show win0_3.index t (0 : Fin 2) * 2 + 1 * (j 0).val = (j 0).val; omega
  | ⟨1, _⟩ => show win0_3.index t (1 : Fin 2) * 14336 + 1 * (j 1).val = (j 1).val; omega

theorem iblk3_eq (t : Fin cfg0.N) : iblk m c 3 t = m ((c : Thread nD τ).loc main_arg3) := by
  funext j
  show V m c main_arg3 (((cfg0.win 3).blk t).view.emb j) = _
  rw [bemb3, V_main_arg3]

theorem bemb4 (t : Fin cfg0.N) (j : S2x4096.Idx) : ((cfg0.win 4).blk t).view.emb j = j := by
  obtain ⟨e0, e1⟩ := idx4 t
  funext a; apply Fin.ext
  match a with
  | ⟨0, _⟩ => show win0_4.index t (0 : Fin 2) * 2 + 1 * (j 0).val = (j 0).val; omega
  | ⟨1, _⟩ => show win0_4.index t (1 : Fin 2) * 4096 + 1 * (j 1).val = (j 1).val; omega

theorem iblk4_eq (t : Fin cfg0.N) : iblk m c 4 t = m ((c : Thread nD τ).loc main_arg4) := by
  funext j
  show V m c main_arg4 (((cfg0.win 4).blk t).view.emb j) = _
  rw [bemb4, V_main_arg4]

theorem iblk5_apply (t : Fin cfg0.N) (R : Fin 256) (C : Fin 4096) (r : Fin 14336)
    (hr : r.val = 256 * (qOf t.val).val + R.val) :
    iblk m c 5 t (ix3 0 R C) = m ((c : Thread nD τ).loc main_arg5) (ix3 (bOf t.val t.isLt) r C) := by
  show V m c main_arg5 (((cfg0.win 5).blk t).view.emb (ix3 0 R C)) = _
  rw [V_main_arg5]
  refine congrArg (m ((c : Thread nD τ).loc main_arg5)) ?_
  obtain ⟨e0, e1, e2⟩ := idx5 t
  have hq : (qOf t.val).val = t.val % 56 := rfl
  funext a; apply Fin.ext
  match a with
  | ⟨0, _⟩ => show win0_5.index t (0 : Fin 3) * 1 + 1 * 0 = t.val / 56; omega
  | ⟨1, _⟩ => show win0_5.index t (1 : Fin 3) * 256 + 1 * R.val = r.val; omega
  | ⟨2, _⟩ => show win0_5.index t (2 : Fin 3) * 4096 + 1 * C.val = C.val; omega

theorem iblk6_apply (t : Fin cfg0.N) (R : Fin 256) (C : Fin 4096) (r : Fin 14336)
    (hr : r.val = 256 * (qOf t.val).val + R.val) :
    iblk m c 6 t (ix3 0 R C) = m ((c : Thread nD τ).loc main_arg6) (ix3 (bOf t.val t.isLt) r C) := by
  show V m c main_arg6 (((cfg0.win 6).blk t).view.emb (ix3 0 R C)) = _
  rw [V_main_arg6]
  refine congrArg (m ((c : Thread nD τ).loc main_arg6)) ?_
  obtain ⟨e0, e1, e2⟩ := idx6 t
  have hq : (qOf t.val).val = t.val % 56 := rfl
  funext a; apply Fin.ext
  match a with
  | ⟨0, _⟩ => show win0_6.index t (0 : Fin 3) * 1 + 1 * 0 = t.val / 56; omega
  | ⟨1, _⟩ => show win0_6.index t (1 : Fin 3) * 256 + 1 * R.val = r.val; omega
  | ⟨2, _⟩ => show win0_6.index t (2 : Fin 3) * 4096 + 1 * C.val = C.val; omega

theorem iblk7_apply (t : Fin cfg0.N) (R : Fin 256) (C : Fin 2048) (r : Fin 14336)
    (hr : r.val = 256 * (qOf t.val).val + R.val) :
    iblk m c 7 t (ix3 0 R C) = m ((c : Thread nD τ).loc main_arg7) (ix3 (bOf t.val t.isLt) r C) := by
  show V m c main_arg7 (((cfg0.win 7).blk t).view.emb (ix3 0 R C)) = _
  rw [V_main_arg7]
  refine congrArg (m ((c : Thread nD τ).loc main_arg7)) ?_
  obtain ⟨e0, e1, e2⟩ := idx7 t
  have hq : (qOf t.val).val = t.val % 56 := rfl
  funext a; apply Fin.ext
  match a with
  | ⟨0, _⟩ => show win0_7.index t (0 : Fin 3) * 1 + 1 * 0 = t.val / 56; omega
  | ⟨1, _⟩ => show win0_7.index t (1 : Fin 3) * 256 + 1 * R.val = r.val; omega
  | ⟨2, _⟩ => show win0_7.index t (2 : Fin 3) * 2048 + 1 * C.val = C.val; omega

theorem iblk8_apply (t : Fin cfg0.N) (R : Fin 256) (C : Fin 32) (r : Fin 14336)
    (hr : r.val = 256 * (qOf t.val).val + R.val) :
    iblk m c 8 t (ix3 0 R C) = m ((c : Thread nD τ).loc main_arg8) (ix3 (bOf t.val t.isLt) r C) := by
  show V m c main_arg8 (((cfg0.win 8).blk t).view.emb (ix3 0 R C)) = _
  rw [V_main_arg8]
  refine congrArg (m ((c : Thread nD τ).loc main_arg8)) ?_
  obtain ⟨e0, e1, e2⟩ := idx8 t
  have hq : (qOf t.val).val = t.val % 56 := rfl
  funext a; apply Fin.ext
  match a with
  | ⟨0, _⟩ => show win0_8.index t (0 : Fin 3) * 1 + 1 * 0 = t.val / 56; omega
  | ⟨1, _⟩ => show win0_8.index t (1 : Fin 3) * 256 + 1 * R.val = r.val; omega
  | ⟨2, _⟩ => show win0_8.index t (2 : Fin 3) * 32 + 1 * C.val = C.val; omega

theorem iblk9_apply (t : Fin cfg0.N) (R : Fin 256) (C : Fin 2048) (r : Fin 14336)
    (hr : r.val = 256 * (qOf t.val).val + R.val) :
    iblk m c 9 t (ix3 0 R C) = m ((c : Thread nD τ).loc main_arg9) (ix3 (bOf t.val t.isLt) r C) := by
  show V m c main_arg9 (((cfg0.win 9).blk t).view.emb (ix3 0 R C)) = _
  rw [V_main_arg9]
  refine congrArg (m ((c : Thread nD τ).loc main_arg9)) ?_
  obtain ⟨e0, e1, e2⟩ := idx9 t
  have hq : (qOf t.val).val = t.val % 56 := rfl
  funext a; apply Fin.ext
  match a with
  | ⟨0, _⟩ => show win0_9.index t (0 : Fin 3) * 1 + 1 * 0 = t.val / 56; omega
  | ⟨1, _⟩ => show win0_9.index t (1 : Fin 3) * 256 + 1 * R.val = r.val; omega
  | ⟨2, _⟩ => show win0_9.index t (2 : Fin 3) * 2048 + 1 * C.val = C.val; omega

/-- The step number as the kernel sees it. -/
def stepOf : EReal := FloatOps.sitofp (F := Ideal) .f32 (m ((c : Thread nD τ).loc main_arg0) (fun a => a.elim0))

theorem V_v0 : V m c main_v0 = fun _ => m ((c : Thread nD τ).loc main_arg0) (fun a => a.elim0) := by
  entry_read
  funext x
  unfold shapeCast
  exact congrArg (m ((c : Thread nD τ).loc main_arg0)) (funext fun a => a.elim0)

theorem tf_eq (t : Fin cfg0.N) : tfOf (iblk m c 0 t) = stepOf m c := by
  unfold tfOf stepOf
  refine congrArg (FloatOps.sitofp (F := Ideal) .f32) ?_
  unfold iblk
  exact congrFun (V_v0 m c) _

/-- The column factors every point finds: those of its batch entry. -/
theorem carried (n : ℕ) (hn : n < cfg0.N) :
    (outsAt0 m c n hn).2.2.2.2 = (colB (bOf n hn) (m ((c : Thread nD τ).loc main_arg2)),
      colI (bOf n hn) (m ((c : Thread nD τ).loc main_arg4))) := by
  induction n with
  | zero =>
    rw [outsAt0_A m c ⟨0, hn⟩ rfl]
    dsimp only
    rw [sout0_A (ho1 := off1_eq ⟨0, hn⟩) (b := bOf 0 hn), sout1_A (ho1 := off1_eq ⟨0, hn⟩) (b := bOf 0 hn)]
    rw [iblk2_eq, iblk4_eq]
  | succ n ih =>
    by_cases h0 : (n + 1) % 56 = 0
    · rw [outsAt0_A m c ⟨n + 1, hn⟩ h0]
      dsimp only
      rw [sout0_A (ho1 := off1_eq ⟨n + 1, hn⟩) (b := bOf (n + 1) hn),
        sout1_A (ho1 := off1_eq ⟨n + 1, hn⟩) (b := bOf (n + 1) hn), iblk2_eq, iblk4_eq]
    · rw [outsAt0_B m c ⟨n + 1, hn⟩ h0]
      have e := ih (by omega)
      have hb : bOf (n + 1) hn = bOf n (by omega) := Fin.ext (by show (n + 1) / 56 = n / 56; omega)
      rw [hb]
      exact e

/-- Output 10 of a point's block. -/
theorem point10 (t : Fin cfg0.N) : (outsAt0 m c t.val t.isLt).1 =
    (fun y : S1x256x4096.Idx => bDW (stepOf m c) (iblk m c 5 t) (iblk m c 6 t) (iblk m c 7 t) (iblk m c 9 t) (iblk m c 8 t) (colB (bOf t.val t.isLt) (m ((c : Thread nD τ).loc main_arg2))) (rowB (bOf t.val t.isLt) (qOf t.val) (m ((c : Thread nD τ).loc main_arg1))) (y 1) (y 2)) := by
  by_cases h0 : t.val % 56 = 0
  · rw [outsAt0_A m c t h0]
    dsimp only
    rw [out10_A (ho1 := off1_eq t) (b := bOf t.val t.isLt) (ho2 := off2_eq t) (q := qOf t.val)]
    simp only [tf_eq, iblk1_eq, iblk2_eq, iblk3_eq, iblk4_eq]
  · rw [outsAt0_B m c t h0]
    dsimp only
    rw [out10_B (ho1 := off1_eq t) (b := bOf t.val t.isLt) (ho2 := off2_eq t) (q := qOf t.val)]
    have hp : t.val - 1 < cfg0.N := lt_of_le_of_lt (Nat.sub_le _ _) t.isLt
    have hb : bOf (t.val - 1) hp = bOf t.val t.isLt := Fin.ext (by show (t.val - 1) / 56 = t.val / 56; omega)
    have e0 : (outsAt0 m c (t.val - 1) hp).2.2.2.2.1 = colB (bOf t.val t.isLt) (m ((c : Thread nD τ).loc main_arg2)) := by
      rw [carried, hb]
    have e1 : (outsAt0 m c (t.val - 1) hp).2.2.2.2.2 = colI (bOf t.val t.isLt) (m ((c : Thread nD τ).loc main_arg4)) := by
      rw [carried, hb]
    simp only [tf_eq, iblk1_eq, iblk3_eq, e0, e1]

/-- Output 11 of a point's block. -/
theorem point11 (t : Fin cfg0.N) : (outsAt0 m c t.val t.isLt).2.1 =
    (fun y : S1x256x2048.Idx => bMC (iblk m c 6 t) (iblk m c 7 t) (iblk m c 8 t) (y 1) (y 2)) := by
  by_cases h0 : t.val % 56 = 0
  · rw [outsAt0_A m c t h0]
    dsimp only
    rw [out11_A (ho1 := off1_eq t) (b := bOf t.val t.isLt) (ho2 := off2_eq t) (q := qOf t.val)]
  · rw [outsAt0_B m c t h0]
    dsimp only
    rw [out11_B (ho1 := off1_eq t) (b := bOf t.val t.isLt) (ho2 := off2_eq t) (q := qOf t.val)]

/-- Output 12 of a point's block. -/
theorem point12 (t : Fin cfg0.N) : (outsAt0 m c t.val t.isLt).2.2.1 =
    (fun y : S1x256x32.Idx => bS (iblk m c 6 t) (iblk m c 7 t) (iblk m c 8 t) (y 1) (y 2)) := by
  by_cases h0 : t.val % 56 = 0
  · rw [outsAt0_A m c t h0]
    dsimp only
    rw [out12_A (ho1 := off1_eq t) (b := bOf t.val t.isLt) (ho2 := off2_eq t) (q := qOf t.val)]
  · rw [outsAt0_B m c t h0]
    dsimp only
    rw [out12_B (ho1 := off1_eq t) (b := bOf t.val t.isLt) (ho2 := off2_eq t) (q := qOf t.val)]

/-- Output 13 of a point's block. -/
theorem point13 (t : Fin cfg0.N) : (outsAt0 m c t.val t.isLt).2.2.2.1 =
    (fun y : S1x256x2048.Idx => bVC (iblk m c 6 t) (iblk m c 9 t) (colB (bOf t.val t.isLt) (m ((c : Thread nD τ).loc main_arg2))) (colI (bOf t.val t.isLt) (m ((c : Thread nD τ).loc main_arg4))) (rowB (bOf t.val t.isLt) (qOf t.val) (m ((c : Thread nD τ).loc main_arg1))) (rowI (bOf t.val t.isLt) (qOf t.val) (m ((c : Thread nD τ).loc main_arg3))) (y 1) (y 2)) := by
  by_cases h0 : t.val % 56 = 0
  · rw [outsAt0_A m c t h0]
    dsimp only
    rw [out13_A (ho1 := off1_eq t) (b := bOf t.val t.isLt) (ho2 := off2_eq t) (q := qOf t.val)]
    simp only [tf_eq, iblk1_eq, iblk2_eq, iblk3_eq, iblk4_eq]
  · rw [outsAt0_B m c t h0]
    dsimp only
    rw [out13_B (ho1 := off1_eq t) (b := bOf t.val t.isLt) (ho2 := off2_eq t) (q := qOf t.val)]
    have hp : t.val - 1 < cfg0.N := lt_of_le_of_lt (Nat.sub_le _ _) t.isLt
    have hb : bOf (t.val - 1) hp = bOf t.val t.isLt := Fin.ext (by show (t.val - 1) / 56 = t.val / 56; omega)
    have e0 : (outsAt0 m c (t.val - 1) hp).2.2.2.2.1 = colB (bOf t.val t.isLt) (m ((c : Thread nD τ).loc main_arg2)) := by
      rw [carried, hb]
    have e1 : (outsAt0 m c (t.val - 1) hp).2.2.2.2.2 = colI (bOf t.val t.isLt) (m ((c : Thread nD τ).loc main_arg4)) := by
      rw [carried, hb]
    simp only [tf_eq, iblk1_eq, iblk3_eq, e0, e1]

/-- Result 1 of the run. -/
theorem G10_apply (b : Fin 2) (r : Fin 14336) (C : Fin 4096) :
    G10 m c (ix3 b r C) = wDW (stepOf m c) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) b r C := by
  have e : pt10Of (ix3 b r C) = 56 * b.val + r.val / 256 := by
    show 56 * (b.val / 1 - 0) + 1 * (r.val / 256 - 0) + 1 * (C.val / 4096 - 0) = _
    omega
  have h : pt10Of (ix3 b r C) < cfg0.N := by
    rw [e]
    refine lt_of_lt_of_eq ?_ N_0.symm
    omega
  unfold G10
  rw [dif_pos h, ← outsAt0_sweep m c _ h]
  refine (congrFun (point10 m c ⟨pt10Of (ix3 b r C), h⟩) (loc10Of (ix3 b r C))).trans ?_
  have hC : (loc10Of (ix3 b r C)) 2 = C := Fin.ext (Nat.mod_eq_of_lt C.isLt)
  have hb : bOf (pt10Of (ix3 b r C)) h = b := Fin.ext (by
    show pt10Of (ix3 b r C) / 56 = b.val
    omega)
  have hr : r.val = 256 * (qOf (pt10Of (ix3 b r C))).val + ((loc10Of (ix3 b r C)) 1).val := by
    show r.val = 256 * (pt10Of (ix3 b r C) % 56) + r.val % 256
    omega
  dsimp only
  rw [hC]
  rw [hb]
  exact bDW_whole _ _ _ _ _ _ _ _ _ _ _ _ _ b _ _ r hr (fun C => (iblk5_apply m c ⟨_, h⟩ _ C r hr).trans (by rw [hb])) (fun C => (iblk6_apply m c ⟨_, h⟩ _ C r hr).trans (by rw [hb])) (fun C => (iblk7_apply m c ⟨_, h⟩ _ C r hr).trans (by rw [hb])) (fun C => (iblk8_apply m c ⟨_, h⟩ _ C r hr).trans (by rw [hb])) (fun C => (iblk9_apply m c ⟨_, h⟩ _ C r hr).trans (by rw [hb])) C

/-- Result 2 of the run. -/
theorem G11_apply (b : Fin 2) (r : Fin 14336) (C : Fin 2048) :
    G11 m c (ix3 b r C) = wMC (m ((c : Thread nD τ).loc main_arg6)) (m ((c : Thread nD τ).loc main_arg7)) (m ((c : Thread nD τ).loc main_arg8)) b r C := by
  have e : pt11Of (ix3 b r C) = 56 * b.val + r.val / 256 := by
    show 56 * (b.val / 1 - 0) + 1 * (r.val / 256 - 0) + 1 * (C.val / 2048 - 0) = _
    omega
  have h : pt11Of (ix3 b r C) < cfg0.N := by
    rw [e]
    refine lt_of_lt_of_eq ?_ N_0.symm
    omega
  unfold G11
  rw [dif_pos h, ← outsAt0_sweep m c _ h]
  refine (congrFun (point11 m c ⟨pt11Of (ix3 b r C), h⟩) (loc11Of (ix3 b r C))).trans ?_
  have hC : (loc11Of (ix3 b r C)) 2 = C := Fin.ext (Nat.mod_eq_of_lt C.isLt)
  have hb : bOf (pt11Of (ix3 b r C)) h = b := Fin.ext (by
    show pt11Of (ix3 b r C) / 56 = b.val
    omega)
  have hr : r.val = 256 * (qOf (pt11Of (ix3 b r C))).val + ((loc11Of (ix3 b r C)) 1).val := by
    show r.val = 256 * (pt11Of (ix3 b r C) % 56) + r.val % 256
    omega
  rw [hC]
  exact bMC_whole _ _ _ _ _ _ b _ r (fun C => (iblk6_apply m c ⟨_, h⟩ _ C r hr).trans (by rw [hb])) (fun C => (iblk7_apply m c ⟨_, h⟩ _ C r hr).trans (by rw [hb])) (fun C => (iblk8_apply m c ⟨_, h⟩ _ C r hr).trans (by rw [hb])) C

/-- Result 3 of the run. -/
theorem G12_apply (b : Fin 2) (r : Fin 14336) (C : Fin 32) :
    G12 m c (ix3 b r C) = wS (m ((c : Thread nD τ).loc main_arg6)) (m ((c : Thread nD τ).loc main_arg7)) (m ((c : Thread nD τ).loc main_arg8)) b r C := by
  have e : pt12Of (ix3 b r C) = 56 * b.val + r.val / 256 := by
    show 56 * (b.val / 1 - 0) + 1 * (r.val / 256 - 0) + 1 * (C.val / 32 - 0) = _
    omega
  have h : pt12Of (ix3 b r C) < cfg0.N := by
    rw [e]
    refine lt_of_lt_of_eq ?_ N_0.symm
    omega
  unfold G12
  rw [dif_pos h, ← outsAt0_sweep m c _ h]
  refine (congrFun (point12 m c ⟨pt12Of (ix3 b r C), h⟩) (loc12Of (ix3 b r C))).trans ?_
  have hC : (loc12Of (ix3 b r C)) 2 = C := Fin.ext (Nat.mod_eq_of_lt C.isLt)
  have hb : bOf (pt12Of (ix3 b r C)) h = b := Fin.ext (by
    show pt12Of (ix3 b r C) / 56 = b.val
    omega)
  have hr : r.val = 256 * (qOf (pt12Of (ix3 b r C))).val + ((loc12Of (ix3 b r C)) 1).val := by
    show r.val = 256 * (pt12Of (ix3 b r C) % 56) + r.val % 256
    omega
  rw [hC]
  exact bS_whole _ _ _ _ _ _ b _ r (fun C => (iblk6_apply m c ⟨_, h⟩ _ C r hr).trans (by rw [hb])) (fun C => (iblk7_apply m c ⟨_, h⟩ _ C r hr).trans (by rw [hb])) (fun C => (iblk8_apply m c ⟨_, h⟩ _ C r hr).trans (by rw [hb])) C

/-- Result 4 of the run. -/
theorem G13_apply (b : Fin 2) (r : Fin 14336) (C : Fin 2048) :
    G13 m c (ix3 b r C) = wVC (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg9)) b r C := by
  have e : pt13Of (ix3 b r C) = 56 * b.val + r.val / 256 := by
    show 56 * (b.val / 1 - 0) + 1 * (r.val / 256 - 0) + 1 * (C.val / 2048 - 0) = _
    omega
  have h : pt13Of (ix3 b r C) < cfg0.N := by
    rw [e]
    refine lt_of_lt_of_eq ?_ N_0.symm
    omega
  unfold G13
  rw [dif_pos h, ← outsAt0_sweep m c _ h]
  refine (congrFun (point13 m c ⟨pt13Of (ix3 b r C), h⟩) (loc13Of (ix3 b r C))).trans ?_
  have hC : (loc13Of (ix3 b r C)) 2 = C := Fin.ext (Nat.mod_eq_of_lt C.isLt)
  have hb : bOf (pt13Of (ix3 b r C)) h = b := Fin.ext (by
    show pt13Of (ix3 b r C) / 56 = b.val
    omega)
  have hr : r.val = 256 * (qOf (pt13Of (ix3 b r C))).val + ((loc13Of (ix3 b r C)) 1).val := by
    show r.val = 256 * (pt13Of (ix3 b r C) % 56) + r.val % 256
    omega
  dsimp only
  rw [hC]
  rw [hb]
  exact bVC_whole _ _ _ _ _ _ _ _ b _ _ r hr (fun C => (iblk6_apply m c ⟨_, h⟩ _ C r hr).trans (by rw [hb])) (fun C => (iblk9_apply m c ⟨_, h⟩ _ C r hr).trans (by rw [hb])) C

end Cert.KernelIdeal.Value
-- ==== Proof.Agree.lean ====
module

public import proofs.«01_k».proof.Proof.Final
public import proofs.«01_k».proof.Proof.Equal

@[expose] public section

/-! The kernel's result arrays are the reference's functions of the arguments, wherever the masks hold. -/

set_option maxRecDepth 16384

noncomputable section

namespace Cert.Agree
open Idealize.ShloMosaic Idealize.ShloMosaic.TcCoe Idealize.SL.Sem
open Cert.KernelIdeal.Value Cert.ReferenceIdeal.Read

variable (m : (ℓ : Loc Cert.KernelIdeal.nD Cert.KernelIdeal.τ Cert.KernelIdeal.sig) → Buf (Elt Ideal) ℓ) (c : Dev Cert.KernelIdeal.nD)

/-- Each update is the reference's where its mask holds. -/
theorem out0 (i : (⟨3, ![2, 14336, 4096]⟩ : Shape).Idx)
    (h : (Cert.On_well_scaled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 i = 1#1) :
    G10 m c i = val_main_v74 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) i := by
  rw [eq_ix3 i] at h ⊢
  refine (G10_apply m c _ _ _).trans (Eq.trans ?_ (v74_at _ _ _ _ _ _ _ _ _ _ _).symm)
  exact Equal.dw_eq _ _ _ _ _ _ _ _ _ _ _ (On_well_scaled.mask0 _ _ _ _ _ _ _ _ _ _ _ _ _ h).1 (On_well_scaled.mask0 _ _ _ _ _ _ _ _ _ _ _ _ _ h).2

/-- Each byte of first moment codes is the reference's where its mask holds. -/
theorem out1 (i : (⟨3, ![2, 14336, 2048]⟩ : Shape).Idx)
    (h : (Cert.On_well_scaled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 i = 1#1) :
    G11 m c i = val_main_v110 (F := Ideal) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) i := by
  rw [eq_ix3 i] at h ⊢
  refine (G11_apply m c _ _ _).trans (Eq.trans ?_ (v110_at _ _ _ _ _ _).symm)
  exact Equal.mc_eq _ _ _ _ _ _ (On_well_scaled.mask1 _ _ _ _ _ _ _ _ _ _ _ _ _ h)

/-- Each scale of the first moment is the reference's. -/
theorem out2 (i : (⟨3, ![2, 14336, 32]⟩ : Shape).Idx) :
    G12 m c i = val_main_v82 (F := Ideal) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) i := by
  rw [eq_ix3 i]
  refine (G12_apply m c _ _ _).trans (Eq.trans ?_ (v82_at _ _ _ _ _ _).symm)
  exact Equal.s_eq _ _ _ _ _ _

/-- Each byte of second moment codes is the reference's where its mask holds. -/
theorem out3 (i : (⟨3, ![2, 14336, 2048]⟩ : Shape).Idx)
    (h : (Cert.On_well_scaled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2 i = 1#1) :
    G13 m c i = val_main_v118 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg6)) (m ((c.tc : Thread Cert.KernelIdeal.nD Cert.KernelIdeal.τ).loc Cert.KernelIdeal.main_arg9)) i := by
  rw [eq_ix3 i] at h ⊢
  refine (G13_apply m c _ _ _).trans (Eq.trans ?_ (v118_at _ _ _ _ _ _ _ _ _).symm)
  exact Equal.vc_eq _ _ _ _ _ _ _ _ _ (On_well_scaled.mask3 _ _ _ _ _ _ _ _ _ _ _ _ _ h)

end Cert.Agree
-- ==== Proof.lean ====
/- The proof of the certificate: the six programs' frames, the idealization of the two calls, and the equality of each
   idealized call's results with its idealized reference's where the masks hold. The step call's run is the generated
   one, its four result arrays read element by element in Proof/Final.lean; the reference's run is the generated one,
   its results read in Proof/Ref.lean; the masks are read in Proof/Mask.lean; the equalities of extended reals are in
   Proof/Calc.lean and Proof/Equal.lean, gathered per result in Proof/Agree.lean. The statistics
   call's runs are put together in Proof/BitsBody.lean and Proof/StatsBody.lean, its row and column statistics read in
   Proof/StatsWhole.lean and compared in Proof/StatsEqual.lean. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Stats
public import proofs.«01_k».proof.Proof.Gen.Stats.Skeleton
public import proofs.«01_k».proof.Proof.Gen.Stats.Loops
public import proofs.«01_k».proof.Proof.Gen.Stats.Launch
public import proofs.«01_k».proof.Proof.Gen.Stats.Points
public import proofs.«01_k».proof.Proof.Gen.Stats.Frame
public import proofs.«01_k».proof.Proof.Gen.StatsIdeal
public import proofs.«01_k».proof.Proof.Gen.StatsIdeal.Skeleton
public import proofs.«01_k».proof.Proof.Gen.StatsIdeal.Loops
public import proofs.«01_k».proof.Proof.Gen.StatsIdeal.Launch
public import proofs.«01_k».proof.Proof.Gen.StatsIdeal.Points
public import proofs.«01_k».proof.Proof.Gen.StatsIdeal.Frame
public import proofs.«01_k».proof.Proof.Gen.StatsReferenceIdeal
public import proofs.«01_k».proof.Proof.Gen.StatsReferenceIdeal.Run
public import proofs.«01_k».proof.Proof.Gen.StatsReferenceIdeal.Read
public import proofs.«01_k».proof.Proof.BitsBody
public import proofs.«01_k».proof.Proof.StatsBody
public import proofs.«01_k».proof.Proof.StatsEqual
public import Idealize.ShloMosaic.Adequacy
public import Idealize.ShloMosaic.Init
public import proofs.«01_k».proof.Proof.Agree
public import Idealize.ShloMosaic.Lib.Bf16Pair

@[expose] public section

set_option maxRecDepth 16384

noncomputable section

namespace Cert.Proof

open Idealize.ShloMosaic Idealize.SL.Sem

/-- The reference ends with its arguments unchanged, and declares no semaphore. -/
theorem frame_reference : Cert.quiescent_ReferenceIdeal := fun m ρ _ =>
  (θ_run Cert.ReferenceIdeal.defs _ _).mono (fun r h => ⟨fun c => (h c).2.2.2.2,
    Idealize.ShloMosaic.sem_eq_zero_of_no_sems (by decide) r.2⟩) (Cert.ReferenceIdeal.Value.run (F := Ideal) m ρ)

/-- Each rewrite that makes the idealized kernel from the kernel is sound. -/
theorem preserves : Cert.preserves_Kernel_KernelIdeal :=
  ⟨IdealRules.named_const.statement Cert.KernelIdeal.κ "v_gain" .f32 0x3C83126F#32 _ rfl,
    IdealRules.named_const.statement Cert.KernelIdeal.κ "log_beta1" .f32 0xBDD7C745#32 _ rfl,
    IdealRules.named_const.statement Cert.KernelIdeal.κ "log_beta2" .f32 0xBA8322CA#32 _ rfl,
    IdealRules.named_const.statement Cert.KernelIdeal.κ "k2" .f32 0x3A83126F#32 _ rfl,
    IdealRules.named_const.statement Cert.KernelIdeal.κ "eps" .f32 0x322BCC77#32 _ rfl,
    IdealRules.named_const.statement Cert.KernelIdeal.κ "decay" .f32 0x37FBA882#32 _ rfl,
    IdealRules.bf16_pair.statement Cert.KernelIdeal.S64x128 Cert.KernelIdeal.S32x128,
    IdealRules.named_const.statement Cert.KernelIdeal.κ "inv70" .f32 0x3C6A0EA1#32 _ rfl,
    IdealRules.bf16_pair.packStatement Cert.KernelIdeal.S32x128⟩

/-- The idealized kernel and the idealized reference end with equal results where the masks hold: the values are the
    kernel's. -/
theorem algebraic : Cert.algebraic_KernelIdeal_ReferenceIdeal_on_well_scaled := by
  intro m g m' g' _ hagree
  refine ⟨fun c => Cert.KernelIdeal.Value.G10 m c, fun c => Cert.KernelIdeal.Value.G11 m c,
    fun c => Cert.KernelIdeal.Value.G12 m c, fun c => Cert.KernelIdeal.Value.G13 m c, ?_, ?_⟩
  · refine (θ_run Cert.KernelIdeal.defs _ _).mono (fun r h c => ?_) (Cert.KernelIdeal.Value.run (m := m) (ρ := g))
    obtain ⟨h0, h1, h2, h3, hargs⟩ := h c
    exact ⟨fun i _ => congrFun h0 i, fun i _ => congrFun h1 i, fun i _ => congrFun h2 i, fun i _ => congrFun h3 i, hargs⟩
  · refine (θ_run Cert.ReferenceIdeal.defs _ _).mono (fun r h c => ?_) (Cert.ReferenceIdeal.Value.run (F := Ideal) m' g')
    obtain ⟨h0, h1, h2, h3, hargs⟩ := h c
    obtain ⟨a0, a1, a2, a3, a4, a5, a6, a7, a8, a9⟩ := hagree c
    refine ⟨fun i hi => ?_, fun i hi => ?_, fun i _ => ?_, fun i hi => ?_, hargs⟩
    · rw [h0, Cert.ReferenceIdeal.Read.val_main_v74_eq, a0, a1, a2, a5, a6, a7, a8, a9]
      exact (Cert.Agree.out0 m c i hi).symm
    · rw [h1, Cert.ReferenceIdeal.Read.val_main_v110_eq, a6, a7, a8]
      exact (Cert.Agree.out1 m c i hi).symm
    · rw [h2, Cert.ReferenceIdeal.Read.val_main_v82_eq, a6, a7, a8]
      exact (Cert.Agree.out2 m c i).symm
    · rw [h3, Cert.ReferenceIdeal.Read.val_main_v118_eq, a1, a2, a3, a4, a6, a9]
      exact (Cert.Agree.out3 m c i hi).symm

/-- The statistics call ends with its arguments unchanged. -/
theorem frame_stats : Cert.quiescent_Stats := fun m ρ _ => Cert.Stats.Run.frame ρ (fun c => Cert.Stats.Run.nothing m c)

/-- The idealized statistics call ends with its arguments unchanged. -/
theorem frame_stats_ideal : Cert.quiescent_StatsIdeal := fun m ρ _ =>
  Cert.StatsIdeal.Run.frame ρ (fun c => Cert.StatsIdeal.Run.nothing m c)

/-- The reference of the statistics ends with its arguments unchanged, and declares no semaphore. -/
theorem frame_stats_reference : Cert.quiescent_StatsReferenceIdeal := fun m ρ _ =>
  (θ_run Cert.StatsReferenceIdeal.defs _ _).mono (fun r h => ⟨fun c => (h c).2.2,
    Idealize.ShloMosaic.sem_eq_zero_of_no_sems (by decide) r.2⟩) (Cert.StatsReferenceIdeal.Value.run (F := Ideal) m ρ)

/-- Each rewrite that makes the idealized statistics call from the call is sound. -/
theorem preserves_stats : Cert.preserves_Stats_StatsIdeal :=
  ⟨IdealRules.bf16_pair.statement Cert.StatsIdeal.S64x128 Cert.StatsIdeal.S32x128,
    IdealRules.named_const.statement Cert.StatsIdeal.κ "k2" .f32 0x3A83126F#32 _ rfl⟩

/-- The idealized statistics call and its idealized reference end with equal row and column statistics where the masks
    hold. -/
theorem algebraic_stats : Cert.algebraic_StatsIdeal_StatsReferenceIdeal_on_not_negative := by
  intro m g m' g' _ hagree
  refine ⟨fun c i => Cert.StatsIdeal.Value.wRow (Cert.StatsIdeal.Value.aVr m c) (Cert.StatsIdeal.Value.aVc m c)
    (Cert.StatsIdeal.Value.aG m c) (Cert.StatsIdeal.Value.aVq m c) (i 0) (i 1),
    fun c i => Cert.StatsIdeal.Value.wCol (Cert.StatsIdeal.Value.aVr m c) (Cert.StatsIdeal.Value.aVc m c)
    (Cert.StatsIdeal.Value.aG m c) (Cert.StatsIdeal.Value.aVq m c) (i 0) (i 1), ?_, ?_⟩
  · refine (θ_run Cert.StatsIdeal.defs _ _).mono (fun r h c => ?_) (Cert.StatsIdeal.Value.run (m := m) g)
    obtain ⟨h0, h1, hargs⟩ := h c
    refine ⟨fun i _ => ?_, fun i _ => ?_, hargs⟩
    · exact (congrArg _ (Cert.StatsEqual.idx_eq i)).trans (h0 (i 0) (i 1))
    · exact (congrArg _ (Cert.StatsEqual.idx_eq i)).trans (h1 (i 0) (i 1))
  · refine (θ_run Cert.StatsReferenceIdeal.defs _ _).mono (fun r h c => ?_) (Cert.StatsReferenceIdeal.Value.run (F := Ideal) m' g')
    obtain ⟨h0, h1, hargs⟩ := h c
    obtain ⟨a0, a1, a2, a3⟩ := hagree c
    refine ⟨fun i hi => ?_, fun i hi => ?_, hargs⟩
    · rw [h0, Cert.StatsReferenceIdeal.Read.val_main_v26_eq, a0, a1, a2, a3]
      exact Cert.StatsEqual.out _ _ _ _ i hi
    · rw [h1, Cert.StatsReferenceIdeal.Read.val_main_v27_eq, a0, a1, a2, a3]
      exact Cert.StatsEqual.out_col _ _ _ _ i hi

theorem claim : Cert.Claim :=
  ⟨Cert.Kernel.Gen.facts, Cert.KernelIdeal.Gen.facts, Cert.ReferenceIdeal.Gen.facts, Cert.Stats.Gen.facts,
    Cert.StatsIdeal.Gen.facts, Cert.StatsReferenceIdeal.Gen.facts, Cert.On_well_scaled.facts, Cert.On_not_negative.facts,
    fun m ρ _ => Cert.Kernel.Gen.frame m ρ, fun m ρ _ => Cert.KernelIdeal.Gen.frame m ρ, frame_reference, frame_stats,
    frame_stats_ideal, frame_stats_reference, preserves, algebraic, preserves_stats, algebraic_stats⟩

end Cert.Proof

end
